-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4))) = (fun _ => 1#1)

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2ReferenceIdeal (m : (ℓ : Loc Cert.DwFf2ReferenceIdeal.nD Cert.DwFf2ReferenceIdeal.τ Cert.DwFf2ReferenceIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1ReferenceIdeal (m : (ℓ : Loc Cert.DwFf1ReferenceIdeal.nD Cert.DwFf1ReferenceIdeal.τ Cert.DwFf1ReferenceIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutReferenceIdeal (m : (ℓ : Loc Cert.DwOutReferenceIdeal.nD Cert.DwOutReferenceIdeal.τ Cert.DwOutReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_proj_finite [hPre_proj_finite : Cert.Pre_proj_finite.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4))) = (fun _ => 1#1)

def Pre_ProjBwdReferenceIdeal (m : (ℓ : Loc Cert.ProjBwdReferenceIdeal.nD Cert.ProjBwdReferenceIdeal.τ Cert.ProjBwdReferenceIdeal.sig) → Buf (Elt Ideal) ℓ) : Prop :=
  True

def Pre_ProjBwdReferenceIdeal_proj_finite [hPre_proj_finite : Cert.Pre_proj_finite.Facts] (m : (ℓ : Loc Cert.ProjBwdReferenceIdeal.nD Cert.ProjBwdReferenceIdeal.τ Cert.ProjBwdReferenceIdeal.sig) → Buf (Elt Ideal) ℓ) : Prop :=
  ∀ c : Dev Cert.ProjBwdReferenceIdeal.nD,
    (Cert.Pre_proj_finite.fn (F := Ideal) (m ((c.tc : Thread Cert.ProjBwdReferenceIdeal.nD Cert.ProjBwdReferenceIdeal.τ).loc Cert.ProjBwdReferenceIdeal.main_arg0)) (m ((c.tc : Thread Cert.ProjBwdReferenceIdeal.nD Cert.ProjBwdReferenceIdeal.τ).loc Cert.ProjBwdReferenceIdeal.main_arg1)) (m ((c.tc : Thread Cert.ProjBwdReferenceIdeal.nD Cert.ProjBwdReferenceIdeal.τ).loc Cert.ProjBwdReferenceIdeal.main_arg2)) (m ((c.tc : Thread Cert.ProjBwdReferenceIdeal.nD Cert.ProjBwdReferenceIdeal.τ).loc Cert.ProjBwdReferenceIdeal.main_arg3)) (m ((c.tc : Thread Cert.ProjBwdReferenceIdeal.nD Cert.ProjBwdReferenceIdeal.τ).loc Cert.ProjBwdReferenceIdeal.main_arg4))) = (fun _ => 1#1)

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_out_finite [hPre_out_finite : Cert.Pre_out_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4)) (m ((c.tc : Thread Cert.OutBwdIdeal.nD Cert.OutBwdIdeal.τ).loc Cert.OutBwdIdeal.main_arg5))) = (fun _ => 1#1)

def Pre_OutBwdReferenceIdeal (m : (ℓ : Loc Cert.OutBwdReferenceIdeal.nD Cert.OutBwdReferenceIdeal.τ Cert.OutBwdReferenceIdeal.sig) → Buf (Elt Ideal) ℓ) : Prop :=
  True

def Pre_OutBwdReferenceIdeal_out_finite [hPre_out_finite : Cert.Pre_out_finite.Facts] (m : (ℓ : Loc Cert.OutBwdReferenceIdeal.nD Cert.OutBwdReferenceIdeal.τ Cert.OutBwdReferenceIdeal.sig) → Buf (Elt Ideal) ℓ) : Prop :=
  ∀ c : Dev Cert.OutBwdReferenceIdeal.nD,
    (Cert.Pre_out_finite.fn (F := Ideal) (m ((c.tc : Thread Cert.OutBwdReferenceIdeal.nD Cert.OutBwdReferenceIdeal.τ).loc Cert.OutBwdReferenceIdeal.main_arg0)) (m ((c.tc : Thread Cert.OutBwdReferenceIdeal.nD Cert.OutBwdReferenceIdeal.τ).loc Cert.OutBwdReferenceIdeal.main_arg1)) (m ((c.tc : Thread Cert.OutBwdReferenceIdeal.nD Cert.OutBwdReferenceIdeal.τ).loc Cert.OutBwdReferenceIdeal.main_arg2)) (m ((c.tc : Thread Cert.OutBwdReferenceIdeal.nD Cert.OutBwdReferenceIdeal.τ).loc Cert.OutBwdReferenceIdeal.main_arg3)) (m ((c.tc : Thread Cert.OutBwdReferenceIdeal.nD Cert.OutBwdReferenceIdeal.τ).loc Cert.OutBwdReferenceIdeal.main_arg4)) (m ((c.tc : Thread Cert.OutBwdReferenceIdeal.nD Cert.OutBwdReferenceIdeal.τ).loc Cert.OutBwdReferenceIdeal.main_arg5))) = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_fwd_finite [hPre_fwd_finite : Cert.Pre_fwd_finite.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_fwd_finite.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5))) = (fun _ => 1#1)

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_FfnFwdReferenceIdeal_fwd_finite [hPre_fwd_finite : Cert.Pre_fwd_finite.Facts] (m : (ℓ : Loc Cert.FfnFwdReferenceIdeal.nD Cert.FfnFwdReferenceIdeal.τ Cert.FfnFwdReferenceIdeal.sig) → Buf (Elt Ideal) ℓ) : Prop :=
  ∀ c : Dev Cert.FfnFwdReferenceIdeal.nD,
    (Cert.Pre_fwd_finite.fn (F := Ideal) (m ((c.tc : Thread Cert.FfnFwdReferenceIdeal.nD Cert.FfnFwdReferenceIdeal.τ).loc Cert.FfnFwdReferenceIdeal.main_arg0)) (m ((c.tc : Thread Cert.FfnFwdReferenceIdeal.nD Cert.FfnFwdReferenceIdeal.τ).loc Cert.FfnFwdReferenceIdeal.main_arg1)) (m ((c.tc : Thread Cert.FfnFwdReferenceIdeal.nD Cert.FfnFwdReferenceIdeal.τ).loc Cert.FfnFwdReferenceIdeal.main_arg2)) (m ((c.tc : Thread Cert.FfnFwdReferenceIdeal.nD Cert.FfnFwdReferenceIdeal.τ).loc Cert.FfnFwdReferenceIdeal.main_arg3)) (m ((c.tc : Thread Cert.FfnFwdReferenceIdeal.nD Cert.FfnFwdReferenceIdeal.τ).loc Cert.FfnFwdReferenceIdeal.main_arg4)) (m ((c.tc : Thread Cert.FfnFwdReferenceIdeal.nD Cert.FfnFwdReferenceIdeal.τ).loc Cert.FfnFwdReferenceIdeal.main_arg5))) = (fun _ => 1#1)

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdReferenceIdeal (m : (ℓ : Loc Cert.ProjFwdReferenceIdeal.nD Cert.ProjFwdReferenceIdeal.τ Cert.ProjFwdReferenceIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdReferenceIdeal (m : (ℓ : Loc Cert.OutFwdReferenceIdeal.nD Cert.OutFwdReferenceIdeal.τ Cert.OutFwdReferenceIdeal.sig) → Buf (Elt Ideal) ℓ) : Prop :=
  True

def Pre_AdIn (m : (ℓ : Loc Cert.AdIn.nD Cert.AdIn.τ Cert.AdIn.sig) → Buf (Elt Bits) ℓ) : Prop :=
  True

def Pre_AdInIdeal (m : (ℓ : Loc Cert.AdInIdeal.nD Cert.AdInIdeal.τ Cert.AdInIdeal.sig) → Buf (Elt Ideal) ℓ) : Prop :=
  True

def Pre_AdInReferenceIdeal (m : (ℓ : Loc Cert.AdInReferenceIdeal.nD Cert.AdInReferenceIdeal.τ Cert.AdInReferenceIdeal.sig) → Buf (Elt Ideal) ℓ) : Prop :=
  True

def Pre_AdOut (m : (ℓ : Loc Cert.AdOut.nD Cert.AdOut.τ Cert.AdOut.sig) → Buf (Elt Bits) ℓ) : Prop :=
  True

def Pre_AdOutIdeal (m : (ℓ : Loc Cert.AdOutIdeal.nD Cert.AdOutIdeal.τ Cert.AdOutIdeal.sig) → Buf (Elt Ideal) ℓ) : Prop :=
  True

def Pre_AdOutReferenceIdeal (m : (ℓ : Loc Cert.AdOutReferenceIdeal.nD Cert.AdOutReferenceIdeal.τ Cert.AdOutReferenceIdeal.sig) → Buf (Elt Ideal) ℓ) : Prop :=
  True

def Pre_AdFf1 (m : (ℓ : Loc Cert.AdFf1.nD Cert.AdFf1.τ Cert.AdFf1.sig) → Buf (Elt Bits) ℓ) : Prop :=
  True

def Pre_AdFf1Ideal (m : (ℓ : Loc Cert.AdFf1Ideal.nD Cert.AdFf1Ideal.τ Cert.AdFf1Ideal.sig) → Buf (Elt Ideal) ℓ) : Prop :=
  True

def Pre_AdFf1ReferenceIdeal (m : (ℓ : Loc Cert.AdFf1ReferenceIdeal.nD Cert.AdFf1ReferenceIdeal.τ Cert.AdFf1ReferenceIdeal.sig) → Buf (Elt Ideal) ℓ) : Prop :=
  True

def Pre_AdFf2 (m : (ℓ : Loc Cert.AdFf2.nD Cert.AdFf2.τ Cert.AdFf2.sig) → Buf (Elt Bits) ℓ) : Prop :=
  True

def Pre_AdFf2Ideal (m : (ℓ : Loc Cert.AdFf2Ideal.nD Cert.AdFf2Ideal.τ Cert.AdFf2Ideal.sig) → Buf (Elt Ideal) ℓ) : Prop :=
  True

def Pre_AdFf2ReferenceIdeal (m : (ℓ : Loc Cert.AdFf2ReferenceIdeal.nD Cert.AdFf2ReferenceIdeal.τ Cert.AdFf2ReferenceIdeal.sig) → Buf (Elt Ideal) ℓ) : Prop :=
  True

def Pre_AdSgu (m : (ℓ : Loc Cert.AdSgu.nD Cert.AdSgu.τ Cert.AdSgu.sig) → Buf (Elt Bits) ℓ) : Prop :=
  True

def Pre_AdSguIdeal (m : (ℓ : Loc Cert.AdSguIdeal.nD Cert.AdSguIdeal.τ Cert.AdSguIdeal.sig) → Buf (Elt Ideal) ℓ) : Prop :=
  True

def Pre_AdSguReferenceIdeal (m : (ℓ : Loc Cert.AdSguReferenceIdeal.nD Cert.AdSguReferenceIdeal.τ Cert.AdSguReferenceIdeal.sig) → Buf (Elt Ideal) ℓ) : Prop :=
  True

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdReferenceIdeal (m : (ℓ : Loc Cert.GateFwdReferenceIdeal.nD Cert.GateFwdReferenceIdeal.τ Cert.GateFwdReferenceIdeal.sig) → Buf (Elt Ideal) ℓ) : Prop :=
  True

def Pre_AdTiny (m : (ℓ : Loc Cert.AdTiny.nD Cert.AdTiny.τ Cert.AdTiny.sig) → Buf (Elt Bits) ℓ) : Prop :=
  True

def Pre_AdTinyIdeal (m : (ℓ : Loc Cert.AdTinyIdeal.nD Cert.AdTinyIdeal.τ Cert.AdTinyIdeal.sig) → Buf (Elt Ideal) ℓ) : Prop :=
  True

def Pre_AdTinyReferenceIdeal (m : (ℓ : Loc Cert.AdTinyReferenceIdeal.nD Cert.AdTinyReferenceIdeal.τ Cert.AdTinyReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1)
      ∧ r.2.mem ((c.tc : Thread Cert.DwFf2.nD Cert.DwFf2.τ).loc Cert.DwFf2.main_arg2) = m ((c.tc : Thread Cert.DwFf2.nD Cert.DwFf2.τ).loc Cert.DwFf2.main_arg2))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
      ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ r.2.sem = fun _ => 0)

def quiescent_DwFf2ReferenceIdeal [hDwFf2ReferenceIdeal : Cert.DwFf2ReferenceIdeal.Facts] : Prop :=
  ∀ (m : (ℓ : Loc Cert.DwFf2ReferenceIdeal.nD Cert.DwFf2ReferenceIdeal.τ Cert.DwFf2ReferenceIdeal.sig) → Buf (Elt Ideal) ℓ) (g : Dev Cert.DwFf2ReferenceIdeal.nD → PrngReg), Pre_DwFf2ReferenceIdeal m →
    θ_run (Cert.DwFf2ReferenceIdeal.defs (F := Ideal)) (onTc (τ := Cert.DwFf2ReferenceIdeal.τ) (Cert.DwFf2ReferenceIdeal.main (F := Ideal))) ⟨m, fun _ => 0, g⟩ (fun r => (∀ c : Dev Cert.DwFf2ReferenceIdeal.nD,
      r.2.mem ((c.tc : Thread Cert.DwFf2ReferenceIdeal.nD Cert.DwFf2ReferenceIdeal.τ).loc Cert.DwFf2ReferenceIdeal.main_arg0) = m ((c.tc : Thread Cert.DwFf2ReferenceIdeal.nD Cert.DwFf2ReferenceIdeal.τ).loc Cert.DwFf2ReferenceIdeal.main_arg0)
      ∧ r.2.mem ((c.tc : Thread Cert.DwFf2ReferenceIdeal.nD Cert.DwFf2ReferenceIdeal.τ).loc Cert.DwFf2ReferenceIdeal.main_arg1) = m ((c.tc : Thread Cert.DwFf2ReferenceIdeal.nD Cert.DwFf2ReferenceIdeal.τ).loc Cert.DwFf2ReferenceIdeal.main_arg1)
      ∧ r.2.mem ((c.tc : Thread Cert.DwFf2ReferenceIdeal.nD Cert.DwFf2ReferenceIdeal.τ).loc Cert.DwFf2ReferenceIdeal.main_arg2) = m ((c.tc : Thread Cert.DwFf2ReferenceIdeal.nD Cert.DwFf2ReferenceIdeal.τ).loc Cert.DwFf2ReferenceIdeal.main_arg2))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1)
      ∧ r.2.mem ((c.tc : Thread Cert.DwFf1.nD Cert.DwFf1.τ).loc Cert.DwFf1.main_arg2) = m ((c.tc : Thread Cert.DwFf1.nD Cert.DwFf1.τ).loc Cert.DwFf1.main_arg2)
      ∧ r.2.mem ((c.tc : Thread Cert.DwFf1.nD Cert.DwFf1.τ).loc Cert.DwFf1.main_arg3) = m ((c.tc : Thread Cert.DwFf1.nD Cert.DwFf1.τ).loc Cert.DwFf1.main_arg3))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
      ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2)
      ∧ r.2.mem ((c.tc : Thread Cert.DwFf1Ideal.nD Cert.DwFf1Ideal.τ).loc Cert.DwFf1Ideal.main_arg3) = m ((c.tc : Thread Cert.DwFf1Ideal.nD Cert.DwFf1Ideal.τ).loc Cert.DwFf1Ideal.main_arg3))
      ∧ r.2.sem = fun _ => 0)

def quiescent_DwFf1ReferenceIdeal [hDwFf1ReferenceIdeal : Cert.DwFf1ReferenceIdeal.Facts] : Prop :=
  ∀ (m : (ℓ : Loc Cert.DwFf1ReferenceIdeal.nD Cert.DwFf1ReferenceIdeal.τ Cert.DwFf1ReferenceIdeal.sig) → Buf (Elt Ideal) ℓ) (g : Dev Cert.DwFf1ReferenceIdeal.nD → PrngReg), Pre_DwFf1ReferenceIdeal m →
    θ_run (Cert.DwFf1ReferenceIdeal.defs (F := Ideal)) (onTc (τ := Cert.DwFf1ReferenceIdeal.τ) (Cert.DwFf1ReferenceIdeal.main (F := Ideal))) ⟨m, fun _ => 0, g⟩ (fun r => (∀ c : Dev Cert.DwFf1ReferenceIdeal.nD,
      r.2.mem ((c.tc : Thread Cert.DwFf1ReferenceIdeal.nD Cert.DwFf1ReferenceIdeal.τ).loc Cert.DwFf1ReferenceIdeal.main_arg0) = m ((c.tc : Thread Cert.DwFf1ReferenceIdeal.nD Cert.DwFf1ReferenceIdeal.τ).loc Cert.DwFf1ReferenceIdeal.main_arg0)
      ∧ r.2.mem ((c.tc : Thread Cert.DwFf1ReferenceIdeal.nD Cert.DwFf1ReferenceIdeal.τ).loc Cert.DwFf1ReferenceIdeal.main_arg1) = m ((c.tc : Thread Cert.DwFf1ReferenceIdeal.nD Cert.DwFf1ReferenceIdeal.τ).loc Cert.DwFf1ReferenceIdeal.main_arg1)
      ∧ r.2.mem ((c.tc : Thread Cert.DwFf1ReferenceIdeal.nD Cert.DwFf1ReferenceIdeal.τ).loc Cert.DwFf1ReferenceIdeal.main_arg2) = m ((c.tc : Thread Cert.DwFf1ReferenceIdeal.nD Cert.DwFf1ReferenceIdeal.τ).loc Cert.DwFf1ReferenceIdeal.main_arg2)
      ∧ r.2.mem ((c.tc : Thread Cert.DwFf1ReferenceIdeal.nD Cert.DwFf1ReferenceIdeal.τ).loc Cert.DwFf1ReferenceIdeal.main_arg3) = m ((c.tc : Thread Cert.DwFf1ReferenceIdeal.nD Cert.DwFf1ReferenceIdeal.τ).loc Cert.DwFf1ReferenceIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutReferenceIdeal [hDwOutReferenceIdeal : Cert.DwOutReferenceIdeal.Facts] : Prop :=
  ∀ (m : (ℓ : Loc Cert.DwOutReferenceIdeal.nD Cert.DwOutReferenceIdeal.τ Cert.DwOutReferenceIdeal.sig) → Buf (Elt Ideal) ℓ) (g : Dev Cert.DwOutReferenceIdeal.nD → PrngReg), Pre_DwOutReferenceIdeal m →
    θ_run (Cert.DwOutReferenceIdeal.defs (F := Ideal)) (onTc (τ := Cert.DwOutReferenceIdeal.τ) (Cert.DwOutReferenceIdeal.main (F := Ideal))) ⟨m, fun _ => 0, g⟩ (fun r => (∀ c : Dev Cert.DwOutReferenceIdeal.nD,
      r.2.mem ((c.tc : Thread Cert.DwOutReferenceIdeal.nD Cert.DwOutReferenceIdeal.τ).loc Cert.DwOutReferenceIdeal.main_arg0) = m ((c.tc : Thread Cert.DwOutReferenceIdeal.nD Cert.DwOutReferenceIdeal.τ).loc Cert.DwOutReferenceIdeal.main_arg0)
      ∧ r.2.mem ((c.tc : Thread Cert.DwOutReferenceIdeal.nD Cert.DwOutReferenceIdeal.τ).loc Cert.DwOutReferenceIdeal.main_arg1) = m ((c.tc : Thread Cert.DwOutReferenceIdeal.nD Cert.DwOutReferenceIdeal.τ).loc Cert.DwOutReferenceIdeal.main_arg1)
      ∧ r.2.mem ((c.tc : Thread Cert.DwOutReferenceIdeal.nD Cert.DwOutReferenceIdeal.τ).loc Cert.DwOutReferenceIdeal.main_arg2) = m ((c.tc : Thread Cert.DwOutReferenceIdeal.nD Cert.DwOutReferenceIdeal.τ).loc Cert.DwOutReferenceIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2)
      ∧ r.2.mem ((c.tc : Thread Cert.DwInReferenceIdeal.nD Cert.DwInReferenceIdeal.τ).loc Cert.DwInReferenceIdeal.main_arg3) = m ((c.tc : Thread Cert.DwInReferenceIdeal.nD Cert.DwInReferenceIdeal.τ).loc Cert.DwInReferenceIdeal.main_arg3))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdIdeal_pre_proj_finite [hProjBwdIdeal : Cert.ProjBwdIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_proj_finite m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ r.2.sem = fun _ => 0)

def quiescent_ProjBwdReferenceIdeal [hProjBwdReferenceIdeal : Cert.ProjBwdReferenceIdeal.Facts] : Prop :=
  ∀ (m : (ℓ : Loc Cert.ProjBwdReferenceIdeal.nD Cert.ProjBwdReferenceIdeal.τ Cert.ProjBwdReferenceIdeal.sig) → Buf (Elt Ideal) ℓ) (g : Dev Cert.ProjBwdReferenceIdeal.nD → PrngReg), Pre_ProjBwdReferenceIdeal m →
    θ_run (Cert.ProjBwdReferenceIdeal.defs (F := Ideal)) (onTc (τ := Cert.ProjBwdReferenceIdeal.τ) (Cert.ProjBwdReferenceIdeal.main (F := Ideal))) ⟨m, fun _ => 0, g⟩ (fun r => (∀ c : Dev Cert.ProjBwdReferenceIdeal.nD,
      r.2.mem ((c.tc : Thread Cert.ProjBwdReferenceIdeal.nD Cert.ProjBwdReferenceIdeal.τ).loc Cert.ProjBwdReferenceIdeal.main_arg0) = m ((c.tc : Thread Cert.ProjBwdReferenceIdeal.nD Cert.ProjBwdReferenceIdeal.τ).loc Cert.ProjBwdReferenceIdeal.main_arg0)
      ∧ r.2.mem ((c.tc : Thread Cert.ProjBwdReferenceIdeal.nD Cert.ProjBwdReferenceIdeal.τ).loc Cert.ProjBwdReferenceIdeal.main_arg1) = m ((c.tc : Thread Cert.ProjBwdReferenceIdeal.nD Cert.ProjBwdReferenceIdeal.τ).loc Cert.ProjBwdReferenceIdeal.main_arg1)
      ∧ r.2.mem ((c.tc : Thread Cert.ProjBwdReferenceIdeal.nD Cert.ProjBwdReferenceIdeal.τ).loc Cert.ProjBwdReferenceIdeal.main_arg2) = m ((c.tc : Thread Cert.ProjBwdReferenceIdeal.nD Cert.ProjBwdReferenceIdeal.τ).loc Cert.ProjBwdReferenceIdeal.main_arg2)
      ∧ r.2.mem ((c.tc : Thread Cert.ProjBwdReferenceIdeal.nD Cert.ProjBwdReferenceIdeal.τ).loc Cert.ProjBwdReferenceIdeal.main_arg3) = m ((c.tc : Thread Cert.ProjBwdReferenceIdeal.nD Cert.ProjBwdReferenceIdeal.τ).loc Cert.ProjBwdReferenceIdeal.main_arg3)
      ∧ r.2.mem ((c.tc : Thread Cert.ProjBwdReferenceIdeal.nD Cert.ProjBwdReferenceIdeal.τ).loc Cert.ProjBwdReferenceIdeal.main_arg4) = m ((c.tc : Thread Cert.ProjBwdReferenceIdeal.nD Cert.ProjBwdReferenceIdeal.τ).loc Cert.ProjBwdReferenceIdeal.main_arg4))
      ∧ r.2.sem = fun _ => 0)

def quiescent_ProjBwdReferenceIdeal_pre_proj_finite [hProjBwdReferenceIdeal : Cert.ProjBwdReferenceIdeal.Facts] [hPre_proj_finite : Cert.Pre_proj_finite.Facts] : Prop :=
  ∀ (m : (ℓ : Loc Cert.ProjBwdReferenceIdeal.nD Cert.ProjBwdReferenceIdeal.τ Cert.ProjBwdReferenceIdeal.sig) → Buf (Elt Ideal) ℓ) (g : Dev Cert.ProjBwdReferenceIdeal.nD → PrngReg), Pre_ProjBwdReferenceIdeal_proj_finite m →
    θ_run (Cert.ProjBwdReferenceIdeal.defs (F := Ideal)) (onTc (τ := Cert.ProjBwdReferenceIdeal.τ) (Cert.ProjBwdReferenceIdeal.main (F := Ideal))) ⟨m, fun _ => 0, g⟩ (fun r => (∀ c : Dev Cert.ProjBwdReferenceIdeal.nD,
      r.2.mem ((c.tc : Thread Cert.ProjBwdReferenceIdeal.nD Cert.ProjBwdReferenceIdeal.τ).loc Cert.ProjBwdReferenceIdeal.main_arg0) = m ((c.tc : Thread Cert.ProjBwdReferenceIdeal.nD Cert.ProjBwdReferenceIdeal.τ).loc Cert.ProjBwdReferenceIdeal.main_arg0)
      ∧ r.2.mem ((c.tc : Thread Cert.ProjBwdReferenceIdeal.nD Cert.ProjBwdReferenceIdeal.τ).loc Cert.ProjBwdReferenceIdeal.main_arg1) = m ((c.tc : Thread Cert.ProjBwdReferenceIdeal.nD Cert.ProjBwdReferenceIdeal.τ).loc Cert.ProjBwdReferenceIdeal.main_arg1)
      ∧ r.2.mem ((c.tc : Thread Cert.ProjBwdReferenceIdeal.nD Cert.ProjBwdReferenceIdeal.τ).loc Cert.ProjBwdReferenceIdeal.main_arg2) = m ((c.tc : Thread Cert.ProjBwdReferenceIdeal.nD Cert.ProjBwdReferenceIdeal.τ).loc Cert.ProjBwdReferenceIdeal.main_arg2)
      ∧ r.2.mem ((c.tc : Thread Cert.ProjBwdReferenceIdeal.nD Cert.ProjBwdReferenceIdeal.τ).loc Cert.ProjBwdReferenceIdeal.main_arg3) = m ((c.tc : Thread Cert.ProjBwdReferenceIdeal.nD Cert.ProjBwdReferenceIdeal.τ).loc Cert.ProjBwdReferenceIdeal.main_arg3)
      ∧ r.2.mem ((c.tc : Thread Cert.ProjBwdReferenceIdeal.nD Cert.ProjBwdReferenceIdeal.τ).loc Cert.ProjBwdReferenceIdeal.main_arg4) = m ((c.tc : Thread Cert.ProjBwdReferenceIdeal.nD Cert.ProjBwdReferenceIdeal.τ).loc Cert.ProjBwdReferenceIdeal.main_arg4))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdIdeal_pre_out_finite [hOutBwdIdeal : Cert.OutBwdIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_out_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdReferenceIdeal [hOutBwdReferenceIdeal : Cert.OutBwdReferenceIdeal.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4)
      ∧ r.2.mem ((c.tc : Thread Cert.OutBwdReferenceIdeal.nD Cert.OutBwdReferenceIdeal.τ).loc Cert.OutBwdReferenceIdeal.main_arg5) = m ((c.tc : Thread Cert.OutBwdReferenceIdeal.nD Cert.OutBwdReferenceIdeal.τ).loc Cert.OutBwdReferenceIdeal.main_arg5))
      ∧ r.2.sem = fun _ => 0)

def quiescent_OutBwdReferenceIdeal_pre_out_finite [hOutBwdReferenceIdeal : Cert.OutBwdReferenceIdeal.Facts] [hPre_out_finite : Cert.Pre_out_finite.Facts] : Prop :=
  ∀ (m : (ℓ : Loc Cert.OutBwdReferenceIdeal.nD Cert.OutBwdReferenceIdeal.τ Cert.OutBwdReferenceIdeal.sig) → Buf (Elt Ideal) ℓ) (g : Dev Cert.OutBwdReferenceIdeal.nD → PrngReg), Pre_OutBwdReferenceIdeal_out_finite m →
    θ_run (Cert.OutBwdReferenceIdeal.defs (F := Ideal)) (onTc (τ := Cert.OutBwdReferenceIdeal.τ) (Cert.OutBwdReferenceIdeal.main (F := Ideal))) ⟨m, fun _ => 0, g⟩ (fun r => (∀ c : Dev Cert.OutBwdReferenceIdeal.nD,
      r.2.mem ((c.tc : Thread Cert.OutBwdReferenceIdeal.nD Cert.OutBwdReferenceIdeal.τ).loc Cert.OutBwdReferenceIdeal.main_arg0) = m ((c.tc : Thread Cert.OutBwdReferenceIdeal.nD Cert.OutBwdReferenceIdeal.τ).loc Cert.OutBwdReferenceIdeal.main_arg0)
      ∧ r.2.mem ((c.tc : Thread Cert.OutBwdReferenceIdeal.nD Cert.OutBwdReferenceIdeal.τ).loc Cert.OutBwdReferenceIdeal.main_arg1) = m ((c.tc : Thread Cert.OutBwdReferenceIdeal.nD Cert.OutBwdReferenceIdeal.τ).loc Cert.OutBwdReferenceIdeal.main_arg1)
      ∧ r.2.mem ((c.tc : Thread Cert.OutBwdReferenceIdeal.nD Cert.OutBwdReferenceIdeal.τ).loc Cert.OutBwdReferenceIdeal.main_arg2) = m ((c.tc : Thread Cert.OutBwdReferenceIdeal.nD Cert.OutBwdReferenceIdeal.τ).loc Cert.OutBwdReferenceIdeal.main_arg2)
      ∧ r.2.mem ((c.tc : Thread Cert.OutBwdReferenceIdeal.nD Cert.OutBwdReferenceIdeal.τ).loc Cert.OutBwdReferenceIdeal.main_arg3) = m ((c.tc : Thread Cert.OutBwdReferenceIdeal.nD Cert.OutBwdReferenceIdeal.τ).loc Cert.OutBwdReferenceIdeal.main_arg3)
      ∧ r.2.mem ((c.tc : Thread Cert.OutBwdReferenceIdeal.nD Cert.OutBwdReferenceIdeal.τ).loc Cert.OutBwdReferenceIdeal.main_arg4) = m ((c.tc : Thread Cert.OutBwdReferenceIdeal.nD Cert.OutBwdReferenceIdeal.τ).loc Cert.OutBwdReferenceIdeal.main_arg4)
      ∧ r.2.mem ((c.tc : Thread Cert.OutBwdReferenceIdeal.nD Cert.OutBwdReferenceIdeal.τ).loc Cert.OutBwdReferenceIdeal.main_arg5) = m ((c.tc : Thread Cert.OutBwdReferenceIdeal.nD Cert.OutBwdReferenceIdeal.τ).loc Cert.OutBwdReferenceIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdIdeal_pre_fwd_finite [hFfnFwdIdeal : Cert.FfnFwdIdeal.Facts] [hPre_fwd_finite : Cert.Pre_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_fwd_finite m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5))
      ∧ r.2.sem = fun _ => 0)

def quiescent_FfnFwdReferenceIdeal_pre_fwd_finite [hFfnFwdReferenceIdeal : Cert.FfnFwdReferenceIdeal.Facts] [hPre_fwd_finite : Cert.Pre_fwd_finite.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal_fwd_finite m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3)
      ∧ r.2.mem ((c.tc : Thread Cert.FfnFwdReferenceIdeal.nD Cert.FfnFwdReferenceIdeal.τ).loc Cert.FfnFwdReferenceIdeal.main_arg4) = m ((c.tc : Thread Cert.FfnFwdReferenceIdeal.nD Cert.FfnFwdReferenceIdeal.τ).loc Cert.FfnFwdReferenceIdeal.main_arg4)
      ∧ r.2.mem ((c.tc : Thread Cert.FfnFwdReferenceIdeal.nD Cert.FfnFwdReferenceIdeal.τ).loc Cert.FfnFwdReferenceIdeal.main_arg5) = m ((c.tc : Thread Cert.FfnFwdReferenceIdeal.nD Cert.FfnFwdReferenceIdeal.τ).loc Cert.FfnFwdReferenceIdeal.main_arg5))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ r.2.sem = fun _ => 0)

def quiescent_ProjFwdReferenceIdeal [hProjFwdReferenceIdeal : Cert.ProjFwdReferenceIdeal.Facts] : Prop :=
  ∀ (m : (ℓ : Loc Cert.ProjFwdReferenceIdeal.nD Cert.ProjFwdReferenceIdeal.τ Cert.ProjFwdReferenceIdeal.sig) → Buf (Elt Ideal) ℓ) (g : Dev Cert.ProjFwdReferenceIdeal.nD → PrngReg), Pre_ProjFwdReferenceIdeal m →
    θ_run (Cert.ProjFwdReferenceIdeal.defs (F := Ideal)) (onTc (τ := Cert.ProjFwdReferenceIdeal.τ) (Cert.ProjFwdReferenceIdeal.main (F := Ideal))) ⟨m, fun _ => 0, g⟩ (fun r => (∀ c : Dev Cert.ProjFwdReferenceIdeal.nD,
      r.2.mem ((c.tc : Thread Cert.ProjFwdReferenceIdeal.nD Cert.ProjFwdReferenceIdeal.τ).loc Cert.ProjFwdReferenceIdeal.main_arg0) = m ((c.tc : Thread Cert.ProjFwdReferenceIdeal.nD Cert.ProjFwdReferenceIdeal.τ).loc Cert.ProjFwdReferenceIdeal.main_arg0)
      ∧ r.2.mem ((c.tc : Thread Cert.ProjFwdReferenceIdeal.nD Cert.ProjFwdReferenceIdeal.τ).loc Cert.ProjFwdReferenceIdeal.main_arg1) = m ((c.tc : Thread Cert.ProjFwdReferenceIdeal.nD Cert.ProjFwdReferenceIdeal.τ).loc Cert.ProjFwdReferenceIdeal.main_arg1)
      ∧ r.2.mem ((c.tc : Thread Cert.ProjFwdReferenceIdeal.nD Cert.ProjFwdReferenceIdeal.τ).loc Cert.ProjFwdReferenceIdeal.main_arg2) = m ((c.tc : Thread Cert.ProjFwdReferenceIdeal.nD Cert.ProjFwdReferenceIdeal.τ).loc Cert.ProjFwdReferenceIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5)
      ∧ r.2.mem ((c.tc : Thread Cert.OutFwd.nD Cert.OutFwd.τ).loc Cert.OutFwd.main_arg6) = m ((c.tc : Thread Cert.OutFwd.nD Cert.OutFwd.τ).loc Cert.OutFwd.main_arg6))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
      ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ r.2.sem = fun _ => 0)

def quiescent_OutFwdReferenceIdeal [hOutFwdReferenceIdeal : Cert.OutFwdReferenceIdeal.Facts] : Prop :=
  ∀ (m : (ℓ : Loc Cert.OutFwdReferenceIdeal.nD Cert.OutFwdReferenceIdeal.τ Cert.OutFwdReferenceIdeal.sig) → Buf (Elt Ideal) ℓ) (g : Dev Cert.OutFwdReferenceIdeal.nD → PrngReg), Pre_OutFwdReferenceIdeal m →
    θ_run (Cert.OutFwdReferenceIdeal.defs (F := Ideal)) (onTc (τ := Cert.OutFwdReferenceIdeal.τ) (Cert.OutFwdReferenceIdeal.main (F := Ideal))) ⟨m, fun _ => 0, g⟩ (fun r => (∀ c : Dev Cert.OutFwdReferenceIdeal.nD,
      r.2.mem ((c.tc : Thread Cert.OutFwdReferenceIdeal.nD Cert.OutFwdReferenceIdeal.τ).loc Cert.OutFwdReferenceIdeal.main_arg0) = m ((c.tc : Thread Cert.OutFwdReferenceIdeal.nD Cert.OutFwdReferenceIdeal.τ).loc Cert.OutFwdReferenceIdeal.main_arg0)
      ∧ r.2.mem ((c.tc : Thread Cert.OutFwdReferenceIdeal.nD Cert.OutFwdReferenceIdeal.τ).loc Cert.OutFwdReferenceIdeal.main_arg1) = m ((c.tc : Thread Cert.OutFwdReferenceIdeal.nD Cert.OutFwdReferenceIdeal.τ).loc Cert.OutFwdReferenceIdeal.main_arg1)
      ∧ r.2.mem ((c.tc : Thread Cert.OutFwdReferenceIdeal.nD Cert.OutFwdReferenceIdeal.τ).loc Cert.OutFwdReferenceIdeal.main_arg2) = m ((c.tc : Thread Cert.OutFwdReferenceIdeal.nD Cert.OutFwdReferenceIdeal.τ).loc Cert.OutFwdReferenceIdeal.main_arg2)
      ∧ r.2.mem ((c.tc : Thread Cert.OutFwdReferenceIdeal.nD Cert.OutFwdReferenceIdeal.τ).loc Cert.OutFwdReferenceIdeal.main_arg3) = m ((c.tc : Thread Cert.OutFwdReferenceIdeal.nD Cert.OutFwdReferenceIdeal.τ).loc Cert.OutFwdReferenceIdeal.main_arg3)
      ∧ r.2.mem ((c.tc : Thread Cert.OutFwdReferenceIdeal.nD Cert.OutFwdReferenceIdeal.τ).loc Cert.OutFwdReferenceIdeal.main_arg4) = m ((c.tc : Thread Cert.OutFwdReferenceIdeal.nD Cert.OutFwdReferenceIdeal.τ).loc Cert.OutFwdReferenceIdeal.main_arg4)
      ∧ r.2.mem ((c.tc : Thread Cert.OutFwdReferenceIdeal.nD Cert.OutFwdReferenceIdeal.τ).loc Cert.OutFwdReferenceIdeal.main_arg5) = m ((c.tc : Thread Cert.OutFwdReferenceIdeal.nD Cert.OutFwdReferenceIdeal.τ).loc Cert.OutFwdReferenceIdeal.main_arg5)
      ∧ r.2.mem ((c.tc : Thread Cert.OutFwdReferenceIdeal.nD Cert.OutFwdReferenceIdeal.τ).loc Cert.OutFwdReferenceIdeal.main_arg6) = m ((c.tc : Thread Cert.OutFwdReferenceIdeal.nD Cert.OutFwdReferenceIdeal.τ).loc Cert.OutFwdReferenceIdeal.main_arg6))
      ∧ r.2.sem = fun _ => 0)

def quiescent_AdIn [hAdIn : Cert.AdIn.Facts] : Prop :=
  ∀ (m : (ℓ : Loc Cert.AdIn.nD Cert.AdIn.τ Cert.AdIn.sig) → Buf (Elt Bits) ℓ) (g : Dev Cert.AdIn.nD → PrngReg), Pre_AdIn m →
    θ_run (Cert.AdIn.defs (F := Bits)) (onTc (τ := Cert.AdIn.τ) (Cert.AdIn.main (F := Bits))) ⟨m, fun _ => 0, g⟩ (fun r => (∀ c : Dev Cert.AdIn.nD,
      r.2.mem ((c.tc : Thread Cert.AdIn.nD Cert.AdIn.τ).loc Cert.AdIn.main_arg0) = m ((c.tc : Thread Cert.AdIn.nD Cert.AdIn.τ).loc Cert.AdIn.main_arg0)
      ∧ r.2.mem ((c.tc : Thread Cert.AdIn.nD Cert.AdIn.τ).loc Cert.AdIn.main_arg1) = m ((c.tc : Thread Cert.AdIn.nD Cert.AdIn.τ).loc Cert.AdIn.main_arg1)
      ∧ r.2.mem ((c.tc : Thread Cert.AdIn.nD Cert.AdIn.τ).loc Cert.AdIn.main_arg2) = m ((c.tc : Thread Cert.AdIn.nD Cert.AdIn.τ).loc Cert.AdIn.main_arg2)
      ∧ r.2.mem ((c.tc : Thread Cert.AdIn.nD Cert.AdIn.τ).loc Cert.AdIn.main_arg3) = m ((c.tc : Thread Cert.AdIn.nD Cert.AdIn.τ).loc Cert.AdIn.main_arg3))
      ∧ r.2.sem = fun _ => 0)

def quiescent_AdInIdeal [hAdInIdeal : Cert.AdInIdeal.Facts] : Prop :=
  ∀ (m : (ℓ : Loc Cert.AdInIdeal.nD Cert.AdInIdeal.τ Cert.AdInIdeal.sig) → Buf (Elt Ideal) ℓ) (g : Dev Cert.AdInIdeal.nD → PrngReg), Pre_AdInIdeal m →
    θ_run (Cert.AdInIdeal.defs (F := Ideal)) (onTc (τ := Cert.AdInIdeal.τ) (Cert.AdInIdeal.main (F := Ideal))) ⟨m, fun _ => 0, g⟩ (fun r => (∀ c : Dev Cert.AdInIdeal.nD,
      r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
      ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
      ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
      ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ r.2.sem = fun _ => 0)

def quiescent_AdInReferenceIdeal [hAdInReferenceIdeal : Cert.AdInReferenceIdeal.Facts] : Prop :=
  ∀ (m : (ℓ : Loc Cert.AdInReferenceIdeal.nD Cert.AdInReferenceIdeal.τ Cert.AdInReferenceIdeal.sig) → Buf (Elt Ideal) ℓ) (g : Dev Cert.AdInReferenceIdeal.nD → PrngReg), Pre_AdInReferenceIdeal m →
    θ_run (Cert.AdInReferenceIdeal.defs (F := Ideal)) (onTc (τ := Cert.AdInReferenceIdeal.τ) (Cert.AdInReferenceIdeal.main (F := Ideal))) ⟨m, fun _ => 0, g⟩ (fun r => (∀ c : Dev Cert.AdInReferenceIdeal.nD,
      r.2.mem ((c.tc : Thread Cert.AdInReferenceIdeal.nD Cert.AdInReferenceIdeal.τ).loc Cert.AdInReferenceIdeal.main_arg0) = m ((c.tc : Thread Cert.AdInReferenceIdeal.nD Cert.AdInReferenceIdeal.τ).loc Cert.AdInReferenceIdeal.main_arg0)
      ∧ r.2.mem ((c.tc : Thread Cert.AdInReferenceIdeal.nD Cert.AdInReferenceIdeal.τ).loc Cert.AdInReferenceIdeal.main_arg1) = m ((c.tc : Thread Cert.AdInReferenceIdeal.nD Cert.AdInReferenceIdeal.τ).loc Cert.AdInReferenceIdeal.main_arg1)
      ∧ r.2.mem ((c.tc : Thread Cert.AdInReferenceIdeal.nD Cert.AdInReferenceIdeal.τ).loc Cert.AdInReferenceIdeal.main_arg2) = m ((c.tc : Thread Cert.AdInReferenceIdeal.nD Cert.AdInReferenceIdeal.τ).loc Cert.AdInReferenceIdeal.main_arg2)
      ∧ r.2.mem ((c.tc : Thread Cert.AdInReferenceIdeal.nD Cert.AdInReferenceIdeal.τ).loc Cert.AdInReferenceIdeal.main_arg3) = m ((c.tc : Thread Cert.AdInReferenceIdeal.nD Cert.AdInReferenceIdeal.τ).loc Cert.AdInReferenceIdeal.main_arg3))
      ∧ r.2.sem = fun _ => 0)

def quiescent_AdOut [hAdOut : Cert.AdOut.Facts] : Prop :=
  ∀ (m : (ℓ : Loc Cert.AdOut.nD Cert.AdOut.τ Cert.AdOut.sig) → Buf (Elt Bits) ℓ) (g : Dev Cert.AdOut.nD → PrngReg), Pre_AdOut m →
    θ_run (Cert.AdOut.defs (F := Bits)) (onTc (τ := Cert.AdOut.τ) (Cert.AdOut.main (F := Bits))) ⟨m, fun _ => 0, g⟩ (fun r => (∀ c : Dev Cert.AdOut.nD,
      r.2.mem ((c.tc : Thread Cert.AdOut.nD Cert.AdOut.τ).loc Cert.AdOut.main_arg0) = m ((c.tc : Thread Cert.AdOut.nD Cert.AdOut.τ).loc Cert.AdOut.main_arg0)
      ∧ r.2.mem ((c.tc : Thread Cert.AdOut.nD Cert.AdOut.τ).loc Cert.AdOut.main_arg1) = m ((c.tc : Thread Cert.AdOut.nD Cert.AdOut.τ).loc Cert.AdOut.main_arg1)
      ∧ r.2.mem ((c.tc : Thread Cert.AdOut.nD Cert.AdOut.τ).loc Cert.AdOut.main_arg2) = m ((c.tc : Thread Cert.AdOut.nD Cert.AdOut.τ).loc Cert.AdOut.main_arg2)
      ∧ r.2.mem ((c.tc : Thread Cert.AdOut.nD Cert.AdOut.τ).loc Cert.AdOut.main_arg3) = m ((c.tc : Thread Cert.AdOut.nD Cert.AdOut.τ).loc Cert.AdOut.main_arg3))
      ∧ r.2.sem = fun _ => 0)

def quiescent_AdOutIdeal [hAdOutIdeal : Cert.AdOutIdeal.Facts] : Prop :=
  ∀ (m : (ℓ : Loc Cert.AdOutIdeal.nD Cert.AdOutIdeal.τ Cert.AdOutIdeal.sig) → Buf (Elt Ideal) ℓ) (g : Dev Cert.AdOutIdeal.nD → PrngReg), Pre_AdOutIdeal m →
    θ_run (Cert.AdOutIdeal.defs (F := Ideal)) (onTc (τ := Cert.AdOutIdeal.τ) (Cert.AdOutIdeal.main (F := Ideal))) ⟨m, fun _ => 0, g⟩ (fun r => (∀ c : Dev Cert.AdOutIdeal.nD,
      r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
      ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
      ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
      ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ r.2.sem = fun _ => 0)

def quiescent_AdOutReferenceIdeal [hAdOutReferenceIdeal : Cert.AdOutReferenceIdeal.Facts] : Prop :=
  ∀ (m : (ℓ : Loc Cert.AdOutReferenceIdeal.nD Cert.AdOutReferenceIdeal.τ Cert.AdOutReferenceIdeal.sig) → Buf (Elt Ideal) ℓ) (g : Dev Cert.AdOutReferenceIdeal.nD → PrngReg), Pre_AdOutReferenceIdeal m →
    θ_run (Cert.AdOutReferenceIdeal.defs (F := Ideal)) (onTc (τ := Cert.AdOutReferenceIdeal.τ) (Cert.AdOutReferenceIdeal.main (F := Ideal))) ⟨m, fun _ => 0, g⟩ (fun r => (∀ c : Dev Cert.AdOutReferenceIdeal.nD,
      r.2.mem ((c.tc : Thread Cert.AdOutReferenceIdeal.nD Cert.AdOutReferenceIdeal.τ).loc Cert.AdOutReferenceIdeal.main_arg0) = m ((c.tc : Thread Cert.AdOutReferenceIdeal.nD Cert.AdOutReferenceIdeal.τ).loc Cert.AdOutReferenceIdeal.main_arg0)
      ∧ r.2.mem ((c.tc : Thread Cert.AdOutReferenceIdeal.nD Cert.AdOutReferenceIdeal.τ).loc Cert.AdOutReferenceIdeal.main_arg1) = m ((c.tc : Thread Cert.AdOutReferenceIdeal.nD Cert.AdOutReferenceIdeal.τ).loc Cert.AdOutReferenceIdeal.main_arg1)
      ∧ r.2.mem ((c.tc : Thread Cert.AdOutReferenceIdeal.nD Cert.AdOutReferenceIdeal.τ).loc Cert.AdOutReferenceIdeal.main_arg2) = m ((c.tc : Thread Cert.AdOutReferenceIdeal.nD Cert.AdOutReferenceIdeal.τ).loc Cert.AdOutReferenceIdeal.main_arg2)
      ∧ r.2.mem ((c.tc : Thread Cert.AdOutReferenceIdeal.nD Cert.AdOutReferenceIdeal.τ).loc Cert.AdOutReferenceIdeal.main_arg3) = m ((c.tc : Thread Cert.AdOutReferenceIdeal.nD Cert.AdOutReferenceIdeal.τ).loc Cert.AdOutReferenceIdeal.main_arg3))
      ∧ r.2.sem = fun _ => 0)

def quiescent_AdFf1 [hAdFf1 : Cert.AdFf1.Facts] : Prop :=
  ∀ (m : (ℓ : Loc Cert.AdFf1.nD Cert.AdFf1.τ Cert.AdFf1.sig) → Buf (Elt Bits) ℓ) (g : Dev Cert.AdFf1.nD → PrngReg), Pre_AdFf1 m →
    θ_run (Cert.AdFf1.defs (F := Bits)) (onTc (τ := Cert.AdFf1.τ) (Cert.AdFf1.main (F := Bits))) ⟨m, fun _ => 0, g⟩ (fun r => (∀ c : Dev Cert.AdFf1.nD,
      r.2.mem ((c.tc : Thread Cert.AdFf1.nD Cert.AdFf1.τ).loc Cert.AdFf1.main_arg0) = m ((c.tc : Thread Cert.AdFf1.nD Cert.AdFf1.τ).loc Cert.AdFf1.main_arg0)
      ∧ r.2.mem ((c.tc : Thread Cert.AdFf1.nD Cert.AdFf1.τ).loc Cert.AdFf1.main_arg1) = m ((c.tc : Thread Cert.AdFf1.nD Cert.AdFf1.τ).loc Cert.AdFf1.main_arg1)
      ∧ r.2.mem ((c.tc : Thread Cert.AdFf1.nD Cert.AdFf1.τ).loc Cert.AdFf1.main_arg2) = m ((c.tc : Thread Cert.AdFf1.nD Cert.AdFf1.τ).loc Cert.AdFf1.main_arg2)
      ∧ r.2.mem ((c.tc : Thread Cert.AdFf1.nD Cert.AdFf1.τ).loc Cert.AdFf1.main_arg3) = m ((c.tc : Thread Cert.AdFf1.nD Cert.AdFf1.τ).loc Cert.AdFf1.main_arg3))
      ∧ r.2.sem = fun _ => 0)

def quiescent_AdFf1Ideal [hAdFf1Ideal : Cert.AdFf1Ideal.Facts] : Prop :=
  ∀ (m : (ℓ : Loc Cert.AdFf1Ideal.nD Cert.AdFf1Ideal.τ Cert.AdFf1Ideal.sig) → Buf (Elt Ideal) ℓ) (g : Dev Cert.AdFf1Ideal.nD → PrngReg), Pre_AdFf1Ideal m →
    θ_run (Cert.AdFf1Ideal.defs (F := Ideal)) (onTc (τ := Cert.AdFf1Ideal.τ) (Cert.AdFf1Ideal.main (F := Ideal))) ⟨m, fun _ => 0, g⟩ (fun r => (∀ c : Dev Cert.AdFf1Ideal.nD,
      r.2.mem ((c.tc : Thread Cert.AdFf1Ideal.nD Cert.AdFf1Ideal.τ).loc Cert.AdFf1Ideal.main_arg0) = m ((c.tc : Thread Cert.AdFf1Ideal.nD Cert.AdFf1Ideal.τ).loc Cert.AdFf1Ideal.main_arg0)
      ∧ r.2.mem ((c.tc : Thread Cert.AdFf1Ideal.nD Cert.AdFf1Ideal.τ).loc Cert.AdFf1Ideal.main_arg1) = m ((c.tc : Thread Cert.AdFf1Ideal.nD Cert.AdFf1Ideal.τ).loc Cert.AdFf1Ideal.main_arg1)
      ∧ r.2.mem ((c.tc : Thread Cert.AdFf1Ideal.nD Cert.AdFf1Ideal.τ).loc Cert.AdFf1Ideal.main_arg2) = m ((c.tc : Thread Cert.AdFf1Ideal.nD Cert.AdFf1Ideal.τ).loc Cert.AdFf1Ideal.main_arg2)
      ∧ r.2.mem ((c.tc : Thread Cert.AdFf1Ideal.nD Cert.AdFf1Ideal.τ).loc Cert.AdFf1Ideal.main_arg3) = m ((c.tc : Thread Cert.AdFf1Ideal.nD Cert.AdFf1Ideal.τ).loc Cert.AdFf1Ideal.main_arg3))
      ∧ r.2.sem = fun _ => 0)

def quiescent_AdFf1ReferenceIdeal [hAdFf1ReferenceIdeal : Cert.AdFf1ReferenceIdeal.Facts] : Prop :=
  ∀ (m : (ℓ : Loc Cert.AdFf1ReferenceIdeal.nD Cert.AdFf1ReferenceIdeal.τ Cert.AdFf1ReferenceIdeal.sig) → Buf (Elt Ideal) ℓ) (g : Dev Cert.AdFf1ReferenceIdeal.nD → PrngReg), Pre_AdFf1ReferenceIdeal m →
    θ_run (Cert.AdFf1ReferenceIdeal.defs (F := Ideal)) (onTc (τ := Cert.AdFf1ReferenceIdeal.τ) (Cert.AdFf1ReferenceIdeal.main (F := Ideal))) ⟨m, fun _ => 0, g⟩ (fun r => (∀ c : Dev Cert.AdFf1ReferenceIdeal.nD,
      r.2.mem ((c.tc : Thread Cert.AdFf1ReferenceIdeal.nD Cert.AdFf1ReferenceIdeal.τ).loc Cert.AdFf1ReferenceIdeal.main_arg0) = m ((c.tc : Thread Cert.AdFf1ReferenceIdeal.nD Cert.AdFf1ReferenceIdeal.τ).loc Cert.AdFf1ReferenceIdeal.main_arg0)
      ∧ r.2.mem ((c.tc : Thread Cert.AdFf1ReferenceIdeal.nD Cert.AdFf1ReferenceIdeal.τ).loc Cert.AdFf1ReferenceIdeal.main_arg1) = m ((c.tc : Thread Cert.AdFf1ReferenceIdeal.nD Cert.AdFf1ReferenceIdeal.τ).loc Cert.AdFf1ReferenceIdeal.main_arg1)
      ∧ r.2.mem ((c.tc : Thread Cert.AdFf1ReferenceIdeal.nD Cert.AdFf1ReferenceIdeal.τ).loc Cert.AdFf1ReferenceIdeal.main_arg2) = m ((c.tc : Thread Cert.AdFf1ReferenceIdeal.nD Cert.AdFf1ReferenceIdeal.τ).loc Cert.AdFf1ReferenceIdeal.main_arg2)
      ∧ r.2.mem ((c.tc : Thread Cert.AdFf1ReferenceIdeal.nD Cert.AdFf1ReferenceIdeal.τ).loc Cert.AdFf1ReferenceIdeal.main_arg3) = m ((c.tc : Thread Cert.AdFf1ReferenceIdeal.nD Cert.AdFf1ReferenceIdeal.τ).loc Cert.AdFf1ReferenceIdeal.main_arg3))
      ∧ r.2.sem = fun _ => 0)

def quiescent_AdFf2 [hAdFf2 : Cert.AdFf2.Facts] : Prop :=
  ∀ (m : (ℓ : Loc Cert.AdFf2.nD Cert.AdFf2.τ Cert.AdFf2.sig) → Buf (Elt Bits) ℓ) (g : Dev Cert.AdFf2.nD → PrngReg), Pre_AdFf2 m →
    θ_run (Cert.AdFf2.defs (F := Bits)) (onTc (τ := Cert.AdFf2.τ) (Cert.AdFf2.main (F := Bits))) ⟨m, fun _ => 0, g⟩ (fun r => (∀ c : Dev Cert.AdFf2.nD,
      r.2.mem ((c.tc : Thread Cert.AdFf2.nD Cert.AdFf2.τ).loc Cert.AdFf2.main_arg0) = m ((c.tc : Thread Cert.AdFf2.nD Cert.AdFf2.τ).loc Cert.AdFf2.main_arg0)
      ∧ r.2.mem ((c.tc : Thread Cert.AdFf2.nD Cert.AdFf2.τ).loc Cert.AdFf2.main_arg1) = m ((c.tc : Thread Cert.AdFf2.nD Cert.AdFf2.τ).loc Cert.AdFf2.main_arg1)
      ∧ r.2.mem ((c.tc : Thread Cert.AdFf2.nD Cert.AdFf2.τ).loc Cert.AdFf2.main_arg2) = m ((c.tc : Thread Cert.AdFf2.nD Cert.AdFf2.τ).loc Cert.AdFf2.main_arg2)
      ∧ r.2.mem ((c.tc : Thread Cert.AdFf2.nD Cert.AdFf2.τ).loc Cert.AdFf2.main_arg3) = m ((c.tc : Thread Cert.AdFf2.nD Cert.AdFf2.τ).loc Cert.AdFf2.main_arg3))
      ∧ r.2.sem = fun _ => 0)

def quiescent_AdFf2Ideal [hAdFf2Ideal : Cert.AdFf2Ideal.Facts] : Prop :=
  ∀ (m : (ℓ : Loc Cert.AdFf2Ideal.nD Cert.AdFf2Ideal.τ Cert.AdFf2Ideal.sig) → Buf (Elt Ideal) ℓ) (g : Dev Cert.AdFf2Ideal.nD → PrngReg), Pre_AdFf2Ideal m →
    θ_run (Cert.AdFf2Ideal.defs (F := Ideal)) (onTc (τ := Cert.AdFf2Ideal.τ) (Cert.AdFf2Ideal.main (F := Ideal))) ⟨m, fun _ => 0, g⟩ (fun r => (∀ c : Dev Cert.AdFf2Ideal.nD,
      r.2.mem ((c.tc : Thread Cert.AdFf2Ideal.nD Cert.AdFf2Ideal.τ).loc Cert.AdFf2Ideal.main_arg0) = m ((c.tc : Thread Cert.AdFf2Ideal.nD Cert.AdFf2Ideal.τ).loc Cert.AdFf2Ideal.main_arg0)
      ∧ r.2.mem ((c.tc : Thread Cert.AdFf2Ideal.nD Cert.AdFf2Ideal.τ).loc Cert.AdFf2Ideal.main_arg1) = m ((c.tc : Thread Cert.AdFf2Ideal.nD Cert.AdFf2Ideal.τ).loc Cert.AdFf2Ideal.main_arg1)
      ∧ r.2.mem ((c.tc : Thread Cert.AdFf2Ideal.nD Cert.AdFf2Ideal.τ).loc Cert.AdFf2Ideal.main_arg2) = m ((c.tc : Thread Cert.AdFf2Ideal.nD Cert.AdFf2Ideal.τ).loc Cert.AdFf2Ideal.main_arg2)
      ∧ r.2.mem ((c.tc : Thread Cert.AdFf2Ideal.nD Cert.AdFf2Ideal.τ).loc Cert.AdFf2Ideal.main_arg3) = m ((c.tc : Thread Cert.AdFf2Ideal.nD Cert.AdFf2Ideal.τ).loc Cert.AdFf2Ideal.main_arg3))
      ∧ r.2.sem = fun _ => 0)

def quiescent_AdFf2ReferenceIdeal [hAdFf2ReferenceIdeal : Cert.AdFf2ReferenceIdeal.Facts] : Prop :=
  ∀ (m : (ℓ : Loc Cert.AdFf2ReferenceIdeal.nD Cert.AdFf2ReferenceIdeal.τ Cert.AdFf2ReferenceIdeal.sig) → Buf (Elt Ideal) ℓ) (g : Dev Cert.AdFf2ReferenceIdeal.nD → PrngReg), Pre_AdFf2ReferenceIdeal m →
    θ_run (Cert.AdFf2ReferenceIdeal.defs (F := Ideal)) (onTc (τ := Cert.AdFf2ReferenceIdeal.τ) (Cert.AdFf2ReferenceIdeal.main (F := Ideal))) ⟨m, fun _ => 0, g⟩ (fun r => (∀ c : Dev Cert.AdFf2ReferenceIdeal.nD,
      r.2.mem ((c.tc : Thread Cert.AdFf2ReferenceIdeal.nD Cert.AdFf2ReferenceIdeal.τ).loc Cert.AdFf2ReferenceIdeal.main_arg0) = m ((c.tc : Thread Cert.AdFf2ReferenceIdeal.nD Cert.AdFf2ReferenceIdeal.τ).loc Cert.AdFf2ReferenceIdeal.main_arg0)
      ∧ r.2.mem ((c.tc : Thread Cert.AdFf2ReferenceIdeal.nD Cert.AdFf2ReferenceIdeal.τ).loc Cert.AdFf2ReferenceIdeal.main_arg1) = m ((c.tc : Thread Cert.AdFf2ReferenceIdeal.nD Cert.AdFf2ReferenceIdeal.τ).loc Cert.AdFf2ReferenceIdeal.main_arg1)
      ∧ r.2.mem ((c.tc : Thread Cert.AdFf2ReferenceIdeal.nD Cert.AdFf2ReferenceIdeal.τ).loc Cert.AdFf2ReferenceIdeal.main_arg2) = m ((c.tc : Thread Cert.AdFf2ReferenceIdeal.nD Cert.AdFf2ReferenceIdeal.τ).loc Cert.AdFf2ReferenceIdeal.main_arg2)
      ∧ r.2.mem ((c.tc : Thread Cert.AdFf2ReferenceIdeal.nD Cert.AdFf2ReferenceIdeal.τ).loc Cert.AdFf2ReferenceIdeal.main_arg3) = m ((c.tc : Thread Cert.AdFf2ReferenceIdeal.nD Cert.AdFf2ReferenceIdeal.τ).loc Cert.AdFf2ReferenceIdeal.main_arg3))
      ∧ r.2.sem = fun _ => 0)

def quiescent_AdSgu [hAdSgu : Cert.AdSgu.Facts] : Prop :=
  ∀ (m : (ℓ : Loc Cert.AdSgu.nD Cert.AdSgu.τ Cert.AdSgu.sig) → Buf (Elt Bits) ℓ) (g : Dev Cert.AdSgu.nD → PrngReg), Pre_AdSgu m →
    θ_run (Cert.AdSgu.defs (F := Bits)) (onTc (τ := Cert.AdSgu.τ) (Cert.AdSgu.main (F := Bits))) ⟨m, fun _ => 0, g⟩ (fun r => (∀ c : Dev Cert.AdSgu.nD,
      r.2.mem ((c.tc : Thread Cert.AdSgu.nD Cert.AdSgu.τ).loc Cert.AdSgu.main_arg0) = m ((c.tc : Thread Cert.AdSgu.nD Cert.AdSgu.τ).loc Cert.AdSgu.main_arg0)
      ∧ r.2.mem ((c.tc : Thread Cert.AdSgu.nD Cert.AdSgu.τ).loc Cert.AdSgu.main_arg1) = m ((c.tc : Thread Cert.AdSgu.nD Cert.AdSgu.τ).loc Cert.AdSgu.main_arg1)
      ∧ r.2.mem ((c.tc : Thread Cert.AdSgu.nD Cert.AdSgu.τ).loc Cert.AdSgu.main_arg2) = m ((c.tc : Thread Cert.AdSgu.nD Cert.AdSgu.τ).loc Cert.AdSgu.main_arg2)
      ∧ r.2.mem ((c.tc : Thread Cert.AdSgu.nD Cert.AdSgu.τ).loc Cert.AdSgu.main_arg3) = m ((c.tc : Thread Cert.AdSgu.nD Cert.AdSgu.τ).loc Cert.AdSgu.main_arg3))
      ∧ r.2.sem = fun _ => 0)

def quiescent_AdSguIdeal [hAdSguIdeal : Cert.AdSguIdeal.Facts] : Prop :=
  ∀ (m : (ℓ : Loc Cert.AdSguIdeal.nD Cert.AdSguIdeal.τ Cert.AdSguIdeal.sig) → Buf (Elt Ideal) ℓ) (g : Dev Cert.AdSguIdeal.nD → PrngReg), Pre_AdSguIdeal m →
    θ_run (Cert.AdSguIdeal.defs (F := Ideal)) (onTc (τ := Cert.AdSguIdeal.τ) (Cert.AdSguIdeal.main (F := Ideal))) ⟨m, fun _ => 0, g⟩ (fun r => (∀ c : Dev Cert.AdSguIdeal.nD,
      r.2.mem ((c.tc : Thread Cert.AdSguIdeal.nD Cert.AdSguIdeal.τ).loc Cert.AdSguIdeal.main_arg0) = m ((c.tc : Thread Cert.AdSguIdeal.nD Cert.AdSguIdeal.τ).loc Cert.AdSguIdeal.main_arg0)
      ∧ r.2.mem ((c.tc : Thread Cert.AdSguIdeal.nD Cert.AdSguIdeal.τ).loc Cert.AdSguIdeal.main_arg1) = m ((c.tc : Thread Cert.AdSguIdeal.nD Cert.AdSguIdeal.τ).loc Cert.AdSguIdeal.main_arg1)
      ∧ r.2.mem ((c.tc : Thread Cert.AdSguIdeal.nD Cert.AdSguIdeal.τ).loc Cert.AdSguIdeal.main_arg2) = m ((c.tc : Thread Cert.AdSguIdeal.nD Cert.AdSguIdeal.τ).loc Cert.AdSguIdeal.main_arg2)
      ∧ r.2.mem ((c.tc : Thread Cert.AdSguIdeal.nD Cert.AdSguIdeal.τ).loc Cert.AdSguIdeal.main_arg3) = m ((c.tc : Thread Cert.AdSguIdeal.nD Cert.AdSguIdeal.τ).loc Cert.AdSguIdeal.main_arg3))
      ∧ r.2.sem = fun _ => 0)

def quiescent_AdSguReferenceIdeal [hAdSguReferenceIdeal : Cert.AdSguReferenceIdeal.Facts] : Prop :=
  ∀ (m : (ℓ : Loc Cert.AdSguReferenceIdeal.nD Cert.AdSguReferenceIdeal.τ Cert.AdSguReferenceIdeal.sig) → Buf (Elt Ideal) ℓ) (g : Dev Cert.AdSguReferenceIdeal.nD → PrngReg), Pre_AdSguReferenceIdeal m →
    θ_run (Cert.AdSguReferenceIdeal.defs (F := Ideal)) (onTc (τ := Cert.AdSguReferenceIdeal.τ) (Cert.AdSguReferenceIdeal.main (F := Ideal))) ⟨m, fun _ => 0, g⟩ (fun r => (∀ c : Dev Cert.AdSguReferenceIdeal.nD,
      r.2.mem ((c.tc : Thread Cert.AdSguReferenceIdeal.nD Cert.AdSguReferenceIdeal.τ).loc Cert.AdSguReferenceIdeal.main_arg0) = m ((c.tc : Thread Cert.AdSguReferenceIdeal.nD Cert.AdSguReferenceIdeal.τ).loc Cert.AdSguReferenceIdeal.main_arg0)
      ∧ r.2.mem ((c.tc : Thread Cert.AdSguReferenceIdeal.nD Cert.AdSguReferenceIdeal.τ).loc Cert.AdSguReferenceIdeal.main_arg1) = m ((c.tc : Thread Cert.AdSguReferenceIdeal.nD Cert.AdSguReferenceIdeal.τ).loc Cert.AdSguReferenceIdeal.main_arg1)
      ∧ r.2.mem ((c.tc : Thread Cert.AdSguReferenceIdeal.nD Cert.AdSguReferenceIdeal.τ).loc Cert.AdSguReferenceIdeal.main_arg2) = m ((c.tc : Thread Cert.AdSguReferenceIdeal.nD Cert.AdSguReferenceIdeal.τ).loc Cert.AdSguReferenceIdeal.main_arg2)
      ∧ r.2.mem ((c.tc : Thread Cert.AdSguReferenceIdeal.nD Cert.AdSguReferenceIdeal.τ).loc Cert.AdSguReferenceIdeal.main_arg3) = m ((c.tc : Thread Cert.AdSguReferenceIdeal.nD Cert.AdSguReferenceIdeal.τ).loc Cert.AdSguReferenceIdeal.main_arg3))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ r.2.sem = fun _ => 0)

def quiescent_GateFwdReferenceIdeal [hGateFwdReferenceIdeal : Cert.GateFwdReferenceIdeal.Facts] : Prop :=
  ∀ (m : (ℓ : Loc Cert.GateFwdReferenceIdeal.nD Cert.GateFwdReferenceIdeal.τ Cert.GateFwdReferenceIdeal.sig) → Buf (Elt Ideal) ℓ) (g : Dev Cert.GateFwdReferenceIdeal.nD → PrngReg), Pre_GateFwdReferenceIdeal m →
    θ_run (Cert.GateFwdReferenceIdeal.defs (F := Ideal)) (onTc (τ := Cert.GateFwdReferenceIdeal.τ) (Cert.GateFwdReferenceIdeal.main (F := Ideal))) ⟨m, fun _ => 0, g⟩ (fun r => (∀ c : Dev Cert.GateFwdReferenceIdeal.nD,
      r.2.mem ((c.tc : Thread Cert.GateFwdReferenceIdeal.nD Cert.GateFwdReferenceIdeal.τ).loc Cert.GateFwdReferenceIdeal.main_arg0) = m ((c.tc : Thread Cert.GateFwdReferenceIdeal.nD Cert.GateFwdReferenceIdeal.τ).loc Cert.GateFwdReferenceIdeal.main_arg0)
      ∧ r.2.mem ((c.tc : Thread Cert.GateFwdReferenceIdeal.nD Cert.GateFwdReferenceIdeal.τ).loc Cert.GateFwdReferenceIdeal.main_arg1) = m ((c.tc : Thread Cert.GateFwdReferenceIdeal.nD Cert.GateFwdReferenceIdeal.τ).loc Cert.GateFwdReferenceIdeal.main_arg1)
      ∧ r.2.mem ((c.tc : Thread Cert.GateFwdReferenceIdeal.nD Cert.GateFwdReferenceIdeal.τ).loc Cert.GateFwdReferenceIdeal.main_arg2) = m ((c.tc : Thread Cert.GateFwdReferenceIdeal.nD Cert.GateFwdReferenceIdeal.τ).loc Cert.GateFwdReferenceIdeal.main_arg2)
      ∧ r.2.mem ((c.tc : Thread Cert.GateFwdReferenceIdeal.nD Cert.GateFwdReferenceIdeal.τ).loc Cert.GateFwdReferenceIdeal.main_arg3) = m ((c.tc : Thread Cert.GateFwdReferenceIdeal.nD Cert.GateFwdReferenceIdeal.τ).loc Cert.GateFwdReferenceIdeal.main_arg3)
      ∧ r.2.mem ((c.tc : Thread Cert.GateFwdReferenceIdeal.nD Cert.GateFwdReferenceIdeal.τ).loc Cert.GateFwdReferenceIdeal.main_arg4) = m ((c.tc : Thread Cert.GateFwdReferenceIdeal.nD Cert.GateFwdReferenceIdeal.τ).loc Cert.GateFwdReferenceIdeal.main_arg4)
      ∧ r.2.mem ((c.tc : Thread Cert.GateFwdReferenceIdeal.nD Cert.GateFwdReferenceIdeal.τ).loc Cert.GateFwdReferenceIdeal.main_arg5) = m ((c.tc : Thread Cert.GateFwdReferenceIdeal.nD Cert.GateFwdReferenceIdeal.τ).loc Cert.GateFwdReferenceIdeal.main_arg5))
      ∧ r.2.sem = fun _ => 0)

def quiescent_AdTiny [hAdTiny : Cert.AdTiny.Facts] : Prop :=
  ∀ (m : (ℓ : Loc Cert.AdTiny.nD Cert.AdTiny.τ Cert.AdTiny.sig) → Buf (Elt Bits) ℓ) (g : Dev Cert.AdTiny.nD → PrngReg), Pre_AdTiny m →
    θ_run (Cert.AdTiny.defs (F := Bits)) (onTc (τ := Cert.AdTiny.τ) (Cert.AdTiny.main (F := Bits))) ⟨m, fun _ => 0, g⟩ (fun r => (∀ c : Dev Cert.AdTiny.nD,
      r.2.mem ((c.tc : Thread Cert.AdTiny.nD Cert.AdTiny.τ).loc Cert.AdTiny.main_arg0) = m ((c.tc : Thread Cert.AdTiny.nD Cert.AdTiny.τ).loc Cert.AdTiny.main_arg0)
      ∧ r.2.mem ((c.tc : Thread Cert.AdTiny.nD Cert.AdTiny.τ).loc Cert.AdTiny.main_arg1) = m ((c.tc : Thread Cert.AdTiny.nD Cert.AdTiny.τ).loc Cert.AdTiny.main_arg1)
      ∧ r.2.mem ((c.tc : Thread Cert.AdTiny.nD Cert.AdTiny.τ).loc Cert.AdTiny.main_arg2) = m ((c.tc : Thread Cert.AdTiny.nD Cert.AdTiny.τ).loc Cert.AdTiny.main_arg2)
      ∧ r.2.mem ((c.tc : Thread Cert.AdTiny.nD Cert.AdTiny.τ).loc Cert.AdTiny.main_arg3) = m ((c.tc : Thread Cert.AdTiny.nD Cert.AdTiny.τ).loc Cert.AdTiny.main_arg3)
      ∧ r.2.mem ((c.tc : Thread Cert.AdTiny.nD Cert.AdTiny.τ).loc Cert.AdTiny.main_arg4) = m ((c.tc : Thread Cert.AdTiny.nD Cert.AdTiny.τ).loc Cert.AdTiny.main_arg4)
      ∧ r.2.mem ((c.tc : Thread Cert.AdTiny.nD Cert.AdTiny.τ).loc Cert.AdTiny.main_arg5) = m ((c.tc : Thread Cert.AdTiny.nD Cert.AdTiny.τ).loc Cert.AdTiny.main_arg5)
      ∧ r.2.mem ((c.tc : Thread Cert.AdTiny.nD Cert.AdTiny.τ).loc Cert.AdTiny.main_arg6) = m ((c.tc : Thread Cert.AdTiny.nD Cert.AdTiny.τ).loc Cert.AdTiny.main_arg6)
      ∧ r.2.mem ((c.tc : Thread Cert.AdTiny.nD Cert.AdTiny.τ).loc Cert.AdTiny.main_arg7) = m ((c.tc : Thread Cert.AdTiny.nD Cert.AdTiny.τ).loc Cert.AdTiny.main_arg7)
      ∧ r.2.mem ((c.tc : Thread Cert.AdTiny.nD Cert.AdTiny.τ).loc Cert.AdTiny.main_arg8) = m ((c.tc : Thread Cert.AdTiny.nD Cert.AdTiny.τ).loc Cert.AdTiny.main_arg8)
      ∧ r.2.mem ((c.tc : Thread Cert.AdTiny.nD Cert.AdTiny.τ).loc Cert.AdTiny.main_arg9) = m ((c.tc : Thread Cert.AdTiny.nD Cert.AdTiny.τ).loc Cert.AdTiny.main_arg9)
      ∧ r.2.mem ((c.tc : Thread Cert.AdTiny.nD Cert.AdTiny.τ).loc Cert.AdTiny.main_arg10) = m ((c.tc : Thread Cert.AdTiny.nD Cert.AdTiny.τ).loc Cert.AdTiny.main_arg10)
      ∧ r.2.mem ((c.tc : Thread Cert.AdTiny.nD Cert.AdTiny.τ).loc Cert.AdTiny.main_arg11) = m ((c.tc : Thread Cert.AdTiny.nD Cert.AdTiny.τ).loc Cert.AdTiny.main_arg11)
      ∧ r.2.mem ((c.tc : Thread Cert.AdTiny.nD Cert.AdTiny.τ).loc Cert.AdTiny.main_arg12) = m ((c.tc : Thread Cert.AdTiny.nD Cert.AdTiny.τ).loc Cert.AdTiny.main_arg12)
      ∧ r.2.mem ((c.tc : Thread Cert.AdTiny.nD Cert.AdTiny.τ).loc Cert.AdTiny.main_arg13) = m ((c.tc : Thread Cert.AdTiny.nD Cert.AdTiny.τ).loc Cert.AdTiny.main_arg13)
      ∧ r.2.mem ((c.tc : Thread Cert.AdTiny.nD Cert.AdTiny.τ).loc Cert.AdTiny.main_arg14) = m ((c.tc : Thread Cert.AdTiny.nD Cert.AdTiny.τ).loc Cert.AdTiny.main_arg14)
      ∧ r.2.mem ((c.tc : Thread Cert.AdTiny.nD Cert.AdTiny.τ).loc Cert.AdTiny.main_arg15) = m ((c.tc : Thread Cert.AdTiny.nD Cert.AdTiny.τ).loc Cert.AdTiny.main_arg15)
      ∧ r.2.mem ((c.tc : Thread Cert.AdTiny.nD Cert.AdTiny.τ).loc Cert.AdTiny.main_arg16) = m ((c.tc : Thread Cert.AdTiny.nD Cert.AdTiny.τ).loc Cert.AdTiny.main_arg16)
      ∧ r.2.mem ((c.tc : Thread Cert.AdTiny.nD Cert.AdTiny.τ).loc Cert.AdTiny.main_arg17) = m ((c.tc : Thread Cert.AdTiny.nD Cert.AdTiny.τ).loc Cert.AdTiny.main_arg17)
      ∧ r.2.mem ((c.tc : Thread Cert.AdTiny.nD Cert.AdTiny.τ).loc Cert.AdTiny.main_arg18) = m ((c.tc : Thread Cert.AdTiny.nD Cert.AdTiny.τ).loc Cert.AdTiny.main_arg18)
      ∧ r.2.mem ((c.tc : Thread Cert.AdTiny.nD Cert.AdTiny.τ).loc Cert.AdTiny.main_arg19) = m ((c.tc : Thread Cert.AdTiny.nD Cert.AdTiny.τ).loc Cert.AdTiny.main_arg19)
      ∧ r.2.mem ((c.tc : Thread Cert.AdTiny.nD Cert.AdTiny.τ).loc Cert.AdTiny.main_arg20) = m ((c.tc : Thread Cert.AdTiny.nD Cert.AdTiny.τ).loc Cert.AdTiny.main_arg20)
      ∧ r.2.mem ((c.tc : Thread Cert.AdTiny.nD Cert.AdTiny.τ).loc Cert.AdTiny.main_arg21) = m ((c.tc : Thread Cert.AdTiny.nD Cert.AdTiny.τ).loc Cert.AdTiny.main_arg21)
      ∧ r.2.mem ((c.tc : Thread Cert.AdTiny.nD Cert.AdTiny.τ).loc Cert.AdTiny.main_arg22) = m ((c.tc : Thread Cert.AdTiny.nD Cert.AdTiny.τ).loc Cert.AdTiny.main_arg22)
      ∧ r.2.mem ((c.tc : Thread Cert.AdTiny.nD Cert.AdTiny.τ).loc Cert.AdTiny.main_arg23) = m ((c.tc : Thread Cert.AdTiny.nD Cert.AdTiny.τ).loc Cert.AdTiny.main_arg23)
      ∧ r.2.mem ((c.tc : Thread Cert.AdTiny.nD Cert.AdTiny.τ).loc Cert.AdTiny.main_arg24) = m ((c.tc : Thread Cert.AdTiny.nD Cert.AdTiny.τ).loc Cert.AdTiny.main_arg24))
      ∧ r.2.sem = fun _ => 0)

def quiescent_AdTinyIdeal [hAdTinyIdeal : Cert.AdTinyIdeal.Facts] : Prop :=
  ∀ (m : (ℓ : Loc Cert.AdTinyIdeal.nD Cert.AdTinyIdeal.τ Cert.AdTinyIdeal.sig) → Buf (Elt Ideal) ℓ) (g : Dev Cert.AdTinyIdeal.nD → PrngReg), Pre_AdTinyIdeal m →
    θ_run (Cert.AdTinyIdeal.defs (F := Ideal)) (onTc (τ := Cert.AdTinyIdeal.τ) (Cert.AdTinyIdeal.main (F := Ideal))) ⟨m, fun _ => 0, g⟩ (fun r => (∀ c : Dev Cert.AdTinyIdeal.nD,
      r.2.mem ((c.tc : Thread Cert.AdTinyIdeal.nD Cert.AdTinyIdeal.τ).loc Cert.AdTinyIdeal.main_arg0) = m ((c.tc : Thread Cert.AdTinyIdeal.nD Cert.AdTinyIdeal.τ).loc Cert.AdTinyIdeal.main_arg0)
      ∧ r.2.mem ((c.tc : Thread Cert.AdTinyIdeal.nD Cert.AdTinyIdeal.τ).loc Cert.AdTinyIdeal.main_arg1) = m ((c.tc : Thread Cert.AdTinyIdeal.nD Cert.AdTinyIdeal.τ).loc Cert.AdTinyIdeal.main_arg1)
      ∧ r.2.mem ((c.tc : Thread Cert.AdTinyIdeal.nD Cert.AdTinyIdeal.τ).loc Cert.AdTinyIdeal.main_arg2) = m ((c.tc : Thread Cert.AdTinyIdeal.nD Cert.AdTinyIdeal.τ).loc Cert.AdTinyIdeal.main_arg2)
      ∧ r.2.mem ((c.tc : Thread Cert.AdTinyIdeal.nD Cert.AdTinyIdeal.τ).loc Cert.AdTinyIdeal.main_arg3) = m ((c.tc : Thread Cert.AdTinyIdeal.nD Cert.AdTinyIdeal.τ).loc Cert.AdTinyIdeal.main_arg3)
      ∧ r.2.mem ((c.tc : Thread Cert.AdTinyIdeal.nD Cert.AdTinyIdeal.τ).loc Cert.AdTinyIdeal.main_arg4) = m ((c.tc : Thread Cert.AdTinyIdeal.nD Cert.AdTinyIdeal.τ).loc Cert.AdTinyIdeal.main_arg4)
      ∧ r.2.mem ((c.tc : Thread Cert.AdTinyIdeal.nD Cert.AdTinyIdeal.τ).loc Cert.AdTinyIdeal.main_arg5) = m ((c.tc : Thread Cert.AdTinyIdeal.nD Cert.AdTinyIdeal.τ).loc Cert.AdTinyIdeal.main_arg5)
      ∧ r.2.mem ((c.tc : Thread Cert.AdTinyIdeal.nD Cert.AdTinyIdeal.τ).loc Cert.AdTinyIdeal.main_arg6) = m ((c.tc : Thread Cert.AdTinyIdeal.nD Cert.AdTinyIdeal.τ).loc Cert.AdTinyIdeal.main_arg6)
      ∧ r.2.mem ((c.tc : Thread Cert.AdTinyIdeal.nD Cert.AdTinyIdeal.τ).loc Cert.AdTinyIdeal.main_arg7) = m ((c.tc : Thread Cert.AdTinyIdeal.nD Cert.AdTinyIdeal.τ).loc Cert.AdTinyIdeal.main_arg7)
      ∧ r.2.mem ((c.tc : Thread Cert.AdTinyIdeal.nD Cert.AdTinyIdeal.τ).loc Cert.AdTinyIdeal.main_arg8) = m ((c.tc : Thread Cert.AdTinyIdeal.nD Cert.AdTinyIdeal.τ).loc Cert.AdTinyIdeal.main_arg8)
      ∧ r.2.mem ((c.tc : Thread Cert.AdTinyIdeal.nD Cert.AdTinyIdeal.τ).loc Cert.AdTinyIdeal.main_arg9) = m ((c.tc : Thread Cert.AdTinyIdeal.nD Cert.AdTinyIdeal.τ).loc Cert.AdTinyIdeal.main_arg9)
      ∧ r.2.mem ((c.tc : Thread Cert.AdTinyIdeal.nD Cert.AdTinyIdeal.τ).loc Cert.AdTinyIdeal.main_arg10) = m ((c.tc : Thread Cert.AdTinyIdeal.nD Cert.AdTinyIdeal.τ).loc Cert.AdTinyIdeal.main_arg10)
      ∧ r.2.mem ((c.tc : Thread Cert.AdTinyIdeal.nD Cert.AdTinyIdeal.τ).loc Cert.AdTinyIdeal.main_arg11) = m ((c.tc : Thread Cert.AdTinyIdeal.nD Cert.AdTinyIdeal.τ).loc Cert.AdTinyIdeal.main_arg11)
      ∧ r.2.mem ((c.tc : Thread Cert.AdTinyIdeal.nD Cert.AdTinyIdeal.τ).loc Cert.AdTinyIdeal.main_arg12) = m ((c.tc : Thread Cert.AdTinyIdeal.nD Cert.AdTinyIdeal.τ).loc Cert.AdTinyIdeal.main_arg12)
      ∧ r.2.mem ((c.tc : Thread Cert.AdTinyIdeal.nD Cert.AdTinyIdeal.τ).loc Cert.AdTinyIdeal.main_arg13) = m ((c.tc : Thread Cert.AdTinyIdeal.nD Cert.AdTinyIdeal.τ).loc Cert.AdTinyIdeal.main_arg13)
      ∧ r.2.mem ((c.tc : Thread Cert.AdTinyIdeal.nD Cert.AdTinyIdeal.τ).loc Cert.AdTinyIdeal.main_arg14) = m ((c.tc : Thread Cert.AdTinyIdeal.nD Cert.AdTinyIdeal.τ).loc Cert.AdTinyIdeal.main_arg14)
      ∧ r.2.mem ((c.tc : Thread Cert.AdTinyIdeal.nD Cert.AdTinyIdeal.τ).loc Cert.AdTinyIdeal.main_arg15) = m ((c.tc : Thread Cert.AdTinyIdeal.nD Cert.AdTinyIdeal.τ).loc Cert.AdTinyIdeal.main_arg15)
      ∧ r.2.mem ((c.tc : Thread Cert.AdTinyIdeal.nD Cert.AdTinyIdeal.τ).loc Cert.AdTinyIdeal.main_arg16) = m ((c.tc : Thread Cert.AdTinyIdeal.nD Cert.AdTinyIdeal.τ).loc Cert.AdTinyIdeal.main_arg16)
      ∧ r.2.mem ((c.tc : Thread Cert.AdTinyIdeal.nD Cert.AdTinyIdeal.τ).loc Cert.AdTinyIdeal.main_arg17) = m ((c.tc : Thread Cert.AdTinyIdeal.nD Cert.AdTinyIdeal.τ).loc Cert.AdTinyIdeal.main_arg17)
      ∧ r.2.mem ((c.tc : Thread Cert.AdTinyIdeal.nD Cert.AdTinyIdeal.τ).loc Cert.AdTinyIdeal.main_arg18) = m ((c.tc : Thread Cert.AdTinyIdeal.nD Cert.AdTinyIdeal.τ).loc Cert.AdTinyIdeal.main_arg18)
      ∧ r.2.mem ((c.tc : Thread Cert.AdTinyIdeal.nD Cert.AdTinyIdeal.τ).loc Cert.AdTinyIdeal.main_arg19) = m ((c.tc : Thread Cert.AdTinyIdeal.nD Cert.AdTinyIdeal.τ).loc Cert.AdTinyIdeal.main_arg19)
      ∧ r.2.mem ((c.tc : Thread Cert.AdTinyIdeal.nD Cert.AdTinyIdeal.τ).loc Cert.AdTinyIdeal.main_arg20) = m ((c.tc : Thread Cert.AdTinyIdeal.nD Cert.AdTinyIdeal.τ).loc Cert.AdTinyIdeal.main_arg20)
      ∧ r.2.mem ((c.tc : Thread Cert.AdTinyIdeal.nD Cert.AdTinyIdeal.τ).loc Cert.AdTinyIdeal.main_arg21) = m ((c.tc : Thread Cert.AdTinyIdeal.nD Cert.AdTinyIdeal.τ).loc Cert.AdTinyIdeal.main_arg21)
      ∧ r.2.mem ((c.tc : Thread Cert.AdTinyIdeal.nD Cert.AdTinyIdeal.τ).loc Cert.AdTinyIdeal.main_arg22) = m ((c.tc : Thread Cert.AdTinyIdeal.nD Cert.AdTinyIdeal.τ).loc Cert.AdTinyIdeal.main_arg22)
      ∧ r.2.mem ((c.tc : Thread Cert.AdTinyIdeal.nD Cert.AdTinyIdeal.τ).loc Cert.AdTinyIdeal.main_arg23) = m ((c.tc : Thread Cert.AdTinyIdeal.nD Cert.AdTinyIdeal.τ).loc Cert.AdTinyIdeal.main_arg23)
      ∧ r.2.mem ((c.tc : Thread Cert.AdTinyIdeal.nD Cert.AdTinyIdeal.τ).loc Cert.AdTinyIdeal.main_arg24) = m ((c.tc : Thread Cert.AdTinyIdeal.nD Cert.AdTinyIdeal.τ).loc Cert.AdTinyIdeal.main_arg24))
      ∧ r.2.sem = fun _ => 0)

def quiescent_AdTinyReferenceIdeal [hAdTinyReferenceIdeal : Cert.AdTinyReferenceIdeal.Facts] : Prop :=
  ∀ (m : (ℓ : Loc Cert.AdTinyReferenceIdeal.nD Cert.AdTinyReferenceIdeal.τ Cert.AdTinyReferenceIdeal.sig) → Buf (Elt Ideal) ℓ) (g : Dev Cert.AdTinyReferenceIdeal.nD → PrngReg), Pre_AdTinyReferenceIdeal m →
    θ_run (Cert.AdTinyReferenceIdeal.defs (F := Ideal)) (onTc (τ := Cert.AdTinyReferenceIdeal.τ) (Cert.AdTinyReferenceIdeal.main (F := Ideal))) ⟨m, fun _ => 0, g⟩ (fun r => (∀ c : Dev Cert.AdTinyReferenceIdeal.nD,
      r.2.mem ((c.tc : Thread Cert.AdTinyReferenceIdeal.nD Cert.AdTinyReferenceIdeal.τ).loc Cert.AdTinyReferenceIdeal.main_arg0) = m ((c.tc : Thread Cert.AdTinyReferenceIdeal.nD Cert.AdTinyReferenceIdeal.τ).loc Cert.AdTinyReferenceIdeal.main_arg0)
      ∧ r.2.mem ((c.tc : Thread Cert.AdTinyReferenceIdeal.nD Cert.AdTinyReferenceIdeal.τ).loc Cert.AdTinyReferenceIdeal.main_arg1) = m ((c.tc : Thread Cert.AdTinyReferenceIdeal.nD Cert.AdTinyReferenceIdeal.τ).loc Cert.AdTinyReferenceIdeal.main_arg1)
      ∧ r.2.mem ((c.tc : Thread Cert.AdTinyReferenceIdeal.nD Cert.AdTinyReferenceIdeal.τ).loc Cert.AdTinyReferenceIdeal.main_arg2) = m ((c.tc : Thread Cert.AdTinyReferenceIdeal.nD Cert.AdTinyReferenceIdeal.τ).loc Cert.AdTinyReferenceIdeal.main_arg2)
      ∧ r.2.mem ((c.tc : Thread Cert.AdTinyReferenceIdeal.nD Cert.AdTinyReferenceIdeal.τ).loc Cert.AdTinyReferenceIdeal.main_arg3) = m ((c.tc : Thread Cert.AdTinyReferenceIdeal.nD Cert.AdTinyReferenceIdeal.τ).loc Cert.AdTinyReferenceIdeal.main_arg3)
      ∧ r.2.mem ((c.tc : Thread Cert.AdTinyReferenceIdeal.nD Cert.AdTinyReferenceIdeal.τ).loc Cert.AdTinyReferenceIdeal.main_arg4) = m ((c.tc : Thread Cert.AdTinyReferenceIdeal.nD Cert.AdTinyReferenceIdeal.τ).loc Cert.AdTinyReferenceIdeal.main_arg4)
      ∧ r.2.mem ((c.tc : Thread Cert.AdTinyReferenceIdeal.nD Cert.AdTinyReferenceIdeal.τ).loc Cert.AdTinyReferenceIdeal.main_arg5) = m ((c.tc : Thread Cert.AdTinyReferenceIdeal.nD Cert.AdTinyReferenceIdeal.τ).loc Cert.AdTinyReferenceIdeal.main_arg5)
      ∧ r.2.mem ((c.tc : Thread Cert.AdTinyReferenceIdeal.nD Cert.AdTinyReferenceIdeal.τ).loc Cert.AdTinyReferenceIdeal.main_arg6) = m ((c.tc : Thread Cert.AdTinyReferenceIdeal.nD Cert.AdTinyReferenceIdeal.τ).loc Cert.AdTinyReferenceIdeal.main_arg6)
      ∧ r.2.mem ((c.tc : Thread Cert.AdTinyReferenceIdeal.nD Cert.AdTinyReferenceIdeal.τ).loc Cert.AdTinyReferenceIdeal.main_arg7) = m ((c.tc : Thread Cert.AdTinyReferenceIdeal.nD Cert.AdTinyReferenceIdeal.τ).loc Cert.AdTinyReferenceIdeal.main_arg7)
      ∧ r.2.mem ((c.tc : Thread Cert.AdTinyReferenceIdeal.nD Cert.AdTinyReferenceIdeal.τ).loc Cert.AdTinyReferenceIdeal.main_arg8) = m ((c.tc : Thread Cert.AdTinyReferenceIdeal.nD Cert.AdTinyReferenceIdeal.τ).loc Cert.AdTinyReferenceIdeal.main_arg8)
      ∧ r.2.mem ((c.tc : Thread Cert.AdTinyReferenceIdeal.nD Cert.AdTinyReferenceIdeal.τ).loc Cert.AdTinyReferenceIdeal.main_arg9) = m ((c.tc : Thread Cert.AdTinyReferenceIdeal.nD Cert.AdTinyReferenceIdeal.τ).loc Cert.AdTinyReferenceIdeal.main_arg9)
      ∧ r.2.mem ((c.tc : Thread Cert.AdTinyReferenceIdeal.nD Cert.AdTinyReferenceIdeal.τ).loc Cert.AdTinyReferenceIdeal.main_arg10) = m ((c.tc : Thread Cert.AdTinyReferenceIdeal.nD Cert.AdTinyReferenceIdeal.τ).loc Cert.AdTinyReferenceIdeal.main_arg10)
      ∧ r.2.mem ((c.tc : Thread Cert.AdTinyReferenceIdeal.nD Cert.AdTinyReferenceIdeal.τ).loc Cert.AdTinyReferenceIdeal.main_arg11) = m ((c.tc : Thread Cert.AdTinyReferenceIdeal.nD Cert.AdTinyReferenceIdeal.τ).loc Cert.AdTinyReferenceIdeal.main_arg11)
      ∧ r.2.mem ((c.tc : Thread Cert.AdTinyReferenceIdeal.nD Cert.AdTinyReferenceIdeal.τ).loc Cert.AdTinyReferenceIdeal.main_arg12) = m ((c.tc : Thread Cert.AdTinyReferenceIdeal.nD Cert.AdTinyReferenceIdeal.τ).loc Cert.AdTinyReferenceIdeal.main_arg12)
      ∧ r.2.mem ((c.tc : Thread Cert.AdTinyReferenceIdeal.nD Cert.AdTinyReferenceIdeal.τ).loc Cert.AdTinyReferenceIdeal.main_arg13) = m ((c.tc : Thread Cert.AdTinyReferenceIdeal.nD Cert.AdTinyReferenceIdeal.τ).loc Cert.AdTinyReferenceIdeal.main_arg13)
      ∧ r.2.mem ((c.tc : Thread Cert.AdTinyReferenceIdeal.nD Cert.AdTinyReferenceIdeal.τ).loc Cert.AdTinyReferenceIdeal.main_arg14) = m ((c.tc : Thread Cert.AdTinyReferenceIdeal.nD Cert.AdTinyReferenceIdeal.τ).loc Cert.AdTinyReferenceIdeal.main_arg14)
      ∧ r.2.mem ((c.tc : Thread Cert.AdTinyReferenceIdeal.nD Cert.AdTinyReferenceIdeal.τ).loc Cert.AdTinyReferenceIdeal.main_arg15) = m ((c.tc : Thread Cert.AdTinyReferenceIdeal.nD Cert.AdTinyReferenceIdeal.τ).loc Cert.AdTinyReferenceIdeal.main_arg15)
      ∧ r.2.mem ((c.tc : Thread Cert.AdTinyReferenceIdeal.nD Cert.AdTinyReferenceIdeal.τ).loc Cert.AdTinyReferenceIdeal.main_arg16) = m ((c.tc : Thread Cert.AdTinyReferenceIdeal.nD Cert.AdTinyReferenceIdeal.τ).loc Cert.AdTinyReferenceIdeal.main_arg16)
      ∧ r.2.mem ((c.tc : Thread Cert.AdTinyReferenceIdeal.nD Cert.AdTinyReferenceIdeal.τ).loc Cert.AdTinyReferenceIdeal.main_arg17) = m ((c.tc : Thread Cert.AdTinyReferenceIdeal.nD Cert.AdTinyReferenceIdeal.τ).loc Cert.AdTinyReferenceIdeal.main_arg17)
      ∧ r.2.mem ((c.tc : Thread Cert.AdTinyReferenceIdeal.nD Cert.AdTinyReferenceIdeal.τ).loc Cert.AdTinyReferenceIdeal.main_arg18) = m ((c.tc : Thread Cert.AdTinyReferenceIdeal.nD Cert.AdTinyReferenceIdeal.τ).loc Cert.AdTinyReferenceIdeal.main_arg18)
      ∧ r.2.mem ((c.tc : Thread Cert.AdTinyReferenceIdeal.nD Cert.AdTinyReferenceIdeal.τ).loc Cert.AdTinyReferenceIdeal.main_arg19) = m ((c.tc : Thread Cert.AdTinyReferenceIdeal.nD Cert.AdTinyReferenceIdeal.τ).loc Cert.AdTinyReferenceIdeal.main_arg19)
      ∧ r.2.mem ((c.tc : Thread Cert.AdTinyReferenceIdeal.nD Cert.AdTinyReferenceIdeal.τ).loc Cert.AdTinyReferenceIdeal.main_arg20) = m ((c.tc : Thread Cert.AdTinyReferenceIdeal.nD Cert.AdTinyReferenceIdeal.τ).loc Cert.AdTinyReferenceIdeal.main_arg20)
      ∧ r.2.mem ((c.tc : Thread Cert.AdTinyReferenceIdeal.nD Cert.AdTinyReferenceIdeal.τ).loc Cert.AdTinyReferenceIdeal.main_arg21) = m ((c.tc : Thread Cert.AdTinyReferenceIdeal.nD Cert.AdTinyReferenceIdeal.τ).loc Cert.AdTinyReferenceIdeal.main_arg21)
      ∧ r.2.mem ((c.tc : Thread Cert.AdTinyReferenceIdeal.nD Cert.AdTinyReferenceIdeal.τ).loc Cert.AdTinyReferenceIdeal.main_arg22) = m ((c.tc : Thread Cert.AdTinyReferenceIdeal.nD Cert.AdTinyReferenceIdeal.τ).loc Cert.AdTinyReferenceIdeal.main_arg22)
      ∧ r.2.mem ((c.tc : Thread Cert.AdTinyReferenceIdeal.nD Cert.AdTinyReferenceIdeal.τ).loc Cert.AdTinyReferenceIdeal.main_arg23) = m ((c.tc : Thread Cert.AdTinyReferenceIdeal.nD Cert.AdTinyReferenceIdeal.τ).loc Cert.AdTinyReferenceIdeal.main_arg23)
      ∧ r.2.mem ((c.tc : Thread Cert.AdTinyReferenceIdeal.nD Cert.AdTinyReferenceIdeal.τ).loc Cert.AdTinyReferenceIdeal.main_arg24) = m ((c.tc : Thread Cert.AdTinyReferenceIdeal.nD Cert.AdTinyReferenceIdeal.τ).loc Cert.AdTinyReferenceIdeal.main_arg24))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_3)) (v3 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_3) = v2 c
          ∧ r.2.mem ((c.tc : Thread Cert.KernelIdeal.nD Cert.KernelIdeal.τ).loc Cert.KernelIdeal.main_v3_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v160) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_v164) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)) →
    ∃ (v0 : (c : Dev Cert.FfnKernelIdeal.nD) → Buf (Elt Ideal) ((c.tc : Thread Cert.FfnKernelIdeal.nD Cert.FfnKernelIdeal.τ).loc Cert.FfnKernelIdeal.main_v21_0)) (v1 : (c : Dev Cert.FfnKernelIdeal.nD) → Buf (Elt Ideal) ((c.tc : Thread Cert.FfnKernelIdeal.nD Cert.FfnKernelIdeal.τ).loc Cert.FfnKernelIdeal.main_v21_1)) (v2 : (c : Dev Cert.FfnKernelIdeal.nD) → Buf (Elt Ideal) ((c.tc : Thread Cert.FfnKernelIdeal.nD Cert.FfnKernelIdeal.τ).loc Cert.FfnKernelIdeal.main_v21_2)) (v3 : (c : Dev Cert.FfnKernelIdeal.nD) → Buf (Elt Ideal) ((c.tc : Thread Cert.FfnKernelIdeal.nD Cert.FfnKernelIdeal.τ).loc Cert.FfnKernelIdeal.main_v21_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v21_0) = v0 c
          ∧ r.2.mem ((c.tc : Thread Cert.FfnKernelIdeal.nD Cert.FfnKernelIdeal.τ).loc Cert.FfnKernelIdeal.main_v21_1) = v1 c
          ∧ r.2.mem ((c.tc : Thread Cert.FfnKernelIdeal.nD Cert.FfnKernelIdeal.τ).loc Cert.FfnKernelIdeal.main_v21_2) = v2 c
          ∧ r.2.mem ((c.tc : Thread Cert.FfnKernelIdeal.nD Cert.FfnKernelIdeal.τ).loc Cert.FfnKernelIdeal.main_v21_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v79) = v0 c
          ∧ r.2.mem ((c.tc : Thread Cert.FfnReferenceIdeal.nD Cert.FfnReferenceIdeal.τ).loc Cert.FfnReferenceIdeal.main_v52) = v1 c
          ∧ r.2.mem ((c.tc : Thread Cert.FfnReferenceIdeal.nD Cert.FfnReferenceIdeal.τ).loc Cert.FfnReferenceIdeal.main_v80) = v2 c
          ∧ r.2.mem ((c.tc : Thread Cert.FfnReferenceIdeal.nD Cert.FfnReferenceIdeal.τ).loc Cert.FfnReferenceIdeal.main_v82) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_DwFf2_DwFf2Ideal : Prop :=
  True

def algebraic_DwFf2Ideal_DwFf2ReferenceIdeal [hDwFf2Ideal : Cert.DwFf2Ideal.Facts] [hDwFf2ReferenceIdeal : Cert.DwFf2ReferenceIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2ReferenceIdeal.nD Cert.DwFf2ReferenceIdeal.τ Cert.DwFf2ReferenceIdeal.sig) → Buf (Elt Ideal) ℓ) (g' : Dev Cert.DwFf2ReferenceIdeal.nD → PrngReg), Pre_DwFf2Ideal m →
    (∀ c : Dev Cert.DwFf2Ideal.nD,
      m' ((c.tc : Thread Cert.DwFf2ReferenceIdeal.nD Cert.DwFf2ReferenceIdeal.τ).loc Cert.DwFf2ReferenceIdeal.main_arg0) = m ((c.tc : Thread Cert.DwFf2Ideal.nD Cert.DwFf2Ideal.τ).loc Cert.DwFf2Ideal.main_arg0)
      ∧ m' ((c.tc : Thread Cert.DwFf2ReferenceIdeal.nD Cert.DwFf2ReferenceIdeal.τ).loc Cert.DwFf2ReferenceIdeal.main_arg1) = m ((c.tc : Thread Cert.DwFf2Ideal.nD Cert.DwFf2Ideal.τ).loc Cert.DwFf2Ideal.main_arg1)
      ∧ m' ((c.tc : Thread Cert.DwFf2ReferenceIdeal.nD Cert.DwFf2ReferenceIdeal.τ).loc Cert.DwFf2ReferenceIdeal.main_arg2) = m ((c.tc : Thread Cert.DwFf2Ideal.nD Cert.DwFf2Ideal.τ).loc Cert.DwFf2Ideal.main_arg2)) →
    ∃ (v0 : (c : Dev Cert.DwFf2Ideal.nD) → Buf (Elt Ideal) ((c.tc : Thread Cert.DwFf2Ideal.nD Cert.DwFf2Ideal.τ).loc Cert.DwFf2Ideal.main_v3)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v3) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
          ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ θ_run (Cert.DwFf2ReferenceIdeal.defs (F := Ideal)) (onTc (τ := Cert.DwFf2ReferenceIdeal.τ) (Cert.DwFf2ReferenceIdeal.main (F := Ideal))) ⟨m', fun _ => 0, g'⟩ (fun r => ∀ c : Dev Cert.DwFf2ReferenceIdeal.nD,
          r.2.mem ((c.tc : Thread Cert.DwFf2ReferenceIdeal.nD Cert.DwFf2ReferenceIdeal.τ).loc Cert.DwFf2ReferenceIdeal.main_v5) = v0 c
          ∧ r.2.mem ((c.tc : Thread Cert.DwFf2ReferenceIdeal.nD Cert.DwFf2ReferenceIdeal.τ).loc Cert.DwFf2ReferenceIdeal.main_arg0) = m' ((c.tc : Thread Cert.DwFf2ReferenceIdeal.nD Cert.DwFf2ReferenceIdeal.τ).loc Cert.DwFf2ReferenceIdeal.main_arg0)
          ∧ r.2.mem ((c.tc : Thread Cert.DwFf2ReferenceIdeal.nD Cert.DwFf2ReferenceIdeal.τ).loc Cert.DwFf2ReferenceIdeal.main_arg1) = m' ((c.tc : Thread Cert.DwFf2ReferenceIdeal.nD Cert.DwFf2ReferenceIdeal.τ).loc Cert.DwFf2ReferenceIdeal.main_arg1)
          ∧ r.2.mem ((c.tc : Thread Cert.DwFf2ReferenceIdeal.nD Cert.DwFf2ReferenceIdeal.τ).loc Cert.DwFf2ReferenceIdeal.main_arg2) = m' ((c.tc : Thread Cert.DwFf2ReferenceIdeal.nD Cert.DwFf2ReferenceIdeal.τ).loc Cert.DwFf2ReferenceIdeal.main_arg2))

def preserves_DwFf1_DwFf1Ideal : Prop :=
  True

def algebraic_DwFf1Ideal_DwFf1ReferenceIdeal [hDwFf1Ideal : Cert.DwFf1Ideal.Facts] [hDwFf1ReferenceIdeal : Cert.DwFf1ReferenceIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1ReferenceIdeal.nD Cert.DwFf1ReferenceIdeal.τ Cert.DwFf1ReferenceIdeal.sig) → Buf (Elt Ideal) ℓ) (g' : Dev Cert.DwFf1ReferenceIdeal.nD → PrngReg), Pre_DwFf1Ideal m →
    (∀ c : Dev Cert.DwFf1Ideal.nD,
      m' ((c.tc : Thread Cert.DwFf1ReferenceIdeal.nD Cert.DwFf1ReferenceIdeal.τ).loc Cert.DwFf1ReferenceIdeal.main_arg0) = m ((c.tc : Thread Cert.DwFf1Ideal.nD Cert.DwFf1Ideal.τ).loc Cert.DwFf1Ideal.main_arg0)
      ∧ m' ((c.tc : Thread Cert.DwFf1ReferenceIdeal.nD Cert.DwFf1ReferenceIdeal.τ).loc Cert.DwFf1ReferenceIdeal.main_arg1) = m ((c.tc : Thread Cert.DwFf1Ideal.nD Cert.DwFf1Ideal.τ).loc Cert.DwFf1Ideal.main_arg1)
      ∧ m' ((c.tc : Thread Cert.DwFf1ReferenceIdeal.nD Cert.DwFf1ReferenceIdeal.τ).loc Cert.DwFf1ReferenceIdeal.main_arg2) = m ((c.tc : Thread Cert.DwFf1Ideal.nD Cert.DwFf1Ideal.τ).loc Cert.DwFf1Ideal.main_arg2)
      ∧ m' ((c.tc : Thread Cert.DwFf1ReferenceIdeal.nD Cert.DwFf1ReferenceIdeal.τ).loc Cert.DwFf1ReferenceIdeal.main_arg3) = m ((c.tc : Thread Cert.DwFf1Ideal.nD Cert.DwFf1Ideal.τ).loc Cert.DwFf1Ideal.main_arg3)) →
    ∃ (v0 : (c : Dev Cert.DwFf1Ideal.nD) → Buf (Elt Ideal) ((c.tc : Thread Cert.DwFf1Ideal.nD Cert.DwFf1Ideal.τ).loc Cert.DwFf1Ideal.main_v15)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v15) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
          ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2)
          ∧ r.2.mem ((c.tc : Thread Cert.DwFf1Ideal.nD Cert.DwFf1Ideal.τ).loc Cert.DwFf1Ideal.main_arg3) = m ((c.tc : Thread Cert.DwFf1Ideal.nD Cert.DwFf1Ideal.τ).loc Cert.DwFf1Ideal.main_arg3))
      ∧ θ_run (Cert.DwFf1ReferenceIdeal.defs (F := Ideal)) (onTc (τ := Cert.DwFf1ReferenceIdeal.τ) (Cert.DwFf1ReferenceIdeal.main (F := Ideal))) ⟨m', fun _ => 0, g'⟩ (fun r => ∀ c : Dev Cert.DwFf1ReferenceIdeal.nD,
          r.2.mem ((c.tc : Thread Cert.DwFf1ReferenceIdeal.nD Cert.DwFf1ReferenceIdeal.τ).loc Cert.DwFf1ReferenceIdeal.main_v17) = v0 c
          ∧ r.2.mem ((c.tc : Thread Cert.DwFf1ReferenceIdeal.nD Cert.DwFf1ReferenceIdeal.τ).loc Cert.DwFf1ReferenceIdeal.main_arg0) = m' ((c.tc : Thread Cert.DwFf1ReferenceIdeal.nD Cert.DwFf1ReferenceIdeal.τ).loc Cert.DwFf1ReferenceIdeal.main_arg0)
          ∧ r.2.mem ((c.tc : Thread Cert.DwFf1ReferenceIdeal.nD Cert.DwFf1ReferenceIdeal.τ).loc Cert.DwFf1ReferenceIdeal.main_arg1) = m' ((c.tc : Thread Cert.DwFf1ReferenceIdeal.nD Cert.DwFf1ReferenceIdeal.τ).loc Cert.DwFf1ReferenceIdeal.main_arg1)
          ∧ r.2.mem ((c.tc : Thread Cert.DwFf1ReferenceIdeal.nD Cert.DwFf1ReferenceIdeal.τ).loc Cert.DwFf1ReferenceIdeal.main_arg2) = m' ((c.tc : Thread Cert.DwFf1ReferenceIdeal.nD Cert.DwFf1ReferenceIdeal.τ).loc Cert.DwFf1ReferenceIdeal.main_arg2)
          ∧ r.2.mem ((c.tc : Thread Cert.DwFf1ReferenceIdeal.nD Cert.DwFf1ReferenceIdeal.τ).loc Cert.DwFf1ReferenceIdeal.main_arg3) = m' ((c.tc : Thread Cert.DwFf1ReferenceIdeal.nD Cert.DwFf1ReferenceIdeal.τ).loc Cert.DwFf1ReferenceIdeal.main_arg3))

def preserves_DwOut_DwOutIdeal : Prop :=
  True

def algebraic_DwOutIdeal_DwOutReferenceIdeal [hDwOutIdeal : Cert.DwOutIdeal.Facts] [hDwOutReferenceIdeal : Cert.DwOutReferenceIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutReferenceIdeal.nD Cert.DwOutReferenceIdeal.τ Cert.DwOutReferenceIdeal.sig) → Buf (Elt Ideal) ℓ) (g' : Dev Cert.DwOutReferenceIdeal.nD → PrngReg), Pre_DwOutIdeal m →
    (∀ c : Dev Cert.DwOutIdeal.nD,
      m' ((c.tc : Thread Cert.DwOutReferenceIdeal.nD Cert.DwOutReferenceIdeal.τ).loc Cert.DwOutReferenceIdeal.main_arg0) = m ((c.tc : Thread Cert.DwOutIdeal.nD Cert.DwOutIdeal.τ).loc Cert.DwOutIdeal.main_arg0)
      ∧ m' ((c.tc : Thread Cert.DwOutReferenceIdeal.nD Cert.DwOutReferenceIdeal.τ).loc Cert.DwOutReferenceIdeal.main_arg1) = m ((c.tc : Thread Cert.DwOutIdeal.nD Cert.DwOutIdeal.τ).loc Cert.DwOutIdeal.main_arg1)
      ∧ m' ((c.tc : Thread Cert.DwOutReferenceIdeal.nD Cert.DwOutReferenceIdeal.τ).loc Cert.DwOutReferenceIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutReferenceIdeal.defs (F := Ideal)) (onTc (τ := Cert.DwOutReferenceIdeal.τ) (Cert.DwOutReferenceIdeal.main (F := Ideal))) ⟨m', fun _ => 0, g'⟩ (fun r => ∀ c : Dev Cert.DwOutReferenceIdeal.nD,
          r.2.mem ((c.tc : Thread Cert.DwOutReferenceIdeal.nD Cert.DwOutReferenceIdeal.τ).loc Cert.DwOutReferenceIdeal.main_v3) = v0 c
          ∧ r.2.mem ((c.tc : Thread Cert.DwOutReferenceIdeal.nD Cert.DwOutReferenceIdeal.τ).loc Cert.DwOutReferenceIdeal.main_arg0) = m' ((c.tc : Thread Cert.DwOutReferenceIdeal.nD Cert.DwOutReferenceIdeal.τ).loc Cert.DwOutReferenceIdeal.main_arg0)
          ∧ r.2.mem ((c.tc : Thread Cert.DwOutReferenceIdeal.nD Cert.DwOutReferenceIdeal.τ).loc Cert.DwOutReferenceIdeal.main_arg1) = m' ((c.tc : Thread Cert.DwOutReferenceIdeal.nD Cert.DwOutReferenceIdeal.τ).loc Cert.DwOutReferenceIdeal.main_arg1)
          ∧ r.2.mem ((c.tc : Thread Cert.DwOutReferenceIdeal.nD Cert.DwOutReferenceIdeal.τ).loc Cert.DwOutReferenceIdeal.main_arg2) = m' ((c.tc : Thread Cert.DwOutReferenceIdeal.nD Cert.DwOutReferenceIdeal.τ).loc Cert.DwOutReferenceIdeal.main_arg2))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)
      ∧ m' ((c.tc : Thread Cert.DwInReferenceIdeal.nD Cert.DwInReferenceIdeal.τ).loc Cert.DwInReferenceIdeal.main_arg2) = m ((c.tc : Thread Cert.DwInIdeal.nD Cert.DwInIdeal.τ).loc Cert.DwInIdeal.main_arg2)
      ∧ m' ((c.tc : Thread Cert.DwInReferenceIdeal.nD Cert.DwInReferenceIdeal.τ).loc Cert.DwInReferenceIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v14)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v14) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v17) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2)
          ∧ r.2.mem ((c.tc : Thread Cert.DwInReferenceIdeal.nD Cert.DwInReferenceIdeal.τ).loc Cert.DwInReferenceIdeal.main_arg3) = m' ((c.tc : Thread Cert.DwInReferenceIdeal.nD Cert.DwInReferenceIdeal.τ).loc Cert.DwInReferenceIdeal.main_arg3))

def preserves_ProjBwd_ProjBwdIdeal : Prop :=
  True

def algebraic_ProjBwdIdeal_ProjBwdReferenceIdeal_pre_proj_finite [hProjBwdIdeal : Cert.ProjBwdIdeal.Facts] [hProjBwdReferenceIdeal : Cert.ProjBwdReferenceIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdReferenceIdeal.nD Cert.ProjBwdReferenceIdeal.τ Cert.ProjBwdReferenceIdeal.sig) → Buf (Elt Ideal) ℓ) (g' : Dev Cert.ProjBwdReferenceIdeal.nD → PrngReg), Pre_ProjBwdIdeal_proj_finite m →
    (∀ c : Dev Cert.ProjBwdIdeal.nD,
      m' ((c.tc : Thread Cert.ProjBwdReferenceIdeal.nD Cert.ProjBwdReferenceIdeal.τ).loc Cert.ProjBwdReferenceIdeal.main_arg0) = m ((c.tc : Thread Cert.ProjBwdIdeal.nD Cert.ProjBwdIdeal.τ).loc Cert.ProjBwdIdeal.main_arg0)
      ∧ m' ((c.tc : Thread Cert.ProjBwdReferenceIdeal.nD Cert.ProjBwdReferenceIdeal.τ).loc Cert.ProjBwdReferenceIdeal.main_arg1) = m ((c.tc : Thread Cert.ProjBwdIdeal.nD Cert.ProjBwdIdeal.τ).loc Cert.ProjBwdIdeal.main_arg1)
      ∧ m' ((c.tc : Thread Cert.ProjBwdReferenceIdeal.nD Cert.ProjBwdReferenceIdeal.τ).loc Cert.ProjBwdReferenceIdeal.main_arg2) = m ((c.tc : Thread Cert.ProjBwdIdeal.nD Cert.ProjBwdIdeal.τ).loc Cert.ProjBwdIdeal.main_arg2)
      ∧ m' ((c.tc : Thread Cert.ProjBwdReferenceIdeal.nD Cert.ProjBwdReferenceIdeal.τ).loc Cert.ProjBwdReferenceIdeal.main_arg3) = m ((c.tc : Thread Cert.ProjBwdIdeal.nD Cert.ProjBwdIdeal.τ).loc Cert.ProjBwdIdeal.main_arg3)
      ∧ m' ((c.tc : Thread Cert.ProjBwdReferenceIdeal.nD Cert.ProjBwdReferenceIdeal.τ).loc Cert.ProjBwdReferenceIdeal.main_arg4) = m ((c.tc : Thread Cert.ProjBwdIdeal.nD Cert.ProjBwdIdeal.τ).loc Cert.ProjBwdIdeal.main_arg4)) →
    ∃ (v0 : (c : Dev Cert.ProjBwdIdeal.nD) → Buf (Elt Ideal) ((c.tc : Thread Cert.ProjBwdIdeal.nD Cert.ProjBwdIdeal.τ).loc Cert.ProjBwdIdeal.main_v3_0)) (v1 : (c : Dev Cert.ProjBwdIdeal.nD) → Buf (Elt Ideal) ((c.tc : Thread Cert.ProjBwdIdeal.nD Cert.ProjBwdIdeal.τ).loc Cert.ProjBwdIdeal.main_v3_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v3_0) = v0 c
          ∧ r.2.mem ((c.tc : Thread Cert.ProjBwdIdeal.nD Cert.ProjBwdIdeal.τ).loc Cert.ProjBwdIdeal.main_v3_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4))
      ∧ θ_run (Cert.ProjBwdReferenceIdeal.defs (F := Ideal)) (onTc (τ := Cert.ProjBwdReferenceIdeal.τ) (Cert.ProjBwdReferenceIdeal.main (F := Ideal))) ⟨m', fun _ => 0, g'⟩ (fun r => ∀ c : Dev Cert.ProjBwdReferenceIdeal.nD,
          r.2.mem ((c.tc : Thread Cert.ProjBwdReferenceIdeal.nD Cert.ProjBwdReferenceIdeal.τ).loc Cert.ProjBwdReferenceIdeal.main_v38) = v0 c
          ∧ r.2.mem ((c.tc : Thread Cert.ProjBwdReferenceIdeal.nD Cert.ProjBwdReferenceIdeal.τ).loc Cert.ProjBwdReferenceIdeal.main_v40) = v1 c
          ∧ r.2.mem ((c.tc : Thread Cert.ProjBwdReferenceIdeal.nD Cert.ProjBwdReferenceIdeal.τ).loc Cert.ProjBwdReferenceIdeal.main_arg0) = m' ((c.tc : Thread Cert.ProjBwdReferenceIdeal.nD Cert.ProjBwdReferenceIdeal.τ).loc Cert.ProjBwdReferenceIdeal.main_arg0)
          ∧ r.2.mem ((c.tc : Thread Cert.ProjBwdReferenceIdeal.nD Cert.ProjBwdReferenceIdeal.τ).loc Cert.ProjBwdReferenceIdeal.main_arg1) = m' ((c.tc : Thread Cert.ProjBwdReferenceIdeal.nD Cert.ProjBwdReferenceIdeal.τ).loc Cert.ProjBwdReferenceIdeal.main_arg1)
          ∧ r.2.mem ((c.tc : Thread Cert.ProjBwdReferenceIdeal.nD Cert.ProjBwdReferenceIdeal.τ).loc Cert.ProjBwdReferenceIdeal.main_arg2) = m' ((c.tc : Thread Cert.ProjBwdReferenceIdeal.nD Cert.ProjBwdReferenceIdeal.τ).loc Cert.ProjBwdReferenceIdeal.main_arg2)
          ∧ r.2.mem ((c.tc : Thread Cert.ProjBwdReferenceIdeal.nD Cert.ProjBwdReferenceIdeal.τ).loc Cert.ProjBwdReferenceIdeal.main_arg3) = m' ((c.tc : Thread Cert.ProjBwdReferenceIdeal.nD Cert.ProjBwdReferenceIdeal.τ).loc Cert.ProjBwdReferenceIdeal.main_arg3)
          ∧ r.2.mem ((c.tc : Thread Cert.ProjBwdReferenceIdeal.nD Cert.ProjBwdReferenceIdeal.τ).loc Cert.ProjBwdReferenceIdeal.main_arg4) = m' ((c.tc : Thread Cert.ProjBwdReferenceIdeal.nD Cert.ProjBwdReferenceIdeal.τ).loc Cert.ProjBwdReferenceIdeal.main_arg4))

def preserves_OutBwd_OutBwdIdeal : Prop :=
  True

def algebraic_OutBwdIdeal_OutBwdReferenceIdeal_pre_out_finite [hOutBwdIdeal : Cert.OutBwdIdeal.Facts] [hOutBwdReferenceIdeal : Cert.OutBwdReferenceIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdReferenceIdeal.nD Cert.OutBwdReferenceIdeal.τ Cert.OutBwdReferenceIdeal.sig) → Buf (Elt Ideal) ℓ) (g' : Dev Cert.OutBwdReferenceIdeal.nD → PrngReg), Pre_OutBwdIdeal_out_finite m →
    (∀ c : Dev Cert.OutBwdIdeal.nD,
      m' ((c.tc : Thread Cert.OutBwdReferenceIdeal.nD Cert.OutBwdReferenceIdeal.τ).loc Cert.OutBwdReferenceIdeal.main_arg0) = m ((c.tc : Thread Cert.OutBwdIdeal.nD Cert.OutBwdIdeal.τ).loc Cert.OutBwdIdeal.main_arg0)
      ∧ m' ((c.tc : Thread Cert.OutBwdReferenceIdeal.nD Cert.OutBwdReferenceIdeal.τ).loc Cert.OutBwdReferenceIdeal.main_arg1) = m ((c.tc : Thread Cert.OutBwdIdeal.nD Cert.OutBwdIdeal.τ).loc Cert.OutBwdIdeal.main_arg1)
      ∧ m' ((c.tc : Thread Cert.OutBwdReferenceIdeal.nD Cert.OutBwdReferenceIdeal.τ).loc Cert.OutBwdReferenceIdeal.main_arg2) = m ((c.tc : Thread Cert.OutBwdIdeal.nD Cert.OutBwdIdeal.τ).loc Cert.OutBwdIdeal.main_arg2)
      ∧ m' ((c.tc : Thread Cert.OutBwdReferenceIdeal.nD Cert.OutBwdReferenceIdeal.τ).loc Cert.OutBwdReferenceIdeal.main_arg3) = m ((c.tc : Thread Cert.OutBwdIdeal.nD Cert.OutBwdIdeal.τ).loc Cert.OutBwdIdeal.main_arg3)
      ∧ m' ((c.tc : Thread Cert.OutBwdReferenceIdeal.nD Cert.OutBwdReferenceIdeal.τ).loc Cert.OutBwdReferenceIdeal.main_arg4) = m ((c.tc : Thread Cert.OutBwdIdeal.nD Cert.OutBwdIdeal.τ).loc Cert.OutBwdIdeal.main_arg4)
      ∧ m' ((c.tc : Thread Cert.OutBwdReferenceIdeal.nD Cert.OutBwdReferenceIdeal.τ).loc Cert.OutBwdReferenceIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v4_0)) (v1 : (c : Dev Cert.OutBwdIdeal.nD) → Buf (Elt Ideal) ((c.tc : Thread Cert.OutBwdIdeal.nD Cert.OutBwdIdeal.τ).loc Cert.OutBwdIdeal.main_v4_1)) (v2 : (c : Dev Cert.OutBwdIdeal.nD) → Buf (Elt Ideal) ((c.tc : Thread Cert.OutBwdIdeal.nD Cert.OutBwdIdeal.τ).loc Cert.OutBwdIdeal.main_v4_2)) (v3 : (c : Dev Cert.OutBwdIdeal.nD) → Buf (Elt Ideal) ((c.tc : Thread Cert.OutBwdIdeal.nD Cert.OutBwdIdeal.τ).loc Cert.OutBwdIdeal.main_v4_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v4_0) = v0 c
          ∧ r.2.mem ((c.tc : Thread Cert.OutBwdIdeal.nD Cert.OutBwdIdeal.τ).loc Cert.OutBwdIdeal.main_v4_1) = v1 c
          ∧ r.2.mem ((c.tc : Thread Cert.OutBwdIdeal.nD Cert.OutBwdIdeal.τ).loc Cert.OutBwdIdeal.main_v4_2) = v2 c
          ∧ r.2.mem ((c.tc : Thread Cert.OutBwdIdeal.nD Cert.OutBwdIdeal.τ).loc Cert.OutBwdIdeal.main_v4_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdReferenceIdeal.defs (F := Ideal)) (onTc (τ := Cert.OutBwdReferenceIdeal.τ) (Cert.OutBwdReferenceIdeal.main (F := Ideal))) ⟨m', fun _ => 0, g'⟩ (fun r => ∀ c : Dev Cert.OutBwdReferenceIdeal.nD,
          r.2.mem ((c.tc : Thread Cert.OutBwdReferenceIdeal.nD Cert.OutBwdReferenceIdeal.τ).loc Cert.OutBwdReferenceIdeal.main_v76) = v0 c
          ∧ r.2.mem ((c.tc : Thread Cert.OutBwdReferenceIdeal.nD Cert.OutBwdReferenceIdeal.τ).loc Cert.OutBwdReferenceIdeal.main_v56) = v1 c
          ∧ r.2.mem ((c.tc : Thread Cert.OutBwdReferenceIdeal.nD Cert.OutBwdReferenceIdeal.τ).loc Cert.OutBwdReferenceIdeal.main_v78) = v2 c
          ∧ r.2.mem ((c.tc : Thread Cert.OutBwdReferenceIdeal.nD Cert.OutBwdReferenceIdeal.τ).loc Cert.OutBwdReferenceIdeal.main_v80) = v3 c
          ∧ r.2.mem ((c.tc : Thread Cert.OutBwdReferenceIdeal.nD Cert.OutBwdReferenceIdeal.τ).loc Cert.OutBwdReferenceIdeal.main_arg0) = m' ((c.tc : Thread Cert.OutBwdReferenceIdeal.nD Cert.OutBwdReferenceIdeal.τ).loc Cert.OutBwdReferenceIdeal.main_arg0)
          ∧ r.2.mem ((c.tc : Thread Cert.OutBwdReferenceIdeal.nD Cert.OutBwdReferenceIdeal.τ).loc Cert.OutBwdReferenceIdeal.main_arg1) = m' ((c.tc : Thread Cert.OutBwdReferenceIdeal.nD Cert.OutBwdReferenceIdeal.τ).loc Cert.OutBwdReferenceIdeal.main_arg1)
          ∧ r.2.mem ((c.tc : Thread Cert.OutBwdReferenceIdeal.nD Cert.OutBwdReferenceIdeal.τ).loc Cert.OutBwdReferenceIdeal.main_arg2) = m' ((c.tc : Thread Cert.OutBwdReferenceIdeal.nD Cert.OutBwdReferenceIdeal.τ).loc Cert.OutBwdReferenceIdeal.main_arg2)
          ∧ r.2.mem ((c.tc : Thread Cert.OutBwdReferenceIdeal.nD Cert.OutBwdReferenceIdeal.τ).loc Cert.OutBwdReferenceIdeal.main_arg3) = m' ((c.tc : Thread Cert.OutBwdReferenceIdeal.nD Cert.OutBwdReferenceIdeal.τ).loc Cert.OutBwdReferenceIdeal.main_arg3)
          ∧ r.2.mem ((c.tc : Thread Cert.OutBwdReferenceIdeal.nD Cert.OutBwdReferenceIdeal.τ).loc Cert.OutBwdReferenceIdeal.main_arg4) = m' ((c.tc : Thread Cert.OutBwdReferenceIdeal.nD Cert.OutBwdReferenceIdeal.τ).loc Cert.OutBwdReferenceIdeal.main_arg4)
          ∧ r.2.mem ((c.tc : Thread Cert.OutBwdReferenceIdeal.nD Cert.OutBwdReferenceIdeal.τ).loc Cert.OutBwdReferenceIdeal.main_arg5) = m' ((c.tc : Thread Cert.OutBwdReferenceIdeal.nD Cert.OutBwdReferenceIdeal.τ).loc Cert.OutBwdReferenceIdeal.main_arg5))

def preserves_FfnFwd_FfnFwdIdeal : Prop :=
  True

def algebraic_FfnFwdIdeal_FfnFwdReferenceIdeal_pre_fwd_finite [hFfnFwdIdeal : Cert.FfnFwdIdeal.Facts] [hFfnFwdReferenceIdeal : Cert.FfnFwdReferenceIdeal.Facts] [hPre_fwd_finite : Cert.Pre_fwd_finite.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal_fwd_finite m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)
      ∧ m' ((c.tc : Thread Cert.FfnFwdReferenceIdeal.nD Cert.FfnFwdReferenceIdeal.τ).loc Cert.FfnFwdReferenceIdeal.main_arg4) = m ((c.tc : Thread Cert.FfnFwdIdeal.nD Cert.FfnFwdIdeal.τ).loc Cert.FfnFwdIdeal.main_arg4)
      ∧ m' ((c.tc : Thread Cert.FfnFwdReferenceIdeal.nD Cert.FfnFwdReferenceIdeal.τ).loc Cert.FfnFwdReferenceIdeal.main_arg5) = m ((c.tc : Thread Cert.FfnFwdIdeal.nD Cert.FfnFwdIdeal.τ).loc Cert.FfnFwdIdeal.main_arg5)) →
    ∃ (v0 : (c : Dev Cert.FfnFwdIdeal.nD) → Buf (Elt Ideal) ((c.tc : Thread Cert.FfnFwdIdeal.nD Cert.FfnFwdIdeal.τ).loc Cert.FfnFwdIdeal.main_v18_0)) (v1 : (c : Dev Cert.FfnFwdIdeal.nD) → Buf (Elt Ideal) ((c.tc : Thread Cert.FfnFwdIdeal.nD Cert.FfnFwdIdeal.τ).loc Cert.FfnFwdIdeal.main_v18_1)) (v2 : (c : Dev Cert.FfnFwdIdeal.nD) → Buf (Elt Ideal) ((c.tc : Thread Cert.FfnFwdIdeal.nD Cert.FfnFwdIdeal.τ).loc Cert.FfnFwdIdeal.main_v18_2)) (v3 : (c : Dev Cert.FfnFwdIdeal.nD) → Buf (Elt Ideal) ((c.tc : Thread Cert.FfnFwdIdeal.nD Cert.FfnFwdIdeal.τ).loc Cert.FfnFwdIdeal.main_v18_3)) (v4 : (c : Dev Cert.FfnFwdIdeal.nD) → Buf (Elt Ideal) ((c.tc : Thread Cert.FfnFwdIdeal.nD Cert.FfnFwdIdeal.τ).loc Cert.FfnFwdIdeal.main_v18_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v18_0) = v0 c
          ∧ r.2.mem ((c.tc : Thread Cert.FfnFwdIdeal.nD Cert.FfnFwdIdeal.τ).loc Cert.FfnFwdIdeal.main_v18_1) = v1 c
          ∧ r.2.mem ((c.tc : Thread Cert.FfnFwdIdeal.nD Cert.FfnFwdIdeal.τ).loc Cert.FfnFwdIdeal.main_v18_2) = v2 c
          ∧ r.2.mem ((c.tc : Thread Cert.FfnFwdIdeal.nD Cert.FfnFwdIdeal.τ).loc Cert.FfnFwdIdeal.main_v18_3) = v3 c
          ∧ r.2.mem ((c.tc : Thread Cert.FfnFwdIdeal.nD Cert.FfnFwdIdeal.τ).loc Cert.FfnFwdIdeal.main_v18_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v84) = v0 c
          ∧ r.2.mem ((c.tc : Thread Cert.FfnFwdReferenceIdeal.nD Cert.FfnFwdReferenceIdeal.τ).loc Cert.FfnFwdReferenceIdeal.main_v83) = v1 c
          ∧ r.2.mem ((c.tc : Thread Cert.FfnFwdReferenceIdeal.nD Cert.FfnFwdReferenceIdeal.τ).loc Cert.FfnFwdReferenceIdeal.main_v85) = v2 c
          ∧ r.2.mem ((c.tc : Thread Cert.FfnFwdReferenceIdeal.nD Cert.FfnFwdReferenceIdeal.τ).loc Cert.FfnFwdReferenceIdeal.main_v86) = v3 c
          ∧ r.2.mem ((c.tc : Thread Cert.FfnFwdReferenceIdeal.nD Cert.FfnFwdReferenceIdeal.τ).loc Cert.FfnFwdReferenceIdeal.main_v88) = v4 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3)
          ∧ r.2.mem ((c.tc : Thread Cert.FfnFwdReferenceIdeal.nD Cert.FfnFwdReferenceIdeal.τ).loc Cert.FfnFwdReferenceIdeal.main_arg4) = m' ((c.tc : Thread Cert.FfnFwdReferenceIdeal.nD Cert.FfnFwdReferenceIdeal.τ).loc Cert.FfnFwdReferenceIdeal.main_arg4)
          ∧ r.2.mem ((c.tc : Thread Cert.FfnFwdReferenceIdeal.nD Cert.FfnFwdReferenceIdeal.τ).loc Cert.FfnFwdReferenceIdeal.main_arg5) = m' ((c.tc : Thread Cert.FfnFwdReferenceIdeal.nD Cert.FfnFwdReferenceIdeal.τ).loc Cert.FfnFwdReferenceIdeal.main_arg5))

def preserves_ProjFwd_ProjFwdIdeal : Prop :=
  True

def algebraic_ProjFwdIdeal_ProjFwdReferenceIdeal [hProjFwdIdeal : Cert.ProjFwdIdeal.Facts] [hProjFwdReferenceIdeal : Cert.ProjFwdReferenceIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdReferenceIdeal.nD Cert.ProjFwdReferenceIdeal.τ Cert.ProjFwdReferenceIdeal.sig) → Buf (Elt Ideal) ℓ) (g' : Dev Cert.ProjFwdReferenceIdeal.nD → PrngReg), Pre_ProjFwdIdeal m →
    (∀ c : Dev Cert.ProjFwdIdeal.nD,
      m' ((c.tc : Thread Cert.ProjFwdReferenceIdeal.nD Cert.ProjFwdReferenceIdeal.τ).loc Cert.ProjFwdReferenceIdeal.main_arg0) = m ((c.tc : Thread Cert.ProjFwdIdeal.nD Cert.ProjFwdIdeal.τ).loc Cert.ProjFwdIdeal.main_arg0)
      ∧ m' ((c.tc : Thread Cert.ProjFwdReferenceIdeal.nD Cert.ProjFwdReferenceIdeal.τ).loc Cert.ProjFwdReferenceIdeal.main_arg1) = m ((c.tc : Thread Cert.ProjFwdIdeal.nD Cert.ProjFwdIdeal.τ).loc Cert.ProjFwdIdeal.main_arg1)
      ∧ m' ((c.tc : Thread Cert.ProjFwdReferenceIdeal.nD Cert.ProjFwdReferenceIdeal.τ).loc Cert.ProjFwdReferenceIdeal.main_arg2) = m ((c.tc : Thread Cert.ProjFwdIdeal.nD Cert.ProjFwdIdeal.τ).loc Cert.ProjFwdIdeal.main_arg2)) →
    ∃ (v0 : (c : Dev Cert.ProjFwdIdeal.nD) → Buf (Elt Ideal) ((c.tc : Thread Cert.ProjFwdIdeal.nD Cert.ProjFwdIdeal.τ).loc Cert.ProjFwdIdeal.main_v3_0)) (v1 : (c : Dev Cert.ProjFwdIdeal.nD) → Buf (Elt Ideal) ((c.tc : Thread Cert.ProjFwdIdeal.nD Cert.ProjFwdIdeal.τ).loc Cert.ProjFwdIdeal.main_v3_1)) (v2 : (c : Dev Cert.ProjFwdIdeal.nD) → Buf (Elt Ideal) ((c.tc : Thread Cert.ProjFwdIdeal.nD Cert.ProjFwdIdeal.τ).loc Cert.ProjFwdIdeal.main_v3_2)) (v3 : (c : Dev Cert.ProjFwdIdeal.nD) → Buf (Elt Ideal) ((c.tc : Thread Cert.ProjFwdIdeal.nD Cert.ProjFwdIdeal.τ).loc Cert.ProjFwdIdeal.main_v3_3)) (v4 : (c : Dev Cert.ProjFwdIdeal.nD) → Buf (Elt Ideal) ((c.tc : Thread Cert.ProjFwdIdeal.nD Cert.ProjFwdIdeal.τ).loc Cert.ProjFwdIdeal.main_v3_4)) (v5 : (c : Dev Cert.ProjFwdIdeal.nD) → Buf (Elt Ideal) ((c.tc : Thread Cert.ProjFwdIdeal.nD Cert.ProjFwdIdeal.τ).loc Cert.ProjFwdIdeal.main_v3_5)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v3_0) = v0 c
          ∧ r.2.mem ((c.tc : Thread Cert.ProjFwdIdeal.nD Cert.ProjFwdIdeal.τ).loc Cert.ProjFwdIdeal.main_v3_1) = v1 c
          ∧ r.2.mem ((c.tc : Thread Cert.ProjFwdIdeal.nD Cert.ProjFwdIdeal.τ).loc Cert.ProjFwdIdeal.main_v3_2) = v2 c
          ∧ r.2.mem ((c.tc : Thread Cert.ProjFwdIdeal.nD Cert.ProjFwdIdeal.τ).loc Cert.ProjFwdIdeal.main_v3_3) = v3 c
          ∧ r.2.mem ((c.tc : Thread Cert.ProjFwdIdeal.nD Cert.ProjFwdIdeal.τ).loc Cert.ProjFwdIdeal.main_v3_4) = v4 c
          ∧ r.2.mem ((c.tc : Thread Cert.ProjFwdIdeal.nD Cert.ProjFwdIdeal.τ).loc Cert.ProjFwdIdeal.main_v3_5) = v5 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2))
      ∧ θ_run (Cert.ProjFwdReferenceIdeal.defs (F := Ideal)) (onTc (τ := Cert.ProjFwdReferenceIdeal.τ) (Cert.ProjFwdReferenceIdeal.main (F := Ideal))) ⟨m', fun _ => 0, g'⟩ (fun r => ∀ c : Dev Cert.ProjFwdReferenceIdeal.nD,
          r.2.mem ((c.tc : Thread Cert.ProjFwdReferenceIdeal.nD Cert.ProjFwdReferenceIdeal.τ).loc Cert.ProjFwdReferenceIdeal.main_v19) = v0 c
          ∧ r.2.mem ((c.tc : Thread Cert.ProjFwdReferenceIdeal.nD Cert.ProjFwdReferenceIdeal.τ).loc Cert.ProjFwdReferenceIdeal.main_v21) = v1 c
          ∧ r.2.mem ((c.tc : Thread Cert.ProjFwdReferenceIdeal.nD Cert.ProjFwdReferenceIdeal.τ).loc Cert.ProjFwdReferenceIdeal.main_v23) = v2 c
          ∧ r.2.mem ((c.tc : Thread Cert.ProjFwdReferenceIdeal.nD Cert.ProjFwdReferenceIdeal.τ).loc Cert.ProjFwdReferenceIdeal.main_v16) = v3 c
          ∧ r.2.mem ((c.tc : Thread Cert.ProjFwdReferenceIdeal.nD Cert.ProjFwdReferenceIdeal.τ).loc Cert.ProjFwdReferenceIdeal.main_v17) = v4 c
          ∧ r.2.mem ((c.tc : Thread Cert.ProjFwdReferenceIdeal.nD Cert.ProjFwdReferenceIdeal.τ).loc Cert.ProjFwdReferenceIdeal.main_v18) = v5 c
          ∧ r.2.mem ((c.tc : Thread Cert.ProjFwdReferenceIdeal.nD Cert.ProjFwdReferenceIdeal.τ).loc Cert.ProjFwdReferenceIdeal.main_arg0) = m' ((c.tc : Thread Cert.ProjFwdReferenceIdeal.nD Cert.ProjFwdReferenceIdeal.τ).loc Cert.ProjFwdReferenceIdeal.main_arg0)
          ∧ r.2.mem ((c.tc : Thread Cert.ProjFwdReferenceIdeal.nD Cert.ProjFwdReferenceIdeal.τ).loc Cert.ProjFwdReferenceIdeal.main_arg1) = m' ((c.tc : Thread Cert.ProjFwdReferenceIdeal.nD Cert.ProjFwdReferenceIdeal.τ).loc Cert.ProjFwdReferenceIdeal.main_arg1)
          ∧ r.2.mem ((c.tc : Thread Cert.ProjFwdReferenceIdeal.nD Cert.ProjFwdReferenceIdeal.τ).loc Cert.ProjFwdReferenceIdeal.main_arg2) = m' ((c.tc : Thread Cert.ProjFwdReferenceIdeal.nD Cert.ProjFwdReferenceIdeal.τ).loc Cert.ProjFwdReferenceIdeal.main_arg2))

def preserves_OutFwd_OutFwdIdeal : Prop :=
  True

def algebraic_OutFwdIdeal_OutFwdReferenceIdeal [hOutFwdIdeal : Cert.OutFwdIdeal.Facts] [hOutFwdReferenceIdeal : Cert.OutFwdReferenceIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdReferenceIdeal.nD Cert.OutFwdReferenceIdeal.τ Cert.OutFwdReferenceIdeal.sig) → Buf (Elt Ideal) ℓ) (g' : Dev Cert.OutFwdReferenceIdeal.nD → PrngReg), Pre_OutFwdIdeal m →
    (∀ c : Dev Cert.OutFwdIdeal.nD,
      m' ((c.tc : Thread Cert.OutFwdReferenceIdeal.nD Cert.OutFwdReferenceIdeal.τ).loc Cert.OutFwdReferenceIdeal.main_arg0) = m ((c.tc : Thread Cert.OutFwdIdeal.nD Cert.OutFwdIdeal.τ).loc Cert.OutFwdIdeal.main_arg0)
      ∧ m' ((c.tc : Thread Cert.OutFwdReferenceIdeal.nD Cert.OutFwdReferenceIdeal.τ).loc Cert.OutFwdReferenceIdeal.main_arg1) = m ((c.tc : Thread Cert.OutFwdIdeal.nD Cert.OutFwdIdeal.τ).loc Cert.OutFwdIdeal.main_arg1)
      ∧ m' ((c.tc : Thread Cert.OutFwdReferenceIdeal.nD Cert.OutFwdReferenceIdeal.τ).loc Cert.OutFwdReferenceIdeal.main_arg2) = m ((c.tc : Thread Cert.OutFwdIdeal.nD Cert.OutFwdIdeal.τ).loc Cert.OutFwdIdeal.main_arg2)
      ∧ m' ((c.tc : Thread Cert.OutFwdReferenceIdeal.nD Cert.OutFwdReferenceIdeal.τ).loc Cert.OutFwdReferenceIdeal.main_arg3) = m ((c.tc : Thread Cert.OutFwdIdeal.nD Cert.OutFwdIdeal.τ).loc Cert.OutFwdIdeal.main_arg3)
      ∧ m' ((c.tc : Thread Cert.OutFwdReferenceIdeal.nD Cert.OutFwdReferenceIdeal.τ).loc Cert.OutFwdReferenceIdeal.main_arg4) = m ((c.tc : Thread Cert.OutFwdIdeal.nD Cert.OutFwdIdeal.τ).loc Cert.OutFwdIdeal.main_arg4)
      ∧ m' ((c.tc : Thread Cert.OutFwdReferenceIdeal.nD Cert.OutFwdReferenceIdeal.τ).loc Cert.OutFwdReferenceIdeal.main_arg5) = m ((c.tc : Thread Cert.OutFwdIdeal.nD Cert.OutFwdIdeal.τ).loc Cert.OutFwdIdeal.main_arg5)
      ∧ m' ((c.tc : Thread Cert.OutFwdReferenceIdeal.nD Cert.OutFwdReferenceIdeal.τ).loc Cert.OutFwdReferenceIdeal.main_arg6) = m ((c.tc : Thread Cert.OutFwdIdeal.nD Cert.OutFwdIdeal.τ).loc Cert.OutFwdIdeal.main_arg6)) →
    ∃ (v0 : (c : Dev Cert.OutFwdIdeal.nD) → Buf (Elt Ideal) ((c.tc : Thread Cert.OutFwdIdeal.nD Cert.OutFwdIdeal.τ).loc Cert.OutFwdIdeal.main_v4_0)) (v1 : (c : Dev Cert.OutFwdIdeal.nD) → Buf (Elt Ideal) ((c.tc : Thread Cert.OutFwdIdeal.nD Cert.OutFwdIdeal.τ).loc Cert.OutFwdIdeal.main_v4_1)) (v2 : (c : Dev Cert.OutFwdIdeal.nD) → Buf (Elt Ideal) ((c.tc : Thread Cert.OutFwdIdeal.nD Cert.OutFwdIdeal.τ).loc Cert.OutFwdIdeal.main_v4_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v4_0) = v0 c
          ∧ r.2.mem ((c.tc : Thread Cert.OutFwdIdeal.nD Cert.OutFwdIdeal.τ).loc Cert.OutFwdIdeal.main_v4_1) = v1 c
          ∧ r.2.mem ((c.tc : Thread Cert.OutFwdIdeal.nD Cert.OutFwdIdeal.τ).loc Cert.OutFwdIdeal.main_v4_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5)
          ∧ r.2.mem ((c.tc : Thread Cert.OutFwdIdeal.nD Cert.OutFwdIdeal.τ).loc Cert.OutFwdIdeal.main_arg6) = m ((c.tc : Thread Cert.OutFwdIdeal.nD Cert.OutFwdIdeal.τ).loc Cert.OutFwdIdeal.main_arg6))
      ∧ θ_run (Cert.OutFwdReferenceIdeal.defs (F := Ideal)) (onTc (τ := Cert.OutFwdReferenceIdeal.τ) (Cert.OutFwdReferenceIdeal.main (F := Ideal))) ⟨m', fun _ => 0, g'⟩ (fun r => ∀ c : Dev Cert.OutFwdReferenceIdeal.nD,
          r.2.mem ((c.tc : Thread Cert.OutFwdReferenceIdeal.nD Cert.OutFwdReferenceIdeal.τ).loc Cert.OutFwdReferenceIdeal.main_v29) = v0 c
          ∧ r.2.mem ((c.tc : Thread Cert.OutFwdReferenceIdeal.nD Cert.OutFwdReferenceIdeal.τ).loc Cert.OutFwdReferenceIdeal.main_v28) = v1 c
          ∧ r.2.mem ((c.tc : Thread Cert.OutFwdReferenceIdeal.nD Cert.OutFwdReferenceIdeal.τ).loc Cert.OutFwdReferenceIdeal.main_v43) = v2 c
          ∧ r.2.mem ((c.tc : Thread Cert.OutFwdReferenceIdeal.nD Cert.OutFwdReferenceIdeal.τ).loc Cert.OutFwdReferenceIdeal.main_arg0) = m' ((c.tc : Thread Cert.OutFwdReferenceIdeal.nD Cert.OutFwdReferenceIdeal.τ).loc Cert.OutFwdReferenceIdeal.main_arg0)
          ∧ r.2.mem ((c.tc : Thread Cert.OutFwdReferenceIdeal.nD Cert.OutFwdReferenceIdeal.τ).loc Cert.OutFwdReferenceIdeal.main_arg1) = m' ((c.tc : Thread Cert.OutFwdReferenceIdeal.nD Cert.OutFwdReferenceIdeal.τ).loc Cert.OutFwdReferenceIdeal.main_arg1)
          ∧ r.2.mem ((c.tc : Thread Cert.OutFwdReferenceIdeal.nD Cert.OutFwdReferenceIdeal.τ).loc Cert.OutFwdReferenceIdeal.main_arg2) = m' ((c.tc : Thread Cert.OutFwdReferenceIdeal.nD Cert.OutFwdReferenceIdeal.τ).loc Cert.OutFwdReferenceIdeal.main_arg2)
          ∧ r.2.mem ((c.tc : Thread Cert.OutFwdReferenceIdeal.nD Cert.OutFwdReferenceIdeal.τ).loc Cert.OutFwdReferenceIdeal.main_arg3) = m' ((c.tc : Thread Cert.OutFwdReferenceIdeal.nD Cert.OutFwdReferenceIdeal.τ).loc Cert.OutFwdReferenceIdeal.main_arg3)
          ∧ r.2.mem ((c.tc : Thread Cert.OutFwdReferenceIdeal.nD Cert.OutFwdReferenceIdeal.τ).loc Cert.OutFwdReferenceIdeal.main_arg4) = m' ((c.tc : Thread Cert.OutFwdReferenceIdeal.nD Cert.OutFwdReferenceIdeal.τ).loc Cert.OutFwdReferenceIdeal.main_arg4)
          ∧ r.2.mem ((c.tc : Thread Cert.OutFwdReferenceIdeal.nD Cert.OutFwdReferenceIdeal.τ).loc Cert.OutFwdReferenceIdeal.main_arg5) = m' ((c.tc : Thread Cert.OutFwdReferenceIdeal.nD Cert.OutFwdReferenceIdeal.τ).loc Cert.OutFwdReferenceIdeal.main_arg5)
          ∧ r.2.mem ((c.tc : Thread Cert.OutFwdReferenceIdeal.nD Cert.OutFwdReferenceIdeal.τ).loc Cert.OutFwdReferenceIdeal.main_arg6) = m' ((c.tc : Thread Cert.OutFwdReferenceIdeal.nD Cert.OutFwdReferenceIdeal.τ).loc Cert.OutFwdReferenceIdeal.main_arg6))

def preserves_AdIn_AdInIdeal : Prop :=
  True

def algebraic_AdInIdeal_AdInReferenceIdeal [hAdInIdeal : Cert.AdInIdeal.Facts] [hAdInReferenceIdeal : Cert.AdInReferenceIdeal.Facts] : Prop :=
  ∀ (m : (ℓ : Loc Cert.AdInIdeal.nD Cert.AdInIdeal.τ Cert.AdInIdeal.sig) → Buf (Elt Ideal) ℓ) (g : Dev Cert.AdInIdeal.nD → PrngReg)
    (m' : (ℓ : Loc Cert.AdInReferenceIdeal.nD Cert.AdInReferenceIdeal.τ Cert.AdInReferenceIdeal.sig) → Buf (Elt Ideal) ℓ) (g' : Dev Cert.AdInReferenceIdeal.nD → PrngReg), Pre_AdInIdeal m →
    (∀ c : Dev Cert.AdInIdeal.nD,
      m' ((c.tc : Thread Cert.AdInReferenceIdeal.nD Cert.AdInReferenceIdeal.τ).loc Cert.AdInReferenceIdeal.main_arg0) = m ((c.tc : Thread Cert.AdInIdeal.nD Cert.AdInIdeal.τ).loc Cert.AdInIdeal.main_arg0)
      ∧ m' ((c.tc : Thread Cert.AdInReferenceIdeal.nD Cert.AdInReferenceIdeal.τ).loc Cert.AdInReferenceIdeal.main_arg1) = m ((c.tc : Thread Cert.AdInIdeal.nD Cert.AdInIdeal.τ).loc Cert.AdInIdeal.main_arg1)
      ∧ m' ((c.tc : Thread Cert.AdInReferenceIdeal.nD Cert.AdInReferenceIdeal.τ).loc Cert.AdInReferenceIdeal.main_arg2) = m ((c.tc : Thread Cert.AdInIdeal.nD Cert.AdInIdeal.τ).loc Cert.AdInIdeal.main_arg2)
      ∧ m' ((c.tc : Thread Cert.AdInReferenceIdeal.nD Cert.AdInReferenceIdeal.τ).loc Cert.AdInReferenceIdeal.main_arg3) = m ((c.tc : Thread Cert.AdInIdeal.nD Cert.AdInIdeal.τ).loc Cert.AdInIdeal.main_arg3)) →
    ∃ (v0 : (c : Dev Cert.AdInIdeal.nD) → Buf (Elt Ideal) ((c.tc : Thread Cert.AdInIdeal.nD Cert.AdInIdeal.τ).loc Cert.AdInIdeal.main_v0_0)) (v1 : (c : Dev Cert.AdInIdeal.nD) → Buf (Elt Ideal) ((c.tc : Thread Cert.AdInIdeal.nD Cert.AdInIdeal.τ).loc Cert.AdInIdeal.main_v0_1)) (v2 : (c : Dev Cert.AdInIdeal.nD) → Buf (Elt Ideal) ((c.tc : Thread Cert.AdInIdeal.nD Cert.AdInIdeal.τ).loc Cert.AdInIdeal.main_v0_2)) (v3 : (c : Dev Cert.AdInIdeal.nD) → Buf (Elt Ideal) ((c.tc : Thread Cert.AdInIdeal.nD Cert.AdInIdeal.τ).loc Cert.AdInIdeal.main_v0_3)),
      θ_run (Cert.AdInIdeal.defs (F := Ideal)) (onTc (τ := Cert.AdInIdeal.τ) (Cert.AdInIdeal.main (F := Ideal))) ⟨m, fun _ => 0, g⟩ (fun r => ∀ c : Dev Cert.AdInIdeal.nD,
          r.2.mem ((c.tc : Thread Cert.AdInIdeal.nD Cert.AdInIdeal.τ).loc Cert.AdInIdeal.main_v0_0) = v0 c
          ∧ r.2.mem ((c.tc : Thread Cert.AdInIdeal.nD Cert.AdInIdeal.τ).loc Cert.AdInIdeal.main_v0_1) = v1 c
          ∧ r.2.mem ((c.tc : Thread Cert.AdInIdeal.nD Cert.AdInIdeal.τ).loc Cert.AdInIdeal.main_v0_2) = v2 c
          ∧ r.2.mem ((c.tc : Thread Cert.AdInIdeal.nD Cert.AdInIdeal.τ).loc Cert.AdInIdeal.main_v0_3) = v3 c
          ∧ r.2.mem ((c.tc : Thread Cert.AdInIdeal.nD Cert.AdInIdeal.τ).loc Cert.AdInIdeal.main_arg0) = m ((c.tc : Thread Cert.AdInIdeal.nD Cert.AdInIdeal.τ).loc Cert.AdInIdeal.main_arg0)
          ∧ r.2.mem ((c.tc : Thread Cert.AdInIdeal.nD Cert.AdInIdeal.τ).loc Cert.AdInIdeal.main_arg1) = m ((c.tc : Thread Cert.AdInIdeal.nD Cert.AdInIdeal.τ).loc Cert.AdInIdeal.main_arg1)
          ∧ r.2.mem ((c.tc : Thread Cert.AdInIdeal.nD Cert.AdInIdeal.τ).loc Cert.AdInIdeal.main_arg2) = m ((c.tc : Thread Cert.AdInIdeal.nD Cert.AdInIdeal.τ).loc Cert.AdInIdeal.main_arg2)
          ∧ r.2.mem ((c.tc : Thread Cert.AdInIdeal.nD Cert.AdInIdeal.τ).loc Cert.AdInIdeal.main_arg3) = m ((c.tc : Thread Cert.AdInIdeal.nD Cert.AdInIdeal.τ).loc Cert.AdInIdeal.main_arg3))
      ∧ θ_run (Cert.AdInReferenceIdeal.defs (F := Ideal)) (onTc (τ := Cert.AdInReferenceIdeal.τ) (Cert.AdInReferenceIdeal.main (F := Ideal))) ⟨m', fun _ => 0, g'⟩ (fun r => ∀ c : Dev Cert.AdInReferenceIdeal.nD,
          r.2.mem ((c.tc : Thread Cert.AdInReferenceIdeal.nD Cert.AdInReferenceIdeal.τ).loc Cert.AdInReferenceIdeal.main_v2) = v0 c
          ∧ r.2.mem ((c.tc : Thread Cert.AdInReferenceIdeal.nD Cert.AdInReferenceIdeal.τ).loc Cert.AdInReferenceIdeal.main_v26) = v1 c
          ∧ r.2.mem ((c.tc : Thread Cert.AdInReferenceIdeal.nD Cert.AdInReferenceIdeal.τ).loc Cert.AdInReferenceIdeal.main_v7) = v2 c
          ∧ r.2.mem ((c.tc : Thread Cert.AdInReferenceIdeal.nD Cert.AdInReferenceIdeal.τ).loc Cert.AdInReferenceIdeal.main_v13) = v3 c
          ∧ r.2.mem ((c.tc : Thread Cert.AdInReferenceIdeal.nD Cert.AdInReferenceIdeal.τ).loc Cert.AdInReferenceIdeal.main_arg0) = m' ((c.tc : Thread Cert.AdInReferenceIdeal.nD Cert.AdInReferenceIdeal.τ).loc Cert.AdInReferenceIdeal.main_arg0)
          ∧ r.2.mem ((c.tc : Thread Cert.AdInReferenceIdeal.nD Cert.AdInReferenceIdeal.τ).loc Cert.AdInReferenceIdeal.main_arg1) = m' ((c.tc : Thread Cert.AdInReferenceIdeal.nD Cert.AdInReferenceIdeal.τ).loc Cert.AdInReferenceIdeal.main_arg1)
          ∧ r.2.mem ((c.tc : Thread Cert.AdInReferenceIdeal.nD Cert.AdInReferenceIdeal.τ).loc Cert.AdInReferenceIdeal.main_arg2) = m' ((c.tc : Thread Cert.AdInReferenceIdeal.nD Cert.AdInReferenceIdeal.τ).loc Cert.AdInReferenceIdeal.main_arg2)
          ∧ r.2.mem ((c.tc : Thread Cert.AdInReferenceIdeal.nD Cert.AdInReferenceIdeal.τ).loc Cert.AdInReferenceIdeal.main_arg3) = m' ((c.tc : Thread Cert.AdInReferenceIdeal.nD Cert.AdInReferenceIdeal.τ).loc Cert.AdInReferenceIdeal.main_arg3))

def preserves_AdOut_AdOutIdeal : Prop :=
  True

def algebraic_AdOutIdeal_AdOutReferenceIdeal [hAdOutIdeal : Cert.AdOutIdeal.Facts] [hAdOutReferenceIdeal : Cert.AdOutReferenceIdeal.Facts] : Prop :=
  ∀ (m : (ℓ : Loc Cert.AdOutIdeal.nD Cert.AdOutIdeal.τ Cert.AdOutIdeal.sig) → Buf (Elt Ideal) ℓ) (g : Dev Cert.AdOutIdeal.nD → PrngReg)
    (m' : (ℓ : Loc Cert.AdOutReferenceIdeal.nD Cert.AdOutReferenceIdeal.τ Cert.AdOutReferenceIdeal.sig) → Buf (Elt Ideal) ℓ) (g' : Dev Cert.AdOutReferenceIdeal.nD → PrngReg), Pre_AdOutIdeal m →
    (∀ c : Dev Cert.AdOutIdeal.nD,
      m' ((c.tc : Thread Cert.AdOutReferenceIdeal.nD Cert.AdOutReferenceIdeal.τ).loc Cert.AdOutReferenceIdeal.main_arg0) = m ((c.tc : Thread Cert.AdOutIdeal.nD Cert.AdOutIdeal.τ).loc Cert.AdOutIdeal.main_arg0)
      ∧ m' ((c.tc : Thread Cert.AdOutReferenceIdeal.nD Cert.AdOutReferenceIdeal.τ).loc Cert.AdOutReferenceIdeal.main_arg1) = m ((c.tc : Thread Cert.AdOutIdeal.nD Cert.AdOutIdeal.τ).loc Cert.AdOutIdeal.main_arg1)
      ∧ m' ((c.tc : Thread Cert.AdOutReferenceIdeal.nD Cert.AdOutReferenceIdeal.τ).loc Cert.AdOutReferenceIdeal.main_arg2) = m ((c.tc : Thread Cert.AdOutIdeal.nD Cert.AdOutIdeal.τ).loc Cert.AdOutIdeal.main_arg2)
      ∧ m' ((c.tc : Thread Cert.AdOutReferenceIdeal.nD Cert.AdOutReferenceIdeal.τ).loc Cert.AdOutReferenceIdeal.main_arg3) = m ((c.tc : Thread Cert.AdOutIdeal.nD Cert.AdOutIdeal.τ).loc Cert.AdOutIdeal.main_arg3)) →
    ∃ (v0 : (c : Dev Cert.AdOutIdeal.nD) → Buf (Elt Ideal) ((c.tc : Thread Cert.AdOutIdeal.nD Cert.AdOutIdeal.τ).loc Cert.AdOutIdeal.main_v0_0)) (v1 : (c : Dev Cert.AdOutIdeal.nD) → Buf (Elt Ideal) ((c.tc : Thread Cert.AdOutIdeal.nD Cert.AdOutIdeal.τ).loc Cert.AdOutIdeal.main_v0_1)) (v2 : (c : Dev Cert.AdOutIdeal.nD) → Buf (Elt Ideal) ((c.tc : Thread Cert.AdOutIdeal.nD Cert.AdOutIdeal.τ).loc Cert.AdOutIdeal.main_v0_2)) (v3 : (c : Dev Cert.AdOutIdeal.nD) → Buf (Elt Ideal) ((c.tc : Thread Cert.AdOutIdeal.nD Cert.AdOutIdeal.τ).loc Cert.AdOutIdeal.main_v0_3)),
      θ_run (Cert.AdOutIdeal.defs (F := Ideal)) (onTc (τ := Cert.AdOutIdeal.τ) (Cert.AdOutIdeal.main (F := Ideal))) ⟨m, fun _ => 0, g⟩ (fun r => ∀ c : Dev Cert.AdOutIdeal.nD,
          r.2.mem ((c.tc : Thread Cert.AdOutIdeal.nD Cert.AdOutIdeal.τ).loc Cert.AdOutIdeal.main_v0_0) = v0 c
          ∧ r.2.mem ((c.tc : Thread Cert.AdOutIdeal.nD Cert.AdOutIdeal.τ).loc Cert.AdOutIdeal.main_v0_1) = v1 c
          ∧ r.2.mem ((c.tc : Thread Cert.AdOutIdeal.nD Cert.AdOutIdeal.τ).loc Cert.AdOutIdeal.main_v0_2) = v2 c
          ∧ r.2.mem ((c.tc : Thread Cert.AdOutIdeal.nD Cert.AdOutIdeal.τ).loc Cert.AdOutIdeal.main_v0_3) = v3 c
          ∧ r.2.mem ((c.tc : Thread Cert.AdOutIdeal.nD Cert.AdOutIdeal.τ).loc Cert.AdOutIdeal.main_arg0) = m ((c.tc : Thread Cert.AdOutIdeal.nD Cert.AdOutIdeal.τ).loc Cert.AdOutIdeal.main_arg0)
          ∧ r.2.mem ((c.tc : Thread Cert.AdOutIdeal.nD Cert.AdOutIdeal.τ).loc Cert.AdOutIdeal.main_arg1) = m ((c.tc : Thread Cert.AdOutIdeal.nD Cert.AdOutIdeal.τ).loc Cert.AdOutIdeal.main_arg1)
          ∧ r.2.mem ((c.tc : Thread Cert.AdOutIdeal.nD Cert.AdOutIdeal.τ).loc Cert.AdOutIdeal.main_arg2) = m ((c.tc : Thread Cert.AdOutIdeal.nD Cert.AdOutIdeal.τ).loc Cert.AdOutIdeal.main_arg2)
          ∧ r.2.mem ((c.tc : Thread Cert.AdOutIdeal.nD Cert.AdOutIdeal.τ).loc Cert.AdOutIdeal.main_arg3) = m ((c.tc : Thread Cert.AdOutIdeal.nD Cert.AdOutIdeal.τ).loc Cert.AdOutIdeal.main_arg3))
      ∧ θ_run (Cert.AdOutReferenceIdeal.defs (F := Ideal)) (onTc (τ := Cert.AdOutReferenceIdeal.τ) (Cert.AdOutReferenceIdeal.main (F := Ideal))) ⟨m', fun _ => 0, g'⟩ (fun r => ∀ c : Dev Cert.AdOutReferenceIdeal.nD,
          r.2.mem ((c.tc : Thread Cert.AdOutReferenceIdeal.nD Cert.AdOutReferenceIdeal.τ).loc Cert.AdOutReferenceIdeal.main_v1) = v0 c
          ∧ r.2.mem ((c.tc : Thread Cert.AdOutReferenceIdeal.nD Cert.AdOutReferenceIdeal.τ).loc Cert.AdOutReferenceIdeal.main_v25) = v1 c
          ∧ r.2.mem ((c.tc : Thread Cert.AdOutReferenceIdeal.nD Cert.AdOutReferenceIdeal.τ).loc Cert.AdOutReferenceIdeal.main_v6) = v2 c
          ∧ r.2.mem ((c.tc : Thread Cert.AdOutReferenceIdeal.nD Cert.AdOutReferenceIdeal.τ).loc Cert.AdOutReferenceIdeal.main_v12) = v3 c
          ∧ r.2.mem ((c.tc : Thread Cert.AdOutReferenceIdeal.nD Cert.AdOutReferenceIdeal.τ).loc Cert.AdOutReferenceIdeal.main_arg0) = m' ((c.tc : Thread Cert.AdOutReferenceIdeal.nD Cert.AdOutReferenceIdeal.τ).loc Cert.AdOutReferenceIdeal.main_arg0)
          ∧ r.2.mem ((c.tc : Thread Cert.AdOutReferenceIdeal.nD Cert.AdOutReferenceIdeal.τ).loc Cert.AdOutReferenceIdeal.main_arg1) = m' ((c.tc : Thread Cert.AdOutReferenceIdeal.nD Cert.AdOutReferenceIdeal.τ).loc Cert.AdOutReferenceIdeal.main_arg1)
          ∧ r.2.mem ((c.tc : Thread Cert.AdOutReferenceIdeal.nD Cert.AdOutReferenceIdeal.τ).loc Cert.AdOutReferenceIdeal.main_arg2) = m' ((c.tc : Thread Cert.AdOutReferenceIdeal.nD Cert.AdOutReferenceIdeal.τ).loc Cert.AdOutReferenceIdeal.main_arg2)
          ∧ r.2.mem ((c.tc : Thread Cert.AdOutReferenceIdeal.nD Cert.AdOutReferenceIdeal.τ).loc Cert.AdOutReferenceIdeal.main_arg3) = m' ((c.tc : Thread Cert.AdOutReferenceIdeal.nD Cert.AdOutReferenceIdeal.τ).loc Cert.AdOutReferenceIdeal.main_arg3))

def preserves_AdFf1_AdFf1Ideal : Prop :=
  True

def algebraic_AdFf1Ideal_AdFf1ReferenceIdeal [hAdFf1Ideal : Cert.AdFf1Ideal.Facts] [hAdFf1ReferenceIdeal : Cert.AdFf1ReferenceIdeal.Facts] : Prop :=
  ∀ (m : (ℓ : Loc Cert.AdFf1Ideal.nD Cert.AdFf1Ideal.τ Cert.AdFf1Ideal.sig) → Buf (Elt Ideal) ℓ) (g : Dev Cert.AdFf1Ideal.nD → PrngReg)
    (m' : (ℓ : Loc Cert.AdFf1ReferenceIdeal.nD Cert.AdFf1ReferenceIdeal.τ Cert.AdFf1ReferenceIdeal.sig) → Buf (Elt Ideal) ℓ) (g' : Dev Cert.AdFf1ReferenceIdeal.nD → PrngReg), Pre_AdFf1Ideal m →
    (∀ c : Dev Cert.AdFf1Ideal.nD,
      m' ((c.tc : Thread Cert.AdFf1ReferenceIdeal.nD Cert.AdFf1ReferenceIdeal.τ).loc Cert.AdFf1ReferenceIdeal.main_arg0) = m ((c.tc : Thread Cert.AdFf1Ideal.nD Cert.AdFf1Ideal.τ).loc Cert.AdFf1Ideal.main_arg0)
      ∧ m' ((c.tc : Thread Cert.AdFf1ReferenceIdeal.nD Cert.AdFf1ReferenceIdeal.τ).loc Cert.AdFf1ReferenceIdeal.main_arg1) = m ((c.tc : Thread Cert.AdFf1Ideal.nD Cert.AdFf1Ideal.τ).loc Cert.AdFf1Ideal.main_arg1)
      ∧ m' ((c.tc : Thread Cert.AdFf1ReferenceIdeal.nD Cert.AdFf1ReferenceIdeal.τ).loc Cert.AdFf1ReferenceIdeal.main_arg2) = m ((c.tc : Thread Cert.AdFf1Ideal.nD Cert.AdFf1Ideal.τ).loc Cert.AdFf1Ideal.main_arg2)
      ∧ m' ((c.tc : Thread Cert.AdFf1ReferenceIdeal.nD Cert.AdFf1ReferenceIdeal.τ).loc Cert.AdFf1ReferenceIdeal.main_arg3) = m ((c.tc : Thread Cert.AdFf1Ideal.nD Cert.AdFf1Ideal.τ).loc Cert.AdFf1Ideal.main_arg3)) →
    ∃ (v0 : (c : Dev Cert.AdFf1Ideal.nD) → Buf (Elt Ideal) ((c.tc : Thread Cert.AdFf1Ideal.nD Cert.AdFf1Ideal.τ).loc Cert.AdFf1Ideal.main_v0_0)) (v1 : (c : Dev Cert.AdFf1Ideal.nD) → Buf (Elt Ideal) ((c.tc : Thread Cert.AdFf1Ideal.nD Cert.AdFf1Ideal.τ).loc Cert.AdFf1Ideal.main_v0_1)) (v2 : (c : Dev Cert.AdFf1Ideal.nD) → Buf (Elt Ideal) ((c.tc : Thread Cert.AdFf1Ideal.nD Cert.AdFf1Ideal.τ).loc Cert.AdFf1Ideal.main_v0_2)) (v3 : (c : Dev Cert.AdFf1Ideal.nD) → Buf (Elt Ideal) ((c.tc : Thread Cert.AdFf1Ideal.nD Cert.AdFf1Ideal.τ).loc Cert.AdFf1Ideal.main_v0_3)),
      θ_run (Cert.AdFf1Ideal.defs (F := Ideal)) (onTc (τ := Cert.AdFf1Ideal.τ) (Cert.AdFf1Ideal.main (F := Ideal))) ⟨m, fun _ => 0, g⟩ (fun r => ∀ c : Dev Cert.AdFf1Ideal.nD,
          r.2.mem ((c.tc : Thread Cert.AdFf1Ideal.nD Cert.AdFf1Ideal.τ).loc Cert.AdFf1Ideal.main_v0_0) = v0 c
          ∧ r.2.mem ((c.tc : Thread Cert.AdFf1Ideal.nD Cert.AdFf1Ideal.τ).loc Cert.AdFf1Ideal.main_v0_1) = v1 c
          ∧ r.2.mem ((c.tc : Thread Cert.AdFf1Ideal.nD Cert.AdFf1Ideal.τ).loc Cert.AdFf1Ideal.main_v0_2) = v2 c
          ∧ r.2.mem ((c.tc : Thread Cert.AdFf1Ideal.nD Cert.AdFf1Ideal.τ).loc Cert.AdFf1Ideal.main_v0_3) = v3 c
          ∧ r.2.mem ((c.tc : Thread Cert.AdFf1Ideal.nD Cert.AdFf1Ideal.τ).loc Cert.AdFf1Ideal.main_arg0) = m ((c.tc : Thread Cert.AdFf1Ideal.nD Cert.AdFf1Ideal.τ).loc Cert.AdFf1Ideal.main_arg0)
          ∧ r.2.mem ((c.tc : Thread Cert.AdFf1Ideal.nD Cert.AdFf1Ideal.τ).loc Cert.AdFf1Ideal.main_arg1) = m ((c.tc : Thread Cert.AdFf1Ideal.nD Cert.AdFf1Ideal.τ).loc Cert.AdFf1Ideal.main_arg1)
          ∧ r.2.mem ((c.tc : Thread Cert.AdFf1Ideal.nD Cert.AdFf1Ideal.τ).loc Cert.AdFf1Ideal.main_arg2) = m ((c.tc : Thread Cert.AdFf1Ideal.nD Cert.AdFf1Ideal.τ).loc Cert.AdFf1Ideal.main_arg2)
          ∧ r.2.mem ((c.tc : Thread Cert.AdFf1Ideal.nD Cert.AdFf1Ideal.τ).loc Cert.AdFf1Ideal.main_arg3) = m ((c.tc : Thread Cert.AdFf1Ideal.nD Cert.AdFf1Ideal.τ).loc Cert.AdFf1Ideal.main_arg3))
      ∧ θ_run (Cert.AdFf1ReferenceIdeal.defs (F := Ideal)) (onTc (τ := Cert.AdFf1ReferenceIdeal.τ) (Cert.AdFf1ReferenceIdeal.main (F := Ideal))) ⟨m', fun _ => 0, g'⟩ (fun r => ∀ c : Dev Cert.AdFf1ReferenceIdeal.nD,
          r.2.mem ((c.tc : Thread Cert.AdFf1ReferenceIdeal.nD Cert.AdFf1ReferenceIdeal.τ).loc Cert.AdFf1ReferenceIdeal.main_v2) = v0 c
          ∧ r.2.mem ((c.tc : Thread Cert.AdFf1ReferenceIdeal.nD Cert.AdFf1ReferenceIdeal.τ).loc Cert.AdFf1ReferenceIdeal.main_v26) = v1 c
          ∧ r.2.mem ((c.tc : Thread Cert.AdFf1ReferenceIdeal.nD Cert.AdFf1ReferenceIdeal.τ).loc Cert.AdFf1ReferenceIdeal.main_v7) = v2 c
          ∧ r.2.mem ((c.tc : Thread Cert.AdFf1ReferenceIdeal.nD Cert.AdFf1ReferenceIdeal.τ).loc Cert.AdFf1ReferenceIdeal.main_v13) = v3 c
          ∧ r.2.mem ((c.tc : Thread Cert.AdFf1ReferenceIdeal.nD Cert.AdFf1ReferenceIdeal.τ).loc Cert.AdFf1ReferenceIdeal.main_arg0) = m' ((c.tc : Thread Cert.AdFf1ReferenceIdeal.nD Cert.AdFf1ReferenceIdeal.τ).loc Cert.AdFf1ReferenceIdeal.main_arg0)
          ∧ r.2.mem ((c.tc : Thread Cert.AdFf1ReferenceIdeal.nD Cert.AdFf1ReferenceIdeal.τ).loc Cert.AdFf1ReferenceIdeal.main_arg1) = m' ((c.tc : Thread Cert.AdFf1ReferenceIdeal.nD Cert.AdFf1ReferenceIdeal.τ).loc Cert.AdFf1ReferenceIdeal.main_arg1)
          ∧ r.2.mem ((c.tc : Thread Cert.AdFf1ReferenceIdeal.nD Cert.AdFf1ReferenceIdeal.τ).loc Cert.AdFf1ReferenceIdeal.main_arg2) = m' ((c.tc : Thread Cert.AdFf1ReferenceIdeal.nD Cert.AdFf1ReferenceIdeal.τ).loc Cert.AdFf1ReferenceIdeal.main_arg2)
          ∧ r.2.mem ((c.tc : Thread Cert.AdFf1ReferenceIdeal.nD Cert.AdFf1ReferenceIdeal.τ).loc Cert.AdFf1ReferenceIdeal.main_arg3) = m' ((c.tc : Thread Cert.AdFf1ReferenceIdeal.nD Cert.AdFf1ReferenceIdeal.τ).loc Cert.AdFf1ReferenceIdeal.main_arg3))

def preserves_AdFf2_AdFf2Ideal : Prop :=
  True

def algebraic_AdFf2Ideal_AdFf2ReferenceIdeal [hAdFf2Ideal : Cert.AdFf2Ideal.Facts] [hAdFf2ReferenceIdeal : Cert.AdFf2ReferenceIdeal.Facts] : Prop :=
  ∀ (m : (ℓ : Loc Cert.AdFf2Ideal.nD Cert.AdFf2Ideal.τ Cert.AdFf2Ideal.sig) → Buf (Elt Ideal) ℓ) (g : Dev Cert.AdFf2Ideal.nD → PrngReg)
    (m' : (ℓ : Loc Cert.AdFf2ReferenceIdeal.nD Cert.AdFf2ReferenceIdeal.τ Cert.AdFf2ReferenceIdeal.sig) → Buf (Elt Ideal) ℓ) (g' : Dev Cert.AdFf2ReferenceIdeal.nD → PrngReg), Pre_AdFf2Ideal m →
    (∀ c : Dev Cert.AdFf2Ideal.nD,
      m' ((c.tc : Thread Cert.AdFf2ReferenceIdeal.nD Cert.AdFf2ReferenceIdeal.τ).loc Cert.AdFf2ReferenceIdeal.main_arg0) = m ((c.tc : Thread Cert.AdFf2Ideal.nD Cert.AdFf2Ideal.τ).loc Cert.AdFf2Ideal.main_arg0)
      ∧ m' ((c.tc : Thread Cert.AdFf2ReferenceIdeal.nD Cert.AdFf2ReferenceIdeal.τ).loc Cert.AdFf2ReferenceIdeal.main_arg1) = m ((c.tc : Thread Cert.AdFf2Ideal.nD Cert.AdFf2Ideal.τ).loc Cert.AdFf2Ideal.main_arg1)
      ∧ m' ((c.tc : Thread Cert.AdFf2ReferenceIdeal.nD Cert.AdFf2ReferenceIdeal.τ).loc Cert.AdFf2ReferenceIdeal.main_arg2) = m ((c.tc : Thread Cert.AdFf2Ideal.nD Cert.AdFf2Ideal.τ).loc Cert.AdFf2Ideal.main_arg2)
      ∧ m' ((c.tc : Thread Cert.AdFf2ReferenceIdeal.nD Cert.AdFf2ReferenceIdeal.τ).loc Cert.AdFf2ReferenceIdeal.main_arg3) = m ((c.tc : Thread Cert.AdFf2Ideal.nD Cert.AdFf2Ideal.τ).loc Cert.AdFf2Ideal.main_arg3)) →
    ∃ (v0 : (c : Dev Cert.AdFf2Ideal.nD) → Buf (Elt Ideal) ((c.tc : Thread Cert.AdFf2Ideal.nD Cert.AdFf2Ideal.τ).loc Cert.AdFf2Ideal.main_v0_0)) (v1 : (c : Dev Cert.AdFf2Ideal.nD) → Buf (Elt Ideal) ((c.tc : Thread Cert.AdFf2Ideal.nD Cert.AdFf2Ideal.τ).loc Cert.AdFf2Ideal.main_v0_1)) (v2 : (c : Dev Cert.AdFf2Ideal.nD) → Buf (Elt Ideal) ((c.tc : Thread Cert.AdFf2Ideal.nD Cert.AdFf2Ideal.τ).loc Cert.AdFf2Ideal.main_v0_2)) (v3 : (c : Dev Cert.AdFf2Ideal.nD) → Buf (Elt Ideal) ((c.tc : Thread Cert.AdFf2Ideal.nD Cert.AdFf2Ideal.τ).loc Cert.AdFf2Ideal.main_v0_3)),
      θ_run (Cert.AdFf2Ideal.defs (F := Ideal)) (onTc (τ := Cert.AdFf2Ideal.τ) (Cert.AdFf2Ideal.main (F := Ideal))) ⟨m, fun _ => 0, g⟩ (fun r => ∀ c : Dev Cert.AdFf2Ideal.nD,
          r.2.mem ((c.tc : Thread Cert.AdFf2Ideal.nD Cert.AdFf2Ideal.τ).loc Cert.AdFf2Ideal.main_v0_0) = v0 c
          ∧ r.2.mem ((c.tc : Thread Cert.AdFf2Ideal.nD Cert.AdFf2Ideal.τ).loc Cert.AdFf2Ideal.main_v0_1) = v1 c
          ∧ r.2.mem ((c.tc : Thread Cert.AdFf2Ideal.nD Cert.AdFf2Ideal.τ).loc Cert.AdFf2Ideal.main_v0_2) = v2 c
          ∧ r.2.mem ((c.tc : Thread Cert.AdFf2Ideal.nD Cert.AdFf2Ideal.τ).loc Cert.AdFf2Ideal.main_v0_3) = v3 c
          ∧ r.2.mem ((c.tc : Thread Cert.AdFf2Ideal.nD Cert.AdFf2Ideal.τ).loc Cert.AdFf2Ideal.main_arg0) = m ((c.tc : Thread Cert.AdFf2Ideal.nD Cert.AdFf2Ideal.τ).loc Cert.AdFf2Ideal.main_arg0)
          ∧ r.2.mem ((c.tc : Thread Cert.AdFf2Ideal.nD Cert.AdFf2Ideal.τ).loc Cert.AdFf2Ideal.main_arg1) = m ((c.tc : Thread Cert.AdFf2Ideal.nD Cert.AdFf2Ideal.τ).loc Cert.AdFf2Ideal.main_arg1)
          ∧ r.2.mem ((c.tc : Thread Cert.AdFf2Ideal.nD Cert.AdFf2Ideal.τ).loc Cert.AdFf2Ideal.main_arg2) = m ((c.tc : Thread Cert.AdFf2Ideal.nD Cert.AdFf2Ideal.τ).loc Cert.AdFf2Ideal.main_arg2)
          ∧ r.2.mem ((c.tc : Thread Cert.AdFf2Ideal.nD Cert.AdFf2Ideal.τ).loc Cert.AdFf2Ideal.main_arg3) = m ((c.tc : Thread Cert.AdFf2Ideal.nD Cert.AdFf2Ideal.τ).loc Cert.AdFf2Ideal.main_arg3))
      ∧ θ_run (Cert.AdFf2ReferenceIdeal.defs (F := Ideal)) (onTc (τ := Cert.AdFf2ReferenceIdeal.τ) (Cert.AdFf2ReferenceIdeal.main (F := Ideal))) ⟨m', fun _ => 0, g'⟩ (fun r => ∀ c : Dev Cert.AdFf2ReferenceIdeal.nD,
          r.2.mem ((c.tc : Thread Cert.AdFf2ReferenceIdeal.nD Cert.AdFf2ReferenceIdeal.τ).loc Cert.AdFf2ReferenceIdeal.main_v1) = v0 c
          ∧ r.2.mem ((c.tc : Thread Cert.AdFf2ReferenceIdeal.nD Cert.AdFf2ReferenceIdeal.τ).loc Cert.AdFf2ReferenceIdeal.main_v25) = v1 c
          ∧ r.2.mem ((c.tc : Thread Cert.AdFf2ReferenceIdeal.nD Cert.AdFf2ReferenceIdeal.τ).loc Cert.AdFf2ReferenceIdeal.main_v6) = v2 c
          ∧ r.2.mem ((c.tc : Thread Cert.AdFf2ReferenceIdeal.nD Cert.AdFf2ReferenceIdeal.τ).loc Cert.AdFf2ReferenceIdeal.main_v12) = v3 c
          ∧ r.2.mem ((c.tc : Thread Cert.AdFf2ReferenceIdeal.nD Cert.AdFf2ReferenceIdeal.τ).loc Cert.AdFf2ReferenceIdeal.main_arg0) = m' ((c.tc : Thread Cert.AdFf2ReferenceIdeal.nD Cert.AdFf2ReferenceIdeal.τ).loc Cert.AdFf2ReferenceIdeal.main_arg0)
          ∧ r.2.mem ((c.tc : Thread Cert.AdFf2ReferenceIdeal.nD Cert.AdFf2ReferenceIdeal.τ).loc Cert.AdFf2ReferenceIdeal.main_arg1) = m' ((c.tc : Thread Cert.AdFf2ReferenceIdeal.nD Cert.AdFf2ReferenceIdeal.τ).loc Cert.AdFf2ReferenceIdeal.main_arg1)
          ∧ r.2.mem ((c.tc : Thread Cert.AdFf2ReferenceIdeal.nD Cert.AdFf2ReferenceIdeal.τ).loc Cert.AdFf2ReferenceIdeal.main_arg2) = m' ((c.tc : Thread Cert.AdFf2ReferenceIdeal.nD Cert.AdFf2ReferenceIdeal.τ).loc Cert.AdFf2ReferenceIdeal.main_arg2)
          ∧ r.2.mem ((c.tc : Thread Cert.AdFf2ReferenceIdeal.nD Cert.AdFf2ReferenceIdeal.τ).loc Cert.AdFf2ReferenceIdeal.main_arg3) = m' ((c.tc : Thread Cert.AdFf2ReferenceIdeal.nD Cert.AdFf2ReferenceIdeal.τ).loc Cert.AdFf2ReferenceIdeal.main_arg3))

def preserves_AdSgu_AdSguIdeal : Prop :=
  True

def algebraic_AdSguIdeal_AdSguReferenceIdeal [hAdSguIdeal : Cert.AdSguIdeal.Facts] [hAdSguReferenceIdeal : Cert.AdSguReferenceIdeal.Facts] : Prop :=
  ∀ (m : (ℓ : Loc Cert.AdSguIdeal.nD Cert.AdSguIdeal.τ Cert.AdSguIdeal.sig) → Buf (Elt Ideal) ℓ) (g : Dev Cert.AdSguIdeal.nD → PrngReg)
    (m' : (ℓ : Loc Cert.AdSguReferenceIdeal.nD Cert.AdSguReferenceIdeal.τ Cert.AdSguReferenceIdeal.sig) → Buf (Elt Ideal) ℓ) (g' : Dev Cert.AdSguReferenceIdeal.nD → PrngReg), Pre_AdSguIdeal m →
    (∀ c : Dev Cert.AdSguIdeal.nD,
      m' ((c.tc : Thread Cert.AdSguReferenceIdeal.nD Cert.AdSguReferenceIdeal.τ).loc Cert.AdSguReferenceIdeal.main_arg0) = m ((c.tc : Thread Cert.AdSguIdeal.nD Cert.AdSguIdeal.τ).loc Cert.AdSguIdeal.main_arg0)
      ∧ m' ((c.tc : Thread Cert.AdSguReferenceIdeal.nD Cert.AdSguReferenceIdeal.τ).loc Cert.AdSguReferenceIdeal.main_arg1) = m ((c.tc : Thread Cert.AdSguIdeal.nD Cert.AdSguIdeal.τ).loc Cert.AdSguIdeal.main_arg1)
      ∧ m' ((c.tc : Thread Cert.AdSguReferenceIdeal.nD Cert.AdSguReferenceIdeal.τ).loc Cert.AdSguReferenceIdeal.main_arg2) = m ((c.tc : Thread Cert.AdSguIdeal.nD Cert.AdSguIdeal.τ).loc Cert.AdSguIdeal.main_arg2)
      ∧ m' ((c.tc : Thread Cert.AdSguReferenceIdeal.nD Cert.AdSguReferenceIdeal.τ).loc Cert.AdSguReferenceIdeal.main_arg3) = m ((c.tc : Thread Cert.AdSguIdeal.nD Cert.AdSguIdeal.τ).loc Cert.AdSguIdeal.main_arg3)) →
    ∃ (v0 : (c : Dev Cert.AdSguIdeal.nD) → Buf (Elt Ideal) ((c.tc : Thread Cert.AdSguIdeal.nD Cert.AdSguIdeal.τ).loc Cert.AdSguIdeal.main_v0_0)) (v1 : (c : Dev Cert.AdSguIdeal.nD) → Buf (Elt Ideal) ((c.tc : Thread Cert.AdSguIdeal.nD Cert.AdSguIdeal.τ).loc Cert.AdSguIdeal.main_v0_1)) (v2 : (c : Dev Cert.AdSguIdeal.nD) → Buf (Elt Ideal) ((c.tc : Thread Cert.AdSguIdeal.nD Cert.AdSguIdeal.τ).loc Cert.AdSguIdeal.main_v0_2)) (v3 : (c : Dev Cert.AdSguIdeal.nD) → Buf (Elt Ideal) ((c.tc : Thread Cert.AdSguIdeal.nD Cert.AdSguIdeal.τ).loc Cert.AdSguIdeal.main_v0_3)),
      θ_run (Cert.AdSguIdeal.defs (F := Ideal)) (onTc (τ := Cert.AdSguIdeal.τ) (Cert.AdSguIdeal.main (F := Ideal))) ⟨m, fun _ => 0, g⟩ (fun r => ∀ c : Dev Cert.AdSguIdeal.nD,
          r.2.mem ((c.tc : Thread Cert.AdSguIdeal.nD Cert.AdSguIdeal.τ).loc Cert.AdSguIdeal.main_v0_0) = v0 c
          ∧ r.2.mem ((c.tc : Thread Cert.AdSguIdeal.nD Cert.AdSguIdeal.τ).loc Cert.AdSguIdeal.main_v0_1) = v1 c
          ∧ r.2.mem ((c.tc : Thread Cert.AdSguIdeal.nD Cert.AdSguIdeal.τ).loc Cert.AdSguIdeal.main_v0_2) = v2 c
          ∧ r.2.mem ((c.tc : Thread Cert.AdSguIdeal.nD Cert.AdSguIdeal.τ).loc Cert.AdSguIdeal.main_v0_3) = v3 c
          ∧ r.2.mem ((c.tc : Thread Cert.AdSguIdeal.nD Cert.AdSguIdeal.τ).loc Cert.AdSguIdeal.main_arg0) = m ((c.tc : Thread Cert.AdSguIdeal.nD Cert.AdSguIdeal.τ).loc Cert.AdSguIdeal.main_arg0)
          ∧ r.2.mem ((c.tc : Thread Cert.AdSguIdeal.nD Cert.AdSguIdeal.τ).loc Cert.AdSguIdeal.main_arg1) = m ((c.tc : Thread Cert.AdSguIdeal.nD Cert.AdSguIdeal.τ).loc Cert.AdSguIdeal.main_arg1)
          ∧ r.2.mem ((c.tc : Thread Cert.AdSguIdeal.nD Cert.AdSguIdeal.τ).loc Cert.AdSguIdeal.main_arg2) = m ((c.tc : Thread Cert.AdSguIdeal.nD Cert.AdSguIdeal.τ).loc Cert.AdSguIdeal.main_arg2)
          ∧ r.2.mem ((c.tc : Thread Cert.AdSguIdeal.nD Cert.AdSguIdeal.τ).loc Cert.AdSguIdeal.main_arg3) = m ((c.tc : Thread Cert.AdSguIdeal.nD Cert.AdSguIdeal.τ).loc Cert.AdSguIdeal.main_arg3))
      ∧ θ_run (Cert.AdSguReferenceIdeal.defs (F := Ideal)) (onTc (τ := Cert.AdSguReferenceIdeal.τ) (Cert.AdSguReferenceIdeal.main (F := Ideal))) ⟨m', fun _ => 0, g'⟩ (fun r => ∀ c : Dev Cert.AdSguReferenceIdeal.nD,
          r.2.mem ((c.tc : Thread Cert.AdSguReferenceIdeal.nD Cert.AdSguReferenceIdeal.τ).loc Cert.AdSguReferenceIdeal.main_v1) = v0 c
          ∧ r.2.mem ((c.tc : Thread Cert.AdSguReferenceIdeal.nD Cert.AdSguReferenceIdeal.τ).loc Cert.AdSguReferenceIdeal.main_v25) = v1 c
          ∧ r.2.mem ((c.tc : Thread Cert.AdSguReferenceIdeal.nD Cert.AdSguReferenceIdeal.τ).loc Cert.AdSguReferenceIdeal.main_v6) = v2 c
          ∧ r.2.mem ((c.tc : Thread Cert.AdSguReferenceIdeal.nD Cert.AdSguReferenceIdeal.τ).loc Cert.AdSguReferenceIdeal.main_v12) = v3 c
          ∧ r.2.mem ((c.tc : Thread Cert.AdSguReferenceIdeal.nD Cert.AdSguReferenceIdeal.τ).loc Cert.AdSguReferenceIdeal.main_arg0) = m' ((c.tc : Thread Cert.AdSguReferenceIdeal.nD Cert.AdSguReferenceIdeal.τ).loc Cert.AdSguReferenceIdeal.main_arg0)
          ∧ r.2.mem ((c.tc : Thread Cert.AdSguReferenceIdeal.nD Cert.AdSguReferenceIdeal.τ).loc Cert.AdSguReferenceIdeal.main_arg1) = m' ((c.tc : Thread Cert.AdSguReferenceIdeal.nD Cert.AdSguReferenceIdeal.τ).loc Cert.AdSguReferenceIdeal.main_arg1)
          ∧ r.2.mem ((c.tc : Thread Cert.AdSguReferenceIdeal.nD Cert.AdSguReferenceIdeal.τ).loc Cert.AdSguReferenceIdeal.main_arg2) = m' ((c.tc : Thread Cert.AdSguReferenceIdeal.nD Cert.AdSguReferenceIdeal.τ).loc Cert.AdSguReferenceIdeal.main_arg2)
          ∧ r.2.mem ((c.tc : Thread Cert.AdSguReferenceIdeal.nD Cert.AdSguReferenceIdeal.τ).loc Cert.AdSguReferenceIdeal.main_arg3) = m' ((c.tc : Thread Cert.AdSguReferenceIdeal.nD Cert.AdSguReferenceIdeal.τ).loc Cert.AdSguReferenceIdeal.main_arg3))

def preserves_GateFwd_GateFwdIdeal : Prop :=
  True

def algebraic_GateFwdIdeal_GateFwdReferenceIdeal [hGateFwdIdeal : Cert.GateFwdIdeal.Facts] [hGateFwdReferenceIdeal : Cert.GateFwdReferenceIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdReferenceIdeal.nD Cert.GateFwdReferenceIdeal.τ Cert.GateFwdReferenceIdeal.sig) → Buf (Elt Ideal) ℓ) (g' : Dev Cert.GateFwdReferenceIdeal.nD → PrngReg), Pre_GateFwdIdeal m →
    (∀ c : Dev Cert.GateFwdIdeal.nD,
      m' ((c.tc : Thread Cert.GateFwdReferenceIdeal.nD Cert.GateFwdReferenceIdeal.τ).loc Cert.GateFwdReferenceIdeal.main_arg0) = m ((c.tc : Thread Cert.GateFwdIdeal.nD Cert.GateFwdIdeal.τ).loc Cert.GateFwdIdeal.main_arg0)
      ∧ m' ((c.tc : Thread Cert.GateFwdReferenceIdeal.nD Cert.GateFwdReferenceIdeal.τ).loc Cert.GateFwdReferenceIdeal.main_arg1) = m ((c.tc : Thread Cert.GateFwdIdeal.nD Cert.GateFwdIdeal.τ).loc Cert.GateFwdIdeal.main_arg1)
      ∧ m' ((c.tc : Thread Cert.GateFwdReferenceIdeal.nD Cert.GateFwdReferenceIdeal.τ).loc Cert.GateFwdReferenceIdeal.main_arg2) = m ((c.tc : Thread Cert.GateFwdIdeal.nD Cert.GateFwdIdeal.τ).loc Cert.GateFwdIdeal.main_arg2)
      ∧ m' ((c.tc : Thread Cert.GateFwdReferenceIdeal.nD Cert.GateFwdReferenceIdeal.τ).loc Cert.GateFwdReferenceIdeal.main_arg3) = m ((c.tc : Thread Cert.GateFwdIdeal.nD Cert.GateFwdIdeal.τ).loc Cert.GateFwdIdeal.main_arg3)
      ∧ m' ((c.tc : Thread Cert.GateFwdReferenceIdeal.nD Cert.GateFwdReferenceIdeal.τ).loc Cert.GateFwdReferenceIdeal.main_arg4) = m ((c.tc : Thread Cert.GateFwdIdeal.nD Cert.GateFwdIdeal.τ).loc Cert.GateFwdIdeal.main_arg4)
      ∧ m' ((c.tc : Thread Cert.GateFwdReferenceIdeal.nD Cert.GateFwdReferenceIdeal.τ).loc Cert.GateFwdReferenceIdeal.main_arg5) = m ((c.tc : Thread Cert.GateFwdIdeal.nD Cert.GateFwdIdeal.τ).loc Cert.GateFwdIdeal.main_arg5)) →
    ∃ (v0 : (c : Dev Cert.GateFwdIdeal.nD) → Buf (Elt Ideal) ((c.tc : Thread Cert.GateFwdIdeal.nD Cert.GateFwdIdeal.τ).loc Cert.GateFwdIdeal.main_v3)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v3) = v0 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ θ_run (Cert.GateFwdReferenceIdeal.defs (F := Ideal)) (onTc (τ := Cert.GateFwdReferenceIdeal.τ) (Cert.GateFwdReferenceIdeal.main (F := Ideal))) ⟨m', fun _ => 0, g'⟩ (fun r => ∀ c : Dev Cert.GateFwdReferenceIdeal.nD,
          r.2.mem ((c.tc : Thread Cert.GateFwdReferenceIdeal.nD Cert.GateFwdReferenceIdeal.τ).loc Cert.GateFwdReferenceIdeal.main_v66) = v0 c
          ∧ r.2.mem ((c.tc : Thread Cert.GateFwdReferenceIdeal.nD Cert.GateFwdReferenceIdeal.τ).loc Cert.GateFwdReferenceIdeal.main_arg0) = m' ((c.tc : Thread Cert.GateFwdReferenceIdeal.nD Cert.GateFwdReferenceIdeal.τ).loc Cert.GateFwdReferenceIdeal.main_arg0)
          ∧ r.2.mem ((c.tc : Thread Cert.GateFwdReferenceIdeal.nD Cert.GateFwdReferenceIdeal.τ).loc Cert.GateFwdReferenceIdeal.main_arg1) = m' ((c.tc : Thread Cert.GateFwdReferenceIdeal.nD Cert.GateFwdReferenceIdeal.τ).loc Cert.GateFwdReferenceIdeal.main_arg1)
          ∧ r.2.mem ((c.tc : Thread Cert.GateFwdReferenceIdeal.nD Cert.GateFwdReferenceIdeal.τ).loc Cert.GateFwdReferenceIdeal.main_arg2) = m' ((c.tc : Thread Cert.GateFwdReferenceIdeal.nD Cert.GateFwdReferenceIdeal.τ).loc Cert.GateFwdReferenceIdeal.main_arg2)
          ∧ r.2.mem ((c.tc : Thread Cert.GateFwdReferenceIdeal.nD Cert.GateFwdReferenceIdeal.τ).loc Cert.GateFwdReferenceIdeal.main_arg3) = m' ((c.tc : Thread Cert.GateFwdReferenceIdeal.nD Cert.GateFwdReferenceIdeal.τ).loc Cert.GateFwdReferenceIdeal.main_arg3)
          ∧ r.2.mem ((c.tc : Thread Cert.GateFwdReferenceIdeal.nD Cert.GateFwdReferenceIdeal.τ).loc Cert.GateFwdReferenceIdeal.main_arg4) = m' ((c.tc : Thread Cert.GateFwdReferenceIdeal.nD Cert.GateFwdReferenceIdeal.τ).loc Cert.GateFwdReferenceIdeal.main_arg4)
          ∧ r.2.mem ((c.tc : Thread Cert.GateFwdReferenceIdeal.nD Cert.GateFwdReferenceIdeal.τ).loc Cert.GateFwdReferenceIdeal.main_arg5) = m' ((c.tc : Thread Cert.GateFwdReferenceIdeal.nD Cert.GateFwdReferenceIdeal.τ).loc Cert.GateFwdReferenceIdeal.main_arg5))

def preserves_AdTiny_AdTinyIdeal : Prop :=
  True

def algebraic_AdTinyIdeal_AdTinyReferenceIdeal [hAdTinyIdeal : Cert.AdTinyIdeal.Facts] [hAdTinyReferenceIdeal : Cert.AdTinyReferenceIdeal.Facts] : Prop :=
  ∀ (m : (ℓ : Loc Cert.AdTinyIdeal.nD Cert.AdTinyIdeal.τ Cert.AdTinyIdeal.sig) → Buf (Elt Ideal) ℓ) (g : Dev Cert.AdTinyIdeal.nD → PrngReg)
    (m' : (ℓ : Loc Cert.AdTinyReferenceIdeal.nD Cert.AdTinyReferenceIdeal.τ Cert.AdTinyReferenceIdeal.sig) → Buf (Elt Ideal) ℓ) (g' : Dev Cert.AdTinyReferenceIdeal.nD → PrngReg), Pre_AdTinyIdeal m →
    (∀ c : Dev Cert.AdTinyIdeal.nD,
      m' ((c.tc : Thread Cert.AdTinyReferenceIdeal.nD Cert.AdTinyReferenceIdeal.τ).loc Cert.AdTinyReferenceIdeal.main_arg0) = m ((c.tc : Thread Cert.AdTinyIdeal.nD Cert.AdTinyIdeal.τ).loc Cert.AdTinyIdeal.main_arg0)
      ∧ m' ((c.tc : Thread Cert.AdTinyReferenceIdeal.nD Cert.AdTinyReferenceIdeal.τ).loc Cert.AdTinyReferenceIdeal.main_arg1) = m ((c.tc : Thread Cert.AdTinyIdeal.nD Cert.AdTinyIdeal.τ).loc Cert.AdTinyIdeal.main_arg1)
      ∧ m' ((c.tc : Thread Cert.AdTinyReferenceIdeal.nD Cert.AdTinyReferenceIdeal.τ).loc Cert.AdTinyReferenceIdeal.main_arg2) = m ((c.tc : Thread Cert.AdTinyIdeal.nD Cert.AdTinyIdeal.τ).loc Cert.AdTinyIdeal.main_arg2)
      ∧ m' ((c.tc : Thread Cert.AdTinyReferenceIdeal.nD Cert.AdTinyReferenceIdeal.τ).loc Cert.AdTinyReferenceIdeal.main_arg3) = m ((c.tc : Thread Cert.AdTinyIdeal.nD Cert.AdTinyIdeal.τ).loc Cert.AdTinyIdeal.main_arg3)
      ∧ m' ((c.tc : Thread Cert.AdTinyReferenceIdeal.nD Cert.AdTinyReferenceIdeal.τ).loc Cert.AdTinyReferenceIdeal.main_arg4) = m ((c.tc : Thread Cert.AdTinyIdeal.nD Cert.AdTinyIdeal.τ).loc Cert.AdTinyIdeal.main_arg4)
      ∧ m' ((c.tc : Thread Cert.AdTinyReferenceIdeal.nD Cert.AdTinyReferenceIdeal.τ).loc Cert.AdTinyReferenceIdeal.main_arg5) = m ((c.tc : Thread Cert.AdTinyIdeal.nD Cert.AdTinyIdeal.τ).loc Cert.AdTinyIdeal.main_arg5)
      ∧ m' ((c.tc : Thread Cert.AdTinyReferenceIdeal.nD Cert.AdTinyReferenceIdeal.τ).loc Cert.AdTinyReferenceIdeal.main_arg6) = m ((c.tc : Thread Cert.AdTinyIdeal.nD Cert.AdTinyIdeal.τ).loc Cert.AdTinyIdeal.main_arg6)
      ∧ m' ((c.tc : Thread Cert.AdTinyReferenceIdeal.nD Cert.AdTinyReferenceIdeal.τ).loc Cert.AdTinyReferenceIdeal.main_arg7) = m ((c.tc : Thread Cert.AdTinyIdeal.nD Cert.AdTinyIdeal.τ).loc Cert.AdTinyIdeal.main_arg7)
      ∧ m' ((c.tc : Thread Cert.AdTinyReferenceIdeal.nD Cert.AdTinyReferenceIdeal.τ).loc Cert.AdTinyReferenceIdeal.main_arg8) = m ((c.tc : Thread Cert.AdTinyIdeal.nD Cert.AdTinyIdeal.τ).loc Cert.AdTinyIdeal.main_arg8)
      ∧ m' ((c.tc : Thread Cert.AdTinyReferenceIdeal.nD Cert.AdTinyReferenceIdeal.τ).loc Cert.AdTinyReferenceIdeal.main_arg9) = m ((c.tc : Thread Cert.AdTinyIdeal.nD Cert.AdTinyIdeal.τ).loc Cert.AdTinyIdeal.main_arg9)
      ∧ m' ((c.tc : Thread Cert.AdTinyReferenceIdeal.nD Cert.AdTinyReferenceIdeal.τ).loc Cert.AdTinyReferenceIdeal.main_arg10) = m ((c.tc : Thread Cert.AdTinyIdeal.nD Cert.AdTinyIdeal.τ).loc Cert.AdTinyIdeal.main_arg10)
      ∧ m' ((c.tc : Thread Cert.AdTinyReferenceIdeal.nD Cert.AdTinyReferenceIdeal.τ).loc Cert.AdTinyReferenceIdeal.main_arg11) = m ((c.tc : Thread Cert.AdTinyIdeal.nD Cert.AdTinyIdeal.τ).loc Cert.AdTinyIdeal.main_arg11)
      ∧ m' ((c.tc : Thread Cert.AdTinyReferenceIdeal.nD Cert.AdTinyReferenceIdeal.τ).loc Cert.AdTinyReferenceIdeal.main_arg12) = m ((c.tc : Thread Cert.AdTinyIdeal.nD Cert.AdTinyIdeal.τ).loc Cert.AdTinyIdeal.main_arg12)
      ∧ m' ((c.tc : Thread Cert.AdTinyReferenceIdeal.nD Cert.AdTinyReferenceIdeal.τ).loc Cert.AdTinyReferenceIdeal.main_arg13) = m ((c.tc : Thread Cert.AdTinyIdeal.nD Cert.AdTinyIdeal.τ).loc Cert.AdTinyIdeal.main_arg13)
      ∧ m' ((c.tc : Thread Cert.AdTinyReferenceIdeal.nD Cert.AdTinyReferenceIdeal.τ).loc Cert.AdTinyReferenceIdeal.main_arg14) = m ((c.tc : Thread Cert.AdTinyIdeal.nD Cert.AdTinyIdeal.τ).loc Cert.AdTinyIdeal.main_arg14)
      ∧ m' ((c.tc : Thread Cert.AdTinyReferenceIdeal.nD Cert.AdTinyReferenceIdeal.τ).loc Cert.AdTinyReferenceIdeal.main_arg15) = m ((c.tc : Thread Cert.AdTinyIdeal.nD Cert.AdTinyIdeal.τ).loc Cert.AdTinyIdeal.main_arg15)
      ∧ m' ((c.tc : Thread Cert.AdTinyReferenceIdeal.nD Cert.AdTinyReferenceIdeal.τ).loc Cert.AdTinyReferenceIdeal.main_arg16) = m ((c.tc : Thread Cert.AdTinyIdeal.nD Cert.AdTinyIdeal.τ).loc Cert.AdTinyIdeal.main_arg16)
      ∧ m' ((c.tc : Thread Cert.AdTinyReferenceIdeal.nD Cert.AdTinyReferenceIdeal.τ).loc Cert.AdTinyReferenceIdeal.main_arg17) = m ((c.tc : Thread Cert.AdTinyIdeal.nD Cert.AdTinyIdeal.τ).loc Cert.AdTinyIdeal.main_arg17)
      ∧ m' ((c.tc : Thread Cert.AdTinyReferenceIdeal.nD Cert.AdTinyReferenceIdeal.τ).loc Cert.AdTinyReferenceIdeal.main_arg18) = m ((c.tc : Thread Cert.AdTinyIdeal.nD Cert.AdTinyIdeal.τ).loc Cert.AdTinyIdeal.main_arg18)
      ∧ m' ((c.tc : Thread Cert.AdTinyReferenceIdeal.nD Cert.AdTinyReferenceIdeal.τ).loc Cert.AdTinyReferenceIdeal.main_arg19) = m ((c.tc : Thread Cert.AdTinyIdeal.nD Cert.AdTinyIdeal.τ).loc Cert.AdTinyIdeal.main_arg19)
      ∧ m' ((c.tc : Thread Cert.AdTinyReferenceIdeal.nD Cert.AdTinyReferenceIdeal.τ).loc Cert.AdTinyReferenceIdeal.main_arg20) = m ((c.tc : Thread Cert.AdTinyIdeal.nD Cert.AdTinyIdeal.τ).loc Cert.AdTinyIdeal.main_arg20)
      ∧ m' ((c.tc : Thread Cert.AdTinyReferenceIdeal.nD Cert.AdTinyReferenceIdeal.τ).loc Cert.AdTinyReferenceIdeal.main_arg21) = m ((c.tc : Thread Cert.AdTinyIdeal.nD Cert.AdTinyIdeal.τ).loc Cert.AdTinyIdeal.main_arg21)
      ∧ m' ((c.tc : Thread Cert.AdTinyReferenceIdeal.nD Cert.AdTinyReferenceIdeal.τ).loc Cert.AdTinyReferenceIdeal.main_arg22) = m ((c.tc : Thread Cert.AdTinyIdeal.nD Cert.AdTinyIdeal.τ).loc Cert.AdTinyIdeal.main_arg22)
      ∧ m' ((c.tc : Thread Cert.AdTinyReferenceIdeal.nD Cert.AdTinyReferenceIdeal.τ).loc Cert.AdTinyReferenceIdeal.main_arg23) = m ((c.tc : Thread Cert.AdTinyIdeal.nD Cert.AdTinyIdeal.τ).loc Cert.AdTinyIdeal.main_arg23)
      ∧ m' ((c.tc : Thread Cert.AdTinyReferenceIdeal.nD Cert.AdTinyReferenceIdeal.τ).loc Cert.AdTinyReferenceIdeal.main_arg24) = m ((c.tc : Thread Cert.AdTinyIdeal.nD Cert.AdTinyIdeal.τ).loc Cert.AdTinyIdeal.main_arg24)) →
    ∃ (v0 : (c : Dev Cert.AdTinyIdeal.nD) → Buf (Elt Ideal) ((c.tc : Thread Cert.AdTinyIdeal.nD Cert.AdTinyIdeal.τ).loc Cert.AdTinyIdeal.main_v0_0)) (v1 : (c : Dev Cert.AdTinyIdeal.nD) → Buf (Elt Ideal) ((c.tc : Thread Cert.AdTinyIdeal.nD Cert.AdTinyIdeal.τ).loc Cert.AdTinyIdeal.main_v0_1)) (v2 : (c : Dev Cert.AdTinyIdeal.nD) → Buf (Elt Ideal) ((c.tc : Thread Cert.AdTinyIdeal.nD Cert.AdTinyIdeal.τ).loc Cert.AdTinyIdeal.main_v0_2)) (v3 : (c : Dev Cert.AdTinyIdeal.nD) → Buf (Elt Ideal) ((c.tc : Thread Cert.AdTinyIdeal.nD Cert.AdTinyIdeal.τ).loc Cert.AdTinyIdeal.main_v0_3)) (v4 : (c : Dev Cert.AdTinyIdeal.nD) → Buf (Elt Ideal) ((c.tc : Thread Cert.AdTinyIdeal.nD Cert.AdTinyIdeal.τ).loc Cert.AdTinyIdeal.main_v0_4)) (v5 : (c : Dev Cert.AdTinyIdeal.nD) → Buf (Elt Ideal) ((c.tc : Thread Cert.AdTinyIdeal.nD Cert.AdTinyIdeal.τ).loc Cert.AdTinyIdeal.main_v0_5)) (v6 : (c : Dev Cert.AdTinyIdeal.nD) → Buf (Elt Ideal) ((c.tc : Thread Cert.AdTinyIdeal.nD Cert.AdTinyIdeal.τ).loc Cert.AdTinyIdeal.main_v0_6)) (v7 : (c : Dev Cert.AdTinyIdeal.nD) → Buf (Elt Ideal) ((c.tc : Thread Cert.AdTinyIdeal.nD Cert.AdTinyIdeal.τ).loc Cert.AdTinyIdeal.main_v0_7)) (v8 : (c : Dev Cert.AdTinyIdeal.nD) → Buf (Elt Ideal) ((c.tc : Thread Cert.AdTinyIdeal.nD Cert.AdTinyIdeal.τ).loc Cert.AdTinyIdeal.main_v0_8)) (v9 : (c : Dev Cert.AdTinyIdeal.nD) → Buf (Elt Ideal) ((c.tc : Thread Cert.AdTinyIdeal.nD Cert.AdTinyIdeal.τ).loc Cert.AdTinyIdeal.main_v0_9)) (v10 : (c : Dev Cert.AdTinyIdeal.nD) → Buf (Elt Ideal) ((c.tc : Thread Cert.AdTinyIdeal.nD Cert.AdTinyIdeal.τ).loc Cert.AdTinyIdeal.main_v0_10)) (v11 : (c : Dev Cert.AdTinyIdeal.nD) → Buf (Elt Ideal) ((c.tc : Thread Cert.AdTinyIdeal.nD Cert.AdTinyIdeal.τ).loc Cert.AdTinyIdeal.main_v0_11)) (v12 : (c : Dev Cert.AdTinyIdeal.nD) → Buf (Elt Ideal) ((c.tc : Thread Cert.AdTinyIdeal.nD Cert.AdTinyIdeal.τ).loc Cert.AdTinyIdeal.main_v0_12)) (v13 : (c : Dev Cert.AdTinyIdeal.nD) → Buf (Elt Ideal) ((c.tc : Thread Cert.AdTinyIdeal.nD Cert.AdTinyIdeal.τ).loc Cert.AdTinyIdeal.main_v0_13)) (v14 : (c : Dev Cert.AdTinyIdeal.nD) → Buf (Elt Ideal) ((c.tc : Thread Cert.AdTinyIdeal.nD Cert.AdTinyIdeal.τ).loc Cert.AdTinyIdeal.main_v0_14)) (v15 : (c : Dev Cert.AdTinyIdeal.nD) → Buf (Elt Ideal) ((c.tc : Thread Cert.AdTinyIdeal.nD Cert.AdTinyIdeal.τ).loc Cert.AdTinyIdeal.main_v0_15)) (v16 : (c : Dev Cert.AdTinyIdeal.nD) → Buf (Elt Ideal) ((c.tc : Thread Cert.AdTinyIdeal.nD Cert.AdTinyIdeal.τ).loc Cert.AdTinyIdeal.main_v0_16)) (v17 : (c : Dev Cert.AdTinyIdeal.nD) → Buf (Elt Ideal) ((c.tc : Thread Cert.AdTinyIdeal.nD Cert.AdTinyIdeal.τ).loc Cert.AdTinyIdeal.main_v0_17)) (v18 : (c : Dev Cert.AdTinyIdeal.nD) → Buf (Elt Ideal) ((c.tc : Thread Cert.AdTinyIdeal.nD Cert.AdTinyIdeal.τ).loc Cert.AdTinyIdeal.main_v0_18)) (v19 : (c : Dev Cert.AdTinyIdeal.nD) → Buf (Elt Ideal) ((c.tc : Thread Cert.AdTinyIdeal.nD Cert.AdTinyIdeal.τ).loc Cert.AdTinyIdeal.main_v0_19)) (v20 : (c : Dev Cert.AdTinyIdeal.nD) → Buf (Elt Ideal) ((c.tc : Thread Cert.AdTinyIdeal.nD Cert.AdTinyIdeal.τ).loc Cert.AdTinyIdeal.main_v0_20)) (v21 : (c : Dev Cert.AdTinyIdeal.nD) → Buf (Elt Ideal) ((c.tc : Thread Cert.AdTinyIdeal.nD Cert.AdTinyIdeal.τ).loc Cert.AdTinyIdeal.main_v0_21)) (v22 : (c : Dev Cert.AdTinyIdeal.nD) → Buf (Elt Ideal) ((c.tc : Thread Cert.AdTinyIdeal.nD Cert.AdTinyIdeal.τ).loc Cert.AdTinyIdeal.main_v0_22)) (v23 : (c : Dev Cert.AdTinyIdeal.nD) → Buf (Elt Ideal) ((c.tc : Thread Cert.AdTinyIdeal.nD Cert.AdTinyIdeal.τ).loc Cert.AdTinyIdeal.main_v0_23)) (v24 : (c : Dev Cert.AdTinyIdeal.nD) → Buf (Elt Ideal) ((c.tc : Thread Cert.AdTinyIdeal.nD Cert.AdTinyIdeal.τ).loc Cert.AdTinyIdeal.main_v0_24)) (v25 : (c : Dev Cert.AdTinyIdeal.nD) → Buf (Elt Ideal) ((c.tc : Thread Cert.AdTinyIdeal.nD Cert.AdTinyIdeal.τ).loc Cert.AdTinyIdeal.main_v0_25)) (v26 : (c : Dev Cert.AdTinyIdeal.nD) → Buf (Elt Ideal) ((c.tc : Thread Cert.AdTinyIdeal.nD Cert.AdTinyIdeal.τ).loc Cert.AdTinyIdeal.main_v0_26)) (v27 : (c : Dev Cert.AdTinyIdeal.nD) → Buf (Elt Ideal) ((c.tc : Thread Cert.AdTinyIdeal.nD Cert.AdTinyIdeal.τ).loc Cert.AdTinyIdeal.main_v0_27)) (v28 : (c : Dev Cert.AdTinyIdeal.nD) → Buf (Elt Ideal) ((c.tc : Thread Cert.AdTinyIdeal.nD Cert.AdTinyIdeal.τ).loc Cert.AdTinyIdeal.main_v0_28)) (v29 : (c : Dev Cert.AdTinyIdeal.nD) → Buf (Elt Ideal) ((c.tc : Thread Cert.AdTinyIdeal.nD Cert.AdTinyIdeal.τ).loc Cert.AdTinyIdeal.main_v0_29)) (v30 : (c : Dev Cert.AdTinyIdeal.nD) → Buf (Elt Ideal) ((c.tc : Thread Cert.AdTinyIdeal.nD Cert.AdTinyIdeal.τ).loc Cert.AdTinyIdeal.main_v0_30)) (v31 : (c : Dev Cert.AdTinyIdeal.nD) → Buf (Elt Ideal) ((c.tc : Thread Cert.AdTinyIdeal.nD Cert.AdTinyIdeal.τ).loc Cert.AdTinyIdeal.main_v0_31)) (v32 : (c : Dev Cert.AdTinyIdeal.nD) → Buf (Elt Ideal) ((c.tc : Thread Cert.AdTinyIdeal.nD Cert.AdTinyIdeal.τ).loc Cert.AdTinyIdeal.main_v0_32)),
      θ_run (Cert.AdTinyIdeal.defs (F := Ideal)) (onTc (τ := Cert.AdTinyIdeal.τ) (Cert.AdTinyIdeal.main (F := Ideal))) ⟨m, fun _ => 0, g⟩ (fun r => ∀ c : Dev Cert.AdTinyIdeal.nD,
          r.2.mem ((c.tc : Thread Cert.AdTinyIdeal.nD Cert.AdTinyIdeal.τ).loc Cert.AdTinyIdeal.main_v0_0) = v0 c
          ∧ r.2.mem ((c.tc : Thread Cert.AdTinyIdeal.nD Cert.AdTinyIdeal.τ).loc Cert.AdTinyIdeal.main_v0_1) = v1 c
          ∧ r.2.mem ((c.tc : Thread Cert.AdTinyIdeal.nD Cert.AdTinyIdeal.τ).loc Cert.AdTinyIdeal.main_v0_2) = v2 c
          ∧ r.2.mem ((c.tc : Thread Cert.AdTinyIdeal.nD Cert.AdTinyIdeal.τ).loc Cert.AdTinyIdeal.main_v0_3) = v3 c
          ∧ r.2.mem ((c.tc : Thread Cert.AdTinyIdeal.nD Cert.AdTinyIdeal.τ).loc Cert.AdTinyIdeal.main_v0_4) = v4 c
          ∧ r.2.mem ((c.tc : Thread Cert.AdTinyIdeal.nD Cert.AdTinyIdeal.τ).loc Cert.AdTinyIdeal.main_v0_5) = v5 c
          ∧ r.2.mem ((c.tc : Thread Cert.AdTinyIdeal.nD Cert.AdTinyIdeal.τ).loc Cert.AdTinyIdeal.main_v0_6) = v6 c
          ∧ r.2.mem ((c.tc : Thread Cert.AdTinyIdeal.nD Cert.AdTinyIdeal.τ).loc Cert.AdTinyIdeal.main_v0_7) = v7 c
          ∧ r.2.mem ((c.tc : Thread Cert.AdTinyIdeal.nD Cert.AdTinyIdeal.τ).loc Cert.AdTinyIdeal.main_v0_8) = v8 c
          ∧ r.2.mem ((c.tc : Thread Cert.AdTinyIdeal.nD Cert.AdTinyIdeal.τ).loc Cert.AdTinyIdeal.main_v0_9) = v9 c
          ∧ r.2.mem ((c.tc : Thread Cert.AdTinyIdeal.nD Cert.AdTinyIdeal.τ).loc Cert.AdTinyIdeal.main_v0_10) = v10 c
          ∧ r.2.mem ((c.tc : Thread Cert.AdTinyIdeal.nD Cert.AdTinyIdeal.τ).loc Cert.AdTinyIdeal.main_v0_11) = v11 c
          ∧ r.2.mem ((c.tc : Thread Cert.AdTinyIdeal.nD Cert.AdTinyIdeal.τ).loc Cert.AdTinyIdeal.main_v0_12) = v12 c
          ∧ r.2.mem ((c.tc : Thread Cert.AdTinyIdeal.nD Cert.AdTinyIdeal.τ).loc Cert.AdTinyIdeal.main_v0_13) = v13 c
          ∧ r.2.mem ((c.tc : Thread Cert.AdTinyIdeal.nD Cert.AdTinyIdeal.τ).loc Cert.AdTinyIdeal.main_v0_14) = v14 c
          ∧ r.2.mem ((c.tc : Thread Cert.AdTinyIdeal.nD Cert.AdTinyIdeal.τ).loc Cert.AdTinyIdeal.main_v0_15) = v15 c
          ∧ r.2.mem ((c.tc : Thread Cert.AdTinyIdeal.nD Cert.AdTinyIdeal.τ).loc Cert.AdTinyIdeal.main_v0_16) = v16 c
          ∧ r.2.mem ((c.tc : Thread Cert.AdTinyIdeal.nD Cert.AdTinyIdeal.τ).loc Cert.AdTinyIdeal.main_v0_17) = v17 c
          ∧ r.2.mem ((c.tc : Thread Cert.AdTinyIdeal.nD Cert.AdTinyIdeal.τ).loc Cert.AdTinyIdeal.main_v0_18) = v18 c
          ∧ r.2.mem ((c.tc : Thread Cert.AdTinyIdeal.nD Cert.AdTinyIdeal.τ).loc Cert.AdTinyIdeal.main_v0_19) = v19 c
          ∧ r.2.mem ((c.tc : Thread Cert.AdTinyIdeal.nD Cert.AdTinyIdeal.τ).loc Cert.AdTinyIdeal.main_v0_20) = v20 c
          ∧ r.2.mem ((c.tc : Thread Cert.AdTinyIdeal.nD Cert.AdTinyIdeal.τ).loc Cert.AdTinyIdeal.main_v0_21) = v21 c
          ∧ r.2.mem ((c.tc : Thread Cert.AdTinyIdeal.nD Cert.AdTinyIdeal.τ).loc Cert.AdTinyIdeal.main_v0_22) = v22 c
          ∧ r.2.mem ((c.tc : Thread Cert.AdTinyIdeal.nD Cert.AdTinyIdeal.τ).loc Cert.AdTinyIdeal.main_v0_23) = v23 c
          ∧ r.2.mem ((c.tc : Thread Cert.AdTinyIdeal.nD Cert.AdTinyIdeal.τ).loc Cert.AdTinyIdeal.main_v0_24) = v24 c
          ∧ r.2.mem ((c.tc : Thread Cert.AdTinyIdeal.nD Cert.AdTinyIdeal.τ).loc Cert.AdTinyIdeal.main_v0_25) = v25 c
          ∧ r.2.mem ((c.tc : Thread Cert.AdTinyIdeal.nD Cert.AdTinyIdeal.τ).loc Cert.AdTinyIdeal.main_v0_26) = v26 c
          ∧ r.2.mem ((c.tc : Thread Cert.AdTinyIdeal.nD Cert.AdTinyIdeal.τ).loc Cert.AdTinyIdeal.main_v0_27) = v27 c
          ∧ r.2.mem ((c.tc : Thread Cert.AdTinyIdeal.nD Cert.AdTinyIdeal.τ).loc Cert.AdTinyIdeal.main_v0_28) = v28 c
          ∧ r.2.mem ((c.tc : Thread Cert.AdTinyIdeal.nD Cert.AdTinyIdeal.τ).loc Cert.AdTinyIdeal.main_v0_29) = v29 c
          ∧ r.2.mem ((c.tc : Thread Cert.AdTinyIdeal.nD Cert.AdTinyIdeal.τ).loc Cert.AdTinyIdeal.main_v0_30) = v30 c
          ∧ r.2.mem ((c.tc : Thread Cert.AdTinyIdeal.nD Cert.AdTinyIdeal.τ).loc Cert.AdTinyIdeal.main_v0_31) = v31 c
          ∧ r.2.mem ((c.tc : Thread Cert.AdTinyIdeal.nD Cert.AdTinyIdeal.τ).loc Cert.AdTinyIdeal.main_v0_32) = v32 c
          ∧ r.2.mem ((c.tc : Thread Cert.AdTinyIdeal.nD Cert.AdTinyIdeal.τ).loc Cert.AdTinyIdeal.main_arg0) = m ((c.tc : Thread Cert.AdTinyIdeal.nD Cert.AdTinyIdeal.τ).loc Cert.AdTinyIdeal.main_arg0)
          ∧ r.2.mem ((c.tc : Thread Cert.AdTinyIdeal.nD Cert.AdTinyIdeal.τ).loc Cert.AdTinyIdeal.main_arg1) = m ((c.tc : Thread Cert.AdTinyIdeal.nD Cert.AdTinyIdeal.τ).loc Cert.AdTinyIdeal.main_arg1)
          ∧ r.2.mem ((c.tc : Thread Cert.AdTinyIdeal.nD Cert.AdTinyIdeal.τ).loc Cert.AdTinyIdeal.main_arg2) = m ((c.tc : Thread Cert.AdTinyIdeal.nD Cert.AdTinyIdeal.τ).loc Cert.AdTinyIdeal.main_arg2)
          ∧ r.2.mem ((c.tc : Thread Cert.AdTinyIdeal.nD Cert.AdTinyIdeal.τ).loc Cert.AdTinyIdeal.main_arg3) = m ((c.tc : Thread Cert.AdTinyIdeal.nD Cert.AdTinyIdeal.τ).loc Cert.AdTinyIdeal.main_arg3)
          ∧ r.2.mem ((c.tc : Thread Cert.AdTinyIdeal.nD Cert.AdTinyIdeal.τ).loc Cert.AdTinyIdeal.main_arg4) = m ((c.tc : Thread Cert.AdTinyIdeal.nD Cert.AdTinyIdeal.τ).loc Cert.AdTinyIdeal.main_arg4)
          ∧ r.2.mem ((c.tc : Thread Cert.AdTinyIdeal.nD Cert.AdTinyIdeal.τ).loc Cert.AdTinyIdeal.main_arg5) = m ((c.tc : Thread Cert.AdTinyIdeal.nD Cert.AdTinyIdeal.τ).loc Cert.AdTinyIdeal.main_arg5)
          ∧ r.2.mem ((c.tc : Thread Cert.AdTinyIdeal.nD Cert.AdTinyIdeal.τ).loc Cert.AdTinyIdeal.main_arg6) = m ((c.tc : Thread Cert.AdTinyIdeal.nD Cert.AdTinyIdeal.τ).loc Cert.AdTinyIdeal.main_arg6)
          ∧ r.2.mem ((c.tc : Thread Cert.AdTinyIdeal.nD Cert.AdTinyIdeal.τ).loc Cert.AdTinyIdeal.main_arg7) = m ((c.tc : Thread Cert.AdTinyIdeal.nD Cert.AdTinyIdeal.τ).loc Cert.AdTinyIdeal.main_arg7)
          ∧ r.2.mem ((c.tc : Thread Cert.AdTinyIdeal.nD Cert.AdTinyIdeal.τ).loc Cert.AdTinyIdeal.main_arg8) = m ((c.tc : Thread Cert.AdTinyIdeal.nD Cert.AdTinyIdeal.τ).loc Cert.AdTinyIdeal.main_arg8)
          ∧ r.2.mem ((c.tc : Thread Cert.AdTinyIdeal.nD Cert.AdTinyIdeal.τ).loc Cert.AdTinyIdeal.main_arg9) = m ((c.tc : Thread Cert.AdTinyIdeal.nD Cert.AdTinyIdeal.τ).loc Cert.AdTinyIdeal.main_arg9)
          ∧ r.2.mem ((c.tc : Thread Cert.AdTinyIdeal.nD Cert.AdTinyIdeal.τ).loc Cert.AdTinyIdeal.main_arg10) = m ((c.tc : Thread Cert.AdTinyIdeal.nD Cert.AdTinyIdeal.τ).loc Cert.AdTinyIdeal.main_arg10)
          ∧ r.2.mem ((c.tc : Thread Cert.AdTinyIdeal.nD Cert.AdTinyIdeal.τ).loc Cert.AdTinyIdeal.main_arg11) = m ((c.tc : Thread Cert.AdTinyIdeal.nD Cert.AdTinyIdeal.τ).loc Cert.AdTinyIdeal.main_arg11)
          ∧ r.2.mem ((c.tc : Thread Cert.AdTinyIdeal.nD Cert.AdTinyIdeal.τ).loc Cert.AdTinyIdeal.main_arg12) = m ((c.tc : Thread Cert.AdTinyIdeal.nD Cert.AdTinyIdeal.τ).loc Cert.AdTinyIdeal.main_arg12)
          ∧ r.2.mem ((c.tc : Thread Cert.AdTinyIdeal.nD Cert.AdTinyIdeal.τ).loc Cert.AdTinyIdeal.main_arg13) = m ((c.tc : Thread Cert.AdTinyIdeal.nD Cert.AdTinyIdeal.τ).loc Cert.AdTinyIdeal.main_arg13)
          ∧ r.2.mem ((c.tc : Thread Cert.AdTinyIdeal.nD Cert.AdTinyIdeal.τ).loc Cert.AdTinyIdeal.main_arg14) = m ((c.tc : Thread Cert.AdTinyIdeal.nD Cert.AdTinyIdeal.τ).loc Cert.AdTinyIdeal.main_arg14)
          ∧ r.2.mem ((c.tc : Thread Cert.AdTinyIdeal.nD Cert.AdTinyIdeal.τ).loc Cert.AdTinyIdeal.main_arg15) = m ((c.tc : Thread Cert.AdTinyIdeal.nD Cert.AdTinyIdeal.τ).loc Cert.AdTinyIdeal.main_arg15)
          ∧ r.2.mem ((c.tc : Thread Cert.AdTinyIdeal.nD Cert.AdTinyIdeal.τ).loc Cert.AdTinyIdeal.main_arg16) = m ((c.tc : Thread Cert.AdTinyIdeal.nD Cert.AdTinyIdeal.τ).loc Cert.AdTinyIdeal.main_arg16)
          ∧ r.2.mem ((c.tc : Thread Cert.AdTinyIdeal.nD Cert.AdTinyIdeal.τ).loc Cert.AdTinyIdeal.main_arg17) = m ((c.tc : Thread Cert.AdTinyIdeal.nD Cert.AdTinyIdeal.τ).loc Cert.AdTinyIdeal.main_arg17)
          ∧ r.2.mem ((c.tc : Thread Cert.AdTinyIdeal.nD Cert.AdTinyIdeal.τ).loc Cert.AdTinyIdeal.main_arg18) = m ((c.tc : Thread Cert.AdTinyIdeal.nD Cert.AdTinyIdeal.τ).loc Cert.AdTinyIdeal.main_arg18)
          ∧ r.2.mem ((c.tc : Thread Cert.AdTinyIdeal.nD Cert.AdTinyIdeal.τ).loc Cert.AdTinyIdeal.main_arg19) = m ((c.tc : Thread Cert.AdTinyIdeal.nD Cert.AdTinyIdeal.τ).loc Cert.AdTinyIdeal.main_arg19)
          ∧ r.2.mem ((c.tc : Thread Cert.AdTinyIdeal.nD Cert.AdTinyIdeal.τ).loc Cert.AdTinyIdeal.main_arg20) = m ((c.tc : Thread Cert.AdTinyIdeal.nD Cert.AdTinyIdeal.τ).loc Cert.AdTinyIdeal.main_arg20)
          ∧ r.2.mem ((c.tc : Thread Cert.AdTinyIdeal.nD Cert.AdTinyIdeal.τ).loc Cert.AdTinyIdeal.main_arg21) = m ((c.tc : Thread Cert.AdTinyIdeal.nD Cert.AdTinyIdeal.τ).loc Cert.AdTinyIdeal.main_arg21)
          ∧ r.2.mem ((c.tc : Thread Cert.AdTinyIdeal.nD Cert.AdTinyIdeal.τ).loc Cert.AdTinyIdeal.main_arg22) = m ((c.tc : Thread Cert.AdTinyIdeal.nD Cert.AdTinyIdeal.τ).loc Cert.AdTinyIdeal.main_arg22)
          ∧ r.2.mem ((c.tc : Thread Cert.AdTinyIdeal.nD Cert.AdTinyIdeal.τ).loc Cert.AdTinyIdeal.main_arg23) = m ((c.tc : Thread Cert.AdTinyIdeal.nD Cert.AdTinyIdeal.τ).loc Cert.AdTinyIdeal.main_arg23)
          ∧ r.2.mem ((c.tc : Thread Cert.AdTinyIdeal.nD Cert.AdTinyIdeal.τ).loc Cert.AdTinyIdeal.main_arg24) = m ((c.tc : Thread Cert.AdTinyIdeal.nD Cert.AdTinyIdeal.τ).loc Cert.AdTinyIdeal.main_arg24))
      ∧ θ_run (Cert.AdTinyReferenceIdeal.defs (F := Ideal)) (onTc (τ := Cert.AdTinyReferenceIdeal.τ) (Cert.AdTinyReferenceIdeal.main (F := Ideal))) ⟨m', fun _ => 0, g'⟩ (fun r => ∀ c : Dev Cert.AdTinyReferenceIdeal.nD,
          r.2.mem ((c.tc : Thread Cert.AdTinyReferenceIdeal.nD Cert.AdTinyReferenceIdeal.τ).loc Cert.AdTinyReferenceIdeal.main_v1) = v0 c
          ∧ r.2.mem ((c.tc : Thread Cert.AdTinyReferenceIdeal.nD Cert.AdTinyReferenceIdeal.τ).loc Cert.AdTinyReferenceIdeal.main_v25) = v1 c
          ∧ r.2.mem ((c.tc : Thread Cert.AdTinyReferenceIdeal.nD Cert.AdTinyReferenceIdeal.τ).loc Cert.AdTinyReferenceIdeal.main_v6) = v2 c
          ∧ r.2.mem ((c.tc : Thread Cert.AdTinyReferenceIdeal.nD Cert.AdTinyReferenceIdeal.τ).loc Cert.AdTinyReferenceIdeal.main_v12) = v3 c
          ∧ r.2.mem ((c.tc : Thread Cert.AdTinyReferenceIdeal.nD Cert.AdTinyReferenceIdeal.τ).loc Cert.AdTinyReferenceIdeal.main_v26) = v4 c
          ∧ r.2.mem ((c.tc : Thread Cert.AdTinyReferenceIdeal.nD Cert.AdTinyReferenceIdeal.τ).loc Cert.AdTinyReferenceIdeal.main_v50) = v5 c
          ∧ r.2.mem ((c.tc : Thread Cert.AdTinyReferenceIdeal.nD Cert.AdTinyReferenceIdeal.τ).loc Cert.AdTinyReferenceIdeal.main_v31) = v6 c
          ∧ r.2.mem ((c.tc : Thread Cert.AdTinyReferenceIdeal.nD Cert.AdTinyReferenceIdeal.τ).loc Cert.AdTinyReferenceIdeal.main_v37) = v7 c
          ∧ r.2.mem ((c.tc : Thread Cert.AdTinyReferenceIdeal.nD Cert.AdTinyReferenceIdeal.τ).loc Cert.AdTinyReferenceIdeal.main_v51) = v8 c
          ∧ r.2.mem ((c.tc : Thread Cert.AdTinyReferenceIdeal.nD Cert.AdTinyReferenceIdeal.τ).loc Cert.AdTinyReferenceIdeal.main_v75) = v9 c
          ∧ r.2.mem ((c.tc : Thread Cert.AdTinyReferenceIdeal.nD Cert.AdTinyReferenceIdeal.τ).loc Cert.AdTinyReferenceIdeal.main_v56) = v10 c
          ∧ r.2.mem ((c.tc : Thread Cert.AdTinyReferenceIdeal.nD Cert.AdTinyReferenceIdeal.τ).loc Cert.AdTinyReferenceIdeal.main_v62) = v11 c
          ∧ r.2.mem ((c.tc : Thread Cert.AdTinyReferenceIdeal.nD Cert.AdTinyReferenceIdeal.τ).loc Cert.AdTinyReferenceIdeal.main_v76) = v12 c
          ∧ r.2.mem ((c.tc : Thread Cert.AdTinyReferenceIdeal.nD Cert.AdTinyReferenceIdeal.τ).loc Cert.AdTinyReferenceIdeal.main_v100) = v13 c
          ∧ r.2.mem ((c.tc : Thread Cert.AdTinyReferenceIdeal.nD Cert.AdTinyReferenceIdeal.τ).loc Cert.AdTinyReferenceIdeal.main_v81) = v14 c
          ∧ r.2.mem ((c.tc : Thread Cert.AdTinyReferenceIdeal.nD Cert.AdTinyReferenceIdeal.τ).loc Cert.AdTinyReferenceIdeal.main_v87) = v15 c
          ∧ r.2.mem ((c.tc : Thread Cert.AdTinyReferenceIdeal.nD Cert.AdTinyReferenceIdeal.τ).loc Cert.AdTinyReferenceIdeal.main_v101) = v16 c
          ∧ r.2.mem ((c.tc : Thread Cert.AdTinyReferenceIdeal.nD Cert.AdTinyReferenceIdeal.τ).loc Cert.AdTinyReferenceIdeal.main_v125) = v17 c
          ∧ r.2.mem ((c.tc : Thread Cert.AdTinyReferenceIdeal.nD Cert.AdTinyReferenceIdeal.τ).loc Cert.AdTinyReferenceIdeal.main_v106) = v18 c
          ∧ r.2.mem ((c.tc : Thread Cert.AdTinyReferenceIdeal.nD Cert.AdTinyReferenceIdeal.τ).loc Cert.AdTinyReferenceIdeal.main_v112) = v19 c
          ∧ r.2.mem ((c.tc : Thread Cert.AdTinyReferenceIdeal.nD Cert.AdTinyReferenceIdeal.τ).loc Cert.AdTinyReferenceIdeal.main_v126) = v20 c
          ∧ r.2.mem ((c.tc : Thread Cert.AdTinyReferenceIdeal.nD Cert.AdTinyReferenceIdeal.τ).loc Cert.AdTinyReferenceIdeal.main_v150) = v21 c
          ∧ r.2.mem ((c.tc : Thread Cert.AdTinyReferenceIdeal.nD Cert.AdTinyReferenceIdeal.τ).loc Cert.AdTinyReferenceIdeal.main_v131) = v22 c
          ∧ r.2.mem ((c.tc : Thread Cert.AdTinyReferenceIdeal.nD Cert.AdTinyReferenceIdeal.τ).loc Cert.AdTinyReferenceIdeal.main_v137) = v23 c
          ∧ r.2.mem ((c.tc : Thread Cert.AdTinyReferenceIdeal.nD Cert.AdTinyReferenceIdeal.τ).loc Cert.AdTinyReferenceIdeal.main_v151) = v24 c
          ∧ r.2.mem ((c.tc : Thread Cert.AdTinyReferenceIdeal.nD Cert.AdTinyReferenceIdeal.τ).loc Cert.AdTinyReferenceIdeal.main_v175) = v25 c
          ∧ r.2.mem ((c.tc : Thread Cert.AdTinyReferenceIdeal.nD Cert.AdTinyReferenceIdeal.τ).loc Cert.AdTinyReferenceIdeal.main_v156) = v26 c
          ∧ r.2.mem ((c.tc : Thread Cert.AdTinyReferenceIdeal.nD Cert.AdTinyReferenceIdeal.τ).loc Cert.AdTinyReferenceIdeal.main_v162) = v27 c
          ∧ r.2.mem ((c.tc : Thread Cert.AdTinyReferenceIdeal.nD Cert.AdTinyReferenceIdeal.τ).loc Cert.AdTinyReferenceIdeal.main_v176) = v28 c
          ∧ r.2.mem ((c.tc : Thread Cert.AdTinyReferenceIdeal.nD Cert.AdTinyReferenceIdeal.τ).loc Cert.AdTinyReferenceIdeal.main_v200) = v29 c
          ∧ r.2.mem ((c.tc : Thread Cert.AdTinyReferenceIdeal.nD Cert.AdTinyReferenceIdeal.τ).loc Cert.AdTinyReferenceIdeal.main_v181) = v30 c
          ∧ r.2.mem ((c.tc : Thread Cert.AdTinyReferenceIdeal.nD Cert.AdTinyReferenceIdeal.τ).loc Cert.AdTinyReferenceIdeal.main_v187) = v31 c
          ∧ r.2.mem ((c.tc : Thread Cert.AdTinyReferenceIdeal.nD Cert.AdTinyReferenceIdeal.τ).loc Cert.AdTinyReferenceIdeal.main_v201) = v32 c
          ∧ r.2.mem ((c.tc : Thread Cert.AdTinyReferenceIdeal.nD Cert.AdTinyReferenceIdeal.τ).loc Cert.AdTinyReferenceIdeal.main_arg0) = m' ((c.tc : Thread Cert.AdTinyReferenceIdeal.nD Cert.AdTinyReferenceIdeal.τ).loc Cert.AdTinyReferenceIdeal.main_arg0)
          ∧ r.2.mem ((c.tc : Thread Cert.AdTinyReferenceIdeal.nD Cert.AdTinyReferenceIdeal.τ).loc Cert.AdTinyReferenceIdeal.main_arg1) = m' ((c.tc : Thread Cert.AdTinyReferenceIdeal.nD Cert.AdTinyReferenceIdeal.τ).loc Cert.AdTinyReferenceIdeal.main_arg1)
          ∧ r.2.mem ((c.tc : Thread Cert.AdTinyReferenceIdeal.nD Cert.AdTinyReferenceIdeal.τ).loc Cert.AdTinyReferenceIdeal.main_arg2) = m' ((c.tc : Thread Cert.AdTinyReferenceIdeal.nD Cert.AdTinyReferenceIdeal.τ).loc Cert.AdTinyReferenceIdeal.main_arg2)
          ∧ r.2.mem ((c.tc : Thread Cert.AdTinyReferenceIdeal.nD Cert.AdTinyReferenceIdeal.τ).loc Cert.AdTinyReferenceIdeal.main_arg3) = m' ((c.tc : Thread Cert.AdTinyReferenceIdeal.nD Cert.AdTinyReferenceIdeal.τ).loc Cert.AdTinyReferenceIdeal.main_arg3)
          ∧ r.2.mem ((c.tc : Thread Cert.AdTinyReferenceIdeal.nD Cert.AdTinyReferenceIdeal.τ).loc Cert.AdTinyReferenceIdeal.main_arg4) = m' ((c.tc : Thread Cert.AdTinyReferenceIdeal.nD Cert.AdTinyReferenceIdeal.τ).loc Cert.AdTinyReferenceIdeal.main_arg4)
          ∧ r.2.mem ((c.tc : Thread Cert.AdTinyReferenceIdeal.nD Cert.AdTinyReferenceIdeal.τ).loc Cert.AdTinyReferenceIdeal.main_arg5) = m' ((c.tc : Thread Cert.AdTinyReferenceIdeal.nD Cert.AdTinyReferenceIdeal.τ).loc Cert.AdTinyReferenceIdeal.main_arg5)
          ∧ r.2.mem ((c.tc : Thread Cert.AdTinyReferenceIdeal.nD Cert.AdTinyReferenceIdeal.τ).loc Cert.AdTinyReferenceIdeal.main_arg6) = m' ((c.tc : Thread Cert.AdTinyReferenceIdeal.nD Cert.AdTinyReferenceIdeal.τ).loc Cert.AdTinyReferenceIdeal.main_arg6)
          ∧ r.2.mem ((c.tc : Thread Cert.AdTinyReferenceIdeal.nD Cert.AdTinyReferenceIdeal.τ).loc Cert.AdTinyReferenceIdeal.main_arg7) = m' ((c.tc : Thread Cert.AdTinyReferenceIdeal.nD Cert.AdTinyReferenceIdeal.τ).loc Cert.AdTinyReferenceIdeal.main_arg7)
          ∧ r.2.mem ((c.tc : Thread Cert.AdTinyReferenceIdeal.nD Cert.AdTinyReferenceIdeal.τ).loc Cert.AdTinyReferenceIdeal.main_arg8) = m' ((c.tc : Thread Cert.AdTinyReferenceIdeal.nD Cert.AdTinyReferenceIdeal.τ).loc Cert.AdTinyReferenceIdeal.main_arg8)
          ∧ r.2.mem ((c.tc : Thread Cert.AdTinyReferenceIdeal.nD Cert.AdTinyReferenceIdeal.τ).loc Cert.AdTinyReferenceIdeal.main_arg9) = m' ((c.tc : Thread Cert.AdTinyReferenceIdeal.nD Cert.AdTinyReferenceIdeal.τ).loc Cert.AdTinyReferenceIdeal.main_arg9)
          ∧ r.2.mem ((c.tc : Thread Cert.AdTinyReferenceIdeal.nD Cert.AdTinyReferenceIdeal.τ).loc Cert.AdTinyReferenceIdeal.main_arg10) = m' ((c.tc : Thread Cert.AdTinyReferenceIdeal.nD Cert.AdTinyReferenceIdeal.τ).loc Cert.AdTinyReferenceIdeal.main_arg10)
          ∧ r.2.mem ((c.tc : Thread Cert.AdTinyReferenceIdeal.nD Cert.AdTinyReferenceIdeal.τ).loc Cert.AdTinyReferenceIdeal.main_arg11) = m' ((c.tc : Thread Cert.AdTinyReferenceIdeal.nD Cert.AdTinyReferenceIdeal.τ).loc Cert.AdTinyReferenceIdeal.main_arg11)
          ∧ r.2.mem ((c.tc : Thread Cert.AdTinyReferenceIdeal.nD Cert.AdTinyReferenceIdeal.τ).loc Cert.AdTinyReferenceIdeal.main_arg12) = m' ((c.tc : Thread Cert.AdTinyReferenceIdeal.nD Cert.AdTinyReferenceIdeal.τ).loc Cert.AdTinyReferenceIdeal.main_arg12)
          ∧ r.2.mem ((c.tc : Thread Cert.AdTinyReferenceIdeal.nD Cert.AdTinyReferenceIdeal.τ).loc Cert.AdTinyReferenceIdeal.main_arg13) = m' ((c.tc : Thread Cert.AdTinyReferenceIdeal.nD Cert.AdTinyReferenceIdeal.τ).loc Cert.AdTinyReferenceIdeal.main_arg13)
          ∧ r.2.mem ((c.tc : Thread Cert.AdTinyReferenceIdeal.nD Cert.AdTinyReferenceIdeal.τ).loc Cert.AdTinyReferenceIdeal.main_arg14) = m' ((c.tc : Thread Cert.AdTinyReferenceIdeal.nD Cert.AdTinyReferenceIdeal.τ).loc Cert.AdTinyReferenceIdeal.main_arg14)
          ∧ r.2.mem ((c.tc : Thread Cert.AdTinyReferenceIdeal.nD Cert.AdTinyReferenceIdeal.τ).loc Cert.AdTinyReferenceIdeal.main_arg15) = m' ((c.tc : Thread Cert.AdTinyReferenceIdeal.nD Cert.AdTinyReferenceIdeal.τ).loc Cert.AdTinyReferenceIdeal.main_arg15)
          ∧ r.2.mem ((c.tc : Thread Cert.AdTinyReferenceIdeal.nD Cert.AdTinyReferenceIdeal.τ).loc Cert.AdTinyReferenceIdeal.main_arg16) = m' ((c.tc : Thread Cert.AdTinyReferenceIdeal.nD Cert.AdTinyReferenceIdeal.τ).loc Cert.AdTinyReferenceIdeal.main_arg16)
          ∧ r.2.mem ((c.tc : Thread Cert.AdTinyReferenceIdeal.nD Cert.AdTinyReferenceIdeal.τ).loc Cert.AdTinyReferenceIdeal.main_arg17) = m' ((c.tc : Thread Cert.AdTinyReferenceIdeal.nD Cert.AdTinyReferenceIdeal.τ).loc Cert.AdTinyReferenceIdeal.main_arg17)
          ∧ r.2.mem ((c.tc : Thread Cert.AdTinyReferenceIdeal.nD Cert.AdTinyReferenceIdeal.τ).loc Cert.AdTinyReferenceIdeal.main_arg18) = m' ((c.tc : Thread Cert.AdTinyReferenceIdeal.nD Cert.AdTinyReferenceIdeal.τ).loc Cert.AdTinyReferenceIdeal.main_arg18)
          ∧ r.2.mem ((c.tc : Thread Cert.AdTinyReferenceIdeal.nD Cert.AdTinyReferenceIdeal.τ).loc Cert.AdTinyReferenceIdeal.main_arg19) = m' ((c.tc : Thread Cert.AdTinyReferenceIdeal.nD Cert.AdTinyReferenceIdeal.τ).loc Cert.AdTinyReferenceIdeal.main_arg19)
          ∧ r.2.mem ((c.tc : Thread Cert.AdTinyReferenceIdeal.nD Cert.AdTinyReferenceIdeal.τ).loc Cert.AdTinyReferenceIdeal.main_arg20) = m' ((c.tc : Thread Cert.AdTinyReferenceIdeal.nD Cert.AdTinyReferenceIdeal.τ).loc Cert.AdTinyReferenceIdeal.main_arg20)
          ∧ r.2.mem ((c.tc : Thread Cert.AdTinyReferenceIdeal.nD Cert.AdTinyReferenceIdeal.τ).loc Cert.AdTinyReferenceIdeal.main_arg21) = m' ((c.tc : Thread Cert.AdTinyReferenceIdeal.nD Cert.AdTinyReferenceIdeal.τ).loc Cert.AdTinyReferenceIdeal.main_arg21)
          ∧ r.2.mem ((c.tc : Thread Cert.AdTinyReferenceIdeal.nD Cert.AdTinyReferenceIdeal.τ).loc Cert.AdTinyReferenceIdeal.main_arg22) = m' ((c.tc : Thread Cert.AdTinyReferenceIdeal.nD Cert.AdTinyReferenceIdeal.τ).loc Cert.AdTinyReferenceIdeal.main_arg22)
          ∧ r.2.mem ((c.tc : Thread Cert.AdTinyReferenceIdeal.nD Cert.AdTinyReferenceIdeal.τ).loc Cert.AdTinyReferenceIdeal.main_arg23) = m' ((c.tc : Thread Cert.AdTinyReferenceIdeal.nD Cert.AdTinyReferenceIdeal.τ).loc Cert.AdTinyReferenceIdeal.main_arg23)
          ∧ r.2.mem ((c.tc : Thread Cert.AdTinyReferenceIdeal.nD Cert.AdTinyReferenceIdeal.τ).loc Cert.AdTinyReferenceIdeal.main_arg24) = m' ((c.tc : Thread Cert.AdTinyReferenceIdeal.nD Cert.AdTinyReferenceIdeal.τ).loc Cert.AdTinyReferenceIdeal.main_arg24))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hDwFf2 : Cert.DwFf2.Facts) (hDwFf2Ideal : Cert.DwFf2Ideal.Facts) (hDwFf2ReferenceIdeal : Cert.DwFf2ReferenceIdeal.Facts) (hDwFf1 : Cert.DwFf1.Facts) (hDwFf1Ideal : Cert.DwFf1Ideal.Facts) (hDwFf1ReferenceIdeal : Cert.DwFf1ReferenceIdeal.Facts) (hDwOut : Cert.DwOut.Facts) (hDwOutIdeal : Cert.DwOutIdeal.Facts) (hDwOutReferenceIdeal : Cert.DwOutReferenceIdeal.Facts) (hDwIn : Cert.DwIn.Facts) (hDwInIdeal : Cert.DwInIdeal.Facts) (hDwInReferenceIdeal : Cert.DwInReferenceIdeal.Facts) (hProjBwd : Cert.ProjBwd.Facts) (hProjBwdIdeal : Cert.ProjBwdIdeal.Facts) (hProjBwdReferenceIdeal : Cert.ProjBwdReferenceIdeal.Facts) (hOutBwd : Cert.OutBwd.Facts) (hOutBwdIdeal : Cert.OutBwdIdeal.Facts) (hOutBwdReferenceIdeal : Cert.OutBwdReferenceIdeal.Facts) (hFfnFwd : Cert.FfnFwd.Facts) (hFfnFwdIdeal : Cert.FfnFwdIdeal.Facts) (hFfnFwdReferenceIdeal : Cert.FfnFwdReferenceIdeal.Facts) (hProjFwd : Cert.ProjFwd.Facts) (hProjFwdIdeal : Cert.ProjFwdIdeal.Facts) (hProjFwdReferenceIdeal : Cert.ProjFwdReferenceIdeal.Facts) (hOutFwd : Cert.OutFwd.Facts) (hOutFwdIdeal : Cert.OutFwdIdeal.Facts) (hOutFwdReferenceIdeal : Cert.OutFwdReferenceIdeal.Facts) (hAdIn : Cert.AdIn.Facts) (hAdInIdeal : Cert.AdInIdeal.Facts) (hAdInReferenceIdeal : Cert.AdInReferenceIdeal.Facts) (hAdOut : Cert.AdOut.Facts) (hAdOutIdeal : Cert.AdOutIdeal.Facts) (hAdOutReferenceIdeal : Cert.AdOutReferenceIdeal.Facts) (hAdFf1 : Cert.AdFf1.Facts) (hAdFf1Ideal : Cert.AdFf1Ideal.Facts) (hAdFf1ReferenceIdeal : Cert.AdFf1ReferenceIdeal.Facts) (hAdFf2 : Cert.AdFf2.Facts) (hAdFf2Ideal : Cert.AdFf2Ideal.Facts) (hAdFf2ReferenceIdeal : Cert.AdFf2ReferenceIdeal.Facts) (hAdSgu : Cert.AdSgu.Facts) (hAdSguIdeal : Cert.AdSguIdeal.Facts) (hAdSguReferenceIdeal : Cert.AdSguReferenceIdeal.Facts) (hGateFwd : Cert.GateFwd.Facts) (hGateFwdIdeal : Cert.GateFwdIdeal.Facts) (hGateFwdReferenceIdeal : Cert.GateFwdReferenceIdeal.Facts) (hAdTiny : Cert.AdTiny.Facts) (hAdTinyIdeal : Cert.AdTinyIdeal.Facts) (hAdTinyReferenceIdeal : Cert.AdTinyReferenceIdeal.Facts) (hPre_ffn_finite : Cert.Pre_ffn_finite.Facts) (hPre_proj_finite : Cert.Pre_proj_finite.Facts) (hPre_out_finite : Cert.Pre_out_finite.Facts) (hPre_fwd_finite : Cert.Pre_fwd_finite.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_DwFf2 (hDwFf2 := hDwFf2)
    ∧ quiescent_DwFf2Ideal (hDwFf2Ideal := hDwFf2Ideal)
    ∧ quiescent_DwFf2ReferenceIdeal (hDwFf2ReferenceIdeal := hDwFf2ReferenceIdeal)
    ∧ quiescent_DwFf1 (hDwFf1 := hDwFf1)
    ∧ quiescent_DwFf1Ideal (hDwFf1Ideal := hDwFf1Ideal)
    ∧ quiescent_DwFf1ReferenceIdeal (hDwFf1ReferenceIdeal := hDwFf1ReferenceIdeal)
    ∧ quiescent_DwOut (hDwOut := hDwOut)
    ∧ quiescent_DwOutIdeal (hDwOutIdeal := hDwOutIdeal)
    ∧ quiescent_DwOutReferenceIdeal (hDwOutReferenceIdeal := hDwOutReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_ProjBwd (hProjBwd := hProjBwd)
    ∧ quiescent_ProjBwdIdeal (hProjBwdIdeal := hProjBwdIdeal)
    ∧ quiescent_ProjBwdIdeal_pre_proj_finite (hProjBwdIdeal := hProjBwdIdeal) (hPre_proj_finite := hPre_proj_finite)
    ∧ quiescent_ProjBwdReferenceIdeal (hProjBwdReferenceIdeal := hProjBwdReferenceIdeal)
    ∧ quiescent_ProjBwdReferenceIdeal_pre_proj_finite (hProjBwdReferenceIdeal := hProjBwdReferenceIdeal) (hPre_proj_finite := hPre_proj_finite)
    ∧ quiescent_OutBwd (hOutBwd := hOutBwd)
    ∧ quiescent_OutBwdIdeal (hOutBwdIdeal := hOutBwdIdeal)
    ∧ quiescent_OutBwdIdeal_pre_out_finite (hOutBwdIdeal := hOutBwdIdeal) (hPre_out_finite := hPre_out_finite)
    ∧ quiescent_OutBwdReferenceIdeal (hOutBwdReferenceIdeal := hOutBwdReferenceIdeal)
    ∧ quiescent_OutBwdReferenceIdeal_pre_out_finite (hOutBwdReferenceIdeal := hOutBwdReferenceIdeal) (hPre_out_finite := hPre_out_finite)
    ∧ quiescent_FfnFwd (hFfnFwd := hFfnFwd)
    ∧ quiescent_FfnFwdIdeal (hFfnFwdIdeal := hFfnFwdIdeal)
    ∧ quiescent_FfnFwdIdeal_pre_fwd_finite (hFfnFwdIdeal := hFfnFwdIdeal) (hPre_fwd_finite := hPre_fwd_finite)
    ∧ quiescent_FfnFwdReferenceIdeal (hFfnFwdReferenceIdeal := hFfnFwdReferenceIdeal)
    ∧ quiescent_FfnFwdReferenceIdeal_pre_fwd_finite (hFfnFwdReferenceIdeal := hFfnFwdReferenceIdeal) (hPre_fwd_finite := hPre_fwd_finite)
    ∧ quiescent_ProjFwd (hProjFwd := hProjFwd)
    ∧ quiescent_ProjFwdIdeal (hProjFwdIdeal := hProjFwdIdeal)
    ∧ quiescent_ProjFwdReferenceIdeal (hProjFwdReferenceIdeal := hProjFwdReferenceIdeal)
    ∧ quiescent_OutFwd (hOutFwd := hOutFwd)
    ∧ quiescent_OutFwdIdeal (hOutFwdIdeal := hOutFwdIdeal)
    ∧ quiescent_OutFwdReferenceIdeal (hOutFwdReferenceIdeal := hOutFwdReferenceIdeal)
    ∧ quiescent_AdIn (hAdIn := hAdIn)
    ∧ quiescent_AdInIdeal (hAdInIdeal := hAdInIdeal)
    ∧ quiescent_AdInReferenceIdeal (hAdInReferenceIdeal := hAdInReferenceIdeal)
    ∧ quiescent_AdOut (hAdOut := hAdOut)
    ∧ quiescent_AdOutIdeal (hAdOutIdeal := hAdOutIdeal)
    ∧ quiescent_AdOutReferenceIdeal (hAdOutReferenceIdeal := hAdOutReferenceIdeal)
    ∧ quiescent_AdFf1 (hAdFf1 := hAdFf1)
    ∧ quiescent_AdFf1Ideal (hAdFf1Ideal := hAdFf1Ideal)
    ∧ quiescent_AdFf1ReferenceIdeal (hAdFf1ReferenceIdeal := hAdFf1ReferenceIdeal)
    ∧ quiescent_AdFf2 (hAdFf2 := hAdFf2)
    ∧ quiescent_AdFf2Ideal (hAdFf2Ideal := hAdFf2Ideal)
    ∧ quiescent_AdFf2ReferenceIdeal (hAdFf2ReferenceIdeal := hAdFf2ReferenceIdeal)
    ∧ quiescent_AdSgu (hAdSgu := hAdSgu)
    ∧ quiescent_AdSguIdeal (hAdSguIdeal := hAdSguIdeal)
    ∧ quiescent_AdSguReferenceIdeal (hAdSguReferenceIdeal := hAdSguReferenceIdeal)
    ∧ quiescent_GateFwd (hGateFwd := hGateFwd)
    ∧ quiescent_GateFwdIdeal (hGateFwdIdeal := hGateFwdIdeal)
    ∧ quiescent_GateFwdReferenceIdeal (hGateFwdReferenceIdeal := hGateFwdReferenceIdeal)
    ∧ quiescent_AdTiny (hAdTiny := hAdTiny)
    ∧ quiescent_AdTinyIdeal (hAdTinyIdeal := hAdTinyIdeal)
    ∧ quiescent_AdTinyReferenceIdeal (hAdTinyReferenceIdeal := hAdTinyReferenceIdeal)
    ∧ preserves_Kernel_KernelIdeal
    ∧ algebraic_KernelIdeal_ReferenceIdeal (hKernelIdeal := hKernelIdeal) (hReferenceIdeal := hReferenceIdeal)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_DwFf2_DwFf2Ideal
    ∧ algebraic_DwFf2Ideal_DwFf2ReferenceIdeal (hDwFf2Ideal := hDwFf2Ideal) (hDwFf2ReferenceIdeal := hDwFf2ReferenceIdeal)
    ∧ preserves_DwFf1_DwFf1Ideal
    ∧ algebraic_DwFf1Ideal_DwFf1ReferenceIdeal (hDwFf1Ideal := hDwFf1Ideal) (hDwFf1ReferenceIdeal := hDwFf1ReferenceIdeal)
    ∧ preserves_DwOut_DwOutIdeal
    ∧ algebraic_DwOutIdeal_DwOutReferenceIdeal (hDwOutIdeal := hDwOutIdeal) (hDwOutReferenceIdeal := hDwOutReferenceIdeal)
    ∧ preserves_DwIn_DwInIdeal
    ∧ algebraic_DwInIdeal_DwInReferenceIdeal (hDwInIdeal := hDwInIdeal) (hDwInReferenceIdeal := hDwInReferenceIdeal)
    ∧ preserves_ProjBwd_ProjBwdIdeal
    ∧ algebraic_ProjBwdIdeal_ProjBwdReferenceIdeal_pre_proj_finite (hProjBwdIdeal := hProjBwdIdeal) (hProjBwdReferenceIdeal := hProjBwdReferenceIdeal) (hPre_proj_finite := hPre_proj_finite)
    ∧ preserves_OutBwd_OutBwdIdeal
    ∧ algebraic_OutBwdIdeal_OutBwdReferenceIdeal_pre_out_finite (hOutBwdIdeal := hOutBwdIdeal) (hOutBwdReferenceIdeal := hOutBwdReferenceIdeal) (hPre_out_finite := hPre_out_finite)
    ∧ preserves_FfnFwd_FfnFwdIdeal
    ∧ algebraic_FfnFwdIdeal_FfnFwdReferenceIdeal_pre_fwd_finite (hFfnFwdIdeal := hFfnFwdIdeal) (hFfnFwdReferenceIdeal := hFfnFwdReferenceIdeal) (hPre_fwd_finite := hPre_fwd_finite)
    ∧ preserves_ProjFwd_ProjFwdIdeal
    ∧ algebraic_ProjFwdIdeal_ProjFwdReferenceIdeal (hProjFwdIdeal := hProjFwdIdeal) (hProjFwdReferenceIdeal := hProjFwdReferenceIdeal)
    ∧ preserves_OutFwd_OutFwdIdeal
    ∧ algebraic_OutFwdIdeal_OutFwdReferenceIdeal (hOutFwdIdeal := hOutFwdIdeal) (hOutFwdReferenceIdeal := hOutFwdReferenceIdeal)
    ∧ preserves_AdIn_AdInIdeal
    ∧ algebraic_AdInIdeal_AdInReferenceIdeal (hAdInIdeal := hAdInIdeal) (hAdInReferenceIdeal := hAdInReferenceIdeal)
    ∧ preserves_AdOut_AdOutIdeal
    ∧ algebraic_AdOutIdeal_AdOutReferenceIdeal (hAdOutIdeal := hAdOutIdeal) (hAdOutReferenceIdeal := hAdOutReferenceIdeal)
    ∧ preserves_AdFf1_AdFf1Ideal
    ∧ algebraic_AdFf1Ideal_AdFf1ReferenceIdeal (hAdFf1Ideal := hAdFf1Ideal) (hAdFf1ReferenceIdeal := hAdFf1ReferenceIdeal)
    ∧ preserves_AdFf2_AdFf2Ideal
    ∧ algebraic_AdFf2Ideal_AdFf2ReferenceIdeal (hAdFf2Ideal := hAdFf2Ideal) (hAdFf2ReferenceIdeal := hAdFf2ReferenceIdeal)
    ∧ preserves_AdSgu_AdSguIdeal
    ∧ algebraic_AdSguIdeal_AdSguReferenceIdeal (hAdSguIdeal := hAdSguIdeal) (hAdSguReferenceIdeal := hAdSguReferenceIdeal)
    ∧ preserves_GateFwd_GateFwdIdeal
    ∧ algebraic_GateFwdIdeal_GateFwdReferenceIdeal (hGateFwdIdeal := hGateFwdIdeal) (hGateFwdReferenceIdeal := hGateFwdReferenceIdeal)
    ∧ preserves_AdTiny_AdTinyIdeal
    ∧ algebraic_AdTinyIdeal_AdTinyReferenceIdeal (hAdTinyIdeal := hAdTinyIdeal) (hAdTinyReferenceIdeal := hAdTinyReferenceIdeal)
-- ==== Pre_ffn_finite.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S8192x1024 .f32) (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  main_v24

def fn {F : FTy → Type} [FloatOps F] (main_arg0 : FVec F S8192x1024 .f32) (main_arg1 : FVec F S1024 .f32) (main_arg2 : FVec F S1024x4096 .f32) (main_arg3 : FVec F S4096x1024 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x4096 .f32 := Host.absf main_arg2
  let main_cst_3 : FVec F S_ .f32 := constant S_ .f32 0x7F800000#32
  let main_v11 : FVec F S1024x4096 .f32 := broadcastInDim S1024x4096 ![] bcast_S_S1024x4096 main_cst_3
  let main_v12 : IVec S1024x4096 1 := cmpf .olt main_v10 main_v11
  let main_c_4 : IVec S_ 1 := constantI S_ 1 1#1
  let main_v13 : IVec S_ 1 := (fun x v => Host.reduce IntOp.andi x v reducesTo_S1024x4096_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_arg4 main_v14 main_v15 main_cst_5
-- ==== Pre_fwd_finite.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn_part1 {F : FTy → Type} [FloatOps F] (main_arg4 : FVec F S1024 .f32) (main_arg5 : FVec F S8192x1024 .f32) (main_v14 : IVec S_ 1) (main_v15 : FVec F S4096x1024 .f32) (main_cst_5 : FVec F S_ .f32) : IVec S_ 1 :=
  let main_v16 : FVec F S4096x1024 .f32 := broadcastInDim S4096x1024 ![] bcast_S_S4096x1024 main_cst_5
  let main_v17 : IVec S4096x1024 1 := cmpf .olt main_v15 main_v16
  let main_c_6 : IVec S_ 1 := constantI S_ 1 1#1
  let main_v18 : IVec S_ 1 := (fun x v => Host.reduce IntOp.andi x v reducesTo_S4096x1024_S_d0_1 h_S_) main_v17 main_c_6
  let main_v19 : IVec S_ 1 := andi main_v14 main_v18
  let main_v20 : FVec F S1024 .f32 := Host.absf main_arg4
  let main_cst_7 : FVec F S_ .f32 := constant S_ .f32 0x7F800000#32
  let main_v21 : FVec F S1024 .f32 := broadcastInDim S1024 ![] bcast_S_S1024 main_cst_7
  let main_v22 : IVec S1024 1 := cmpf .olt main_v20 main_v21
  let main_c_8 : IVec S_ 1 := constantI S_ 1 1#1
  let main_v23 : IVec S_ 1 := (fun x v => Host.reduce IntOp.andi x v reducesTo_S1024_S_d0 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x1024 .f32) (main_arg1 : FVec F S1024 .f32) (main_arg2 : FVec F S1024x4096 .f32) (main_arg3 : FVec F S4096x1024 .f32) (main_arg4 : FVec F S1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x4096 .f32 := Host.absf main_arg2
  let main_cst_3 : FVec F S_ .f32 := constant S_ .f32 0x7F800000#32
  let main_v11 : FVec F S1024x4096 .f32 := broadcastInDim S1024x4096 ![] bcast_S_S1024x4096 main_cst_3
  let main_v12 : IVec S1024x4096 1 := cmpf .olt main_v10 main_v11
  let main_c_4 : IVec S_ 1 := constantI S_ 1 1#1
  let main_v13 : IVec S_ 1 := (fun x v => Host.reduce IntOp.andi x v reducesTo_S1024x4096_S_d0_1 h_S_) main_v12 main_c_4
  let main_v14 : IVec S_ 1 := andi main_v9 main_v13
  let main_v15 : FVec F S4096x1024 .f32 := Host.absf main_arg3
  let main_cst_5 : FVec F S_ .f32 := constant S_ .f32 0x7F800000#32
  fn_part1 (F := F) main_arg4 main_arg5 main_v14 main_v15 main_cst_5
-- ==== Pre_out_finite.lean ====
abbrev S8192x768 : Shape := ⟨2, ![8192, 768]⟩
abbrev S8192x256 : Shape := ⟨2, ![8192, 256]⟩
abbrev S768 : Shape := ⟨1, ![768]⟩
abbrev S256 : Shape := ⟨1, ![256]⟩
abbrev S1024x1024 : Shape := ⟨2, ![1024, 1024]⟩
abbrev S8192x1024 : Shape := ⟨2, ![8192, 1024]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S768 : S_.BroadcastsInDim S768 (![] : Fin 0 → Fin S768.rank)
  reducesTo_S768_S_d0 : S768.ReducesTo [0] S_
  bcast_S_S256 : S_.BroadcastsInDim S256 (![] : Fin 0 → Fin S256.rank)
  reducesTo_S256_S_d0 : S256.ReducesTo [0] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024x1024 .f32) (main_arg5 : FVec F S8192x1024 .f32) (main_v14 : IVec S_ 1) (main_v15 : FVec F S256 .f32) (main_cst_5 : FVec F S_ .f32) : IVec S_ 1 :=
  let main_v16 : FVec F S256 .f32 := broadcastInDim S256 ![] bcast_S_S256 main_cst_5
  let main_v17 : IVec S256 1 := cmpf .olt main_v15 main_v16
  let main_c_6 : IVec S_ 1 := constantI S_ 1 1#1
  let main_v18 : IVec S_ 1 := (fun x v => Host.reduce IntOp.andi x v reducesTo_S256_S_d0 h_S_) main_v17 main_c_6
  let main_v19 : IVec S_ 1 := andi main_v14 main_v18
  let main_v20 : FVec F S1024x1024 .f32 := Host.absf main_arg4
  let main_cst_7 : FVec F S_ .f32 := constant S_ .f32 0x7F800000#32
  let main_v21 : FVec F S1024x1024 .f32 := broadcastInDim S1024x1024 ![] bcast_S_S1024x1024 main_cst_7
  let main_v22 : IVec S1024x1024 1 := cmpf .olt main_v20 main_v21
  let main_c_8 : IVec S_ 1 := constantI S_ 1 1#1
  let main_v23 : IVec S_ 1 := (fun x v => Host.reduce IntOp.andi x v reducesTo_S1024x1024_S_d0_1 h_S_) main_v22 main_c_8
  let main_v24 : IVec S_ 1 := andi main_v19 main_v23
  let main_v25 : FVec F S8192x1024 .f32 := Host.absf main_arg5
  let main_cst_9 : FVec F S_ .f32 := constant S_ .f32 0x7F800000#32
  let main_v26 : FVec F S8192x1024 .f32 := broadcastInDim S8192x1024 ![] bcast_S_S8192x1024 main_cst_9
  let main_v27 : IVec S8192x1024 1 := cmpf .olt main_v25 main_v26
  let main_c_10 : IVec S_ 1 := constantI S_ 1 1#1
  let main_v28 : IVec S_ 1 := (fun x v => Host.reduce IntOp.andi x v reducesTo_S8192x1024_S_d0_1 h_S_) main_v27 main_c_10
  let main_v29 : IVec S_ 1 := andi main_v24 main_v28
  main_v29

def fn {F : FTy → Type} [FloatOps F] (main_arg0 : FVec F S8192x768 .f32) (main_arg1 : FVec F S8192x256 .f32) (main_arg2 : FVec F S768 .f32) (main_arg3 : FVec F S256 .f32) (main_arg4 : FVec F S1024x1024 .f32) (main_arg5 : FVec F S8192x1024 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_c_0 : IVec S_ 1 := constantI S_ 1 1#1
  let main_v4 : IVec S_ 1 := andi main_c_0 main_v3
  let main_v5 : FVec F S8192x256 .f32 := Host.absf main_arg1
  let main_cst_1 : FVec F S_ .f32 := constant S_ .f32 0x7F800000#32
  let main_v6 : FVec F S8192x256 .f32 := broadcastInDim S8192x256 ![] bcast_S_S8192x256 main_cst_1
  let main_v7 : IVec S8192x256 1 := cmpf .olt main_v5 main_v6
  let main_c_2 : IVec S_ 1 := constantI S_ 1 1#1
  let main_v8 : IVec S_ 1 := (fun x v => Host.reduce IntOp.andi x v reducesTo_S8192x256_S_d0_1 h_S_) main_v7 main_c_2
  let main_v9 : IVec S_ 1 := andi main_v4 main_v8
  let main_v10 : FVec F S768 .f32 := Host.absf main_arg2
  let main_cst_3 : FVec F S_ .f32 := constant S_ .f32 0x7F800000#32
  let main_v11 : FVec F S768 .f32 := broadcastInDim S768 ![] bcast_S_S768 main_cst_3
  let main_v12 : IVec S768 1 := cmpf .olt main_v10 main_v11
  let main_c_4 : IVec S_ 1 := constantI S_ 1 1#1
  let main_v13 : IVec S_ 1 := (fun x v => Host.reduce IntOp.andi x v reducesTo_S768_S_d0 h_S_) main_v12 main_c_4
  let main_v14 : IVec S_ 1 := andi main_v9 main_v13
  let main_v15 : FVec F S256 .f32 := Host.absf main_arg3
  let main_cst_5 : FVec F S_ .f32 := constant S_ .f32 0x7F800000#32
  fn_part1 (F := F) main_arg4 main_arg5 main_v14 main_v15 main_cst_5
-- ==== Pre_proj_finite.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn_part1 {F : FTy → Type} [FloatOps F] (main_arg4 : FVec F S8192x1024 .f32) (main_v14 : IVec S_ 1) (main_v15 : FVec F S8192x2816 .f32) (main_cst_5 : FVec F S_ .f32) : IVec S_ 1 :=
  let main_v16 : FVec F S8192x2816 .f32 := broadcastInDim S8192x2816 ![] bcast_S_S8192x2816 main_cst_5
  let main_v17 : IVec S8192x2816 1 := cmpf .olt main_v15 main_v16
  let main_c_6 : IVec S_ 1 := constantI S_ 1 1#1
  let main_v18 : IVec S_ 1 := (fun x v => Host.reduce IntOp.andi x v reducesTo_S8192x2816_S_d0_1 h_S_) main_v17 main_c_6
  let main_v19 : IVec S_ 1 := andi main_v14 main_v18
  let main_v20 : FVec F S8192x1024 .f32 := Host.absf main_arg4
  let main_cst_7 : FVec F S_ .f32 := constant S_ .f32 0x7F800000#32
  let main_v21 : FVec F S8192x1024 .f32 := broadcastInDim S8192x1024 ![] bcast_S_S8192x1024 main_cst_7
  let main_v22 : IVec S8192x1024 1 := cmpf .olt main_v20 main_v21
  let main_c_8 : IVec S_ 1 := constantI S_ 1 1#1
  let main_v23 : IVec S_ 1 := (fun x v => Host.reduce IntOp.andi x v reducesTo_S8192x1024_S_d0_1 h_S_) main_v22 main_c_8
  let main_v24 : IVec S_ 1 := andi main_v19 main_v23
  main_v24

def fn {F : FTy → Type} [FloatOps F] (main_arg0 : FVec F S8192x1024 .f32) (main_arg1 : FVec F S1024 .f32) (main_arg2 : FVec F S1024x2816 .f32) (main_arg3 : FVec F S8192x2816 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_c_0 : IVec S_ 1 := constantI S_ 1 1#1
  let main_v4 : IVec S_ 1 := andi main_c_0 main_v3
  let main_v5 : FVec F S1024 .f32 := Host.absf main_arg1
  let main_cst_1 : FVec F S_ .f32 := constant S_ .f32 0x7F800000#32
  let main_v6 : FVec F S1024 .f32 := broadcastInDim S1024 ![] bcast_S_S1024 main_cst_1
  let main_v7 : IVec S1024 1 := cmpf .olt main_v5 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_v10 : FVec F S1024x2816 .f32 := Host.absf main_arg2
  let main_cst_3 : FVec F S_ .f32 := constant S_ .f32 0x7F800000#32
  let main_v11 : FVec F S1024x2816 .f32 := broadcastInDim S1024x2816 ![] bcast_S_S1024x2816 main_cst_3
  let main_v12 : IVec S1024x2816 1 := cmpf .olt main_v10 main_v11
  let main_c_4 : IVec S_ 1 := constantI S_ 1 1#1
  let main_v13 : IVec S_ 1 := (fun x v => Host.reduce IntOp.andi x v reducesTo_S1024x2816_S_d0_1 h_S_) main_v12 main_c_4
  let main_v14 : IVec S_ 1 := andi main_v9 main_v13
  let main_v15 : FVec F S8192x2816 .f32 := Host.absf main_arg3
  let main_cst_5 : FVec F S_ .f32 := constant S_ .f32 0x7F800000#32
  fn_part1 (F := F) main_arg4 main_v14 main_v15 main_cst_5
-- ==== Kernel.lean ====
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S8192x2816 : Shape := ⟨2, ![8192, 2816]⟩
abbrev S8x256 : Shape := ⟨2, ![8, 256]⟩
abbrev S128x128 : Shape := ⟨2, ![128, 128]⟩
abbrev S1024x256 : Shape := ⟨2, ![1024, 256]⟩
abbrev S2x1024x512 : Shape := ⟨3, ![2, 1024, 512]⟩
abbrev S2 : Shape := ⟨1, ![2]⟩
abbrev S1 : Shape := ⟨1, ![1]⟩
abbrev S_ : Shape := ⟨0, ![]⟩
abbrev S1024x512 : Shape := ⟨2, ![1024, 512]⟩
abbrev S1x1024x512 : Shape := ⟨3, ![1, 1024, 512]⟩
abbrev S1x128x128 : Shape := ⟨3, ![1, 128, 128]⟩
abbrev S1024x128 : Shape := ⟨2, ![1024, 128]⟩
abbrev S1024 : Shape := ⟨1, ![1024]⟩
abbrev S1024x1 : Shape := ⟨2, ![1024, 1]⟩
abbrev S128x1 : Shape := ⟨2, ![128, 1]⟩
abbrev S128x256 : Shape := ⟨2, ![128, 256]⟩
abbrev S256 : Shape := ⟨1, ![256]⟩

abbrev nBuf : Space → Nat
  | .hbm => 15
  | .vmem => 15
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S4x64, .f32⟩
  | .hbm, ⟨4, _⟩ => ⟨S4x64, .f32⟩
  | .hbm, ⟨5, _⟩ => ⟨S4x128x128, .f32⟩
  | .hbm, ⟨6, _⟩ => ⟨S4x128, .f32⟩
  | .hbm, ⟨7, _⟩ => ⟨S1x256, .f32⟩
  | .hbm, ⟨8, _⟩ => ⟨S1x256, .f32⟩
  | .hbm, ⟨9, _⟩ => ⟨S128x4, .f32⟩
  | .hbm, ⟨10, _⟩ => ⟨S8192x2816, .f32⟩
  | .hbm, ⟨11, _⟩ => ⟨S8x256, .f32⟩
  | .hbm, ⟨12, _⟩ => ⟨S8x256, .f32⟩
  | .hbm, ⟨13, _⟩ => ⟨S4x128x128, .f32⟩
  | .hbm, ⟨14, _⟩ => ⟨S128x128, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1x256, .f32⟩
  | .local _ .vmem, ⟨7, _⟩ => ⟨S1x256, .f32⟩
  | .local _ .vmem, ⟨8, _⟩ => ⟨S4x128x128, .f32⟩
  | .local _ .vmem, ⟨9, _⟩ => ⟨S128x4, .f32⟩
  | .local _ .vmem, ⟨10, _⟩ => ⟨S8x256, .f32⟩
  | .local _ .vmem, ⟨11, _⟩ => ⟨S8x256, .f32⟩
  | .local _ .vmem, ⟨12, _⟩ => ⟨S4x128x128, .f32⟩
  | .local _ .vmem, ⟨13, _⟩ => ⟨S128x128, .f32⟩
  | .local _ .vmem, ⟨14, _⟩ => ⟨S2x1024x512, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32_5 : BitVec 32 := 2#32
  let v13 : BitVec 1 := Scalar.cmpi .sge arg0 c2_i32_5
  let v14 : BitVec 32 := Scalar.extui v13
  let c0_i32_6 : BitVec 32 := 0#32
  let v15 : BitVec 1 := Scalar.cmpi .ne v14 c0_i32_6
  v15

def k0_mult1 (i : grid0.Coords) : BitVec 32 :=
  let arg0 : BitVec 32 := BitVec.ofNat 32 (i 0).val
  let c2_i32_519 : BitVec 32 := 2#32
  let v1045 : BitVec 32 := Scalar.subi arg0 c2_i32_519
  let c1024_i32_520 : BitVec 32 := 1024#32
  let v1046 : BitVec 32 := Scalar.muli v1045 c1024_i32_520
  v1046
def k0_off1 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off2 (i : grid0.Coords) : Fin 2 → Nat :=
  let arg0 : BitVec 32 := BitVec.ofNat 32 (i 0).val
  let c2_i32_519 : BitVec 32 := 2#32
  let v1045 : BitVec 32 := Scalar.subi arg0 c2_i32_519
  let c1024_i32_520 : BitVec 32 := 1024#32
  let v1046 : BitVec 32 := Scalar.muli v1045 c1024_i32_520
  let v1047 : BitVec 32 := v1046
  let c2304_i32_521 : BitVec 32 := 2304#32
  ![v1047.toNat, 2304]
def k0_off3 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_522 : BitVec 32 := 0#32
  let c0_i32_523 : BitVec 32 := 0#32
  ![v9.toNat, 0, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_171 : BitVec 32 := 0#32
  let c0_i32_172 : BitVec 32 := 0#32
  ![v9.toNat, 0, 0]
def k0_mult2 (i : grid0.Coords) : BitVec 32 :=
  let arg0 : BitVec 32 := BitVec.ofNat 32 (i 0).val
  let c1024_i32 : BitVec 32 := 1024#32
  let v1035 : BitVec 32 := Scalar.muli arg0 c1024_i32
  v1035
def k0_off5 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off6 (i : grid0.Coords) : Fin 2 → Nat :=
  let arg0 : BitVec 32 := BitVec.ofNat 32 (i 0).val
  let c1024_i32 : BitVec 32 := 1024#32
  let v1035 : BitVec 32 := Scalar.muli arg0 c1024_i32
  let v1036 : BitVec 32 := v1035
  let c2304_i32 : BitVec 32 := 2304#32
  ![v1036.toNat, 2304]
def k0_cond3 (i : grid0.Coords) : BitVec 1 :=
  let arg0 : BitVec 32 := BitVec.ofNat 32 (i 0).val
  let c7_i32 : BitVec 32 := 7#32
  let v1042 : BitVec 1 := Scalar.cmpi .eq arg0 c7_i32
  let v1043 : BitVec 32 := Scalar.extui v1042
  let c0_i32_518 : BitVec 32 := 0#32
  let v1044 : BitVec 1 := Scalar.cmpi .ne v1043 c0_i32_518
  v1044

def k0_mult3 (i : grid0.Coords) : BitVec 32 :=
  let arg0 : BitVec 32 := BitVec.ofNat 32 (i 0).val
  let c1024_i32_547 : BitVec 32 := 1024#32
  let v1073 : BitVec 32 := Scalar.muli arg0 c1024_i32_547
  v1073
def k0_off7 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off8 (i : grid0.Coords) : Fin 2 → Nat :=
  let arg0 : BitVec 32 := BitVec.ofNat 32 (i 0).val
  let c1024_i32_547 : BitVec 32 := 1024#32
  let v1073 : BitVec 32 := Scalar.muli arg0 c1024_i32_547
  let v1074 : BitVec 32 := v1073
  let c2304_i32_548 : BitVec 32 := 2304#32
  ![v1074.toNat, 2304]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_549 : BitVec 32 := 0#32
  let c0_i32_550 : BitVec 32 := 0#32
  ![v9.toNat, 0, 0]
def k0_mult4 (i : grid0.Coords) : BitVec 32 :=
  let arg0 : BitVec 32 := BitVec.ofNat 32 (i 0).val
  let c1_i32_551 : BitVec 32 := 1#32
  let v1080 : BitVec 32 := Scalar.subi arg0 c1_i32_551
  let c1024_i32_553 : BitVec 32 := 1024#32
  let v1082 : BitVec 32 := Scalar.muli v1080 c1024_i32_553
  v1082
def k0_off10 (i : grid0.Coords) : Fin 1 → Nat :=
  let c1_i32_552 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1081 : BitVec 32 := Scalar.subi c1_i32_552 v9
  ![v1081.toNat]
def k0_off11 (i : grid0.Coords) : Fin 2 → Nat :=
  let arg0 : BitVec 32 := BitVec.ofNat 32 (i 0).val
  let c1_i32_551 : BitVec 32 := 1#32
  let v1080 : BitVec 32 := Scalar.subi arg0 c1_i32_551
  let c1024_i32_553 : BitVec 32 := 1024#32
  let v1082 : BitVec 32 := Scalar.muli v1080 c1024_i32_553
  let v1083 : BitVec 32 := v1082
  let c2304_i32_554 : BitVec 32 := 2304#32
  ![v1083.toNat, 2304]
def k0_off12 (i : grid0.Coords) : Fin 3 → Nat :=
  let c1_i32_552 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1081 : BitVec 32 := Scalar.subi c1_i32_552 v9
  let c0_i32_555 : BitVec 32 := 0#32
  let c0_i32_556 : BitVec 32 := 0#32
  ![v1081.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S8192x4x64 : Shape := ⟨3, ![8192, 4, 64]⟩
abbrev S_ : Shape := ⟨0, ![]⟩
abbrev S8192x4 : Shape := ⟨2, ![8192, 4]⟩
abbrev S8192x4x1 : Shape := ⟨3, ![8192, 4, 1]⟩
abbrev S1x4x64 : Shape := ⟨3, ![1, 4, 64]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩
abbrev S1x256 : Shape := ⟨2, ![1, 256]⟩
abbrev S8x256 : Shape := ⟨2, ![8, 256]⟩

abbrev nBuf : Space → Nat
  | .hbm => 223
  | .vmem => 0
  | .smem => 0
  | _ => 0

abbrev hbmTy0_0 (i : Nat) : BufTy := match i % 128 with
  | 0 => ⟨S8192x256, .f32⟩
  | 1 => ⟨S8192x256, .f32⟩
  | 2 => ⟨S8192x256, .f32⟩
  | 3 => ⟨S4x64, .f32⟩
  | 4 => ⟨S4x64, .f32⟩
  | 5 => ⟨S4x128x128, .f32⟩
  | 6 => ⟨S4x128, .f32⟩
  | 7 => ⟨S8192x4x64, .f32⟩
  | 8 => ⟨S8192x4x64, .f32⟩
  | 9 => ⟨S8192x4x64, .f32⟩
  | 10 => ⟨S8192x4x64, .f32⟩
  | 11 => ⟨S8192x4x64, .f32⟩
  | 12 => ⟨S_, .f32⟩
  | 13 => ⟨S8192x4x64, .f32⟩
  | 14 => ⟨S8192x4x64, .f32⟩
  | 15 => ⟨S_, .f32⟩
  | 16 => ⟨S8192x4x64, .f32⟩
  | 17 => ⟨S8192x4x64, .f32⟩
  | 18 => ⟨S8192x4x64, .f32⟩
  | 19 => ⟨S_, .f32⟩
  | 20 => ⟨S8192x4x64, .f32⟩
  | 21 => ⟨S8192x4x64, .f32⟩
  | 22 => ⟨S8192x4x64, .f32⟩
  | 23 => ⟨S_, .f32⟩
  | 24 => ⟨S8192x4x64, .f32⟩
  | 25 => ⟨S8192x4x64, .f32⟩
  | 26 => ⟨S_, .f32⟩
  | 27 => ⟨S8192x4x64, .f32⟩
  | 28 => ⟨S8192x4x64, .f32⟩
  | 29 => ⟨S8192x4x64, .f32⟩
  | 30 => ⟨S_, .f32⟩
  | 31 => ⟨S8192x4x64, .f32⟩
  | 32 => ⟨S8192x4x64, .f32⟩
  | 33 => ⟨S_, .f32⟩
  | 34 => ⟨S8192x4x64, .f32⟩
  | 35 => ⟨S8192x4x64, .f32⟩
  | 36 => ⟨S8192x4x64, .f32⟩
  | 37 => ⟨S8192x4x64, .f32⟩
  | 38 => ⟨S8192x4x64, .f32⟩
  | 39 => ⟨S8192x4x64, .f32⟩
  | 40 => ⟨S_, .f32⟩
  | 41 => ⟨S8192x4x64, .f32⟩
  | 42 => ⟨S8192x4x64, .f32⟩
  | 43 => ⟨S_, .f32⟩
  | 44 => ⟨S8192x4x64, .f32⟩
  | 45 => ⟨S8192x4x64, .f32⟩
  | 46 => ⟨S8192x4x64, .f32⟩
  | 47 => ⟨S_, .f32⟩
  | 48 => ⟨S8192x4x64, .f32⟩
  | 49 => ⟨S8192x4x64, .f32⟩
  | 50 => ⟨S8192x4x64, .f32⟩
  | 51 => ⟨S_, .f32⟩
  | 52 => ⟨S8192x4x64, .f32⟩
  | 53 => ⟨S8192x4x64, .f32⟩
  | 54 => ⟨S_, .f32⟩
  | 55 => ⟨S8192x4x64, .f32⟩
  | 56 => ⟨S8192x4x64, .f32⟩
  | 57 => ⟨S8192x4x64, .f32⟩
  | 58 => ⟨S_, .f32⟩
  | 59 => ⟨S8192x4x64, .f32⟩
  | 60 => ⟨S8192x4x64, .f32⟩
  | 61 => ⟨S_, .f32⟩
  | 62 => ⟨S8192x4x64, .f32⟩
  | 63 => ⟨S8192x4x64, .f32⟩
  | 64 => ⟨S8192x4x64, .f32⟩
  | 65 => ⟨S_, .f32⟩
  | 66 => ⟨S8192x4, .f32⟩
  | 67 => ⟨S8192x4x1, .f32⟩
  | 68 => ⟨S_, .f32⟩
  | 69 => ⟨S8192x4x1, .f32⟩
  | 70 => ⟨S8192x4x1, .f32⟩
  | 71 => ⟨S8192x4x64, .f32⟩
  | 72 => ⟨S8192x4x64, .f32⟩
  | 73 => ⟨S8192x4x64, .f32⟩
  | 74 => ⟨S_, .f32⟩
  | 75 => ⟨S8192x4x64, .f32⟩
  | 76 => ⟨S8192x4x64, .f32⟩
  | 77 => ⟨S_, .f32⟩
  | 78 => ⟨S8192x4, .f32⟩
  | 79 => ⟨S8192x4x1, .f32⟩
  | 80 => ⟨S_, .f32⟩
  | 81 => ⟨S8192x4x1, .f32⟩
  | 82 => ⟨S8192x4x1, .f32⟩
  | 83 => ⟨S8192x4x64, .f32⟩
  | 84 => ⟨S8192x4x64, .f32⟩
  | 85 => ⟨S_, .f32⟩
  | 86 => ⟨S8192x4x1, .f32⟩
  | 87 => ⟨S8192x4x1, .f32⟩
  | 88 => ⟨S8192x4x1, .f32⟩
  | 89 => ⟨S8192x4x1, .f32⟩
  | 90 => ⟨S_, .f32⟩
  | 91 => ⟨S8192x4x1, .f32⟩
  | 92 => ⟨S8192x4x1, .f32⟩
  | 93 => ⟨S8192x4x64, .f32⟩
  | 94 => ⟨S8192x4x64, .f32⟩
  | 95 => ⟨S1x4x64, .f32⟩
  | 96 => ⟨S8192x4x64, .f32⟩
  | 97 => ⟨S8192x4x64, .f32⟩
  | 98 => ⟨S1x4x64, .f32⟩
  | 99 => ⟨S8192x4x64, .f32⟩
  | 100 => ⟨S8192x4x64, .f32⟩
  | 101 => ⟨S64x128x4x64, .f32⟩
  | 102 => ⟨S_, .f32⟩
  | 103 => ⟨S128x128, .f32⟩
  | 104 => ⟨S128x128, .i32⟩
  | 105 => ⟨S_, .i32⟩
  | 106 => ⟨S128x128, .i32⟩
  | 107 => ⟨S128x128, .i32⟩
  | 108 => ⟨S128x128, .i32⟩
  | 109 => ⟨S128x128, .i1⟩
  | 110 => ⟨S_, .f32⟩
  | 111 => ⟨S128x128, .f32⟩
  | 112 => ⟨S128x128, .f32⟩
  | 113 => ⟨S1x128x128, .f32⟩
  | 114 => ⟨S4x128x128, .f32⟩
  | 115 => ⟨S4x128x128, .f32⟩
  | 116 => ⟨S4x64x64x128, .f32⟩
  | 117 => ⟨S64x128x4x64, .f32⟩
  | 118 => ⟨S128x4, .f32⟩
  | 119 => ⟨S1x128x4x1, .f32⟩
  | 120 => ⟨S64x128x4x64, .f32⟩
  | 121 => ⟨S64x128x4x64, .f32⟩
  | 122 => ⟨S8192x4x64, .f32⟩
  | 123 => ⟨S8192x4x64, .f32⟩
  | 124 => ⟨S8192x4x64, .f32⟩
  | 125 => ⟨S8192x4x64, .f32⟩
  | 126 => ⟨S8192x4x64, .f32⟩
  | 127 => ⟨S64x128x4x64, .f32⟩
  | _ => ⟨S8192x256, .f32⟩

abbrev hbmTy0_1 (i : Nat) : BufTy := match i % 128 with
  | 0 => ⟨S_, .f32⟩
  | 1 => ⟨S128x4, .f32⟩
  | 2 => ⟨S1x128x4x1, .f32⟩
  | 3 => ⟨S_, .f32⟩
  | 4 => ⟨S128x4, .f32⟩
  | 5 => ⟨S4x128, .f32⟩
  | 6 => ⟨S4x64x64x128, .f32⟩
  | 7 => ⟨S4x128x128, .f32⟩
  | 8 => ⟨S4x64x64x128, .f32⟩
  | 9 => ⟨S64x128x4x64, .f32⟩
  | 10 => ⟨S4x128x128, .f32⟩
  | 11 => ⟨S4x128x128, .f32⟩
  | 12 => ⟨S8192x4x64, .f32⟩
  | 13 => ⟨S_, .f32⟩
  | 14 => ⟨S4x64, .f32⟩
  | 15 => ⟨S1x4x64, .f32⟩
  | 16 => ⟨S_, .f32⟩
  | 17 => ⟨S4x64, .f32⟩
  | 18 => ⟨S8192x4x64, .f32⟩
  | 19 => ⟨S_, .f32⟩
  | 20 => ⟨S4x64, .f32⟩
  | 21 => ⟨S1x4x64, .f32⟩
  | 22 => ⟨S8192x4x64, .f32⟩
  | 23 => ⟨S8192x4x64, .f32⟩
  | 24 => ⟨S_, .f32⟩
  | 25 => ⟨S4x64, .f32⟩
  | 26 => ⟨S8192x4x64, .f32⟩
  | 27 => ⟨S_, .f32⟩
  | 28 => ⟨S8192x4, .f32⟩
  | 29 => ⟨S8192x4x1, .f32⟩
  | 30 => ⟨S8192x4x64, .f32⟩
  | 31 => ⟨S8192x4x64, .f32⟩
  | 32 => ⟨S8192x4x1, .f32⟩
  | 33 => ⟨S8192x4x64, .f32⟩
  | 34 => ⟨S_, .f32⟩
  | 35 => ⟨S8192x4, .f32⟩
  | 36 => ⟨S8192x4x1, .f32⟩
  | 37 => ⟨S_, .f32⟩
  | 38 => ⟨S8192x4x1, .f32⟩
  | 39 => ⟨S8192x4x1, .f32⟩
  | 40 => ⟨S_, .f32⟩
  | 41 => ⟨S8192x4, .f32⟩
  | 42 => ⟨S8192x4x64, .f32⟩
  | 43 => ⟨S8192x4x64, .f32⟩
  | 44 => ⟨S8192x4x64, .f32⟩
  | 45 => ⟨S_, .f32⟩
  | 46 => ⟨S8192x4, .f32⟩
  | 47 => ⟨S8192x4x1, .f32⟩
  | 48 => ⟨S8192x4x64, .f32⟩
  | 49 => ⟨S8192x4x1, .f32⟩
  | 50 => ⟨S_, .f32⟩
  | 51 => ⟨S8192x4x1, .f32⟩
  | 52 => ⟨S8192x4x1, .f32⟩
  | 53 => ⟨S_, .f32⟩
  | 54 => ⟨S8192x4, .f32⟩
  | 55 => ⟨S8192x4x64, .f32⟩
  | 56 => ⟨S8192x4x64, .f32⟩
  | 57 => ⟨S8192x4x64, .f32⟩
  | 58 => ⟨S8192x4x64, .f32⟩
  | 59 => ⟨S_, .f32⟩
  | 60 => ⟨S8192x4x64, .f32⟩
  | 61 => ⟨S8192x4x64, .f32⟩
  | 62 => ⟨S8192x4x64, .f32⟩
  | 63 => ⟨S_, .f32⟩
  | 64 => ⟨S8192x4x64, .f32⟩
  | 65 => ⟨S8192x4x64, .f32⟩
  | 66 => ⟨S8192x4x64, .f32⟩
  | 67 => ⟨S_, .f32⟩
  | 68 => ⟨S8192x4x64, .f32⟩
  | 69 => ⟨S8192x4x64, .f32⟩
  | 70 => ⟨S8192x4x64, .f32⟩
  | 71 => ⟨S8192x4x64, .f32⟩
  | 72 => ⟨S8192x4x64, .f32⟩
  | 73 => ⟨S8192x4x64, .f32⟩
  | 74 => ⟨S_, .f32⟩
  | 75 => ⟨S8192x4x64, .f32⟩
  | 76 => ⟨S8192x4x64, .f32⟩
  | 77 => ⟨S8192x4x64, .f32⟩
  | 78 => ⟨S_, .f32⟩
  | 79 => ⟨S8192x4x64, .f32⟩
  | 80 => ⟨S8192x4x64, .f32⟩
  | 81 => ⟨S8192x4x64, .f32⟩
  | 82 => ⟨S_, .f32⟩
  | 83 => ⟨S8192x4x64, .f32⟩
  | 84 => ⟨S8192x4x64, .f32⟩
  | 85 => ⟨S8192x4x64, .f32⟩
  | 86 => ⟨S8192x4x64, .f32⟩
  | 87 => ⟨S1x256, .f32⟩
  | 88 => ⟨S8x256, .f32⟩
  | 89 => ⟨S1x256, .f32⟩
  | 90 => ⟨S8x256, .f32⟩
  | 91 => ⟨S128x4, .f32⟩
  | 92 => ⟨S_, .i32⟩
  | 93 => ⟨S_, .f32⟩
  | 94 => ⟨S128x128, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_cst_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_cst_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_13 : Ref sig .tc := ⟨.hbm, 65, rfl⟩
abbrev main_v44 : Ref sig .tc := ⟨.hbm, 66, rfl⟩
abbrev main_v45 : Ref sig .tc := ⟨.hbm, 67, rfl⟩
abbrev main_cst_14 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_15 : Ref sig .tc := ⟨.hbm, 74, rfl⟩
abbrev main_v51 : Ref sig .tc := ⟨.hbm, 75, rfl⟩
abbrev main_v52 : Ref sig .tc := ⟨.hbm, 76, rfl⟩
abbrev main_cst_16 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_18 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_19 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_20 : Ref sig .tc := ⟨.hbm, 102, rfl⟩
abbrev main_v74 : Ref sig .tc := ⟨.hbm, 103, rfl⟩
abbrev main_call0_v0 : Ref sig .tc := ⟨.hbm, 104, rfl⟩
abbrev main_call0_c : Ref sig .tc := ⟨.hbm, 105, rfl⟩
abbrev main_call0_v1 : Ref sig .tc := ⟨.hbm, 106, rfl⟩
abbrev main_call0_v2 : Ref sig .tc := ⟨.hbm, 107, rfl⟩
abbrev main_call0_v3 : Ref sig .tc := ⟨.hbm, 108, rfl⟩
abbrev main_call0_v4 : Ref sig .tc := ⟨.hbm, 109, rfl⟩
abbrev main_call0_cst : Ref sig .tc := ⟨.hbm, 110, rfl⟩
abbrev main_call0_v5 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_cst_22 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_cst_23 : Ref sig .tc := ⟨.hbm, 141, rfl⟩
abbrev main_v102 : Ref sig .tc := ⟨.hbm, 142, rfl⟩
abbrev main_v103 : Ref sig .tc := ⟨.hbm, 143, rfl⟩
abbrev main_cst_24 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_26 : Ref sig .tc := ⟨.hbm, 152, rfl⟩
abbrev main_v110 : Ref sig .tc := ⟨.hbm, 153, rfl⟩
abbrev main_v111 : Ref sig .tc := ⟨.hbm, 154, rfl⟩
abbrev main_cst_27 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_28 : Ref sig .tc := ⟨.hbm, 162, rfl⟩
abbrev main_v118 : Ref sig .tc := ⟨.hbm, 163, rfl⟩
abbrev main_v119 : Ref sig .tc := ⟨.hbm, 164, rfl⟩
abbrev main_cst_29 : Ref sig .tc := ⟨.hbm, 165, rfl⟩
abbrev main_v120 : Ref sig .tc := ⟨.hbm, 166, rfl⟩
abbrev main_v121 : Ref sig .tc := ⟨.hbm, 167, rfl⟩
abbrev main_cst_30 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_cst_31 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_32 : Ref sig .tc := ⟨.hbm, 178, rfl⟩
abbrev main_v130 : Ref sig .tc := ⟨.hbm, 179, rfl⟩
abbrev main_v131 : Ref sig .tc := ⟨.hbm, 180, rfl⟩
abbrev main_cst_33 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_34 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_35 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_36 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_37 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_cst_38 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_cst_39 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_c : Ref sig .tc := ⟨.hbm, 220, rfl⟩
abbrev main_call1_v0 : Ref sig .tc := ⟨.hbm, 221, rfl⟩
abbrev main_v164 : Ref sig .tc := ⟨.hbm, 222, rfl⟩

abbrev nD : Nat := 1
abbrev τ : Topo := Topo.v7x

variable {F : FTy → Type} [FloatOps F]
-- ==== FfnKernel.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024 : Shape := ⟨2, ![8, 1024]⟩
abbrev S512x1024 : Shape := ⟨2, ![512, 1024]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩

abbrev nBuf : Space → Nat
  | .hbm => 35
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .bf16⟩
  | .hbm, ⟨26, _⟩ => ⟨S8192x1024, .bf16⟩
  | .hbm, ⟨27, _⟩ => ⟨S1x1024, .f32⟩
  | .hbm, ⟨28, _⟩ => ⟨S4096x1024, .bf16⟩
  | .hbm, ⟨29, _⟩ => ⟨S4096x1024, .f32⟩
  | .hbm, ⟨30, _⟩ => ⟨S4096x1024, .bf16⟩
  | .hbm, ⟨31, _⟩ => ⟨S8192x4096, .bf16⟩
  | .hbm, ⟨32, _⟩ => ⟨S8192x1024, .f32⟩
  | .hbm, ⟨33, _⟩ => ⟨S8192x1024, .bf16⟩
  | .hbm, ⟨34, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S4096x1024, .bf16⟩
  | .local _ .vmem, ⟨10, _⟩ => ⟨S4096x1024, .bf16⟩
  | .local _ .vmem, ⟨11, _⟩ => ⟨S512x4096, .bf16⟩
  | .local _ .vmem, ⟨12, _⟩ => ⟨S512x4096, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnReferenceIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x1024 : Shape := ⟨2, ![8, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S_, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .i1⟩
  | .hbm, ⟨32, _⟩ => ⟨S_, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x1024, .f32⟩
  | .hbm, ⟨85, _⟩ => ⟨S8192x1024, .f32⟩
  | .hbm, ⟨86, _⟩ => ⟨S1x1024, .f32⟩
  | .hbm, ⟨87, _⟩ => ⟨S8192x1024, .f32⟩
  | .hbm, ⟨88, _⟩ => ⟨S8192x1024, .f32⟩
  | .hbm, ⟨89, _⟩ => ⟨S8192x4096, .f32⟩
  | .hbm, ⟨90, _⟩ => ⟨S_, .f32⟩
  | .hbm, ⟨91, _⟩ => ⟨S8192x4096, .f32⟩
  | .hbm, ⟨92, _⟩ => ⟨S8192x4096, .f32⟩
  | .hbm, ⟨93, _⟩ => ⟨S_, .f32⟩
  | .hbm, ⟨94, _⟩ => ⟨S8192x4096, .f32⟩
  | .hbm, ⟨95, _⟩ => ⟨S8192x4096, .i1⟩
  | .hbm, ⟨96, _⟩ => ⟨S_, .f32⟩
  | .hbm, ⟨97, _⟩ => ⟨S8192x4096, .f32⟩
  | .hbm, ⟨98, _⟩ => ⟨S8192x4096, .f32⟩
  | .hbm, ⟨99, _⟩ => ⟨S_, .f32⟩
  | .hbm, ⟨100, _⟩ => ⟨S8192x4096, .f32⟩
  | .hbm, ⟨101, _⟩ => ⟨S8192x4096, .f32⟩
  | .hbm, ⟨102, _⟩ => ⟨S8192x1024, .f32⟩
  | .hbm, ⟨103, _⟩ => ⟨S8192x4096, .f32⟩
  | .hbm, ⟨104, _⟩ => ⟨S8192x4096, .f32⟩
  | .hbm, ⟨105, _⟩ => ⟨S_, .f32⟩
  | .hbm, ⟨106, _⟩ => ⟨S8192x4096, .f32⟩
  | .hbm, ⟨107, _⟩ => ⟨S8192x4096, .f32⟩
  | .hbm, ⟨108, _⟩ => ⟨S8192x4096, .bf16⟩
  | .hbm, ⟨109, _⟩ => ⟨S8192x1024, .bf16⟩
  | .hbm, ⟨110, _⟩ => ⟨S1x1024, .f32⟩
  | .hbm, ⟨111, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_12 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_cst_17 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_18 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== DwFf2.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S8192x512 : Shape := ⟨2, ![8192, 512]⟩
abbrev S512x1024 : Shape := ⟨2, ![512, 1024]⟩

abbrev nBuf : Space → Nat
  | .hbm => 9
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .bf16⟩
  | .hbm, ⟨7, _⟩ => ⟨S8192x1024, .bf16⟩
  | .hbm, ⟨8, _⟩ => ⟨S4096x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v16 : BitVec 1 := Scalar.cmpi .eq arg2 c0_i32_8
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf2ReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S4096x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DwFf1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩
abbrev S8192x512 : Shape := ⟨2, ![8192, 512]⟩
abbrev S512x1024 : Shape := ⟨2, ![512, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x4096, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S4096x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwFf1ReferenceIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S4096x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S8192x512 : Shape := ⟨2, ![8192, 512]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S8192x1024, .bf16⟩
  | .hbm, ⟨5, _⟩ => ⟨S1024x1024, .bf16⟩
  | .local _ .vmem, ⟨0, _⟩ => ⟨S8192x512, .bf16⟩
  | .local _ .vmem, ⟨1, _⟩ => ⟨S8192x512, .bf16⟩
  | .local _ .vmem, ⟨2, _⟩ => ⟨S8192x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwOutReferenceIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwIn.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 22
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S2816x1024, .bf16⟩
  | .local _ .vmem, ⟨0, _⟩ => ⟨S2048x1408, .f32⟩
  | .local _ .vmem, ⟨1, _⟩ => ⟨S2048x1408, .f32⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInReferenceIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x2816, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ProjBwd.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S2816x1024 : Shape := ⟨2, ![2816, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x2816, .f32⟩
  | .hbm, ⟨4, _⟩ => ⟨S8192x1024, .f32⟩
  | .hbm, ⟨5, _⟩ => ⟨S2816x1024, .f32⟩
  | .hbm, ⟨6, _⟩ => ⟨S2816x1024, .bf16⟩
  | .hbm, ⟨7, _⟩ => ⟨S1x1024, .f32⟩
  | .hbm, ⟨8, _⟩ => ⟨S8192x1024, .f32⟩
  | .hbm, ⟨9, _⟩ => ⟨S8x1024, .f32⟩
  | .local _ .vmem, ⟨0, _⟩ => ⟨S512x2816, .f32⟩
  | .local _ .vmem, ⟨1, _⟩ => ⟨S512x2816, .f32⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ProjBwdReferenceIdeal.lean ====
abbrev S8192x1024 : Shape := ⟨2, ![8192, 1024]⟩
abbrev S1024 : Shape := ⟨1, ![1024]⟩
abbrev S1024x2816 : Shape := ⟨2, ![1024, 2816]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x1024 : Shape := ⟨2, ![8, 1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x2816, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x2816, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== OutBwd.lean ====
abbrev S8192x768 : Shape := ⟨2, ![8192, 768]⟩
abbrev S8192x256 : Shape := ⟨2, ![8192, 256]⟩
abbrev S768 : Shape := ⟨1, ![768]⟩
abbrev S256 : Shape := ⟨1, ![256]⟩
abbrev S1024x1024 : Shape := ⟨2, ![1024, 1024]⟩
abbrev S8192x1024 : Shape := ⟨2, ![8192, 1024]⟩
abbrev S1x768 : Shape := ⟨2, ![1, 768]⟩
abbrev S1x256 : Shape := ⟨2, ![1, 256]⟩
abbrev S8x768 : Shape := ⟨2, ![8, 768]⟩
abbrev S8x256 : Shape := ⟨2, ![8, 256]⟩
abbrev S512x1024 : Shape := ⟨2, ![512, 1024]⟩
abbrev S512x768 : Shape := ⟨2, ![512, 768]⟩
abbrev S512x256 : Shape := ⟨2, ![512, 256]⟩
abbrev S768x1024 : Shape := ⟨2, ![768, 1024]⟩
abbrev S256x1024 : Shape := ⟨2, ![256, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S768, .f32⟩
  | .hbm, ⟨3, _⟩ => ⟨S256, .f32⟩
  | .hbm, ⟨4, _⟩ => ⟨S1024x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S1x768, .f32⟩
  | .hbm, ⟨9, _⟩ => ⟨S1x256, .f32⟩
  | .hbm, ⟨10, _⟩ => ⟨S8192x768, .f32⟩
  | .hbm, ⟨11, _⟩ => ⟨S8192x256, .f32⟩
  | .hbm, ⟨12, _⟩ => ⟨S8x768, .f32⟩
  | .hbm, ⟨13, _⟩ => ⟨S8x256, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x768, .f32⟩
  | .local _ .vmem, ⟨4, _⟩ => ⟨S512x768, .f32⟩
  | .local _ .vmem, ⟨5, _⟩ => ⟨S512x256, .f32⟩
  | .local _ .vmem, ⟨6, _⟩ => ⟨S512x256, .f32⟩
  | .local _ .vmem, ⟨7, _⟩ => ⟨S1x768, .f32⟩
  | .local _ .vmem, ⟨8, _⟩ => ⟨S1x256, .f32⟩
  | .local _ .vmem, ⟨9, _⟩ => ⟨S512x768, .f32⟩
  | .local _ .vmem, ⟨10, _⟩ => ⟨S512x768, .f32⟩
  | .local _ .vmem, ⟨11, _⟩ => ⟨S512x256, .f32⟩
  | .local _ .vmem, ⟨12, _⟩ => ⟨S512x256, .f32⟩
  | .local _ .vmem, ⟨13, _⟩ => ⟨S8x768, .f32⟩
  | .local _ .vmem, ⟨14, _⟩ => ⟨S8x256, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdReferenceIdeal.lean ====
abbrev S8192x768 : Shape := ⟨2, ![8192, 768]⟩
abbrev S8192x256 : Shape := ⟨2, ![8192, 256]⟩
abbrev S768 : Shape := ⟨1, ![768]⟩
abbrev S256 : Shape := ⟨1, ![256]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x768 : Shape := ⟨2, ![1, 768]⟩
abbrev S1x256 : Shape := ⟨2, ![1, 256]⟩
abbrev S8x768 : Shape := ⟨2, ![8, 768]⟩
abbrev S8x256 : Shape := ⟨2, ![8, 256]⟩

abbrev nBuf : Space → Nat
  | .hbm => 105
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S768, .f32⟩
  | .hbm, ⟨3, _⟩ => ⟨S256, .f32⟩
  | .hbm, ⟨4, _⟩ => ⟨S1024x1024, .f32⟩
  | .hbm, ⟨5, _⟩ => ⟨S8192x1024, .f32⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x768, .f32⟩
  | .hbm, ⟨22, _⟩ => ⟨S8192x768, .f32⟩
  | .hbm, ⟨23, _⟩ => ⟨S1x768, .f32⟩
  | .hbm, ⟨24, _⟩ => ⟨S8192x768, .f32⟩
  | .hbm, ⟨25, _⟩ => ⟨S8192x768, .f32⟩
  | .hbm, ⟨26, _⟩ => ⟨S8192x256, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S1x256, .f32⟩
  | .hbm, ⟨44, _⟩ => ⟨S8192x256, .f32⟩
  | .hbm, ⟨45, _⟩ => ⟨S8192x256, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x768, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S256, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S_, .f32⟩
  | .hbm, ⟨58, _⟩ => ⟨S256, .f32⟩
  | .hbm, ⟨59, _⟩ => ⟨S8192x256, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S8192x256, .f32⟩
  | .hbm, ⟨64, _⟩ => ⟨S8192x256, .f32⟩
  | .hbm, ⟨65, _⟩ => ⟨S8192x1, .f32⟩
  | .hbm, ⟨66, _⟩ => ⟨S_, .f32⟩
  | .hbm, ⟨67, _⟩ => ⟨S8192x1, .f32⟩
  | .hbm, ⟨68, _⟩ => ⟨S8192x1, .f32⟩
  | .hbm, ⟨69, _⟩ => ⟨S_, .f32⟩
  | .hbm, ⟨70, _⟩ => ⟨S8192, .f32⟩
  | .hbm, ⟨71, _⟩ => ⟨S8192x256, .f32⟩
  | .hbm, ⟨72, _⟩ => ⟨S8192x256, .f32⟩
  | .hbm, ⟨73, _⟩ => ⟨S8192x256, .f32⟩
  | .hbm, ⟨74, _⟩ => ⟨S8192x256, .f32⟩
  | .hbm, ⟨75, _⟩ => ⟨S8192x256, .f32⟩
  | .hbm, ⟨76, _⟩ => ⟨S8192x768, .f32⟩
  | .hbm, ⟨77, _⟩ => ⟨S_, .f32⟩
  | .hbm, ⟨78, _⟩ => ⟨S768, .f32⟩
  | .hbm, ⟨79, _⟩ => ⟨S1x768, .f32⟩
  | .hbm, ⟨80, _⟩ => ⟨S8192x768, .f32⟩
  | .hbm, ⟨81, _⟩ => ⟨S8192x768, .f32⟩
  | .hbm, ⟨82, _⟩ => ⟨S_, .f32⟩
  | .hbm, ⟨83, _⟩ => ⟨S768, .f32⟩
  | .hbm, ⟨84, _⟩ => ⟨S8192x768, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x768, .f32⟩
  | .hbm, ⟨89, _⟩ => ⟨S8192x768, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x768, .f32⟩
  | .hbm, ⟨97, _⟩ => ⟨S8192x768, .f32⟩
  | .hbm, ⟨98, _⟩ => ⟨S8192x768, .f32⟩
  | .hbm, ⟨99, _⟩ => ⟨S8192x768, .f32⟩
  | .hbm, ⟨100, _⟩ => ⟨S8192x768, .f32⟩
  | .hbm, ⟨101, _⟩ => ⟨S1x768, .f32⟩
  | .hbm, ⟨102, _⟩ => ⟨S8x768, .f32⟩
  | .hbm, ⟨103, _⟩ => ⟨S1x256, .f32⟩
  | .hbm, ⟨104, _⟩ => ⟨S8x256, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩

abbrev nD : Nat := 1
abbrev τ : Topo := Topo.v7x

variable {F : FTy → Type} [FloatOps F]
-- ==== FfnFwd.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x128 : Shape := ⟨2, ![8, 128]⟩
abbrev S8x1024 : Shape := ⟨2, ![8, 1024]⟩
abbrev S512x1024 : Shape := ⟨2, ![512, 1024]⟩
abbrev S512x4096 : Shape := ⟨2, ![512, 4096]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 32
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S1x1024, .f32⟩
  | .hbm, ⟨27, _⟩ => ⟨S8192x4096, .bf16⟩
  | .hbm, ⟨28, _⟩ => ⟨S8192x1024, .f32⟩
  | .hbm, ⟨29, _⟩ => ⟨S8192x1024, .bf16⟩
  | .hbm, ⟨30, _⟩ => ⟨S8x128, .f32⟩
  | .hbm, ⟨31, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S4096x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S8x128, .f32⟩
  | .local _ .vmem, ⟨16, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnFwdReferenceIdeal.lean ====
abbrev S8192x1024 : Shape := ⟨2, ![8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩
abbrev S8x128 : Shape := ⟨2, ![8, 128]⟩
abbrev S8x1024 : Shape := ⟨2, ![8, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192, .f32⟩
  | .hbm, ⟨76, _⟩ => ⟨S_, .f32⟩
  | .hbm, ⟨77, _⟩ => ⟨S8192, .f32⟩
  | .hbm, ⟨78, _⟩ => ⟨S8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S8192, .f32⟩
  | .hbm, ⟨87, _⟩ => ⟨S_, .f32⟩
  | .hbm, ⟨88, _⟩ => ⟨S8192, .f32⟩
  | .hbm, ⟨89, _⟩ => ⟨S8192, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S_, .f32⟩
  | .hbm, ⟨94, _⟩ => ⟨S1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192x1, .f32⟩
  | .hbm, ⟨104, _⟩ => ⟨S8192x1024, .f32⟩
  | .hbm, ⟨105, _⟩ => ⟨S8192x1024, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x4096, .bf16⟩
  | .hbm, ⟨118, _⟩ => ⟨S8192x1024, .bf16⟩
  | .hbm, ⟨119, _⟩ => ⟨S8x128, .f32⟩
  | .hbm, ⟨120, _⟩ => ⟨S1x1024, .f32⟩
  | .hbm, ⟨121, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_20 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== ProjFwd.lean ====
abbrev S8192x1024 : Shape := ⟨2, ![8192, 1024]⟩
abbrev S1024 : Shape := ⟨1, ![1024]⟩
abbrev S1024x2816 : Shape := ⟨2, ![1024, 2816]⟩
abbrev S1x1024 : Shape := ⟨2, ![1, 1024]⟩
abbrev S2816x1024 : Shape := ⟨2, ![2816, 1024]⟩
abbrev S8192x768 : Shape := ⟨2, ![8192, 768]⟩
abbrev S8192x256 : Shape := ⟨2, ![8192, 256]⟩
abbrev S512x1024 : Shape := ⟨2, ![512, 1024]⟩
abbrev S512x768 : Shape := ⟨2, ![512, 768]⟩
abbrev S512x256 : Shape := ⟨2, ![512, 256]⟩
abbrev S512 : Shape := ⟨1, ![512]⟩
abbrev S512x1 : Shape := ⟨2, ![512, 1]⟩
abbrev S768x1024 : Shape := ⟨2, ![768, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1x1024, .f32⟩
  | .hbm, ⟨4, _⟩ => ⟨S2816x1024, .f32⟩
  | .hbm, ⟨5, _⟩ => ⟨S2816x1024, .bf16⟩
  | .hbm, ⟨6, _⟩ => ⟨S8192x1024, .bf16⟩
  | .hbm, ⟨7, _⟩ => ⟨S8192x768, .f32⟩
  | .hbm, ⟨8, _⟩ => ⟨S8192x768, .f32⟩
  | .hbm, ⟨9, _⟩ => ⟨S8192x768, .f32⟩
  | .hbm, ⟨10, _⟩ => ⟨S8192x256, .f32⟩
  | .hbm, ⟨11, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S512x1024, .bf16⟩
  | .local _ .vmem, ⟨5, _⟩ => ⟨S512x1024, .bf16⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev main_v3_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ProjFwdReferenceIdeal.lean ====
abbrev S8192x1024 : Shape := ⟨2, ![8192, 1024]⟩
abbrev S1024 : Shape := ⟨1, ![1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x768 : Shape := ⟨2, ![8192, 768]⟩
abbrev S8192x256 : Shape := ⟨2, ![8192, 256]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2816, .f32⟩
  | .hbm, ⟨20, _⟩ => ⟨S8192x768, .f32⟩
  | .hbm, ⟨21, _⟩ => ⟨S8192x768, .f32⟩
  | .hbm, ⟨22, _⟩ => ⟨S8192x768, .f32⟩
  | .hbm, ⟨23, _⟩ => ⟨S8192x256, .f32⟩
  | .hbm, ⟨24, _⟩ => ⟨S8192x256, .f32⟩
  | .hbm, ⟨25, _⟩ => ⟨S8192x1024, .bf16⟩
  | .hbm, ⟨26, _⟩ => ⟨S_, .f32⟩
  | .hbm, ⟨27, _⟩ => ⟨S8192x768, .f32⟩
  | .hbm, ⟨28, _⟩ => ⟨S8192x768, .f32⟩
  | .hbm, ⟨29, _⟩ => ⟨S_, .f32⟩
  | .hbm, ⟨30, _⟩ => ⟨S8192x768, .f32⟩
  | .hbm, ⟨31, _⟩ => ⟨S8192x768, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutFwd.lean ====
abbrev S8192x768 : Shape := ⟨2, ![8192, 768]⟩
abbrev S8192x256 : Shape := ⟨2, ![8192, 256]⟩
abbrev S768 : Shape := ⟨1, ![768]⟩
abbrev S256 : Shape := ⟨1, ![256]⟩
abbrev S1024x1024 : Shape := ⟨2, ![1024, 1024]⟩
abbrev S8192x1024 : Shape := ⟨2, ![8192, 1024]⟩
abbrev S1024 : Shape := ⟨1, ![1024]⟩
abbrev S1x768 : Shape := ⟨2, ![1, 768]⟩
abbrev S1x256 : Shape := ⟨2, ![1, 256]⟩
abbrev S1x1024 : Shape := ⟨2, ![1, 1024]⟩
abbrev S512x768 : Shape := ⟨2, ![512, 768]⟩
abbrev S512x256 : Shape := ⟨2, ![512, 256]⟩
abbrev S512x1024 : Shape := ⟨2, ![512, 1024]⟩
abbrev S512 : Shape := ⟨1, ![512]⟩
abbrev S512x1 : Shape := ⟨2, ![512, 1]⟩
abbrev S768x1024 : Shape := ⟨2, ![768, 1024]⟩
abbrev S256x1024 : Shape := ⟨2, ![256, 1024]⟩

abbrev nBuf : Space → Nat
  | .hbm => 14
  | .vmem => 16
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S768, .f32⟩
  | .hbm, ⟨3, _⟩ => ⟨S256, .f32⟩
  | .hbm, ⟨4, _⟩ => ⟨S1024x1024, .f32⟩
  | .hbm, ⟨5, _⟩ => ⟨S8192x1024, .f32⟩
  | .hbm, ⟨6, _⟩ => ⟨S1024, .f32⟩
  | .hbm, ⟨7, _⟩ => ⟨S1x768, .f32⟩
  | .hbm, ⟨8, _⟩ => ⟨S1x256, .f32⟩
  | .hbm, ⟨9, _⟩ => ⟨S1024x1024, .bf16⟩
  | .hbm, ⟨10, _⟩ => ⟨S1x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .local _ .vmem, ⟨0, _⟩ => ⟨S512x768, .f32⟩
  | .local _ .vmem, ⟨1, _⟩ => ⟨S512x768, .f32⟩
  | .local _ .vmem, ⟨2, _⟩ => ⟨S512x256, .f32⟩
  | .local _ .vmem, ⟨3, _⟩ => ⟨S512x256, .f32⟩
  | .local _ .vmem, ⟨4, _⟩ => ⟨S1x768, .f32⟩
  | .local _ .vmem, ⟨5, _⟩ => ⟨S1x256, .f32⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutFwdReferenceIdeal.lean ====
abbrev S8192x768 : Shape := ⟨2, ![8192, 768]⟩
abbrev S8192x256 : Shape := ⟨2, ![8192, 256]⟩
abbrev S768 : Shape := ⟨1, ![768]⟩
abbrev S256 : Shape := ⟨1, ![256]⟩
abbrev S1024x1024 : Shape := ⟨2, ![1024, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x768 : Shape := ⟨2, ![1, 768]⟩
abbrev S1x256 : Shape := ⟨2, ![1, 256]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x256, .f32⟩
  | .hbm, ⟨2, _⟩ => ⟨S768, .f32⟩
  | .hbm, ⟨3, _⟩ => ⟨S256, .f32⟩
  | .hbm, ⟨4, _⟩ => ⟨S1024x1024, .f32⟩
  | .hbm, ⟨5, _⟩ => ⟨S8192x1024, .f32⟩
  | .hbm, ⟨6, _⟩ => ⟨S1024, .f32⟩
  | .hbm, ⟨7, _⟩ => ⟨S8192x768, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x768, .f32⟩
  | .hbm, ⟨19, _⟩ => ⟨S8192x768, .f32⟩
  | .hbm, ⟨20, _⟩ => ⟨S1x768, .f32⟩
  | .hbm, ⟨21, _⟩ => ⟨S8192x768, .f32⟩
  | .hbm, ⟨22, _⟩ => ⟨S8192x768, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x256, .f32⟩
  | .hbm, ⟨35, _⟩ => ⟨S8192x256, .f32⟩
  | .hbm, ⟨36, _⟩ => ⟨S1x256, .f32⟩
  | .hbm, ⟨37, _⟩ => ⟨S8192x256, .f32⟩
  | .hbm, ⟨38, _⟩ => ⟨S8192x256, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== AdIn.lean ====
abbrev S1024x352 : Shape := ⟨2, ![1024, 352]⟩
abbrev S8x352x1024 : Shape := ⟨3, ![8, 352, 1024]⟩
abbrev S128x352 : Shape := ⟨2, ![128, 352]⟩
abbrev S8x352x128 : Shape := ⟨3, ![8, 352, 128]⟩
abbrev S1x352x128 : Shape := ⟨3, ![1, 352, 128]⟩
abbrev S352x128 : Shape := ⟨2, ![352, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S8x352x1024, .bf16⟩
  | .hbm, ⟨4, _⟩ => ⟨S1024x352, .f32⟩
  | .hbm, ⟨5, _⟩ => ⟨S1024x352, .f32⟩
  | .hbm, ⟨6, _⟩ => ⟨S1024x352, .f32⟩
  | .hbm, ⟨7, _⟩ => ⟨S1024x352, .f32⟩
  | .local _ .vmem, ⟨0, _⟩ => ⟨S128x352, .f32⟩
  | .local _ .vmem, ⟨1, _⟩ => ⟨S128x352, .f32⟩
  | .local _ .vmem, ⟨2, _⟩ => ⟨S128x352, .f32⟩
  | .local _ .vmem, ⟨3, _⟩ => ⟨S128x352, .f32⟩
  | .local _ .vmem, ⟨4, _⟩ => ⟨S128x352, .f32⟩
  | .local _ .vmem, ⟨5, _⟩ => ⟨S128x352, .f32⟩
  | .local _ .vmem, ⟨6, _⟩ => ⟨S8x352x128, .bf16⟩
  | .local _ .vmem, ⟨7, _⟩ => ⟨S8x352x128, .bf16⟩
  | .local _ .vmem, ⟨8, _⟩ => ⟨S128x352, .f32⟩
  | .local _ .vmem, ⟨9, _⟩ => ⟨S128x352, .f32⟩
  | .local _ .vmem, ⟨10, _⟩ => ⟨S128x352, .f32⟩
  | .local _ .vmem, ⟨11, _⟩ => ⟨S128x352, .f32⟩
  | .local _ .vmem, ⟨12, _⟩ => ⟨S128x352, .f32⟩
  | .local _ .vmem, ⟨13, _⟩ => ⟨S128x352, .f32⟩
  | .local _ .vmem, ⟨14, _⟩ => ⟨S128x352, .f32⟩
  | .local _ .vmem, ⟨15, _⟩ => ⟨S128x352, .f32⟩
  | _, _ => ⟨S1024x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x352 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdInReferenceIdeal.lean ====
abbrev S1024x352 : Shape := ⟨2, ![1024, 352]⟩
abbrev S8x352x1024 : Shape := ⟨3, ![8, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x352, .f32⟩
  | .hbm, ⟨1, _⟩ => ⟨S1024x352, .f32⟩
  | .hbm, ⟨2, _⟩ => ⟨S1024x352, .f32⟩
  | .hbm, ⟨3, _⟩ => ⟨S8x352x1024, .bf16⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1024x352, .f32⟩
  | .hbm, ⟨8, _⟩ => ⟨S_, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S1024x352, .f32⟩
  | .hbm, ⟨23, _⟩ => ⟨S_, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | .hbm, ⟨37, _⟩ => ⟨S1024x352, .f32⟩
  | .hbm, ⟨38, _⟩ => ⟨S_, .f32⟩
  | .hbm, ⟨39, _⟩ => ⟨S1024x352, .f32⟩
  | .hbm, ⟨40, _⟩ => ⟨S1024x352, .f32⟩
  | _, _ => ⟨S1024x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdOut.lean ====
abbrev S128x1024 : Shape := ⟨2, ![128, 1024]⟩
abbrev S8x128x1024 : Shape := ⟨3, ![8, 128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S8x128x1024, .bf16⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdOutReferenceIdeal.lean ====
abbrev S128x1024 : Shape := ⟨2, ![128, 1024]⟩
abbrev S8x128x1024 : Shape := ⟨3, ![8, 128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1024, .f32⟩
  | .hbm, ⟨3, _⟩ => ⟨S8x128x1024, .bf16⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdFf1.lean ====
abbrev S1024x512 : Shape := ⟨2, ![1024, 512]⟩
abbrev S8x512x1024 : Shape := ⟨3, ![8, 512, 1024]⟩
abbrev S128x512 : Shape := ⟨2, ![128, 512]⟩
abbrev S8x512x128 : Shape := ⟨3, ![8, 512, 128]⟩
abbrev S1x512x128 : Shape := ⟨3, ![1, 512, 128]⟩
abbrev S512x128 : Shape := ⟨2, ![512, 128]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x512x1024, .bf16⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S8x512x128, .bf16⟩
  | .local _ .vmem, ⟨7, _⟩ => ⟨S8x512x128, .bf16⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf1ReferenceIdeal.lean ====
abbrev S1024x512 : Shape := ⟨2, ![1024, 512]⟩
abbrev S8x512x1024 : Shape := ⟨3, ![8, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S8x512x1024, .bf16⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S_, .f32⟩
  | .hbm, ⟨39, _⟩ => ⟨S1024x512, .f32⟩
  | .hbm, ⟨40, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdFf2.lean ====
abbrev S512x1024 : Shape := ⟨2, ![512, 1024]⟩
abbrev S8x512x1024 : Shape := ⟨3, ![8, 512, 1024]⟩
abbrev S256x1024 : Shape := ⟨2, ![256, 1024]⟩
abbrev S8x256x1024 : Shape := ⟨3, ![8, 256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S8x256x1024, .bf16⟩
  | .local _ .vmem, ⟨7, _⟩ => ⟨S8x256x1024, .bf16⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdFf2ReferenceIdeal.lean ====
abbrev S512x1024 : Shape := ⟨2, ![512, 1024]⟩
abbrev S8x512x1024 : Shape := ⟨3, ![8, 512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S8x512x1024, .bf16⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdSgu.lean ====
abbrev S512x128 : Shape := ⟨2, ![512, 128]⟩
abbrev S8x512x128 : Shape := ⟨3, ![8, 512, 128]⟩
abbrev S1x512x128 : Shape := ⟨3, ![1, 512, 128]⟩

abbrev nBuf : Space → Nat
  | .hbm => 8
  | .vmem => 8
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S8x512x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSguReferenceIdeal.lean ====
abbrev S512x128 : Shape := ⟨2, ![512, 128]⟩
abbrev S8x512x128 : Shape := ⟨3, ![8, 512, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S8x512x128, .bf16⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S_, .f32⟩
  | .hbm, ⟨11, _⟩ => ⟨S512x128, .f32⟩
  | .hbm, ⟨12, _⟩ => ⟨S512x128, .f32⟩
  | .hbm, ⟨13, _⟩ => ⟨S512x128, .f32⟩
  | .hbm, ⟨14, _⟩ => ⟨S_, .f32⟩
  | .hbm, ⟨15, _⟩ => ⟨S512x128, .f32⟩
  | .hbm, ⟨16, _⟩ => ⟨S512x128, .f32⟩
  | .hbm, ⟨17, _⟩ => ⟨S512x128, .f32⟩
  | .hbm, ⟨18, _⟩ => ⟨S_, .f32⟩
  | .hbm, ⟨19, _⟩ => ⟨S512x128, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S_, .f32⟩
  | .hbm, ⟨26, _⟩ => ⟨S512x128, .f32⟩
  | .hbm, ⟨27, _⟩ => ⟨S512x128, .f32⟩
  | .hbm, ⟨28, _⟩ => ⟨S512x128, .f32⟩
  | .hbm, ⟨29, _⟩ => ⟨S_, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S_, .f32⟩
  | .hbm, ⟨34, _⟩ => ⟨S512x128, .f32⟩
  | .hbm, ⟨35, _⟩ => ⟨S512x128, .f32⟩
  | .hbm, ⟨36, _⟩ => ⟨S512x128, .f32⟩
  | .hbm, ⟨37, _⟩ => ⟨S_, .f32⟩
  | .hbm, ⟨38, _⟩ => ⟨S512x128, .f32⟩
  | .hbm, ⟨39, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== GateFwd.lean ====
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S1024x256 : Shape := ⟨2, ![1024, 256]⟩
abbrev S128x128 : Shape := ⟨2, ![128, 128]⟩
abbrev S1x128x128 : Shape := ⟨3, ![1, 128, 128]⟩
abbrev S1024x128 : Shape := ⟨2, ![1024, 128]⟩
abbrev S1024 : Shape := ⟨1, ![1024]⟩
abbrev S1024x1 : Shape := ⟨2, ![1024, 1]⟩
abbrev S128x1 : Shape := ⟨2, ![128, 1]⟩
abbrev S128x256 : Shape := ⟨2, ![128, 256]⟩

abbrev nBuf : Space → Nat
  | .hbm => 10
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x64, .f32⟩
  | .hbm, ⟨3, _⟩ => ⟨S4x64, .f32⟩
  | .hbm, ⟨4, _⟩ => ⟨S4x128x128, .f32⟩
  | .hbm, ⟨5, _⟩ => ⟨S4x128, .f32⟩
  | .hbm, ⟨6, _⟩ => ⟨S1x256, .f32⟩
  | .hbm, ⟨7, _⟩ => ⟨S1x256, .f32⟩
  | .hbm, ⟨8, _⟩ => ⟨S128x4, .f32⟩
  | .hbm, ⟨9, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x4, .f32⟩
  | .local _ .vmem, ⟨8, _⟩ => ⟨S1024x256, .f32⟩
  | .local _ .vmem, ⟨9, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateFwdReferenceIdeal.lean ====
abbrev S8192x256 : Shape := ⟨2, ![8192, 256]⟩
abbrev S4x64 : Shape := ⟨2, ![4, 64]⟩
abbrev S4x128x128 : Shape := ⟨3, ![4, 128, 128]⟩
abbrev S4x128 : Shape := ⟨2, ![4, 128]⟩
abbrev S8192x4x64 : Shape := ⟨3, ![8192, 4, 64]⟩
abbrev S_ : Shape := ⟨0, ![]⟩
abbrev S8192x4 : Shape := ⟨2, ![8192, 4]⟩
abbrev S8192x4x1 : Shape := ⟨3, ![8192, 4, 1]⟩
abbrev S1x4x64 : Shape := ⟨3, ![1, 4, 64]⟩
abbrev S64x128x4x64 : Shape := ⟨4, ![64, 128, 4, 64]⟩
abbrev S128x128 : Shape := ⟨2, ![128, 128]⟩
abbrev S1x128x128 : Shape := ⟨3, ![1, 128, 128]⟩
abbrev S4x64x64x128 : Shape := ⟨4, ![4, 64, 64, 128]⟩
abbrev S128x4 : Shape := ⟨2, ![128, 4]⟩
abbrev S1x128x4x1 : Shape := ⟨4, ![1, 128, 4, 1]⟩

abbrev nBuf : Space → Nat
  | .hbm => 95
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S4x64, .f32⟩
  | .hbm, ⟨3, _⟩ => ⟨S4x64, .f32⟩
  | .hbm, ⟨4, _⟩ => ⟨S4x128x128, .f32⟩
  | .hbm, ⟨5, _⟩ => ⟨S4x128, .f32⟩
  | .hbm, ⟨6, _⟩ => ⟨S8192x4x64, .f32⟩
  | .hbm, ⟨7, _⟩ => ⟨S8192x4x64, .f32⟩
  | .hbm, ⟨8, _⟩ => ⟨S8192x4x64, .f32⟩
  | .hbm, ⟨9, _⟩ => ⟨S8192x4x64, .f32⟩
  | .hbm, ⟨10, _⟩ => ⟨S_, .f32⟩
  | .hbm, ⟨11, _⟩ => ⟨S8192x4x64, .f32⟩
  | .hbm, ⟨12, _⟩ => ⟨S8192x4x64, .f32⟩
  | .hbm, ⟨13, _⟩ => ⟨S8192x4x64, .f32⟩
  | .hbm, ⟨14, _⟩ => ⟨S_, .f32⟩
  | .hbm, ⟨15, _⟩ => ⟨S8192x4x64, .f32⟩
  | .hbm, ⟨16, _⟩ => ⟨S8192x4x64, .f32⟩
  | .hbm, ⟨17, _⟩ => ⟨S8192x4x64, .f32⟩
  | .hbm, ⟨18, _⟩ => ⟨S_, .f32⟩
  | .hbm, ⟨19, _⟩ => ⟨S8192x4x64, .f32⟩
  | .hbm, ⟨20, _⟩ => ⟨S8192x4x64, .f32⟩
  | .hbm, ⟨21, _⟩ => ⟨S_, .f32⟩
  | .hbm, ⟨22, _⟩ => ⟨S8192x4x64, .f32⟩
  | .hbm, ⟨23, _⟩ => ⟨S8192x4x64, .f32⟩
  | .hbm, ⟨24, _⟩ => ⟨S8192x4x64, .f32⟩
  | .hbm, ⟨25, _⟩ => ⟨S8192x4x64, .f32⟩
  | .hbm, ⟨26, _⟩ => ⟨S8192x4x64, .f32⟩
  | .hbm, ⟨27, _⟩ => ⟨S_, .f32⟩
  | .hbm, ⟨28, _⟩ => ⟨S8192x4x64, .f32⟩
  | .hbm, ⟨29, _⟩ => ⟨S8192x4x64, .f32⟩
  | .hbm, ⟨30, _⟩ => ⟨S8192x4x64, .f32⟩
  | .hbm, ⟨31, _⟩ => ⟨S_, .f32⟩
  | .hbm, ⟨32, _⟩ => ⟨S8192x4x64, .f32⟩
  | .hbm, ⟨33, _⟩ => ⟨S8192x4x64, .f32⟩
  | .hbm, ⟨34, _⟩ => ⟨S8192x4x64, .f32⟩
  | .hbm, ⟨35, _⟩ => ⟨S_, .f32⟩
  | .hbm, ⟨36, _⟩ => ⟨S8192x4x64, .f32⟩
  | .hbm, ⟨37, _⟩ => ⟨S8192x4x64, .f32⟩
  | .hbm, ⟨38, _⟩ => ⟨S_, .f32⟩
  | .hbm, ⟨39, _⟩ => ⟨S8192x4x64, .f32⟩
  | .hbm, ⟨40, _⟩ => ⟨S8192x4x64, .f32⟩
  | .hbm, ⟨41, _⟩ => ⟨S8192x4x64, .f32⟩
  | .hbm, ⟨42, _⟩ => ⟨S_, .f32⟩
  | .hbm, ⟨43, _⟩ => ⟨S8192x4, .f32⟩
  | .hbm, ⟨44, _⟩ => ⟨S8192x4x1, .f32⟩
  | .hbm, ⟨45, _⟩ => ⟨S_, .f32⟩
  | .hbm, ⟨46, _⟩ => ⟨S8192x4x1, .f32⟩
  | .hbm, ⟨47, _⟩ => ⟨S8192x4x1, .f32⟩
  | .hbm, ⟨48, _⟩ => ⟨S8192x4x64, .f32⟩
  | .hbm, ⟨49, _⟩ => ⟨S8192x4x64, .f32⟩
  | .hbm, ⟨50, _⟩ => ⟨S8192x4x64, .f32⟩
  | .hbm, ⟨51, _⟩ => ⟨S_, .f32⟩
  | .hbm, ⟨52, _⟩ => ⟨S8192x4, .f32⟩
  | .hbm, ⟨53, _⟩ => ⟨S8192x4x1, .f32⟩
  | .hbm, ⟨54, _⟩ => ⟨S_, .f32⟩
  | .hbm, ⟨55, _⟩ => ⟨S8192x4x1, .f32⟩
  | .hbm, ⟨56, _⟩ => ⟨S8192x4x1, .f32⟩
  | .hbm, ⟨57, _⟩ => ⟨S8192x4x64, .f32⟩
  | .hbm, ⟨58, _⟩ => ⟨S8192x4x64, .f32⟩
  | .hbm, ⟨59, _⟩ => ⟨S_, .f32⟩
  | .hbm, ⟨60, _⟩ => ⟨S8192x4x1, .f32⟩
  | .hbm, ⟨61, _⟩ => ⟨S8192x4x1, .f32⟩
  | .hbm, ⟨62, _⟩ => ⟨S8192x4x1, .f32⟩
  | .hbm, ⟨63, _⟩ => ⟨S8192x4x64, .f32⟩
  | .hbm, ⟨64, _⟩ => ⟨S8192x4x64, .f32⟩
  | .hbm, ⟨65, _⟩ => ⟨S1x4x64, .f32⟩
  | .hbm, ⟨66, _⟩ => ⟨S8192x4x64, .f32⟩
  | .hbm, ⟨67, _⟩ => ⟨S8192x4x64, .f32⟩
  | .hbm, ⟨68, _⟩ => ⟨S1x4x64, .f32⟩
  | .hbm, ⟨69, _⟩ => ⟨S8192x4x64, .f32⟩
  | .hbm, ⟨70, _⟩ => ⟨S8192x4x64, .f32⟩
  | .hbm, ⟨71, _⟩ => ⟨S64x128x4x64, .f32⟩
  | .hbm, ⟨72, _⟩ => ⟨S_, .f32⟩
  | .hbm, ⟨73, _⟩ => ⟨S128x128, .f32⟩
  | .hbm, ⟨74, _⟩ => ⟨S128x128, .i32⟩
  | .hbm, ⟨75, _⟩ => ⟨S_, .i32⟩
  | .hbm, ⟨76, _⟩ => ⟨S128x128, .i32⟩
  | .hbm, ⟨77, _⟩ => ⟨S128x128, .i32⟩
  | .hbm, ⟨78, _⟩ => ⟨S128x128, .i32⟩
  | .hbm, ⟨79, _⟩ => ⟨S128x128, .i1⟩
  | .hbm, ⟨80, _⟩ => ⟨S_, .f32⟩
  | .hbm, ⟨81, _⟩ => ⟨S128x128, .f32⟩
  | .hbm, ⟨82, _⟩ => ⟨S128x128, .f32⟩
  | .hbm, ⟨83, _⟩ => ⟨S1x128x128, .f32⟩
  | .hbm, ⟨84, _⟩ => ⟨S4x128x128, .f32⟩
  | .hbm, ⟨85, _⟩ => ⟨S4x128x128, .f32⟩
  | .hbm, ⟨86, _⟩ => ⟨S4x64x64x128, .f32⟩
  | .hbm, ⟨87, _⟩ => ⟨S64x128x4x64, .f32⟩
  | .hbm, ⟨88, _⟩ => ⟨S128x4, .f32⟩
  | .hbm, ⟨89, _⟩ => ⟨S1x128x4x1, .f32⟩
  | .hbm, ⟨90, _⟩ => ⟨S64x128x4x64, .f32⟩
  | .hbm, ⟨91, _⟩ => ⟨S64x128x4x64, .f32⟩
  | .hbm, ⟨92, _⟩ => ⟨S8192x4x64, .f32⟩
  | .hbm, ⟨93, _⟩ => ⟨S8192x4x64, .f32⟩
  | .hbm, ⟨94, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_9 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_call0_v0 : Ref sig .tc := ⟨.hbm, 74, rfl⟩
abbrev main_call0_c : Ref sig .tc := ⟨.hbm, 75, rfl⟩
abbrev main_call0_v1 : Ref sig .tc := ⟨.hbm, 76, rfl⟩
abbrev main_call0_v2 : Ref sig .tc := ⟨.hbm, 77, rfl⟩
abbrev main_call0_v3 : Ref sig .tc := ⟨.hbm, 78, rfl⟩
abbrev main_call0_v4 : Ref sig .tc := ⟨.hbm, 79, rfl⟩
abbrev main_call0_cst : Ref sig .tc := ⟨.hbm, 80, rfl⟩
abbrev main_call0_v5 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]
-- ==== AdTiny.lean ====
abbrev S8x128 : Shape := ⟨2, ![8, 128]⟩
abbrev S2x128 : Shape := ⟨2, ![2, 128]⟩
abbrev S4x128 : Shape := ⟨2, ![4, 128]⟩
abbrev S6x128 : Shape := ⟨2, ![6, 128]⟩
abbrev S8x72x128 : Shape := ⟨3, ![8, 72, 128]⟩
abbrev S1x8x128 : Shape := ⟨3, ![1, 8, 128]⟩
abbrev S1x2x128 : Shape := ⟨3, ![1, 2, 128]⟩
abbrev S1x4x128 : Shape := ⟨3, ![1, 4, 128]⟩
abbrev S1x6x128 : Shape := ⟨3, ![1, 6, 128]⟩

abbrev nBuf : Space → Nat
  | .hbm => 58
  | .vmem => 58
  | .smem => 0
  | _ => 0

abbrev bufTy : (tb : Table) → Fin (tcTables nBuf tb) → BufTy
  | .hbm, ⟨0, _⟩ => ⟨S8x128, .f32⟩
  | .hbm, ⟨1, _⟩ => ⟨S2x128, .f32⟩
  | .hbm, ⟨2, _⟩ => ⟨S2x128, .f32⟩
  | .hbm, ⟨3, _⟩ => ⟨S4x128, .f32⟩
  | .hbm, ⟨4, _⟩ => ⟨S6x128, .f32⟩
  | .hbm, ⟨5, _⟩ => ⟨S2x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S2x128, .f32⟩
  | .hbm, ⟨10, _⟩ => ⟨S2x128, .f32⟩
  | .hbm, ⟨11, _⟩ => ⟨S4x128, .f32⟩
  | .hbm, ⟨12, _⟩ => ⟨S6x128, .f32⟩
  | .hbm, ⟨13, _⟩ => ⟨S2x128, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S2x128, .f32⟩
  | .hbm, ⟨18, _⟩ => ⟨S2x128, .f32⟩
  | .hbm, ⟨19, _⟩ => ⟨S4x128, .f32⟩
  | .hbm, ⟨20, _⟩ => ⟨S6x128, .f32⟩
  | .hbm, ⟨21, _⟩ => ⟨S2x128, .f32⟩
  | .hbm, ⟨22, _⟩ => ⟨S8x128, .f32⟩
  | .hbm, ⟨23, _⟩ => ⟨S8x128, .f32⟩
  | .hbm, ⟨24, _⟩ => ⟨S8x72x128, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S8x128, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S2x128, .f32⟩
  | .hbm, ⟨33, _⟩ => ⟨S2x128, .f32⟩
  | .hbm, ⟨34, _⟩ => ⟨S2x128, .f32⟩
  | .hbm, ⟨35, _⟩ => ⟨S2x128, .f32⟩
  | .hbm, ⟨36, _⟩ => ⟨S2x128, .f32⟩
  | .hbm, ⟨37, _⟩ => ⟨S4x128, .f32⟩
  | .hbm, ⟨38, _⟩ => ⟨S4x128, .f32⟩
  | .hbm, ⟨39, _⟩ => ⟨S4x128, .f32⟩
  | .hbm, ⟨40, _⟩ => ⟨S4x128, .f32⟩
  | .hbm, ⟨41, _⟩ => ⟨S6x128, .f32⟩
  | .hbm, ⟨42, _⟩ => ⟨S6x128, .f32⟩
  | .hbm, ⟨43, _⟩ => ⟨S6x128, .f32⟩
  | .hbm, ⟨44, _⟩ => ⟨S6x128, .f32⟩
  | .hbm, ⟨45, _⟩ => ⟨S2x128, .f32⟩
  | .hbm, ⟨46, _⟩ => ⟨S2x128, .f32⟩
  | .hbm, ⟨47, _⟩ => ⟨S2x128, .f32⟩
  | .hbm, ⟨48, _⟩ => ⟨S2x128, .f32⟩
  | .hbm, ⟨49, _⟩ => ⟨S8x128, .f32⟩
  | .hbm, ⟨50, _⟩ => ⟨S8x128, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S8x128, .f32⟩
  | .hbm, ⟨57, _⟩ => ⟨S8x128, .f32⟩
  | .local _ .vmem, ⟨0, _⟩ => ⟨S8x128, .f32⟩
  | .local _ .vmem, ⟨1, _⟩ => ⟨S2x128, .f32⟩
  | .local _ .vmem, ⟨2, _⟩ => ⟨S2x128, .f32⟩
  | .local _ .vmem, ⟨3, _⟩ => ⟨S4x128, .f32⟩
  | .local _ .vmem, ⟨4, _⟩ => ⟨S6x128, .f32⟩
  | .local _ .vmem, ⟨5, _⟩ => ⟨S2x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S2x128, .f32⟩
  | .local _ .vmem, ⟨10, _⟩ => ⟨S2x128, .f32⟩
  | .local _ .vmem, ⟨11, _⟩ => ⟨S4x128, .f32⟩
  | .local _ .vmem, ⟨12, _⟩ => ⟨S6x128, .f32⟩
  | .local _ .vmem, ⟨13, _⟩ => ⟨S2x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S2x128, .f32⟩
  | .local _ .vmem, ⟨18, _⟩ => ⟨S2x128, .f32⟩
  | .local _ .vmem, ⟨19, _⟩ => ⟨S4x128, .f32⟩
  | .local _ .vmem, ⟨20, _⟩ => ⟨S6x128, .f32⟩
  | .local _ .vmem, ⟨21, _⟩ => ⟨S2x128, .f32⟩
  | .local _ .vmem, ⟨22, _⟩ => ⟨S8x128, .f32⟩
  | .local _ .vmem, ⟨23, _⟩ => ⟨S8x128, .f32⟩
  | .local _ .vmem, ⟨24, _⟩ => ⟨S8x72x128, .f32⟩
  | .local _ .vmem, ⟨25, _⟩ => ⟨S8x128, .f32⟩
  | .local _ .vmem, ⟨26, _⟩ => ⟨S8x128, .f32⟩
  | .local _ .vmem, ⟨27, _⟩ => ⟨S8x128, .f32⟩
  | .local _ .vmem, ⟨28, _⟩ => ⟨S8x128, .f32⟩
  | .local _ .vmem, ⟨29, _⟩ => ⟨S2x128, .f32⟩
  | .local _ .vmem, ⟨30, _⟩ => ⟨S2x128, .f32⟩
  | .local _ .vmem, ⟨31, _⟩ => ⟨S2x128, .f32⟩
  | .local _ .vmem, ⟨32, _⟩ => ⟨S2x128, .f32⟩
  | .local _ .vmem, ⟨33, _⟩ => ⟨S2x128, .f32⟩
  | .local _ .vmem, ⟨34, _⟩ => ⟨S2x128, .f32⟩
  | .local _ .vmem, ⟨35, _⟩ => ⟨S2x128, .f32⟩
  | .local _ .vmem, ⟨36, _⟩ => ⟨S2x128, .f32⟩
  | .local _ .vmem, ⟨37, _⟩ => ⟨S4x128, .f32⟩
  | .local _ .vmem, ⟨38, _⟩ => ⟨S4x128, .f32⟩
  | .local _ .vmem, ⟨39, _⟩ => ⟨S4x128, .f32⟩
  | .local _ .vmem, ⟨40, _⟩ => ⟨S4x128, .f32⟩
  | .local _ .vmem, ⟨41, _⟩ => ⟨S6x128, .f32⟩
  | .local _ .vmem, ⟨42, _⟩ => ⟨S6x128, .f32⟩
  | .local _ .vmem, ⟨43, _⟩ => ⟨S6x128, .f32⟩
  | .local _ .vmem, ⟨44, _⟩ => ⟨S6x128, .f32⟩
  | .local _ .vmem, ⟨45, _⟩ => ⟨S2x128, .f32⟩
  | .local _ .vmem, ⟨46, _⟩ => ⟨S2x128, .f32⟩
  | .local _ .vmem, ⟨47, _⟩ => ⟨S2x128, .f32⟩
  | .local _ .vmem, ⟨48, _⟩ => ⟨S2x128, .f32⟩
  | .local _ .vmem, ⟨49, _⟩ => ⟨S8x128, .f32⟩
  | .local _ .vmem, ⟨50, _⟩ => ⟨S8x128, .f32⟩
  | .local _ .vmem, ⟨51, _⟩ => ⟨S8x128, .f32⟩
  | .local _ .vmem, ⟨52, _⟩ => ⟨S8x128, .f32⟩
  | .local _ .vmem, ⟨53, _⟩ => ⟨S8x128, .f32⟩
  | .local _ .vmem, ⟨54, _⟩ => ⟨S8x128, .f32⟩
  | .local _ .vmem, ⟨55, _⟩ => ⟨S8x128, .f32⟩
  | .local _ .vmem, ⟨56, _⟩ => ⟨S8x128, .f32⟩
  | .local _ .vmem, ⟨57, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0_0 : Ref sig .tc := ⟨.hbm, 25, rfl⟩
abbrev main_v0_1 : Ref sig .tc := ⟨.hbm, 26, rfl⟩
abbrev main_v0_2 : Ref sig .tc := ⟨.hbm, 27, rfl⟩
abbrev main_v0_3 : Ref sig .tc := ⟨.hbm, 28, rfl⟩
abbrev main_v0_4 : Ref sig .tc := ⟨.hbm, 29, rfl⟩
abbrev main_v0_5 : Ref sig .tc := ⟨.hbm, 30, rfl⟩
abbrev main_v0_6 : Ref sig .tc := ⟨.hbm, 31, rfl⟩
abbrev main_v0_7 : Ref sig .tc := ⟨.hbm, 32, rfl⟩
abbrev main_v0_8 : Ref sig .tc := ⟨.hbm, 33, rfl⟩
abbrev main_v0_9 : Ref sig .tc := ⟨.hbm, 34, rfl⟩
abbrev main_v0_10 : Ref sig .tc := ⟨.hbm, 35, rfl⟩
abbrev main_v0_11 : Ref sig .tc := ⟨.hbm, 36, rfl⟩
abbrev main_v0_12 : Ref sig .tc := ⟨.hbm, 37, rfl⟩
abbrev main_v0_13 : Ref sig .tc := ⟨.hbm, 38, rfl⟩
abbrev main_v0_14 : Ref sig .tc := ⟨.hbm, 39, rfl⟩
abbrev main_v0_15 : Ref sig .tc := ⟨.hbm, 40, rfl⟩
abbrev main_v0_16 : Ref sig .tc := ⟨.hbm, 41, rfl⟩
abbrev main_v0_17 : Ref sig .tc := ⟨.hbm, 42, rfl⟩
abbrev main_v0_18 : Ref sig .tc := ⟨.hbm, 43, rfl⟩
abbrev main_v0_19 : Ref sig .tc := ⟨.hbm, 44, rfl⟩
abbrev main_v0_20 : Ref sig .tc := ⟨.hbm, 45, rfl⟩
abbrev main_v0_21 : Ref sig .tc := ⟨.hbm, 46, rfl⟩
abbrev main_v0_22 : Ref sig .tc := ⟨.hbm, 47, rfl⟩
abbrev main_v0_23 : Ref sig .tc := ⟨.hbm, 48, rfl⟩
abbrev main_v0_24 : Ref sig .tc := ⟨.hbm, 49, rfl⟩
abbrev main_v0_25 : Ref sig .tc := ⟨.hbm, 50, rfl⟩
abbrev main_v0_26 : Ref sig .tc := ⟨.hbm, 51, rfl⟩
abbrev main_v0_27 : Ref sig .tc := ⟨.hbm, 52, rfl⟩
abbrev main_v0_28 : Ref sig .tc := ⟨.hbm, 53, rfl⟩
abbrev main_v0_29 : Ref sig .tc := ⟨.hbm, 54, rfl⟩
abbrev main_v0_30 : Ref sig .tc := ⟨.hbm, 55, rfl⟩
abbrev main_v0_31 : Ref sig .tc := ⟨.hbm, 56, rfl⟩
abbrev main_v0_32 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S4x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S6x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S2x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S8x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S8x72x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S8x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S8x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S8x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S2x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S2x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S2x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S2x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S2x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S2x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S2x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S2x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S4x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S4x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S6x128 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S6x128 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S6x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S6x128 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S2x128 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S2x128 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S2x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S8x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S8x128 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S8x128 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S8x128 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S8x128 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S8x128 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S8x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S8x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S8x128 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))
-- ==== AdTinyReferenceIdeal.lean ====
abbrev S8x128 : Shape := ⟨2, ![8, 128]⟩
abbrev S2x128 : Shape := ⟨2, ![2, 128]⟩
abbrev S4x128 : Shape := ⟨2, ![4, 128]⟩
abbrev S6x128 : Shape := ⟨2, ![6, 128]⟩
abbrev S8x72x128 : Shape := ⟨3, ![8, 72, 128]⟩
abbrev S_ : Shape := ⟨0, ![]⟩
abbrev S72x128 : Shape := ⟨2, ![72, 128]⟩

abbrev nBuf : Space → Nat
  | .hbm => 300
  | .vmem => 0
  | .smem => 0
  | _ => 0

abbrev hbmTy0_0 (i : Nat) : BufTy := match i % 128 with
  | 0 => ⟨S8x128, .f32⟩
  | 1 => ⟨S2x128, .f32⟩
  | 2 => ⟨S2x128, .f32⟩
  | 3 => ⟨S4x128, .f32⟩
  | 4 => ⟨S6x128, .f32⟩
  | 5 => ⟨S2x128, .f32⟩
  | 6 => ⟨S8x128, .f32⟩
  | 7 => ⟨S8x128, .f32⟩
  | 8 => ⟨S8x128, .f32⟩
  | 9 => ⟨S2x128, .f32⟩
  | 10 => ⟨S2x128, .f32⟩
  | 11 => ⟨S4x128, .f32⟩
  | 12 => ⟨S6x128, .f32⟩
  | 13 => ⟨S2x128, .f32⟩
  | 14 => ⟨S8x128, .f32⟩
  | 15 => ⟨S8x128, .f32⟩
  | 16 => ⟨S8x128, .f32⟩
  | 17 => ⟨S2x128, .f32⟩
  | 18 => ⟨S2x128, .f32⟩
  | 19 => ⟨S4x128, .f32⟩
  | 20 => ⟨S6x128, .f32⟩
  | 21 => ⟨S2x128, .f32⟩
  | 22 => ⟨S8x128, .f32⟩
  | 23 => ⟨S8x128, .f32⟩
  | 24 => ⟨S8x72x128, .f32⟩
  | 25 => ⟨S_, .f32⟩
  | 26 => ⟨S72x128, .f32⟩
  | 27 => ⟨S8x128, .f32⟩
  | 28 => ⟨S_, .f32⟩
  | 29 => ⟨S8x128, .f32⟩
  | 30 => ⟨S8x128, .f32⟩
  | 31 => ⟨S_, .f32⟩
  | 32 => ⟨S8x128, .f32⟩
  | 33 => ⟨S8x128, .f32⟩
  | 34 => ⟨S8x128, .f32⟩
  | 35 => ⟨S_, .f32⟩
  | 36 => ⟨S8x128, .f32⟩
  | 37 => ⟨S8x128, .f32⟩
  | 38 => ⟨S8x128, .f32⟩
  | 39 => ⟨S_, .f32⟩
  | 40 => ⟨S8x128, .f32⟩
  | 41 => ⟨S8x128, .f32⟩
  | 42 => ⟨S8x128, .f32⟩
  | 43 => ⟨S_, .f32⟩
  | 44 => ⟨S8x128, .f32⟩
  | 45 => ⟨S8x128, .f32⟩
  | 46 => ⟨S_, .f32⟩
  | 47 => ⟨S8x128, .f32⟩
  | 48 => ⟨S8x128, .f32⟩
  | 49 => ⟨S8x128, .f32⟩
  | 50 => ⟨S_, .f32⟩
  | 51 => ⟨S8x128, .f32⟩
  | 52 => ⟨S8x128, .f32⟩
  | 53 => ⟨S8x128, .f32⟩
  | 54 => ⟨S_, .f32⟩
  | 55 => ⟨S8x128, .f32⟩
  | 56 => ⟨S8x128, .f32⟩
  | 57 => ⟨S8x128, .f32⟩
  | 58 => ⟨S_, .f32⟩
  | 59 => ⟨S8x128, .f32⟩
  | 60 => ⟨S8x128, .f32⟩
  | 61 => ⟨S2x128, .f32⟩
  | 62 => ⟨S_, .f32⟩
  | 63 => ⟨S2x128, .f32⟩
  | 64 => ⟨S2x128, .f32⟩
  | 65 => ⟨S_, .f32⟩
  | 66 => ⟨S2x128, .f32⟩
  | 67 => ⟨S2x128, .f32⟩
  | 68 => ⟨S2x128, .f32⟩
  | 69 => ⟨S_, .f32⟩
  | 70 => ⟨S2x128, .f32⟩
  | 71 => ⟨S2x128, .f32⟩
  | 72 => ⟨S2x128, .f32⟩
  | 73 => ⟨S_, .f32⟩
  | 74 => ⟨S2x128, .f32⟩
  | 75 => ⟨S2x128, .f32⟩
  | 76 => ⟨S2x128, .f32⟩
  | 77 => ⟨S_, .f32⟩
  | 78 => ⟨S2x128, .f32⟩
  | 79 => ⟨S2x128, .f32⟩
  | 80 => ⟨S_, .f32⟩
  | 81 => ⟨S2x128, .f32⟩
  | 82 => ⟨S2x128, .f32⟩
  | 83 => ⟨S2x128, .f32⟩
  | 84 => ⟨S_, .f32⟩
  | 85 => ⟨S2x128, .f32⟩
  | 86 => ⟨S2x128, .f32⟩
  | 87 => ⟨S2x128, .f32⟩
  | 88 => ⟨S_, .f32⟩
  | 89 => ⟨S2x128, .f32⟩
  | 90 => ⟨S2x128, .f32⟩
  | 91 => ⟨S2x128, .f32⟩
  | 92 => ⟨S_, .f32⟩
  | 93 => ⟨S2x128, .f32⟩
  | 94 => ⟨S2x128, .f32⟩
  | 95 => ⟨S2x128, .f32⟩
  | 96 => ⟨S_, .f32⟩
  | 97 => ⟨S2x128, .f32⟩
  | 98 => ⟨S2x128, .f32⟩
  | 99 => ⟨S_, .f32⟩
  | 100 => ⟨S2x128, .f32⟩
  | 101 => ⟨S2x128, .f32⟩
  | 102 => ⟨S2x128, .f32⟩
  | 103 => ⟨S_, .f32⟩
  | 104 => ⟨S2x128, .f32⟩
  | 105 => ⟨S2x128, .f32⟩
  | 106 => ⟨S2x128, .f32⟩
  | 107 => ⟨S_, .f32⟩
  | 108 => ⟨S2x128, .f32⟩
  | 109 => ⟨S2x128, .f32⟩
  | 110 => ⟨S2x128, .f32⟩
  | 111 => ⟨S_, .f32⟩
  | 112 => ⟨S2x128, .f32⟩
  | 113 => ⟨S2x128, .f32⟩
  | 114 => ⟨S_, .f32⟩
  | 115 => ⟨S2x128, .f32⟩
  | 116 => ⟨S2x128, .f32⟩
  | 117 => ⟨S2x128, .f32⟩
  | 118 => ⟨S_, .f32⟩
  | 119 => ⟨S2x128, .f32⟩
  | 120 => ⟨S2x128, .f32⟩
  | 121 => ⟨S2x128, .f32⟩
  | 122 => ⟨S_, .f32⟩
  | 123 => ⟨S2x128, .f32⟩
  | 124 => ⟨S2x128, .f32⟩
  | 125 => ⟨S2x128, .f32⟩
  | 126 => ⟨S_, .f32⟩
  | 127 => ⟨S2x128, .f32⟩
  | _ => ⟨S8x128, .f32⟩

abbrev hbmTy0_1 (i : Nat) : BufTy := match i % 128 with
  | 0 => ⟨S2x128, .f32⟩
  | 1 => ⟨S4x128, .f32⟩
  | 2 => ⟨S_, .f32⟩
  | 3 => ⟨S4x128, .f32⟩
  | 4 => ⟨S4x128, .f32⟩
  | 5 => ⟨S_, .f32⟩
  | 6 => ⟨S4x128, .f32⟩
  | 7 => ⟨S4x128, .f32⟩
  | 8 => ⟨S4x128, .f32⟩
  | 9 => ⟨S_, .f32⟩
  | 10 => ⟨S4x128, .f32⟩
  | 11 => ⟨S4x128, .f32⟩
  | 12 => ⟨S4x128, .f32⟩
  | 13 => ⟨S_, .f32⟩
  | 14 => ⟨S4x128, .f32⟩
  | 15 => ⟨S4x128, .f32⟩
  | 16 => ⟨S4x128, .f32⟩
  | 17 => ⟨S_, .f32⟩
  | 18 => ⟨S4x128, .f32⟩
  | 19 => ⟨S4x128, .f32⟩
  | 20 => ⟨S_, .f32⟩
  | 21 => ⟨S4x128, .f32⟩
  | 22 => ⟨S4x128, .f32⟩
  | 23 => ⟨S4x128, .f32⟩
  | 24 => ⟨S_, .f32⟩
  | 25 => ⟨S4x128, .f32⟩
  | 26 => ⟨S4x128, .f32⟩
  | 27 => ⟨S4x128, .f32⟩
  | 28 => ⟨S_, .f32⟩
  | 29 => ⟨S4x128, .f32⟩
  | 30 => ⟨S4x128, .f32⟩
  | 31 => ⟨S4x128, .f32⟩
  | 32 => ⟨S_, .f32⟩
  | 33 => ⟨S4x128, .f32⟩
  | 34 => ⟨S4x128, .f32⟩
  | 35 => ⟨S6x128, .f32⟩
  | 36 => ⟨S_, .f32⟩
  | 37 => ⟨S6x128, .f32⟩
  | 38 => ⟨S6x128, .f32⟩
  | 39 => ⟨S_, .f32⟩
  | 40 => ⟨S6x128, .f32⟩
  | 41 => ⟨S6x128, .f32⟩
  | 42 => ⟨S6x128, .f32⟩
  | 43 => ⟨S_, .f32⟩
  | 44 => ⟨S6x128, .f32⟩
  | 45 => ⟨S6x128, .f32⟩
  | 46 => ⟨S6x128, .f32⟩
  | 47 => ⟨S_, .f32⟩
  | 48 => ⟨S6x128, .f32⟩
  | 49 => ⟨S6x128, .f32⟩
  | 50 => ⟨S6x128, .f32⟩
  | 51 => ⟨S_, .f32⟩
  | 52 => ⟨S6x128, .f32⟩
  | 53 => ⟨S6x128, .f32⟩
  | 54 => ⟨S_, .f32⟩
  | 55 => ⟨S6x128, .f32⟩
  | 56 => ⟨S6x128, .f32⟩
  | 57 => ⟨S6x128, .f32⟩
  | 58 => ⟨S_, .f32⟩
  | 59 => ⟨S6x128, .f32⟩
  | 60 => ⟨S6x128, .f32⟩
  | 61 => ⟨S6x128, .f32⟩
  | 62 => ⟨S_, .f32⟩
  | 63 => ⟨S6x128, .f32⟩
  | 64 => ⟨S6x128, .f32⟩
  | 65 => ⟨S6x128, .f32⟩
  | 66 => ⟨S_, .f32⟩
  | 67 => ⟨S6x128, .f32⟩
  | 68 => ⟨S6x128, .f32⟩
  | 69 => ⟨S2x128, .f32⟩
  | 70 => ⟨S_, .f32⟩
  | 71 => ⟨S2x128, .f32⟩
  | 72 => ⟨S2x128, .f32⟩
  | 73 => ⟨S_, .f32⟩
  | 74 => ⟨S2x128, .f32⟩
  | 75 => ⟨S2x128, .f32⟩
  | 76 => ⟨S2x128, .f32⟩
  | 77 => ⟨S_, .f32⟩
  | 78 => ⟨S2x128, .f32⟩
  | 79 => ⟨S2x128, .f32⟩
  | 80 => ⟨S2x128, .f32⟩
  | 81 => ⟨S_, .f32⟩
  | 82 => ⟨S2x128, .f32⟩
  | 83 => ⟨S2x128, .f32⟩
  | 84 => ⟨S2x128, .f32⟩
  | 85 => ⟨S_, .f32⟩
  | 86 => ⟨S2x128, .f32⟩
  | 87 => ⟨S2x128, .f32⟩
  | 88 => ⟨S_, .f32⟩
  | 89 => ⟨S2x128, .f32⟩
  | 90 => ⟨S2x128, .f32⟩
  | 91 => ⟨S2x128, .f32⟩
  | 92 => ⟨S_, .f32⟩
  | 93 => ⟨S2x128, .f32⟩
  | 94 => ⟨S2x128, .f32⟩
  | 95 => ⟨S2x128, .f32⟩
  | 96 => ⟨S_, .f32⟩
  | 97 => ⟨S2x128, .f32⟩
  | 98 => ⟨S2x128, .f32⟩
  | 99 => ⟨S2x128, .f32⟩
  | 100 => ⟨S_, .f32⟩
  | 101 => ⟨S2x128, .f32⟩
  | 102 => ⟨S2x128, .f32⟩
  | 103 => ⟨S8x128, .f32⟩
  | 104 => ⟨S_, .f32⟩
  | 105 => ⟨S8x128, .f32⟩
  | 106 => ⟨S8x128, .f32⟩
  | 107 => ⟨S_, .f32⟩
  | 108 => ⟨S8x128, .f32⟩
  | 109 => ⟨S8x128, .f32⟩
  | 110 => ⟨S8x128, .f32⟩
  | 111 => ⟨S_, .f32⟩
  | 112 => ⟨S8x128, .f32⟩
  | 113 => ⟨S8x128, .f32⟩
  | 114 => ⟨S8x128, .f32⟩
  | 115 => ⟨S_, .f32⟩
  | 116 => ⟨S8x128, .f32⟩
  | 117 => ⟨S8x128, .f32⟩
  | 118 => ⟨S8x128, .f32⟩
  | 119 => ⟨S_, .f32⟩
  | 120 => ⟨S8x128, .f32⟩
  | 121 => ⟨S8x128, .f32⟩
  | 122 => ⟨S_, .f32⟩
  | 123 => ⟨S8x128, .f32⟩
  | 124 => ⟨S8x128, .f32⟩
  | 125 => ⟨S8x128, .f32⟩
  | 126 => ⟨S_, .f32⟩
  | 127 => ⟨S8x128, .f32⟩
  | _ => ⟨S8x128, .f32⟩

abbrev hbmTy0_2 (i : Nat) : BufTy := match i % 128 with
  | 0 => ⟨S8x128, .f32⟩
  | 1 => ⟨S8x128, .f32⟩
  | 2 => ⟨S_, .f32⟩
  | 3 => ⟨S8x128, .f32⟩
  | 4 => ⟨S8x128, .f32⟩
  | 5 => ⟨S8x128, .f32⟩
  | 6 => ⟨S_, .f32⟩
  | 7 => ⟨S8x128, .f32⟩
  | 8 => ⟨S8x128, .f32⟩
  | 9 => ⟨S8x128, .f32⟩
  | 10 => ⟨S_, .f32⟩
  | 11 => ⟨S8x128, .f32⟩
  | 12 => ⟨S8x128, .f32⟩
  | 13 => ⟨S_, .f32⟩
  | 14 => ⟨S8x128, .f32⟩
  | 15 => ⟨S8x128, .f32⟩
  | 16 => ⟨S8x128, .f32⟩
  | 17 => ⟨S_, .f32⟩
  | 18 => ⟨S8x128, .f32⟩
  | 19 => ⟨S8x128, .f32⟩
  | 20 => ⟨S8x128, .f32⟩
  | 21 => ⟨S_, .f32⟩
  | 22 => ⟨S8x128, .f32⟩
  | 23 => ⟨S8x128, .f32⟩
  | 24 => ⟨S8x128, .f32⟩
  | 25 => ⟨S_, .f32⟩
  | 26 => ⟨S8x128, .f32⟩
  | 27 => ⟨S8x128, .f32⟩
  | 28 => ⟨S_, .f32⟩
  | 29 => ⟨S8x128, .f32⟩
  | 30 => ⟨S8x128, .f32⟩
  | 31 => ⟨S8x128, .f32⟩
  | 32 => ⟨S_, .f32⟩
  | 33 => ⟨S8x128, .f32⟩
  | 34 => ⟨S8x128, .f32⟩
  | 35 => ⟨S8x128, .f32⟩
  | 36 => ⟨S_, .f32⟩
  | 37 => ⟨S8x128, .f32⟩
  | 38 => ⟨S8x128, .f32⟩
  | 39 => ⟨S8x128, .f32⟩
  | 40 => ⟨S_, .f32⟩
  | 41 => ⟨S8x128, .f32⟩
  | 42 => ⟨S8x128, .f32⟩
  | 43 => ⟨S8x128, .f32⟩
  | _ => ⟨S8x128, .f32⟩

abbrev hbmTy (i : Nat) : BufTy := match i / 128 with
  | 0 => hbmTy0_0 i
  | 1 => hbmTy0_1 i
  | 2 => hbmTy0_2 i
  | _ => ⟨S8x128, .f32⟩

abbrev bufTy : (tb : Table) → Fin (tcTables nBuf tb) → BufTy
  | .hbm, ⟨i, _⟩ => hbmTy i
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_2 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_cst_5 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_6 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_7 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_cst_8 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_9 : Ref sig .tc := ⟨.hbm, 62, rfl⟩
abbrev main_v27 : Ref sig .tc := ⟨.hbm, 63, rfl⟩
abbrev main_v28 : Ref sig .tc := ⟨.hbm, 64, rfl⟩
abbrev main_cst_10 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_11 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_12 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_cst_13 : Ref sig .tc := ⟨.hbm, 77, rfl⟩
abbrev main_v38 : Ref sig .tc := ⟨.hbm, 78, rfl⟩
abbrev main_v39 : Ref sig .tc := ⟨.hbm, 79, rfl⟩
abbrev main_cst_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_15 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_16 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_cst_17 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_cst_18 : Ref sig .tc := ⟨.hbm, 96, rfl⟩
abbrev main_v52 : Ref sig .tc := ⟨.hbm, 97, rfl⟩
abbrev main_v53 : Ref sig .tc := ⟨.hbm, 98, rfl⟩
abbrev main_cst_19 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_cst_20 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_cst_21 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_22 : Ref sig .tc := ⟨.hbm, 111, rfl⟩
abbrev main_v63 : Ref sig .tc := ⟨.hbm, 112, rfl⟩
abbrev main_v64 : Ref sig .tc := ⟨.hbm, 113, rfl⟩
abbrev main_cst_23 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_24 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_cst_25 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_26 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_27 : Ref sig .tc := ⟨.hbm, 130, rfl⟩
abbrev main_v77 : Ref sig .tc := ⟨.hbm, 131, rfl⟩
abbrev main_v78 : Ref sig .tc := ⟨.hbm, 132, rfl⟩
abbrev main_cst_28 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_29 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_cst_30 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_31 : Ref sig .tc := ⟨.hbm, 145, rfl⟩
abbrev main_v88 : Ref sig .tc := ⟨.hbm, 146, rfl⟩
abbrev main_v89 : Ref sig .tc := ⟨.hbm, 147, rfl⟩
abbrev main_cst_32 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_33 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_cst_34 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_cst_35 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_36 : Ref sig .tc := ⟨.hbm, 164, rfl⟩
abbrev main_v102 : Ref sig .tc := ⟨.hbm, 165, rfl⟩
abbrev main_v103 : Ref sig .tc := ⟨.hbm, 166, rfl⟩
abbrev main_cst_37 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_38 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_cst_39 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_40 : Ref sig .tc := ⟨.hbm, 179, rfl⟩
abbrev main_v113 : Ref sig .tc := ⟨.hbm, 180, rfl⟩
abbrev main_v114 : Ref sig .tc := ⟨.hbm, 181, rfl⟩
abbrev main_cst_41 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_42 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_cst_43 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩
abbrev main_cst_44 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_cst_45 : Ref sig .tc := ⟨.hbm, 198, rfl⟩
abbrev main_v127 : Ref sig .tc := ⟨.hbm, 199, rfl⟩
abbrev main_v128 : Ref sig .tc := ⟨.hbm, 200, rfl⟩
abbrev main_cst_46 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_cst_47 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_cst_48 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_cst_49 : Ref sig .tc := ⟨.hbm, 213, rfl⟩
abbrev main_v138 : Ref sig .tc := ⟨.hbm, 214, rfl⟩
abbrev main_v139 : Ref sig .tc := ⟨.hbm, 215, rfl⟩
abbrev main_cst_50 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_cst_51 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_cst_52 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_53 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_cst_54 : Ref sig .tc := ⟨.hbm, 232, rfl⟩
abbrev main_v152 : Ref sig .tc := ⟨.hbm, 233, rfl⟩
abbrev main_v153 : Ref sig .tc := ⟨.hbm, 234, rfl⟩
abbrev main_cst_55 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_cst_56 : Ref sig .tc := ⟨.hbm, 239, rfl⟩
abbrev main_v157 : Ref sig .tc := ⟨.hbm, 240, rfl⟩
abbrev main_v158 : Ref sig .tc := ⟨.hbm, 241, rfl⟩
abbrev main_v159 : Ref sig .tc := ⟨.hbm, 242, rfl⟩
abbrev main_cst_57 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩
abbrev main_cst_58 : Ref sig .tc := ⟨.hbm, 247, rfl⟩
abbrev main_v163 : Ref sig .tc := ⟨.hbm, 248, rfl⟩
abbrev main_v164 : Ref sig .tc := ⟨.hbm, 249, rfl⟩
abbrev main_cst_59 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_cst_60 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_cst_61 : Ref sig .tc := ⟨.hbm, 258, rfl⟩
abbrev main_v171 : Ref sig .tc := ⟨.hbm, 259, rfl⟩
abbrev main_v172 : Ref sig .tc := ⟨.hbm, 260, rfl⟩
abbrev main_v173 : Ref sig .tc := ⟨.hbm, 261, rfl⟩
abbrev main_cst_62 : Ref sig .tc := ⟨.hbm, 262, rfl⟩
abbrev main_v174 : Ref sig .tc := ⟨.hbm, 263, rfl⟩
abbrev main_v175 : Ref sig .tc := ⟨.hbm, 264, rfl⟩
abbrev main_v176 : Ref sig .tc := ⟨.hbm, 265, rfl⟩
abbrev main_cst_63 : Ref sig .tc := ⟨.hbm, 266, rfl⟩
abbrev main_v177 : Ref sig .tc := ⟨.hbm, 267, rfl⟩
abbrev main_v178 : Ref sig .tc := ⟨.hbm, 268, rfl⟩
abbrev main_cst_64 : Ref sig .tc := ⟨.hbm, 269, rfl⟩
abbrev main_v179 : Ref sig .tc := ⟨.hbm, 270, rfl⟩
abbrev main_v180 : Ref sig .tc := ⟨.hbm, 271, rfl⟩
abbrev main_v181 : Ref sig .tc := ⟨.hbm, 272, rfl⟩
abbrev main_cst_65 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_66 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_cst_67 : Ref sig .tc := ⟨.hbm, 281, rfl⟩
abbrev main_v188 : Ref sig .tc := ⟨.hbm, 282, rfl⟩
abbrev main_v189 : Ref sig .tc := ⟨.hbm, 283, rfl⟩
abbrev main_cst_68 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_cst_69 : Ref sig .tc := ⟨.hbm, 288, rfl⟩
abbrev main_v193 : Ref sig .tc := ⟨.hbm, 289, rfl⟩
abbrev main_v194 : Ref sig .tc := ⟨.hbm, 290, rfl⟩
abbrev main_v195 : Ref sig .tc := ⟨.hbm, 291, rfl⟩
abbrev main_cst_70 : Ref sig .tc := ⟨.hbm, 292, rfl⟩
abbrev main_v196 : Ref sig .tc := ⟨.hbm, 293, rfl⟩
abbrev main_v197 : Ref sig .tc := ⟨.hbm, 294, rfl⟩
abbrev main_v198 : Ref sig .tc := ⟨.hbm, 295, rfl⟩
abbrev main_cst_71 : Ref sig .tc := ⟨.hbm, 296, rfl⟩
abbrev main_v199 : Ref sig .tc := ⟨.hbm, 297, rfl⟩
abbrev main_v200 : Ref sig .tc := ⟨.hbm, 298, rfl⟩
abbrev main_v201 : Ref sig .tc := ⟨.hbm, 299, rfl⟩

abbrev nD : Nat := 1
abbrev τ : Topo := Topo.v7x

variable {F : FTy → Type} [FloatOps F]
-- ==== Proof.Gate.Runs.lean ====
/- The grid points, buffers and blocks of the gate gradient's kernel, and the ring of two tiles through which its first result is written: which tile a point packs, which copies are in flight and which are still owed. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v3_0}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_KernelIdeal`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).1 5).trans (((dats 0 c).arrAt_in 5 rfl _).trans ((hA c 5).trans (V_main_arg5 m c))),
      ((h c).2 main_arg6 (Finset.mem_sdiff.mpr ⟨Pipeline.mem_restRefs_of main_arg6 (by decide) (by decide), by decide⟩)).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points from point 2 on — decided over the grid. -/
theorem hcond0_1 : ∀ t : Fin cfg0.N, cond0_1 (grid0.coords t) ↔ 2 ≤ t.val :=
  (by decide +kernel : ∀ t : Fin grid0.N, cond0_1 (grid0.coords t) ↔ 2 ≤ t.val)

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 8 = 7 :=
  (fun t => by
    have ht : t.val < 8 := Nat.lt_of_lt_of_eq t.isLt N_0
    have e0 : (grid0.coords t 0).val = t.val / 1 % 8 := Pipeline.Grid.coords_val t 0 (by decide) rfl
    simp only [cond0_2, k0_cond3, e0]
    word_cmp
   : ∀ t : Fin grid0.N, cond0_2 (grid0.coords t) ↔ t.val % 8 = 7)

/-! ## The kernel body on any staging memrefs: a subtype the run finds -/

/-- One staging buffer of output window 7, through which its contents are stated (`View.read_writes_of_cover`: the
    choice does not matter). -/
abbrev VO0_7 : View sig .tc .vmem S8x256 .f32 := (Memref.whole cc0_stg7_0 : Memref sig .tc .vmem S8x256 .f32).view
/-- One staging buffer of output window 8, through which its contents are stated (`View.read_writes_of_cover`: the
    choice does not matter). -/
abbrev VO0_8 : View sig .tc .vmem S8x256 .f32 := (Memref.whole cc0_stg8_0 : Memref sig .tc .vmem S8x256 .f32).view
/-- One staging buffer of output window 9, through which its contents are stated (`View.read_writes_of_cover`: the
    choice does not matter). -/
abbrev VO0_9 : View sig .tc .vmem S4x128x128 .f32 := (Memref.whole cc0_stg9_0 : Memref sig .tc .vmem S4x128x128 .f32).view
/-- One staging buffer of output window 10, through which its contents are stated (`View.read_writes_of_cover`: the
    choice does not matter). -/
abbrev VO0_10 : View sig .tc .vmem S128x128 .f32 := (Memref.whole cc0_stg10_0 : Memref sig .tc .vmem S128x128 .f32).view
/-- Each window's current staging memref at point `t`, spelled as the pipeline passes it (`bodyAt0`), and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4x128x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x4 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S4x128x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x128 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S2x1024x512 .f32 := Memref.whole cc0_scratch0
/-- The results left in HBM that the body's own copies out of scratch write, whole. -/
abbrev hbM0_0 : Memref sig .tc .hbm S8192x2816 .f32 := Memref.whole main_v3_0
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 2 → SemLoc sig := fun j => (![SemLoc.dma 14, SemLoc.dma 15] : Fin 2 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 14) 0 ∗ semVal ((c : Thread nD τ), SemLoc.dma 15) 0) := by
  rw [Pipeline.ownSems0_eq_of_list c osem0 [0, 1] (by decide) (by decide)]; rfl
/-- The HBM operands the body only reads (none: it writes every operand left in HBM by its own copies out), as references: unscoped, no window's array (`Pipeline.restRefs`). -/
def H0 : Finset (Ref sig .tc) := {}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed (none: `emp`). -/
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
/-- The written operands' points-tos at some contents each (`Pipeline.owned`), listed. -/
theorem ownedPts0_eq (c : Dev nD) :
    (Pipeline.owned R0 c : sProp 𝕄) = iprop((∃ f, hbPt0 c hbM0_0 f)) := by
  unfold Pipeline.owned; rw [BI.bigSep_eq_bigSepL_of_eq [main_v3_0] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d)) ∗ (∃ r, prngReg c r) ∗ iprop(semVal ((c : Thread nD τ), SemLoc.dma 14) 0 ∗ semVal ((c : Thread nD τ), SemLoc.dma 15) 0) ∗ iprop(emp) ∗ iprop((∃ f, hbPt0 c hbM0_0 f))) := by
  rw [Pipeline.ΦDR_eq, scopedRest0_eq, ownSems00_eq, hbmPts0_eq, ownedPts0_eq]; simp only [scM0_0, owns_whole]; try rfl

/-! ## Write ring 0 of kernel 0: `main_v3_0` written behind through the 2 × 1 tiles of `cc0_scratch0` on the cells of `cc0_scratch1`, each copy waited 2 steps later, in 8 steps (Lib/Ring/WriteBehind.lean) -/

instance : NeZero grid0.N := ⟨by rw [N_0]; decide⟩
theorem inb_wtile0_0 (g : Fin 2) (m : Fin 1) : ∀ a, (![g.val, 0, 0] : Fin 3 → Nat) a + S1x1024x512.size a ≤ S2x1024x512.size a := by
  have := g.isLt; have := m.isLt; intro a; fin_cases a <;> simp <;> omega
theorem inb_wpiece0_0 (u : Fin 8) (m : Fin 1) : ∀ a, (![1024 * u.val, 2304] : Fin 2 → Nat) a + S1024x512.size a ≤ S8192x2816.size a := by
  have := u.isLt; have := m.isLt; intro a; fin_cases a <;> simp <;> omega
theorem inb_wcell0_0 (g : Fin 2) (m : Fin 1) : ∀ a, (![g.val] : Fin 1 → Nat) a + S1.size a ≤ S2.size a := by
  have := g.isLt; have := m.isLt; intro a; fin_cases a <;> simp <;> omega
/-- Tile (g, m) of the ring — member m of group g —, spelt as the body's copies out spell their SOURCE, at offsets in g and m. -/
def wtile0_0 (g : Fin 2) (m : Fin 1) : Memref sig .tc .vmem S1024x512 .f32 :=
  (scM0_0.slice (Rect.unit (s := S2x1024x512) ![g.val, 0, 0] S1x1024x512.size (inb_wtile0_0 g m)) (fun _ => rfl)).squeeze S1024x512 squeezes_S1x1024x512_S1024x512
/-- Piece (u, m) of the result: what step u's copy of member m writes, spelt as the copies spell their DESTINATION (`piece_form`). -/
def wpiece0_0 (u : Fin 8) (m : Fin 1) : Memref sig .tc .hbm S1024x512 .f32 :=
  hbM0_0.slice (Rect.unit (s := S8192x2816) ![1024 * u.val, 2304] S1024x512.size (inb_wpiece0_0 u m)) (fun _ => rfl)
/-- Cell (g, m) of `cc0_scratch1`, the one tile (g, m)'s copy is counted on, spelt as the body spells a cell; its number in the pool. -/
def wcellA0_0 (g : Fin 2) (m : Fin 1) : DmaSems sig S_ := (cc0_scratch1.slice (Rect.unit (s := S2) ![g.val] S1.size (inb_wcell0_0 g m))).squeeze S_ squeezes_S1_S_
abbrev wcellR0_0 (g : Fin 2) (m : Fin 1) : SemLoc sig := SemLoc.dma (wcellA0_0 g m).sem
theorem wcellR0_0_0_0 : wcellR0_0 0 0 = SemLoc.dma 14 := by decide
theorem wcellR0_0_1_0 : wcellR0_0 1 0 = SemLoc.dma 15 := by decide

section WRing0_0
variable (c : Dev nD)
/-- The families the write ring is stated over: tile (g, m) held at `e`; cell (g, m) at zero; piece (u, m) held at `f`; the
    FLIGHT of tile (g, m)'s copy to piece (u, m) on cell (g, m), delivering the piece and the tile — both under binders (a
    frame names no contents; the tile rides inside the flight, as a copy out lends its source). -/
abbrev wtileP0_0 (g : Fin 2) (m : Fin 1) (e : HbBuf0 (F := F) c (wtile0_0 g m)) : sProp 𝕄 := (wtile0_0 g m).view.loc (c : Thread nD τ) ↦[(wtile0_0 g m).view.set]{fullShare} e
abbrev wcellP0_0 (g : Fin 2) (m : Fin 1) : sProp 𝕄 := semVal ((c : Thread nD τ), wcellR0_0 g m) 0
abbrev wpieceP0_0 (u : Fin 8) (m : Fin 1) (f : HbBuf0 (F := F) c (wpiece0_0 u m)) : sProp 𝕄 := (wpiece0_0 u m).view.loc (c : Thread nD τ) ↦[(wpiece0_0 u m).view.set]{fullShare} f
abbrev wflightP0_0 (g : Fin 2) (m : Fin 1) (u : Fin 8) : sProp 𝕄 :=
  iprop(∃ f e, Transfers.Flight countersEmb (c : Thread nD τ) (wcellR0_0 g m) default ((wpiece0_0 u m).view.amount (wcellR0_0 g m)) iprop(wpieceP0_0 c u m f ∗ wtileP0_0 c g m e))
/-- Lib/Ring/WriteBehind.lean's ROLE families, each the conjunction over the 1 members: group g FREE (its cells at zero, its tiles at
    anything), group g IN FLIGHT with step u's copies, step u's pieces HOME (a frame's one home family: passed for the pieces
    still ahead of the ring and for those behind it alike). -/
abbrev wfree0_0 (g : Fin 2) : sProp 𝕄 := iprop((wcellP0_0 c g 0 ∗ ∃ e, wtileP0_0 c g 0 e))
abbrev winfl0_0 (g : Fin 2) (u : Fin 8) : sProp 𝕄 := iprop(wflightP0_0 c g 0 u)
abbrev whome0_0 (u : Fin 8) : sProp 𝕄 := iprop(∃ f, wpieceP0_0 c u 0 f)
/-- The write ring before its step `k` (Lib/Ring/WriteBehind.lean `AtBΦ` at depth 2, the steps between a copy and its wait: before the last step `AtB`, past it `AtBEnd`). -/
def wringAt0_0 (k : ℕ) : sProp 𝕄 := Ring.AtBΦ 2 (wfree0_0 c) (winfl0_0 c) (whome0_0 c) (whome0_0 c) k
/-- The role families as conjunctions over the members' index set (what `groups_of_parts` and `bigSep_univ_prod` produce). -/
theorem wfree0_0_eq (g : Fin 2) : (bigSep Finset.univ (fun m : Fin 1 => iprop(wcellP0_0 (F := F) c g m ∗ ∃ e, wtileP0_0 c g m e)) : sProp 𝕄) = wfree0_0 c g := by
  rw [BI.bigSep_eq_bigSepL_of_eq [0] (by decide) (by decide)]; rfl
theorem whome0_0_eq (u : Fin 8) : (bigSep Finset.univ (fun m : Fin 1 => iprop(∃ f, wpieceP0_0 (F := F) c u m f)) : sProp 𝕄) = whome0_0 c u := by
  rw [BI.bigSep_eq_bigSepL_of_eq [0] (by decide) (by decide)]; rfl
omit [FloatOps F] in
theorem wcellP0_0_0_0 : wcellP0_0 (F := F) c 0 0 = semVal ((c : Thread nD τ), SemLoc.dma 14) 0 := congrArg (fun x => (semVal ((c : Thread nD τ), x) 0 : sProp 𝕄)) wcellR0_0_0_0
omit [FloatOps F] in
theorem wcellP0_0_1_0 : wcellP0_0 (F := F) c 1 0 = semVal ((c : Thread nD τ), SemLoc.dma 15) 0 := congrArg (fun x => (semVal ((c : Thread nD τ), x) 0 : sProp 𝕄)) wcellR0_0_1_0
end WRing0_0

/-! ### The tiles: boxes of one size at box offsets, pairwise disjoint by their box index (Lib/Ring/WriteBehind.lean `boxes_disjoint`: a left inverse, decided) -/

abbrev wtileOff0_0 (i : Fin 2 × Fin 1) : Fin 3 → Nat := ![i.1.val, 0, 0]
theorem inb_wtile0_0' (i : Fin 2 × Fin 1) : ∀ a, wtileOff0_0 i a + S1x1024x512.size a ≤ S2x1024x512.size a := inb_wtile0_0 i.1 i.2
abbrev wtileSet0_0 (i : Fin 2 × Fin 1) : Finset S2x1024x512.Idx := (Rect.unit (s := S2x1024x512) (wtileOff0_0 i) S1x1024x512.size (inb_wtile0_0' i)).set
theorem wtileSet0_0_eq (g : Fin 2) (m : Fin 1) : (wtile0_0 g m).view.set = wtileSet0_0 (g, m) := by
  simp only [wtile0_0, Memref.view_squeeze, View.set_reshape]; exact View.set_slice_whole _ _
/-- tile i's box index per axis (offset / extent), and the tile at a box index (its left inverse). -/
def wtileIx0_0 (i : Fin 2 × Fin 1) : Fin 3 → ℕ := ![i.1.val, 0, 0]
def wtileUn0_0 (v : Fin 3 → ℕ) : Fin 2 × Fin 1 := (Fin.ofNat 2 (v 0), Fin.ofNat 1 (0))
theorem wtileUn0_0_left : ∀ i : Fin 2 × Fin 1, wtileUn0_0 (wtileIx0_0 i) = i := by decide +kernel
theorem wtiles0_0_disjoint (i i' : Fin 2 × Fin 1) (h : i ≠ i') : Disjoint (wtileSet0_0 i) (wtileSet0_0 i') :=
  Ring.boxes_disjoint (s := S2x1024x512) S1x1024x512.size wtileOff0_0 inb_wtile0_0' wtileIx0_0
    (fun i a => by fin_cases a <;> simp [wtileOff0_0, wtileIx0_0] <;> omega) wtileUn0_0 wtileUn0_0_left i i' h

/-! ### The pieces: boxes of one size at box offsets, pairwise disjoint by their box index (Lib/Ring/WriteBehind.lean `boxes_disjoint`: a left inverse, decided) -/

abbrev wpieceOff0_0 (i : Fin 8 × Fin 1) : Fin 2 → Nat := ![1024 * i.1.val, 2304]
theorem inb_wpiece0_0' (i : Fin 8 × Fin 1) : ∀ a, wpieceOff0_0 i a + S1024x512.size a ≤ S8192x2816.size a := inb_wpiece0_0 i.1 i.2
abbrev wpieceSet0_0 (i : Fin 8 × Fin 1) : Finset S8192x2816.Idx := (Rect.unit (s := S8192x2816) (wpieceOff0_0 i) S1024x512.size (inb_wpiece0_0' i)).set
theorem wpieceSet0_0_eq (u : Fin 8) (m : Fin 1) : (wpiece0_0 u m).view.set = wpieceSet0_0 (u, m) := by
  simp only [wpiece0_0, Memref.view_squeeze, View.set_reshape]; exact View.set_slice_whole _ _
/-- Two pieces of different steps share no row. -/
theorem wpieces0_0_disjoint (i i' : Fin 8 × Fin 1) (h : i ≠ i') : Disjoint (wpieceSet0_0 i) (wpieceSet0_0 i') := by
  have hne : i.1.val ≠ i'.1.val := fun e => h (Prod.ext (Fin.ext e) (Subsingleton.elim _ _))
  refine Finset.disjoint_left.mpr fun x hx hx' => ?_
  have hx0 := (Rect.mem_set_unit.mp hx) 0
  have hx1 := (Rect.mem_set_unit.mp hx') 0
  simp [wpieceOff0_0] at hx0 hx1
  omega

/-! ### What the launch hands the write ring, and takes back -/

section WInOut0_0
variable (c : Dev nD)
theorem wtileP0_0_eq (g : Fin 2) (m : Fin 1) (e) : wtileP0_0 (F := F) c g m e = (((c : Thread nD τ).loc cc0_scratch0) ↦[wtileSet0_0 (g, m)]{fullShare} e : sProp 𝕄) := by
  unfold wtileP0_0; rw [wtileSet0_0_eq]; rfl
theorem wpieceP0_0_eq (u : Fin 8) (m : Fin 1) (f) : wpieceP0_0 (F := F) c u m f = (((c : Thread nD τ).loc main_v3_0) ↦[wpieceSet0_0 (u, m)]{fullShare} f : sProp 𝕄) := by
  unfold wpieceP0_0; rw [wpieceSet0_0_eq]; rfl
/-- The scratch's elements outside every tile, and the result's outside every piece: carried beside the ring at some contents, handed
    to no run (no statement of the body names them). -/
abbrev wtileSpare0_0 : sProp 𝕄 := iprop(∃ f : Buf (Elt F) ((c : Thread nD τ).loc cc0_scratch0), ((c : Thread nD τ).loc cc0_scratch0) ↦[Finset.univ \ Finset.univ.biUnion wtileSet0_0]{fullShare} f)
abbrev wpieceSpare0_0 : sProp 𝕄 := iprop(∃ f : Buf (Elt F) ((c : Thread nD τ).loc main_v3_0), ((c : Thread nD τ).loc main_v3_0) ↦[Finset.univ \ Finset.univ.biUnion wpieceSet0_0]{fullShare} f)
/-- the scratch whole at anything is its tiles at something each and the spare elements; the result likewise its pieces; and back. -/
theorem wtiles0_0_in : iprop(∃ d, owns (c : Thread nD τ) scM0_0 fullShare d) ⊢ (iprop(bigSep Finset.univ (fun i : Fin 2 × Fin 1 => iprop(∃ e, wtileP0_0 (F := F) c i.1 i.2 e)) ∗ wtileSpare0_0 c) : sProp 𝕄) := by
  simp only [scM0_0, owns_whole]
  exact Ring.pieces_split_spare (U := Pipeline.UD sig nD τ) (ℓ := (c : Thread nD τ).loc cc0_scratch0) (q := fullShare) wtileSet0_0 wtiles0_0_disjoint
    (fun i e => wtileP0_0 c i.1 i.2 e) (fun i e => wtileP0_0_eq c i.1 i.2 e)
theorem wtiles0_0_out : (iprop(bigSep Finset.univ (fun i : Fin 2 × Fin 1 => iprop(∃ e, wtileP0_0 (F := F) c i.1 i.2 e)) ∗ wtileSpare0_0 c) : sProp 𝕄) ⊢ iprop(∃ d, owns (c : Thread nD τ) scM0_0 fullShare d) := by
  simp only [scM0_0, owns_whole]
  exact Ring.pieces_join_spare (U := Pipeline.UD sig nD τ) (ℓ := (c : Thread nD τ).loc cc0_scratch0) (q := fullShare) wtileSet0_0 wtiles0_0_disjoint
    (fun i e => wtileP0_0 c i.1 i.2 e) (fun i e => wtileP0_0_eq c i.1 i.2 e)
theorem wpieces0_0_in : iprop(∃ f, hbPt0 c hbM0_0 f) ⊢ (iprop(bigSep Finset.univ (fun i : Fin 8 × Fin 1 => iprop(∃ f, wpieceP0_0 (F := F) c i.1 i.2 f)) ∗ wpieceSpare0_0 c) : sProp 𝕄) := by
  unfold hbPt0
  exact Ring.pieces_split_spare (U := Pipeline.UD sig nD τ) (ℓ := (c : Thread nD τ).loc main_v3_0) (q := fullShare) wpieceSet0_0 wpieces0_0_disjoint
    (fun i f => wpieceP0_0 c i.1 i.2 f) (fun i f => wpieceP0_0_eq c i.1 i.2 f)
theorem wpieces0_0_out : (iprop(bigSep Finset.univ (fun i : Fin 8 × Fin 1 => iprop(∃ f, wpieceP0_0 (F := F) c i.1 i.2 f)) ∗ wpieceSpare0_0 c) : sProp 𝕄) ⊢ iprop(∃ f, hbPt0 c hbM0_0 f) := by
  unfold hbPt0
  exact Ring.pieces_join_spare (U := Pipeline.UD sig nD τ) (ℓ := (c : Thread nD τ).loc main_v3_0) (q := fullShare) wpieceSet0_0 wpieces0_0_disjoint
    (fun i f => wpieceP0_0 c i.1 i.2 f) (fun i f => wpieceP0_0_eq c i.1 i.2 f)
/-- The ring's cells at zero, listed as the launch lists them, are the family over (group, member). -/
theorem wcells0_0_eq : (bigSep Finset.univ (fun i : Fin 2 × Fin 1 => wcellP0_0 (F := F) c i.1 i.2) : sProp 𝕄) = iprop(semVal ((c : Thread nD τ), SemLoc.dma 14) 0 ∗ semVal ((c : Thread nD τ), SemLoc.dma 15) 0) := by
  rw [BI.bigSep_eq_bigSepL_of_eq [(0, 0), (1, 0)] (by decide) (by decide)]; simp only [BI.bigSepL_cons_cons, BI.bigSepL_singleton, wcellP0_0_0_0, wcellP0_0_1_0]; rfl
/-- the two families over (group, member) regrouped by group are the groups free; the pieces over (step, member), the steps home -/
theorem wfrees0_0_eq : iprop(bigSep Finset.univ (fun i : Fin 2 × Fin 1 => wcellP0_0 (F := F) c i.1 i.2) ∗ bigSep Finset.univ (fun i : Fin 2 × Fin 1 => iprop(∃ e, wtileP0_0 (F := F) c i.1 i.2 e))) = (bigSep Finset.univ (wfree0_0 c) : sProp 𝕄) := by
  exact (Ring.groups_of_parts (fun g m => wcellP0_0 (F := F) c g m) (fun g m => iprop(∃ e, wtileP0_0 (F := F) c g m e))).trans (BI.bigSep_congr fun g _ => wfree0_0_eq c g)
theorem whomes0_0_eq : (bigSep Finset.univ (fun i : Fin 8 × Fin 1 => iprop(∃ f, wpieceP0_0 (F := F) c i.1 i.2 f)) : sProp 𝕄) = bigSep Finset.univ (whome0_0 c) := by
  rw [BI.bigSep_univ_prod]; exact BI.bigSep_congr fun u _ => whome0_0_eq c u
end WInOut0_0

/-- INTO THE WRITE RING: the launch's pieces — the scratch whole, the ring's cells at zero, the result whole at some contents — are the
    ring before step 0 (Lib `AtB_zero`: every piece home, every group free), with the spare elements beside it; -/
theorem wring0_0_in (c : Dev nD) :
    iprop((∃ d, owns (c : Thread nD τ) scM0_0 fullShare d) ∗ (semVal ((c : Thread nD τ), SemLoc.dma 14) 0 ∗ semVal ((c : Thread nD τ), SemLoc.dma 15) 0) ∗ (∃ f, hbPt0 (F := F) c hbM0_0 f))
      ⊢ iprop(wringAt0_0 (F := F) c 0 ∗ wtileSpare0_0 c ∗ wpieceSpare0_0 c) := by
  unfold wringAt0_0; rw [Ring.AtBΦ_lt _ _ _ _ _ 0 (by decide), Ring.AtB_zero]; unfold Ring.AtB₀
  rw [← whomes0_0_eq, ← wfrees0_0_eq, wcells0_0_eq]
  iintro ⟨HS, HQ, HD⟩
  ihave HS' := (wtiles0_0_in (F := F) c) $$ HS
  icases HS' with ⟨HT, HTsp⟩
  ihave HD' := (wpieces0_0_in (F := F) c) $$ HD
  icases HD' with ⟨HP, HPsp⟩
  isplitl [HP HQ HT]
  · isplitl [HP]
    · iexact HP
    isplitl [HQ]
    · iexact HQ
    iexact HT
  isplitl [HTsp]
  · iexact HTsp
  iexact HPsp
/-- OUT OF THE WRITE RING: after the last step's drain (`AtBEnd`, which for a frame is `AtB₀`: `AtBEnd_frame`) those pieces again. -/
theorem wring0_0_out (c : Dev nD) :
    iprop(wringAt0_0 (F := F) c 8 ∗ wtileSpare0_0 c ∗ wpieceSpare0_0 c)
      ⊢ iprop((∃ d, owns (c : Thread nD τ) scM0_0 fullShare d) ∗ (semVal ((c : Thread nD τ), SemLoc.dma 14) 0 ∗ semVal ((c : Thread nD τ), SemLoc.dma 15) 0) ∗ (∃ f, hbPt0 (F := F) c hbM0_0 f)) := by
  unfold wringAt0_0; rw [Ring.AtBΦ_ge _ _ _ _ _ 8 (by decide), Ring.AtBEnd_frame]; unfold Ring.AtB₀
  rw [← whomes0_0_eq, ← wfrees0_0_eq, wcells0_0_eq]
  iintro ⟨⟨HP, HQ, HT⟩, HTsp, HPsp⟩
  isplitl [HT HTsp]
  · iapply (wtiles0_0_out (F := F) c)
    isplitl [HT]
    · iexact HT
    iexact HTsp
  isplitl [HQ]
  · iexact HQ
  iapply (wpieces0_0_out (F := F) c)
  isplitl [HP]
  · iexact HP
  iexact HPsp

/-! ### Write ring 0's steps at each case's points, and its canonical names: the body's operands at point `t` are the ring's tiles, pieces and cells -/

section WCanon0_0
omit [FloatOps F]
/-- At the points of case A the write ring BOOTS (a step that waits nothing). -/
theorem wstep0_0_A : ∀ t : Fin grid0.N, cond0_0 (grid0.coords t) → ¬cond0_1 (grid0.coords t) → ¬cond0_2 (grid0.coords t) → t.val < 2 ∧ (t.val + 1) = t.val + 1 := by decide +kernel
/-- At the points of case B the write ring BOOTS (a step that waits nothing). -/
theorem wstep0_0_B : ∀ t : Fin grid0.N, ¬cond0_0 (grid0.coords t) → ¬cond0_1 (grid0.coords t) → ¬cond0_2 (grid0.coords t) → t.val < 2 ∧ (t.val + 1) = t.val + 1 := by decide +kernel
/-- At the points of case C the write ring takes a STEADY step. -/
theorem wstep0_0_C : ∀ t : Fin grid0.N, ¬cond0_0 (grid0.coords t) → cond0_1 (grid0.coords t) → ¬cond0_2 (grid0.coords t) → 2 ≤ t.val ∧ t.val + 1 < 8 ∧ (t.val + 1) = t.val + 1 := by decide +kernel
/-- At the points of case D the write ring takes its LAST step (and drains). -/
theorem wstep0_0_D : ∀ t : Fin grid0.N, ¬cond0_0 (grid0.coords t) → cond0_1 (grid0.coords t) → cond0_2 (grid0.coords t) → 2 ≤ t.val ∧ t.val + 1 = 8 ∧ (t.val + 1) = t.val + 1 := by decide +kernel
set_option synthInstance.maxSize 4096 in
theorem wcoff0_0_1 : ∀ t : Fin grid0.N, k0_off5 (grid0.coords t) = ![(Ring.sl 2 t.val).val] := by decide +kernel
@[sl_canon] theorem wcanon0_0_1 (t : Fin grid0.N) :
    (cc0_scratch1.slice (Rect.unit (s := S2) (k0_off5 (grid0.coords t)) S1.size (k0_off5_inb (grid0.coords t)))).squeeze S_ squeezes_S1_S_ = wcellA0_0 (Ring.sl 2 t.val) 0 :=
  congrArg (fun A : DmaSems sig S1 => A.squeeze S_ squeezes_S1_S_) (SemArray.slice_unit_congr _ (wcoff0_0_1 t) _ _)
@[sl_canon] theorem wcanon0_0_1' (t : Fin grid0.N) :
    (cc0_scratch1.slice (Rect.unit (s := S2) (k0_off5 (grid0.coords t)) ![1] (k0_off5_inb (grid0.coords t)))).squeeze S_ squeezes_S1_S_ = wcellA0_0 (Ring.sl 2 t.val) 0 :=
  wcanon0_0_1 t
set_option synthInstance.maxSize 4096 in
theorem wcoff0_0_2 : ∀ t : Fin grid0.N, k0_off4 (grid0.coords t) = ![(Ring.sl 2 t.val).val, 0, 0] := by decide +kernel
@[sl_canon] theorem wcanon0_0_2 (t : Fin grid0.N) :
    (scM0_0.slice (Rect.unit (s := S2x1024x512) (k0_off4 (grid0.coords t)) S1x1024x512.size (k0_off4_inb (grid0.coords t))) (fun _ => rfl)).squeeze S1024x512 squeezes_S1x1024x512_S1024x512 = wtile0_0 (Ring.sl 2 t.val) 0 :=
  congrArg (fun M : Memref sig .tc .vmem S1x1024x512 .f32 => M.squeeze S1024x512 squeezes_S1x1024x512_S1024x512) (Memref.slice_unit_congr _ (wcoff0_0_2 t) _ _ (fun _ => rfl) (fun _ => rfl))
@[sl_canon] theorem wcanon0_0_2' (t : Fin grid0.N) :
    (scM0_0.slice (Rect.unit (s := S2x1024x512) (k0_off4 (grid0.coords t)) ![1, 1024, 512] (k0_off4_inb (grid0.coords t))) (fun _ => rfl)).squeeze S1024x512 squeezes_S1x1024x512_S1024x512 = wtile0_0 (Ring.sl 2 t.val) 0 :=
  wcanon0_0_2 t
set_option synthInstance.maxSize 4096 in
theorem wcoff0_0_3 : ∀ t : Fin grid0.N, k0_off6 (grid0.coords t) = ![1024 * (Ring.bk 8 t.val).val, 2304] := by decide +kernel
@[sl_canon] theorem wcanon0_0_3 (t : Fin grid0.N) :
    hbM0_0.slice (Rect.unit (s := S8192x2816) (k0_off6 (grid0.coords t)) S1024x512.size (k0_off6_inb (grid0.coords t))) (fun _ => rfl) = wpiece0_0 (Ring.bk 8 t.val) 0 :=
  congrArg (fun M : Memref sig .tc .hbm S1024x512 .f32 => M) (Memref.slice_unit_congr _ (wcoff0_0_3 t) _ _ (fun _ => rfl) (fun _ => rfl))
@[sl_canon] theorem wcanon0_0_3' (t : Fin grid0.N) :
    hbM0_0.slice (Rect.unit (s := S8192x2816) (k0_off6 (grid0.coords t)) ![1024, 512] (k0_off6_inb (grid0.coords t))) (fun _ => rfl) = wpiece0_0 (Ring.bk 8 t.val) 0 :=
  wcanon0_0_3 t
set_option synthInstance.maxSize 4096 in
theorem wcoff0_0_4 : ∀ t : Fin grid0.N, k0_off1 (grid0.coords t) = ![(Ring.sl 2 t.val).val] := by decide +kernel
@[sl_canon] theorem wcanon0_0_4 (t : Fin grid0.N) (h1 : cond0_1 (grid0.coords t)) :
    (cc0_scratch1.slice (Rect.unit (s := S2) (k0_off1 (grid0.coords t)) S1.size (k0_off1_inb (grid0.coords t) h1))).squeeze S_ squeezes_S1_S_ = wcellA0_0 (Ring.sl 2 t.val) 0 :=
  congrArg (fun A : DmaSems sig S1 => A.squeeze S_ squeezes_S1_S_) (SemArray.slice_unit_congr _ (wcoff0_0_4 t) _ _)
@[sl_canon] theorem wcanon0_0_4' (t : Fin grid0.N) (h1 : cond0_1 (grid0.coords t)) :
    (cc0_scratch1.slice (Rect.unit (s := S2) (k0_off1 (grid0.coords t)) ![1] (k0_off1_inb (grid0.coords t) h1))).squeeze S_ squeezes_S1_S_ = wcellA0_0 (Ring.sl 2 t.val) 0 :=
  wcanon0_0_4 t h1
set_option synthInstance.maxSize 4096 in
theorem wcoff0_0_5 : ∀ t : Fin grid0.N, k0_off3 (grid0.coords t) = ![(Ring.sl 2 t.val).val, 0, 0] := by decide +kernel
@[sl_canon] theorem wcanon0_0_5 (t : Fin grid0.N) (h1 : cond0_1 (grid0.coords t)) :
    (scM0_0.slice (Rect.unit (s := S2x1024x512) (k0_off3 (grid0.coords t)) S1x1024x512.size (k0_off3_inb (grid0.coords t) h1)) (fun _ => rfl)).squeeze S1024x512 squeezes_S1x1024x512_S1024x512 = wtile0_0 (Ring.sl 2 t.val) 0 :=
  congrArg (fun M : Memref sig .tc .vmem S1x1024x512 .f32 => M.squeeze S1024x512 squeezes_S1x1024x512_S1024x512) (Memref.slice_unit_congr _ (wcoff0_0_5 t) _ _ (fun _ => rfl) (fun _ => rfl))
@[sl_canon] theorem wcanon0_0_5' (t : Fin grid0.N) (h1 : cond0_1 (grid0.coords t)) :
    (scM0_0.slice (Rect.unit (s := S2x1024x512) (k0_off3 (grid0.coords t)) ![1, 1024, 512] (k0_off3_inb (grid0.coords t) h1)) (fun _ => rfl)).squeeze S1024x512 squeezes_S1x1024x512_S1024x512 = wtile0_0 (Ring.sl 2 t.val) 0 :=
  wcanon0_0_5 t h1
set_option synthInstance.maxSize 4096 in
theorem wcoff0_0_6 : ∀ t : Fin grid0.N, k0_off7 (grid0.coords t) = ![(Ring.sl 2 t.val).val] := by decide +kernel
@[sl_canon] theorem wcanon0_0_6 (t : Fin grid0.N) (h2 : cond0_2 (grid0.coords t)) :
    (cc0_scratch1.slice (Rect.unit (s := S2) (k0_off7 (grid0.coords t)) S1.size (k0_off7_inb (grid0.coords t) h2))).squeeze S_ squeezes_S1_S_ = wcellA0_0 (Ring.sl 2 t.val) 0 :=
  congrArg (fun A : DmaSems sig S1 => A.squeeze S_ squeezes_S1_S_) (SemArray.slice_unit_congr _ (wcoff0_0_6 t) _ _)
@[sl_canon] theorem wcanon0_0_6' (t : Fin grid0.N) (h2 : cond0_2 (grid0.coords t)) :
    (cc0_scratch1.slice (Rect.unit (s := S2) (k0_off7 (grid0.coords t)) ![1] (k0_off7_inb (grid0.coords t) h2))).squeeze S_ squeezes_S1_S_ = wcellA0_0 (Ring.sl 2 t.val) 0 :=
  wcanon0_0_6 t h2
set_option synthInstance.maxSize 4096 in
theorem wcoff0_0_7 : ∀ t : Fin grid0.N, k0_off9 (grid0.coords t) = ![(Ring.sl 2 t.val).val, 0, 0] := by decide +kernel
@[sl_canon] theorem wcanon0_0_7 (t : Fin grid0.N) (h2 : cond0_2 (grid0.coords t)) :
    (scM0_0.slice (Rect.unit (s := S2x1024x512) (k0_off9 (grid0.coords t)) S1x1024x512.size (k0_off9_inb (grid0.coords t) h2)) (fun _ => rfl)).squeeze S1024x512 squeezes_S1x1024x512_S1024x512 = wtile0_0 (Ring.sl 2 t.val) 0 :=
  congrArg (fun M : Memref sig .tc .vmem S1x1024x512 .f32 => M.squeeze S1024x512 squeezes_S1x1024x512_S1024x512) (Memref.slice_unit_congr _ (wcoff0_0_7 t) _ _ (fun _ => rfl) (fun _ => rfl))
@[sl_canon] theorem wcanon0_0_7' (t : Fin grid0.N) (h2 : cond0_2 (grid0.coords t)) :
    (scM0_0.slice (Rect.unit (s := S2x1024x512) (k0_off9 (grid0.coords t)) ![1, 1024, 512] (k0_off9_inb (grid0.coords t) h2)) (fun _ => rfl)).squeeze S1024x512 squeezes_S1x1024x512_S1024x512 = wtile0_0 (Ring.sl 2 t.val) 0 :=
  wcanon0_0_7 t h2
set_option synthInstance.maxSize 4096 in
theorem wcoff0_0_8 : ∀ t : Fin grid0.N, k0_off10 (grid0.coords t) = ![(Ring.sl 2 (t.val + 1)).val] := by decide +kernel
@[sl_canon] theorem wcanon0_0_8 (t : Fin grid0.N) (h2 : cond0_2 (grid0.coords t)) :
    (cc0_scratch1.slice (Rect.unit (s := S2) (k0_off10 (grid0.coords t)) S1.size (k0_off10_inb (grid0.coords t) h2))).squeeze S_ squeezes_S1_S_ = wcellA0_0 (Ring.sl 2 (t.val + 1)) 0 :=
  congrArg (fun A : DmaSems sig S1 => A.squeeze S_ squeezes_S1_S_) (SemArray.slice_unit_congr _ (wcoff0_0_8 t) _ _)
@[sl_canon] theorem wcanon0_0_8' (t : Fin grid0.N) (h2 : cond0_2 (grid0.coords t)) :
    (cc0_scratch1.slice (Rect.unit (s := S2) (k0_off10 (grid0.coords t)) ![1] (k0_off10_inb (grid0.coords t) h2))).squeeze S_ squeezes_S1_S_ = wcellA0_0 (Ring.sl 2 (t.val + 1)) 0 :=
  wcanon0_0_8 t h2
set_option synthInstance.maxSize 4096 in
theorem wcoff0_0_9 : ∀ t : Fin grid0.N, k0_off12 (grid0.coords t) = ![(Ring.sl 2 (t.val + 1)).val, 0, 0] := by decide +kernel
@[sl_canon] theorem wcanon0_0_9 (t : Fin grid0.N) (h2 : cond0_2 (grid0.coords t)) :
    (scM0_0.slice (Rect.unit (s := S2x1024x512) (k0_off12 (grid0.coords t)) S1x1024x512.size (k0_off12_inb (grid0.coords t) h2)) (fun _ => rfl)).squeeze S1024x512 squeezes_S1x1024x512_S1024x512 = wtile0_0 (Ring.sl 2 (t.val + 1)) 0 :=
  congrArg (fun M : Memref sig .tc .vmem S1x1024x512 .f32 => M.squeeze S1024x512 squeezes_S1x1024x512_S1024x512) (Memref.slice_unit_congr _ (wcoff0_0_9 t) _ _ (fun _ => rfl) (fun _ => rfl))
@[sl_canon] theorem wcanon0_0_9' (t : Fin grid0.N) (h2 : cond0_2 (grid0.coords t)) :
    (scM0_0.slice (Rect.unit (s := S2x1024x512) (k0_off12 (grid0.coords t)) ![1, 1024, 512] (k0_off12_inb (grid0.coords t) h2)) (fun _ => rfl)).squeeze S1024x512 squeezes_S1x1024x512_S1024x512 = wtile0_0 (Ring.sl 2 (t.val + 1)) 0 :=
  wcanon0_0_9 t h2
end WCanon0_0

end Cert.KernelIdeal.Gate

end
-- ==== Proof.Gate.RunA.lean ====
/- The whole body at a grid point in case A of its ring: with the listed buffers and flights it ends with the pieces it wrote. -/
module

public import proofs.«01_k».proof.Proof.Gate.Runs

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1248000 in
/-- What the body's stores leave in each output's staging memref, as pieces (last first) IN CASE A (`scf.if` 0 taken, `scf.if` 1 not taken, `scf.if` 2 not taken: points 0), WITH the
    proof that on whole staging memrefs — the inputs' at their contents, the other outputs' at
    anything, the write ring's pieces for the point's role (the pieces its copies write, at anything; the flights it waits for; the group it packs, free), any other HBM operand whole and own cell at zero, and the core's `owes`, the body runs to the continuation holding the inputs' as they were,
    the write ring's pieces as the next point takes them (the pieces waited home again, the copies started in flight), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) :
    Σ' (L7 : List (View.Piece (Elt F) S8x256 .f32)), Σ' (L8 : List (View.Piece (Elt F) S8x256 .f32)), Σ' (L9 : List (View.Piece (Elt F) S4x128x128 .f32)), { L10 : List (View.Piece (Elt F) S128x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ f, wpieceP0_0 c (Ring.bk 8 t.val) 0 f) ∗ wcellP0_0 c (Ring.sl 2 t.val) 0 ∗ (∃ e, wtileP0_0 c (Ring.sl 2 t.val) 0 e) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ wflightP0_0 c (Ring.sl 2 t.val) 0 (Ring.bk 8 t.val) ∗ (∃ W', owes (c : Thread nD τ) 0 W')) -∗ K ⟨⟩))
          ⊢ wp frame (wpE (defs₀ (F := F)) Variants.none c none) Set.univ (cc0_gmlp_bwd (grid0.coords t) arg1 harg1 arg2 harg2 arg3 harg3 arg4 harg4 arg5 harg5 arg6 harg6 arg7 harg7 (Memref.whole main_v3_0) (Memref.isWhole_whole _) arg9 harg9 arg10 harg10 arg11 harg11 arg12 harg12 scM0_0 (Memref.isWhole_whole _) cc0_scratch1) K } := by
  refine ⟨?_, ?_, ?_, ?_, fun W K => ?run⟩
  case run =>
    haveI : Fact (cond0_0 (grid0.coords t)) := ⟨hc0⟩
    haveI : Fact (¬cond0_1 (grid0.coords t)) := ⟨hc1⟩
    haveI : Fact (¬cond0_2 (grid0.coords t)) := ⟨hc2⟩
    simp only [cc0_gmlp_bwd_eq_skeleton]; unfold cc0_gmlp_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    have hcanon0 := wcanon0_0_2 t
    have hcanon1 := wcanon0_0_2' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%fp0_0_0, Hp0_0_0⟩, Hq0_0_0, ⟨%et0_0_0, Ht0_0_0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [Hq0_0_0]; · iexists _, _; iexact Hq0_0_0
    iexists _; iexact HW

end Cert.KernelIdeal.Gate

end
-- ==== Proof.Gate.RunB.lean ====
/- The whole body at a grid point in case B of its ring: with the listed buffers and flights it ends with the pieces it wrote. -/
module

public import proofs.«01_k».proof.Proof.Gate.RunA

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1216000 in
/-- What the body's stores leave in each output's staging memref, as pieces (last first) IN CASE B (`scf.if` 0 not taken, `scf.if` 1 not taken, `scf.if` 2 not taken: points 1), WITH the
    proof that on whole staging memrefs — the inputs' at their contents, the outputs it reads before covering (7, 8, 9, 10) at their running contents `xo·`, the other outputs' at
    anything, the write ring's pieces for the point's role (the pieces its copies write, at anything; the flights it waits for; the group it packs, free), any other HBM operand whole and own cell at zero, and the core's `owes`, the body runs to the continuation holding the inputs' as they were,
    the write ring's pieces as the next point takes them (the pieces waited home again, the copies started in flight), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) :
    Σ' (L7 : List (View.Piece (Elt F) S8x256 .f32)), Σ' (L8 : List (View.Piece (Elt F) S8x256 .f32)), Σ' (L9 : List (View.Piece (Elt F) S4x128x128 .f32)), { L10 : List (View.Piece (Elt F) S128x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare xo7 ∗ owns (c : Thread nD τ) arg10 fullShare xo8 ∗ owns (c : Thread nD τ) arg11 fullShare xo9 ∗ owns (c : Thread nD τ) arg12 fullShare xo10 ∗ (∃ f, wpieceP0_0 c (Ring.bk 8 t.val) 0 f) ∗ wcellP0_0 c (Ring.sl 2 t.val) 0 ∗ (∃ e, wtileP0_0 c (Ring.sl 2 t.val) 0 e) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ wflightP0_0 c (Ring.sl 2 t.val) 0 (Ring.bk 8 t.val) ∗ (∃ W', owes (c : Thread nD τ) 0 W')) -∗ K ⟨⟩))
          ⊢ wp frame (wpE (defs₀ (F := F)) Variants.none c none) Set.univ (cc0_gmlp_bwd (grid0.coords t) arg1 harg1 arg2 harg2 arg3 harg3 arg4 harg4 arg5 harg5 arg6 harg6 arg7 harg7 (Memref.whole main_v3_0) (Memref.isWhole_whole _) arg9 harg9 arg10 harg10 arg11 harg11 arg12 harg12 scM0_0 (Memref.isWhole_whole _) cc0_scratch1) K } := by
  refine ⟨?_, ?_, ?_, ?_, fun W K => ?run⟩
  case run =>
    haveI : Fact (¬cond0_0 (grid0.coords t)) := ⟨hc0⟩
    haveI : Fact (¬cond0_1 (grid0.coords t)) := ⟨hc1⟩
    haveI : Fact (¬cond0_2 (grid0.coords t)) := ⟨hc2⟩
    simp only [cc0_gmlp_bwd_eq_skeleton]; unfold cc0_gmlp_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    have hcanon0 := wcanon0_0_2 t
    have hcanon1 := wcanon0_0_2' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp0_0_0, Hp0_0_0⟩, Hq0_0_0, ⟨%et0_0_0, Ht0_0_0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [Hq0_0_0]; · iexists _, _; iexact Hq0_0_0
    iexists _; iexact HW

end Cert.KernelIdeal.Gate

end
-- ==== Proof.Gate.RunC.lean ====
/- The whole body at a grid point in case C of its ring: with the listed buffers and flights it ends with the pieces it wrote. -/
module

public import proofs.«01_k».proof.Proof.Gate.RunB

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1252000 in
/-- What the body's stores leave in each output's staging memref, as pieces (last first) IN CASE C (`scf.if` 0 not taken, `scf.if` 1 taken, `scf.if` 2 not taken: points 2, 3, 4, 5, 6), WITH the
    proof that on whole staging memrefs — the inputs' at their contents, the outputs it reads before covering (7, 8, 9, 10) at their running contents `xo·`, the other outputs' at
    anything, the write ring's pieces for the point's role (the pieces its copies write, at anything; the flights it waits for; the group it packs, free), any other HBM operand whole and own cell at zero, and the core's `owes`, the body runs to the continuation holding the inputs' as they were,
    the write ring's pieces as the next point takes them (the pieces waited home again, the copies started in flight), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) :
    Σ' (L7 : List (View.Piece (Elt F) S8x256 .f32)), Σ' (L8 : List (View.Piece (Elt F) S8x256 .f32)), Σ' (L9 : List (View.Piece (Elt F) S4x128x128 .f32)), { L10 : List (View.Piece (Elt F) S128x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare xo7 ∗ owns (c : Thread nD τ) arg10 fullShare xo8 ∗ owns (c : Thread nD τ) arg11 fullShare xo9 ∗ owns (c : Thread nD τ) arg12 fullShare xo10 ∗ (∃ f, wpieceP0_0 c (Ring.bk 8 t.val) 0 f) ∗ wflightP0_0 c (Ring.sl 2 t.val) 0 (Ring.bk 8 (t.val - 2)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, wpieceP0_0 c (Ring.bk 8 (t.val - 2)) 0 f) ∗ wflightP0_0 c (Ring.sl 2 t.val) 0 (Ring.bk 8 t.val) ∗ (∃ W', owes (c : Thread nD τ) 0 W')) -∗ K ⟨⟩))
          ⊢ wp frame (wpE (defs₀ (F := F)) Variants.none c none) Set.univ (cc0_gmlp_bwd (grid0.coords t) arg1 harg1 arg2 harg2 arg3 harg3 arg4 harg4 arg5 harg5 arg6 harg6 arg7 harg7 (Memref.whole main_v3_0) (Memref.isWhole_whole _) arg9 harg9 arg10 harg10 arg11 harg11 arg12 harg12 scM0_0 (Memref.isWhole_whole _) cc0_scratch1) K } := by
  refine ⟨?_, ?_, ?_, ?_, fun W K => ?run⟩
  case run =>
    haveI : Fact (¬cond0_0 (grid0.coords t)) := ⟨hc0⟩
    haveI : Fact (cond0_1 (grid0.coords t)) := ⟨hc1⟩
    haveI : Fact (¬cond0_2 (grid0.coords t)) := ⟨hc2⟩
    simp only [cc0_gmlp_bwd_eq_skeleton]; unfold cc0_gmlp_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    have hcanon0 := wcanon0_0_2 t
    have hcanon1 := wcanon0_0_2' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp0_0_0, Hp0_0_0⟩, ⟨%ff0_0_0, %fe0_0_0, HF0_0_0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HF0_0_0_dst]; · iexists _; iexact HF0_0_0_dst
    isplitl [HF0_0_0]; · iexists _, _; iexact HF0_0_0
    iexists _; iexact HW

end Cert.KernelIdeal.Gate

end
-- ==== Proof.Gate.RunD.lean ====
/- The whole body at a grid point in case D of its ring: with the listed buffers and flights it ends with the pieces it wrote. -/
module

public import proofs.«01_k».proof.Proof.Gate.RunC

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1396000 in
/-- What the body's stores leave in each output's staging memref, as pieces (last first) IN CASE D (`scf.if` 0 not taken, `scf.if` 1 taken, `scf.if` 2 taken: points 7), WITH the
    proof that on whole staging memrefs — the inputs' at their contents, the outputs it reads before covering (7, 8, 9, 10) at their running contents `xo·`, the other outputs' at
    anything, the write ring's pieces for the point's role (the pieces its copies write, at anything; the flights it waits for; the group it packs, free), any other HBM operand whole and own cell at zero, and the core's `owes`, the body runs to the continuation holding the inputs' as they were,
    the write ring's pieces as the next point takes them (the pieces waited home again, the copies started in flight), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_D (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) :
    Σ' (L7 : List (View.Piece (Elt F) S8x256 .f32)), Σ' (L8 : List (View.Piece (Elt F) S8x256 .f32)), Σ' (L9 : List (View.Piece (Elt F) S4x128x128 .f32)), { L10 : List (View.Piece (Elt F) S128x128 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg9 fullShare xo7 ∗ owns (c : Thread nD τ) arg10 fullShare xo8 ∗ owns (c : Thread nD τ) arg11 fullShare xo9 ∗ owns (c : Thread nD τ) arg12 fullShare xo10 ∗ (∃ f, wpieceP0_0 c (Ring.bk 8 t.val) 0 f) ∗ wflightP0_0 c (Ring.sl 2 t.val) 0 (Ring.bk 8 (t.val - 2)) ∗ wflightP0_0 c (Ring.sl 2 (t.val + 1)) 0 (Ring.bk 8 (t.val - 1)) ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, wpieceP0_0 c (Ring.bk 8 t.val) 0 f) ∗ (∃ f, wpieceP0_0 c (Ring.bk 8 (t.val - 2)) 0 f) ∗ (∃ f, wpieceP0_0 c (Ring.bk 8 (t.val - 1)) 0 f) ∗ wcellP0_0 c (Ring.sl 2 t.val) 0 ∗ (∃ e, wtileP0_0 c (Ring.sl 2 t.val) 0 e) ∗ wcellP0_0 c (Ring.sl 2 (t.val + 1)) 0 ∗ (∃ e, wtileP0_0 c (Ring.sl 2 (t.val + 1)) 0 e) ∗ (∃ W', owes (c : Thread nD τ) 0 W')) -∗ K ⟨⟩))
          ⊢ wp frame (wpE (defs₀ (F := F)) Variants.none c none) Set.univ (cc0_gmlp_bwd (grid0.coords t) arg1 harg1 arg2 harg2 arg3 harg3 arg4 harg4 arg5 harg5 arg6 harg6 arg7 harg7 (Memref.whole main_v3_0) (Memref.isWhole_whole _) arg9 harg9 arg10 harg10 arg11 harg11 arg12 harg12 scM0_0 (Memref.isWhole_whole _) cc0_scratch1) K } := by
  refine ⟨?_, ?_, ?_, ?_, fun W K => ?run⟩
  case run =>
    haveI : Fact (¬cond0_0 (grid0.coords t)) := ⟨hc0⟩
    haveI : Fact (cond0_1 (grid0.coords t)) := ⟨hc1⟩
    haveI : Fact (cond0_2 (grid0.coords t)) := ⟨hc2⟩
    simp only [cc0_gmlp_bwd_eq_skeleton]; unfold cc0_gmlp_bwd_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part1_eq_skeleton]
    have hcanon0 := wcanon0_0_2 t
    have hcanon1 := wcanon0_0_2' t
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fp0_0_0, Hp0_0_0⟩, ⟨%ff0_0_0, %fe0_0_0, HF0_0_0⟩, ⟨%if0_0_0, %ie0_0_0, HI0_0_0⟩, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg9.eq_unread hf7; obtain rfl := harg10.eq_unread hf8; obtain rfl := harg11.eq_unread hf9; obtain rfl := harg12.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [Hp0_0_0]; · iexists _; iexact Hp0_0_0
    isplitl [HF0_0_0_dst]; · iexists _; iexact HF0_0_0_dst
    isplitl [HI0_0_0_dst]; · iexists _; iexact HI0_0_0_dst
    isplitl [HF0_0_0]; · iexact HF0_0_0
    isplitl [HF0_0_0_src]; · iexists _; iexact HF0_0_0_src
    isplitl [HI0_0_0]; · iexact HI0_0_0
    isplitl [HI0_0_0_src]; · iexists _; iexact HI0_0_0_src
    iexists _; iexact HW

end Cert.KernelIdeal.Gate

end
-- ==== Proof.Gate.Body.lean ====
/- The frame of the gate gradient's program: the body's triple at a grid point, by the cases of its ring, and the launch. -/
module

public import proofs.«01_k».proof.Proof.Gate.RunD
public import Idealize.ShloMosaic.Lib.Claim

@[expose] public section

set_option maxRecDepth 16384

noncomputable section

namespace Cert.KernelIdeal.Gate

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 7 tile its block (2 stores of `S8x256`, checked by the kernel's evaluation: Lib/Ring.lean `Piece.tiledL`, linear in the pieces, through a loop's `@[irreducible]` trip theorem too), so they cover it. -/
theorem cover0_A_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (y : S8x256.Idx) :
    ∃ pc ∈ (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).1, y ∈ pc.1.set :=
  View.cover_of_tiledL (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).1 S8x256.size (by sl_kernel_rfl) y

/-- What case A leaves in output 7's staging buffer: its pieces read back over junk. -/
def out0_A_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) : Vec F S8x256 .f32 :=
  VO0_7.read (Elt F) (VO0_7.writes (Elt F) VO0_7.junk (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).1)

/-- Case A's pieces for output 8 tile its block (2 stores of `S8x256`, checked by the kernel's evaluation: Lib/Ring.lean `Piece.tiledL`, linear in the pieces, through a loop's `@[irreducible]` trip theorem too), so they cover it. -/
theorem cover0_A_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (y : S8x256.Idx) :
    ∃ pc ∈ (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.1, y ∈ pc.1.set :=
  View.cover_of_tiledL (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.1 S8x256.size (by sl_kernel_rfl) y

/-- What case A leaves in output 8's staging buffer: its pieces read back over junk. -/
def out0_A_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) : Vec F S8x256 .f32 :=
  VO0_8.read (Elt F) (VO0_8.writes (Elt F) VO0_8.junk (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.1)

/-- Case A's pieces for output 9 are of SEVERAL sizes (33 stores of `S1x128x128`, `S4x128x128`): cut into blocks of `![1, 128, 128]` they tile its block (checked by the kernel's evaluation: Lib/Ring.lean `Piece.tiledBy`), so they cover it. -/
theorem cover0_A_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (y : S4x128x128.Idx) :
    ∃ pc ∈ (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.2.1, y ∈ pc.1.set :=
  View.cover_of_tiledBy (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.2.1 ![1, 128, 128] (by sl_kernel_rfl) y

/-- What case A leaves in output 9's staging buffer: its pieces read back over junk. -/
def out0_A_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) : Vec F S4x128x128 .f32 :=
  VO0_9.read (Elt F) (VO0_9.writes (Elt F) VO0_9.junk (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.2.1)

/-- Case A's pieces for output 10 tile its block (2 stores of `S128x128`, checked by the kernel's evaluation: Lib/Ring.lean `Piece.tiledL`, linear in the pieces, through a loop's `@[irreducible]` trip theorem too), so they cover it. -/
theorem cover0_A_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (y : S128x128.Idx) :
    ∃ pc ∈ (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.2.2.1, y ∈ pc.1.set :=
  View.cover_of_tiledL (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.2.2.1 S128x128.size (by sl_kernel_rfl) y

/-- What case A leaves in output 10's staging buffer: its pieces read back over junk. -/
def out0_A_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) : Vec F S128x128 .f32 :=
  VO0_10.read (Elt F) (VO0_10.writes (Elt F) VO0_10.junk (kernelRun0_A c t arg1 harg1 arg2 harg2 arg3 harg3 arg4 harg4 arg5 harg5 arg6 harg6 arg7 harg7 arg9 harg9 arg10 harg10 arg11 harg11 arg12 harg12 hc0 hc1 hc2 x0 x1 x2 x3 x4 x5 x6).2.2.2.1)

/-- Case B's pieces for output 7 tile its block (1 store of `S8x256`, checked by the kernel's evaluation: Lib/Ring.lean `Piece.tiledL`, linear in the pieces, through a loop's `@[irreducible]` trip theorem too), so they cover it. -/
theorem cover0_B_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S8x256.Idx) :
    ∃ pc ∈ (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1, y ∈ pc.1.set :=
  View.cover_of_tiledL (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1 S8x256.size (by sl_kernel_rfl) y

/-- What case B leaves in output 7's staging buffer: its pieces read back over junk. -/
def out0_B_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S8x256 .f32 :=
  VO0_7.read (Elt F) (VO0_7.writes (Elt F) VO0_7.junk (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1)

/-- Case B's pieces for output 8 tile its block (1 store of `S8x256`, checked by the kernel's evaluation: Lib/Ring.lean `Piece.tiledL`, linear in the pieces, through a loop's `@[irreducible]` trip theorem too), so they cover it. -/
theorem cover0_B_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S8x256.Idx) :
    ∃ pc ∈ (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1, y ∈ pc.1.set :=
  View.cover_of_tiledL (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1 S8x256.size (by sl_kernel_rfl) y

/-- What case B leaves in output 8's staging buffer: its pieces read back over junk. -/
def out0_B_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S8x256 .f32 :=
  VO0_8.read (Elt F) (VO0_8.writes (Elt F) VO0_8.junk (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1)

/-- Case B's pieces for output 9 tile its block (32 stores of `S1x128x128`, checked by the kernel's evaluation: Lib/Ring.lean `Piece.tiledL`, linear in the pieces, through a loop's `@[irreducible]` trip theorem too), so they cover it. -/
theorem cover0_B_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S4x128x128.Idx) :
    ∃ pc ∈ (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1, y ∈ pc.1.set :=
  View.cover_of_tiledL (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1 S1x128x128.size (by sl_kernel_rfl) y

/-- What case B leaves in output 9's staging buffer: its pieces read back over junk. -/
def out0_B_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S4x128x128 .f32 :=
  VO0_9.read (Elt F) (VO0_9.writes (Elt F) VO0_9.junk (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1)

/-- Case B's pieces for output 10 tile its block (1 store of `S128x128`, checked by the kernel's evaluation: Lib/Ring.lean `Piece.tiledL`, linear in the pieces, through a loop's `@[irreducible]` trip theorem too), so they cover it. -/
theorem cover0_B_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S128x128.Idx) :
    ∃ pc ∈ (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1, y ∈ pc.1.set :=
  View.cover_of_tiledL (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1 S128x128.size (by sl_kernel_rfl) y

/-- What case B leaves in output 10's staging buffer: its pieces read back over junk. -/
def out0_B_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : ¬cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S128x128 .f32 :=
  VO0_10.read (Elt F) (VO0_10.writes (Elt F) VO0_10.junk (kernelRun0_B c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1)

/-- Case C's pieces for output 7 tile its block (1 store of `S8x256`, checked by the kernel's evaluation: Lib/Ring.lean `Piece.tiledL`, linear in the pieces, through a loop's `@[irreducible]` trip theorem too), so they cover it. -/
theorem cover0_C_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S8x256.Idx) :
    ∃ pc ∈ (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1, y ∈ pc.1.set :=
  View.cover_of_tiledL (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1 S8x256.size (by sl_kernel_rfl) y

/-- What case C leaves in output 7's staging buffer: its pieces read back over junk. -/
def out0_C_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S8x256 .f32 :=
  VO0_7.read (Elt F) (VO0_7.writes (Elt F) VO0_7.junk (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1)

/-- Case C's pieces for output 8 tile its block (1 store of `S8x256`, checked by the kernel's evaluation: Lib/Ring.lean `Piece.tiledL`, linear in the pieces, through a loop's `@[irreducible]` trip theorem too), so they cover it. -/
theorem cover0_C_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S8x256.Idx) :
    ∃ pc ∈ (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1, y ∈ pc.1.set :=
  View.cover_of_tiledL (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1 S8x256.size (by sl_kernel_rfl) y

/-- What case C leaves in output 8's staging buffer: its pieces read back over junk. -/
def out0_C_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S8x256 .f32 :=
  VO0_8.read (Elt F) (VO0_8.writes (Elt F) VO0_8.junk (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1)

/-- Case C's pieces for output 9 tile its block (32 stores of `S1x128x128`, checked by the kernel's evaluation: Lib/Ring.lean `Piece.tiledL`, linear in the pieces, through a loop's `@[irreducible]` trip theorem too), so they cover it. -/
theorem cover0_C_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S4x128x128.Idx) :
    ∃ pc ∈ (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1, y ∈ pc.1.set :=
  View.cover_of_tiledL (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1 S1x128x128.size (by sl_kernel_rfl) y

/-- What case C leaves in output 9's staging buffer: its pieces read back over junk. -/
def out0_C_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S4x128x128 .f32 :=
  VO0_9.read (Elt F) (VO0_9.writes (Elt F) VO0_9.junk (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1)

/-- Case C's pieces for output 10 tile its block (1 store of `S128x128`, checked by the kernel's evaluation: Lib/Ring.lean `Piece.tiledL`, linear in the pieces, through a loop's `@[irreducible]` trip theorem too), so they cover it. -/
theorem cover0_C_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S128x128.Idx) :
    ∃ pc ∈ (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1, y ∈ pc.1.set :=
  View.cover_of_tiledL (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1 S128x128.size (by sl_kernel_rfl) y

/-- What case C leaves in output 10's staging buffer: its pieces read back over junk. -/
def out0_C_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : ¬cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S128x128 .f32 :=
  VO0_10.read (Elt F) (VO0_10.writes (Elt F) VO0_10.junk (kernelRun0_C c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1)

/-- Case D's pieces for output 7 tile its block (1 store of `S8x256`, checked by the kernel's evaluation: Lib/Ring.lean `Piece.tiledL`, linear in the pieces, through a loop's `@[irreducible]` trip theorem too), so they cover it. -/
theorem cover0_D_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S8x256.Idx) :
    ∃ pc ∈ (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1, y ∈ pc.1.set :=
  View.cover_of_tiledL (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1 S8x256.size (by sl_kernel_rfl) y

/-- What case D leaves in output 7's staging buffer: its pieces read back over junk. -/
def out0_D_7 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S8x256 .f32 :=
  VO0_7.read (Elt F) (VO0_7.writes (Elt F) VO0_7.junk (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).1)

/-- Case D's pieces for output 8 tile its block (1 store of `S8x256`, checked by the kernel's evaluation: Lib/Ring.lean `Piece.tiledL`, linear in the pieces, through a loop's `@[irreducible]` trip theorem too), so they cover it. -/
theorem cover0_D_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S8x256.Idx) :
    ∃ pc ∈ (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1, y ∈ pc.1.set :=
  View.cover_of_tiledL (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1 S8x256.size (by sl_kernel_rfl) y

/-- What case D leaves in output 8's staging buffer: its pieces read back over junk. -/
def out0_D_8 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S8x256 .f32 :=
  VO0_8.read (Elt F) (VO0_8.writes (Elt F) VO0_8.junk (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.1)

/-- Case D's pieces for output 9 tile its block (36 stores of `S1x128x128`, checked by the kernel's evaluation: Lib/Ring.lean `Piece.tiledL`, linear in the pieces, through a loop's `@[irreducible]` trip theorem too), so they cover it. -/
theorem cover0_D_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S4x128x128.Idx) :
    ∃ pc ∈ (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1, y ∈ pc.1.set :=
  View.cover_of_tiledL (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1 S1x128x128.size (by sl_kernel_rfl) y

/-- What case D leaves in output 9's staging buffer: its pieces read back over junk. -/
def out0_D_9 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S4x128x128 .f32 :=
  VO0_9.read (Elt F) (VO0_9.writes (Elt F) VO0_9.junk (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.1)

/-- Case D's pieces for output 10 tile its block (1 store of `S128x128`, checked by the kernel's evaluation: Lib/Ring.lean `Piece.tiledL`, linear in the pieces, through a loop's `@[irreducible]` trip theorem too), so they cover it. -/
theorem cover0_D_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) (y : S128x128.Idx) :
    ∃ pc ∈ (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1, y ∈ pc.1.set :=
  View.cover_of_tiledL (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1 S128x128.size (by sl_kernel_rfl) y

/-- What case D leaves in output 10's staging buffer: its pieces read back over junk. -/
def out0_D_10 (c : Dev nD) (t : Fin cfg0.N) (arg1 : Memref sig .tc .vmem S1024x256 .f32) (harg1 : arg1.IsWhole) (arg2 : Memref sig .tc .vmem S1024x256 .f32) (harg2 : arg2.IsWhole) (arg3 : Memref sig .tc .vmem S1024x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S4x128x128 .f32) (harg6 : arg6.IsWhole) (arg7 : Memref sig .tc .vmem S128x4 .f32) (harg7 : arg7.IsWhole) (arg9 : Memref sig .tc .vmem S8x256 .f32) (harg9 : arg9.IsWhole) (arg10 : Memref sig .tc .vmem S8x256 .f32) (harg10 : arg10.IsWhole) (arg11 : Memref sig .tc .vmem S4x128x128 .f32) (harg11 : arg11.IsWhole) (arg12 : Memref sig .tc .vmem S128x128 .f32) (harg12 : arg12.IsWhole) (hc0 : ¬cond0_0 (grid0.coords t)) (hc1 : cond0_1 (grid0.coords t)) (hc2 : cond0_2 (grid0.coords t))
    (x0 : Vec F S1024x256 .f32) (x1 : Vec F S1024x256 .f32) (x2 : Vec F S1024x256 .f32) (x3 : Vec F S1x256 .f32) (x4 : Vec F S1x256 .f32) (x5 : Vec F S4x128x128 .f32) (x6 : Vec F S128x4 .f32) (xo7 : Vec F S8x256 .f32) (xo8 : Vec F S8x256 .f32) (xo9 : Vec F S4x128x128 .f32) (xo10 : Vec F S128x128 .f32) : Vec F S128x128 .f32 :=
  VO0_10.read (Elt F) (VO0_10.writes (Elt F) VO0_10.junk (kernelRun0_D c t arg1 harg1 arg2 harg2 arg3 harg3 arg4 harg4 arg5 harg5 arg6 harg6 arg7 harg7 arg9 harg9 arg10 harg10 arg11 harg11 arg12 harg12 hc0 hc1 hc2 x0 x1 x2 x3 x4 x5 x6 xo7 xo8 xo9 xo10).2.2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S8x256 .f32 × Vec F S8x256 .f32 × Vec F S4x128x128 .f32 × Vec F S128x128 .f32
  | 0, hn => (out0_A_7 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_10 c ⟨0, hn⟩ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 8 = 0 then
      if h1 : 2 ≤ (n + 1) then
        False.elim (by have hN : n + 1 < 8 := lt_of_lt_of_eq hn (show cfg0.N = 8 from N_0); omega)
      else
        if h2 : (n + 1) % 8 = 7 then
          False.elim (by have hN : n + 1 < 8 := lt_of_lt_of_eq hn (show cfg0.N = 8 from N_0); omega)
        else
          (out0_A_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) ((hcond0_0 ⟨n + 1, hn⟩).mpr h0) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
    else
      if h1 : 2 ≤ (n + 1) then
        if h2 : (n + 1) % 8 = 7 then
          (out0_D_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_D_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_D_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_D_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
        else
          (out0_C_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_C_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_C_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_C_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)
      else
        if h2 : (n + 1) % 8 = 7 then
          False.elim (by have hN : n + 1 < 8 := lt_of_lt_of_eq hn (show cfg0.N = 8 from N_0); omega)
        else
          (out0_B_7 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_8 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_9 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_10 c ⟨n + 1, hn⟩ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 8 = 0) (h1 : ¬2 ≤ t.val) (h2 : ¬t.val % 8 = 7) :
    outsAt0 m c t.val t.isLt = (out0_A_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t), out0_A_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t), out0_A_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t), out0_A_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_neg h1).trans ((dif_neg h2).trans rfl))

/-- `outsAt0` at a point of case B: that case's contents, over what the point before left. -/
theorem outsAt0_B (c : Dev nD) (t : Fin cfg0.N) (h0 : ¬t.val % 8 = 0) (h1 : ¬2 ≤ t.val) (h2 : ¬t.val % 8 = 7) :
    outsAt0 m c t.val t.isLt = (out0_B_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 8 = 0) (h1 : 2 ≤ t.val) (h2 : ¬t.val % 8 = 7) :
    outsAt0 m c t.val t.isLt = (out0_C_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_C_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_C_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_C_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case D: that case's contents, over what the point before left. -/
theorem outsAt0_D (c : Dev nD) (t : Fin cfg0.N) (h0 : ¬t.val % 8 = 0) (h1 : 2 ≤ t.val) (h2 : t.val % 8 = 7) :
    outsAt0 m c t.val t.isLt = (out0_D_7 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_D_8 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_D_9 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_D_10 c t (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-! ## The pipeline's proof data -/

/-- The region invariant before point `k`: the generator register at some state, and each ring
    before point `k`. -/
def PhiR (m : (ℓ : Loc nD τ sig) → Buf (Elt F) ℓ) (c : Dev nD) (k : ℕ) : sProp 𝕄 := iprop((∃ r, prngReg c r) ∗ (wringAt0_0 c k ∗ wtileSpare0_0 c ∗ wpieceSpare0_0 c))

/-- The proof data of the one pipeline on core `c`: the arrays as the region finds them (`V`); after the body at
    point `t` each input's buffer at its block and the outputs' at `outsAt0`; the invariant
    (`PhiR`: the write ring's Lib/Ring/WriteBehind.lean `Ring.AtBΦ` before the point's step, beside the register and what the body takes whole);
    nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
    | ⟨10, _⟩ => (outsAt0 m c t.val t.isLt).2.2.2
  Φ t := PhiR m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiR_castSucc (c : Dev nD) (t : Fin cfg0.N) : (dats m 0 c).Φ t.castSucc = PhiR m c t.val := by
  dsimp only [dats]; simp only [Fin.coe_castSucc]
/-- The invariant at a point's end (the proof data at `t.succ`), restated at `t.val + 1`. -/
theorem PhiR_succ (c : Dev nD) (t : Fin cfg0.N) : (dats m 0 c).Φ t.succ = PhiR m c (t.val + 1) := by
  dsimp only [dats]; simp only [Fin.val_succ]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]
theorem after0_10 (c : Dev nD) (t : Fin cfg0.N) : (dats m 0 c).after 10 t = (outsAt0 m c t.val t.isLt).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 8 = 0) (h1 : ¬2 ≤ t.val) (h2 : ¬t.val % 8 = 7) (d) :
    (dats m 0 c).before 7 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 8 = 0) (h1 : ¬2 ≤ t.val) (h2 : ¬t.val % 8 = 7) (d) :
    (dats m 0 c).before 8 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 8 = 0) (h1 : ¬2 ≤ t.val) (h2 : ¬t.val % 8 = 7) (d) :
    (dats m 0 c).before 9 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 8 = 0) (h1 : ¬2 ≤ t.val) (h2 : ¬t.val % 8 = 7) (d) :
    (dats m 0 c).before 10 t d = (outsAt0 m c (t.val - 1) (Nat.lt_of_le_of_lt (Nat.sub_le _ _) t.isLt)).2.2.2 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 8 = 0) (h1 : 2 ≤ t.val) (h2 : ¬t.val % 8 = 7) (d) :
    (dats m 0 c).before 7 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case C output 8's current staging buffer holds what the body left at the point before: the point is
    not the first, the buffer was not written back between (`flush0_8`), the window is live and uncut (Lib/Pipeline/Frame.lean
    `Dat.before_out_kept`). -/
theorem before0_8_C (c : Dev nD) (t : Fin cfg0.N) (h0 : ¬t.val % 8 = 0) (h1 : 2 ≤ t.val) (h2 : ¬t.val % 8 = 7) (d) :
    (dats m 0 c).before 8 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case C output 9's current staging buffer holds what the body left at the point before: the point is
    not the first, the buffer was not written back between (`flush0_9`), the window is live and uncut (Lib/Pipeline/Frame.lean
    `Dat.before_out_kept`). -/
theorem before0_9_C (c : Dev nD) (t : Fin cfg0.N) (h0 : ¬t.val % 8 = 0) (h1 : 2 ≤ t.val) (h2 : ¬t.val % 8 = 7) (d) :
    (dats m 0 c).before 9 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 8 = 0) (h1 : 2 ≤ t.val) (h2 : ¬t.val % 8 = 7) (d) :
    (dats m 0 c).before 10 t d = (outsAt0 m c (t.val - 1) (Nat.lt_of_le_of_lt (Nat.sub_le _ _) t.isLt)).2.2.2 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case D output 7's current staging buffer holds what the body left at the point before: the point is
    not the first, the buffer was not written back between (`flush0_7`), the window is live and uncut (Lib/Pipeline/Frame.lean
    `Dat.before_out_kept`). -/
theorem before0_7_D (c : Dev nD) (t : Fin cfg0.N) (h0 : ¬t.val % 8 = 0) (h1 : 2 ≤ t.val) (h2 : t.val % 8 = 7) (d) :
    (dats m 0 c).before 7 t d = (outsAt0 m c (t.val - 1) (Nat.lt_of_le_of_lt (Nat.sub_le _ _) t.isLt)).1 := by
  have hN : t.val < 8 := lt_of_lt_of_eq t.isLt (show cfg0.N = 8 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case D output 8's current staging buffer holds what the body left at the point before: the point is
    not the first, the buffer was not written back between (`flush0_8`), the window is live and uncut (Lib/Pipeline/Frame.lean
    `Dat.before_out_kept`). -/
theorem before0_8_D (c : Dev nD) (t : Fin cfg0.N) (h0 : ¬t.val % 8 = 0) (h1 : 2 ≤ t.val) (h2 : t.val % 8 = 7) (d) :
    (dats m 0 c).before 8 t d = (outsAt0 m c (t.val - 1) (Nat.lt_of_le_of_lt (Nat.sub_le _ _) t.isLt)).2.1 := by
  have hN : t.val < 8 := lt_of_lt_of_eq t.isLt (show cfg0.N = 8 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case D output 9's current staging buffer holds what the body left at the point before: the point is
    not the first, the buffer was not written back between (`flush0_9`), the window is live and uncut (Lib/Pipeline/Frame.lean
    `Dat.before_out_kept`). -/
theorem before0_9_D (c : Dev nD) (t : Fin cfg0.N) (h0 : ¬t.val % 8 = 0) (h1 : 2 ≤ t.val) (h2 : t.val % 8 = 7) (d) :
    (dats m 0 c).before 9 t d = (outsAt0 m c (t.val - 1) (Nat.lt_of_le_of_lt (Nat.sub_le _ _) t.isLt)).2.2.1 := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case D output 10's current staging buffer holds what the body left at the point before: the point is
    not the first, the buffer was not written back between (`flush0_10`), the window is live and uncut (Lib/Pipeline/Frame.lean
    `Dat.before_out_kept`). -/
theorem before0_10_D (c : Dev nD) (t : Fin cfg0.N) (h0 : ¬t.val % 8 = 0) (h1 : 2 ≤ t.val) (h2 : t.val % 8 = 7) (d) :
    (dats m 0 c).before 10 t d = (outsAt0 m c (t.val - 1) (Nat.lt_of_le_of_lt (Nat.sub_le _ _) t.isLt)).2.2.2 := by
  have hN : t.val < 8 := lt_of_lt_of_eq t.isLt (show cfg0.N = 8 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 4800000 in
/-- The body at any point: the inputs' memrefs hold their blocks (`before0_W`); the closed forms say which case the point is in (`by_cases`), an output the case reads before covering holds what the point before left (`before0_W_κ`); so the
    run applies; the invariant (`PhiR`) is rewritten, per case, to the write ring's pieces the point's role takes (Lib/Ring/WriteBehind.lean `AtB22_here`, `AtB2_zero'`, …, by the case's step facts `wstepK_R_κ`) and reassembled from what the run hands back (`AtB22_next`, `AtB22_drained`, …), the scratch's and the result's spare elements riding beside; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7, after0_8, after0_9, after0_10]
  rw [PhiR_castSucc m c t, PhiR_succ m c t]
  unfold Dat.owesAt Pipeline.owesWithin
  rw [show (dats m 0 c).owed t.castSucc = 0 from rfl, show (dats m 0 c).owed t.succ = 0 from rfl]
  unfold PhiR wringAt0_0
  have hgN : grid0.N = 8 := N_0
  have hN : t.val < 8 := lt_of_lt_of_eq t.isLt (show cfg0.N = 8 from N_0)
  by_cases h0 : t.val % 8 = 0
  · by_cases h1 : 2 ≤ t.val
    · exfalso; omega
    · by_cases h2 : t.val % 8 = 7
      · exfalso; omega
      · rw [outsAt0_A m c t h0 h1 h2]
        unfold out0_A_7 out0_A_8 out0_A_9 out0_A_10; (try dsimp only)
        have hw0 := wstep0_0_A t ((hcond0_0 t).mpr h0) (fun h => h1 ((hcond0_1 t).mp h)) (fun h => h2 ((hcond0_2 t).mp h))
        obtain ⟨hWlt0, hWs0⟩ := hw0
        rcases (show t.val = 0 ∨ t.val = 1 by omega) with hW0 | hW0
        · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
          iintro ⟨⟨Hg, ⟨⟨⟨Hp0_0_0, HA0_0⟩, ⟨Hq0_0_0, Ht0_0_0⟩, Hfx0_0⟩, HTsp0_0, HPsp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c t _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t)).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [H10]; · iexists _; iexact H10
          isplitl [Hp0_0_0]; · iexact Hp0_0_0
          isplitl [Hq0_0_0]; · iexact Hq0_0_0
          isplitl [Ht0_0_0]; · iexact Ht0_0_0
          isplitl [HW]; · iexact HW
          iintro ⟨H0, H1, H2, H3, H4, H5, H6, ⟨%e7, H7⟩, ⟨%e8, H8⟩, ⟨%e9, H9⟩, ⟨%e10, H10⟩, Hn0_0_0, ⟨%W', HW'⟩⟩
          isplitl [Hg HA0_0 Hfx0_0 HTsp0_0 HPsp0_0 Hn0_0_0]
          · isplitl [Hg]; · iexact Hg
            isplitl [HA0_0 Hfx0_0 Hn0_0_0]
            · isplitl [HA0_0]
              · iexact HA0_0
              isplitl [Hfx0_0]
              · iexact Hfx0_0
              iexact Hn0_0_0
            isplitl [HTsp0_0]
            · iexact HTsp0_0
            iexact HPsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _)
        · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
          iintro ⟨⟨Hg, ⟨⟨⟨Hp0_0_0, HA0_0⟩, ⟨Hq0_0_0, Ht0_0_0⟩, Hcar0_0⟩, HTsp0_0, HPsp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c t _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t)).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexists _; iexact H7
          isplitl [H8]; · iexists _; iexact H8
          isplitl [H9]; · iexists _; iexact H9
          isplitl [H10]; · iexists _; iexact H10
          isplitl [Hp0_0_0]; · iexact Hp0_0_0
          isplitl [Hq0_0_0]; · iexact Hq0_0_0
          isplitl [Ht0_0_0]; · iexact Ht0_0_0
          isplitl [HW]; · iexact HW
          iintro ⟨H0, H1, H2, H3, H4, H5, H6, ⟨%e7, H7⟩, ⟨%e8, H8⟩, ⟨%e9, H9⟩, ⟨%e10, H10⟩, Hn0_0_0, ⟨%W', HW'⟩⟩
          isplitl [Hg HA0_0 Hcar0_0 HTsp0_0 HPsp0_0 Hn0_0_0]
          · isplitl [Hg]; · iexact Hg
            isplitl [HA0_0 Hcar0_0 Hn0_0_0]
            · isplitl [HA0_0]
              · iexact HA0_0
              isplitl [Hcar0_0]
              · iexact Hcar0_0
              iexact Hn0_0_0
            isplitl [HTsp0_0]
            · iexact HTsp0_0
            iexact HPsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_A_9 c _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_A_10 c _ _ _ _ _ _ _ _ _ _ _ _ _ _ _ _ _ _ _ _ _ _ _ _ _ _ _ _ _ _ _ _ _)
  · by_cases h1 : 2 ≤ t.val
    · by_cases h2 : t.val % 8 = 7
      · rw [outsAt0_D m c t h0 h1 h2]
        simp only [before0_7_D m c t h0 h1 h2, before0_8_D m c t h0 h1 h2, before0_9_D m c t h0 h1 h2, before0_10_D m c t h0 h1 h2]
        unfold out0_D_7 out0_D_8 out0_D_9 out0_D_10; (try dsimp only)
        have hw0 := wstep0_0_D t (fun h => h0 ((hcond0_0 t).mp h)) ((hcond0_1 t).mpr h1) ((hcond0_2 t).mpr h2)
        obtain ⟨hW20, hWend0, hWs0⟩ := hw0
        rw [Ring.AtBΦ_lt _ _ _ _ _ t.val (by omega), Ring.AtB22_here_last _ _ _ _ t.val hW20 hWend0, Ring.AtBΦ_end _ _ _ _ _ (t.val + 1) hWend0, Ring.AtB22_drained _ _ t.val hW20 hWend0]
        iintro ⟨⟨Hg, ⟨⟨Hp0_0_0, HB0_0, HF0_0_0, HI0_0_0⟩, HTsp0_0, HPsp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_D c t _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) _ _ _ _).2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [Hp0_0_0]; · iexact Hp0_0_0
        isplitl [HF0_0_0]; · iexact HF0_0_0
        isplitl [HI0_0_0]; · iexact HI0_0_0
        isplitl [HW]; · iexact HW
        iintro ⟨H0, H1, H2, H3, H4, H5, H6, ⟨%e7, H7⟩, ⟨%e8, H8⟩, ⟨%e9, H9⟩, ⟨%e10, H10⟩, Ho0_0_0, Hl0_0_0, Hm0_0_0, Hqo0_0_0, Hto0_0_0, Hqp0_0_0, Htp0_0_0, ⟨%W', HW'⟩⟩
        isplitl [Hg HB0_0 HTsp0_0 HPsp0_0 Ho0_0_0 Hl0_0_0 Hm0_0_0 Hqo0_0_0 Hto0_0_0 Hqp0_0_0 Htp0_0_0]
        · isplitl [Hg]; · iexact Hg
          isplitl [Ho0_0_0 Hl0_0_0 Hm0_0_0 HB0_0 Hqo0_0_0 Hto0_0_0 Hqp0_0_0 Htp0_0_0]
          · isplitl [Ho0_0_0 Hl0_0_0 Hm0_0_0 HB0_0]
            · isplitl [Ho0_0_0]
              · iexact Ho0_0_0
              isplitl [Hl0_0_0]
              · iexact Hl0_0_0
              isplitl [Hm0_0_0]
              · iexact Hm0_0_0
              iexact HB0_0
            isplitl [Hqo0_0_0 Hto0_0_0]
            · isplitl [Hqo0_0_0]
              · iexact Hqo0_0_0
              iexact Hto0_0_0
            isplitl [Hqp0_0_0]
            · iexact Hqp0_0_0
            iexact Htp0_0_0
          isplitl [HTsp0_0]
          · iexact HTsp0_0
          iexact HPsp0_0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_D_7 c _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_D_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_D_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_D_10 c _ _ _ _ _ _ _ _ _ _ _ _ _ _ _ _ _ _ _ _ _ _ _ _ _ _ _ _ _ _ _ _ _ _ _ _ _)
      · rw [outsAt0_C m c t h0 h1 h2]
        simp only [before0_7_C m c t h0 h1 h2, before0_8_C m c t h0 h1 h2, before0_9_C m c t h0 h1 h2, before0_10_C m c t h0 h1 h2]
        unfold out0_C_7 out0_C_8 out0_C_9 out0_C_10; (try dsimp only)
        have hw0 := wstep0_0_C t (fun h => h0 ((hcond0_0 t).mp h)) ((hcond0_1 t).mpr h1) (fun h => h2 ((hcond0_2 t).mp h))
        obtain ⟨hW20, hWlt0, hWs0⟩ := hw0
        rw [Ring.AtBΦ_lt _ _ _ _ _ t.val (by omega), Ring.AtB22_here _ _ _ _ t.val hW20 (by omega), Ring.AtBΦ_lt _ _ _ _ _ (t.val + 1) hWlt0, Ring.AtB22_next _ _ _ _ t.val hW20 (by omega)]
        iintro ⟨⟨Hg, ⟨⟨⟨Hp0_0_0, HA0_0⟩, HB0_0, HF0_0_0, Hcar0_0⟩, HTsp0_0, HPsp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c t _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) _ _ _ _).2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [Hp0_0_0]; · iexact Hp0_0_0
        isplitl [HF0_0_0]; · iexact HF0_0_0
        isplitl [HW]; · iexact HW
        iintro ⟨H0, H1, H2, H3, H4, H5, H6, ⟨%e7, H7⟩, ⟨%e8, H8⟩, ⟨%e9, H9⟩, ⟨%e10, H10⟩, Hl0_0_0, Hn0_0_0, ⟨%W', HW'⟩⟩
        isplitl [Hg HA0_0 HB0_0 Hcar0_0 HTsp0_0 HPsp0_0 Hl0_0_0 Hn0_0_0]
        · isplitl [Hg]; · iexact Hg
          isplitl [HA0_0 Hl0_0_0 HB0_0 Hcar0_0 Hn0_0_0]
          · isplitl [HA0_0]
            · iexact HA0_0
            isplitl [Hl0_0_0 HB0_0]
            · isplitl [Hl0_0_0]
              · iexact Hl0_0_0
              iexact HB0_0
            isplitl [Hcar0_0]
            · iexact Hcar0_0
            iexact Hn0_0_0
          isplitl [HTsp0_0]
          · iexact HTsp0_0
          iexact HPsp0_0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _)
    · by_cases h2 : t.val % 8 = 7
      · exfalso; omega
      · rw [outsAt0_B m c t h0 h1 h2]
        simp only [before0_7_B m c t h0 h1 h2, before0_8_B m c t h0 h1 h2, before0_9_B m c t h0 h1 h2, before0_10_B m c t h0 h1 h2]
        unfold out0_B_7 out0_B_8 out0_B_9 out0_B_10; (try dsimp only)
        have hw0 := wstep0_0_B t (fun h => h0 ((hcond0_0 t).mp h)) (fun h => h1 ((hcond0_1 t).mp h)) (fun h => h2 ((hcond0_2 t).mp h))
        obtain ⟨hWlt0, hWs0⟩ := hw0
        rcases (show t.val = 0 ∨ t.val = 1 by omega) with hW0 | hW0
        · rw [Ring.AtBΦ_lt _ _ _ _ _ t.val (by omega), Ring.AtB2_zero' 2 _ _ _ _ t.val hW0, Ring.AtBΦ_lt _ _ _ _ _ (t.val + 1) (by omega), Ring.AtB22_next_zero' _ _ _ _ t.val hW0]
          iintro ⟨⟨Hg, ⟨⟨⟨Hp0_0_0, HA0_0⟩, ⟨Hq0_0_0, Ht0_0_0⟩, Hfx0_0⟩, HTsp0_0, HPsp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c t _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) _ _ _ _).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [Hp0_0_0]; · iexact Hp0_0_0
          isplitl [Hq0_0_0]; · iexact Hq0_0_0
          isplitl [Ht0_0_0]; · iexact Ht0_0_0
          isplitl [HW]; · iexact HW
          iintro ⟨H0, H1, H2, H3, H4, H5, H6, ⟨%e7, H7⟩, ⟨%e8, H8⟩, ⟨%e9, H9⟩, ⟨%e10, H10⟩, Hn0_0_0, ⟨%W', HW'⟩⟩
          isplitl [Hg HA0_0 Hfx0_0 HTsp0_0 HPsp0_0 Hn0_0_0]
          · isplitl [Hg]; · iexact Hg
            isplitl [HA0_0 Hfx0_0 Hn0_0_0]
            · isplitl [HA0_0]
              · iexact HA0_0
              isplitl [Hfx0_0]
              · iexact Hfx0_0
              iexact Hn0_0_0
            isplitl [HTsp0_0]
            · iexact HTsp0_0
            iexact HPsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _)
        · rw [Ring.AtBΦ_lt _ _ _ _ _ t.val (by omega), Ring.AtB22_one' _ _ _ _ t.val hW0 (by decide), Ring.AtBΦ_lt _ _ _ _ _ (t.val + 1) (by omega), Ring.AtB22_next_one' _ _ _ _ t.val hW0]
          iintro ⟨⟨Hg, ⟨⟨⟨Hp0_0_0, HA0_0⟩, ⟨Hq0_0_0, Ht0_0_0⟩, Hcar0_0⟩, HTsp0_0, HPsp0_0⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c t _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) _ _ _ _).2.2.2.2 W _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [Hp0_0_0]; · iexact Hp0_0_0
          isplitl [Hq0_0_0]; · iexact Hq0_0_0
          isplitl [Ht0_0_0]; · iexact Ht0_0_0
          isplitl [HW]; · iexact HW
          iintro ⟨H0, H1, H2, H3, H4, H5, H6, ⟨%e7, H7⟩, ⟨%e8, H8⟩, ⟨%e9, H9⟩, ⟨%e10, H10⟩, Hn0_0_0, ⟨%W', HW'⟩⟩
          isplitl [Hg HA0_0 Hcar0_0 HTsp0_0 HPsp0_0 Hn0_0_0]
          · isplitl [Hg]; · iexact Hg
            isplitl [HA0_0 Hcar0_0 Hn0_0_0]
            · isplitl [HA0_0]
              · iexact HA0_0
              isplitl [Hcar0_0]
              · iexact Hcar0_0
              iexact Hn0_0_0
            isplitl [HTsp0_0]
            · iexact HTsp0_0
            iexact HPsp0_0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _)
          isplitl [H9]
          · unfold owns; iexists _; isplitr
            swap; · iexact H9
            ipureintro; exact View.read_writes_of_cover _ _ _ _ _ (cover0_B_9 c _ _ _ _ _ _ _ _ _ _ _ _ _ _ _ _ _ _ _ _ _ _ _ _ _ _ _ _ _ _ _ _ _ _ _ _ _)
          unfold owns; iexists _; isplitr
          swap; · iexact H10
          ipureintro; exact View.read_writes_of_cover _ _ _ _ _ (cover0_B_10 c _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦDR`: the scratch, the register, the cells at zero, the HBM operands read whole, the
    written result whole at some contents) is the invariant before the first point, the write ring split into its tiles,
    cells and pieces; the invariant after the last point hands it back, joined. -/
theorem hin (c : Dev nD) : Pipeline.ΦDR osem0 spec0 H0 R0 (V m) c ⊢ (dats m 0 c).Φ 0 := by
  rw [PhiDR0_eq, show (dats m 0 c).Φ 0 = PhiR m c 0 from rfl]
  unfold PhiR
  iintro ⟨HRS0_0, Hg, ⟨Hq0, Hq1⟩, -, Ho0⟩
  isplitl [Hg]; · iexact Hg
  iapply (wring0_0_in (F := F) c)
  isplitl [HRS0_0]; · iexact HRS0_0
  isplitl [Hq0 Hq1]
  · isplitl [Hq0]; · iexact Hq0
    iexact Hq1
  iexact Ho0
theorem hout (c : Dev nD) : (dats m 0 c).Φ (Fin.last cfg0.N) ⊢ Pipeline.ΦDR osem0 spec0 H0 R0 (V m) c := by
  rw [PhiDR0_eq, show (dats m 0 c).Φ (Fin.last cfg0.N) = PhiR m c grid0.N from rfl]
  unfold PhiR
  rw [show grid0.N = 8 by rw [N_0]]
  iintro ⟨Hg, HRW0_0⟩
  ihave HX0_0 := (wring0_0_out (F := F) c) $$ HRW0_0
  icases HX0_0 with ⟨HRS0_0, ⟨Hq0, Hq1⟩, Ho0⟩
  isplitl [HRS0_0]
  · iexact HRS0_0
  isplitl [Hg]
  · iexact Hg
  isplitl [Hq0 Hq1]
  · isplitl [Hq0]; · iexact Hq0
    iexact Hq1
  isplitr; · iempintro
  iexact Ho0

/-! ## The run and the frame -/

set_option backward.isDefEq.respectTransparency.types false in
/-- The launch: `run_main`'s statement, and every semaphore counter at zero at every final state. -/
theorem run_main_quiescent : θ_run defs (onTc (τ := τ) (main (F := F))) (s₀ m ρ) (fun r => (Pipeline.FramePostR cfgs (dats m) 0 R0 (V m)) r ∧ r.2.sem = fun _ => 0) :=
  Pipeline.θ_run_frame_dmaR (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- At the compiled mesh, for any values, from any memory with zero counters: every weakly fair execution of @main on the
    TensorCores terminates, and every final state has every array of the pipeline at what the library computes from the
    proof data and every other unscoped buffer but those the body writes by its own transfers (`R0`)
    at its region-entry contents (Lib/Pipeline/Frame.lean `FramePostR`: nothing is said of those). -/
theorem run_main : θ_run defs (onTc (τ := τ) (main (F := F))) (s₀ m ρ) (Pipeline.FramePostR cfgs (dats m) 0 R0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gate

end
-- ==== Proof.Gate.Claim.lean ====
module

public import proofs.«01_k».proof.Defs
public import proofs.«01_k».proof.Proof.Gate.Body
public import proofs.«01_k».proof.Proof.Gen.Kernel
public import proofs.«01_k».proof.Proof.Gen.ReferenceIdeal.Run

@[expose] public section

set_option maxRecDepth 16384

noncomputable section

/-! The claims about the gate's gradient. -/

namespace Cert.Gate

open Idealize.ShloMosaic Idealize.ShloMosaic.TcCoe Idealize.SL.Sem

/-- The body of the call reads the same over machine floats as in the program of the extended reals. -/
theorem bodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  match l, a with
  | ⟨0, _⟩, (t, s) => exact rfl
  | ⟨_ + 1, h⟩, _ => exact absurd h (Nat.not_lt.2 (Nat.le_add_left _ _))

theorem pipelines : @Cert.Kernel.defs Bits _ Cert.Kernel.Gen.facts = @Cert.KernelIdeal.defs Bits _ Cert.KernelIdeal.Gen.facts := by
  unfold Cert.Kernel.defs Cert.KernelIdeal.defs
  exact congrArg (Pipeline.defs _) bodies

/-- The program over machine floats and the one over the extended reals are the same text: one run serves both. -/
theorem frame_kernel : Cert.quiescent_Kernel := by
  intro m ρ _
  rw [pipelines]
  exact Cert.KernelIdeal.Gate.frame (F := Bits) m ρ

theorem frame_ideal : Cert.quiescent_KernelIdeal := fun m ρ _ => Cert.KernelIdeal.Gate.frame m ρ

/-- The reference declares no semaphore. -/
theorem frame_ref : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run m ρ)

end Cert.Gate

end
-- ==== Proof.Common.Real.lean ====
module

public import Idealize.ShloMosaic.Lib.Pipeline.ValueKit

@[expose] public section

noncomputable section

/-! Extended reals that are real numbers, the literals the programs use, and the gradient of the root-mean-square norm
    on one row in the two orders of multiplication the programs use. -/

namespace Cert.Common

open Idealize.ShloMosaic

/-- `e` is a real number. -/
def IsR (e : EReal) : Prop := ∃ r : ℝ, e = (r : EReal)

theorem IsR.coe (r : ℝ) : IsR (r : EReal) := ⟨r, rfl⟩
theorem IsR.zero : IsR 0 := ⟨0, rfl⟩
theorem IsR.add {a b : EReal} (ha : IsR a) (hb : IsR b) : IsR (a + b) := by
  obtain ⟨x, rfl⟩ := ha; obtain ⟨y, rfl⟩ := hb; exact ⟨x + y, (EReal.coe_add x y).symm⟩
theorem IsR.mul {a b : EReal} (ha : IsR a) (hb : IsR b) : IsR (a * b) := by
  obtain ⟨x, rfl⟩ := ha; obtain ⟨y, rfl⟩ := hb; exact ⟨x * y, (EReal.coe_mul x y).symm⟩
theorem IsR.sub {a b : EReal} (ha : IsR a) (hb : IsR b) : IsR (a - b) := by
  obtain ⟨x, rfl⟩ := ha; obtain ⟨y, rfl⟩ := hb; exact ⟨x - y, (EReal.coe_sub x y).symm⟩
theorem IsR.max {a b : EReal} (ha : IsR a) (hb : IsR b) : IsR (max a b) := by
  rcases max_choice a b with h | h <;> rw [h] <;> assumption

theorem coe_sum {n : ℕ} (f : Fin n → ℝ) : ∑ k, (f k : EReal) = ((∑ k, f k : ℝ) : EReal) := by
  induction n with
  | zero => simp
  | succ n ih => rw [Fin.sum_univ_succ, Fin.sum_univ_succ, ih, EReal.coe_add]

theorem IsR.sum {n : ℕ} {f : Fin n → EReal} (h : ∀ k, IsR (f k)) : IsR (∑ k, f k) := by
  choose g hg using h
  rw [Finset.sum_congr rfl fun k _ => hg k, coe_sum]
  exact ⟨_, rfl⟩

/-- A number whose absolute value is below infinity is real. -/
theorem IsR.of_abs_lt {a : EReal} (h : Max.max a (-a) < ⊤) : IsR a := by
  induction a using EReal.rec with
  | bot => simp at h
  | top => simp at h
  | coe r => exact ⟨r, rfl⟩

theorem two : Ideal.ofBits .f32 0x40000000#32 = ((2 : ℝ) : EReal) := by
  simp [Ideal.ofBits, Ideal.ieee, -EReal.coe_mul]; norm_num
theorem width : Ideal.ofBits .f32 0x44800000#32 = ((1024 : ℝ) : EReal) := by
  simp [Ideal.ofBits, Ideal.ieee, -EReal.coe_mul]; norm_num
theorem negHalf : Ideal.ofBits .f32 0xBF000000#32 = ((-(1 / 2) : ℝ) : EReal) := by
  simp [Ideal.ofBits, Ideal.ieee, -EReal.coe_mul]; norm_num
theorem eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem width768 : Ideal.ofBits .f32 0x44400000#32 = ((768 : ℝ) : EReal) := by
  simp [Ideal.ofBits, Ideal.ieee, -EReal.coe_mul]; norm_num
theorem width256 : Ideal.ofBits .f32 0x43800000#32 = ((256 : ℝ) : EReal) := by
  simp [Ideal.ofBits, Ideal.ieee, -EReal.coe_mul]; norm_num

/-- The mean square of a row, `w` being its width, plus the constant that keeps it positive. -/
def msW {n : ℕ} (w : EReal) (x : Fin n → EReal) : EReal :=
  Ideal.div (∑ k, x k * x k) w + Ideal.ofBits .f32 0x358637BD#32

/-- The reciprocal root mean square of a row. -/
def rsW {n : ℕ} (w : EReal) (x : Fin n → EReal) : EReal := Ideal.rsqrt (msW w x)

/-- The same on a row of 1024. -/
def ms (x : Fin 1024 → EReal) : EReal :=
  Ideal.div (∑ k, x k * x k) (Ideal.ofBits .f32 0x44800000#32) + Ideal.ofBits .f32 0x358637BD#32
def rs (x : Fin 1024 → EReal) : EReal := Ideal.rsqrt (ms x)

/-- On a real row the mean square is a positive real and its reciprocal root is the real one. -/
theorem rsW_real {n : ℕ} {w : EReal} {W : ℝ} (hW : 0 < W) (hw : w = (W : EReal)) (x : Fin n → ℝ) :
    ∃ q : ℝ, 0 < q ∧ msW w (fun k => (x k : EReal)) = (q : EReal) ∧
      rsW w (fun k => (x k : EReal)) = ((Real.sqrt q)⁻¹ : ℝ) := by
  obtain ⟨e, he, hE⟩ := eps
  have hms : msW w (fun k => (x k : EReal)) = (((∑ k, x k * x k) * (1 / W) + e : ℝ) : EReal) := by
    unfold msW
    rw [hE, hw, Ideal.div_coe hW.ne']
    simp only [← EReal.coe_mul, coe_sum, ← EReal.coe_add]
  have hq : 0 < (∑ k, x k * x k) * (1 / W) + e :=
    add_pos_of_nonneg_of_pos (mul_nonneg (Finset.sum_nonneg fun k _ => mul_self_nonneg _) (by positivity)) he
  refine ⟨_, hq, hms, ?_⟩
  unfold rsW
  rw [hms, Ideal.rsqrt_coe, if_neg (not_lt.mpr hq.le), if_neg hq.ne']

theorem IsR.rsW {n : ℕ} {w : EReal} {W : ℝ} (hW : 0 < W) (hw : w = (W : EReal)) {x : Fin n → EReal} (h : ∀ k, IsR (x k)) :
    IsR (Common.rsW w x) := by
  choose y hy using h
  obtain rfl : x = fun k => (y k : EReal) := funext hy
  obtain ⟨q, _, _, h⟩ := rsW_real hW hw y
  exact ⟨_, h⟩

theorem IsR.rs {x : Fin 1024 → EReal} (h : ∀ k, IsR (x k)) : IsR (Common.rs x) :=
  IsR.rsW (by norm_num) width h

/-- The gradient of the root-mean-square norm on a row: the three terms of the chain rule are the reciprocal root times
    the gradient less its projection on the normalised row. -/
theorem rms_gradW {n : ℕ} {w : EReal} {W : ℝ} (hW : 0 < W) (hw : w = (W : EReal)) (x d : Fin n → EReal)
    (hx : ∀ k, IsR (x k)) (hd : ∀ k, IsR (d k)) (k : Fin n) :
    d k * rsW w x + x k * Ideal.div ((∑ j, x j * d j) * (Ideal.ofBits .f32 0xBF000000#32 * Ideal.div (rsW w x) (msW w x))) w
        + Ideal.div ((∑ j, x j * d j) * (Ideal.ofBits .f32 0xBF000000#32 * Ideal.div (rsW w x) (msW w x))) w * x k
      = rsW w x * (d k - x k * rsW w x * Ideal.div (∑ j, d j * (x j * rsW w x)) w) := by
  choose x' hx' using hx
  choose d' hd' using hd
  obtain rfl : x = fun k => (x' k : EReal) := funext hx'
  obtain rfl : d = fun k => (d' k : EReal) := funext hd'
  obtain ⟨q, hq, hms, hrs⟩ := rsW_real hW hw x'
  rw [hms, hrs, negHalf, hw, Ideal.div_coe hq.ne', Ideal.div_coe hW.ne', Ideal.div_coe hW.ne']
  simp only [← EReal.coe_mul, coe_sum, ← EReal.coe_add, ← EReal.coe_sub]
  refine congrArg _ ?_
  have hs : (Real.sqrt q)⁻¹ * (Real.sqrt q)⁻¹ = 1 / q := by
    rw [← mul_inv, Real.mul_self_sqrt hq.le, one_div]
  generalize (Real.sqrt q)⁻¹ = r at hs ⊢
  have e1 : ∑ j, d' j * (x' j * r) = (∑ j, x' j * d' j) * r := by
    rw [Finset.sum_mul]; exact Finset.sum_congr rfl fun j _ => by ring
  rw [e1, ← hs]
  ring

/-- The gradient at a row of the norm's input, from the gradient `e` at the normalised row. -/
def normBack {n : ℕ} (w : EReal) (x e : Fin n → EReal) (k : Fin n) : EReal :=
  rsW w x * (e k - x k * rsW w x * Ideal.div (∑ j, e j * (x j * rsW w x)) w)

/-- The chain rule's three terms, after a term that passes by the norm. -/
theorem normBack_add {n : ℕ} {w : EReal} {W : ℝ} (hW : 0 < W) (hw : w = (W : EReal)) (c : EReal) (x e : Fin n → EReal)
    (hx : ∀ k, IsR (x k)) (he : ∀ k, IsR (e k)) (k : Fin n) :
    c + e k * rsW w x + x k * Ideal.div ((∑ j, x j * e j) * (Ideal.ofBits .f32 0xBF000000#32 * Ideal.div (rsW w x) (msW w x))) w
        + Ideal.div ((∑ j, x j * e j) * (Ideal.ofBits .f32 0xBF000000#32 * Ideal.div (rsW w x) (msW w x))) w * x k
      = c + normBack w x e k := by
  unfold normBack
  rw [← rms_gradW hW hw x e hx he k, add_assoc, add_assoc, add_assoc]

/-- The same on a row of 1024. -/
theorem rms_grad (x d : Fin 1024 → EReal) (hx : ∀ k, IsR (x k)) (hd : ∀ k, IsR (d k)) (k : Fin 1024) :
    d k * rs x + x k * Ideal.div ((∑ j, x j * d j) * (Ideal.ofBits .f32 0xBF000000#32 * Ideal.div (rs x) (ms x))) (Ideal.ofBits .f32 0x44800000#32)
        + Ideal.div ((∑ j, x j * d j) * (Ideal.ofBits .f32 0xBF000000#32 * Ideal.div (rs x) (ms x))) (Ideal.ofBits .f32 0x44800000#32) * x k
      = rs x * (d k - x k * rs x * Ideal.div (∑ j, d j * (x j * rs x)) (Ideal.ofBits .f32 0x44800000#32)) :=
  rms_gradW (by norm_num) width x d hx hd k

end Cert.Common

end
-- ==== Proof.Ffn.Spec.lean ====
module

public import proofs.«01_k».proof.Proof.Common.Real

@[expose] public section

noncomputable section

/-! The gradients of the feed-forward block row by row: `x` a row of the block's input, `ct` the gradient of its output
    on that row, `g` the norm's gain, `w1` and `w2` the two weights. -/

namespace Cert.Ffn

open Idealize.ShloMosaic Cert.Common

/-- The hidden layer before the rectifier. -/
def pre (x g : Fin 1024 → EReal) (w1 : Fin 1024 → Fin 4096 → EReal) (f : Fin 4096) : EReal :=
  ∑ k, x k * rs x * g k * w1 k f

/-- The gradient at the hidden layer, before the rectifier. -/
def da (x g : Fin 1024 → EReal) (w1 : Fin 1024 → Fin 4096 → EReal) (w2 : Fin 4096 → Fin 1024 → EReal) (ct : Fin 1024 → EReal) (f : Fin 4096) : EReal :=
  (∑ k, ct k * w2 f k) * (Ideal.ofBits .f32 0x40000000#32 * max (pre x g w1 f) 0)

/-- The gradient at the normalised row. -/
def dn (x g : Fin 1024 → EReal) (w1 : Fin 1024 → Fin 4096 → EReal) (w2 : Fin 4096 → Fin 1024 → EReal) (ct : Fin 1024 → EReal) (k : Fin 1024) : EReal :=
  ∑ f, da x g w1 w2 ct f * w1 k f

/-- The gradient at the block's input: what passes by the block, and what goes through the norm. -/
def dh (x g : Fin 1024 → EReal) (w1 : Fin 1024 → Fin 4096 → EReal) (w2 : Fin 4096 → Fin 1024 → EReal) (ct : Fin 1024 → EReal) (k : Fin 1024) : EReal :=
  ct k + rs x * (dn x g w1 w2 ct k * g k
    - x k * rs x * Ideal.div (∑ j, dn x g w1 w2 ct j * g j * (x j * rs x)) (Ideal.ofBits .f32 0x44800000#32))

/-- One row's part of the gradient of the norm's gain. -/
def dg (x g : Fin 1024 → EReal) (w1 : Fin 1024 → Fin 4096 → EReal) (w2 : Fin 4096 → Fin 1024 → EReal) (ct : Fin 1024 → EReal) (k : Fin 1024) : EReal :=
  dn x g w1 w2 ct k * (x k * rs x)

/-- A sum over the hidden layer, taken eight tiles of 512 at a time. -/
theorem sum_tiles (f : Fin 4096 → EReal) : ∑ l : Fin 4096, f l
    = (∑ x : Fin 512, f ⟨0 + x, by omega⟩) + (∑ x : Fin 512, f ⟨512 + x, by omega⟩) + (∑ x : Fin 512, f ⟨1024 + x, by omega⟩) + (∑ x : Fin 512, f ⟨1536 + x, by omega⟩)
      + (∑ x : Fin 512, f ⟨2048 + x, by omega⟩) + (∑ x : Fin 512, f ⟨2560 + x, by omega⟩) + (∑ x : Fin 512, f ⟨3072 + x, by omega⟩) + (∑ x : Fin 512, f ⟨3584 + x, by omega⟩) := by
  rw [← Fin.sum_mul_add_fin 8 512 f]
  simp only [Fin.sum_univ_eight]
  rfl

/-- Where the hidden layer is not positive its rectified value is zero, so leaving the product out changes nothing. -/
theorem ite_relu (a t p : EReal) : (if 0 < p then a * (t * max p 0) else 0) = a * (t * max p 0) := by
  split
  · rfl
  · rename_i h
    rw [max_eq_right (not_lt.mp h), mul_zero, mul_zero]

/-- The chain rule's three terms are the gradient at the input, on real arrays. -/
theorem dh_eq (x g : Fin 1024 → EReal) (w1 : Fin 1024 → Fin 4096 → EReal) (w2 : Fin 4096 → Fin 1024 → EReal) (ct : Fin 1024 → EReal)
    (hx : ∀ k, IsR (x k)) (hg : ∀ k, IsR (g k)) (hw1 : ∀ k f, IsR (w1 k f)) (hw2 : ∀ f k, IsR (w2 f k)) (hc : ∀ k, IsR (ct k)) (k : Fin 1024) :
    ct k + dn x g w1 w2 ct k * g k * rs x
        + x k * Ideal.div ((∑ j, x j * (dn x g w1 w2 ct j * g j)) * (Ideal.ofBits .f32 0xBF000000#32 * Ideal.div (rs x) (ms x))) (Ideal.ofBits .f32 0x44800000#32)
        + Ideal.div ((∑ j, x j * (dn x g w1 w2 ct j * g j)) * (Ideal.ofBits .f32 0xBF000000#32 * Ideal.div (rs x) (ms x))) (Ideal.ofBits .f32 0x44800000#32) * x k
      = dh x g w1 w2 ct k := by
  have hpre : ∀ f, IsR (pre x g w1 f) := fun f => IsR.sum fun k => (((hx k).mul (IsR.rs hx)).mul (hg k)).mul (hw1 k f)
  have hda : ∀ f, IsR (da x g w1 w2 ct f) := fun f =>
    (IsR.sum fun k => (hc k).mul (hw2 f k)).mul (IsR.mul ⟨2, two⟩ ((hpre f).max IsR.zero))
  have hdn : ∀ k, IsR (dn x g w1 w2 ct k) := fun k => IsR.sum fun f => (hda f).mul (hw1 k f)
  unfold dh
  rw [← rms_grad x (fun k => dn x g w1 w2 ct k * g k) hx (fun k => (hdn k).mul (hg k)) k, add_assoc, add_assoc, add_assoc]

end Cert.Ffn

end
-- ==== Proof.Ffn.Block.lean ====
module

public import proofs.«01_k».proof.Proof.Gen.FfnKernelIdeal.Value
public import Idealize.ShloMosaic.Lib.Pipeline.ValueKit
public import proofs.«01_k».proof.Proof.Ffn.Spec

@[expose] public section

set_option maxRecDepth 16384

noncomputable section

namespace Cert.FfnKernelIdeal.Grad

open Cert.FfnKernelIdeal Cert.FfnKernelIdeal.Gen
open Idealize.ShloMosaic Idealize.ShloMosaic.TcCoe Idealize.SL.Sem
open Idealize.ShloMosaic.Pipeline (Dat)
open Cert.Common

variable (m : (ℓ : Loc nD τ sig) → Buf (Elt Ideal) ℓ)

/-- The gradient at the hidden layer's input, on one block of rows: `ct` against a row of the second weight, times twice the rectified value. -/
def daB (x0 : FVec Ideal S512x1024 .bf16) (x2 : FVec Ideal S512x4096 .bf16) (x5 : FVec Ideal S4096x1024 .bf16) : FVec Ideal S512x4096 .bf16 :=
  fun j => (∑ k : Fin 1024, x0 (ix2 (j 0) k) * x5 (ix2 (j 1) k)) * (Ideal.ofBits FTy.f32 0x40000000#32 * x2 j)

set_option maxHeartbeats 2000000 in
theorem da_A (c : Dev nD) (t : Fin cfg0.N) (h : t.val % 16 = 0) (y : S512x4096.Idx) :
    (outsAt0 m c t.val t.isLt).1 y = daB (iblk m c 0 t) (iblk m c 2 t) (iblk m c 5 t) y := by
  rw [outsAt0_A m c t h]
  frame_out
  canon_tiles x h
  all_goals
    idx_vars x
    pointwise [k0_pay8, k0_pay10, k0_pay11, k0_pay13, k0_pay15, k0_pay16, k0_pay18, k0_pay19, k0_pay20, k0_pay7, daB]
  all_goals blk_point []

set_option maxHeartbeats 2000000 in
theorem da_B (c : Dev nD) (t : Fin cfg0.N) (h : ¬t.val % 16 = 0) (y : S512x4096.Idx) :
    (outsAt0 m c t.val t.isLt).1 y = daB (iblk m c 0 t) (iblk m c 2 t) (iblk m c 5 t) y := by
  rw [outsAt0_B m c t h]
  frame_out
  canon_tiles x h
  all_goals
    idx_vars x
    pointwise [k0_pay8, k0_pay10, k0_pay11, k0_pay13, k0_pay15, k0_pay16, k0_pay18, k0_pay19, k0_pay20, k0_pay7, daB]
  all_goals blk_point []

/-- The hidden gradient pulled back through the first weight, on one block of rows. -/
def dnB (x0 : FVec Ideal S512x1024 .bf16) (x2 : FVec Ideal S512x4096 .bf16) (x5 x6 : FVec Ideal S4096x1024 .bf16) : FVec Ideal S512x1024 .f32 :=
  fun j => ∑ f : Fin 4096, daB x0 x2 x5 (ix2 (j 0) f) * x6 (ix2 f (j 1))

theorem dn_eq (x0 : FVec Ideal S512x1024 .bf16) (x2 : FVec Ideal S512x4096 .bf16) (x5 x6 : FVec Ideal S4096x1024 .bf16) :
    k0_pay21 (F := Ideal) (k0_pay7 x0)
        (k0_pay17 (k0_pay7 x0)
          (k0_pay12 (k0_pay7 x0)
            (k0_pay9 x0
              (View.ld (Val := Elt Ideal) (S := S4096x1024) (e' := .bf16) x5 (Rect.unit ![0, 0] ![512, 1024] inb_S4096x1024_S512x1024_0_0))
              (View.ld (Val := Elt Ideal) (S := S512x4096) (e' := .bf16) x2 (Rect.unit ![0, 0] ![512, 512] inb_S512x4096_S512x512_0_0))
              (View.ld (Val := Elt Ideal) (S := S4096x1024) (e' := .bf16) x6 (Rect.unit ![0, 0] ![512, 1024] inb_S4096x1024_S512x1024_0_0)))
            (k0_pay10 x0
              (View.ld (Val := Elt Ideal) (S := S4096x1024) (e' := .bf16) x5 (Rect.unit ![512, 0] ![512, 1024] inb_S4096x1024_S512x1024_512_0))
              (View.ld (Val := Elt Ideal) (S := S512x4096) (e' := .bf16) x2 (Rect.unit ![0, 512] ![512, 512] inb_S512x4096_S512x512_0_512)))
            (View.ld (Val := Elt Ideal) (S := S4096x1024) (e' := .bf16) x6 (Rect.unit ![512, 0] ![512, 1024] inb_S4096x1024_S512x1024_512_0))
            (View.ld (Val := Elt Ideal) (S := S4096x1024) (e' := .bf16) x5 (Rect.unit ![1024, 0] ![512, 1024] inb_S4096x1024_S512x1024_1024_0))
            (View.ld (Val := Elt Ideal) (S := S512x4096) (e' := .bf16) x2 (Rect.unit ![0, 1024] ![512, 512] inb_S512x4096_S512x512_0_1024))
            (View.ld (Val := Elt Ideal) (S := S4096x1024) (e' := .bf16) x6 (Rect.unit ![1024, 0] ![512, 1024] inb_S4096x1024_S512x1024_1024_0)))
          (k0_pay14 (k0_pay7 x0)
            (View.ld (Val := Elt Ideal) (S := S4096x1024) (e' := .bf16) x5 (Rect.unit ![1536, 0] ![512, 1024] inb_S4096x1024_S512x1024_1536_0))
            (View.ld (Val := Elt Ideal) (S := S512x4096) (e' := .bf16) x2 (Rect.unit ![0, 1536] ![512, 512] inb_S512x4096_S512x512_0_1536))
            (View.ld (Val := Elt Ideal) (S := S4096x1024) (e' := .bf16) x6 (Rect.unit ![1536, 0] ![512, 1024] inb_S4096x1024_S512x1024_1536_0)))
          (View.ld (Val := Elt Ideal) (S := S4096x1024) (e' := .bf16) x5 (Rect.unit ![2048, 0] ![512, 1024] inb_S4096x1024_S512x1024_2048_0))
          (View.ld (Val := Elt Ideal) (S := S512x4096) (e' := .bf16) x2 (Rect.unit ![0, 2048] ![512, 512] inb_S512x4096_S512x512_0_2048))
          (View.ld (Val := Elt Ideal) (S := S4096x1024) (e' := .bf16) x6 (Rect.unit ![2048, 0] ![512, 1024] inb_S4096x1024_S512x1024_2048_0))
          (View.ld (Val := Elt Ideal) (S := S4096x1024) (e' := .bf16) x5 (Rect.unit ![2560, 0] ![512, 1024] inb_S4096x1024_S512x1024_2560_0))
          (View.ld (Val := Elt Ideal) (S := S512x4096) (e' := .bf16) x2 (Rect.unit ![0, 2560] ![512, 512] inb_S512x4096_S512x512_0_2560))
          (View.ld (Val := Elt Ideal) (S := S4096x1024) (e' := .bf16) x6 (Rect.unit ![2560, 0] ![512, 1024] inb_S4096x1024_S512x1024_2560_0)))
        (k0_pay18 (View.ld (Val := Elt Ideal) (S := S4096x1024) (e' := .bf16) x5 (Rect.unit ![3072, 0] ![512, 1024] inb_S4096x1024_S512x1024_3072_0)))
        (constant S512x512 FTy.f32 0#32)
        (View.ld (Val := Elt Ideal) (S := S512x4096) (e' := .bf16) x2 (Rect.unit ![0, 3072] ![512, 512] inb_S512x4096_S512x512_0_3072))
        (View.ld (Val := Elt Ideal) (S := S4096x1024) (e' := .bf16) x6 (Rect.unit ![3072, 0] ![512, 1024] inb_S4096x1024_S512x1024_3072_0))
        (View.ld (Val := Elt Ideal) (S := S4096x1024) (e' := .bf16) x5 (Rect.unit ![3584, 0] ![512, 1024] inb_S4096x1024_S512x1024_3584_0))
        (View.ld (Val := Elt Ideal) (S := S512x4096) (e' := .bf16) x2 (Rect.unit ![0, 3584] ![512, 512] inb_S512x4096_S512x512_0_3584))
        (View.ld (Val := Elt Ideal) (S := S4096x1024) (e' := .bf16) x6 (Rect.unit ![3584, 0] ![512, 1024] inb_S4096x1024_S512x1024_3584_0))
    = dnB x0 x2 x5 x6 := by
  funext j
  idx_vars j
  unfold dnB
  rw [Ffn.sum_tiles]
  pointwise [k0_pay8, k0_pay9, k0_pay10, k0_pay11, k0_pay12, k0_pay13, k0_pay14, k0_pay15, k0_pay16, k0_pay17, k0_pay18, k0_pay19, k0_pay20, k0_pay21, k0_pay7, daB]

/-- The gradient at the block's input, on one block of rows. -/
def dhB (x1 x3 dn : FVec Ideal S512x1024 .f32) (x4 : FVec Ideal S1x1024 .f32) : FVec Ideal S512x1024 .f32 := fun j =>
  x1 j + rs (fun k => x3 (ix2 (j 0) k)) * (dn j * x4 (ix2 0 (j 1))
    - x3 j * rs (fun k => x3 (ix2 (j 0) k)) * Ideal.div (∑ k : Fin 1024, dn (ix2 (j 0) k) * x4 (ix2 0 k) * (x3 (ix2 (j 0) k) * rs (fun k => x3 (ix2 (j 0) k)))) (Ideal.ofBits .f32 0x44800000#32))

theorem dh_eq (x1 x3 dn : FVec Ideal S512x1024 .f32) (x4 : FVec Ideal S1x1024 .f32) :
    k0_pay4 (F := Ideal) dn x3 (k0_pay22 x3) (FloatOps.ofBits FTy.f32 897988541#32) x1 x4 = dhB x1 x3 dn x4 := by
  funext j
  idx_vars j
  pointwise [k0_pay4, k0_pay2, k0_pay1, k0_pay22, dhB, rs, ms]

theorem dh16_eq (x1 x3 dn : FVec Ideal S512x1024 .f32) (x4 : FVec Ideal S1x1024 .f32) :
    k0_pay5 (F := Ideal) dn x3 (k0_pay22 x3) (FloatOps.ofBits FTy.f32 897988541#32) x1 x4 = dhB x1 x3 dn x4 := by
  rw [← dh_eq]; rfl

/-- One block's part of the gradient of the gain. -/
def dgB (x3 dn : FVec Ideal S512x1024 .f32) (k : Fin 1024) : EReal :=
  ∑ a : Fin 512, dn (ix2 a k) * (x3 (ix2 a k) * rs (fun k => x3 (ix2 a k)))

theorem dg_eq (x3 dn : FVec Ideal S512x1024 .f32) (g : FVec Ideal S8x1024 .f32) (a : Fin 8) (k : Fin 1024) :
    k0_pay3 (F := Ideal) dn x3 (k0_pay22 x3) (FloatOps.ofBits FTy.f32 897988541#32) g (ix2 a k) = g (ix2 a k) + dgB x3 dn k := by
  pointwise [k0_pay3, k0_pay2, k0_pay1, k0_pay22, dgB, rs, ms]

theorem dh_A (c : Dev nD) (t : Fin cfg0.N) (h : t.val % 16 = 0) :
    (outsAt0 m c t.val t.isLt).2.1 = dhB (iblk m c 1 t) (iblk m c 3 t) (dnB (iblk m c 0 t) (iblk m c 2 t) (iblk m c 5 t) (iblk m c 6 t)) (iblk m c 4 t) := by
  funext y
  rw [outsAt0_A m c t h]
  frame_out
  rw [dn_eq, dh_eq]

theorem dh_B (c : Dev nD) (t : Fin cfg0.N) (h : ¬t.val % 16 = 0) :
    (outsAt0 m c t.val t.isLt).2.1 = dhB (iblk m c 1 t) (iblk m c 3 t) (dnB (iblk m c 0 t) (iblk m c 2 t) (iblk m c 5 t) (iblk m c 6 t)) (iblk m c 4 t) := by
  funext y
  rw [outsAt0_B m c t h]
  frame_out
  rw [dn_eq, dh_eq]

theorem dh16_A (c : Dev nD) (t : Fin cfg0.N) (h : t.val % 16 = 0) :
    (outsAt0 m c t.val t.isLt).2.2.1 = dhB (iblk m c 1 t) (iblk m c 3 t) (dnB (iblk m c 0 t) (iblk m c 2 t) (iblk m c 5 t) (iblk m c 6 t)) (iblk m c 4 t) := by
  funext y
  rw [outsAt0_A m c t h]
  frame_out
  rw [dn_eq, dh16_eq]

theorem dh16_B (c : Dev nD) (t : Fin cfg0.N) (h : ¬t.val % 16 = 0) :
    (outsAt0 m c t.val t.isLt).2.2.1 = dhB (iblk m c 1 t) (iblk m c 3 t) (dnB (iblk m c 0 t) (iblk m c 2 t) (iblk m c 5 t) (iblk m c 6 t)) (iblk m c 4 t) := by
  funext y
  rw [outsAt0_B m c t h]
  frame_out
  rw [dn_eq, dh16_eq]

theorem dg_A (c : Dev nD) (t : Fin cfg0.N) (h : t.val % 16 = 0) (a : Fin 8) (k : Fin 1024) :
    (outsAt0 m c t.val t.isLt).2.2.2 (ix2 a k) = 0 + dgB (iblk m c 3 t) (dnB (iblk m c 0 t) (iblk m c 2 t) (iblk m c 5 t) (iblk m c 6 t)) k := by
  rw [outsAt0_A m c t h]
  frame_out
  rw [dn_eq, dg_eq]
  pointwise [k0_pay6]

theorem dg_B (c : Dev nD) (t : Fin cfg0.N) (h : ¬t.val % 16 = 0) (a : Fin 8) (k : Fin 1024) :
    (outsAt0 m c t.val t.isLt).2.2.2 (ix2 a k) = (outsAt0 m c (t.val - 1) (Nat.lt_of_le_of_lt (Nat.sub_le _ _) t.isLt)).2.2.2 (ix2 a k)
      + dgB (iblk m c 3 t) (dnB (iblk m c 0 t) (iblk m c 2 t) (iblk m c 5 t) (iblk m c 6 t)) k := by
  rw [outsAt0_B m c t h]
  frame_out
  rw [dn_eq, dg_eq]

end Cert.FfnKernelIdeal.Grad

end
-- ==== Proof.Ffn.Host.lean ====
module

public import proofs.«01_k».proof.Proof.Gen.FfnKernelIdeal.Value
public import Idealize.ShloMosaic.Lib.Pipeline.ValueKit
public import proofs.«01_k».proof.Proof.Ffn.Spec

@[expose] public section

set_option maxRecDepth 16384

noncomputable section

namespace Cert.FfnKernelIdeal.Grad

open Cert.FfnKernelIdeal Cert.FfnKernelIdeal.Gen
open Idealize.ShloMosaic Idealize.ShloMosaic.TcCoe Idealize.SL.Sem
open Idealize.ShloMosaic.Pipeline (Dat)
open Cert.Common Cert.Ffn

variable (m : (ℓ : Loc nD τ sig) → Buf (Elt Ideal) ℓ)

/-- The rectified hidden layer as the host computes it. -/
def reluH (X : FVec Ideal S8192x1024 .f32) (G : FVec Ideal S1024 .f32) (W1 : FVec Ideal S1024x4096 .f32) : FVec Ideal S8192x4096 .bf16 :=
  truncf .bf16 (maximumf
            (Host.dotGeneral dot_S8192x1024_S1024x4096_S8192x4096_1_0_0_1_n_n none
              (mulf
                (mulf X
                  (broadcastInDim S8192x1024 ![0, 1] bcast_S8192x1_S8192x1024_0_1
                    (Host.rsqrt
                      (addf
                        (Host.divf
                          (broadcastInDim S8192x1 ![0] bcast_S8192_S8192x1_0
                            (Host.reduceAdd (mulf X X)
                              (constant S_ FTy.f32 0#32) reducesTo_S8192x1024_S8192_d1 h_S_))
                          (broadcastInDim S8192x1 ![] bcast_S_S8192x1 (constant S_ FTy.f32 1149239296#32)))
                        (broadcastInDim S8192x1 ![] bcast_S_S8192x1 (constant S_ FTy.f32 897988541#32))))))
                (broadcastInDim S8192x1024 ![0, 1] bcast_S1x1024_S8192x1024_0_1
                  (broadcastInDim S1x1024 ![1] bcast_S1024_S1x1024_1 G)))
              W1)
              (broadcastInDim S8192x4096 ![] bcast_S_S8192x4096
                    (constant S_ FTy.f32 0#32))) bitsLt_bf16_f32

theorem V_relu (c : Dev nD) : V m c main_v15 = reluH (m ((c.tc : Thread nD τ).loc main_arg0)) (m ((c.tc : Thread nD τ).loc main_arg1)) (m ((c.tc : Thread nD τ).loc main_arg2)) := by
  simp only [V, hostOps0, hostOps0_1, hostOps0_2, List.flatten_cons, List.flatten_nil, List.append_nil, List.cons_append, List.nil_append]; after_results
  rfl

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW1 (c : Dev nD) (k : Fin 1024) (f : Fin 4096) : EReal := (m ((c.tc : Thread nD τ).loc main_arg2) : FVec Ideal S1024x4096 .f32) (ix2 k f)
def aW2 (c : Dev nD) (f : Fin 4096) (k : Fin 1024) : EReal := (m ((c.tc : Thread nD τ).loc main_arg3) : FVec Ideal S4096x1024 .f32) (ix2 f k)
def aC (c : Dev nD) (i : Fin 8192) (k : Fin 1024) : EReal := (m ((c.tc : Thread nD τ).loc main_arg4) : FVec Ideal S8192x1024 .f32) (ix2 i k)

theorem relu_at (c : Dev nD) (i : Fin 8192) (f : Fin 4096) :
    (V m c main_v15 : FVec Ideal S8192x4096 .bf16) (ix2 i f) = max (pre (aX m c i) (aG m c) (aW1 m c) f) 0 := by
  rw [V_relu]
  pointwise [reluH]
  rfl

theorem V_ct (c : Dev nD) : V m c main_v16 = (truncf .bf16 (m ((c.tc : Thread nD τ).loc main_arg4) : FVec Ideal S8192x1024 .f32) bitsLt_bf16_f32 : FVec Ideal S8192x1024 .bf16) := by
  simp only [V, hostOps0, hostOps0_1, hostOps0_2, List.flatten_cons, List.flatten_nil, List.append_nil, List.cons_append, List.nil_append]; after_results

theorem ct_at (c : Dev nD) (i : Fin 8192) (k : Fin 1024) : (V m c main_v16 : FVec Ideal S8192x1024 .bf16) (ix2 i k) = aC m c i k := by
  rw [V_ct]; rfl

theorem V_g (c : Dev nD) : V m c main_v17 = (shapeCast S1x1024 (m ((c.tc : Thread nD τ).loc main_arg1) : FVec Ideal S1024 .f32) shapeCasts_S1024_S1x1024 : FVec Ideal S1x1024 .f32) := by
  simp only [V, hostOps0, hostOps0_1, hostOps0_2, List.flatten_cons, List.flatten_nil, List.append_nil, List.cons_append, List.nil_append]; after_results
  rfl

theorem g_at (c : Dev nD) (i : Fin 1) (k : Fin 1024) : (V m c main_v17 : FVec Ideal S1x1024 .f32) (ix2 i k) = aG m c k := by
  rw [V_g]; pointwise []; rfl

theorem V_w2 (c : Dev nD) : V m c main_v18 = (truncf .bf16 (m ((c.tc : Thread nD τ).loc main_arg3) : FVec Ideal S4096x1024 .f32) bitsLt_bf16_f32 : FVec Ideal S4096x1024 .bf16) := by
  simp only [V, hostOps0, hostOps0_1, hostOps0_2, List.flatten_cons, List.flatten_nil, List.append_nil, List.cons_append, List.nil_append]; after_results

theorem w2_at (c : Dev nD) (f : Fin 4096) (k : Fin 1024) : (V m c main_v18 : FVec Ideal S4096x1024 .bf16) (ix2 f k) = aW2 m c f k := by
  rw [V_w2]; rfl

theorem V_w1 (c : Dev nD) : V m c main_v20 = (truncf .bf16 (transpose S4096x1024 [1, 0] (m ((c.tc : Thread nD τ).loc main_arg2) : FVec Ideal S1024x4096 .f32) transposes_S1024x4096_S4096x1024_1_0) bitsLt_bf16_f32 : FVec Ideal S4096x1024 .bf16) := by
  simp only [V, hostOps0, hostOps0_1, hostOps0_2, List.flatten_cons, List.flatten_nil, List.append_nil, List.cons_append, List.nil_append]; after_results

theorem w1_at (c : Dev nD) (f : Fin 4096) (k : Fin 1024) : (V m c main_v20 : FVec Ideal S4096x1024 .bf16) (ix2 f k) = aW1 m c k f := by
  rw [V_w1]; pointwise []; rfl

theorem V_x (c : Dev nD) : V m c main_arg0 = m ((c.tc : Thread nD τ).loc main_arg0) := by
  simp only [V, hostOps0, hostOps0_1, hostOps0_2, List.flatten_cons, List.flatten_nil, List.append_nil, List.cons_append, List.nil_append]; after_results

theorem V_ct32 (c : Dev nD) : V m c main_arg4 = m ((c.tc : Thread nD τ).loc main_arg4) := by
  simp only [V, hostOps0, hostOps0_1, hostOps0_2, List.flatten_cons, List.flatten_nil, List.append_nil, List.cons_append, List.nil_append]; after_results

/-- Where each point's blocks lie. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![0, 0] ∧ t.val < 16 :=
  (by decide +kernel : ∀ t : Fin grid0.N, _)

/-- Row `a` of block `t`. -/
def row (t : Fin cfg0.N) (a : Fin 512) : Fin 8192 := ⟨t.val * 512 + a.val, by have := (idx t).2.2.2.2.2.2.2.2.2.2.2; omega⟩

theorem b0 (c : Dev nD) (t : Fin cfg0.N) (a : Fin 512) (k : Fin 1024) : (iblk m c 0 t : FVec Ideal S512x1024 .bf16) (ix2 a k) = aC m c (row t a) k := by
  blk_simp [iblk]
  refine (congrArg (V m c main_v16) (?_ : _ = ix2 (row t a) k)).trans (ct_at m c _ _)
  blk_ext [idx t, row]

theorem b1 (c : Dev nD) (t : Fin cfg0.N) (a : Fin 512) (k : Fin 1024) : (iblk m c 1 t : FVec Ideal S512x1024 .f32) (ix2 a k) = aC m c (row t a) k := by
  blk_simp [iblk]
  refine (congrArg (V m c main_arg4) (?_ : _ = ix2 (row t a) k)).trans (congrFun (V_ct32 m c) _)
  blk_ext [idx t, row]

theorem b2 (c : Dev nD) (t : Fin cfg0.N) (a : Fin 512) (f : Fin 4096) : (iblk m c 2 t : FVec Ideal S512x4096 .bf16) (ix2 a f) = max (pre (aX m c (row t a)) (aG m c) (aW1 m c) f) 0 := by
  blk_simp [iblk]
  refine (congrArg (V m c main_v15) (?_ : _ = ix2 (row t a) f)).trans (relu_at m c _ _)
  blk_ext [idx t, row]

theorem b3 (c : Dev nD) (t : Fin cfg0.N) (a : Fin 512) (k : Fin 1024) : (iblk m c 3 t : FVec Ideal S512x1024 .f32) (ix2 a k) = aX m c (row t a) k := by
  blk_simp [iblk]
  refine (congrArg (V m c main_arg0) (?_ : _ = ix2 (row t a) k)).trans (congrFun (V_x m c) _)
  blk_ext [idx t, row]

theorem b4 (c : Dev nD) (t : Fin cfg0.N) (a : Fin 1) (k : Fin 1024) : (iblk m c 4 t : FVec Ideal S1x1024 .f32) (ix2 a k) = aG m c k := by
  blk_simp [iblk]
  refine (congrArg (V m c main_v17) (?_ : _ = ix2 a k)).trans (g_at m c _ _)
  blk_ext [idx t]

theorem b5 (c : Dev nD) (t : Fin cfg0.N) (f : Fin 4096) (k : Fin 1024) : (iblk m c 5 t : FVec Ideal S4096x1024 .bf16) (ix2 f k) = aW2 m c f k := by
  blk_simp [iblk]
  refine (congrArg (V m c main_v18) (?_ : _ = ix2 f k)).trans (w2_at m c _ _)
  blk_ext [idx t]

theorem b6 (c : Dev nD) (t : Fin cfg0.N) (f : Fin 4096) (k : Fin 1024) : (iblk m c 6 t : FVec Ideal S4096x1024 .bf16) (ix2 f k) = aW1 m c k f := by
  blk_simp [iblk]
  refine (congrArg (V m c main_v20) (?_ : _ = ix2 f k)).trans (w1_at m c _ _)
  blk_ext [idx t]

end Cert.FfnKernelIdeal.Grad

end
-- ==== Proof.Ffn.Final.lean ====
module

public import proofs.«01_k».proof.Proof.Ffn.Block
public import proofs.«01_k».proof.Proof.Ffn.Host

@[expose] public section

set_option maxRecDepth 16384

noncomputable section

/-! What the kernel's result arrays hold after the run. -/

namespace Cert.FfnKernelIdeal.Grad

open Cert.FfnKernelIdeal Cert.FfnKernelIdeal.Gen
open Idealize.ShloMosaic Idealize.ShloMosaic.TcCoe Idealize.SL.Sem
open Idealize.ShloMosaic.Pipeline (Dat)
open Cert.Common

variable (m : (ℓ : Loc nD τ sig) → Buf (Elt Ideal) ℓ)

theorem da_block (c : Dev nD) (t : Fin cfg0.N) (a : Fin 512) (f : Fin 4096) :
    daB (iblk m c 0 t) (iblk m c 2 t) (iblk m c 5 t) (ix2 a f) = Ffn.da (aX m c (row t a)) (aG m c) (aW1 m c) (aW2 m c) (aC m c (row t a)) f := by
  unfold daB Ffn.da
  rw [b2]
  refine congrArg (· * _) (Finset.sum_congr rfl fun k _ => ?_)
  exact congrArg₂ (· * ·) (b0 m c t a k) (b5 m c t f k)

theorem dn_block (c : Dev nD) (t : Fin cfg0.N) (a : Fin 512) (k : Fin 1024) :
    dnB (iblk m c 0 t) (iblk m c 2 t) (iblk m c 5 t) (iblk m c 6 t) (ix2 a k) = Ffn.dn (aX m c (row t a)) (aG m c) (aW1 m c) (aW2 m c) (aC m c (row t a)) k := by
  unfold dnB Ffn.dn
  exact Finset.sum_congr rfl fun f _ => congrArg₂ (· * ·) (da_block m c t a f) (b6 m c t f k)

theorem rs_block (c : Dev nD) (t : Fin cfg0.N) (a : Fin 512) : rs (fun k => (iblk m c 3 t : FVec Ideal S512x1024 .f32) (ix2 a k)) = rs (aX m c (row t a)) :=
  congrArg rs (funext fun k => b3 m c t a k)

theorem dhB_at (x1 x3 dn : FVec Ideal S512x1024 .f32) (x4 : FVec Ideal S1x1024 .f32) (a : Fin 512) (k : Fin 1024) :
    dhB x1 x3 dn x4 (ix2 a k) = x1 (ix2 a k) + rs (fun k => x3 (ix2 a k)) * (dn (ix2 a k) * x4 (ix2 0 k)
      - x3 (ix2 a k) * rs (fun k => x3 (ix2 a k)) * Ideal.div (∑ j : Fin 1024, dn (ix2 a j) * x4 (ix2 0 j) * (x3 (ix2 a j) * rs (fun k => x3 (ix2 a k)))) (Ideal.ofBits .f32 0x44800000#32)) := rfl

theorem dh_block (c : Dev nD) (t : Fin cfg0.N) (a : Fin 512) (k : Fin 1024) :
    dhB (iblk m c 1 t) (iblk m c 3 t) (dnB (iblk m c 0 t) (iblk m c 2 t) (iblk m c 5 t) (iblk m c 6 t)) (iblk m c 4 t) (ix2 a k)
      = Ffn.dh (aX m c (row t a)) (aG m c) (aW1 m c) (aW2 m c) (aC m c (row t a)) k := by
  rw [dhB_at]
  simp only [rs_block, dn_block, b1, b3, b4]
  rfl

theorem dg_block (c : Dev nD) (t : Fin cfg0.N) (k : Fin 1024) :
    dgB (iblk m c 3 t) (dnB (iblk m c 0 t) (iblk m c 2 t) (iblk m c 5 t) (iblk m c 6 t)) k
      = ∑ a : Fin 512, Ffn.dg (aX m c (row t a)) (aG m c) (aW1 m c) (aW2 m c) (aC m c (row t a)) k := by
  unfold dgB Ffn.dg
  simp only [rs_block, dn_block, b3]

theorem final7 (c : Dev nD) : (dats m 0 c).arrAt 7 (cfgs 0).N
    = (fun j => Ffn.da (aX m c (j 0)) (aG m c) (aW1 m c) (aW2 m c) (aC m c (j 0)) (j 1) : FVec Ideal S8192x4096 .bf16) := by
  refine (dats m 0 c).arrAt_eq_of_covers 7 _ (by decide +kernel) fun t hf y => ?_
  blk_simp
  rw [after0_7]
  idx_vars y
  trans Ffn.da (aX m c (row t y0)) (aG m c) (aW1 m c) (aW2 m c) (aC m c (row t y0)) y1
  · rw [← da_block]
    by_cases h : t.val % 16 = 0
    · exact da_A m c t h _
    · exact da_B m c t h _
  · exact congrArg₂ (fun i f => Ffn.da (aX m c i) (aG m c) (aW1 m c) (aW2 m c) (aC m c i) f)
      (Fin.ext (by blk_simp [idx t, row])) (Fin.ext (by blk_simp [idx t]))

theorem final8 (c : Dev nD) : (dats m 0 c).arrAt 8 (cfgs 0).N
    = (fun j => Ffn.dh (aX m c (j 0)) (aG m c) (aW1 m c) (aW2 m c) (aC m c (j 0)) (j 1) : FVec Ideal S8192x1024 .f32) := by
  refine (dats m 0 c).arrAt_eq_of_covers 8 _ (by decide +kernel) fun t hf y => ?_
  blk_simp
  rw [after0_8]
  idx_vars y
  trans Ffn.dh (aX m c (row t y0)) (aG m c) (aW1 m c) (aW2 m c) (aC m c (row t y0)) y1
  · rw [← dh_block]
    by_cases h : t.val % 16 = 0
    · exact congrFun (dh_A m c t h) _
    · exact congrFun (dh_B m c t h) _
  · exact congrArg₂ (fun i f => Ffn.dh (aX m c i) (aG m c) (aW1 m c) (aW2 m c) (aC m c i) f)
      (Fin.ext (by blk_simp [idx t, row])) (Fin.ext (by blk_simp [idx t]))

theorem final9 (c : Dev nD) : (dats m 0 c).arrAt 9 (cfgs 0).N
    = (fun j => Ffn.dh (aX m c (j 0)) (aG m c) (aW1 m c) (aW2 m c) (aC m c (j 0)) (j 1) : FVec Ideal S8192x1024 .bf16) := by
  refine (dats m 0 c).arrAt_eq_of_covers 9 _ (by decide +kernel) fun t hf y => ?_
  blk_simp
  rw [after0_9]
  idx_vars y
  trans Ffn.dh (aX m c (row t y0)) (aG m c) (aW1 m c) (aW2 m c) (aC m c (row t y0)) y1
  · rw [← dh_block]
    by_cases h : t.val % 16 = 0
    · exact congrFun (dh16_A m c t h) _
    · exact congrFun (dh16_B m c t h) _
  · exact congrArg₂ (fun i f => Ffn.dh (aX m c i) (aG m c) (aW1 m c) (aW2 m c) (aC m c i) f)
      (Fin.ext (by blk_simp [idx t, row])) (Fin.ext (by blk_simp [idx t]))

/-- The grid's points up to `n` have added up the parts of their blocks. -/
theorem dg_upto (c : Dev nD) (a : Fin 8) (k : Fin 1024) : ∀ (n : ℕ) (h : n < cfg0.N),
    (outsAt0 m c n h).2.2.2 (ix2 a k) = ∑ s : Fin (n + 1), dgB (iblk m c 3 ⟨s.val, by omega⟩)
      (dnB (iblk m c 0 ⟨s.val, by omega⟩) (iblk m c 2 ⟨s.val, by omega⟩) (iblk m c 5 ⟨s.val, by omega⟩) (iblk m c 6 ⟨s.val, by omega⟩)) k := by
  intro n
  induction n with
  | zero =>
    intro h
    rw [dg_A m c ⟨0, h⟩ rfl a k, zero_add, Fin.sum_univ_one]
    rfl
  | succ n ih =>
    intro h
    have h16 := (idx ⟨n + 1, h⟩).2.2.2.2.2.2.2.2.2.2.2
    rw [dg_B m c ⟨n + 1, h⟩ (by show ¬(n + 1) % 16 = 0; simp only at h16; omega) a k, Fin.sum_univ_castSucc]
    exact congrArg₂ (· + ·) (ih (by omega)) rfl

theorem final10 (c : Dev nD) : (dats m 0 c).arrAt 10 (cfgs 0).N
    = (fun j => ∑ i : Fin 8192, Ffn.dg (aX m c i) (aG m c) (aW1 m c) (aW2 m c) (aC m c i) (j 1) : FVec Ideal S8x1024 .f32) := by
  refine (dats m 0 c).arrAt_eq_of_after_last 10 t0_15 (by decide +kernel) _ fun j => ?_
  blk_simp
  rw [after0_10]
  idx_vars j
  refine (dg_upto m c j0 j1 15 _).trans ?_
  rw [← Fin.sum_mul_add_fin 16 512 (fun i : Fin 8192 => Ffn.dg (aX m c i) (aG m c) (aW1 m c) (aW2 m c) (aC m c i) j1)]
  exact Finset.sum_congr rfl fun s _ => dg_block m c ⟨s.val, _⟩ j1

/-- Every execution of the kernel's program ends with the gradients in its result arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v21_0) = (fun j => Ffn.da (aX m c (j 0)) (aG m c) (aW1 m c) (aW2 m c) (aC m c (j 0)) (j 1) : FVec Ideal S8192x4096 .bf16)
      ∧ r.2.mem ((c.tc : Thread nD τ).loc main_v21_1) = (fun j => Ffn.dh (aX m c (j 0)) (aG m c) (aW1 m c) (aW2 m c) (aC m c (j 0)) (j 1) : FVec Ideal S8192x1024 .f32)
      ∧ r.2.mem ((c.tc : Thread nD τ).loc main_v21_2) = (fun j => Ffn.dh (aX m c (j 0)) (aG m c) (aW1 m c) (aW2 m c) (aC m c (j 0)) (j 1) : FVec Ideal S8192x1024 .bf16)
      ∧ r.2.mem ((c.tc : Thread nD τ).loc main_v21_3) = (fun j => ∑ i : Fin 8192, Ffn.dg (aX m c i) (aG m c) (aW1 m c) (aW2 m c) (aC m c i) (j 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks m ρ)
  have h := h c
  rw [final7, final8, final9, final10] at h
  exact h

end Cert.FfnKernelIdeal.Grad

end
-- ==== Proof.Ffn.Ref.lean ====
module

public import proofs.«01_k».proof.Proof.Gen.FfnReferenceIdeal.Run
public import proofs.«01_k».proof.Proof.Ffn.Spec

@[expose] public section

set_option maxRecDepth 16384

noncomputable section

/-! What the reference computes, row by row. -/

namespace Cert.FfnReferenceIdeal.Grad

open Cert.FfnReferenceIdeal Cert.FfnReferenceIdeal.Gen
open Idealize.ShloMosaic Idealize.ShloMosaic.TcCoe Idealize.SL.Sem Cert.Common Cert.Ffn

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW1 (c : Dev nD) (k : Fin 1024) (f : Fin 4096) : EReal := (m ((c.tc : Thread nD τ).loc main_arg2) : FVec Ideal S1024x4096 .f32) (ix2 k f)
def aW2 (c : Dev nD) (f : Fin 4096) (k : Fin 1024) : EReal := (m ((c.tc : Thread nD τ).loc main_arg3) : FVec Ideal S4096x1024 .f32) (ix2 f k)
def aC (c : Dev nD) (i : Fin 8192) (k : Fin 1024) : EReal := (m ((c.tc : Thread nD τ).loc main_arg4) : FVec Ideal S8192x1024 .f32) (ix2 i k)

/-- The chain rule's three terms at the block's input. -/
theorem dh_at (c : Dev nD) (i : Fin 8192) (k : Fin 1024) :
   (Value.res_main_v52 m c : FVec Ideal S8192x1024 .f32) (ix2 i k) =
    aC m c i k + dn (aX m c i) (aG m c) (aW1 m c) (aW2 m c) (aC m c i) k * aG m c k * rs (aX m c i)
        + aX m c i k * Ideal.div ((∑ j, aX m c i j * (dn (aX m c i) (aG m c) (aW1 m c) (aW2 m c) (aC m c i) j * aG m c j)) * (Ideal.ofBits .f32 0xBF000000#32 * Ideal.div (rs (aX m c i)) (ms (aX m c i)))) (Ideal.ofBits .f32 0x44800000#32)
        + Ideal.div ((∑ j, aX m c i j * (dn (aX m c i) (aG m c) (aW1 m c) (aW2 m c) (aC m c i) j * aG m c j)) * (Ideal.ofBits .f32 0xBF000000#32 * Ideal.div (rs (aX m c i)) (ms (aX m c i)))) (Ideal.ofBits .f32 0x44800000#32) * aX m c i k := by
  pointwise [Value.res_main_v52]
  simp only [ite_relu, Fin.sum_univ_one, Finset.univ_unique, Finset.sum_const, Finset.card_singleton, one_smul]
  rfl

theorem dh16_at (c : Dev nD) (i : Fin 8192) (k : Fin 1024) :
   (Value.res_main_v80 m c : FVec Ideal S8192x1024 .bf16) (ix2 i k) = (Value.res_main_v52 m c : FVec Ideal S8192x1024 .f32) (ix2 i k) := by
  rw [dh_at]
  pointwise [Value.res_main_v80]
  simp only [ite_relu, Fin.sum_univ_one, Finset.univ_unique, Finset.sum_const, Finset.card_singleton, one_smul]
  rfl

/-- All arguments hold real numbers. -/
def Real (c : Dev nD) : Prop :=
  (∀ i k, IsR (aX m c i k)) ∧ (∀ k, IsR (aG m c k)) ∧ (∀ k f, IsR (aW1 m c k f)) ∧ (∀ f k, IsR (aW2 m c f k)) ∧ ∀ i k, IsR (aC m c i k)

/-- Every execution of the reference ends with the gradients, on real arguments. -/
theorem run_spec (ρ : Dev nD → PrngReg) (hR : ∀ c, Real m c) :
    θ_run defs (onTc (τ := τ) (main (F := Ideal))) ⟨m, fun _ => 0, ρ⟩ fun r => ∀ c : Dev nD,
      r.2.mem ((c.tc : Thread nD τ).loc main_v79) = (fun j => da (aX m c (j 0)) (aG m c) (aW1 m c) (aW2 m c) (aC m c (j 0)) (j 1) : FVec Ideal S8192x4096 .bf16)
      ∧ r.2.mem ((c.tc : Thread nD τ).loc main_v52) = (fun j => dh (aX m c (j 0)) (aG m c) (aW1 m c) (aW2 m c) (aC m c (j 0)) (j 1) : FVec Ideal S8192x1024 .f32)
      ∧ r.2.mem ((c.tc : Thread nD τ).loc main_v80) = (fun j => dh (aX m c (j 0)) (aG m c) (aW1 m c) (aW2 m c) (aC m c (j 0)) (j 1) : FVec Ideal S8192x1024 .bf16)
      ∧ r.2.mem ((c.tc : Thread nD τ).loc main_v82) = (fun j => ∑ i : Fin 8192, dg (aX m c i) (aG m c) (aW1 m c) (aW2 m c) (aC m c i) (j 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h3, h4, h⟩ := h c
  obtain ⟨r0, r1, r2, r3, r4⟩ := hR c
  refine ⟨h1.trans ?_, h2.trans ?_, h3.trans ?_, h4.trans ?_, h⟩
  · funext j; idx_vars j
    pointwise []
    simp only [ite_relu]
    rfl
  · funext j; idx_vars j
    rw [dh_at]; exact dh_eq _ _ _ _ _ (r0 _) r1 r2 r3 (r4 _) _
  · funext j; idx_vars j
    rw [dh16_at, dh_at]; exact dh_eq _ _ _ _ _ (r0 _) r1 r2 r3 (r4 _) _
  · funext j; idx_vars j
    pointwise []
    simp only [ite_relu, Fin.sum_univ_one, Finset.univ_unique, Finset.sum_const, Finset.card_singleton, one_smul]
    exact Finset.sum_congr rfl fun i _ => mul_comm _ _

end Cert.FfnReferenceIdeal.Grad

end
-- ==== Proof.Common.All.lean ====
module

public import Idealize.ShloMosaic.Lib.ReduceAll
public import proofs.«01_k».proof.Proof.Common.Real

@[expose] public section

noncomputable section

/-! What the preconditions say: an array whose absolute values all compare below infinity holds real numbers. -/

namespace Cert.Common

open Idealize.ShloMosaic

theorem infinity : Ideal.ofBits .f32 0x7F800000#32 = ⊤ := by
  simp [Ideal.ofBits, Ideal.ieee]

/-- One entry. -/
theorem IsR.of_olt {a : EReal} (h : FloatOps.cmpf (F := Ideal) (φ := .f32) .olt (FloatOps.hostAbsf (F := Ideal) (φ := .f32) a) (FloatOps.ofBits (F := Ideal) .f32 0x7F800000#32) = 1#1) : IsR a := by
  refine IsR.of_abs_lt ?_
  by_contra hn
  have e : FloatOps.cmpf (F := Ideal) (φ := .f32) .olt (FloatOps.hostAbsf (F := Ideal) (φ := .f32) a) (FloatOps.ofBits (F := Ideal) .f32 0x7F800000#32)
      = BitVec.ofBool (decide (Max.max a (-a) < Ideal.ofBits .f32 0x7F800000#32)) := rfl
  rw [e, infinity, decide_eq_false hn] at h
  exact absurd h (by decide)

/-- A whole array. -/
theorem IsR.of_all {s u t : Shape} {axes : List (Fin s.rank)} [Subsingleton t.Idx] (x : FVec Ideal s .f32) (y : FVec Ideal s .f32)
    (hy : ∀ i, y i = FloatOps.ofBits (F := Ideal) .f32 0x7F800000#32) (init : u.Idx → BitVec 1)
    (h : s.ReducesTo axes t) (hu : 0 < u.numel) (j : t.Idx)
    (e : Host.reduce IntOp.andi (cmpf .olt (Host.absf x) y) init h hu j = 1#1) (i : s.Idx) : IsR (x i) := by
  have := Host.reduce_andi_all _ _ _ _ j e i
  refine IsR.of_olt ?_
  rw [← hy i]
  exact this

end Cert.Common

end
-- ==== Proof.Ffn.Pre.lean ====
module

public import proofs.«01_k».proof.Pre_ffn_finite
public import proofs.«01_k».proof.Proof.Gen.Pre_ffn_finite
public import proofs.«01_k».proof.Proof.Common.All

@[expose] public section

set_option maxRecDepth 16384

noncomputable section

/-! The precondition of the feed-forward claim, read back: every argument holds real numbers. -/

namespace Cert.Pre_ffn_finite

open Idealize.ShloMosaic Cert.Common Cert.Pre_ffn_finite.Gen

theorem reals (a0 : FVec Ideal S8192x1024 .f32) (a1 : FVec Ideal S1024 .f32) (a2 : FVec Ideal S1024x4096 .f32) (a3 : FVec Ideal S4096x1024 .f32)
    (a4 : FVec Ideal S8192x1024 .f32) (h : Cert.Pre_ffn_finite.fn a0 a1 a2 a3 a4 = fun _ => 1#1) :
    (∀ i, IsR (a0 i)) ∧ (∀ i, IsR (a1 i)) ∧ (∀ i, IsR (a2 i)) ∧ (∀ i, IsR (a3 i)) ∧ ∀ i, IsR (a4 i) := by
  have h := congrFun h (Shape.Idx.first Facts.h_S_)
  unfold Cert.Pre_ffn_finite.fn Cert.Pre_ffn_finite.fn_part1 at h
  obtain ⟨h, h4⟩ := IntOp.andi_eq_one.mp h
  obtain ⟨h, h3⟩ := IntOp.andi_eq_one.mp h
  obtain ⟨h, h2⟩ := IntOp.andi_eq_one.mp h
  obtain ⟨h, h1⟩ := IntOp.andi_eq_one.mp h
  obtain ⟨-, h0⟩ := IntOp.andi_eq_one.mp h
  exact ⟨IsR.of_all _ _ (fun _ => rfl) _ _ _ _ h0, IsR.of_all _ _ (fun _ => rfl) _ _ _ _ h1, IsR.of_all _ _ (fun _ => rfl) _ _ _ _ h2,
    IsR.of_all _ _ (fun _ => rfl) _ _ _ _ h3, IsR.of_all _ _ (fun _ => rfl) _ _ _ _ h4⟩

end Cert.Pre_ffn_finite

end
-- ==== Proof.Ffn.Claim.lean ====
module

public import proofs.«01_k».proof.Defs
public import proofs.«01_k».proof.Proof.Gen.FfnKernel.Frame
public import proofs.«01_k».proof.Proof.Ffn.Final
public import proofs.«01_k».proof.Proof.Ffn.Ref
public import proofs.«01_k».proof.Proof.Ffn.Pre

@[expose] public section

set_option maxRecDepth 16384

noncomputable section

/-! The claims about the feed-forward block's gradient. -/

namespace Cert.Ffn

open Idealize.ShloMosaic Idealize.ShloMosaic.TcCoe Idealize.SL.Sem Cert.Common

theorem frame_kernel : Cert.quiescent_FfnKernel := fun m ρ _ => Cert.FfnKernel.Gen.frame m ρ

theorem frame_ideal : Cert.quiescent_FfnKernelIdeal := fun m ρ _ => Cert.FfnKernelIdeal.Gen.frame m ρ

theorem frame_ideal_pre : Cert.quiescent_FfnKernelIdeal_pre_ffn_finite := fun m ρ _ => Cert.FfnKernelIdeal.Gen.frame m ρ

/-- The reference declares no semaphore. -/
theorem frame_ref : Cert.quiescent_FfnReferenceIdeal := fun m ρ _ =>
  (θ_run Cert.FfnReferenceIdeal.defs _ _).mono (fun r h => ⟨fun c => (h c).2.2.2.2, sem_eq_zero_of_no_sems (by decide) r.2⟩)
    (Cert.FfnReferenceIdeal.Value.run m ρ)

theorem frame_ref_pre : Cert.quiescent_FfnReferenceIdeal_pre_ffn_finite := fun m ρ _ => frame_ref m ρ trivial

/-- Kernel and reference end with the same gradients on real arguments. -/
theorem algebraic : Cert.algebraic_FfnKernelIdeal_FfnReferenceIdeal_pre_ffn_finite := by
  intro m ρ m' ρ' hp hag
  have e0 : ∀ c, FfnReferenceIdeal.Grad.aX m' c = FfnKernelIdeal.Grad.aX m c := fun c => funext fun i => funext fun k => congrFun (hag c).1 (ix2 i k)
  have e1 : ∀ c, FfnReferenceIdeal.Grad.aG m' c = FfnKernelIdeal.Grad.aG m c := fun c => funext fun k => congrFun (hag c).2.1 (ix1 k)
  have e2 : ∀ c, FfnReferenceIdeal.Grad.aW1 m' c = FfnKernelIdeal.Grad.aW1 m c := fun c => funext fun i => funext fun k => congrFun (hag c).2.2.1 (ix2 i k)
  have e3 : ∀ c, FfnReferenceIdeal.Grad.aW2 m' c = FfnKernelIdeal.Grad.aW2 m c := fun c => funext fun i => funext fun k => congrFun (hag c).2.2.2.1 (ix2 i k)
  have e4 : ∀ c, FfnReferenceIdeal.Grad.aC m' c = FfnKernelIdeal.Grad.aC m c := fun c => funext fun i => funext fun k => congrFun (hag c).2.2.2.2 (ix2 i k)
  have hR : ∀ c, FfnReferenceIdeal.Grad.Real m' c := fun c => by
    obtain ⟨h0, h1, h2, h3, h4⟩ := Cert.Pre_ffn_finite.reals _ _ _ _ _ (hp c)
    unfold FfnReferenceIdeal.Grad.Real
    rw [e0, e1, e2, e3, e4]
    exact ⟨fun i k => h0 _, fun k => h1 _, fun k f => h2 _, fun f k => h3 _, fun i k => h4 _⟩
  have hr := FfnReferenceIdeal.Grad.run_spec m' ρ' hR
  simp only [e0, e1, e2, e3, e4] at hr
  exact ⟨fun c => _, fun c => _, fun c => _, fun c => _, FfnKernelIdeal.Grad.run_spec m ρ, hr⟩

end Cert.Ffn

end
-- ==== Proof.Weights.In.lean ====
module

public import proofs.«01_k».proof.Defs
public import proofs.«01_k».proof.Proof.Gen.DwIn.Frame
public import proofs.«01_k».proof.Proof.Gen.DwInIdeal.Value
public import proofs.«01_k».proof.Proof.Gen.DwInReferenceIdeal.Run
public import Idealize.ShloMosaic.Lib.Pipeline.ValueKit
public import proofs.«01_k».proof.Proof.Common.Real

@[expose] public section

set_option maxRecDepth 16384

noncomputable section

/-! The gradient of the input projection's weight: the gradient of the projection, transposed, times the normalised rows
    of the step's input, added up over four blocks of rows. The result is the transpose of the weight's gradient, as the kernel stores that weight. -/

namespace Cert.DwInIdeal.Grad

open Cert.DwInIdeal Cert.DwInIdeal.Gen
open Idealize.ShloMosaic Idealize.ShloMosaic.TcCoe Idealize.SL.Sem
open Idealize.ShloMosaic.Pipeline (Dat)

/-- Entry `(f, k)` of the weight's gradient, transposed, from the gradient `d` of the projection, the input `x` and the norm's gain `g`. -/
def dw (d : FVec Ideal S8192x2816 .f32) (x : FVec Ideal S8192x1024 .f32) (g : FVec Ideal S1024 .f32) (f : Fin 2816) (k : Fin 1024) : EReal :=
  ∑ i : Fin 8192, d (ix2 i f) * (x (ix2 i k) * Common.rs (fun l => x (ix2 i l)) * g (ix1 k))

variable (m : (ℓ : Loc nD τ sig) → Buf (Elt Ideal) ℓ)

/-- The projection's gradient, the input and the gain on a device. -/
def aD (c : Dev nD) : FVec Ideal S8192x2816 .f32 := m ((c.tc : Thread nD τ).loc main_arg3)
def aX (c : Dev nD) : FVec Ideal S8192x1024 .f32 := m ((c.tc : Thread nD τ).loc main_arg0)
def aG (c : Dev nD) : FVec Ideal S1024 .f32 := m ((c.tc : Thread nD τ).loc main_arg1)

theorem V_a (c : Dev nD) : V m c (Pipeline.arrRef spec0 0) = aD m c := by
  simp only [V, hostOps0, List.flatten_cons, List.flatten_nil, List.append_nil, List.cons_append, List.nil_append]; after_results
  rfl

/-- The normalised rows as the host computes them. -/
def hn (X : FVec Ideal S8192x1024 .f32) (G : FVec Ideal S1024 .f32) : FVec Ideal S8192x1024 .bf16 :=
  truncf .bf16 (mulf
                (mulf X
                  (broadcastInDim S8192x1024 ![0, 1] bcast_S8192x1_S8192x1024_0_1
                    (Host.rsqrt
                      (addf
                        (Host.divf
                          (broadcastInDim S8192x1 ![0] bcast_S8192_S8192x1_0
                            (Host.reduceAdd (mulf X X)
                              (constant S_ FTy.f32 0#32) reducesTo_S8192x1024_S8192_d1 h_S_))
                          (broadcastInDim S8192x1 ![] bcast_S_S8192x1 (constant S_ FTy.f32 1149239296#32)))
                        (broadcastInDim S8192x1 ![] bcast_S_S8192x1 (constant S_ FTy.f32 897988541#32))))))
                (broadcastInDim S8192x1024 ![0, 1] bcast_S1x1024_S8192x1024_0_1
                  (broadcastInDim S1x1024 ![1] bcast_S1024_S1x1024_1 G))) bitsLt_bf16_f32

theorem V_b (c : Dev nD) : V m c (Pipeline.arrRef spec0 1) = hn (aX m c) (aG m c) := by
  simp only [V, hostOps0, List.flatten_cons, List.flatten_nil, List.append_nil, List.cons_append, List.nil_append]; after_results
  rfl

theorem b_at (c : Dev nD) (i : Fin 8192) (k : Fin 1024) : (V m c (Pipeline.arrRef spec0 1) : FVec Ideal S8192x1024 .bf16) (ix2 i k)
    = aX m c (ix2 i k) * Common.rs (fun l => aX m c (ix2 i l)) * aG m c (ix1 k) := by
  rw [V_b]
  pointwise [hn]
  rfl

/-- Where each point's blocks lie. -/
theorem idx : ∀ t : Fin cfg0.N, win0_0.index t = ![t.val % 4, t.val / 4] ∧ win0_1.index t = ![t.val % 4, 0] ∧ win0_2.index t = ![t.val / 4, 0] ∧ t.val < 8 :=
  (by decide +kernel : ∀ t : Fin grid0.N, _)

/-- Column `a` of the projection in block `t`, and row `i` in block `t`. -/
def col (t : Fin cfg0.N) (a : Fin 1408) : Fin 2816 := ⟨t.val / 4 * 1408 + a.val, by have := (idx t).2.2.2; omega⟩
def row (t : Fin cfg0.N) (i : Fin 2048) : Fin 8192 := ⟨t.val % 4 * 2048 + i.val, by omega⟩

theorem b0 (c : Dev nD) (t : Fin cfg0.N) (i : Fin 2048) (a : Fin 1408) : (iblk m c 0 t : FVec Ideal S2048x1408 .f32) (ix2 i a) = aD m c (ix2 (row t i) (col t a)) := by
  blk_simp [iblk]
  refine (congrArg (V m c (Pipeline.arrRef spec0 0)) (?_ : _ = ix2 (row t i) (col t a))).trans (congrFun (V_a m c) _)
  blk_ext [idx t, col, row]

theorem b1 (c : Dev nD) (t : Fin cfg0.N) (i : Fin 2048) (k : Fin 1024) : (iblk m c 1 t : FVec Ideal S2048x1024 .bf16) (ix2 i k)
    = aX m c (ix2 (row t i) k) * Common.rs (fun l => aX m c (ix2 (row t i) l)) * aG m c (ix1 k) := by
  blk_simp [iblk]
  refine (congrArg (V m c (Pipeline.arrRef spec0 1)) (?_ : _ = ix2 (row t i) k)).trans (b_at m c _ _)
  blk_ext [idx t, row]

/-- One row's part of entry `(f, k)`. -/
def part (c : Dev nD) (f : Fin 2816) (k : Fin 1024) (i : Fin 8192) : EReal :=
  aD m c (ix2 i f) * (aX m c (ix2 i k) * Common.rs (fun l => aX m c (ix2 i l)) * aG m c (ix1 k))

/-- What a point adds to the accumulator. -/
def add (c : Dev nD) (t : Fin cfg0.N) (a : Fin 1408) (k : Fin 1024) : EReal := ∑ i : Fin 2048, part m c (col t a) k (row t i)

theorem acc_A (c : Dev nD) (t : Fin cfg0.N) (h0 : t.val % 4 = 0) (a : Fin 1408) (k : Fin 1024) :
    (outsAt0 m c t.val t.isLt).2 (ix2 a k) = add m c t a k := by
  rw [outsAt0_A m c t h0 (by omega)]
  frame_out
  pointwise [k0_pay1, k0_pay2]
  exact Finset.sum_congr rfl fun i _ => congrArg₂ (· * ·) (b0 m c t i a) (b1 m c t i k)

theorem acc_B (c : Dev nD) (t : Fin cfg0.N) (h0 : ¬t.val % 4 = 0) (h1 : ¬t.val % 4 = 3) (a : Fin 1408) (k : Fin 1024) :
    (outsAt0 m c t.val t.isLt).2 (ix2 a k) = (outsAt0 m c (t.val - 1) (Nat.lt_of_le_of_lt (Nat.sub_le _ _) t.isLt)).2 (ix2 a k) + add m c t a k := by
  rw [outsAt0_B m c t h0 h1]
  frame_out
  pointwise [k0_pay1, k0_pay2]
  refine congrArg₂ (· + ·) (congrFun (Memref.IsWhole.read_unread _ _) _) ?_
  exact Finset.sum_congr rfl fun i _ => congrArg₂ (· * ·) (b0 m c t i a) (b1 m c t i k)

theorem out_C (c : Dev nD) (t : Fin cfg0.N) (h1 : t.val % 4 = 3) (a : Fin 1408) (k : Fin 1024) :
    (outsAt0 m c t.val t.isLt).1 (ix2 a k) = (outsAt0 m c (t.val - 1) (Nat.lt_of_le_of_lt (Nat.sub_le _ _) t.isLt)).2 (ix2 a k) + add m c t a k := by
  rw [outsAt0_C m c t (by omega) h1]
  frame_out
  pointwise [k0_pay1, k0_pay2, k0_pay3]
  refine congrArg₂ (· + ·) (congrFun (Memref.IsWhole.read_unread _ _) _) ?_
  exact Finset.sum_congr rfl fun i _ => congrArg₂ (· * ·) (b0 m c t i a) (b1 m c t i k)

/-- The four blocks of rows together are all rows. -/
theorem block (c : Dev nD) (t : Fin cfg0.N) (h1 : t.val % 4 = 3) (a : Fin 1408) (k : Fin 1024) :
    (outsAt0 m c t.val t.isLt).1 (ix2 a k) = dw (aD m c) (aX m c) (aG m c) (col t a) k := by
  have hN := (idx t).2.2.2
  have hc : ∀ (s : Fin 4) (h : t.val - 3 + s.val < cfg0.N), add m c ⟨t.val - 3 + s.val, h⟩ a k
      = ∑ i : Fin 2048, part m c (col t a) k ⟨s.val * 2048 + i.val, by omega⟩ := fun s h => by
    refine Finset.sum_congr rfl fun i _ => congrArg₂ (fun f i => part m c f k i) (Fin.ext ?_) (Fin.ext ?_)
    · show (t.val - 3 + s.val) / 4 * 1408 + a.val = t.val / 4 * 1408 + a.val
      rw [show (t.val - 3 + s.val) / 4 = t.val / 4 by omega]
    · show (t.val - 3 + s.val) % 4 * 2048 + i.val = s.val * 2048 + i.val
      rw [show (t.val - 3 + s.val) % 4 = s.val by omega]
  have ht := t.isLt
  have e0 := acc_A m c ⟨t.val - 3, by omega⟩ (by show (t.val - 3) % 4 = 0; omega) a k
  have e1 := acc_B m c ⟨t.val - 2, by omega⟩ (by show ¬(t.val - 2) % 4 = 0; omega) (by show ¬(t.val - 2) % 4 = 3; omega) a k
  have e2 := acc_B m c ⟨t.val - 1, by omega⟩ (by show ¬(t.val - 1) % 4 = 0; omega) (by show ¬(t.val - 1) % 4 = 3; omega) a k
  have e3 := out_C m c t h1 a k
  simp only [show t.val - 2 - 1 = t.val - 3 by omega, show t.val - 1 - 1 = t.val - 2 by omega] at e1 e2
  rw [e3, e2, e1, e0]
  have f0 := hc 0 (by show t.val - 3 + 0 < _; omega)
  have f1 := hc 1 (by show t.val - 3 + 1 < _; omega)
  have f2 := hc 2 (by show t.val - 3 + 2 < _; omega)
  have f3 := hc 3 (by show t.val - 3 + 3 < _; omega)
  have g0 (h) : (⟨t.val - 3 + (0 : Fin 4).val, h⟩ : Fin cfg0.N) = ⟨t.val - 3, by omega⟩ := Fin.ext (by show t.val - 3 + 0 = t.val - 3; omega)
  have g1 (h) : (⟨t.val - 3 + (1 : Fin 4).val, h⟩ : Fin cfg0.N) = ⟨t.val - 2, by omega⟩ := Fin.ext (by show t.val - 3 + 1 = t.val - 2; omega)
  have g2 (h) : (⟨t.val - 3 + (2 : Fin 4).val, h⟩ : Fin cfg0.N) = ⟨t.val - 1, by omega⟩ := Fin.ext (by show t.val - 3 + 2 = t.val - 1; omega)
  have g3 (h) : (⟨t.val - 3 + (3 : Fin 4).val, h⟩ : Fin cfg0.N) = t := Fin.ext (by show t.val - 3 + 3 = t.val; omega)
  rw [g0] at f0; rw [g1] at f1; rw [g2] at f2; rw [g3] at f3
  rw [f0, f1, f2, f3]
  refine Eq.trans ?_ (Fin.sum_mul_add_fin 4 2048 (fun i : Fin 8192 => part m c (col t a) k i))
  rw [Fin.sum_univ_four]

theorem final (c : Dev nD) : (dats m 0 c).arrAt 2 (cfgs 0).N = (fun j => dw (aD m c) (aX m c) (aG m c) (j 0) (j 1) : FVec Ideal S2816x1024 .bf16) := by
  refine (dats m 0 c).arrAt_eq_of_covers 2 _ (by decide +kernel) fun t hf y => ?_
  have h3 : t.val % 4 = 3 := (flush0_2 t).mp hf
  blk_simp
  rw [after0_2]
  idx_vars y
  refine (block m c t h3 y0 y1).trans ?_
  exact congrArg₂ (dw (aD m c) (aX m c) (aG m c)) (Fin.ext (by blk_simp [idx t, col])) (Fin.ext (by blk_simp [idx t]))

/-- Every execution of the kernel's program ends with the gradient in its result array, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v14) = (fun j => dw (aD m c) (aX m c) (aG m c) (j 0) (j 1) : FVec Ideal S2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final] at h
  exact h

end Cert.DwInIdeal.Grad

namespace Cert.DwInReferenceIdeal.Grad

open Cert.DwInReferenceIdeal Cert.DwInReferenceIdeal.Gen
open Idealize.ShloMosaic Idealize.ShloMosaic.TcCoe Idealize.SL.Sem
open Cert.DwInIdeal.Grad (dw)

variable (m : (ℓ : Loc nD τ sig) → Buf (Elt Ideal) ℓ)

/-- The projection's gradient, the input and the gain on a device. -/
def aD (c : Dev nD) : FVec Ideal S8192x2816 .f32 := m ((c.tc : Thread nD τ).loc main_arg3)
def aX (c : Dev nD) : FVec Ideal S8192x1024 .f32 := m ((c.tc : Thread nD τ).loc main_arg0)
def aG (c : Dev nD) : FVec Ideal S1024 .f32 := m ((c.tc : Thread nD τ).loc main_arg1)

/-- Every execution of the reference ends with the same gradient. -/
theorem run_spec (ρ : Dev nD → PrngReg) :
    θ_run defs (onTc (τ := τ) (main (F := Ideal))) ⟨m, fun _ => 0, ρ⟩ fun r => ∀ c : Dev nD,
      r.2.mem ((c.tc : Thread nD τ).loc main_v17) = (fun j => dw (aD m c) (aX m c) (aG m c) (j 0) (j 1) : FVec Ideal S2816x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  refine ⟨(h c).1.trans ?_, (h c).2⟩
  funext j; idx_vars j
  pointwise []
  rfl

end Cert.DwInReferenceIdeal.Grad

namespace Cert.Weights

open Idealize.ShloMosaic Idealize.ShloMosaic.TcCoe Idealize.SL.Sem

theorem in_frame : Cert.quiescent_DwIn := fun m ρ _ => Cert.DwIn.Gen.frame m ρ
theorem in_frame_ideal : Cert.quiescent_DwInIdeal := fun m ρ _ => Cert.DwInIdeal.Gen.frame m ρ
theorem in_frame_ref : Cert.quiescent_DwInReferenceIdeal := fun m ρ _ =>
  (θ_run Cert.DwInReferenceIdeal.defs _ _).mono (fun r h => ⟨fun c => (h c).2, sem_eq_zero_of_no_sems (by decide) r.2⟩)
    (Cert.DwInReferenceIdeal.Value.run m ρ)

/-- Kernel and reference end with the same gradient of the projection's weight. -/
theorem in_algebraic : Cert.algebraic_DwInIdeal_DwInReferenceIdeal := by
  intro m ρ m' ρ' _ hag
  have hr := DwInReferenceIdeal.Grad.run_spec m' ρ'
  have e0 : ∀ c, DwInReferenceIdeal.Grad.aX m' c = DwInIdeal.Grad.aX m c := fun c => (hag c).1
  have e1 : ∀ c, DwInReferenceIdeal.Grad.aG m' c = DwInIdeal.Grad.aG m c := fun c => (hag c).2.1
  have e2 : ∀ c, DwInReferenceIdeal.Grad.aD m' c = DwInIdeal.Grad.aD m c := fun c => (hag c).2.2.2
  simp only [e0, e1, e2] at hr
  exact ⟨fun c => _, DwInIdeal.Grad.run_spec m ρ, hr⟩

end Cert.Weights

end
-- ==== Proof.Weights.Out.lean ====
module

public import proofs.«01_k».proof.Defs
public import proofs.«01_k».proof.Proof.Gen.DwOut.Frame
public import proofs.«01_k».proof.Proof.Gen.DwOutIdeal.Value
public import proofs.«01_k».proof.Proof.Gen.DwOutReferenceIdeal.Run
public import Idealize.ShloMosaic.Lib.Pipeline.ValueKit

@[expose] public section

set_option maxRecDepth 16384

noncomputable section

/-! The gradient of the output projection's weight: the mixed heads, transposed, times the gradient of the projection's
    output. -/

namespace Cert.DwOutIdeal.Grad

open Cert.DwOutIdeal Cert.DwOutIdeal.Gen
open Idealize.ShloMosaic Idealize.ShloMosaic.TcCoe Idealize.SL.Sem
open Idealize.ShloMosaic.Pipeline (Dat)

/-- Entry `(f, k)` of the weight's gradient, from the mixed heads `p` and the output's gradient `ct`. -/
def dw (p : FVec Ideal S8192x1024 .f32) (ct : FVec Ideal S8192x1024 .f32) (f : Fin 1024) (k : Fin 1024) : EReal :=
  ∑ i : Fin 8192, p (ix2 i f) * ct (ix2 i k)

variable (m : (ℓ : Loc nD τ sig) → Buf (Elt Ideal) ℓ)

/-- The mixed heads and the output's gradient on a device. -/
def aP (c : Dev nD) : FVec Ideal S8192x1024 .f32 := m ((c.tc : Thread nD τ).loc main_arg0)
def aC (c : Dev nD) : FVec Ideal S8192x1024 .f32 := m ((c.tc : Thread nD τ).loc main_arg2)

theorem a_at (c : Dev nD) (i : Fin 8192) (f : Fin 1024) : (V m c (Pipeline.arrRef spec0 0) : FVec Ideal S8192x1024 .bf16) (ix2 i f) = aP m c (ix2 i f) := by
  simp only [V, hostOps0, List.flatten_cons, List.flatten_nil, List.append_nil, List.cons_append, List.nil_append]; after_results
  rfl

theorem b_at (c : Dev nD) (i : Fin 8192) (k : Fin 1024) : (V m c (Pipeline.arrRef spec0 1) : FVec Ideal S8192x1024 .bf16) (ix2 i k) = aC m c (ix2 i k) := by
  simp only [V, hostOps0, List.flatten_cons, List.flatten_nil, List.append_nil, List.cons_append, List.nil_append]; after_results
  rfl

/-- Where each point's blocks lie. -/
theorem idx : ∀ t : Fin cfg0.N, win0_0.index t = ![0, t.val] ∧ win0_1.index t = ![0, 0] ∧ win0_2.index t = ![t.val, 0] ∧ t.val < 2 :=
  (by decide +kernel : ∀ t : Fin grid0.N, _)

/-- Column `a` of block `t` of the mixed heads. -/
def col (t : Fin cfg0.N) (a : Fin 512) : Fin 1024 := ⟨t.val * 512 + a.val, by have := (idx t).2.2.2; omega⟩

theorem b0 (c : Dev nD) (t : Fin cfg0.N) (i : Fin 8192) (a : Fin 512) : (iblk m c 0 t : FVec Ideal S8192x512 .bf16) (ix2 i a) = aP m c (ix2 i (col t a)) := by
  blk_simp [iblk]
  refine (congrArg (V m c (Pipeline.arrRef spec0 0)) (?_ : _ = ix2 i (col t a))).trans (a_at m c _ _)
  blk_ext [idx t, col]

theorem b1 (c : Dev nD) (t : Fin cfg0.N) (i : Fin 8192) (k : Fin 1024) : (iblk m c 1 t : FVec Ideal S8192x1024 .bf16) (ix2 i k) = aC m c (ix2 i k) := by
  blk_simp [iblk]
  refine (congrArg (V m c (Pipeline.arrRef spec0 1)) (?_ : _ = ix2 i k)).trans (b_at m c _ _)
  blk_ext [idx t]

/-- What the body leaves in the result's block. -/
theorem block (c : Dev nD) (t : Fin cfg0.N) (a : Fin 512) (k : Fin 1024) :
    outsAt0 m c t (ix2 a k) = dw (aP m c) (aC m c) (col t a) k := by
  unfold outsAt0
  frame_out
  pointwise [k0_pay1, k0_pay2, k0_pay3]
  exact (Finset.sum_congr rfl fun i _ =>
    congrArg₂ (· * ·) (b0 m c t i a) (b1 m c t i k))

theorem final (c : Dev nD) : (dats m 0 c).arrAt 2 (cfgs 0).N = (fun j => dw (aP m c) (aC m c) (j 0) (j 1) : FVec Ideal S1024x1024 .bf16) := by
  refine (dats m 0 c).arrAt_eq_of_covers 2 _ (by decide +kernel) fun t hf y => ?_
  blk_simp
  rw [after0_2]
  idx_vars y
  refine (block m c t y0 y1).trans ?_
  exact congrArg₂ (dw (aP m c) (aC m c)) (Fin.ext (by blk_simp [idx t, col])) (Fin.ext (by blk_simp [idx t]))

/-- Every execution of the kernel's program ends with the gradient in its result array, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v2) = (fun j => dw (aP m c) (aC m c) (j 0) (j 1) : FVec Ideal S1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  have h := h c
  rw [final] at h
  exact h

end Cert.DwOutIdeal.Grad

namespace Cert.DwOutReferenceIdeal.Grad

open Cert.DwOutReferenceIdeal Cert.DwOutReferenceIdeal.Gen
open Idealize.ShloMosaic Idealize.ShloMosaic.TcCoe Idealize.SL.Sem
open Cert.DwOutIdeal.Grad (dw)

variable (m : (ℓ : Loc nD τ sig) → Buf (Elt Ideal) ℓ)

/-- The mixed heads and the output's gradient on a device. -/
def aP (c : Dev nD) : FVec Ideal S8192x1024 .f32 := m ((c.tc : Thread nD τ).loc main_arg0)
def aC (c : Dev nD) : FVec Ideal S8192x1024 .f32 := m ((c.tc : Thread nD τ).loc main_arg2)

/-- Every execution of the reference ends with the same gradient. -/
theorem run_spec (ρ : Dev nD → PrngReg) :
    θ_run defs (onTc (τ := τ) (main (F := Ideal))) ⟨m, fun _ => 0, ρ⟩ fun r => ∀ c : Dev nD,
      r.2.mem ((c.tc : Thread nD τ).loc main_v3) = (fun j => dw (aP m c) (aC m c) (j 0) (j 1) : FVec Ideal S1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  refine ⟨(h c).1.trans ?_, (h c).2⟩
  funext j; idx_vars j
  pointwise []
  exact Finset.sum_congr rfl fun i _ => mul_comm _ _

end Cert.DwOutReferenceIdeal.Grad

namespace Cert.Weights

open Idealize.ShloMosaic Idealize.ShloMosaic.TcCoe Idealize.SL.Sem

theorem out_frame : Cert.quiescent_DwOut := fun m ρ _ => Cert.DwOut.Gen.frame m ρ
theorem out_frame_ideal : Cert.quiescent_DwOutIdeal := fun m ρ _ => Cert.DwOutIdeal.Gen.frame m ρ
theorem out_frame_ref : Cert.quiescent_DwOutReferenceIdeal := fun m ρ _ =>
  (θ_run Cert.DwOutReferenceIdeal.defs _ _).mono (fun r h => ⟨fun c => (h c).2, sem_eq_zero_of_no_sems (by decide) r.2⟩)
    (Cert.DwOutReferenceIdeal.Value.run m ρ)

/-- Kernel and reference end with the same gradient of the output weight. -/
theorem out_algebraic : Cert.algebraic_DwOutIdeal_DwOutReferenceIdeal := by
  intro m ρ m' ρ' _ hag
  have hr := DwOutReferenceIdeal.Grad.run_spec m' ρ'
  have e0 : ∀ c, DwOutReferenceIdeal.Grad.aP m' c = DwOutIdeal.Grad.aP m c := fun c => (hag c).1
  have e1 : ∀ c, DwOutReferenceIdeal.Grad.aC m' c = DwOutIdeal.Grad.aC m c := fun c => (hag c).2.2
  simp only [e0, e1] at hr
  exact ⟨fun c => _, DwOutIdeal.Grad.run_spec m ρ, hr⟩

end Cert.Weights

end
-- ==== Proof.Weights.Ff1.lean ====
module

public import proofs.«01_k».proof.Defs
public import proofs.«01_k».proof.Proof.Gen.DwFf1.Frame
public import proofs.«01_k».proof.Proof.Gen.DwFf1Ideal.Value
public import proofs.«01_k».proof.Proof.Gen.DwFf1ReferenceIdeal.Run
public import Idealize.ShloMosaic.Lib.Pipeline.ValueKit
public import proofs.«01_k».proof.Proof.Common.Real

@[expose] public section

set_option maxRecDepth 16384

noncomputable section

/-! The gradient of the feed-forward block's first weight: the gradient at the hidden layer, transposed, times the
    normalised rows of the block's input. The result is the transpose of the weight's gradient, as the kernel stores that weight. -/

namespace Cert.DwFf1Ideal.Grad

open Cert.DwFf1Ideal Cert.DwFf1Ideal.Gen
open Idealize.ShloMosaic Idealize.ShloMosaic.TcCoe Idealize.SL.Sem
open Idealize.ShloMosaic.Pipeline (Dat)

/-- Entry `(f, k)` of the weight's gradient, transposed, from the gradient `d` at the hidden layer, the block's input `x` and the norm's gain `g`. -/
def dw (d : FVec Ideal S8192x4096 .f32) (x : FVec Ideal S8192x1024 .f32) (g : FVec Ideal S1024 .f32) (f : Fin 4096) (k : Fin 1024) : EReal :=
  ∑ i : Fin 8192, d (ix2 i f) * (x (ix2 i k) * Common.rs (fun l => x (ix2 i l)) * g (ix1 k))

variable (m : (ℓ : Loc nD τ sig) → Buf (Elt Ideal) ℓ)

/-- The gradient at the hidden layer, the block's input and the gain on a device. -/
def aD (c : Dev nD) : FVec Ideal S8192x4096 .f32 := m ((c.tc : Thread nD τ).loc main_arg3)
def aX (c : Dev nD) : FVec Ideal S8192x1024 .f32 := m ((c.tc : Thread nD τ).loc main_arg0)
def aG (c : Dev nD) : FVec Ideal S1024 .f32 := m ((c.tc : Thread nD τ).loc main_arg1)

theorem a_at (c : Dev nD) (i : Fin 8192) (f : Fin 4096) : (V m c (Pipeline.arrRef spec0 0) : FVec Ideal S8192x4096 .bf16) (ix2 i f) = aD m c (ix2 i f) := by
  simp only [V, hostOps0, List.flatten_cons, List.flatten_nil, List.append_nil, List.cons_append, List.nil_append]; after_results
  rfl

/-- The normalised rows as the host computes them. -/
def hn (X : FVec Ideal S8192x1024 .f32) (G : FVec Ideal S1024 .f32) : FVec Ideal S8192x1024 .bf16 :=
  truncf .bf16 (mulf
                (mulf X
                  (broadcastInDim S8192x1024 ![0, 1] bcast_S8192x1_S8192x1024_0_1
                    (Host.rsqrt
                      (addf
                        (Host.divf
                          (broadcastInDim S8192x1 ![0] bcast_S8192_S8192x1_0
                            (Host.reduceAdd (mulf X X)
                              (constant S_ FTy.f32 0#32) reducesTo_S8192x1024_S8192_d1 h_S_))
                          (broadcastInDim S8192x1 ![] bcast_S_S8192x1 (constant S_ FTy.f32 1149239296#32)))
                        (broadcastInDim S8192x1 ![] bcast_S_S8192x1 (constant S_ FTy.f32 897988541#32))))))
                (broadcastInDim S8192x1024 ![0, 1] bcast_S1x1024_S8192x1024_0_1
                  (broadcastInDim S1x1024 ![1] bcast_S1024_S1x1024_1 G))) bitsLt_bf16_f32

theorem V_b (c : Dev nD) : V m c (Pipeline.arrRef spec0 1) = hn (aX m c) (aG m c) := by
  simp only [V, hostOps0, List.flatten_cons, List.flatten_nil, List.append_nil, List.cons_append, List.nil_append]; after_results
  rfl

theorem b_at (c : Dev nD) (i : Fin 8192) (k : Fin 1024) : (V m c (Pipeline.arrRef spec0 1) : FVec Ideal S8192x1024 .bf16) (ix2 i k)
    = aX m c (ix2 i k) * Common.rs (fun l => aX m c (ix2 i l)) * aG m c (ix1 k) := by
  rw [V_b]
  pointwise [hn]
  rfl

/-- Where each point's blocks lie. -/
theorem idx : ∀ t : Fin cfg0.N, win0_0.index t = ![0, t.val] ∧ win0_1.index t = ![0, 0] ∧ win0_2.index t = ![t.val, 0] ∧ t.val < 8 :=
  (by decide +kernel : ∀ t : Fin grid0.N, _)

/-- Column `a` of block `t` of the hidden layer's gradient. -/
def col (t : Fin cfg0.N) (a : Fin 512) : Fin 4096 := ⟨t.val * 512 + a.val, by have := (idx t).2.2.2; omega⟩

theorem b0 (c : Dev nD) (t : Fin cfg0.N) (i : Fin 8192) (a : Fin 512) : (iblk m c 0 t : FVec Ideal S8192x512 .bf16) (ix2 i a) = aD m c (ix2 i (col t a)) := by
  blk_simp [iblk]
  refine (congrArg (V m c (Pipeline.arrRef spec0 0)) (?_ : _ = ix2 i (col t a))).trans (a_at m c _ _)
  blk_ext [idx t, col]

theorem b1 (c : Dev nD) (t : Fin cfg0.N) (i : Fin 8192) (k : Fin 1024) : (iblk m c 1 t : FVec Ideal S8192x1024 .bf16) (ix2 i k)
    = aX m c (ix2 i k) * Common.rs (fun l => aX m c (ix2 i l)) * aG m c (ix1 k) := by
  blk_simp [iblk]
  refine (congrArg (V m c (Pipeline.arrRef spec0 1)) (?_ : _ = ix2 i k)).trans (b_at m c _ _)
  blk_ext [idx t]

/-- What the body leaves in the result's block. -/
theorem block (c : Dev nD) (t : Fin cfg0.N) (a : Fin 512) (k : Fin 1024) :
    outsAt0 m c t (ix2 a k) = dw (aD m c) (aX m c) (aG m c) (col t a) k := by
  unfold outsAt0
  frame_out
  pointwise [k0_pay1, k0_pay2, k0_pay3]
  exact (Finset.sum_congr rfl fun i _ =>
    congrArg₂ (· * ·) (b0 m c t i a) (b1 m c t i k))

theorem final (c : Dev nD) : (dats m 0 c).arrAt 2 (cfgs 0).N = (fun j => dw (aD m c) (aX m c) (aG m c) (j 0) (j 1) : FVec Ideal S4096x1024 .bf16) := by
  refine (dats m 0 c).arrAt_eq_of_covers 2 _ (by decide +kernel) fun t hf y => ?_
  blk_simp
  rw [after0_2]
  idx_vars y
  refine (block m c t y0 y1).trans ?_
  exact congrArg₂ (dw (aD m c) (aX m c) (aG m c)) (Fin.ext (by blk_simp [idx t, col])) (Fin.ext (by blk_simp [idx t]))

/-- Every execution of the kernel's program ends with the gradient in its result array, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v15) = (fun j => dw (aD m c) (aX m c) (aG m c) (j 0) (j 1) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final] at h
  exact h

end Cert.DwFf1Ideal.Grad

namespace Cert.DwFf1ReferenceIdeal.Grad

open Cert.DwFf1ReferenceIdeal Cert.DwFf1ReferenceIdeal.Gen
open Idealize.ShloMosaic Idealize.ShloMosaic.TcCoe Idealize.SL.Sem
open Cert.DwFf1Ideal.Grad (dw)

variable (m : (ℓ : Loc nD τ sig) → Buf (Elt Ideal) ℓ)

/-- The gradient at the hidden layer, the block's input and the gain on a device. -/
def aD (c : Dev nD) : FVec Ideal S8192x4096 .f32 := m ((c.tc : Thread nD τ).loc main_arg3)
def aX (c : Dev nD) : FVec Ideal S8192x1024 .f32 := m ((c.tc : Thread nD τ).loc main_arg0)
def aG (c : Dev nD) : FVec Ideal S1024 .f32 := m ((c.tc : Thread nD τ).loc main_arg1)

/-- Every execution of the reference ends with the same gradient. -/
theorem run_spec (ρ : Dev nD → PrngReg) :
    θ_run defs (onTc (τ := τ) (main (F := Ideal))) ⟨m, fun _ => 0, ρ⟩ fun r => ∀ c : Dev nD,
      r.2.mem ((c.tc : Thread nD τ).loc main_v17) = (fun j => dw (aD m c) (aX m c) (aG m c) (j 0) (j 1) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  refine ⟨(h c).1.trans ?_, (h c).2⟩
  funext j; idx_vars j
  pointwise []
  rfl

end Cert.DwFf1ReferenceIdeal.Grad

namespace Cert.Weights

open Idealize.ShloMosaic Idealize.ShloMosaic.TcCoe Idealize.SL.Sem

theorem ff1_frame : Cert.quiescent_DwFf1 := fun m ρ _ => Cert.DwFf1.Gen.frame m ρ
theorem ff1_frame_ideal : Cert.quiescent_DwFf1Ideal := fun m ρ _ => Cert.DwFf1Ideal.Gen.frame m ρ
theorem ff1_frame_ref : Cert.quiescent_DwFf1ReferenceIdeal := fun m ρ _ =>
  (θ_run Cert.DwFf1ReferenceIdeal.defs _ _).mono (fun r h => ⟨fun c => (h c).2, sem_eq_zero_of_no_sems (by decide) r.2⟩)
    (Cert.DwFf1ReferenceIdeal.Value.run m ρ)

/-- Kernel and reference end with the same gradient of the first weight. -/
theorem ff1_algebraic : Cert.algebraic_DwFf1Ideal_DwFf1ReferenceIdeal := by
  intro m ρ m' ρ' _ hag
  have hr := DwFf1ReferenceIdeal.Grad.run_spec m' ρ'
  have e0 : ∀ c, DwFf1ReferenceIdeal.Grad.aX m' c = DwFf1Ideal.Grad.aX m c := fun c => (hag c).1
  have e1 : ∀ c, DwFf1ReferenceIdeal.Grad.aG m' c = DwFf1Ideal.Grad.aG m c := fun c => (hag c).2.1
  have e2 : ∀ c, DwFf1ReferenceIdeal.Grad.aD m' c = DwFf1Ideal.Grad.aD m c := fun c => (hag c).2.2.2
  simp only [e0, e1, e2] at hr
  exact ⟨fun c => _, DwFf1Ideal.Grad.run_spec m ρ, hr⟩

end Cert.Weights

end
-- ==== Proof.Weights.Ff2.lean ====
module

public import proofs.«01_k».proof.Defs
public import proofs.«01_k».proof.Proof.Gen.DwFf2.Frame
public import proofs.«01_k».proof.Proof.Gen.DwFf2Ideal.Value
public import proofs.«01_k».proof.Proof.Gen.DwFf2ReferenceIdeal.Run
public import Idealize.ShloMosaic.Lib.Pipeline.ValueKit

@[expose] public section

set_option maxRecDepth 16384

noncomputable section

/-! The gradient of the feed-forward block's second weight: the squared rectified hidden layer, transposed, times the
    gradient of the block's output. -/

namespace Cert.DwFf2Ideal.Grad

open Cert.DwFf2Ideal Cert.DwFf2Ideal.Gen
open Idealize.ShloMosaic Idealize.ShloMosaic.TcCoe Idealize.SL.Sem
open Idealize.ShloMosaic.Pipeline (Dat)

/-- Entry `(f, k)` of the weight's gradient, from the hidden layer `p` before the rectifier and the output's gradient `ct`. -/
def dw (p : FVec Ideal S8192x4096 .f32) (ct : FVec Ideal S8192x1024 .f32) (f : Fin 4096) (k : Fin 1024) : EReal :=
  ∑ i : Fin 8192, max (p (ix2 i f)) 0 * max (p (ix2 i f)) 0 * ct (ix2 i k)

variable (m : (ℓ : Loc nD τ sig) → Buf (Elt Ideal) ℓ)

/-- The hidden layer and the output's gradient on a device. -/
def aP (c : Dev nD) : FVec Ideal S8192x4096 .f32 := m ((c.tc : Thread nD τ).loc main_arg0)
def aC (c : Dev nD) : FVec Ideal S8192x1024 .f32 := m ((c.tc : Thread nD τ).loc main_arg2)

theorem V_a (c : Dev nD) : V m c (Pipeline.arrRef spec0 0) = (truncf .bf16 (maximumf (aP m c)
    (broadcastInDim S8192x4096 ![] bcast_S_S8192x4096 (constant S_ FTy.f32 0#32))) bitsLt_bf16_f32 : FVec Ideal S8192x4096 .bf16) := by
  simp only [V, hostOps0, hostOps0_1, List.flatten_cons, List.flatten_nil, List.append_nil, List.cons_append, List.nil_append]; after_results
  rfl

theorem a_at (c : Dev nD) (i : Fin 8192) (f : Fin 4096) : (V m c (Pipeline.arrRef spec0 0) : FVec Ideal S8192x4096 .bf16) (ix2 i f) = max (aP m c (ix2 i f)) 0 := by
  rw [V_a]
  pointwise []

theorem b_at (c : Dev nD) (i : Fin 8192) (k : Fin 1024) : (V m c (Pipeline.arrRef spec0 1) : FVec Ideal S8192x1024 .bf16) (ix2 i k) = aC m c (ix2 i k) := by
  simp only [V, hostOps0, hostOps0_1, List.flatten_cons, List.flatten_nil, List.append_nil, List.cons_append, List.nil_append]; after_results
  rfl

/-- Where each point's blocks lie. -/
theorem idx : ∀ t : Fin cfg0.N, win0_0.index t = ![0, t.val] ∧ win0_1.index t = ![0, 0] ∧ win0_2.index t = ![t.val, 0] ∧ t.val < 8 :=
  (by decide +kernel : ∀ t : Fin grid0.N, _)

/-- Column `a` of block `t` of the hidden layer. -/
def col (t : Fin cfg0.N) (a : Fin 512) : Fin 4096 := ⟨t.val * 512 + a.val, by have := (idx t).2.2.2; omega⟩

theorem b0 (c : Dev nD) (t : Fin cfg0.N) (i : Fin 8192) (a : Fin 512) : (iblk m c 0 t : FVec Ideal S8192x512 .bf16) (ix2 i a) = max (aP m c (ix2 i (col t a))) 0 := by
  blk_simp [iblk]
  refine (congrArg (V m c (Pipeline.arrRef spec0 0)) (?_ : _ = ix2 i (col t a))).trans (a_at m c _ _)
  blk_ext [idx t, col]

theorem b1 (c : Dev nD) (t : Fin cfg0.N) (i : Fin 8192) (k : Fin 1024) : (iblk m c 1 t : FVec Ideal S8192x1024 .bf16) (ix2 i k) = aC m c (ix2 i k) := by
  blk_simp [iblk]
  refine (congrArg (V m c (Pipeline.arrRef spec0 1)) (?_ : _ = ix2 i k)).trans (b_at m c _ _)
  blk_ext [idx t]

/-- What the body leaves in the result's block. -/
theorem block (c : Dev nD) (t : Fin cfg0.N) (a : Fin 512) (k : Fin 1024) :
    outsAt0 m c t (ix2 a k) = dw (aP m c) (aC m c) (col t a) k := by
  unfold outsAt0
  frame_out
  pointwise [k0_pay1, k0_pay2, k0_pay3]
  exact (Finset.sum_congr rfl fun i _ =>
    congrArg₂ (· * ·) (congrArg₂ (· * ·) (b0 m c t i a) (b0 m c t i a)) (b1 m c t i k))

theorem final (c : Dev nD) : (dats m 0 c).arrAt 2 (cfgs 0).N = (fun j => dw (aP m c) (aC m c) (j 0) (j 1) : FVec Ideal S4096x1024 .bf16) := by
  refine (dats m 0 c).arrAt_eq_of_covers 2 _ (by decide +kernel) fun t hf y => ?_
  blk_simp
  rw [after0_2]
  idx_vars y
  refine (block m c t y0 y1).trans ?_
  exact congrArg₂ (dw (aP m c) (aC m c)) (Fin.ext (by blk_simp [idx t, col])) (Fin.ext (by blk_simp [idx t]))

/-- Every execution of the kernel's program ends with the gradient in its result array, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v3) = (fun j => dw (aP m c) (aC m c) (j 0) (j 1) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  have h := h c
  rw [final] at h
  exact h

end Cert.DwFf2Ideal.Grad

namespace Cert.DwFf2ReferenceIdeal.Grad

open Cert.DwFf2ReferenceIdeal Cert.DwFf2ReferenceIdeal.Gen
open Idealize.ShloMosaic Idealize.ShloMosaic.TcCoe Idealize.SL.Sem
open Cert.DwFf2Ideal.Grad (dw)

variable (m : (ℓ : Loc nD τ sig) → Buf (Elt Ideal) ℓ)

/-- The hidden layer and the output's gradient on a device. -/
def aP (c : Dev nD) : FVec Ideal S8192x4096 .f32 := m ((c.tc : Thread nD τ).loc main_arg0)
def aC (c : Dev nD) : FVec Ideal S8192x1024 .f32 := m ((c.tc : Thread nD τ).loc main_arg2)

/-- Every execution of the reference ends with the same gradient. -/
theorem run_spec (ρ : Dev nD → PrngReg) :
    θ_run defs (onTc (τ := τ) (main (F := Ideal))) ⟨m, fun _ => 0, ρ⟩ fun r => ∀ c : Dev nD,
      r.2.mem ((c.tc : Thread nD τ).loc main_v5) = (fun j => dw (aP m c) (aC m c) (j 0) (j 1) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  refine ⟨(h c).1.trans ?_, (h c).2⟩
  funext j; idx_vars j
  pointwise []
  exact Finset.sum_congr rfl fun i _ => mul_comm _ _

end Cert.DwFf2ReferenceIdeal.Grad

namespace Cert.Weights

open Idealize.ShloMosaic Idealize.ShloMosaic.TcCoe Idealize.SL.Sem

theorem ff2_frame : Cert.quiescent_DwFf2 := fun m ρ _ => Cert.DwFf2.Gen.frame m ρ
theorem ff2_frame_ideal : Cert.quiescent_DwFf2Ideal := fun m ρ _ => Cert.DwFf2Ideal.Gen.frame m ρ
theorem ff2_frame_ref : Cert.quiescent_DwFf2ReferenceIdeal := fun m ρ _ =>
  (θ_run Cert.DwFf2ReferenceIdeal.defs _ _).mono (fun r h => ⟨fun c => (h c).2, sem_eq_zero_of_no_sems (by decide) r.2⟩)
    (Cert.DwFf2ReferenceIdeal.Value.run m ρ)

/-- Kernel and reference end with the same gradient of the second weight. -/
theorem ff2_algebraic : Cert.algebraic_DwFf2Ideal_DwFf2ReferenceIdeal := by
  intro m ρ m' ρ' _ hag
  have hr := DwFf2ReferenceIdeal.Grad.run_spec m' ρ'
  have e0 : ∀ c, DwFf2ReferenceIdeal.Grad.aP m' c = DwFf2Ideal.Grad.aP m c := fun c => (hag c).1
  have e1 : ∀ c, DwFf2ReferenceIdeal.Grad.aC m' c = DwFf2Ideal.Grad.aC m c := fun c => (hag c).2.2
  simp only [e0, e1] at hr
  exact ⟨fun c => _, DwFf2Ideal.Grad.run_spec m ρ, hr⟩

end Cert.Weights

end
-- ==== Proof.Common.Upto.lean ====
module

public import Idealize.ShloMosaic.Lib.Pipeline.ValueKit

@[expose] public section

/-! Sums that a kernel gathers block by block over its grid of 16 points, 512 rows at each. -/

namespace Cert.Common

/-- An accumulator that starts at the first point and adds at each point the part of its block of rows ends with the sum over all rows. -/
theorem upto {N : ℕ} (hN : N = 16) (O : ∀ n : ℕ, n < N → EReal) (f : Fin 8192 → EReal)
    (hA : ∀ t : Fin N, t.val % 16 = 0 → O t.val t.isLt = 0 + ∑ a : Fin 512, f ⟨t.val * 512 + a.val, by omega⟩)
    (hB : ∀ t : Fin N, ¬t.val % 16 = 0 → O t.val t.isLt
      = O (t.val - 1) (Nat.lt_of_le_of_lt (Nat.sub_le _ _) t.isLt) + ∑ a : Fin 512, f ⟨t.val * 512 + a.val, by omega⟩) :
    O 15 (by omega) = ∑ i, f i := by
  have key : ∀ (n : ℕ) (h : n < N), O n h = ∑ s : Fin (n + 1), ∑ a : Fin 512, f ⟨s.val * 512 + a.val, by omega⟩ := by
    intro n
    induction n with
    | zero =>
      intro h
      rw [hA ⟨0, h⟩ rfl, zero_add, Fin.sum_univ_one]
      rfl
    | succ n ih =>
      intro h
      refine (hB ⟨n + 1, h⟩ (by show ¬(n + 1) % 16 = 0; omega)).trans ?_
      rw [Fin.sum_univ_castSucc (n := n + 1)]
      exact congrArg₂ (· + ·) (ih (by omega)) rfl
  refine (key 15 _).trans ?_
  rw [← Fin.sum_mul_add_fin 16 512 f]

/-- A finite factor that is not negative goes into a sum. -/
theorem mul_sum_of_nonneg {ι : Type*} (s : Finset ι) (x : EReal) (h0 : 0 ≤ x) (ht : x ≠ ⊤) (f : ι → EReal) :
    x * ∑ i ∈ s, f i = ∑ i ∈ s, x * f i := by
  classical
  induction s using Finset.induction_on with
  | empty => simp
  | insert a s ha ih => rw [Finset.sum_insert ha, Finset.sum_insert ha, EReal.left_distrib_of_nonneg_of_ne_top h0 ht, ih]

end Cert.Common
-- ==== Proof.Ffn.Fwd.lean ====
module

public import proofs.«01_k».proof.Defs
public import proofs.«01_k».proof.Proof.Gen.FfnFwd.Frame
public import proofs.«01_k».proof.Proof.Gen.FfnFwdIdeal.Value
public import proofs.«01_k».proof.Proof.Gen.FfnFwdReferenceIdeal.Run
public import proofs.«01_k».proof.Proof.Gen.Pre_fwd_finite
public import Idealize.ShloMosaic.Lib.Pipeline.ValueKit
public import proofs.«01_k».proof.Proof.Common.All
public import proofs.«01_k».proof.Proof.Common.Upto
public import proofs.«01_k».proof.Proof.Ffn.Spec

@[expose] public section

set_option maxRecDepth 16384

noncomputable section

/-! The forward feed-forward block with the final norm, the loss and the loss's gradient: `x` a row of the block's input, `g` the gain of
    its norm, `w1` and `w2` the weights, `gf` the gain of the final norm, `t` the row of the targets. -/

namespace Cert.FfnFwd.Spec

open Idealize.ShloMosaic Cert.Common Cert.Ffn

abbrev W : EReal := Ideal.ofBits .f32 0x44800000#32
abbrev half : EReal := Ideal.ofBits .f32 0x3F000000#32

/-- The row after the block, from the normalised row `n`. -/
def out (x n : Fin 1024 → EReal) (w1 : Fin 1024 → Fin 4096 → EReal) (w2 : Fin 4096 → Fin 1024 → EReal) (k : Fin 1024) : EReal :=
  x k + ∑ f, Max.max (∑ l, n l * w1 l f) 0 * Max.max (∑ l, n l * w1 l f) 0 * w2 f k

/-- The hidden layer after the rectifier. -/
def rl (n : Fin 1024 → EReal) (w1 : Fin 1024 → Fin 4096 → EReal) (f : Fin 4096) : EReal := Max.max (∑ l, n l * w1 l f) 0

/-- The normalised row, times its gain. -/
def nrm (x g : Fin 1024 → EReal) (k : Fin 1024) : EReal := x k * rs x * g k

/-- The final norm's distance from the target, and its gradient's factor. -/
def err (h gf t : Fin 1024 → EReal) (k : Fin 1024) : EReal := nrm h gf k - t k
def dy (h gf t : Fin 1024 → EReal) (k : Fin 1024) : EReal := err h gf t k * Ideal.ofBits .f32 0x3A800000#32

/-- A row's mean of squares of the distance. -/
def mse (h gf t : Fin 1024 → EReal) : EReal := Ideal.div (∑ k, err h gf t k * err h gf t k) W

/-- The gradient at the row. -/
def dh (h gf t : Fin 1024 → EReal) (k : Fin 1024) : EReal :=
  rs h * (dy h gf t k * gf k - h k * rs h * Ideal.div (∑ j, dy h gf t j * gf j * (h j * rs h)) W)

/-- The row's part of the loss. -/
def ls (h gf t : Fin 1024 → EReal) : EReal := half * mse h gf t

/-- The row's part of the gradient of the gain. -/
def dg (h gf t : Fin 1024 → EReal) (k : Fin 1024) : EReal := dy h gf t k * (h k * rs h)

theorem half_eq : half = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem inv_eq : Ideal.ofBits .f32 0x3A800000#32 = ((1 / 1024 : ℝ) : EReal) := by
  simp [Ideal.ofBits, Ideal.ieee, -EReal.coe_mul]; norm_num

/-- The factor one half goes into a sum over rows. -/
theorem half_sum {n : ℕ} (f : Fin n → EReal) : half * ∑ i, f i = ∑ i, half * f i := by
  refine mul_sum_of_nonneg _ _ ?_ ?_ f <;> rw [half_eq]
  · exact EReal.coe_nonneg.mpr (by norm_num)
  · exact EReal.coe_ne_top _

/-- Half a mean over 1024 of the squared distance has the distance's 1024th part for its derivative. -/
theorem dy_eq (e : EReal) :
    Ideal.div (half * Ideal.ofBits .f32 0x3F800000#32) W * (Ideal.ofBits .f32 0x40000000#32 * e) = e * Ideal.ofBits .f32 0x3A800000#32 := by
  rw [half_eq, one_eq, inv_eq, show W = _ from width, two, ← EReal.coe_mul, Ideal.div_coe (by norm_num), ← mul_assoc, ← EReal.coe_mul, mul_comm, ← EReal.coe_mul]
  norm_num

theorem IsR.inv : IsR (Ideal.ofBits .f32 0x3A800000#32) := ⟨_, inv_eq⟩

theorem IsR.nrm {x g : Fin 1024 → EReal} (hx : ∀ k, IsR (x k)) (hg : ∀ k, IsR (g k)) (k : Fin 1024) : IsR (nrm x g k) :=
  ((hx k).mul (IsR.rs hx)).mul (hg k)

theorem IsR.out {x n : Fin 1024 → EReal} {w1 : Fin 1024 → Fin 4096 → EReal} {w2 : Fin 4096 → Fin 1024 → EReal} (hx : ∀ k, IsR (x k))
    (hn : ∀ k, IsR (n k)) (h1 : ∀ k f, IsR (w1 k f)) (h2 : ∀ f k, IsR (w2 f k)) (k : Fin 1024) : IsR (out x n w1 w2 k) :=
  have hr : ∀ f, IsR (Max.max (∑ l, n l * w1 l f) 0) := fun f => (IsR.sum fun l => (hn l).mul (h1 l f)).max IsR.zero
  (hx k).add (IsR.sum fun f => ((hr f).mul (hr f)).mul (h2 f k))

/-- The chain rule's three terms at the final norm's input. -/
theorem dh_eq {h gf t : Fin 1024 → EReal} (hh : ∀ k, IsR (h k)) (hg : ∀ k, IsR (gf k)) (ht : ∀ k, IsR (t k)) (k : Fin 1024) :
    dy h gf t k * gf k * rs h
        + h k * Ideal.div ((∑ j, h j * (dy h gf t j * gf j)) * (Ideal.ofBits .f32 0xBF000000#32 * Ideal.div (rs h) (ms h))) W
        + Ideal.div ((∑ j, h j * (dy h gf t j * gf j)) * (Ideal.ofBits .f32 0xBF000000#32 * Ideal.div (rs h) (ms h))) W * h k
      = dh h gf t k :=
  rms_grad h (fun k => dy h gf t k * gf k) hh (fun k => ((((IsR.nrm hh hg k).sub (ht k)).mul IsR.inv).mul (hg k))) k

end Cert.FfnFwd.Spec

namespace Cert.FfnFwdIdeal.Grad

open Cert.FfnFwdIdeal Cert.FfnFwdIdeal.Gen
open Idealize.ShloMosaic Idealize.ShloMosaic.TcCoe Idealize.SL.Sem
open Idealize.ShloMosaic.Pipeline (Dat)
open Cert.Common Cert.Ffn Cert.FfnFwd.Spec

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW1 (c : Dev nD) (k : Fin 1024) (f : Fin 4096) : EReal := (m ((c.tc : Thread nD τ).loc main_arg2) : FVec Ideal S1024x4096 .f32) (ix2 k f)
def aW2 (c : Dev nD) (f : Fin 4096) (k : Fin 1024) : EReal := (m ((c.tc : Thread nD τ).loc main_arg3) : FVec Ideal S4096x1024 .f32) (ix2 f k)
def aF (c : Dev nD) (k : Fin 1024) : EReal := (m ((c.tc : Thread nD τ).loc main_arg4) : FVec Ideal S1024 .f32) (ix1 k)
def aT (c : Dev nD) (i : Fin 8192) (k : Fin 1024) : EReal := (m ((c.tc : Thread nD τ).loc main_arg5) : FVec Ideal S8192x1024 .f32) (ix2 i k)
/-- Row `i` after the block. -/
def aO (c : Dev nD) (i : Fin 8192) : Fin 1024 → EReal := out (aX m c i) (nrm (aX m c i) (aG m c)) (aW1 m c) (aW2 m c)

/-- The normalised rows as the host computes them. -/
def hnH (X : FVec Ideal S8192x1024 .f32) (G : FVec Ideal S1024 .f32) : FVec Ideal S8192x1024 .bf16 :=
  truncf .bf16 (mulf (mulf X
                  (broadcastInDim S8192x1024 ![0, 1] bcast_S8192x1_S8192x1024_0_1
                    (Host.rsqrt
                      (addf
                        (Host.divf
                          (broadcastInDim S8192x1 ![0] bcast_S8192_S8192x1_0
                            (Host.reduceAdd (mulf X X) (constant S_ FTy.f32 0#32) reducesTo_S8192x1024_S8192_d1 h_S_))
                          (broadcastInDim S8192x1 ![] bcast_S_S8192x1 (constant S_ FTy.f32 1149239296#32)))
                        (broadcastInDim S8192x1 ![] bcast_S_S8192x1 (constant S_ FTy.f32 897988541#32))))))
                (broadcastInDim S8192x1024 ![0, 1] bcast_S1x1024_S8192x1024_0_1
                  (broadcastInDim S1x1024 ![1] bcast_S1024_S1x1024_1 G))) bitsLt_bf16_f32

theorem V_hn (c : Dev nD) : V m c main_v13 = hnH (m ((c.tc : Thread nD τ).loc main_arg0)) (m ((c.tc : Thread nD τ).loc main_arg1)) := by
  simp only [V, hostOps0, List.flatten_cons, List.flatten_nil, List.append_nil, List.cons_append, List.nil_append]; after_results
  rfl

theorem hn_at (c : Dev nD) (i : Fin 8192) (k : Fin 1024) : (V m c main_v13 : FVec Ideal S8192x1024 .bf16) (ix2 i k) = nrm (aX m c i) (aG m c) k := by
  rw [V_hn]; pointwise [hnH]; rfl

theorem x_at (c : Dev nD) (i : Fin 8192) (k : Fin 1024) : (V m c main_arg0 : FVec Ideal S8192x1024 .f32) (ix2 i k) = aX m c i k := by
  simp only [V, hostOps0, List.flatten_cons, List.flatten_nil, List.append_nil, List.cons_append, List.nil_append]; after_results
  rfl

theorem V_w1 (c : Dev nD) : V m c main_v15 = (truncf .bf16 (transpose S4096x1024 [1, 0] (m ((c.tc : Thread nD τ).loc main_arg2) : FVec Ideal S1024x4096 .f32) transposes_S1024x4096_S4096x1024_1_0) bitsLt_bf16_f32 : FVec Ideal S4096x1024 .bf16) := by
  simp only [V, hostOps0, List.flatten_cons, List.flatten_nil, List.append_nil, List.cons_append, List.nil_append]; after_results

theorem w1_at (c : Dev nD) (f : Fin 4096) (k : Fin 1024) : (V m c main_v15 : FVec Ideal S4096x1024 .bf16) (ix2 f k) = aW1 m c k f := by
  rw [V_w1]; pointwise []; rfl

theorem w2_at (c : Dev nD) (f : Fin 4096) (k : Fin 1024) : (V m c main_v16 : FVec Ideal S4096x1024 .bf16) (ix2 f k) = aW2 m c f k := by
  simp only [V, hostOps0, List.flatten_cons, List.flatten_nil, List.append_nil, List.cons_append, List.nil_append]; after_results
  rfl

theorem V_f (c : Dev nD) : V m c main_v17 = (shapeCast S1x1024 (m ((c.tc : Thread nD τ).loc main_arg4) : FVec Ideal S1024 .f32) shapeCasts_S1024_S1x1024 : FVec Ideal S1x1024 .f32) := by
  simp only [V, hostOps0, List.flatten_cons, List.flatten_nil, List.append_nil, List.cons_append, List.nil_append]; after_results
  rfl

theorem f_at (c : Dev nD) (i : Fin 1) (k : Fin 1024) : (V m c main_v17 : FVec Ideal S1x1024 .f32) (ix2 i k) = aF m c k := by
  rw [V_f]; pointwise []; rfl

theorem t_at (c : Dev nD) (i : Fin 8192) (k : Fin 1024) : (V m c main_arg5 : FVec Ideal S8192x1024 .f32) (ix2 i k) = aT m c i k := by
  simp only [V, hostOps0, List.flatten_cons, List.flatten_nil, List.append_nil, List.cons_append, List.nil_append]; after_results
  rfl

/-- Where each point's blocks lie. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![t.val, 0] ∧ win0_7.index t = ![t.val, 0] ∧ win0_8.index t = ![t.val, 0] ∧ win0_9.index t = ![0, 0] ∧ win0_10.index t = ![0, 0] ∧ t.val < 16 :=
  (by decide +kernel : ∀ t : Fin grid0.N, _)

/-- Row `a` of block `t`. -/
def row (t : Fin cfg0.N) (a : Fin 512) : Fin 8192 := ⟨t.val * 512 + a.val, by have := (idx t).2.2.2.2.2.2.2.2.2.2.2; omega⟩

theorem b0 (c : Dev nD) (t : Fin cfg0.N) (a : Fin 512) (k : Fin 1024) : (iblk m c 0 t : FVec Ideal S512x1024 .bf16) (ix2 a k) = nrm (aX m c (row t a)) (aG m c) k := by
  blk_simp [iblk]
  refine (congrArg (V m c main_v13) (?_ : _ = ix2 (row t a) k)).trans (hn_at m c _ _)
  blk_ext [idx t, row]

theorem b1 (c : Dev nD) (t : Fin cfg0.N) (a : Fin 512) (k : Fin 1024) : (iblk m c 1 t : FVec Ideal S512x1024 .f32) (ix2 a k) = aX m c (row t a) k := by
  blk_simp [iblk]
  refine (congrArg (V m c main_arg0) (?_ : _ = ix2 (row t a) k)).trans (x_at m c _ _)
  blk_ext [idx t, row]

theorem b2 (c : Dev nD) (t : Fin cfg0.N) (a : Fin 4096) (k : Fin 1024) : (iblk m c 2 t : FVec Ideal S4096x1024 .bf16) (ix2 a k) = aW1 m c k a := by
  blk_simp [iblk]
  refine (congrArg (V m c main_v15) (?_ : _ = ix2 a k)).trans (w1_at m c _ _)
  blk_ext [idx t]

theorem b3 (c : Dev nD) (t : Fin cfg0.N) (a : Fin 4096) (k : Fin 1024) : (iblk m c 3 t : FVec Ideal S4096x1024 .bf16) (ix2 a k) = aW2 m c a k := by
  blk_simp [iblk]
  refine (congrArg (V m c main_v16) (?_ : _ = ix2 a k)).trans (w2_at m c _ _)
  blk_ext [idx t]

theorem b4 (c : Dev nD) (t : Fin cfg0.N) (a : Fin 1) (k : Fin 1024) : (iblk m c 4 t : FVec Ideal S1x1024 .f32) (ix2 a k) = aF m c k := by
  blk_simp [iblk]
  refine (congrArg (V m c main_v17) (?_ : _ = ix2 a k)).trans (f_at m c _ _)
  blk_ext [idx t]

theorem b5 (c : Dev nD) (t : Fin cfg0.N) (a : Fin 512) (k : Fin 1024) : (iblk m c 5 t : FVec Ideal S512x1024 .f32) (ix2 a k) = aT m c (row t a) k := by
  blk_simp [iblk]
  refine (congrArg (V m c main_arg5) (?_ : _ = ix2 (row t a) k)).trans (t_at m c _ _)
  blk_ext [idx t, row]

/-- The hidden layer after the rectifier, on one block of rows. -/
def reluB (x0 : FVec Ideal S512x1024 .bf16) (x2 : FVec Ideal S4096x1024 .bf16) : FVec Ideal S512x4096 .bf16 :=
  fun j => Max.max (∑ l : Fin 1024, x0 (ix2 (j 0) l) * x2 (ix2 (j 1) l)) 0

/-- The rows after the block. -/
def outB (x0 : FVec Ideal S512x1024 .bf16) (x1 : FVec Ideal S512x1024 .f32) (x2 x3 : FVec Ideal S4096x1024 .bf16) : FVec Ideal S512x1024 .f32 :=
  fun j => x1 j + ∑ f : Fin 4096, reluB x0 x2 (ix2 (j 0) f) * reluB x0 x2 (ix2 (j 0) f) * x3 (ix2 f (j 1))

theorem out_eq (x0 : FVec Ideal S512x1024 .bf16) (x1 : FVec Ideal S512x1024 .f32) (x2 x3 : FVec Ideal S4096x1024 .bf16) :
    k0_pay29 (F := Ideal) (k0_pay8 x0)
      (k0_pay25 (k0_pay8 x0)
        (k0_pay18 (k0_pay8 x0)
          (k0_pay13 x0 x1
        (View.ld (Val := Elt Ideal) (S := S4096x1024) (e' := .bf16) x2 (Rect.unit ![0, 0] ![512, 1024] inb_S4096x1024_S512x1024_0_0))
        (View.ld (Val := Elt Ideal) (S := S4096x1024) (e' := .bf16) x3 (Rect.unit ![0, 0] ![512, 1024] inb_S4096x1024_S512x1024_0_0))
        (View.ld (Val := Elt Ideal) (S := S4096x1024) (e' := .bf16) x2 (Rect.unit ![512, 0] ![512, 1024] inb_S4096x1024_S512x1024_512_0))
        (View.ld (Val := Elt Ideal) (S := S4096x1024) (e' := .bf16) x3 (Rect.unit ![512, 0] ![512, 1024] inb_S4096x1024_S512x1024_512_0)))
        (View.ld (Val := Elt Ideal) (S := S4096x1024) (e' := .bf16) x2 (Rect.unit ![1024, 0] ![512, 1024] inb_S4096x1024_S512x1024_1024_0))
        (View.ld (Val := Elt Ideal) (S := S4096x1024) (e' := .bf16) x3 (Rect.unit ![1024, 0] ![512, 1024] inb_S4096x1024_S512x1024_1024_0))
        (View.ld (Val := Elt Ideal) (S := S4096x1024) (e' := .bf16) x2 (Rect.unit ![1536, 0] ![512, 1024] inb_S4096x1024_S512x1024_1536_0))
        (View.ld (Val := Elt Ideal) (S := S4096x1024) (e' := .bf16) x3 (Rect.unit ![1536, 0] ![512, 1024] inb_S4096x1024_S512x1024_1536_0)))
        (k0_pay19 (k0_pay8 x0)
        (View.ld (Val := Elt Ideal) (S := S4096x1024) (e' := .bf16) x2 (Rect.unit ![2048, 0] ![512, 1024] inb_S4096x1024_S512x1024_2048_0)))
        (View.ld (Val := Elt Ideal) (S := S4096x1024) (e' := .bf16) x3 (Rect.unit ![2048, 0] ![512, 1024] inb_S4096x1024_S512x1024_2048_0))
        (View.ld (Val := Elt Ideal) (S := S4096x1024) (e' := .bf16) x2 (Rect.unit ![2560, 0] ![512, 1024] inb_S4096x1024_S512x1024_2560_0))
        (View.ld (Val := Elt Ideal) (S := S4096x1024) (e' := .bf16) x3 (Rect.unit ![2560, 0] ![512, 1024] inb_S4096x1024_S512x1024_2560_0))
        (View.ld (Val := Elt Ideal) (S := S4096x1024) (e' := .bf16) x2 (Rect.unit ![3072, 0] ![512, 1024] inb_S4096x1024_S512x1024_3072_0))
        (View.ld (Val := Elt Ideal) (S := S4096x1024) (e' := .bf16) x3 (Rect.unit ![3072, 0] ![512, 1024] inb_S4096x1024_S512x1024_3072_0)))
      (k0_pay26
        (View.ld (Val := Elt Ideal) (S := S4096x1024) (e' := .bf16) x2 (Rect.unit ![3584, 0] ![512, 1024] inb_S4096x1024_S512x1024_3584_0)))
      (constant S512x512 FTy.f32 0#32)
        (View.ld (Val := Elt Ideal) (S := S4096x1024) (e' := .bf16) x3 (Rect.unit ![3584, 0] ![512, 1024] inb_S4096x1024_S512x1024_3584_0))
      = outB x0 x1 x2 x3 := by
  funext j
  idx_vars j
  unfold outB
  rw [sum_tiles]
  simp only [← add_assoc]
  pointwise [k0_pay8, k0_pay9, k0_pay11, k0_pay13, k0_pay14, k0_pay16, k0_pay18, k0_pay19, k0_pay21, k0_pay23, k0_pay25, k0_pay26, k0_pay27, k0_pay29, reluB]

theorem relu_block (c : Dev nD) (t : Fin cfg0.N) (y : S512x4096.Idx) :
    (outsAt0 m c t.val t.isLt).1 y = reluB (iblk m c 0 t) (iblk m c 2 t) y := by
  by_cases h : t.val % 16 = 0
  · rw [outsAt0_A m c t h]
    frame_out
    canon_tiles x h
    all_goals
      idx_vars x
      pointwise [k0_pay8, k0_pay9, k0_pay10, k0_pay11, k0_pay12, k0_pay14, k0_pay15, k0_pay16, k0_pay17, k0_pay19, k0_pay20, k0_pay21, k0_pay22, k0_pay23, k0_pay24, k0_pay26, k0_pay27, k0_pay28, reluB]
    all_goals blk_point []
  · rw [outsAt0_B m c t h]
    frame_out
    canon_tiles x h
    all_goals
      idx_vars x
      pointwise [k0_pay8, k0_pay9, k0_pay10, k0_pay11, k0_pay12, k0_pay14, k0_pay15, k0_pay16, k0_pay17, k0_pay19, k0_pay20, k0_pay21, k0_pay22, k0_pay23, k0_pay24, k0_pay26, k0_pay27, k0_pay28, reluB]
    all_goals blk_point []

section
variable (v4 : FVec Ideal S512x1024 .bf16) (v96 : FVec Ideal S512x1024 .f32) (v98 : FVec Ideal S512x1024 .bf16) (z : FVec Ideal S512x512 .f32)
  (v106 : FVec Ideal S512x1024 .bf16) (g : FVec Ideal S1x1024 .f32) (t : FVec Ideal S512x1024 .f32)

/-- What the rest of the body makes of the rows after the block: the gradient at them, and one block's parts of the loss and of the
    gradient of the final gain. -/
theorem dh_at (a : Fin 512) (k : Fin 1024) :
    k0_pay4 (F := Ideal) (k0_pay30 v4 v96 v98 z v106) (k0_pay31 v4 v96 v98 z v106) (k0_pay32 g) (k0_pay33 v4 v96 v98 z v106 g t) (ix2 a k)
      = dh (fun l => k0_pay29 v4 v96 v98 z v106 (ix2 a l)) (fun l => g (ix2 0 l)) (fun l => t (ix2 a l)) k := by
  pointwise [k0_pay2, k0_pay4, k0_pay30, k0_pay31, k0_pay32, k0_pay33]
  rfl

theorem dh16_at (a : Fin 512) (k : Fin 1024) :
    k0_pay5 (F := Ideal) (k0_pay30 v4 v96 v98 z v106) (k0_pay31 v4 v96 v98 z v106) (k0_pay32 g) (k0_pay33 v4 v96 v98 z v106 g t) (ix2 a k)
      = dh (fun l => k0_pay29 v4 v96 v98 z v106 (ix2 a l)) (fun l => g (ix2 0 l)) (fun l => t (ix2 a l)) k := by
  rw [← dh_at]; rfl

theorem dg_at (acc : FVec Ideal S8x1024 .f32) (b : Fin 8) (k : Fin 1024) :
    k0_pay3 (F := Ideal) (k0_pay31 v4 v96 v98 z v106) (k0_pay33 v4 v96 v98 z v106 g t) acc (ix2 b k)
      = acc (ix2 b k) + ∑ a : Fin 512, dg (fun l => k0_pay29 v4 v96 v98 z v106 (ix2 a l)) (fun l => g (ix2 0 l)) (fun l => t (ix2 a l)) k := by
  pointwise [k0_pay2, k0_pay3, k0_pay30, k0_pay31, k0_pay32, k0_pay33]
  rfl

theorem loss_at (acc : FVec Ideal S8x128 .f32) (b : Fin 8) (k : Fin 128) :
    k0_pay1 (F := Ideal) (k0_pay34 acc) (k0_pay35 v4 v96 v98 z v106 g t) (ix2 b k)
      = acc (ix2 b k) + half * ∑ a : Fin 512, mse (fun l => k0_pay29 v4 v96 v98 z v106 (ix2 a l)) (fun l => g (ix2 0 l)) (fun l => t (ix2 a l)) := by
  pointwise [k0_pay1, k0_pay34, k0_pay35, k0_pay30, k0_pay31, k0_pay32, k0_pay33]
  simp only [Fin.sum_univ_one, Finset.univ_unique, Finset.sum_const, Finset.card_singleton, one_smul]
  rfl
end

/-- The rows of block `t`. -/
theorem rows (c : Dev nD) (t : Fin cfg0.N) (a : Fin 512) :
    (fun l => outB (iblk m c 0 t) (iblk m c 1 t) (iblk m c 2 t) (iblk m c 3 t) (ix2 a l)) = aO m c (row t a)
    ∧ (fun l => (iblk m c 4 t : FVec Ideal S1x1024 .f32) (ix2 0 l)) = aF m c
    ∧ (fun l => (iblk m c 5 t : FVec Ideal S512x1024 .f32) (ix2 a l)) = aT m c (row t a) := by
  refine ⟨funext fun k => ?_, funext (b4 m c t 0), funext (b5 m c t a)⟩
  have hr : ∀ f, reluB (iblk m c 0 t) (iblk m c 2 t) (ix2 a f) = Max.max (∑ l, nrm (aX m c (row t a)) (aG m c) l * aW1 m c l f) 0 := fun f =>
    congrArg (Max.max · 0) (Finset.sum_congr rfl fun l _ => congrArg₂ (· * ·) (b0 m c t a l) (b2 m c t f l))
  refine congrArg₂ (· + ·) (b1 m c t a k) (Finset.sum_congr rfl fun f _ => congrArg₂ (· * ·) ?_ (b3 m c t f k))
  exact congrArg₂ (· * ·) (hr f) (hr f)

theorem relu_at (c : Dev nD) (t : Fin cfg0.N) (a : Fin 512) (f : Fin 4096) :
    (outsAt0 m c t.val t.isLt).1 (ix2 a f) = rl (nrm (aX m c (row t a)) (aG m c)) (aW1 m c) f :=
  (relu_block m c t _).trans (congrArg (Max.max · 0) (Finset.sum_congr rfl fun l _ => congrArg₂ (· * ·) (b0 m c t a l) (b2 m c t f l)))

theorem dh_block (c : Dev nD) (t : Fin cfg0.N) (a : Fin 512) (k : Fin 1024) :
    (outsAt0 m c t.val t.isLt).2.1 (ix2 a k) = FfnFwd.Spec.dh (aO m c (row t a)) (aF m c) (aT m c (row t a)) k := by
  obtain ⟨h0, h4, h5⟩ := rows m c t a
  by_cases h : t.val % 16 = 0
  · rw [outsAt0_A m c t h]
    frame_out
    rw [dh_at, out_eq, h0, h4, h5]
  · rw [outsAt0_B m c t h]
    frame_out
    rw [dh_at, out_eq, h0, h4, h5]

theorem dh16_block (c : Dev nD) (t : Fin cfg0.N) (a : Fin 512) (k : Fin 1024) :
    (outsAt0 m c t.val t.isLt).2.2.1 (ix2 a k) = FfnFwd.Spec.dh (aO m c (row t a)) (aF m c) (aT m c (row t a)) k := by
  obtain ⟨h0, h4, h5⟩ := rows m c t a
  by_cases h : t.val % 16 = 0
  · rw [outsAt0_A m c t h]
    frame_out
    rw [dh16_at, out_eq, h0, h4, h5]
  · rw [outsAt0_B m c t h]
    frame_out
    rw [dh16_at, out_eq, h0, h4, h5]

theorem loss_A (c : Dev nD) (t : Fin cfg0.N) (h : t.val % 16 = 0) (b : Fin 8) (k : Fin 128) :
    (outsAt0 m c t.val t.isLt).2.2.2.1 (ix2 b k) = 0 + ∑ a : Fin 512, ls (aO m c (row t a)) (aF m c) (aT m c (row t a)) := by
  rw [outsAt0_A m c t h]
  frame_out
  rw [loss_at, out_eq, half_sum]
  refine congrArg₂ (· + ·) (by pointwise [k0_pay6]) (Finset.sum_congr rfl fun a _ => ?_)
  obtain ⟨h0, h4, h5⟩ := rows m c t a
  rw [h0, h4, h5]
  rfl

theorem loss_B (c : Dev nD) (t : Fin cfg0.N) (h : ¬t.val % 16 = 0) (b : Fin 8) (k : Fin 128) :
    (outsAt0 m c t.val t.isLt).2.2.2.1 (ix2 b k) = (outsAt0 m c (t.val - 1) (Nat.lt_of_le_of_lt (Nat.sub_le _ _) t.isLt)).2.2.2.1 (ix2 b k)
      + ∑ a : Fin 512, ls (aO m c (row t a)) (aF m c) (aT m c (row t a)) := by
  rw [outsAt0_B m c t h]
  frame_out
  rw [loss_at, out_eq, half_sum]
  refine congrArg₂ (· + ·) rfl (Finset.sum_congr rfl fun a _ => ?_)
  obtain ⟨h0, h4, h5⟩ := rows m c t a
  rw [h0, h4, h5]
  rfl

theorem dg_A (c : Dev nD) (t : Fin cfg0.N) (h : t.val % 16 = 0) (b : Fin 8) (k : Fin 1024) :
    (outsAt0 m c t.val t.isLt).2.2.2.2 (ix2 b k) = 0 + ∑ a : Fin 512, FfnFwd.Spec.dg (aO m c (row t a)) (aF m c) (aT m c (row t a)) k := by
  rw [outsAt0_A m c t h]
  frame_out
  rw [dg_at, out_eq]
  refine congrArg₂ (· + ·) (by pointwise [k0_pay7]) (Finset.sum_congr rfl fun a _ => ?_)
  obtain ⟨h0, h4, h5⟩ := rows m c t a
  rw [h0, h4, h5]

theorem dg_B (c : Dev nD) (t : Fin cfg0.N) (h : ¬t.val % 16 = 0) (b : Fin 8) (k : Fin 1024) :
    (outsAt0 m c t.val t.isLt).2.2.2.2 (ix2 b k) = (outsAt0 m c (t.val - 1) (Nat.lt_of_le_of_lt (Nat.sub_le _ _) t.isLt)).2.2.2.2 (ix2 b k)
      + ∑ a : Fin 512, FfnFwd.Spec.dg (aO m c (row t a)) (aF m c) (aT m c (row t a)) k := by
  rw [outsAt0_B m c t h]
  frame_out
  rw [dg_at, out_eq]
  refine congrArg₂ (· + ·) rfl (Finset.sum_congr rfl fun a _ => ?_)
  obtain ⟨h0, h4, h5⟩ := rows m c t a
  rw [h0, h4, h5]

theorem final6 (c : Dev nD) : (dats m 0 c).arrAt 6 (cfgs 0).N
    = (fun j => rl (nrm (aX m c (j 0)) (aG m c)) (aW1 m c) (j 1) : FVec Ideal S8192x4096 .bf16) := by
  refine (dats m 0 c).arrAt_eq_of_covers 6 _ (by decide +kernel) fun t hf y => ?_
  blk_simp
  rw [after0_6]
  idx_vars y
  refine (relu_at m c t y0 y1).trans ?_
  exact congrArg₂ (fun i f => rl (nrm (aX m c i) (aG m c)) (aW1 m c) f) (Fin.ext (by blk_simp [idx t, row])) (Fin.ext (by blk_simp [idx t]))

theorem final7 (c : Dev nD) : (dats m 0 c).arrAt 7 (cfgs 0).N
    = (fun j => FfnFwd.Spec.dh (aO m c (j 0)) (aF m c) (aT m c (j 0)) (j 1) : FVec Ideal S8192x1024 .f32) := by
  refine (dats m 0 c).arrAt_eq_of_covers 7 _ (by decide +kernel) fun t hf y => ?_
  blk_simp
  rw [after0_7]
  idx_vars y
  refine (dh_block m c t y0 y1).trans ?_
  exact congrArg₂ (fun i f => FfnFwd.Spec.dh (aO m c i) (aF m c) (aT m c i) f) (Fin.ext (by blk_simp [idx t, row])) (Fin.ext (by blk_simp [idx t]))

theorem final8 (c : Dev nD) : (dats m 0 c).arrAt 8 (cfgs 0).N
    = (fun j => FfnFwd.Spec.dh (aO m c (j 0)) (aF m c) (aT m c (j 0)) (j 1) : FVec Ideal S8192x1024 .bf16) := by
  refine (dats m 0 c).arrAt_eq_of_covers 8 _ (by decide +kernel) fun t hf y => ?_
  blk_simp
  rw [after0_8]
  idx_vars y
  refine (dh16_block m c t y0 y1).trans ?_
  exact congrArg₂ (fun i f => FfnFwd.Spec.dh (aO m c i) (aF m c) (aT m c i) f) (Fin.ext (by blk_simp [idx t, row])) (Fin.ext (by blk_simp [idx t]))

theorem final9 (c : Dev nD) : (dats m 0 c).arrAt 9 (cfgs 0).N
    = (fun _ => ∑ i : Fin 8192, ls (aO m c i) (aF m c) (aT m c i) : FVec Ideal S8x128 .f32) := by
  refine (dats m 0 c).arrAt_eq_of_after_last 9 t0_15 (by decide +kernel) _ fun j => ?_
  blk_simp
  rw [after0_9]
  idx_vars j
  exact upto (N := cfg0.N) (by decide +kernel) (fun n h => (outsAt0 m c n h).2.2.2.1 (ix2 j0 j1)) (fun i => ls (aO m c i) (aF m c) (aT m c i))
    (fun t h => loss_A m c t h j0 j1) (fun t h => loss_B m c t h j0 j1)

theorem final10 (c : Dev nD) : (dats m 0 c).arrAt 10 (cfgs 0).N
    = (fun j => ∑ i : Fin 8192, FfnFwd.Spec.dg (aO m c i) (aF m c) (aT m c i) (j 1) : FVec Ideal S8x1024 .f32) := by
  refine (dats m 0 c).arrAt_eq_of_after_last 10 t0_15 (by decide +kernel) _ fun j => ?_
  blk_simp
  rw [after0_10]
  idx_vars j
  exact upto (N := cfg0.N) (by decide +kernel) (fun n h => (outsAt0 m c n h).2.2.2.2 (ix2 j0 j1)) (fun i => FfnFwd.Spec.dg (aO m c i) (aF m c) (aT m c i) j1)
    (fun t h => dg_A m c t h j0 j1) (fun t h => dg_B m c t h j0 j1)

/-- Every execution of the kernel's program ends with these values in its result arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v18_0) = (fun j => rl (nrm (aX m c (j 0)) (aG m c)) (aW1 m c) (j 1) : FVec Ideal S8192x4096 .bf16)
      ∧ r.2.mem ((c.tc : Thread nD τ).loc main_v18_1) = (fun j => FfnFwd.Spec.dh (aO m c (j 0)) (aF m c) (aT m c (j 0)) (j 1) : FVec Ideal S8192x1024 .f32)
      ∧ r.2.mem ((c.tc : Thread nD τ).loc main_v18_2) = (fun j => FfnFwd.Spec.dh (aO m c (j 0)) (aF m c) (aT m c (j 0)) (j 1) : FVec Ideal S8192x1024 .bf16)
      ∧ r.2.mem ((c.tc : Thread nD τ).loc main_v18_3) = (fun _ => ∑ i : Fin 8192, ls (aO m c i) (aF m c) (aT m c i) : FVec Ideal S8x128 .f32)
      ∧ r.2.mem ((c.tc : Thread nD τ).loc main_v18_4) = (fun j => ∑ i : Fin 8192, FfnFwd.Spec.dg (aO m c i) (aF m c) (aT m c i) (j 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run_blocks m ρ)
  have h := h c
  rw [final6, final7, final8, final9, final10] at h
  exact h

end Cert.FfnFwdIdeal.Grad

namespace Cert.FfnFwdReferenceIdeal.Grad

open Cert.FfnFwdReferenceIdeal Cert.FfnFwdReferenceIdeal.Gen
open Idealize.ShloMosaic Idealize.ShloMosaic.TcCoe Idealize.SL.Sem
open Cert.Common Cert.FfnFwd.Spec

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW1 (c : Dev nD) (k : Fin 1024) (f : Fin 4096) : EReal := (m ((c.tc : Thread nD τ).loc main_arg2) : FVec Ideal S1024x4096 .f32) (ix2 k f)
def aW2 (c : Dev nD) (f : Fin 4096) (k : Fin 1024) : EReal := (m ((c.tc : Thread nD τ).loc main_arg3) : FVec Ideal S4096x1024 .f32) (ix2 f k)
def aF (c : Dev nD) (k : Fin 1024) : EReal := (m ((c.tc : Thread nD τ).loc main_arg4) : FVec Ideal S1024 .f32) (ix1 k)
def aT (c : Dev nD) (i : Fin 8192) (k : Fin 1024) : EReal := (m ((c.tc : Thread nD τ).loc main_arg5) : FVec Ideal S8192x1024 .f32) (ix2 i k)
/-- Row `i` after the block. -/
def aO (c : Dev nD) (i : Fin 8192) : Fin 1024 → EReal := out (aX m c i) (nrm (aX m c i) (aG m c)) (aW1 m c) (aW2 m c)

/-- All arguments hold real numbers. -/
def Real (c : Dev nD) : Prop :=
  (∀ i k, IsR (aX m c i k)) ∧ (∀ k, IsR (aG m c k)) ∧ (∀ k f, IsR (aW1 m c k f)) ∧ (∀ f k, IsR (aW2 m c f k)) ∧ (∀ k, IsR (aF m c k)) ∧ ∀ i k, IsR (aT m c i k)

section
variable (X H T : FVec Ideal S8192x1024 .f32) (G : FVec Ideal S1024 .f32) (W1 : FVec Ideal S1024x4096 .f32) (W2 : FVec Ideal S4096x1024 .f32)

/-- The parts of the reference's expressions: mean of squares, its reciprocal root, the normalised rows, the hidden layer, the rows after
    the block, the loss's gradient after the final norm, and the gradient's common factor of the chain rule. -/
def msR : FVec Ideal S8192x1 .f32 :=
  addf (Host.divf (broadcastInDim S8192x1 ![0] bcast_S8192_S8192x1_0 (Host.reduceAdd (mulf X X) (constant S_ FTy.f32 0x00000000#32) reducesTo_S8192x1024_S8192_d1 h_S_))
    (broadcastInDim S8192x1 ![] bcast_S_S8192x1 (constant S_ FTy.f32 0x44800000#32))) (broadcastInDim S8192x1 ![] bcast_S_S8192x1 (constant S_ FTy.f32 0x358637BD#32))
def unitR : FVec Ideal S8192x1024 .f32 := mulf X (broadcastInDim S8192x1024 ![0, 1] bcast_S8192x1_S8192x1024_0_1 (Host.rsqrt (msR X)))
def gainR : FVec Ideal S8192x1024 .f32 := broadcastInDim S8192x1024 ![0, 1] bcast_S1x1024_S8192x1024_0_1 (broadcastInDim S1x1024 ![1] bcast_S1024_S1x1024_1 G)
def reluR : FVec Ideal S8192x4096 .f32 :=
  maximumf (Host.dotGeneral dot_S8192x1024_S1024x4096_S8192x4096_1_0_0_1_n_n none (mulf (unitR X) (gainR G)) W1)
    (broadcastInDim S8192x4096 ![] bcast_S_S8192x4096 (constant S_ FTy.f32 0x00000000#32))
def rowsR : FVec Ideal S8192x1024 .f32 :=
  addf X (Host.dotGeneral dot_S8192x4096_S4096x1024_S8192x1024_1_0_0_1_n_n none (mulf (reluR X G W1) (reluR X G W1)) W2)
def errR : FVec Ideal S8192x1024 .f32 := subf (mulf (unitR H) (gainR G)) T
def dyR : FVec Ideal S8192x1024 .f32 :=
  mulf (broadcastInDim S8192x1024 ![0] bcast_S8192_S8192x1024_0 (Host.divf (broadcastInDim S8192 ![] bcast_S_S8192 (mulf (constant S_ FTy.f32 0x3F000000#32) (constant S_ FTy.f32 0x3F800000#32))) (broadcastInDim S8192 ![] bcast_S_S8192 (constant S_ FTy.f32 0x44800000#32))))
    (mulf (broadcastInDim S8192x1024 ![] bcast_S_S8192x1024 (constant S_ FTy.f32 0x40000000#32)) (errR H T G))
def sR : FVec Ideal S8192x1024 .f32 :=
  broadcastInDim S8192x1024 ![0] bcast_S8192_S8192x1024_0 (Host.reduceAdd (Host.divf (mulf (shapeCast _ (Host.reduceAdd (mulf H (mulf (dyR H T G) (gainR G))) (constant S_ FTy.f32 0x00000000#32) reducesTo_S8192x1024_S8192_d1 h_S_) shapeCasts_S8192_S8192x1)
      (mulf (broadcastInDim S8192x1 ![] bcast_S_S8192x1 (constant S_ FTy.f32 0xBF000000#32)) (Host.divf (Host.rsqrt (msR H)) (msR H))))
    (broadcastInDim S8192x1 ![] bcast_S_S8192x1 (constant S_ FTy.f32 0x44800000#32))) (constant S_ FTy.f32 0x00000000#32) reducesTo_S8192x1_S8192_d1 h_S_)
def dhR : FVec Ideal S8192x1024 .f32 :=
  addf (addf (mulf (mulf (dyR H T G) (gainR G)) (broadcastInDim S8192x1024 ![0, 1] bcast_S8192x1_S8192x1024_0_1 (Host.rsqrt (msR H)))) (mulf H (sR H T G))) (mulf (sR H T G) H)
end

/-- The rows after the block. -/
def hR (c : Dev nD) : FVec Ideal S8192x1024 .f32 :=
  rowsR (m ((c.tc : Thread nD τ).loc main_arg0)) (m ((c.tc : Thread nD τ).loc main_arg1)) (m ((c.tc : Thread nD τ).loc main_arg2)) (m ((c.tc : Thread nD τ).loc main_arg3))

theorem hR_at (c : Dev nD) (i : Fin 8192) (k : Fin 1024) : hR m c (ix2 i k) = aO m c i k := by
  pointwise [hR, rowsR, reluR, gainR, unitR, msR]
  rfl

theorem dyR_at (H T : FVec Ideal S8192x1024 .f32) (G : FVec Ideal S1024 .f32) (i : Fin 8192) (k : Fin 1024) :
    dyR H T G (ix2 i k) = dy (fun l => H (ix2 i l)) (fun l => G (ix1 l)) (fun l => T (ix2 i l)) k := by
  refine Eq.trans ?_ (dy_eq (err (fun l => H (ix2 i l)) (fun l => G (ix1 l)) (fun l => T (ix2 i l)) k))
  pointwise [dyR, errR, gainR, unitR, msR]
  rfl

theorem dhR_at (H T : FVec Ideal S8192x1024 .f32) (G : FVec Ideal S1024 .f32) (i : Fin 8192) (hh : ∀ k, IsR (H (ix2 i k))) (hg : ∀ k, IsR (G (ix1 k)))
    (ht : ∀ k, IsR (T (ix2 i k))) (k : Fin 1024) :
    dhR H T G (ix2 i k) = dh (fun l => H (ix2 i l)) (fun l => G (ix1 l)) (fun l => T (ix2 i l)) k := by
  refine Eq.trans ?_ (dh_eq hh hg ht k)
  pointwise [dhR, sR, gainR, msR]
  simp only [Fin.sum_univ_one, Finset.univ_unique, Finset.sum_const, Finset.card_singleton, one_smul, dyR_at]
  rfl

/-- Row `i` after the block holds real numbers. -/
theorem Real.row {m} {c : Dev nD} (h : Real m c) (i : Fin 8192) (k : Fin 1024) : IsR (aO m c i k) :=
  IsR.out (h.1 i) (IsR.nrm (h.1 i) h.2.1) h.2.2.1 h.2.2.2.1 k

theorem hR_row (c : Dev nD) (i : Fin 8192) : (fun l => hR m c (ix2 i l)) = aO m c i := funext (hR_at m c i)

theorem dh83 (c : Dev nD) (hR' : Real m c) (i : Fin 8192) (k : Fin 1024) :
    (Value.res_main_v83 m c : FVec Ideal S8192x1024 .f32) (ix2 i k) = dh (aO m c i) (aF m c) (aT m c i) k := by
  have h83 : Value.res_main_v83 m c = dhR (hR m c) (m ((c.tc : Thread nD τ).loc main_arg5)) (m ((c.tc : Thread nD τ).loc main_arg4)) := rfl
  rw [h83, dhR_at _ _ _ _ (fun k => by rw [hR_at]; exact hR'.row i k) hR'.2.2.2.2.1 (hR'.2.2.2.2.2 i), hR_row]
  rfl

theorem loss86 (c : Dev nD) (b : Fin 8) (k : Fin 128) :
    (Value.res_main_v86 m c : FVec Ideal S8x128 .f32) (ix2 b k) = ∑ i : Fin 8192, ls (aO m c i) (aF m c) (aT m c i) := by
  have h86 : Value.res_main_v86 m c = broadcastInDim S8x128 ![] bcast_S_S8x128 (mulf (constant S_ FTy.f32 0x3F000000#32) (Host.reduceAdd (Host.divf (Host.reduceAdd
      (mulf (errR (hR m c) (m ((c.tc : Thread nD τ).loc main_arg5)) (m ((c.tc : Thread nD τ).loc main_arg4))) (errR (hR m c) (m ((c.tc : Thread nD τ).loc main_arg5)) (m ((c.tc : Thread nD τ).loc main_arg4))))
      (constant S_ FTy.f32 0x00000000#32) reducesTo_S8192x1024_S8192_d1 h_S_) (broadcastInDim S8192 ![] bcast_S_S8192 (constant S_ FTy.f32 0x44800000#32)))
      (constant S_ FTy.f32 0x00000000#32) reducesTo_S8192_S_d0 h_S_)) := rfl
  rw [h86]
  simp only [ls]
  rw [← half_sum]
  pointwise []
  refine congrArg _ (Finset.sum_congr rfl fun i _ => ?_)
  rw [← hR_row]
  pointwise [errR, gainR, unitR, msR]
  rfl

theorem dg88 (c : Dev nD) (b : Fin 8) (k : Fin 1024) :
    (Value.res_main_v88 m c : FVec Ideal S8x1024 .f32) (ix2 b k) = ∑ i : Fin 8192, dg (aO m c i) (aF m c) (aT m c i) k := by
  have h88 : Value.res_main_v88 m c = broadcastInDim S8x1024 ![0, 1] bcast_S1x1024_S8x1024_0_1 (broadcastInDim S1x1024 ![1] bcast_S1024_S1x1024_1 (Host.reduceAdd (shapeCast _ (Host.reduceAdd
      (mulf (unitR (hR m c)) (dyR (hR m c) (m ((c.tc : Thread nD τ).loc main_arg5)) (m ((c.tc : Thread nD τ).loc main_arg4))))
      (constant S_ FTy.f32 0x00000000#32) reducesTo_S8192x1024_S1024_d0 h_S_) shapeCasts_S1024_S1x1024) (constant S_ FTy.f32 0x00000000#32) reducesTo_S1x1024_S1024_d0 h_S_)) := rfl
  have hu : ∀ i, (unitR (hR m c) (ix2 i k) : EReal) * dy (aO m c i) (aF m c) (aT m c i) k = dg (aO m c i) (aF m c) (aT m c i) k := fun i => by
    rw [mul_comm, ← hR_row]
    pointwise [unitR, msR]
    rfl
  rw [h88]
  pointwise []
  simp only [Fin.sum_univ_one, Finset.univ_unique, Finset.sum_const, Finset.card_singleton, one_smul, dyR_at, hR_row]
  exact congrArg (fun f : Fin 8192 → EReal => ∑ i, f i) (funext hu)

/-- Every execution of the reference ends with these values, on real arguments. -/
theorem run_spec (ρ : Dev nD → PrngReg) (hR : ∀ c, Real m c) :
    θ_run defs (onTc (τ := τ) (main (F := Ideal))) ⟨m, fun _ => 0, ρ⟩ fun r => ∀ c : Dev nD,
      r.2.mem ((c.tc : Thread nD τ).loc main_v84) = (fun j => rl (nrm (aX m c (j 0)) (aG m c)) (aW1 m c) (j 1) : FVec Ideal S8192x4096 .bf16)
      ∧ r.2.mem ((c.tc : Thread nD τ).loc main_v83) = (fun j => dh (aO m c (j 0)) (aF m c) (aT m c (j 0)) (j 1) : FVec Ideal S8192x1024 .f32)
      ∧ r.2.mem ((c.tc : Thread nD τ).loc main_v85) = (fun j => dh (aO m c (j 0)) (aF m c) (aT m c (j 0)) (j 1) : FVec Ideal S8192x1024 .bf16)
      ∧ r.2.mem ((c.tc : Thread nD τ).loc main_v86) = (fun _ => ∑ i : Fin 8192, ls (aO m c i) (aF m c) (aT m c i) : FVec Ideal S8x128 .f32)
      ∧ r.2.mem ((c.tc : Thread nD τ).loc main_v88) = (fun j => ∑ i : Fin 8192, dg (aO m c i) (aF m c) (aT m c i) (j 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h1, h2, h3, h4, h5, h⟩ := h c
  refine ⟨h1.trans ?_, h2.trans ?_, h3.trans ?_, h4.trans ?_, h5.trans ?_, h⟩
  · funext j; idx_vars j
    pointwise []
    rfl
  · funext j; idx_vars j
    exact dh83 m c (hR c) j0 j1
  · funext j; idx_vars j
    exact dh83 m c (hR c) j0 j1
  · funext j; idx_vars j
    exact loss86 m c j0 j1
  · funext j; idx_vars j
    exact dg88 m c j0 j1

end Cert.FfnFwdReferenceIdeal.Grad

namespace Cert.Pre_fwd_finite

open Idealize.ShloMosaic Cert.Common Cert.Pre_fwd_finite.Gen

theorem reals (a0 : FVec Ideal S8192x1024 .f32) (a1 : FVec Ideal S1024 .f32) (a2 : FVec Ideal S1024x4096 .f32) (a3 : FVec Ideal S4096x1024 .f32)
    (a4 : FVec Ideal S1024 .f32) (a5 : FVec Ideal S8192x1024 .f32) (h : Cert.Pre_fwd_finite.fn a0 a1 a2 a3 a4 a5 = fun _ => 1#1) :
    (∀ i, IsR (a0 i)) ∧ (∀ i, IsR (a1 i)) ∧ (∀ i, IsR (a2 i)) ∧ (∀ i, IsR (a3 i)) ∧ (∀ i, IsR (a4 i)) ∧ ∀ i, IsR (a5 i) := by
  have h := congrFun h (Shape.Idx.first Facts.h_S_)
  unfold Cert.Pre_fwd_finite.fn Cert.Pre_fwd_finite.fn_part1 at h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h, h1⟩ := IntOp.andi_eq_one.mp h
  obtain ⟨-, h0⟩ := IntOp.andi_eq_one.mp h
  exact ⟨IsR.of_all _ _ (fun _ => rfl) _ _ _ _ h0, IsR.of_all _ _ (fun _ => rfl) _ _ _ _ h1, IsR.of_all _ _ (fun _ => rfl) _ _ _ _ h2,
    IsR.of_all _ _ (fun _ => rfl) _ _ _ _ h3, IsR.of_all _ _ (fun _ => rfl) _ _ _ _ h4, IsR.of_all _ _ (fun _ => rfl) _ _ _ _ h5⟩

end Cert.Pre_fwd_finite

namespace Cert.FfnFwd

open Idealize.ShloMosaic Idealize.ShloMosaic.TcCoe Idealize.SL.Sem Cert.Common

theorem frame : Cert.quiescent_FfnFwd := fun m ρ _ => Cert.FfnFwd.Gen.frame m ρ
theorem frame_ideal : Cert.quiescent_FfnFwdIdeal := fun m ρ _ => Cert.FfnFwdIdeal.Gen.frame m ρ
theorem frame_ideal_pre : Cert.quiescent_FfnFwdIdeal_pre_fwd_finite := fun m ρ _ => Cert.FfnFwdIdeal.Gen.frame m ρ

/-- The reference declares no semaphore. -/
theorem frame_ref : Cert.quiescent_FfnFwdReferenceIdeal := fun m ρ _ =>
  (θ_run Cert.FfnFwdReferenceIdeal.defs _ _).mono (fun r h => ⟨fun c => (h c).2.2.2.2.2, sem_eq_zero_of_no_sems (by decide) r.2⟩)
    (Cert.FfnFwdReferenceIdeal.Value.run m ρ)

theorem frame_ref_pre : Cert.quiescent_FfnFwdReferenceIdeal_pre_fwd_finite := fun m ρ _ => frame_ref m ρ trivial

/-- Kernel and reference end with the same arrays on real arguments. -/
theorem algebraic : Cert.algebraic_FfnFwdIdeal_FfnFwdReferenceIdeal_pre_fwd_finite := by
  intro m ρ m' ρ' hp hag
  have e0 : ∀ c, FfnFwdReferenceIdeal.Grad.aX m' c = FfnFwdIdeal.Grad.aX m c := fun c => funext fun i => funext fun k => congrFun (hag c).1 (ix2 i k)
  have e1 : ∀ c, FfnFwdReferenceIdeal.Grad.aG m' c = FfnFwdIdeal.Grad.aG m c := fun c => funext fun k => congrFun (hag c).2.1 (ix1 k)
  have e2 : ∀ c, FfnFwdReferenceIdeal.Grad.aW1 m' c = FfnFwdIdeal.Grad.aW1 m c := fun c => funext fun i => funext fun k => congrFun (hag c).2.2.1 (ix2 i k)
  have e3 : ∀ c, FfnFwdReferenceIdeal.Grad.aW2 m' c = FfnFwdIdeal.Grad.aW2 m c := fun c => funext fun i => funext fun k => congrFun (hag c).2.2.2.1 (ix2 i k)
  have e4 : ∀ c, FfnFwdReferenceIdeal.Grad.aF m' c = FfnFwdIdeal.Grad.aF m c := fun c => funext fun k => congrFun (hag c).2.2.2.2.1 (ix1 k)
  have e5 : ∀ c, FfnFwdReferenceIdeal.Grad.aT m' c = FfnFwdIdeal.Grad.aT m c := fun c => funext fun i => funext fun k => congrFun (hag c).2.2.2.2.2 (ix2 i k)
  have hR : ∀ c, FfnFwdReferenceIdeal.Grad.Real m' c := fun c => by
    obtain ⟨h0, h1, h2, h3, h4, h5⟩ := Cert.Pre_fwd_finite.reals _ _ _ _ _ _ (hp c)
    unfold FfnFwdReferenceIdeal.Grad.Real
    rw [e0, e1, e2, e3, e4, e5]
    exact ⟨fun i k => h0 _, fun k => h1 _, fun k f => h2 _, fun f k => h3 _, fun k => h4 _, fun i k => h5 _⟩
  have eo : ∀ c, FfnFwdReferenceIdeal.Grad.aO m' c = FfnFwdIdeal.Grad.aO m c := fun c => funext fun i => by
    unfold FfnFwdReferenceIdeal.Grad.aO FfnFwdIdeal.Grad.aO
    rw [e0, e1, e2, e3]
  have hr := FfnFwdReferenceIdeal.Grad.run_spec m' ρ' hR
  simp only [e0, e1, e2, e4, e5, eo] at hr
  exact ⟨fun c => _, fun c => _, fun c => _, fun c => _, fun c => _, FfnFwdIdeal.Grad.run_spec m ρ, hr⟩

end Cert.FfnFwd

end
-- ==== Proof.Heads.Bwd.lean ====
module

public import proofs.«01_k».proof.Defs
public import proofs.«01_k».proof.Pre_out_finite
public import proofs.«01_k».proof.Proof.Gen.Pre_out_finite
public import proofs.«01_k».proof.Proof.Gen.OutBwd.Frame
public import proofs.«01_k».proof.Proof.Gen.OutBwdIdeal.Value
public import proofs.«01_k».proof.Proof.Gen.OutBwdReferenceIdeal.Run
public import Idealize.ShloMosaic.Lib.Pipeline.ValueKit
public import proofs.«01_k».proof.Proof.Common.All
public import proofs.«01_k».proof.Proof.Common.Upto

@[expose] public section

set_option maxRecDepth 16384

noncomputable section

/-! The gradient through the output projection and the norms of the two groups of heads: `d` a row of the gradient at the
    projection's output, `x` the row of a norm's input, `g` its gain, `w` the rows of the projection's weight that this group
    enters; `W` is the number of columns of the group. -/

namespace Cert.OutBwd.Spec

open Idealize.ShloMosaic Cert.Common

abbrev Wa : EReal := Ideal.ofBits .f32 0x44400000#32
abbrev Wg : EReal := Ideal.ofBits .f32 0x43800000#32

/-- The gradient at the normalised row, after the gain. -/
def dn {n : ℕ} (w : Fin n → Fin 1024 → EReal) (d : Fin 1024 → EReal) (k : Fin n) : EReal := ∑ j, d j * w k j

/-- The gradient at the norm's input. -/
def dx {n : ℕ} (W : EReal) (x g : Fin n → EReal) (w : Fin n → Fin 1024 → EReal) (d : Fin 1024 → EReal) (k : Fin n) : EReal :=
  normBack W x (fun j => dn w d j * g j) k

/-- One row's part of the gradient of the gain. -/
def dg {n : ℕ} (W : EReal) (x : Fin n → EReal) (w : Fin n → Fin 1024 → EReal) (d : Fin 1024 → EReal) (k : Fin n) : EReal :=
  dn w d k * (x k * rsW W x)

end Cert.OutBwd.Spec

namespace Cert.OutBwdIdeal.Grad

open Cert.OutBwdIdeal Cert.OutBwdIdeal.Gen
open Idealize.ShloMosaic Idealize.ShloMosaic.TcCoe Idealize.SL.Sem
open Idealize.ShloMosaic.Pipeline (Dat)
open Cert.Common Cert.OutBwd.Spec

variable (m : (ℓ : Loc nD τ sig) → Buf (Elt Ideal) ℓ)

/-- Rows and entries of the arguments on a device. -/
def aX (c : Dev nD) (i : Fin 8192) (k : Fin 768) : EReal := (m ((c.tc : Thread nD τ).loc main_arg0) : FVec Ideal S8192x768 .f32) (ix2 i k)
def aM (c : Dev nD) (i : Fin 8192) (k : Fin 256) : EReal := (m ((c.tc : Thread nD τ).loc main_arg1) : FVec Ideal S8192x256 .f32) (ix2 i k)
def aW (c : Dev nD) (i : Fin 1024) (k : Fin 1024) : EReal := (m ((c.tc : Thread nD τ).loc main_arg4) : FVec Ideal S1024x1024 .f32) (ix2 i k)
def aC (c : Dev nD) (i : Fin 8192) (k : Fin 1024) : EReal := (m ((c.tc : Thread nD τ).loc main_arg5) : FVec Ideal S8192x1024 .f32) (ix2 i k)
def aG (c : Dev nD) (k : Fin 768) : EReal := (m ((c.tc : Thread nD τ).loc main_arg2) : FVec Ideal S768 .f32) (ix1 k)
def aH (c : Dev nD) (k : Fin 256) : EReal := (m ((c.tc : Thread nD τ).loc main_arg3) : FVec Ideal S256 .f32) (ix1 k)
/-- The weight's rows that the attention's heads enter, and those of the gate's. -/
def aWa (c : Dev nD) (k : Fin 768) (j : Fin 1024) : EReal := aW m c ⟨k.val, by omega⟩ j
def aWg (c : Dev nD) (k : Fin 256) (j : Fin 1024) : EReal := aW m c ⟨768 + k.val, by omega⟩ j

theorem d_at (c : Dev nD) (i : Fin 8192) (j : Fin 1024) : (V m c main_v0 : FVec Ideal S8192x1024 .bf16) (ix2 i j) = aC m c i j := by
  simp only [V, hostOps0, List.flatten_cons, List.flatten_nil, List.append_nil, List.cons_append, List.nil_append]; after_results
  rfl

theorem w_at (c : Dev nD) (k j : Fin 1024) : (V m c main_v1 : FVec Ideal S1024x1024 .bf16) (ix2 k j) = aW m c k j := by
  simp only [V, hostOps0, List.flatten_cons, List.flatten_nil, List.append_nil, List.cons_append, List.nil_append]; after_results
  rfl

theorem x_at (c : Dev nD) (i : Fin 8192) (k : Fin 768) : (V m c main_arg0 : FVec Ideal S8192x768 .f32) (ix2 i k) = aX m c i k := by
  simp only [V, hostOps0, List.flatten_cons, List.flatten_nil, List.append_nil, List.cons_append, List.nil_append]; after_results
  rfl

theorem m_at (c : Dev nD) (i : Fin 8192) (k : Fin 256) : (V m c main_arg1 : FVec Ideal S8192x256 .f32) (ix2 i k) = aM m c i k := by
  simp only [V, hostOps0, List.flatten_cons, List.flatten_nil, List.append_nil, List.cons_append, List.nil_append]; after_results
  rfl

theorem V_g (c : Dev nD) : V m c main_v2 = (shapeCast S1x768 (m ((c.tc : Thread nD τ).loc main_arg2) : FVec Ideal S768 .f32) shapeCasts_S768_S1x768 : FVec Ideal S1x768 .f32) := by
  simp only [V, hostOps0, List.flatten_cons, List.flatten_nil, List.append_nil, List.cons_append, List.nil_append]; after_results
  rfl

theorem g_at (c : Dev nD) (i : Fin 1) (k : Fin 768) : (V m c main_v2 : FVec Ideal S1x768 .f32) (ix2 i k) = aG m c k := by
  rw [V_g]; pointwise []; rfl

theorem V_h (c : Dev nD) : V m c main_v3 = (shapeCast S1x256 (m ((c.tc : Thread nD τ).loc main_arg3) : FVec Ideal S256 .f32) shapeCasts_S256_S1x256 : FVec Ideal S1x256 .f32) := by
  simp only [V, hostOps0, List.flatten_cons, List.flatten_nil, List.append_nil, List.cons_append, List.nil_append]; after_results
  rfl

theorem h_at (c : Dev nD) (i : Fin 1) (k : Fin 256) : (V m c main_v3 : FVec Ideal S1x256 .f32) (ix2 i k) = aH m c k := by
  rw [V_h]; pointwise []; rfl

/-- Where each point's blocks lie. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] ∧ win0_8.index t = ![0, 0] ∧ win0_9.index t = ![0, 0] ∧ t.val < 16 :=
  (by decide +kernel : ∀ t : Fin grid0.N, _)

/-- Row `a` of block `t`. -/
def row (t : Fin cfg0.N) (a : Fin 512) : Fin 8192 := ⟨t.val * 512 + a.val, by have := (idx t).2.2.2.2.2.2.2.2.2.2; omega⟩

theorem b0 (c : Dev nD) (t : Fin cfg0.N) (a : Fin 512) (k : Fin 1024) : (iblk m c 0 t : FVec Ideal S512x1024 .bf16) (ix2 a k) = aC m c (row t a) k := by
  blk_simp [iblk]
  refine (congrArg (V m c main_v0) (?_ : _ = ix2 (row t a) k)).trans (d_at m c _ _)
  blk_ext [idx t, row]

theorem b1 (c : Dev nD) (t : Fin cfg0.N) (a : Fin 1024) (k : Fin 1024) : (iblk m c 1 t : FVec Ideal S1024x1024 .bf16) (ix2 a k) = aW m c a k := by
  blk_simp [iblk]
  refine (congrArg (V m c main_v1) (?_ : _ = ix2 a k)).trans (w_at m c _ _)
  blk_ext [idx t]

theorem b2 (c : Dev nD) (t : Fin cfg0.N) (a : Fin 512) (k : Fin 768) : (iblk m c 2 t : FVec Ideal S512x768 .f32) (ix2 a k) = aX m c (row t a) k := by
  blk_simp [iblk]
  refine (congrArg (V m c main_arg0) (?_ : _ = ix2 (row t a) k)).trans (x_at m c _ _)
  blk_ext [idx t, row]

theorem b3 (c : Dev nD) (t : Fin cfg0.N) (a : Fin 512) (k : Fin 256) : (iblk m c 3 t : FVec Ideal S512x256 .f32) (ix2 a k) = aM m c (row t a) k := by
  blk_simp [iblk]
  refine (congrArg (V m c main_arg1) (?_ : _ = ix2 (row t a) k)).trans (m_at m c _ _)
  blk_ext [idx t, row]

theorem b4 (c : Dev nD) (t : Fin cfg0.N) (a : Fin 1) (k : Fin 768) : (iblk m c 4 t : FVec Ideal S1x768 .f32) (ix2 a k) = aG m c k := by
  blk_simp [iblk]
  refine (congrArg (V m c main_v2) (?_ : _ = ix2 a k)).trans (g_at m c _ _)
  blk_ext [idx t]

theorem b5 (c : Dev nD) (t : Fin cfg0.N) (a : Fin 1) (k : Fin 256) : (iblk m c 5 t : FVec Ideal S1x256 .f32) (ix2 a k) = aH m c k := by
  blk_simp [iblk]
  refine (congrArg (V m c main_v3) (?_ : _ = ix2 a k)).trans (h_at m c _ _)
  blk_ext [idx t]

/-- The two groups of the weight's rows, as the body reads them. -/
theorem wa_rd (x : FVec Ideal S1024x1024 .bf16) (k : Fin 768) (j : Fin 1024) :
    (View.ld (Val := Elt Ideal) (S := S1024x1024) (e' := .bf16) x (Rect.unit ![0, 0] ![768, 1024] inb_S1024x1024_S768x1024_0_0)) (ix2 k j)
      = x (ix2 (⟨k.val, by omega⟩ : Fin 1024) j) := by
  pointwise []

theorem wa_ld (c : Dev nD) (t : Fin cfg0.N) (k : Fin 768) (j : Fin 1024) :
    (View.ld (iblk m c 1 t) (Rect.unit ![0, 0] ![768, 1024] inb_S1024x1024_S768x1024_0_0) : FVec Ideal S768x1024 .bf16) (ix2 k j) = aWa m c k j :=
  (wa_rd _ k j).trans (b1 m c t _ _)

theorem wg_rd (x : FVec Ideal S1024x1024 .bf16) (k : Fin 256) (j : Fin 1024) :
    (View.ld (Val := Elt Ideal) (S := S1024x1024) (e' := .bf16) x (Rect.unit ![768, 0] ![256, 1024] inb_S1024x1024_S256x1024_768_0)) (ix2 k j)
      = x (ix2 (⟨768 + k.val, by omega⟩ : Fin 1024) j) := by
  pointwise []

theorem wg_ld (c : Dev nD) (t : Fin cfg0.N) (k : Fin 256) (j : Fin 1024) :
    (View.ld (iblk m c 1 t) (Rect.unit ![768, 0] ![256, 1024] inb_S1024x1024_S256x1024_768_0) : FVec Ideal S256x1024 .bf16) (ix2 k j) = aWg m c k j :=
  (wg_rd _ k j).trans (b1 m c t _ _)

/-- The gradients at the norms' inputs, on one block of rows. -/
theorem da_at (x0 : FVec Ideal S512x1024 .bf16) (w : FVec Ideal S768x1024 .bf16) (x : FVec Ideal S512x768 .f32) (g : FVec Ideal S1x768 .f32)
    (a : Fin 512) (k : Fin 768) :
    k0_pay15 (F := Ideal) (k0_pay5 x0 w) (k0_pay7 x) (k0_pay8 x) g (ix2 a k)
      = dx Wa (fun l => x (ix2 a l)) (fun l => g (ix2 0 l)) (fun l j => w (ix2 l j)) (fun j => x0 (ix2 a j)) k := by
  pointwise [k0_pay4, k0_pay5, k0_pay7, k0_pay8, k0_pay15]
  rfl

theorem dm_at (x0 : FVec Ideal S512x1024 .bf16) (w : FVec Ideal S256x1024 .bf16) (x : FVec Ideal S512x256 .f32) (g : FVec Ideal S1x256 .f32)
    (a : Fin 512) (k : Fin 256) :
    k0_pay1 (F := Ideal) (k0_pay9 x) (k0_pay10 x) (k0_pay16 (k0_pay6 x0 w) g) (k0_pay17 (k0_pay6 x0 w) (k0_pay10 x) g) (ix2 a k)
      = dx Wg (fun l => x (ix2 a l)) (fun l => g (ix2 0 l)) (fun l j => w (ix2 l j)) (fun j => x0 (ix2 a j)) k := by
  pointwise [k0_pay1, k0_pay4, k0_pay6, k0_pay9, k0_pay10, k0_pay16, k0_pay17]
  rfl

/-- One block's parts of the gradients of the gains. -/
theorem dga_at (x0 : FVec Ideal S512x1024 .bf16) (w : FVec Ideal S768x1024 .bf16) (x : FVec Ideal S512x768 .f32) (acc : FVec Ideal S8x768 .f32)
    (b : Fin 8) (k : Fin 768) :
    k0_pay13 (F := Ideal) (k0_pay11 x0 w x) (k0_pay12 acc) (ix2 b k)
      = acc (ix2 b k) + ∑ a : Fin 512, dg Wa (fun l => x (ix2 a l)) (fun l j => w (ix2 l j)) (fun j => x0 (ix2 a j)) k := by
  pointwise [k0_pay13, k0_pay12, k0_pay11, k0_pay4, k0_pay5, k0_pay7, k0_pay8]
  rfl

theorem dgg_at (x0 : FVec Ideal S512x1024 .bf16) (w : FVec Ideal S256x1024 .bf16) (x : FVec Ideal S512x256 .f32) (acc : FVec Ideal S8x256 .f32)
    (b : Fin 8) (k : Fin 256) :
    k0_pay14 (F := Ideal) (k0_pay6 x0 w) (k0_pay10 x) acc (ix2 b k)
      = acc (ix2 b k) + ∑ a : Fin 512, dg Wg (fun l => x (ix2 a l)) (fun l j => w (ix2 l j)) (fun j => x0 (ix2 a j)) k := by
  pointwise [k0_pay14, k0_pay4, k0_pay6, k0_pay9, k0_pay10]
  rfl

/-- The rows of block `t`. -/
theorem rowsA (c : Dev nD) (t : Fin cfg0.N) (a : Fin 512) :
    (fun l => (iblk m c 2 t : FVec Ideal S512x768 .f32) (ix2 a l)) = aX m c (row t a)
    ∧ (fun l => (iblk m c 4 t : FVec Ideal S1x768 .f32) (ix2 0 l)) = aG m c
    ∧ (fun l j => (View.ld (iblk m c 1 t) (Rect.unit ![0, 0] ![768, 1024] inb_S1024x1024_S768x1024_0_0) : FVec Ideal S768x1024 .bf16) (ix2 l j)) = aWa m c
    ∧ (fun j => (iblk m c 0 t : FVec Ideal S512x1024 .bf16) (ix2 a j)) = aC m c (row t a) :=
  ⟨funext (b2 m c t a), funext (b4 m c t 0), funext fun l => funext fun j => wa_ld m c t l j, funext (b0 m c t a)⟩

theorem rowsG (c : Dev nD) (t : Fin cfg0.N) (a : Fin 512) :
    (fun l => (iblk m c 3 t : FVec Ideal S512x256 .f32) (ix2 a l)) = aM m c (row t a)
    ∧ (fun l => (iblk m c 5 t : FVec Ideal S1x256 .f32) (ix2 0 l)) = aH m c
    ∧ (fun l j => (View.ld (iblk m c 1 t) (Rect.unit ![768, 0] ![256, 1024] inb_S1024x1024_S256x1024_768_0) : FVec Ideal S256x1024 .bf16) (ix2 l j)) = aWg m c
    ∧ (fun j => (iblk m c 0 t : FVec Ideal S512x1024 .bf16) (ix2 a j)) = aC m c (row t a) :=
  ⟨funext (b3 m c t a), funext (b5 m c t 0), funext fun l => funext fun j => wg_ld m c t l j, funext (b0 m c t a)⟩

theorem da_block (c : Dev nD) (t : Fin cfg0.N) (a : Fin 512) (k : Fin 768) :
    (outsAt0 m c t.val t.isLt).1 (ix2 a k) = dx Wa (aX m c (row t a)) (aG m c) (aWa m c) (aC m c (row t a)) k := by
  obtain ⟨h2, h3, h1, h0⟩ := rowsA m c t a
  by_cases h : t.val % 16 = 0
  · rw [outsAt0_A m c t h]
    frame_out
    rw [da_at, h2, h3, h1, h0]
  · rw [outsAt0_B m c t h]
    frame_out
    rw [da_at, h2, h3, h1, h0]

theorem dga_A (c : Dev nD) (t : Fin cfg0.N) (h : t.val % 16 = 0) (b : Fin 8) (k : Fin 768) :
    (outsAt0 m c t.val t.isLt).2.2.1 (ix2 b k) = 0 + ∑ a : Fin 512, dg Wa (aX m c (row t a)) (aWa m c) (aC m c (row t a)) k := by
  rw [outsAt0_A m c t h]
  frame_out
  rw [dga_at]
  refine congrArg₂ (· + ·) (by pointwise [k0_pay2]) (Finset.sum_congr rfl fun a _ => ?_)
  obtain ⟨h2, -, h1, h0⟩ := rowsA m c t a
  rw [h2, h1, h0]

theorem dga_B (c : Dev nD) (t : Fin cfg0.N) (h : ¬t.val % 16 = 0) (b : Fin 8) (k : Fin 768) :
    (outsAt0 m c t.val t.isLt).2.2.1 (ix2 b k) = (outsAt0 m c (t.val - 1) (Nat.lt_of_le_of_lt (Nat.sub_le _ _) t.isLt)).2.2.1 (ix2 b k)
      + ∑ a : Fin 512, dg Wa (aX m c (row t a)) (aWa m c) (aC m c (row t a)) k := by
  rw [outsAt0_B m c t h]
  frame_out
  rw [dga_at]
  refine congrArg₂ (· + ·) rfl (Finset.sum_congr rfl fun a _ => ?_)
  obtain ⟨h2, -, h1, h0⟩ := rowsA m c t a
  rw [h2, h1, h0]

theorem final6 (c : Dev nD) : (dats m 0 c).arrAt 6 (cfgs 0).N
    = (fun j => dx Wa (aX m c (j 0)) (aG m c) (aWa m c) (aC m c (j 0)) (j 1) : FVec Ideal S8192x768 .f32) := by
  refine (dats m 0 c).arrAt_eq_of_covers 6 _ (by decide +kernel) fun t hf y => ?_
  blk_simp
  rw [after0_6]
  idx_vars y
  refine (da_block m c t y0 y1).trans ?_
  exact congrArg₂ (fun i f => dx Wa (aX m c i) (aG m c) (aWa m c) (aC m c i) f)
      (Fin.ext (by blk_simp [idx t, row])) (Fin.ext (by blk_simp [idx t]))

theorem final8 (c : Dev nD) : (dats m 0 c).arrAt 8 (cfgs 0).N
    = (fun j => ∑ i : Fin 8192, dg Wa (aX m c i) (aWa m c) (aC m c i) (j 1) : FVec Ideal S8x768 .f32) := by
  refine (dats m 0 c).arrAt_eq_of_after_last 8 t0_15 (by decide +kernel) _ fun j => ?_
  blk_simp
  rw [after0_8]
  idx_vars j
  exact upto (N := cfg0.N) (by decide +kernel) (fun n h => (outsAt0 m c n h).2.2.1 (ix2 j0 j1)) (fun i => dg Wa (aX m c i) (aWa m c) (aC m c i) j1)
    (fun t h => dga_A m c t h j0 j1) (fun t h => dga_B m c t h j0 j1)

theorem dm_block (c : Dev nD) (t : Fin cfg0.N) (a : Fin 512) (k : Fin 256) :
    (outsAt0 m c t.val t.isLt).2.1 (ix2 a k) = dx Wg (aM m c (row t a)) (aH m c) (aWg m c) (aC m c (row t a)) k := by
  obtain ⟨h2, h3, h1, h0⟩ := rowsG m c t a
  by_cases h : t.val % 16 = 0
  · rw [outsAt0_A m c t h]
    frame_out
    rw [dm_at, h2, h3, h1, h0]
  · rw [outsAt0_B m c t h]
    frame_out
    rw [dm_at, h2, h3, h1, h0]

theorem dgg_A (c : Dev nD) (t : Fin cfg0.N) (h : t.val % 16 = 0) (b : Fin 8) (k : Fin 256) :
    (outsAt0 m c t.val t.isLt).2.2.2 (ix2 b k) = 0 + ∑ a : Fin 512, dg Wg (aM m c (row t a)) (aWg m c) (aC m c (row t a)) k := by
  rw [outsAt0_A m c t h]
  frame_out
  rw [dgg_at]
  refine congrArg₂ (· + ·) (by pointwise [k0_pay3]) (Finset.sum_congr rfl fun a _ => ?_)
  obtain ⟨h2, -, h1, h0⟩ := rowsG m c t a
  rw [h2, h1, h0]

theorem dgg_B (c : Dev nD) (t : Fin cfg0.N) (h : ¬t.val % 16 = 0) (b : Fin 8) (k : Fin 256) :
    (outsAt0 m c t.val t.isLt).2.2.2 (ix2 b k) = (outsAt0 m c (t.val - 1) (Nat.lt_of_le_of_lt (Nat.sub_le _ _) t.isLt)).2.2.2 (ix2 b k)
      + ∑ a : Fin 512, dg Wg (aM m c (row t a)) (aWg m c) (aC m c (row t a)) k := by
  rw [outsAt0_B m c t h]
  frame_out
  rw [dgg_at]
  refine congrArg₂ (· + ·) rfl (Finset.sum_congr rfl fun a _ => ?_)
  obtain ⟨h2, -, h1, h0⟩ := rowsG m c t a
  rw [h2, h1, h0]

theorem final7 (c : Dev nD) : (dats m 0 c).arrAt 7 (cfgs 0).N
    = (fun j => dx Wg (aM m c (j 0)) (aH m c) (aWg m c) (aC m c (j 0)) (j 1) : FVec Ideal S8192x256 .f32) := by
  refine (dats m 0 c).arrAt_eq_of_covers 7 _ (by decide +kernel) fun t hf y => ?_
  blk_simp
  rw [after0_7]
  idx_vars y
  refine (dm_block m c t y0 y1).trans ?_
  exact congrArg₂ (fun i f => dx Wg (aM m c i) (aH m c) (aWg m c) (aC m c i) f)
      (Fin.ext (by blk_simp [idx t, row])) (Fin.ext (by blk_simp [idx t]))

theorem final9 (c : Dev nD) : (dats m 0 c).arrAt 9 (cfgs 0).N
    = (fun j => ∑ i : Fin 8192, dg Wg (aM m c i) (aWg m c) (aC m c i) (j 1) : FVec Ideal S8x256 .f32) := by
  refine (dats m 0 c).arrAt_eq_of_after_last 9 t0_15 (by decide +kernel) _ fun j => ?_
  blk_simp
  rw [after0_9]
  idx_vars j
  exact upto (N := cfg0.N) (by decide +kernel) (fun n h => (outsAt0 m c n h).2.2.2 (ix2 j0 j1)) (fun i => dg Wg (aM m c i) (aWg m c) (aC m c i) j1)
    (fun t h => dgg_A m c t h j0 j1) (fun t h => dgg_B m c t h j0 j1)

/-- Every execution of the kernel's program ends with the gradients in its result arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v4_0) = (fun j => dx Wa (aX m c (j 0)) (aG m c) (aWa m c) (aC m c (j 0)) (j 1) : FVec Ideal S8192x768 .f32)
      ∧ r.2.mem ((c.tc : Thread nD τ).loc main_v4_1) = (fun j => dx Wg (aM m c (j 0)) (aH m c) (aWg m c) (aC m c (j 0)) (j 1) : FVec Ideal S8192x256 .f32)
      ∧ r.2.mem ((c.tc : Thread nD τ).loc main_v4_2) = (fun j => ∑ i : Fin 8192, dg Wa (aX m c i) (aWa m c) (aC m c i) (j 1) : FVec Ideal S8x768 .f32)
      ∧ r.2.mem ((c.tc : Thread nD τ).loc main_v4_3) = (fun j => ∑ i : Fin 8192, dg Wg (aM m c i) (aWg m c) (aC m c i) (j 1) : FVec Ideal S8x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run_blocks m ρ)
  have h := h c
  rw [final6, final7, final8, final9] at h
  exact h

end Cert.OutBwdIdeal.Grad

namespace Cert.OutBwdReferenceIdeal.Grad

open Cert.OutBwdReferenceIdeal Cert.OutBwdReferenceIdeal.Gen
open Idealize.ShloMosaic Idealize.ShloMosaic.TcCoe Idealize.SL.Sem
open Cert.Common Cert.OutBwd.Spec

variable (m : (ℓ : Loc nD τ sig) → Buf (Elt Ideal) ℓ)

/-- Rows and entries of the arguments on a device. -/
def aX (c : Dev nD) (i : Fin 8192) (k : Fin 768) : EReal := (m ((c.tc : Thread nD τ).loc main_arg0) : FVec Ideal S8192x768 .f32) (ix2 i k)
def aM (c : Dev nD) (i : Fin 8192) (k : Fin 256) : EReal := (m ((c.tc : Thread nD τ).loc main_arg1) : FVec Ideal S8192x256 .f32) (ix2 i k)
def aW (c : Dev nD) (i : Fin 1024) (k : Fin 1024) : EReal := (m ((c.tc : Thread nD τ).loc main_arg4) : FVec Ideal S1024x1024 .f32) (ix2 i k)
def aC (c : Dev nD) (i : Fin 8192) (k : Fin 1024) : EReal := (m ((c.tc : Thread nD τ).loc main_arg5) : FVec Ideal S8192x1024 .f32) (ix2 i k)
def aG (c : Dev nD) (k : Fin 768) : EReal := (m ((c.tc : Thread nD τ).loc main_arg2) : FVec Ideal S768 .f32) (ix1 k)
def aH (c : Dev nD) (k : Fin 256) : EReal := (m ((c.tc : Thread nD τ).loc main_arg3) : FVec Ideal S256 .f32) (ix1 k)
/-- The weight's rows that the attention's heads enter, and those of the gate's. -/
def aWa (c : Dev nD) (k : Fin 768) (j : Fin 1024) : EReal := aW m c ⟨k.val, by omega⟩ j
def aWg (c : Dev nD) (k : Fin 256) (j : Fin 1024) : EReal := aW m c ⟨768 + k.val, by omega⟩ j

/-- All arguments hold real numbers. -/
def Real (c : Dev nD) : Prop :=
  (∀ i k, IsR (aX m c i k)) ∧ (∀ i k, IsR (aM m c i k)) ∧ (∀ k, IsR (aG m c k)) ∧ (∀ k, IsR (aH m c k)) ∧ (∀ k j, IsR (aW m c k j)) ∧ ∀ i j, IsR (aC m c i j)

/-- The chain rule's three terms at the norms' inputs. -/
theorem da_at (c : Dev nD) (i : Fin 8192) (k : Fin 768) :
   (Value.res_main_v76 m c : FVec Ideal S8192x768 .f32) (ix2 i k) =
    dn (aWa m c) (aC m c i) k * aG m c k * rsW Wa (aX m c i)
        + aX m c i k * Ideal.div ((∑ j, aX m c i j * (dn (aWa m c) (aC m c i) j * aG m c j)) * (Ideal.ofBits .f32 0xBF000000#32 * Ideal.div (rsW Wa (aX m c i)) (msW Wa (aX m c i)))) Wa
        + Ideal.div ((∑ j, aX m c i j * (dn (aWa m c) (aC m c i) j * aG m c j)) * (Ideal.ofBits .f32 0xBF000000#32 * Ideal.div (rsW Wa (aX m c i)) (msW Wa (aX m c i)))) Wa * aX m c i k := by
  pointwise [Value.res_main_v76]
  simp only [Fin.sum_univ_one, Finset.univ_unique, Finset.sum_const, Finset.card_singleton, one_smul]
  rfl

theorem dm_at (c : Dev nD) (i : Fin 8192) (k : Fin 256) :
   (Value.res_main_v56 m c : FVec Ideal S8192x256 .f32) (ix2 i k) =
    dn (aWg m c) (aC m c i) k * aH m c k * rsW Wg (aM m c i)
        + aM m c i k * Ideal.div ((∑ j, aM m c i j * (dn (aWg m c) (aC m c i) j * aH m c j)) * (Ideal.ofBits .f32 0xBF000000#32 * Ideal.div (rsW Wg (aM m c i)) (msW Wg (aM m c i)))) Wg
        + Ideal.div ((∑ j, aM m c i j * (dn (aWg m c) (aC m c i) j * aH m c j)) * (Ideal.ofBits .f32 0xBF000000#32 * Ideal.div (rsW Wg (aM m c i)) (msW Wg (aM m c i)))) Wg * aM m c i k := by
  pointwise [Value.res_main_v56]
  simp only [Fin.sum_univ_one, Finset.univ_unique, Finset.sum_const, Finset.card_singleton, one_smul]
  rfl

/-- Every execution of the reference ends with the gradients, on real arguments. -/
theorem run_spec (ρ : Dev nD → PrngReg) (hR : ∀ c, Real m c) :
    θ_run defs (onTc (τ := τ) (main (F := Ideal))) ⟨m, fun _ => 0, ρ⟩ fun r => ∀ c : Dev nD,
      r.2.mem ((c.tc : Thread nD τ).loc main_v76) = (fun j => dx Wa (aX m c (j 0)) (aG m c) (aWa m c) (aC m c (j 0)) (j 1) : FVec Ideal S8192x768 .f32)
      ∧ r.2.mem ((c.tc : Thread nD τ).loc main_v56) = (fun j => dx Wg (aM m c (j 0)) (aH m c) (aWg m c) (aC m c (j 0)) (j 1) : FVec Ideal S8192x256 .f32)
      ∧ r.2.mem ((c.tc : Thread nD τ).loc main_v78) = (fun j => ∑ i : Fin 8192, dg Wa (aX m c i) (aWa m c) (aC m c i) (j 1) : FVec Ideal S8x768 .f32)
      ∧ r.2.mem ((c.tc : Thread nD τ).loc main_v80) = (fun j => ∑ i : Fin 8192, dg Wg (aM m c i) (aWg m c) (aC m c i) (j 1) : FVec Ideal S8x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  obtain ⟨h1, h2, h3, h4, h⟩ := h c
  obtain ⟨r0, r1, r2, r3, r4, r5⟩ := hR c
  refine ⟨h1.trans ?_, h2.trans ?_, h3.trans ?_, h4.trans ?_, h⟩
  · funext j; idx_vars j
    rw [da_at]
    exact rms_gradW (by norm_num) width768 _ (fun k => dn (aWa m c) (aC m c j0) k * aG m c k) (r0 _)
      (fun k => (IsR.sum fun f => (r5 _ _).mul (r4 _ _)).mul (r2 _)) _
  · funext j; idx_vars j
    rw [dm_at]
    exact rms_gradW (by norm_num) width256 _ (fun k => dn (aWg m c) (aC m c j0) k * aH m c k) (r1 _)
      (fun k => (IsR.sum fun f => (r5 _ _).mul (r4 _ _)).mul (r3 _)) _
  · funext j; idx_vars j
    pointwise []
    simp only [Fin.sum_univ_one, Finset.univ_unique, Finset.sum_const, Finset.card_singleton, one_smul]
    exact Finset.sum_congr rfl fun i _ => mul_comm _ _
  · funext j; idx_vars j
    pointwise []
    simp only [Fin.sum_univ_one, Finset.univ_unique, Finset.sum_const, Finset.card_singleton, one_smul]
    exact Finset.sum_congr rfl fun i _ => mul_comm _ _

end Cert.OutBwdReferenceIdeal.Grad

namespace Cert.Pre_out_finite

open Idealize.ShloMosaic Cert.Common Cert.Pre_out_finite.Gen

/-- The precondition, read back: every argument holds real numbers. -/
theorem reals (a0 : FVec Ideal S8192x768 .f32) (a1 : FVec Ideal S8192x256 .f32) (a2 : FVec Ideal S768 .f32) (a3 : FVec Ideal S256 .f32)
    (a4 : FVec Ideal S1024x1024 .f32) (a5 : FVec Ideal S8192x1024 .f32) (h : Cert.Pre_out_finite.fn a0 a1 a2 a3 a4 a5 = fun _ => 1#1) :
    (∀ i, IsR (a0 i)) ∧ (∀ i, IsR (a1 i)) ∧ (∀ i, IsR (a2 i)) ∧ (∀ i, IsR (a3 i)) ∧ (∀ i, IsR (a4 i)) ∧ ∀ i, IsR (a5 i) := by
  have h := congrFun h (Shape.Idx.first Facts.h_S_)
  unfold Cert.Pre_out_finite.fn Cert.Pre_out_finite.fn_part1 at h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h, h1⟩ := IntOp.andi_eq_one.mp h
  obtain ⟨-, h0⟩ := IntOp.andi_eq_one.mp h
  exact ⟨IsR.of_all _ _ (fun _ => rfl) _ _ _ _ h0, IsR.of_all _ _ (fun _ => rfl) _ _ _ _ h1, IsR.of_all _ _ (fun _ => rfl) _ _ _ _ h2,
    IsR.of_all _ _ (fun _ => rfl) _ _ _ _ h3, IsR.of_all _ _ (fun _ => rfl) _ _ _ _ h4, IsR.of_all _ _ (fun _ => rfl) _ _ _ _ h5⟩

end Cert.Pre_out_finite

namespace Cert.OutBwd

open Idealize.ShloMosaic Idealize.ShloMosaic.TcCoe Idealize.SL.Sem Cert.Common

theorem frame : Cert.quiescent_OutBwd := fun m ρ _ => Cert.OutBwd.Gen.frame m ρ
theorem frame_ideal : Cert.quiescent_OutBwdIdeal := fun m ρ _ => Cert.OutBwdIdeal.Gen.frame m ρ
theorem frame_ideal_pre : Cert.quiescent_OutBwdIdeal_pre_out_finite := fun m ρ _ => Cert.OutBwdIdeal.Gen.frame m ρ

/-- The reference declares no semaphore. -/
theorem frame_ref : Cert.quiescent_OutBwdReferenceIdeal := fun m ρ _ =>
  (θ_run Cert.OutBwdReferenceIdeal.defs _ _).mono (fun r h => ⟨fun c => (h c).2.2.2.2, sem_eq_zero_of_no_sems (by decide) r.2⟩)
    (Cert.OutBwdReferenceIdeal.Value.run m ρ)

theorem frame_ref_pre : Cert.quiescent_OutBwdReferenceIdeal_pre_out_finite := fun m ρ _ => frame_ref m ρ trivial

/-- Kernel and reference end with the same gradients on real arguments. -/
theorem algebraic : Cert.algebraic_OutBwdIdeal_OutBwdReferenceIdeal_pre_out_finite := by
  intro m ρ m' ρ' hp hag
  have e0 : ∀ c, OutBwdReferenceIdeal.Grad.aX m' c = OutBwdIdeal.Grad.aX m c := fun c => funext fun i => funext fun k => congrFun (hag c).1 (ix2 i k)
  have e1 : ∀ c, OutBwdReferenceIdeal.Grad.aM m' c = OutBwdIdeal.Grad.aM m c := fun c => funext fun i => funext fun k => congrFun (hag c).2.1 (ix2 i k)
  have e2 : ∀ c, OutBwdReferenceIdeal.Grad.aG m' c = OutBwdIdeal.Grad.aG m c := fun c => funext fun k => congrFun (hag c).2.2.1 (ix1 k)
  have e3 : ∀ c, OutBwdReferenceIdeal.Grad.aH m' c = OutBwdIdeal.Grad.aH m c := fun c => funext fun k => congrFun (hag c).2.2.2.1 (ix1 k)
  have e4 : ∀ c, OutBwdReferenceIdeal.Grad.aW m' c = OutBwdIdeal.Grad.aW m c := fun c => funext fun i => funext fun k => congrFun (hag c).2.2.2.2.1 (ix2 i k)
  have e5 : ∀ c, OutBwdReferenceIdeal.Grad.aC m' c = OutBwdIdeal.Grad.aC m c := fun c => funext fun i => funext fun k => congrFun (hag c).2.2.2.2.2 (ix2 i k)
  have hR : ∀ c, OutBwdReferenceIdeal.Grad.Real m' c := fun c => by
    obtain ⟨h0, h1, h2, h3, h4, h5⟩ := Cert.Pre_out_finite.reals _ _ _ _ _ _ (hp c)
    unfold OutBwdReferenceIdeal.Grad.Real
    rw [e0, e1, e2, e3, e4, e5]
    exact ⟨fun i k => h0 _, fun i k => h1 _, fun k => h2 _, fun k => h3 _, fun k j => h4 _, fun i j => h5 _⟩
  have ea : ∀ c, OutBwdReferenceIdeal.Grad.aWa m' c = OutBwdIdeal.Grad.aWa m c := fun c => funext fun k => congrFun (e4 c) _
  have eg : ∀ c, OutBwdReferenceIdeal.Grad.aWg m' c = OutBwdIdeal.Grad.aWg m c := fun c => funext fun k => congrFun (e4 c) _
  have hr := OutBwdReferenceIdeal.Grad.run_spec m' ρ' hR
  simp only [e0, e1, e2, e3, ea, eg, e5] at hr
  exact ⟨fun c => _, fun c => _, fun c => _, fun c => _, OutBwdIdeal.Grad.run_spec m ρ, hr⟩

end Cert.OutBwd

end
-- ==== Proof.Heads.Fwd.lean ====
module

public import proofs.«01_k».proof.Defs
public import proofs.«01_k».proof.Proof.Gen.OutFwd.Frame
public import proofs.«01_k».proof.Proof.Gen.OutFwdIdeal.Value
public import proofs.«01_k».proof.Proof.Gen.OutFwdReferenceIdeal.Run
public import Idealize.ShloMosaic.Lib.Pipeline.ValueKit
public import proofs.«01_k».proof.Proof.Common.All

@[expose] public section

set_option maxRecDepth 16384

noncomputable section

/-! The output projection and the norms of the two groups of heads before it: `a` and `b` rows of the two groups, `g` and `h` their gains,
    `w` the projection's weight, `x` the row of the residual, `n` the gain of the next block's norm. -/

namespace Cert.OutFwd.Spec

open Idealize.ShloMosaic Cert.Common

/-- The numbers of columns. -/
abbrev W : EReal := Ideal.ofBits .f32 0x44800000#32
abbrev Wa : EReal := Ideal.ofBits .f32 0x44400000#32
abbrev Wg : EReal := Ideal.ofBits .f32 0x43800000#32

/-- A normalised row, times its gain. -/
def nrm {n : ℕ} (w : EReal) (x g : Fin n → EReal) (k : Fin n) : EReal := x k * rsW w x * g k

/-- The two groups' normalised rows, side by side. -/
def mix (a : Fin 768 → EReal) (b : Fin 256 → EReal) (g : Fin 768 → EReal) (h : Fin 256 → EReal) (j : Fin 1024) : EReal :=
  if h' : j.val < 768 then nrm Wa a g ⟨j.val, h'⟩ else nrm Wg b h ⟨j.val - 768, by omega⟩

/-- The row after the block. -/
def h1 (x : Fin 1024 → EReal) (mx : Fin 1024 → EReal) (w : Fin 1024 → Fin 1024 → EReal) (k : Fin 1024) : EReal :=
  x k + ∑ j, mx j * w j k

theorem mix_lo (a : Fin 768 → EReal) (b : Fin 256 → EReal) (g : Fin 768 → EReal) (h : Fin 256 → EReal) (k : Fin 768) (hk : k.val < 1024) :
    mix a b g h ⟨k.val, hk⟩ = nrm Wa a g k := dif_pos k.isLt

theorem mix_hi (a : Fin 768 → EReal) (b : Fin 256 → EReal) (g : Fin 768 → EReal) (h : Fin 256 → EReal) (k : Fin 256) (hk : 768 + k.val < 1024) :
    mix a b g h ⟨768 + k.val, hk⟩ = nrm Wg b h k :=
  (dif_neg (by simp)).trans (congrArg (nrm Wg b h) (Fin.ext (by simp)))

/-- A sum over the columns of both groups, group by group. -/
theorem sum_split (f : Fin 1024 → EReal) :
    ∑ j, f j = (∑ j : Fin 768, f ⟨j.val, by omega⟩) + ∑ j : Fin 256, f ⟨768 + j.val, by omega⟩ :=
  Fin.sum_univ_add (a := 768) (b := 256) f

end Cert.OutFwd.Spec

namespace Cert.OutFwdIdeal.Grad

open Cert.OutFwdIdeal Cert.OutFwdIdeal.Gen
open Idealize.ShloMosaic Idealize.ShloMosaic.TcCoe Idealize.SL.Sem
open Idealize.ShloMosaic.Pipeline (Dat)
open Cert.Common Cert.OutFwd.Spec

variable (m : (ℓ : Loc nD τ sig) → Buf (Elt Ideal) ℓ)

/-- Rows and entries of the arguments on a device. -/
def aA (c : Dev nD) (i : Fin 8192) (k : Fin 768) : EReal := (m ((c.tc : Thread nD τ).loc main_arg0) : FVec Ideal S8192x768 .f32) (ix2 i k)
def aM (c : Dev nD) (i : Fin 8192) (k : Fin 256) : EReal := (m ((c.tc : Thread nD τ).loc main_arg1) : FVec Ideal S8192x256 .f32) (ix2 i k)
def aG (c : Dev nD) (k : Fin 768) : EReal := (m ((c.tc : Thread nD τ).loc main_arg2) : FVec Ideal S768 .f32) (ix1 k)
def aH (c : Dev nD) (k : Fin 256) : EReal := (m ((c.tc : Thread nD τ).loc main_arg3) : FVec Ideal S256 .f32) (ix1 k)
def aW (c : Dev nD) (i : Fin 1024) (k : Fin 1024) : EReal := (m ((c.tc : Thread nD τ).loc main_arg4) : FVec Ideal S1024x1024 .f32) (ix2 i k)
def aX (c : Dev nD) (i : Fin 8192) (k : Fin 1024) : EReal := (m ((c.tc : Thread nD τ).loc main_arg5) : FVec Ideal S8192x1024 .f32) (ix2 i k)
def aN (c : Dev nD) (k : Fin 1024) : EReal := (m ((c.tc : Thread nD τ).loc main_arg6) : FVec Ideal S1024 .f32) (ix1 k)
/-- Row `i` of the heads, normalised. -/
def aMix (c : Dev nD) (i : Fin 8192) : Fin 1024 → EReal := mix (aA m c i) (aM m c i) (aG m c) (aH m c)

theorem a_at (c : Dev nD) (i : Fin 8192) (k : Fin 768) : (V m c main_arg0 : FVec Ideal S8192x768 .f32) (ix2 i k) = aA m c i k := by
  simp only [V, hostOps0, List.flatten_cons, List.flatten_nil, List.append_nil, List.cons_append, List.nil_append]; after_results
  rfl

theorem m_at (c : Dev nD) (i : Fin 8192) (k : Fin 256) : (V m c main_arg1 : FVec Ideal S8192x256 .f32) (ix2 i k) = aM m c i k := by
  simp only [V, hostOps0, List.flatten_cons, List.flatten_nil, List.append_nil, List.cons_append, List.nil_append]; after_results
  rfl

theorem V_g_at (c : Dev nD) : V m c main_v0 = (shapeCast S1x768 (m ((c.tc : Thread nD τ).loc main_arg2) : FVec Ideal S768 .f32) shapeCasts_S768_S1x768 : FVec Ideal S1x768 .f32) := by
  simp only [V, hostOps0, List.flatten_cons, List.flatten_nil, List.append_nil, List.cons_append, List.nil_append]; after_results
  rfl

theorem g_at (c : Dev nD) (i : Fin 1) (k : Fin 768) : (V m c main_v0 : FVec Ideal S1x768 .f32) (ix2 i k) = aG m c k := by
  rw [V_g_at]; pointwise []; rfl

theorem V_h_at (c : Dev nD) : V m c main_v1 = (shapeCast S1x256 (m ((c.tc : Thread nD τ).loc main_arg3) : FVec Ideal S256 .f32) shapeCasts_S256_S1x256 : FVec Ideal S1x256 .f32) := by
  simp only [V, hostOps0, List.flatten_cons, List.flatten_nil, List.append_nil, List.cons_append, List.nil_append]; after_results
  rfl

theorem h_at (c : Dev nD) (i : Fin 1) (k : Fin 256) : (V m c main_v1 : FVec Ideal S1x256 .f32) (ix2 i k) = aH m c k := by
  rw [V_h_at]; pointwise []; rfl

theorem w_at (c : Dev nD) (i : Fin 1024) (k : Fin 1024) : (V m c main_v2 : FVec Ideal S1024x1024 .bf16) (ix2 i k) = aW m c i k := by
  simp only [V, hostOps0, List.flatten_cons, List.flatten_nil, List.append_nil, List.cons_append, List.nil_append]; after_results
  rfl

theorem x_at (c : Dev nD) (i : Fin 8192) (k : Fin 1024) : (V m c main_arg5 : FVec Ideal S8192x1024 .f32) (ix2 i k) = aX m c i k := by
  simp only [V, hostOps0, List.flatten_cons, List.flatten_nil, List.append_nil, List.cons_append, List.nil_append]; after_results
  rfl

theorem V_n_at (c : Dev nD) : V m c main_v3 = (shapeCast S1x1024 (m ((c.tc : Thread nD τ).loc main_arg6) : FVec Ideal S1024 .f32) shapeCasts_S1024_S1x1024 : FVec Ideal S1x1024 .f32) := by
  simp only [V, hostOps0, List.flatten_cons, List.flatten_nil, List.append_nil, List.cons_append, List.nil_append]; after_results
  rfl

theorem n_at (c : Dev nD) (i : Fin 1) (k : Fin 1024) : (V m c main_v3 : FVec Ideal S1x1024 .f32) (ix2 i k) = aN m c k := by
  rw [V_n_at]; pointwise []; rfl

/-- Where each point's blocks lie. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![0, 0] ∧ win0_7.index t = ![t.val, 0] ∧ win0_8.index t = ![t.val, 0] ∧ win0_9.index t = ![t.val, 0] ∧ t.val < 16 :=
  (by decide +kernel : ∀ t : Fin grid0.N, _)

/-- Row `a` of block `t`. -/
def row (t : Fin cfg0.N) (a : Fin 512) : Fin 8192 := ⟨t.val * 512 + a.val, by have := (idx t).2.2.2.2.2.2.2.2.2.2; omega⟩

theorem b0 (c : Dev nD) (t : Fin cfg0.N) (a : Fin 512) (k : Fin 768) : (iblk m c 0 t : FVec Ideal S512x768 .f32) (ix2 a k) = aA m c (row t a) k := by
  blk_simp [iblk]
  refine (congrArg (V m c main_arg0) (?_ : _ = ix2 (row t a) k)).trans (a_at m c _ _)
  blk_ext [idx t, row]

theorem b1 (c : Dev nD) (t : Fin cfg0.N) (a : Fin 512) (k : Fin 256) : (iblk m c 1 t : FVec Ideal S512x256 .f32) (ix2 a k) = aM m c (row t a) k := by
  blk_simp [iblk]
  refine (congrArg (V m c main_arg1) (?_ : _ = ix2 (row t a) k)).trans (m_at m c _ _)
  blk_ext [idx t, row]

theorem b2 (c : Dev nD) (t : Fin cfg0.N) (a : Fin 1) (k : Fin 768) : (iblk m c 2 t : FVec Ideal S1x768 .f32) (ix2 a k) = aG m c k := by
  blk_simp [iblk]
  refine (congrArg (V m c main_v0) (?_ : _ = ix2 a k)).trans (g_at m c _ _)
  blk_ext [idx t]

theorem b3 (c : Dev nD) (t : Fin cfg0.N) (a : Fin 1) (k : Fin 256) : (iblk m c 3 t : FVec Ideal S1x256 .f32) (ix2 a k) = aH m c k := by
  blk_simp [iblk]
  refine (congrArg (V m c main_v1) (?_ : _ = ix2 a k)).trans (h_at m c _ _)
  blk_ext [idx t]

theorem b4 (c : Dev nD) (t : Fin cfg0.N) (a : Fin 1024) (k : Fin 1024) : (iblk m c 4 t : FVec Ideal S1024x1024 .bf16) (ix2 a k) = aW m c a k := by
  blk_simp [iblk]
  refine (congrArg (V m c main_v2) (?_ : _ = ix2 a k)).trans (w_at m c _ _)
  blk_ext [idx t]

theorem b5 (c : Dev nD) (t : Fin cfg0.N) (a : Fin 512) (k : Fin 1024) : (iblk m c 5 t : FVec Ideal S512x1024 .f32) (ix2 a k) = aX m c (row t a) k := by
  blk_simp [iblk]
  refine (congrArg (V m c main_arg5) (?_ : _ = ix2 (row t a) k)).trans (x_at m c _ _)
  blk_ext [idx t, row]

theorem b6 (c : Dev nD) (t : Fin cfg0.N) (a : Fin 1) (k : Fin 1024) : (iblk m c 6 t : FVec Ideal S1x1024 .f32) (ix2 a k) = aN m c k := by
  blk_simp [iblk]
  refine (congrArg (V m c main_v3) (?_ : _ = ix2 a k)).trans (n_at m c _ _)
  blk_ext [idx t]

/-- The two groups' normalised rows, on one block of rows. -/
theorem na_at (x : FVec Ideal S512x768 .f32) (g : FVec Ideal S1x768 .f32) (a : Fin 512) (k : Fin 768) :
    k0_pay3 (F := Ideal) x g (ix2 a k) = nrm Wa (fun l => x (ix2 a l)) (fun l => g (ix2 0 l)) k := by
  pointwise [k0_pay3]
  rfl

theorem ng_at (x : FVec Ideal S512x256 .f32) (g : FVec Ideal S1x256 .f32) (a : Fin 512) (k : Fin 256) :
    k0_pay4 (F := Ideal) x g (ix2 a k) = nrm Wg (fun l => x (ix2 a l)) (fun l => g (ix2 0 l)) k := by
  pointwise [k0_pay4]
  rfl

/-- The two groups of the weight's rows, as the body reads them. -/
theorem wa_rd (x : FVec Ideal S1024x1024 .bf16) (k : Fin 768) (j : Fin 1024) :
    (View.ld (Val := Elt Ideal) (S := S1024x1024) (e' := .bf16) x (Rect.unit ![0, 0] ![768, 1024] inb_S1024x1024_S768x1024_0_0)) (ix2 k j)
      = x (ix2 (⟨k.val, by omega⟩ : Fin 1024) j) := by
  pointwise []

theorem wg_rd (x : FVec Ideal S1024x1024 .bf16) (k : Fin 256) (j : Fin 1024) :
    (View.ld (Val := Elt Ideal) (S := S1024x1024) (e' := .bf16) x (Rect.unit ![768, 0] ![256, 1024] inb_S1024x1024_S256x1024_768_0)) (ix2 k j)
      = x (ix2 (⟨768 + k.val, by omega⟩ : Fin 1024) j) := by
  pointwise []

/-- The row after the block, the projection's product taken group by group. -/
theorem h1_at (xa : FVec Ideal S512x768 .bf16) (xg : FVec Ideal S512x256 .bf16) (x : FVec Ideal S512x1024 .f32) (wa : FVec Ideal S768x1024 .bf16)
    (wg : FVec Ideal S256x1024 .bf16) (a : Fin 512) (k : Fin 1024) :
    k0_pay1 (F := Ideal) xa xg x wa wg (ix2 a k) = x (ix2 a k) + (∑ j : Fin 768, xa (ix2 a j) * wa (ix2 j k)) + ∑ j : Fin 256, xg (ix2 a j) * wg (ix2 j k) := by
  pointwise [k0_pay1]

theorem hn_at (xa : FVec Ideal S512x768 .bf16) (xg : FVec Ideal S512x256 .bf16) (x : FVec Ideal S512x1024 .f32) (wa : FVec Ideal S768x1024 .bf16)
    (wg : FVec Ideal S256x1024 .bf16) (n : FVec Ideal S1x1024 .f32) (a : Fin 512) (k : Fin 1024) :
    k0_pay2 (F := Ideal) xa xg x wa wg n (ix2 a k) = nrm W (fun l => k0_pay1 (F := Ideal) xa xg x wa wg (ix2 a l)) (fun l => n (ix2 0 l)) k := by
  pointwise [k0_pay2]
  rfl

/-- The rows of block `t`. -/
theorem rows (c : Dev nD) (t : Fin cfg0.N) (a : Fin 512) :
    (fun l => (iblk m c 0 t : FVec Ideal S512x768 .f32) (ix2 a l)) = aA m c (row t a)
    ∧ (fun l => (iblk m c 1 t : FVec Ideal S512x256 .f32) (ix2 a l)) = aM m c (row t a)
    ∧ (fun l => (iblk m c 2 t : FVec Ideal S1x768 .f32) (ix2 0 l)) = aG m c
    ∧ (fun l => (iblk m c 3 t : FVec Ideal S1x256 .f32) (ix2 0 l)) = aH m c
    ∧ (fun l => (iblk m c 6 t : FVec Ideal S1x1024 .f32) (ix2 0 l)) = aN m c :=
  ⟨funext (b0 m c t a), funext (b1 m c t a), funext (b2 m c t 0), funext (b3 m c t 0), funext (b6 m c t 0)⟩

theorem mix_block (c : Dev nD) (t : Fin cfg0.N) (y : S512x1024.Idx) :
    (outsAt0 m c t).1 y = aMix m c (row t (y 0)) (y 1) := by
  unfold outsAt0
  frame_out
  canon_tiles x h using View.cover_of_tiledBy _ ![512, 256] (by sl_kernel_rfl) y
  all_goals idx_vars x
  · obtain ⟨-, r1, -, r3, -⟩ := rows m c t x0
    rw [ng_at, r1, r3, show row t (y 0) = row t x0 from congrArg (row t) (Fin.ext h0), show y 1 = (⟨768 + x1.val, by omega⟩ : Fin 1024) from Fin.ext h1]
    exact (mix_hi ..).symm
  · obtain ⟨r0, -, r2, -, -⟩ := rows m c t x0
    rw [na_at, r0, r2, show row t (y 0) = row t x0 from congrArg (row t) (Fin.ext h0), show y 1 = (⟨x1.val, by omega⟩ : Fin 1024) from Fin.ext h1]
    exact (mix_lo ..).symm

theorem h1_eq (c : Dev nD) (t : Fin cfg0.N) (a : Fin 512) (k : Fin 1024) :
    k0_pay1 (F := Ideal) (k0_pay3 (iblk m c 0 t) (iblk m c 2 t)) (k0_pay4 (iblk m c 1 t) (iblk m c 3 t)) (iblk m c 5 t)
      (View.ld (iblk m c 4 t) (Rect.unit ![0, 0] ![768, 1024] inb_S1024x1024_S768x1024_0_0))
      (View.ld (iblk m c 4 t) (Rect.unit ![768, 0] ![256, 1024] inb_S1024x1024_S256x1024_768_0)) (ix2 a k)
      = h1 (aX m c (row t a)) (aMix m c (row t a)) (aW m c) k := by
  obtain ⟨r0, r1, r2, r3, -⟩ := rows m c t a
  rw [h1_at]
  unfold h1
  rw [sum_split, ← add_assoc]
  refine congrArg₂ (· + ·) (congrArg₂ (· + ·) (b5 m c t a k) (Finset.sum_congr rfl fun j _ => congrArg₂ (· * ·) ?_ ?_))
    (Finset.sum_congr rfl fun j _ => congrArg₂ (· * ·) ?_ ?_)
  · rw [na_at, r0, r2]; exact (mix_lo ..).symm
  · exact (wa_rd _ j k).trans (b4 m c t _ k)
  · rw [ng_at, r1, r3]; exact (mix_hi ..).symm
  · exact (wg_rd _ j k).trans (b4 m c t _ k)

theorem h1_block (c : Dev nD) (t : Fin cfg0.N) (a : Fin 512) (k : Fin 1024) :
    (outsAt0 m c t).2.1 (ix2 a k) = h1 (aX m c (row t a)) (aMix m c (row t a)) (aW m c) k := by
  unfold outsAt0
  frame_out
  exact h1_eq m c t a k

theorem hn_block (c : Dev nD) (t : Fin cfg0.N) (a : Fin 512) (k : Fin 1024) :
    (outsAt0 m c t).2.2 (ix2 a k) = nrm W (h1 (aX m c (row t a)) (aMix m c (row t a)) (aW m c)) (aN m c) k := by
  unfold outsAt0
  frame_out
  obtain ⟨-, -, -, -, r6⟩ := rows m c t a
  rw [hn_at, r6]
  exact congrArg (fun f : Fin 1024 → EReal => nrm W f (aN m c) k) (funext fun l => h1_eq m c t a l)

theorem final7 (c : Dev nD) : (dats m 0 c).arrAt 7 (cfgs 0).N
    = (fun j => aMix m c (j 0) (j 1) : FVec Ideal S8192x1024 .bf16) := by
  refine (dats m 0 c).arrAt_eq_of_covers 7 _ (by decide +kernel) fun t hf y => ?_
  blk_simp
  rw [after0_7]
  idx_vars y
  refine (mix_block m c t (ix2 y0 y1)).trans ?_
  exact congrArg₂ (fun i f => aMix m c i f) (Fin.ext (by blk_simp [idx t, row])) (Fin.ext (by blk_simp [idx t]))

theorem final8 (c : Dev nD) : (dats m 0 c).arrAt 8 (cfgs 0).N
    = (fun j => h1 (aX m c (j 0)) (aMix m c (j 0)) (aW m c) (j 1) : FVec Ideal S8192x1024 .f32) := by
  refine (dats m 0 c).arrAt_eq_of_covers 8 _ (by decide +kernel) fun t hf y => ?_
  blk_simp
  rw [after0_8]
  idx_vars y
  refine (h1_block m c t y0 y1).trans ?_
  exact congrArg₂ (fun i f => h1 (aX m c i) (aMix m c i) (aW m c) f) (Fin.ext (by blk_simp [idx t, row])) (Fin.ext (by blk_simp [idx t]))

theorem final9 (c : Dev nD) : (dats m 0 c).arrAt 9 (cfgs 0).N
    = (fun j => nrm W (h1 (aX m c (j 0)) (aMix m c (j 0)) (aW m c)) (aN m c) (j 1) : FVec Ideal S8192x1024 .bf16) := by
  refine (dats m 0 c).arrAt_eq_of_covers 9 _ (by decide +kernel) fun t hf y => ?_
  blk_simp
  rw [after0_9]
  idx_vars y
  refine (hn_block m c t y0 y1).trans ?_
  exact congrArg₂ (fun i f => nrm W (h1 (aX m c i) (aMix m c i) (aW m c)) (aN m c) f) (Fin.ext (by blk_simp [idx t, row])) (Fin.ext (by blk_simp [idx t]))

/-- Every execution of the kernel's program ends with the normalised heads, the row after the block and its norm in its result arrays,
    its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v4_0) = (fun j => aMix m c (j 0) (j 1) : FVec Ideal S8192x1024 .bf16)
      ∧ r.2.mem ((c.tc : Thread nD τ).loc main_v4_1) = (fun j => h1 (aX m c (j 0)) (aMix m c (j 0)) (aW m c) (j 1) : FVec Ideal S8192x1024 .f32)
      ∧ r.2.mem ((c.tc : Thread nD τ).loc main_v4_2) = (fun j => nrm W (h1 (aX m c (j 0)) (aMix m c (j 0)) (aW m c)) (aN m c) (j 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run_blocks m ρ)
  have h := h c
  rw [final7, final8, final9] at h
  exact h

end Cert.OutFwdIdeal.Grad

namespace Cert.OutFwdReferenceIdeal.Grad

open Cert.OutFwdReferenceIdeal Cert.OutFwdReferenceIdeal.Gen
open Idealize.ShloMosaic Idealize.ShloMosaic.TcCoe Idealize.SL.Sem
open Cert.Common Cert.OutFwd.Spec

variable (m : (ℓ : Loc nD τ sig) → Buf (Elt Ideal) ℓ)

/-- Rows and entries of the arguments on a device. -/
def aA (c : Dev nD) (i : Fin 8192) (k : Fin 768) : EReal := (m ((c.tc : Thread nD τ).loc main_arg0) : FVec Ideal S8192x768 .f32) (ix2 i k)
def aM (c : Dev nD) (i : Fin 8192) (k : Fin 256) : EReal := (m ((c.tc : Thread nD τ).loc main_arg1) : FVec Ideal S8192x256 .f32) (ix2 i k)
def aG (c : Dev nD) (k : Fin 768) : EReal := (m ((c.tc : Thread nD τ).loc main_arg2) : FVec Ideal S768 .f32) (ix1 k)
def aH (c : Dev nD) (k : Fin 256) : EReal := (m ((c.tc : Thread nD τ).loc main_arg3) : FVec Ideal S256 .f32) (ix1 k)
def aW (c : Dev nD) (i : Fin 1024) (k : Fin 1024) : EReal := (m ((c.tc : Thread nD τ).loc main_arg4) : FVec Ideal S1024x1024 .f32) (ix2 i k)
def aX (c : Dev nD) (i : Fin 8192) (k : Fin 1024) : EReal := (m ((c.tc : Thread nD τ).loc main_arg5) : FVec Ideal S8192x1024 .f32) (ix2 i k)
def aN (c : Dev nD) (k : Fin 1024) : EReal := (m ((c.tc : Thread nD τ).loc main_arg6) : FVec Ideal S1024 .f32) (ix1 k)
/-- Row `i` of the heads, normalised. -/
def aMix (c : Dev nD) (i : Fin 8192) : Fin 1024 → EReal := mix (aA m c i) (aM m c i) (aG m c) (aH m c)

/-- The residual plus the two groups' products is the row after the block. -/
theorem h1_split (c : Dev nD) (i : Fin 8192) (k : Fin 1024) :
    aX m c i k + ((∑ j : Fin 768, nrm Wa (aA m c i) (aG m c) j * aW m c ⟨j.val, by omega⟩ k)
      + ∑ j : Fin 256, nrm Wg (aM m c i) (aH m c) j * aW m c ⟨768 + j.val, by omega⟩ k)
      = h1 (aX m c i) (aMix m c i) (aW m c) k := by
  unfold h1
  rw [sum_split]
  unfold aMix
  simp only [mix_lo, mix_hi]

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v29) = (fun j => aMix m c (j 0) (j 1) : FVec Ideal S8192x1024 .bf16)
      ∧ r.2.mem ((c.tc : Thread nD τ).loc main_v28) = (fun j => h1 (aX m c (j 0)) (aMix m c (j 0)) (aW m c) (j 1) : FVec Ideal S8192x1024 .f32)
      ∧ r.2.mem ((c.tc : Thread nD τ).loc main_v43) = (fun j => nrm W (h1 (aX m c (j 0)) (aMix m c (j 0)) (aW m c)) (aN m c) (j 1) : FVec Ideal S8192x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨h0, h1, h2, h⟩ := h c
  refine ⟨h0.trans ?_, h1.trans ?_, h2.trans ?_, h⟩
  · funext j; idx_vars j
    clear h0 h1 h2 h
    pointwise []
    rfl
  · funext j; idx_vars j
    clear h0 h1 h2 h
    pointwise []
    exact h1_split m c j0 j1
  · funext j; idx_vars j
    clear h0 h1 h2 h
    pointwise [Value.res_main_v43]
    exact congrArg (fun f : Fin 1024 → EReal => nrm W f (aN m c) j1) (funext fun k => h1_split m c j0 k)

end Cert.OutFwdReferenceIdeal.Grad

namespace Cert.OutFwd

open Idealize.ShloMosaic Idealize.ShloMosaic.TcCoe Idealize.SL.Sem Cert.Common

theorem frame : Cert.quiescent_OutFwd := fun m ρ _ => Cert.OutFwd.Gen.frame m ρ
theorem frame_ideal : Cert.quiescent_OutFwdIdeal := fun m ρ _ => Cert.OutFwdIdeal.Gen.frame m ρ

/-- The reference declares no semaphore. -/
theorem frame_ref : Cert.quiescent_OutFwdReferenceIdeal := fun m ρ _ =>
  (θ_run Cert.OutFwdReferenceIdeal.defs _ _).mono (fun r h => ⟨fun c => (h c).2.2.2, sem_eq_zero_of_no_sems (by decide) r.2⟩)
    (Cert.OutFwdReferenceIdeal.Value.run m ρ)

/-- Kernel and reference end with the same arrays. -/
theorem algebraic : Cert.algebraic_OutFwdIdeal_OutFwdReferenceIdeal := by
  intro m ρ m' ρ' _ hag
  have e0 : ∀ c, OutFwdReferenceIdeal.Grad.aA m' c = OutFwdIdeal.Grad.aA m c := fun c => funext fun i => funext fun k => congrFun (hag c).1 (ix2 i k)
  have e1 : ∀ c, OutFwdReferenceIdeal.Grad.aM m' c = OutFwdIdeal.Grad.aM m c := fun c => funext fun i => funext fun k => congrFun (hag c).2.1 (ix2 i k)
  have e2 : ∀ c, OutFwdReferenceIdeal.Grad.aG m' c = OutFwdIdeal.Grad.aG m c := fun c => funext fun k => congrFun (hag c).2.2.1 (ix1 k)
  have e3 : ∀ c, OutFwdReferenceIdeal.Grad.aH m' c = OutFwdIdeal.Grad.aH m c := fun c => funext fun k => congrFun (hag c).2.2.2.1 (ix1 k)
  have e4 : ∀ c, OutFwdReferenceIdeal.Grad.aW m' c = OutFwdIdeal.Grad.aW m c := fun c => funext fun i => funext fun k => congrFun (hag c).2.2.2.2.1 (ix2 i k)
  have e5 : ∀ c, OutFwdReferenceIdeal.Grad.aX m' c = OutFwdIdeal.Grad.aX m c := fun c => funext fun i => funext fun k => congrFun (hag c).2.2.2.2.2.1 (ix2 i k)
  have e6 : ∀ c, OutFwdReferenceIdeal.Grad.aN m' c = OutFwdIdeal.Grad.aN m c := fun c => funext fun k => congrFun (hag c).2.2.2.2.2.2 (ix1 k)
  have em : ∀ c, OutFwdReferenceIdeal.Grad.aMix m' c = OutFwdIdeal.Grad.aMix m c := fun c => funext fun i => by
    unfold OutFwdReferenceIdeal.Grad.aMix OutFwdIdeal.Grad.aMix
    rw [e0, e1, e2, e3]
  have hr := OutFwdReferenceIdeal.Grad.run_spec m' ρ'
  simp only [em, e4, e5, e6] at hr
  exact ⟨fun c => _, fun c => _, fun c => _, OutFwdIdeal.Grad.run_spec m ρ, hr⟩

end Cert.OutFwd

end
-- ==== Proof.Proj.Bwd.lean ====
module

public import proofs.«01_k».proof.Defs
public import proofs.«01_k».proof.Pre_proj_finite
public import proofs.«01_k».proof.Proof.Gen.Pre_proj_finite
public import proofs.«01_k».proof.Proof.Gen.ProjBwd.Frame
public import proofs.«01_k».proof.Proof.Gen.ProjBwdIdeal.Value
public import proofs.«01_k».proof.Proof.Gen.ProjBwdReferenceIdeal.Run
public import Idealize.ShloMosaic.Lib.Pipeline.ValueKit
public import proofs.«01_k».proof.Proof.Common.All

@[expose] public section

set_option maxRecDepth 16384

noncomputable section

/-! The gradient through the input projection and the norm before it: `d` a row of the gradient at the projection's output,
    `x` the row of the norm's input, `g` the gain, `w` the projection's weight. -/

namespace Cert.ProjBwd.Spec

open Idealize.ShloMosaic Cert.Common

/-- The number of columns. -/
abbrev W : EReal := Ideal.ofBits .f32 0x44800000#32

/-- The gradient at the normalised row, after the gain. -/
def dn (w : Fin 1024 → Fin 2816 → EReal) (d : Fin 2816 → EReal) (k : Fin 1024) : EReal := ∑ f, d f * w k f

/-- The gradient at the norm's input: what passes by the block, and what goes through the norm. -/
def dx (x g : Fin 1024 → EReal) (w : Fin 1024 → Fin 2816 → EReal) (d : Fin 2816 → EReal) (r : Fin 1024 → EReal) (k : Fin 1024) : EReal :=
  r k + normBack W x (fun j => dn w d j * g j) k

/-- One row's part of the gradient of the gain. -/
def dg (x : Fin 1024 → EReal) (w : Fin 1024 → Fin 2816 → EReal) (d : Fin 2816 → EReal) (k : Fin 1024) : EReal :=
  dn w d k * (x k * rsW W x)

end Cert.ProjBwd.Spec

namespace Cert.ProjBwdIdeal.Grad

open Cert.ProjBwdIdeal Cert.ProjBwdIdeal.Gen
open Idealize.ShloMosaic Idealize.ShloMosaic.TcCoe Idealize.SL.Sem
open Idealize.ShloMosaic.Pipeline (Dat)
open Cert.Common Cert.ProjBwd.Spec

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW (c : Dev nD) (k : Fin 1024) (f : Fin 2816) : EReal := (m ((c.tc : Thread nD τ).loc main_arg2) : FVec Ideal S1024x2816 .f32) (ix2 k f)
def aD (c : Dev nD) (i : Fin 8192) (f : Fin 2816) : EReal := (m ((c.tc : Thread nD τ).loc main_arg3) : FVec Ideal S8192x2816 .f32) (ix2 i f)
def aR (c : Dev nD) (i : Fin 8192) (k : Fin 1024) : EReal := (m ((c.tc : Thread nD τ).loc main_arg4) : FVec Ideal S8192x1024 .f32) (ix2 i k)

theorem d_at (c : Dev nD) (i : Fin 8192) (f : Fin 2816) : (V m c main_arg3 : FVec Ideal S8192x2816 .f32) (ix2 i f) = aD m c i f := by
  simp only [V, hostOps0, List.flatten_cons, List.flatten_nil, List.append_nil, List.cons_append, List.nil_append]; after_results
  rfl

theorem x_at (c : Dev nD) (i : Fin 8192) (k : Fin 1024) : (V m c main_arg0 : FVec Ideal S8192x1024 .f32) (ix2 i k) = aX m c i k := by
  simp only [V, hostOps0, List.flatten_cons, List.flatten_nil, List.append_nil, List.cons_append, List.nil_append]; after_results
  rfl

theorem r_at (c : Dev nD) (i : Fin 8192) (k : Fin 1024) : (V m c main_arg4 : FVec Ideal S8192x1024 .f32) (ix2 i k) = aR m c i k := by
  simp only [V, hostOps0, List.flatten_cons, List.flatten_nil, List.append_nil, List.cons_append, List.nil_append]; after_results
  rfl

theorem V_w (c : Dev nD) : V m c main_v1 = (truncf .bf16 (transpose S2816x1024 [1, 0] (m ((c.tc : Thread nD τ).loc main_arg2) : FVec Ideal S1024x2816 .f32) transposes_S1024x2816_S2816x1024_1_0) bitsLt_bf16_f32 : FVec Ideal S2816x1024 .bf16) := by
  simp only [V, hostOps0, List.flatten_cons, List.flatten_nil, List.append_nil, List.cons_append, List.nil_append]; after_results

theorem w_at (c : Dev nD) (f : Fin 2816) (k : Fin 1024) : (V m c main_v1 : FVec Ideal S2816x1024 .bf16) (ix2 f k) = aW m c k f := by
  rw [V_w]; pointwise []; rfl

theorem V_g (c : Dev nD) : V m c main_v2 = (shapeCast S1x1024 (m ((c.tc : Thread nD τ).loc main_arg1) : FVec Ideal S1024 .f32) shapeCasts_S1024_S1x1024 : FVec Ideal S1x1024 .f32) := by
  simp only [V, hostOps0, List.flatten_cons, List.flatten_nil, List.append_nil, List.cons_append, List.nil_append]; after_results
  rfl

theorem g_at (c : Dev nD) (i : Fin 1) (k : Fin 1024) : (V m c main_v2 : FVec Ideal S1x1024 .f32) (ix2 i k) = aG m c k := by
  rw [V_g]; pointwise []; rfl

/-- Where each point's blocks lie. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ t.val < 16 :=
  (by decide +kernel : ∀ t : Fin grid0.N, _)

/-- Row `a` of block `t`. -/
def row (t : Fin cfg0.N) (a : Fin 512) : Fin 8192 := ⟨t.val * 512 + a.val, by have := (idx t).2.2.2.2.2.2.2; omega⟩

theorem b0 (c : Dev nD) (t : Fin cfg0.N) (a : Fin 512) (f : Fin 2816) : (iblk m c 0 t : FVec Ideal S512x2816 .f32) (ix2 a f) = aD m c (row t a) f := by
  blk_simp [iblk]
  refine (congrArg (V m c main_arg3) (?_ : _ = ix2 (row t a) f)).trans (d_at m c _ _)
  blk_ext [idx t, row]

theorem b1 (c : Dev nD) (t : Fin cfg0.N) (f : Fin 2816) (k : Fin 1024) : (iblk m c 1 t : FVec Ideal S2816x1024 .bf16) (ix2 f k) = aW m c k f := by
  blk_simp [iblk]
  refine (congrArg (V m c main_v1) (?_ : _ = ix2 f k)).trans (w_at m c _ _)
  blk_ext [idx t]

theorem b2 (c : Dev nD) (t : Fin cfg0.N) (a : Fin 512) (k : Fin 1024) : (iblk m c 2 t : FVec Ideal S512x1024 .f32) (ix2 a k) = aX m c (row t a) k := by
  blk_simp [iblk]
  refine (congrArg (V m c main_arg0) (?_ : _ = ix2 (row t a) k)).trans (x_at m c _ _)
  blk_ext [idx t, row]

theorem b3 (c : Dev nD) (t : Fin cfg0.N) (a : Fin 1) (k : Fin 1024) : (iblk m c 3 t : FVec Ideal S1x1024 .f32) (ix2 a k) = aG m c k := by
  blk_simp [iblk]
  refine (congrArg (V m c main_v2) (?_ : _ = ix2 a k)).trans (g_at m c _ _)
  blk_ext [idx t]

theorem b4 (c : Dev nD) (t : Fin cfg0.N) (a : Fin 512) (k : Fin 1024) : (iblk m c 4 t : FVec Ideal S512x1024 .f32) (ix2 a k) = aR m c (row t a) k := by
  blk_simp [iblk]
  refine (congrArg (V m c main_arg4) (?_ : _ = ix2 (row t a) k)).trans (r_at m c _ _)
  blk_ext [idx t, row]

/-- The gradient at the norm's input, on one block of rows. -/
theorem dx_at (x0 : FVec Ideal S512x2816 .f32) (x1 : FVec Ideal S2816x1024 .bf16) (x2 x4 : FVec Ideal S512x1024 .f32) (x3 : FVec Ideal S1x1024 .f32)
    (a : Fin 512) (k : Fin 1024) :
    k0_pay1 (F := Ideal) (k0_pay4 x2) (k0_pay5 x2) x4 (k0_pay7 x0 x1 x3) (k0_pay8 x0 x1 x2 x3) (ix2 a k)
      = dx (fun l => x2 (ix2 a l)) (fun l => x3 (ix2 0 l)) (fun l f => x1 (ix2 f l)) (fun f => x0 (ix2 a f)) (fun l => x4 (ix2 a l)) k := by
  pointwise [k0_pay1, k0_pay3, k0_pay4, k0_pay5, k0_pay7, k0_pay8]
  rfl

/-- One block's part of the gradient of the gain. -/
theorem dg_at (x0 : FVec Ideal S512x2816 .f32) (x1 : FVec Ideal S2816x1024 .bf16) (x2 : FVec Ideal S512x1024 .f32) (acc : FVec Ideal S8x1024 .f32)
    (b : Fin 8) (k : Fin 1024) :
    k0_pay6 (F := Ideal) x0 x1 x2 acc (ix2 b k)
      = acc (ix2 b k) + ∑ a : Fin 512, dg (fun l => x2 (ix2 a l)) (fun l f => x1 (ix2 f l)) (fun f => x0 (ix2 a f)) k := by
  pointwise [k0_pay6, k0_pay3, k0_pay4, k0_pay5]
  rfl

/-- The rows of block `t`. -/
theorem rows (c : Dev nD) (t : Fin cfg0.N) (a : Fin 512) :
    (fun l => (iblk m c 2 t : FVec Ideal S512x1024 .f32) (ix2 a l)) = aX m c (row t a)
    ∧ (fun l => (iblk m c 3 t : FVec Ideal S1x1024 .f32) (ix2 0 l)) = aG m c
    ∧ (fun l f => (iblk m c 1 t : FVec Ideal S2816x1024 .bf16) (ix2 f l)) = aW m c
    ∧ (fun f => (iblk m c 0 t : FVec Ideal S512x2816 .f32) (ix2 a f)) = aD m c (row t a)
    ∧ (fun l => (iblk m c 4 t : FVec Ideal S512x1024 .f32) (ix2 a l)) = aR m c (row t a) :=
  ⟨funext (b2 m c t a), funext (b3 m c t 0), funext fun l => funext fun f => b1 m c t f l, funext (b0 m c t a), funext (b4 m c t a)⟩

theorem dx_block (c : Dev nD) (t : Fin cfg0.N) (a : Fin 512) (k : Fin 1024) :
    (outsAt0 m c t.val t.isLt).1 (ix2 a k) = dx (aX m c (row t a)) (aG m c) (aW m c) (aD m c (row t a)) (aR m c (row t a)) k := by
  obtain ⟨h2, h3, h1, h0, h4⟩ := rows m c t a
  by_cases h : t.val % 16 = 0
  · rw [outsAt0_A m c t h]
    frame_out
    rw [dx_at, h2, h3, h1, h0, h4]
  · rw [outsAt0_B m c t h]
    frame_out
    rw [dx_at, h2, h3, h1, h0, h4]

theorem dg_A (c : Dev nD) (t : Fin cfg0.N) (h : t.val % 16 = 0) (b : Fin 8) (k : Fin 1024) :
    (outsAt0 m c t.val t.isLt).2 (ix2 b k) = 0 + ∑ a : Fin 512, dg (aX m c (row t a)) (aW m c) (aD m c (row t a)) k := by
  rw [outsAt0_A m c t h]
  frame_out
  rw [dg_at]
  refine congrArg₂ (· + ·) (by pointwise [k0_pay2]) (Finset.sum_congr rfl fun a _ => ?_)
  obtain ⟨h2, -, h1, h0, -⟩ := rows m c t a
  rw [h2, h1, h0]

theorem dg_B (c : Dev nD) (t : Fin cfg0.N) (h : ¬t.val % 16 = 0) (b : Fin 8) (k : Fin 1024) :
    (outsAt0 m c t.val t.isLt).2 (ix2 b k) = (outsAt0 m c (t.val - 1) (Nat.lt_of_le_of_lt (Nat.sub_le _ _) t.isLt)).2 (ix2 b k)
      + ∑ a : Fin 512, dg (aX m c (row t a)) (aW m c) (aD m c (row t a)) k := by
  rw [outsAt0_B m c t h]
  frame_out
  rw [dg_at]
  refine congrArg₂ (· + ·) rfl (Finset.sum_congr rfl fun a _ => ?_)
  obtain ⟨h2, -, h1, h0, -⟩ := rows m c t a
  rw [h2, h1, h0]

theorem final5 (c : Dev nD) : (dats m 0 c).arrAt 5 (cfgs 0).N
    = (fun j => dx (aX m c (j 0)) (aG m c) (aW m c) (aD m c (j 0)) (aR m c (j 0)) (j 1) : FVec Ideal S8192x1024 .f32) := by
  refine (dats m 0 c).arrAt_eq_of_covers 5 _ (by decide +kernel) fun t hf y => ?_
  blk_simp
  rw [after0_5]
  idx_vars y
  refine (dx_block m c t y0 y1).trans ?_
  exact congrArg₂ (fun i f => dx (aX m c i) (aG m c) (aW m c) (aD m c i) (aR m c i) f)
      (Fin.ext (by blk_simp [idx t, row])) (Fin.ext (by blk_simp [idx t]))

/-- The grid's points up to `n` have added up the parts of their blocks. -/
theorem dg_upto (c : Dev nD) (b : Fin 8) (k : Fin 1024) : ∀ (n : ℕ) (h : n < cfg0.N),
    (outsAt0 m c n h).2 (ix2 b k) = ∑ s : Fin (n + 1), ∑ a : Fin 512,
      dg (aX m c (row ⟨s.val, by omega⟩ a)) (aW m c) (aD m c (row ⟨s.val, by omega⟩ a)) k := by
  intro n
  induction n with
  | zero =>
    intro h
    rw [dg_A m c ⟨0, h⟩ rfl b k, zero_add, Fin.sum_univ_one]
    rfl
  | succ n ih =>
    intro h
    have h16 := (idx ⟨n + 1, h⟩).2.2.2.2.2.2.2
    refine (dg_B m c ⟨n + 1, h⟩ (by show ¬(n + 1) % 16 = 0; simp only at h16; omega) b k).trans ?_
    rw [Fin.sum_univ_castSucc (n := n + 1)]
    exact congrArg₂ (· + ·) (ih (by omega)) rfl

theorem final6 (c : Dev nD) : (dats m 0 c).arrAt 6 (cfgs 0).N
    = (fun j => ∑ i : Fin 8192, dg (aX m c i) (aW m c) (aD m c i) (j 1) : FVec Ideal S8x1024 .f32) := by
  refine (dats m 0 c).arrAt_eq_of_after_last 6 t0_15 (by decide +kernel) _ fun j => ?_
  blk_simp
  rw [after0_6]
  idx_vars j
  refine (dg_upto m c j0 j1 15 _).trans ?_
  rw [← Fin.sum_mul_add_fin 16 512 (fun i : Fin 8192 => dg (aX m c i) (aW m c) (aD m c i) j1)]
  rfl

/-- Every execution of the kernel's program ends with the gradients in its result arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v3_0) = (fun j => dx (aX m c (j 0)) (aG m c) (aW m c) (aD m c (j 0)) (aR m c (j 0)) (j 1) : FVec Ideal S8192x1024 .f32)
      ∧ r.2.mem ((c.tc : Thread nD τ).loc main_v3_1) = (fun j => ∑ i : Fin 8192, dg (aX m c i) (aW m c) (aD m c i) (j 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run_blocks m ρ)
  have h := h c
  rw [final5, final6] at h
  exact h

end Cert.ProjBwdIdeal.Grad

namespace Cert.ProjBwdReferenceIdeal.Grad

open Cert.ProjBwdReferenceIdeal Cert.ProjBwdReferenceIdeal.Gen
open Idealize.ShloMosaic Idealize.ShloMosaic.TcCoe Idealize.SL.Sem
open Cert.Common Cert.ProjBwd.Spec

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW (c : Dev nD) (k : Fin 1024) (f : Fin 2816) : EReal := (m ((c.tc : Thread nD τ).loc main_arg2) : FVec Ideal S1024x2816 .f32) (ix2 k f)
def aD (c : Dev nD) (i : Fin 8192) (f : Fin 2816) : EReal := (m ((c.tc : Thread nD τ).loc main_arg3) : FVec Ideal S8192x2816 .f32) (ix2 i f)
def aR (c : Dev nD) (i : Fin 8192) (k : Fin 1024) : EReal := (m ((c.tc : Thread nD τ).loc main_arg4) : FVec Ideal S8192x1024 .f32) (ix2 i k)

/-- All arguments hold real numbers. -/
def Real (c : Dev nD) : Prop :=
  (∀ i k, IsR (aX m c i k)) ∧ (∀ k, IsR (aG m c k)) ∧ (∀ k f, IsR (aW m c k f)) ∧ (∀ i f, IsR (aD m c i f)) ∧ ∀ i k, IsR (aR m c i k)

/-- The chain rule's three terms at the norm's input. -/
theorem dx_at (c : Dev nD) (i : Fin 8192) (k : Fin 1024) :
   (Value.res_main_v38 m c : FVec Ideal S8192x1024 .f32) (ix2 i k) =
    aR m c i k + dn (aW m c) (aD m c i) k * aG m c k * rsW W (aX m c i)
        + aX m c i k * Ideal.div ((∑ j, aX m c i j * (dn (aW m c) (aD m c i) j * aG m c j)) * (Ideal.ofBits .f32 0xBF000000#32 * Ideal.div (rsW W (aX m c i)) (msW W (aX m c i)))) W
        + Ideal.div ((∑ j, aX m c i j * (dn (aW m c) (aD m c i) j * aG m c j)) * (Ideal.ofBits .f32 0xBF000000#32 * Ideal.div (rsW W (aX m c i)) (msW W (aX m c i)))) W * aX m c i k := by
  pointwise [Value.res_main_v38]
  simp only [Fin.sum_univ_one, Finset.univ_unique, Finset.sum_const, Finset.card_singleton, one_smul]
  rfl

/-- Every execution of the reference ends with the gradients, on real arguments. -/
theorem run_spec (ρ : Dev nD → PrngReg) (hR : ∀ c, Real m c) :
    θ_run defs (onTc (τ := τ) (main (F := Ideal))) ⟨m, fun _ => 0, ρ⟩ fun r => ∀ c : Dev nD,
      r.2.mem ((c.tc : Thread nD τ).loc main_v38) = (fun j => dx (aX m c (j 0)) (aG m c) (aW m c) (aD m c (j 0)) (aR m c (j 0)) (j 1) : FVec Ideal S8192x1024 .f32)
      ∧ r.2.mem ((c.tc : Thread nD τ).loc main_v40) = (fun j => ∑ i : Fin 8192, dg (aX m c i) (aW m c) (aD m c i) (j 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h1, h2, h⟩ := h c
  obtain ⟨r0, r1, r2, r3, r4⟩ := hR c
  refine ⟨h1.trans ?_, h2.trans ?_, h⟩
  · funext j; idx_vars j
    rw [dx_at]
    exact normBack_add (by norm_num) width _ _ (fun k => dn (aW m c) (aD m c j0) k * aG m c k) (r0 _)
      (fun k => (IsR.sum fun f => (r3 _ _).mul (r2 _ _)).mul (r1 _)) _
  · funext j; idx_vars j
    pointwise []
    simp only [Fin.sum_univ_one, Finset.univ_unique, Finset.sum_const, Finset.card_singleton, one_smul]
    exact Finset.sum_congr rfl fun i _ => mul_comm _ _

end Cert.ProjBwdReferenceIdeal.Grad

namespace Cert.Pre_proj_finite

open Idealize.ShloMosaic Cert.Common Cert.Pre_proj_finite.Gen

/-- The precondition, read back: every argument holds real numbers. -/
theorem reals (a0 : FVec Ideal S8192x1024 .f32) (a1 : FVec Ideal S1024 .f32) (a2 : FVec Ideal S1024x2816 .f32) (a3 : FVec Ideal S8192x2816 .f32)
    (a4 : FVec Ideal S8192x1024 .f32) (h : Cert.Pre_proj_finite.fn a0 a1 a2 a3 a4 = fun _ => 1#1) :
    (∀ i, IsR (a0 i)) ∧ (∀ i, IsR (a1 i)) ∧ (∀ i, IsR (a2 i)) ∧ (∀ i, IsR (a3 i)) ∧ ∀ i, IsR (a4 i) := by
  have h := congrFun h (Shape.Idx.first Facts.h_S_)
  unfold Cert.Pre_proj_finite.fn Cert.Pre_proj_finite.fn_part1 at h
  obtain ⟨h, h4⟩ := IntOp.andi_eq_one.mp h
  obtain ⟨h, h3⟩ := IntOp.andi_eq_one.mp h
  obtain ⟨h, h2⟩ := IntOp.andi_eq_one.mp h
  obtain ⟨h, h1⟩ := IntOp.andi_eq_one.mp h
  obtain ⟨-, h0⟩ := IntOp.andi_eq_one.mp h
  exact ⟨IsR.of_all _ _ (fun _ => rfl) _ _ _ _ h0, IsR.of_all _ _ (fun _ => rfl) _ _ _ _ h1, IsR.of_all _ _ (fun _ => rfl) _ _ _ _ h2,
    IsR.of_all _ _ (fun _ => rfl) _ _ _ _ h3, IsR.of_all _ _ (fun _ => rfl) _ _ _ _ h4⟩

end Cert.Pre_proj_finite

namespace Cert.ProjBwd

open Idealize.ShloMosaic Idealize.ShloMosaic.TcCoe Idealize.SL.Sem Cert.Common

theorem frame : Cert.quiescent_ProjBwd := fun m ρ _ => Cert.ProjBwd.Gen.frame m ρ
theorem frame_ideal : Cert.quiescent_ProjBwdIdeal := fun m ρ _ => Cert.ProjBwdIdeal.Gen.frame m ρ
theorem frame_ideal_pre : Cert.quiescent_ProjBwdIdeal_pre_proj_finite := fun m ρ _ => Cert.ProjBwdIdeal.Gen.frame m ρ

/-- The reference declares no semaphore. -/
theorem frame_ref : Cert.quiescent_ProjBwdReferenceIdeal := fun m ρ _ =>
  (θ_run Cert.ProjBwdReferenceIdeal.defs _ _).mono (fun r h => ⟨fun c => (h c).2.2, sem_eq_zero_of_no_sems (by decide) r.2⟩)
    (Cert.ProjBwdReferenceIdeal.Value.run m ρ)

theorem frame_ref_pre : Cert.quiescent_ProjBwdReferenceIdeal_pre_proj_finite := fun m ρ _ => frame_ref m ρ trivial

/-- Kernel and reference end with the same gradients on real arguments. -/
theorem algebraic : Cert.algebraic_ProjBwdIdeal_ProjBwdReferenceIdeal_pre_proj_finite := by
  intro m ρ m' ρ' hp hag
  have e0 : ∀ c, ProjBwdReferenceIdeal.Grad.aX m' c = ProjBwdIdeal.Grad.aX m c := fun c => funext fun i => funext fun k => congrFun (hag c).1 (ix2 i k)
  have e1 : ∀ c, ProjBwdReferenceIdeal.Grad.aG m' c = ProjBwdIdeal.Grad.aG m c := fun c => funext fun k => congrFun (hag c).2.1 (ix1 k)
  have e2 : ∀ c, ProjBwdReferenceIdeal.Grad.aW m' c = ProjBwdIdeal.Grad.aW m c := fun c => funext fun i => funext fun k => congrFun (hag c).2.2.1 (ix2 i k)
  have e3 : ∀ c, ProjBwdReferenceIdeal.Grad.aD m' c = ProjBwdIdeal.Grad.aD m c := fun c => funext fun i => funext fun k => congrFun (hag c).2.2.2.1 (ix2 i k)
  have e4 : ∀ c, ProjBwdReferenceIdeal.Grad.aR m' c = ProjBwdIdeal.Grad.aR m c := fun c => funext fun i => funext fun k => congrFun (hag c).2.2.2.2 (ix2 i k)
  have hR : ∀ c, ProjBwdReferenceIdeal.Grad.Real m' c := fun c => by
    obtain ⟨h0, h1, h2, h3, h4⟩ := Cert.Pre_proj_finite.reals _ _ _ _ _ (hp c)
    unfold ProjBwdReferenceIdeal.Grad.Real
    rw [e0, e1, e2, e3, e4]
    exact ⟨fun i k => h0 _, fun k => h1 _, fun k f => h2 _, fun i f => h3 _, fun i k => h4 _⟩
  have hr := ProjBwdReferenceIdeal.Grad.run_spec m' ρ' hR
  simp only [e0, e1, e2, e3, e4] at hr
  exact ⟨fun c => _, fun c => _, ProjBwdIdeal.Grad.run_spec m ρ, hr⟩

end Cert.ProjBwd

end
-- ==== Proof.Proj.Fwd.lean ====
module

public import proofs.«01_k».proof.Defs
public import proofs.«01_k».proof.Proof.Gen.ProjFwd.Frame
public import proofs.«01_k».proof.Proof.Gen.ProjFwdIdeal.Value
public import proofs.«01_k».proof.Proof.Gen.ProjFwdReferenceIdeal.Run
public import Idealize.ShloMosaic.Lib.Pipeline.ValueKit
public import proofs.«01_k».proof.Proof.Common.All

@[expose] public section

set_option maxRecDepth 16384

noncomputable section

/-! The input projection and the norm before it: `x` a row of the norm's input, `g` the gain, `w` the columns of the projection's weight. -/

namespace Cert.ProjFwd.Spec

open Idealize.ShloMosaic Cert.Common

/-- The number of columns. -/
abbrev W : EReal := Ideal.ofBits .f32 0x44800000#32

/-- What the queries and the keys are multiplied by: an eighth, and the logarithm of `e` to the base 2. -/
abbrev cq : EReal := Ideal.ofBits .f32 0x3E000000#32
abbrev ck : EReal := Ideal.ofBits .f32 0x3FB8AA3B#32

/-- The normalised row, times the gain. -/
def hn (x g : Fin 1024 → EReal) (k : Fin 1024) : EReal := x k * rsW W x * g k

/-- Its projection on one column of the weight. -/
def pr (x g col : Fin 1024 → EReal) : EReal := ∑ k, hn x g k * col k

/-- Column `f` of a group of columns that begins at column `o`. -/
def at_ (o : ℕ) {n : ℕ} (h : o + n ≤ 2816) (f : Fin n) : Fin 2816 := ⟨o + f.val, by omega⟩

end Cert.ProjFwd.Spec

namespace Cert.ProjFwdIdeal.Grad

open Cert.ProjFwdIdeal Cert.ProjFwdIdeal.Gen
open Idealize.ShloMosaic Idealize.ShloMosaic.TcCoe Idealize.SL.Sem
open Idealize.ShloMosaic.Pipeline (Dat)
open Cert.Common Cert.ProjFwd.Spec

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW (c : Dev nD) (f : Fin 2816) (k : Fin 1024) : EReal := (m ((c.tc : Thread nD τ).loc main_arg2) : FVec Ideal S1024x2816 .f32) (ix2 k f)

theorem x_at (c : Dev nD) (i : Fin 8192) (k : Fin 1024) : (V m c main_arg0 : FVec Ideal S8192x1024 .f32) (ix2 i k) = aX m c i k := by
  simp only [V, hostOps0, List.flatten_cons, List.flatten_nil, List.append_nil, List.cons_append, List.nil_append]; after_results
  rfl

theorem V_g (c : Dev nD) : V m c main_v0 = (shapeCast S1x1024 (m ((c.tc : Thread nD τ).loc main_arg1) : FVec Ideal S1024 .f32) shapeCasts_S1024_S1x1024 : FVec Ideal S1x1024 .f32) := by
  simp only [V, hostOps0, List.flatten_cons, List.flatten_nil, List.append_nil, List.cons_append, List.nil_append]; after_results
  rfl

theorem g_at (c : Dev nD) (i : Fin 1) (k : Fin 1024) : (V m c main_v0 : FVec Ideal S1x1024 .f32) (ix2 i k) = aG m c k := by
  rw [V_g]; pointwise []; rfl

theorem V_w (c : Dev nD) : V m c main_v2 = (truncf .bf16 (transpose S2816x1024 [1, 0] (m ((c.tc : Thread nD τ).loc main_arg2) : FVec Ideal S1024x2816 .f32) transposes_S1024x2816_S2816x1024_1_0) bitsLt_bf16_f32 : FVec Ideal S2816x1024 .bf16) := by
  simp only [V, hostOps0, List.flatten_cons, List.flatten_nil, List.append_nil, List.cons_append, List.nil_append]; after_results

theorem w_at (c : Dev nD) (f : Fin 2816) (k : Fin 1024) : (V m c main_v2 : FVec Ideal S2816x1024 .bf16) (ix2 f k) = aW m c f k := by
  rw [V_w]; pointwise []; rfl

/-- Where each point's blocks lie. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0] ∧ t.val < 16 :=
  (by decide +kernel : ∀ t : Fin grid0.N, _)

/-- Row `a` of block `t`. -/
def row (t : Fin cfg0.N) (a : Fin 512) : Fin 8192 := ⟨t.val * 512 + a.val, by have := (idx t).2.2.2.2.2.2.2.2.2; omega⟩

theorem b0 (c : Dev nD) (t : Fin cfg0.N) (a : Fin 512) (k : Fin 1024) : (iblk m c 0 t : FVec Ideal S512x1024 .f32) (ix2 a k) = aX m c (row t a) k := by
  blk_simp [iblk]
  refine (congrArg (V m c main_arg0) (?_ : _ = ix2 (row t a) k)).trans (x_at m c _ _)
  blk_ext [idx t, row]

theorem b1 (c : Dev nD) (t : Fin cfg0.N) (a : Fin 1) (k : Fin 1024) : (iblk m c 1 t : FVec Ideal S1x1024 .f32) (ix2 a k) = aG m c k := by
  blk_simp [iblk]
  refine (congrArg (V m c main_v0) (?_ : _ = ix2 a k)).trans (g_at m c _ _)
  blk_ext [idx t]

theorem b2 (c : Dev nD) (t : Fin cfg0.N) (a : Fin 2816) (k : Fin 1024) : (iblk m c 2 t : FVec Ideal S2816x1024 .bf16) (ix2 a k) = aW m c a k := by
  blk_simp [iblk]
  refine (congrArg (V m c main_v2) (?_ : _ = ix2 a k)).trans (w_at m c _ _)
  blk_ext [idx t]

/-- The rows of block `t`. -/
theorem rows (c : Dev nD) (t : Fin cfg0.N) (a : Fin 512) :
    (fun l => (iblk m c 0 t : FVec Ideal S512x1024 .f32) (ix2 a l)) = aX m c (row t a)
    ∧ (fun l => (iblk m c 1 t : FVec Ideal S1x1024 .f32) (ix2 0 l)) = aG m c
    ∧ (fun f l => (iblk m c 2 t : FVec Ideal S2816x1024 .bf16) (ix2 f l)) = aW m c :=
  ⟨funext (b0 m c t a), funext (b1 m c t 0), funext fun f => funext fun l => b2 m c t f l⟩

/-- What the body leaves of one block of rows: the normalised rows, and their projections on the five groups of columns. -/
theorem out3 (x0 : FVec Ideal S512x1024 .f32) (x1 : FVec Ideal S1x1024 .f32) (x2 : FVec Ideal S2816x1024 .bf16) (a : Fin 512) (k : Fin 1024) :
    out0_3 (F := Ideal) x0 x1 x2 (ix2 a k) = hn (fun l => x0 (ix2 a l)) (fun l => x1 (ix2 0 l)) k := by
  frame_out
  pointwise [k0_pay3]
  rfl

theorem out4 (x0 : FVec Ideal S512x1024 .f32) (x1 : FVec Ideal S1x1024 .f32) (x2 : FVec Ideal S2816x1024 .bf16) (a : Fin 512) (f : Fin 768) :
    out0_4 (F := Ideal) x0 x1 x2 (ix2 a f) = pr (fun l => x0 (ix2 a l)) (fun l => x1 (ix2 0 l)) (fun l => x2 (ix2 (at_ 0 (by norm_num) f) l)) * cq := by
  frame_out
  simp only [at_, Nat.zero_add]
  pointwise [k0_pay4, k0_pay3]
  rfl

theorem out5 (x0 : FVec Ideal S512x1024 .f32) (x1 : FVec Ideal S1x1024 .f32) (x2 : FVec Ideal S2816x1024 .bf16) (a : Fin 512) (f : Fin 768) :
    out0_5 (F := Ideal) x0 x1 x2 (ix2 a f) = pr (fun l => x0 (ix2 a l)) (fun l => x1 (ix2 0 l)) (fun l => x2 (ix2 (at_ 768 (by norm_num) f) l)) * ck := by
  frame_out
  simp only [at_, Nat.zero_add]
  pointwise [k0_pay5, k0_pay3]
  rfl

theorem out6 (x0 : FVec Ideal S512x1024 .f32) (x1 : FVec Ideal S1x1024 .f32) (x2 : FVec Ideal S2816x1024 .bf16) (a : Fin 512) (f : Fin 768) :
    out0_6 (F := Ideal) x0 x1 x2 (ix2 a f) = pr (fun l => x0 (ix2 a l)) (fun l => x1 (ix2 0 l)) (fun l => x2 (ix2 (at_ 1536 (by norm_num) f) l)) := by
  frame_out
  simp only [at_, Nat.zero_add]
  pointwise [k0_pay6, k0_pay3]
  rfl

theorem out7 (x0 : FVec Ideal S512x1024 .f32) (x1 : FVec Ideal S1x1024 .f32) (x2 : FVec Ideal S2816x1024 .bf16) (a : Fin 512) (f : Fin 256) :
    out0_7 (F := Ideal) x0 x1 x2 (ix2 a f) = pr (fun l => x0 (ix2 a l)) (fun l => x1 (ix2 0 l)) (fun l => x2 (ix2 (at_ 2304 (by norm_num) f) l)) := by
  frame_out
  simp only [at_, Nat.zero_add]
  pointwise [k0_pay1, k0_pay7, k0_pay3]
  rfl

theorem out8 (x0 : FVec Ideal S512x1024 .f32) (x1 : FVec Ideal S1x1024 .f32) (x2 : FVec Ideal S2816x1024 .bf16) (a : Fin 512) (f : Fin 256) :
    out0_8 (F := Ideal) x0 x1 x2 (ix2 a f) = pr (fun l => x0 (ix2 a l)) (fun l => x1 (ix2 0 l)) (fun l => x2 (ix2 (at_ 2560 (by norm_num) f) l)) := by
  frame_out
  simp only [at_, Nat.zero_add]
  pointwise [k0_pay2, k0_pay7, k0_pay3]
  rfl

theorem final3 (c : Dev nD) : (dats m 0 c).arrAt 3 (cfgs 0).N
    = (fun j => hn (aX m c (j 0)) (aG m c) (j 1) : FVec Ideal S8192x1024 .bf16) := by
  refine (dats m 0 c).arrAt_eq_of_covers 3 _ (by decide +kernel) fun t hf y => ?_
  blk_simp
  rw [after0_3]
  idx_vars y
  obtain ⟨h0, h1, -⟩ := rows m c t y0
  refine (out3 _ _ _ y0 y1).trans ?_
  rw [h0, h1]
  exact congrArg₂ (fun i f => hn (aX m c i) (aG m c) f) (Fin.ext (by blk_simp [idx t, row])) (Fin.ext (by blk_simp [idx t]))

theorem final4 (c : Dev nD) : (dats m 0 c).arrAt 4 (cfgs 0).N
    = (fun j => pr (aX m c (j 0)) (aG m c) (aW m c (at_ 0 (by norm_num) (j 1))) * cq : FVec Ideal S8192x768 .f32) := by
  refine (dats m 0 c).arrAt_eq_of_covers 4 _ (by decide +kernel) fun t hf y => ?_
  blk_simp
  rw [after0_4]
  idx_vars y
  obtain ⟨h0, h1, h2⟩ := rows m c t y0
  refine (out4 _ _ _ y0 y1).trans ?_
  rw [h0, h1, congrFun h2 (at_ 0 (by norm_num) y1)]
  exact congrArg₂ (fun i f => pr (aX m c i) (aG m c) (aW m c (at_ 0 (by norm_num) f)) * cq) (Fin.ext (by blk_simp [idx t, row])) (Fin.ext (by blk_simp [idx t]))

theorem final5 (c : Dev nD) : (dats m 0 c).arrAt 5 (cfgs 0).N
    = (fun j => pr (aX m c (j 0)) (aG m c) (aW m c (at_ 768 (by norm_num) (j 1))) * ck : FVec Ideal S8192x768 .f32) := by
  refine (dats m 0 c).arrAt_eq_of_covers 5 _ (by decide +kernel) fun t hf y => ?_
  blk_simp
  rw [after0_5]
  idx_vars y
  obtain ⟨h0, h1, h2⟩ := rows m c t y0
  refine (out5 _ _ _ y0 y1).trans ?_
  rw [h0, h1, congrFun h2 (at_ 768 (by norm_num) y1)]
  exact congrArg₂ (fun i f => pr (aX m c i) (aG m c) (aW m c (at_ 768 (by norm_num) f)) * ck) (Fin.ext (by blk_simp [idx t, row])) (Fin.ext (by blk_simp [idx t]))

theorem final6 (c : Dev nD) : (dats m 0 c).arrAt 6 (cfgs 0).N
    = (fun j => pr (aX m c (j 0)) (aG m c) (aW m c (at_ 1536 (by norm_num) (j 1))) : FVec Ideal S8192x768 .f32) := by
  refine (dats m 0 c).arrAt_eq_of_covers 6 _ (by decide +kernel) fun t hf y => ?_
  blk_simp
  rw [after0_6]
  idx_vars y
  obtain ⟨h0, h1, h2⟩ := rows m c t y0
  refine (out6 _ _ _ y0 y1).trans ?_
  rw [h0, h1, congrFun h2 (at_ 1536 (by norm_num) y1)]
  exact congrArg₂ (fun i f => pr (aX m c i) (aG m c) (aW m c (at_ 1536 (by norm_num) f))) (Fin.ext (by blk_simp [idx t, row])) (Fin.ext (by blk_simp [idx t]))

theorem final7 (c : Dev nD) : (dats m 0 c).arrAt 7 (cfgs 0).N
    = (fun j => pr (aX m c (j 0)) (aG m c) (aW m c (at_ 2304 (by norm_num) (j 1))) : FVec Ideal S8192x256 .f32) := by
  refine (dats m 0 c).arrAt_eq_of_covers 7 _ (by decide +kernel) fun t hf y => ?_
  blk_simp
  rw [after0_7]
  idx_vars y
  obtain ⟨h0, h1, h2⟩ := rows m c t y0
  refine (out7 _ _ _ y0 y1).trans ?_
  rw [h0, h1, congrFun h2 (at_ 2304 (by norm_num) y1)]
  exact congrArg₂ (fun i f => pr (aX m c i) (aG m c) (aW m c (at_ 2304 (by norm_num) f))) (Fin.ext (by blk_simp [idx t, row])) (Fin.ext (by blk_simp [idx t]))

theorem final8 (c : Dev nD) : (dats m 0 c).arrAt 8 (cfgs 0).N
    = (fun j => pr (aX m c (j 0)) (aG m c) (aW m c (at_ 2560 (by norm_num) (j 1))) : FVec Ideal S8192x256 .f32) := by
  refine (dats m 0 c).arrAt_eq_of_covers 8 _ (by decide +kernel) fun t hf y => ?_
  blk_simp
  rw [after0_8]
  idx_vars y
  obtain ⟨h0, h1, h2⟩ := rows m c t y0
  refine (out8 _ _ _ y0 y1).trans ?_
  rw [h0, h1, congrFun h2 (at_ 2560 (by norm_num) y1)]
  exact congrArg₂ (fun i f => pr (aX m c i) (aG m c) (aW m c (at_ 2560 (by norm_num) f))) (Fin.ext (by blk_simp [idx t, row])) (Fin.ext (by blk_simp [idx t]))

/-- Every execution of the kernel's program ends with the normalised rows and their projections in its result arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v3_0) = (fun j => hn (aX m c (j 0)) (aG m c) (j 1) : FVec Ideal S8192x1024 .bf16)
      ∧ r.2.mem ((c.tc : Thread nD τ).loc main_v3_1) = (fun j => pr (aX m c (j 0)) (aG m c) (aW m c (at_ 0 (by norm_num) (j 1))) * cq : FVec Ideal S8192x768 .f32)
      ∧ r.2.mem ((c.tc : Thread nD τ).loc main_v3_2) = (fun j => pr (aX m c (j 0)) (aG m c) (aW m c (at_ 768 (by norm_num) (j 1))) * ck : FVec Ideal S8192x768 .f32)
      ∧ r.2.mem ((c.tc : Thread nD τ).loc main_v3_3) = (fun j => pr (aX m c (j 0)) (aG m c) (aW m c (at_ 1536 (by norm_num) (j 1))) : FVec Ideal S8192x768 .f32)
      ∧ r.2.mem ((c.tc : Thread nD τ).loc main_v3_4) = (fun j => pr (aX m c (j 0)) (aG m c) (aW m c (at_ 2304 (by norm_num) (j 1))) : FVec Ideal S8192x256 .f32)
      ∧ r.2.mem ((c.tc : Thread nD τ).loc main_v3_5) = (fun j => pr (aX m c (j 0)) (aG m c) (aW m c (at_ 2560 (by norm_num) (j 1))) : FVec Ideal S8192x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run_blocks m ρ)
  have h := h c
  rw [final3, final4, final5, final6, final7, final8] at h
  exact h

end Cert.ProjFwdIdeal.Grad

namespace Cert.ProjFwdReferenceIdeal.Grad

open Cert.ProjFwdReferenceIdeal Cert.ProjFwdReferenceIdeal.Gen
open Idealize.ShloMosaic Idealize.ShloMosaic.TcCoe Idealize.SL.Sem
open Cert.Common Cert.ProjFwd.Spec

variable (m : (ℓ : Loc nD τ sig) → Buf (Elt Ideal) ℓ)

/-- Rows and entries of the arguments on a device. -/
def aX (c : Dev nD) (i : Fin 8192) (k : Fin 1024) : EReal := (m ((c.tc : Thread nD τ).loc main_arg0) : FVec Ideal S8192x1024 .f32) (ix2 i k)
def aG (c : Dev nD) (k : Fin 1024) : EReal := (m ((c.tc : Thread nD τ).loc main_arg1) : FVec Ideal S1024 .f32) (ix1 k)
def aW (c : Dev nD) (f : Fin 2816) (k : Fin 1024) : EReal := (m ((c.tc : Thread nD τ).loc main_arg2) : FVec Ideal S1024x2816 .f32) (ix2 k f)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v19) = (fun j => hn (aX m c (j 0)) (aG m c) (j 1) : FVec Ideal S8192x1024 .bf16)
      ∧ r.2.mem ((c.tc : Thread nD τ).loc main_v21) = (fun j => pr (aX m c (j 0)) (aG m c) (aW m c (at_ 0 (by norm_num) (j 1))) * cq : FVec Ideal S8192x768 .f32)
      ∧ r.2.mem ((c.tc : Thread nD τ).loc main_v23) = (fun j => pr (aX m c (j 0)) (aG m c) (aW m c (at_ 768 (by norm_num) (j 1))) * ck : FVec Ideal S8192x768 .f32)
      ∧ r.2.mem ((c.tc : Thread nD τ).loc main_v16) = (fun j => pr (aX m c (j 0)) (aG m c) (aW m c (at_ 1536 (by norm_num) (j 1))) : FVec Ideal S8192x768 .f32)
      ∧ r.2.mem ((c.tc : Thread nD τ).loc main_v17) = (fun j => pr (aX m c (j 0)) (aG m c) (aW m c (at_ 2304 (by norm_num) (j 1))) : FVec Ideal S8192x256 .f32)
      ∧ r.2.mem ((c.tc : Thread nD τ).loc main_v18) = (fun j => pr (aX m c (j 0)) (aG m c) (aW m c (at_ 2560 (by norm_num) (j 1))) : FVec Ideal S8192x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run m ρ)
  obtain ⟨h0, h1, h2, h3, h4, h5, h⟩ := h c
  refine ⟨h0.trans ?_, h1.trans ?_, h2.trans ?_, h3.trans ?_, h4.trans ?_, h5.trans ?_, h⟩
  all_goals
    funext j; idx_vars j
    try simp only [at_, Nat.zero_add]
    pointwise []
    rfl

end Cert.ProjFwdReferenceIdeal.Grad

namespace Cert.ProjFwd

open Idealize.ShloMosaic Idealize.ShloMosaic.TcCoe Idealize.SL.Sem Cert.Common

theorem frame : Cert.quiescent_ProjFwd := fun m ρ _ => Cert.ProjFwd.Gen.frame m ρ
theorem frame_ideal : Cert.quiescent_ProjFwdIdeal := fun m ρ _ => Cert.ProjFwdIdeal.Gen.frame m ρ

/-- The reference declares no semaphore. -/
theorem frame_ref : Cert.quiescent_ProjFwdReferenceIdeal := fun m ρ _ =>
  (θ_run Cert.ProjFwdReferenceIdeal.defs _ _).mono (fun r h => ⟨fun c => (h c).2.2.2.2.2.2, sem_eq_zero_of_no_sems (by decide) r.2⟩)
    (Cert.ProjFwdReferenceIdeal.Value.run m ρ)

/-- Kernel and reference end with the same arrays. -/
theorem algebraic : Cert.algebraic_ProjFwdIdeal_ProjFwdReferenceIdeal := by
  intro m ρ m' ρ' _ hag
  have e0 : ∀ c, ProjFwdReferenceIdeal.Grad.aX m' c = ProjFwdIdeal.Grad.aX m c := fun c => funext fun i => funext fun k => congrFun (hag c).1 (ix2 i k)
  have e1 : ∀ c, ProjFwdReferenceIdeal.Grad.aG m' c = ProjFwdIdeal.Grad.aG m c := fun c => funext fun k => congrFun (hag c).2.1 (ix1 k)
  have e2 : ∀ c, ProjFwdReferenceIdeal.Grad.aW m' c = ProjFwdIdeal.Grad.aW m c := fun c => funext fun f => funext fun k => congrFun (hag c).2.2 (ix2 k f)
  have hr := ProjFwdReferenceIdeal.Grad.run_spec m' ρ'
  simp only [e0, e1, e2] at hr
  exact ⟨fun c => _, fun c => _, fun c => _, fun c => _, fun c => _, fun c => _, ProjFwdIdeal.Grad.run_spec m ρ, hr⟩

end Cert.ProjFwd

end
-- ==== Proof.Gate.Spec.lean ====
module

public import proofs.«01_k».proof.Defs
public import proofs.«01_k».proof.Proof.Common.Real
public import Idealize.ShloMosaic.Lib.Pipeline.ValueKit

@[expose] public section

set_option maxRecDepth 16384

noncomputable section

/-! The spatial gate on rows of 256 lanes, four groups of 64: GELU, each group's layer norm, the causal mix inside a chunk of 128 rows. -/

namespace Cert.GateSpec

open Idealize.ShloMosaic

/-- Lane `k` of the group that holds lane `j`. -/
def mate (j : Fin 256) (k : Fin 64) : Fin 256 := ⟨j.val / 64 * 64 + k.val, by omega⟩
/-- The group of a lane, and its place there. -/
def grp (j : Fin 256) : Fin 4 := ⟨j.val / 64, by omega⟩
def at64 (j : Fin 256) : Fin 64 := ⟨j.val % 64, by omega⟩

/-- GELU in its tanh form. -/
def gelu (x : EReal) : EReal :=
  x * (Ideal.ofBits .f32 0x3F000000#32 * (1
    + Ideal.tanh (Ideal.ofBits .f32 0x3F4C422A#32 * (x + Ideal.ofBits .f32 0x3D372713#32 * (x * x * x)))))

/-- The mean over a lane's group. -/
def mean (x : Fin 256 → EReal) (j : Fin 256) : EReal := Ideal.div (∑ k, x (mate j k)) (Ideal.ofBits .f32 0x42800000#32)
/-- A row less its group's mean, the factor of the norm, and the row normalised. -/
def cen (x : Fin 256 → EReal) (j : Fin 256) : EReal := x j - mean x j
def rstd (x : Fin 256 → EReal) (j : Fin 256) : EReal :=
  Ideal.rsqrt (mean (fun i => cen x i * cen x i) j + Ideal.ofBits .f32 0x358637BD#32)
def hat (x : Fin 256 → EReal) (j : Fin 256) : EReal := cen x j * rstd x j
/-- The layer norm of the GELU of a row. -/
def lnorm (g b : Fin 256 → EReal) (z : Fin 256 → EReal) (j : Fin 256) : EReal := hat (fun i => gelu (z i)) j * g j + b j

/-- The weights on and below the diagonal. -/
def tri (w : Fin 128 → Fin 128 → EReal) (t s : Fin 128) : EReal := if s.val ≤ t.val then w t s else 0

/-- Row `s` of the chunk that holds row `i`, and the place of row `i` there. -/
def chunk (i : Fin 8192) (s : Fin 128) : Fin 8192 := ⟨i.val / 128 * 128 + s.val, by omega⟩
def place (i : Fin 8192) : Fin 128 := ⟨i.val % 128, by omega⟩

/-- What the causal mix makes of the normalised rows, its bias added. -/
def mix (w : Fin 4 → Fin 128 → Fin 128 → EReal) (d : Fin 4 → Fin 128 → EReal) (n : Fin 8192 → Fin 256 → EReal) (i : Fin 8192) (j : Fin 256) : EReal :=
  (∑ s : Fin 128, tri (w (grp j)) (place i) s * n (chunk i s) j) + d (grp j) (place i)

/-- A product with 1/64 is a quotient by 64. -/
theorem div64 (x : EReal) : x * Ideal.ofBits .f32 0x3C800000#32 = Ideal.div x (Ideal.ofBits .f32 0x42800000#32) := by
  rw [show Ideal.ofBits .f32 0x42800000#32 = ((64 : ℝ) : EReal) by simp [Ideal.ofBits, Ideal.ieee, -EReal.coe_mul]; norm_num,
    show Ideal.ofBits .f32 0x3C800000#32 = ((1 / 64 : ℝ) : EReal) by simp [Ideal.ofBits, Ideal.ieee, -EReal.coe_mul]; norm_num,
    Ideal.div_coe (by norm_num)]

theorem low (x : Fin 128) : IntOp.cmpi .eq (BitVec.ofNat 32 (x.val / 64)) 0#32 = if x.val < 64 then 1#1 else 0#1 := by
  revert x; decide +kernel

theorem low2 (x : Fin 128) : IntOp.cmpi .eq (BitVec.ofNat 32 ((128 + x.val) / 64)) 2#32 = if x.val < 64 then 1#1 else 0#1 := by
  revert x; decide +kernel

/-- Half of the lanes of a register, summed under a mask. -/
theorem sum_low (f : Fin 128 → EReal) :
    ∑ x : Fin 128, Scalar.select (if x.val < 64 then 1#1 else 0#1) (f x) 0 = ∑ k : Fin 64, f ⟨k.val, by omega⟩ := by
  refine (Fin.sum_univ_add (a := 64) (b := 64) (fun x : Fin (64 + 64) => Scalar.select (if x.val < 64 then 1#1 else 0#1) (f x) 0)).trans ?_
  refine (congrArg (_ + ·) (Finset.sum_eq_zero fun i _ => by simp [Scalar.select])).trans ((add_zero _).trans ?_)
  exact Finset.sum_congr rfl fun k _ => by simp [Scalar.select, Fin.castAdd, Fin.castLE]

theorem sum_high (f : Fin 128 → EReal) :
    ∑ x : Fin 128, Scalar.select (if x.val < 64 then 1#1 else 0#1) 0 (f x) = ∑ k : Fin 64, f ⟨64 + k.val, by omega⟩ := by
  refine (Fin.sum_univ_add (a := 64) (b := 64) (fun x : Fin (64 + 64) => Scalar.select (if x.val < 64 then 1#1 else 0#1) 0 (f x))).trans ?_
  refine (congrArg (· + _) (Finset.sum_eq_zero fun i _ => by simp [Scalar.select])).trans ((zero_add _).trans ?_)
  exact Finset.sum_congr rfl fun k _ => by simp [Scalar.select, Fin.natAdd]

/-- The masked sums over the two halves of two registers are the groups' means. -/
theorem mean_at (x : Fin 256 → EReal) (j : Fin 256) :
    (if h : j.val < 128 then
      Scalar.select (IntOp.cmpi .eq (BitVec.ofNat 32 (j.val / 64)) 0#32)
        (∑ k : Fin 128, Scalar.select (IntOp.cmpi .eq (BitVec.ofNat 32 (k.val / 64)) 0#32) (x ⟨k.val, by omega⟩) 0)
        (∑ k : Fin 128, Scalar.select (IntOp.cmpi .eq (BitVec.ofNat 32 (k.val / 64)) 0#32) 0 (x ⟨k.val, by omega⟩))
        * Ideal.ofBits .f32 0x3C800000#32
    else
      Scalar.select (IntOp.cmpi .eq (BitVec.ofNat 32 ((128 + (j.val - 128)) / 64)) 2#32)
        (∑ k : Fin 128, Scalar.select (IntOp.cmpi .eq (BitVec.ofNat 32 ((128 + k.val) / 64)) 2#32) (x ⟨128 + k.val, by omega⟩) 0)
        (∑ k : Fin 128, Scalar.select (IntOp.cmpi .eq (BitVec.ofNat 32 ((128 + k.val) / 64)) 2#32) 0 (x ⟨128 + k.val, by omega⟩))
        * Ideal.ofBits .f32 0x3C800000#32) = mean x j := by
  unfold mean
  simp only [low, low2, sum_low (fun k => x ⟨k.val, by omega⟩), sum_high (fun k => x ⟨k.val, by omega⟩),
    sum_low (fun k => x ⟨128 + k.val, by omega⟩), sum_high (fun k => x ⟨128 + k.val, by omega⟩), div64]
  split_ifs with h
  · rw [show j.val = (⟨j.val, h⟩ : Fin 128).val from rfl, low]
    by_cases h' : j.val < 64
    · simp only [h', if_true, Scalar.select]
      exact congrArg (fun f : Fin 64 → EReal => Ideal.div (∑ k, f k) _) (funext fun k => congrArg x (Fin.ext (by simp [mate]; omega)))
    · simp only [h', if_false, Scalar.select]
      exact congrArg (fun f : Fin 64 → EReal => Ideal.div (∑ k, f k) _) (funext fun k => congrArg x (Fin.ext (by simp [mate]; omega)))
  · rw [show j.val - 128 = (⟨j.val - 128, by omega⟩ : Fin 128).val from rfl, low2]
    by_cases h' : j.val - 128 < 64
    · simp only [h', if_true, Scalar.select]
      exact congrArg (fun f : Fin 64 → EReal => Ideal.div (∑ k, f k) _) (funext fun k => congrArg x (Fin.ext (by simp [mate]; omega)))
    · simp only [h', if_false, Scalar.select]
      exact congrArg (fun f : Fin 64 → EReal => Ideal.div (∑ k, f k) _) (funext fun k => congrArg x (Fin.ext (by simp [mate]; omega)))

/-- Of two values, the one of the lane's half. -/
theorem pick (j : Nat) (h : j < 128) (x y : EReal) : Scalar.select (IntOp.cmpi .eq (BitVec.ofNat 32 (j / 64)) 0#32) x y = if j < 64 then x else y := by
  rw [show j = (⟨j, h⟩ : Fin 128).val from rfl, low]
  split_ifs <;> rfl

/-- The causal mask, as a comparison of lane and row numbers. -/
theorem tri_at (w : Fin 128 → Fin 128 → EReal) (t s : Fin 128) :
    Scalar.select (IntOp.cmpi .sle (BitVec.ofNat 32 s.val) (BitVec.ofNat 32 t.val)) (w t s) 0 = tri w t s := by
  have h : ∀ t s : Fin 128, IntOp.cmpi .sle (BitVec.ofNat 32 s.val) (BitVec.ofNat 32 t.val) = if s.val ≤ t.val then 1#1 else 0#1 := by decide +kernel
  rw [h]
  unfold tri
  split_ifs <;> rfl

/-- The same mask compared the other way, the weights' product with `z` under it. -/
theorem tri_ge (w : Fin 128 → Fin 128 → EReal) (t s : Fin 128) (z : EReal) :
    @Scalar.select EReal (IntOp.cmpi .sge (IntOp.addi (BitVec.ofNat 32 t.val) 0#32) (BitVec.ofNat 32 s.val)) (z * w t s) 0 = tri w t s * z := by
  have h : ∀ t s : Fin 128, IntOp.cmpi .sge (IntOp.addi (BitVec.ofNat 32 t.val) 0#32) (BitVec.ofNat 32 s.val) = if s.val ≤ t.val then 1#1 else 0#1 := by decide +kernel
  rw [h]
  unfold tri
  split_ifs
  · exact mul_comm _ _
  · exact (zero_mul _).symm

/-- The lanes of a group have one mean; the mean of the squares with it taken out. -/
theorem mean_mate (x : Fin 256 → EReal) (j : Fin 256) (k : Fin 64) : mean x (mate j k) = mean x j := by
  unfold mean
  rw [show mate (mate j k) = mate j from funext fun l => Fin.ext (by simp [mate]; omega)]

theorem mean_sq (x : Fin 256 → EReal) (j : Fin 256) : mean (fun i => cen x i * cen x i) j
    = Ideal.div (∑ k, (x (mate j k) - mean x j) * (x (mate j k) - mean x j)) (Ideal.ofBits .f32 0x42800000#32) := by
  refine congrArg (Ideal.div · _) (Finset.sum_congr rfl fun k _ => ?_)
  show (x (mate j k) - mean x (mate j k)) * (x (mate j k) - mean x (mate j k)) = _
  rw [mean_mate]

/-- The layer norm written out. -/
theorem lnorm_eq (g b z : Fin 256 → EReal) (j : Fin 256) :
    (gelu (z j) - Ideal.div (∑ k, gelu (z (mate j k))) (Ideal.ofBits .f32 0x42800000#32))
        * Ideal.rsqrt (Ideal.div (∑ k, (gelu (z (mate j k)) - Ideal.div (∑ l, gelu (z (mate j l))) (Ideal.ofBits .f32 0x42800000#32))
            * (gelu (z (mate j k)) - Ideal.div (∑ l, gelu (z (mate j l))) (Ideal.ofBits .f32 0x42800000#32))) (Ideal.ofBits .f32 0x42800000#32)
          + Ideal.ofBits .f32 0x358637BD#32) * g j + b j = lnorm g b z j := by
  unfold lnorm hat rstd
  rw [mean_sq]
  rfl

end Cert.GateSpec

end
-- ==== Proof.Gate.Fwd.lean ====
module

public import proofs.«01_k».proof.Defs
public import proofs.«01_k».proof.Proof.Gen.GateFwd.Frame
public import proofs.«01_k».proof.Proof.Gen.GateFwdIdeal.Value
public import proofs.«01_k».proof.Proof.Gen.GateFwdReferenceIdeal.Run
public import Idealize.ShloMosaic.Lib.Pipeline.ValueKit
public import proofs.«01_k».proof.Proof.Gate.Spec

@[expose] public section

set_option maxRecDepth 16384

noncomputable section

namespace Cert.GateFwdIdeal.Step

open Cert.GateFwdIdeal Cert.GateFwdIdeal.Gen
open Idealize.ShloMosaic Idealize.ShloMosaic.TcCoe Idealize.SL.Sem
open Idealize.ShloMosaic.Pipeline (Dat)
open Cert.GateSpec

variable (m : (ℓ : Loc nD τ sig) → Buf (Elt Ideal) ℓ)

/-- The group of a lane. -/
theorem group_at (a : Fin 1024) (j : Fin 256) : k0_pay1 (ix2 a j) = BitVec.ofNat 32 (j.val / 64) := by
  pointwise [k0_pay1]
  revert j; decide +kernel

/-- The rows less their groups' means. -/
theorem cen_at (x : FVec Ideal S1024x256 .f32) (a : Fin 1024) (j : Fin 256) :
    k0_pay12 (F := Ideal) k0_pay1 x (ix2 a j) = cen (fun i => x (ix2 a i)) j := by
  pointwise [k0_pay12]
  simp only [group_at]
  exact congrArg (x (ix2 a j) - ·) (mean_at (fun i => x (ix2 a i)) j)

theorem gelu_at (x : FVec Ideal S1024x256 .f32) (a : Fin 1024) (j : Fin 256) : k0_pay10 (F := Ideal) x (ix2 a j) = gelu (x (ix2 a j)) := by
  pointwise [k0_pay10]
  rfl

theorem gelu_at' (x : FVec Ideal S1024x256 .f32) (a : Fin 1024) (j : Fin 256) : k0_pay11 (F := Ideal) x (ix2 a j) = gelu (x (ix2 a j)) := by
  pointwise [k0_pay11]
  rfl

/-- The layer norm of each group. -/
theorem norm_at (x : FVec Ideal S1024x256 .f32) (g b : FVec Ideal S1x256 .f32) (a : Fin 1024) (j : Fin 256) :
    k0_pay17 (F := Ideal) k0_pay1 (k0_pay8 g) (k0_pay9 b) (k0_pay12 k0_pay1 (k0_pay11 x)) (k0_pay13 k0_pay1 (k0_pay11 x)) (k0_pay14 k0_pay1 (k0_pay11 x))
      (k0_pay15 k0_pay1) k0_pay16 (ix2 a j) = lnorm (fun i => g (ix2 0 i)) (fun i => b (ix2 0 i)) (fun i => x (ix2 a i)) j := by
  pointwise [k0_pay17, k0_pay8, k0_pay9, k0_pay13, k0_pay14, k0_pay15, k0_pay16]
  simp only [group_at, cen_at, gelu_at']
  unfold lnorm hat rstd
  rw [mean_at (fun i => cen (fun i => gelu (x (ix2 a i))) i * cen (fun i => gelu (x (ix2 a i))) i) j]

/-- Eight chunks of rows one under another. -/
theorem stack_at (f0 f1 f2 f3 f4 f5 f6 f7 : FVec Ideal S128x256 .f32)
    (h : Shape.Concatenates [S128x256, S128x256, S128x256, S128x256, S128x256, S128x256, S128x256, S128x256] S1024x256 0)
    (p : Fin 8) (t : Fin 128) (j : Fin 256) (v : Fin 8 → EReal)
    (h0 : f0 (ix2 t j) = v 0) (h1 : f1 (ix2 t j) = v 1) (h2 : f2 (ix2 t j) = v 2) (h3 : f3 (ix2 t j) = v 3)
    (h4 : f4 (ix2 t j) = v 4) (h5 : f5 (ix2 t j) = v 5) (h6 : f6 (ix2 t j) = v 6) (h7 : f7 (ix2 t j) = v 7) :
    concatenate S1024x256 0 [⟨S128x256, f0⟩, ⟨S128x256, f1⟩, ⟨S128x256, f2⟩, ⟨S128x256, f3⟩, ⟨S128x256, f4⟩, ⟨S128x256, f5⟩, ⟨S128x256, f6⟩, ⟨S128x256, f7⟩] h
      (ix2 (⟨p.val * 128 + t.val, by omega⟩ : Fin 1024) j) = v p := by
  have off : ∀ k : Nat, ∀ hk, ∀ b : Fin S128x256.rank, b.cast (rfl : S128x256.rank = S1024x256.rank) ≠ 0 →
      ((ix2 t j : S128x256.Idx) b).val = ((ix2 (⟨k * 128 + t.val, hk⟩ : Fin 1024) j : S1024x256.Idx) (b.cast rfl)).val := by
    intro k hk b hb
    match b, hb with
    | ⟨0, _⟩, hb => exact absurd rfl hb
    | ⟨1, _⟩, _ => rfl
  have key := fun (k : Nat) hk (f : FVec Ideal S128x256 .f32) hf hr hpre hk' ha =>
    concatenate_apply_piece (t := S1024x256) 0 [⟨S128x256, f0⟩, ⟨S128x256, f1⟩, ⟨S128x256, f2⟩, ⟨S128x256, f3⟩, ⟨S128x256, f4⟩, ⟨S128x256, f5⟩, ⟨S128x256, f6⟩, ⟨S128x256, f7⟩] h
      (ix2 (⟨k * 128 + t.val, hk'⟩ : Fin 1024) j) k hk S128x256 f hf hr (k * 128) hpre (ix2 t j) (off k hk') ha
  match p with
  | ⟨0, _⟩ => exact (key 0 (by simp) f0 rfl rfl rfl _ rfl).trans h0
  | ⟨1, _⟩ => exact (key 1 (by simp) f1 rfl rfl rfl _ rfl).trans h1
  | ⟨2, _⟩ => exact (key 2 (by simp) f2 rfl rfl rfl _ rfl).trans h2
  | ⟨3, _⟩ => exact (key 3 (by simp) f3 rfl rfl rfl _ rfl).trans h3
  | ⟨4, _⟩ => exact (key 4 (by simp) f4 rfl rfl rfl _ rfl).trans h4
  | ⟨5, _⟩ => exact (key 5 (by simp) f5 rfl rfl rfl _ rfl).trans h5
  | ⟨6, _⟩ => exact (key 6 (by simp) f6 rfl rfl rfl _ rfl).trans h6
  | ⟨7, _⟩ => exact (key 7 (by simp) f7 rfl rfl rfl _ rfl).trans h7

set_option maxHeartbeats 4000000 in
/-- The mix of one chunk: each lane's group takes its own weights. -/
theorem mixed_at (w0 w1 w2 w3 : FVec Ideal S128x128 .bf16) (zn : FVec Ideal S1024x256 .bf16) (u : FVec Ideal S1024x256 .f32) (x5 : FVec Ideal S128x4 .f32)
    (p : Fin 8) (t : Fin 128) (j : Fin 256) (W : Fin 4 → Fin 128 → Fin 128 → EReal)
    (h0 : ∀ t s, w0 (ix2 t s) = W 0 t s) (h1 : ∀ t s, w1 (ix2 t s) = W 1 t s) (h2 : ∀ t s, w2 (ix2 t s) = W 2 t s) (h3 : ∀ t s, w3 (ix2 t s) = W 3 t s) :
    k0_pay40 (F := Ideal) w0 w1 w2 w3 u zn (k0_pay18 k0_pay1)
      (k0_pay20 w0 w1 w2 w3 zn (k0_pay18 k0_pay1) (extractStridedSlice S128x128 ![0, 0] zn slices_S1024x256_o0_0_S128x128) (constant S128x128 .f32 0x00000000#32) (View.ld x5 r0_6) (View.ld x5 r0_7) (View.ld x5 r0_8) (View.ld x5 r0_9))
      (k0_pay25 w3 (k0_pay18 k0_pay1) (k0_pay21 w0 w1 zn (k0_pay18 k0_pay1) (View.ld x5 r0_6) (View.ld x5 r0_7)) (k0_pay22 zn) (k0_pay23 w2 zn) (k0_pay24 (View.ld x5 r0_8)) (View.ld x5 r0_9))
      (k0_pay26 w0 w1 w2 w3 zn (k0_pay18 k0_pay1) (View.ld x5 r0_6) (View.ld x5 r0_7) (View.ld x5 r0_8) (View.ld x5 r0_9))
      (k0_pay30 w2 w3 zn (k0_pay18 k0_pay1) (k0_pay28 w0 zn (View.ld x5 r0_6)) (k0_pay29 w1 zn) (View.ld x5 r0_7) (View.ld x5 r0_8) (View.ld x5 r0_9))
      (k0_pay36 (k0_pay18 k0_pay1) (k0_pay31 w0 w1 zn (k0_pay18 k0_pay1) (View.ld x5 r0_6) (View.ld x5 r0_7)) (k0_pay33 w2 zn (View.ld x5 r0_8)) (k0_pay34 w3 zn) (k0_pay35 (View.ld x5 r0_9)))
      (k0_pay37 w0 w1 w2 w3 zn (k0_pay18 k0_pay1) (View.ld x5 r0_6) (View.ld x5 r0_7) (View.ld x5 r0_8) (View.ld x5 r0_9))
      (k0_pay38 w0 w1 zn (k0_pay18 k0_pay1) (View.ld x5 r0_6) (View.ld x5 r0_7)) (k0_pay39 zn) (constant S128x128 .f32 0x00000000#32)
      (View.ld x5 r0_8) (View.ld x5 r0_9) (View.ld x5 r0_6) (View.ld x5 r0_7) (View.ld x5 r0_8) (View.ld x5 r0_9)
      (ix2 (⟨p.val * 128 + t.val, by omega⟩ : Fin 1024) j)
    = u (ix2 (⟨p.val * 128 + t.val, by omega⟩ : Fin 1024) j)
      * ((∑ s : Fin 128, W (grp j) t s * zn (ix2 (⟨p.val * 128 + s.val, by omega⟩ : Fin 1024) j)) + x5 (ix2 t (grp j))) := by
  have e : ∀ h : 128 + (j.val - 128) < 256, ¬ j.val < 128 → (⟨128 + (j.val - 128), h⟩ : Fin 256) = j := fun h h' => Fin.ext (by show 128 + (j.val - 128) = j.val; omega)
  have g : ∀ n : Fin 4, j.val / 64 = n.val → grp j = n := fun n h => Fin.ext h
  refine congrArg (u _ * ·) (stack_at _ _ _ _ _ _ _ _ _ p t j (fun p => (∑ s : Fin 128, W (grp j) t s * zn (ix2 (⟨p.val * 128 + s.val, by omega⟩ : Fin 1024) j)) + x5 (ix2 t (grp j))) ?_ ?_ ?_ ?_ ?_ ?_ ?_ ?_)
  all_goals
    pointwise [k0_pay18, k0_pay20, k0_pay21, k0_pay22, k0_pay23, k0_pay24, k0_pay25, k0_pay26, k0_pay27, k0_pay28, k0_pay29, k0_pay30, k0_pay31,
      k0_pay32, k0_pay33, k0_pay34, k0_pay35, k0_pay36, k0_pay37, k0_pay38, k0_pay39]
    simp only [group_at, h0, h1, h2, h3]
    by_cases h : j.val < 128
    · simp only [dif_pos h]
      rw [pick _ h]
      split_ifs with h'
      · rw [g 0 (by simp; omega)]
        try rfl
      · rw [g 1 (by simp; omega)]
        try rfl
    · simp only [dif_neg h]
      rw [pick _ (by omega)]
      simp only [e _ h]
      by_cases h' : j.val - 128 < 64
      · simp only [if_pos h']
        rw [g 2 (by simp; omega)]
        try first | rfl | (split_ifs with h3 <;> first | rfl | exact absurd rfl h3)
      · simp only [if_neg h']
        rw [g 3 (by simp; omega)]
        try first | rfl | (split_ifs with h3 <;> first | rfl | exact absurd rfl h3)

/-- The body's result on a block. -/
theorem out_at (x0 x1 : FVec Ideal S1024x256 .f32) (x2 x3 : FVec Ideal S1x256 .f32) (x4 : FVec Ideal S4x128x128 .f32) (x5 : FVec Ideal S128x4 .f32)
    (p : Fin 8) (t : Fin 128) (j : Fin 256) :
    out0_6 (F := Ideal) x0 x1 x2 x3 x4 x5 (ix2 (⟨p.val * 128 + t.val, by omega⟩ : Fin 1024) j)
    = gelu (x0 (ix2 (⟨p.val * 128 + t.val, by omega⟩ : Fin 1024) j))
      * ((∑ s : Fin 128, tri (fun t s => x4 (ix3 (grp j) t s)) t s
          * lnorm (fun i => x2 (ix2 0 i)) (fun i => x3 (ix2 0 i)) (fun i => x1 (ix2 (⟨p.val * 128 + s.val, by omega⟩ : Fin 1024) i)) j) + x5 (ix2 t (grp j))) := by
  unfold out0_6
  frame_out
  refine (mixed_at _ _ _ _ _ _ x5 p t j (fun g => tri fun t s => x4 (ix3 g t s)) (fun t s => ?_) (fun t s => ?_) (fun t s => ?_) (fun t s => ?_)).trans ?_
  · pointwise [k0_pay43, k0_pay3, k0_pay2]
    exact tri_at (fun t s => x4 (ix3 0 t s)) t s
  · pointwise [k0_pay44, k0_pay4, k0_pay2]
    exact tri_at (fun t s => x4 (ix3 1 t s)) t s
  · pointwise [k0_pay45, k0_pay5, k0_pay6, k0_pay42, k0_pay2]
    exact tri_at (fun t s => x4 (ix3 2 t s)) t s
  · pointwise [k0_pay46, k0_pay7, k0_pay42, k0_pay2]
    exact tri_at (fun t s => x4 (ix3 3 t s)) t s
  · rw [gelu_at]
    refine congrArg₂ (fun a (f : Fin 128 → EReal) => a * ((∑ s, f s) + _)) ?_ (funext fun s => congrArg (_ * ·) ((norm_at _ _ _ _ _).trans ?_))
    · rfl
    · pointwise []

/-- The arguments on a device. -/
def aU (c : Dev nD) (i : Fin 8192) (j : Fin 256) : EReal := (m ((c.tc : Thread nD τ).loc main_arg0) : FVec Ideal S8192x256 .f32) (ix2 i j)
def aZ (c : Dev nD) (i : Fin 8192) (j : Fin 256) : EReal := (m ((c.tc : Thread nD τ).loc main_arg1) : FVec Ideal S8192x256 .f32) (ix2 i j)
def aG (c : Dev nD) (j : Fin 256) : EReal := (m ((c.tc : Thread nD τ).loc main_arg2) : FVec Ideal S4x64 .f32) (ix2 (grp j) (at64 j))
def aB (c : Dev nD) (j : Fin 256) : EReal := (m ((c.tc : Thread nD τ).loc main_arg3) : FVec Ideal S4x64 .f32) (ix2 (grp j) (at64 j))
def aW (c : Dev nD) (g : Fin 4) (t s : Fin 128) : EReal := (m ((c.tc : Thread nD τ).loc main_arg4) : FVec Ideal S4x128x128 .f32) (ix3 g t s)
def aS (c : Dev nD) (g : Fin 4) (t : Fin 128) : EReal := (m ((c.tc : Thread nD τ).loc main_arg5) : FVec Ideal S4x128 .f32) (ix2 g t)
/-- The gated rows. -/
def aO (c : Dev nD) (i : Fin 8192) (j : Fin 256) : EReal :=
  gelu (aU m c i j) * mix (aW m c) (aS m c) (fun r => lnorm (aG m c) (aB m c) (aZ m c r)) i j

/-- Where each point's blocks lie. -/
theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] ∧ win0_6.index t = ![t.val, 0] ∧ t.val < 8 :=
  (by decide +kernel : ∀ t : Fin grid0.N, _)

/-- Row `a` of block `t`. -/
def row (t : Fin cfg0.N) (a : Fin 1024) : Fin 8192 := ⟨t.val * 1024 + a.val, by have := (idx t).2.2.2.2.2.2.2; omega⟩

theorem b0 (c : Dev nD) (t : Fin cfg0.N) (a : Fin 1024) (k : Fin 256) : (iblk m c 0 t : FVec Ideal S1024x256 .f32) (ix2 a k) = aU m c (row t a) k := by
  unfold aU
  blk_ext! [iblk, V, idx t, row]

theorem b1 (c : Dev nD) (t : Fin cfg0.N) (a : Fin 1024) (k : Fin 256) : (iblk m c 1 t : FVec Ideal S1024x256 .f32) (ix2 a k) = aZ m c (row t a) k := by
  unfold aZ
  blk_ext! [iblk, V, idx t, row]

theorem b2 (c : Dev nD) (t : Fin cfg0.N) (k : Fin 256) : (iblk m c 2 t : FVec Ideal S1x256 .f32) (ix2 0 k) = aG m c k := by
  unfold aG
  blk_ext! [iblk, V, idx t, row, grp, at64]

theorem b3 (c : Dev nD) (t : Fin cfg0.N) (k : Fin 256) : (iblk m c 3 t : FVec Ideal S1x256 .f32) (ix2 0 k) = aB m c k := by
  unfold aB
  blk_ext! [iblk, V, idx t, row, grp, at64]

theorem b4 (c : Dev nD) (t : Fin cfg0.N) (g : Fin 4) (a k : Fin 128) : (iblk m c 4 t : FVec Ideal S4x128x128 .f32) (ix3 g a k) = aW m c g a k := by
  unfold aW
  blk_ext! [iblk, V, idx t, row]

theorem b5 (c : Dev nD) (t : Fin cfg0.N) (a : Fin 128) (g : Fin 4) : (iblk m c 5 t : FVec Ideal S128x4 .f32) (ix2 a g) = aS m c g a := by
  unfold aS
  blk_ext! [iblk, V, idx t, row]

theorem final6 (c : Dev nD) : (dats m 0 c).arrAt 6 (cfgs 0).N = (fun j => aO m c (j 0) (j 1) : FVec Ideal S8192x256 .f32) := by
  refine (dats m 0 c).arrAt_eq_of_covers 6 _ (by decide +kernel) fun t hf y => ?_
  blk_simp
  rw [after0_6]
  idx_vars y
  obtain ⟨p, q, rfl⟩ : ∃ (p : Fin 8) (q : Fin 128), y0 = (⟨p.val * 128 + q.val, by omega⟩ : Fin 1024) :=
    ⟨⟨y0.val / 128, by omega⟩, ⟨y0.val % 128, by omega⟩, Fin.ext (by simp; omega)⟩
  refine (out_at _ _ _ _ _ _ p q y1).trans ?_
  simp only [b0, b1, b2, b3, b4, b5]
  have hp : place (row t (⟨p.val * 128 + q.val, by omega⟩ : Fin 1024)) = q := Fin.ext (by simp [row, place]; omega)
  have hc : ∀ s, chunk (row t (⟨p.val * 128 + q.val, by omega⟩ : Fin 1024)) s = row t (⟨p.val * 128 + s.val, by omega⟩ : Fin 1024) := fun s => Fin.ext (by simp [row, chunk]; omega)
  refine Eq.trans ?_ (congrArg₂ (fun i f => aO m c i f) (Fin.ext (by blk_simp [idx t, row])) (Fin.ext (by blk_simp [idx t])) : aO m c (row t ⟨p.val * 128 + q.val, by omega⟩) y1 = _)
  unfold aO mix
  rw [hp]
  simp only [hc]

/-- Every execution of the kernel's program ends with the gated rows in its result array, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v3) = (fun j => aO m c (j 0) (j 1) : FVec Ideal S8192x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run_blocks m ρ)
  have h := h c
  rw [final6] at h
  exact h

end Cert.GateFwdIdeal.Step

namespace Cert.GateFwdReferenceIdeal.Step

open Cert.GateFwdReferenceIdeal Cert.GateFwdReferenceIdeal.Gen
open Idealize.ShloMosaic Idealize.ShloMosaic.TcCoe Idealize.SL.Sem
open Cert.GateSpec

variable (m : (ℓ : Loc nD τ sig) → Buf (Elt Ideal) ℓ)

/-- The arguments on a device. -/
def aU (c : Dev nD) (i : Fin 8192) (j : Fin 256) : EReal := (m ((c.tc : Thread nD τ).loc main_arg0) : FVec Ideal S8192x256 .f32) (ix2 i j)
def aZ (c : Dev nD) (i : Fin 8192) (j : Fin 256) : EReal := (m ((c.tc : Thread nD τ).loc main_arg1) : FVec Ideal S8192x256 .f32) (ix2 i j)
def aG (c : Dev nD) (j : Fin 256) : EReal := (m ((c.tc : Thread nD τ).loc main_arg2) : FVec Ideal S4x64 .f32) (ix2 (grp j) (at64 j))
def aB (c : Dev nD) (j : Fin 256) : EReal := (m ((c.tc : Thread nD τ).loc main_arg3) : FVec Ideal S4x64 .f32) (ix2 (grp j) (at64 j))
def aW (c : Dev nD) (g : Fin 4) (t s : Fin 128) : EReal := (m ((c.tc : Thread nD τ).loc main_arg4) : FVec Ideal S4x128x128 .f32) (ix3 g t s)
def aS (c : Dev nD) (g : Fin 4) (t : Fin 128) : EReal := (m ((c.tc : Thread nD τ).loc main_arg5) : FVec Ideal S4x128 .f32) (ix2 g t)
/-- The gated rows. -/
def aO (c : Dev nD) (i : Fin 8192) (j : Fin 256) : EReal :=
  gelu (aU m c i j) * mix (aW m c) (aS m c) (fun r => lnorm (aG m c) (aB m c) (aZ m c r)) i j

theorem value (c : Dev nD) : Value.res_main_v66 (F := Ideal) m c = (fun j => aO m c (j 0) (j 1) : FVec Ideal S8192x256 .f32) := by
  funext j; idx_vars j
  unfold Value.res_main_v66
  pointwise []
  unfold aO mix
  have hg : ∀ x : EReal, x * (Ideal.ofBits .f32 0x3F000000#32 * (1 + Ideal.tanh (Ideal.ofBits .f32 0x3F4C422A#32 * (x + Ideal.ofBits .f32 0x3D372713#32 * (x * x * x))))) = gelu x := fun _ => rfl
  simp only [hg]
  refine congrArg₂ (· * ·) rfl (congrArg₂ (· + ·) (Finset.sum_congr rfl fun s _ => ?_) rfl)
  refine Eq.trans ?_ (tri_ge (aW m c (grp j1)) (place j0) s (lnorm (aG m c) (aB m c) (aZ m c (chunk j0 s)) j1))
  refine congrArg (fun e => @Scalar.select EReal (IntOp.cmpi .sge (IntOp.addi (BitVec.ofNat 32 (place j0).val) 0#32) (BitVec.ofNat 32 s.val))
    (e * aW m c (grp j1) (place j0) s) 0) ?_
  exact lnorm_eq (aG m c) (aB m c) (aZ m c (chunk j0 s)) j1

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v66) = (fun j => aO m c (j 0) (j 1) : FVec Ideal S8192x256 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run m ρ)
  exact ⟨(h c).1.trans (value m c), (h c).2⟩

end Cert.GateFwdReferenceIdeal.Step

namespace Cert.GateFwd

open Idealize.ShloMosaic Idealize.ShloMosaic.TcCoe Idealize.SL.Sem

theorem frame : Cert.quiescent_GateFwd := fun m ρ _ => Cert.GateFwd.Gen.frame m ρ
theorem frame_ideal : Cert.quiescent_GateFwdIdeal := fun m ρ _ => Cert.GateFwdIdeal.Gen.frame m ρ

/-- The reference declares no semaphore. -/
theorem frame_ref : Cert.quiescent_GateFwdReferenceIdeal := fun m ρ _ =>
  (θ_run Cert.GateFwdReferenceIdeal.defs _ _).mono (fun r h => ⟨fun c => (h c).2, sem_eq_zero_of_no_sems (by decide) r.2⟩)
    (Cert.GateFwdReferenceIdeal.Value.run m ρ)

/-- Kernel and reference end with the same gated rows. -/
theorem algebraic : Cert.algebraic_GateFwdIdeal_GateFwdReferenceIdeal := by
  intro m ρ m' ρ' _ hag
  have e0 : ∀ c, GateFwdReferenceIdeal.Step.aU m' c = GateFwdIdeal.Step.aU m c := fun c => funext fun i => funext fun k => congrFun (hag c).1 (ix2 i k)
  have e1 : ∀ c, GateFwdReferenceIdeal.Step.aZ m' c = GateFwdIdeal.Step.aZ m c := fun c => funext fun i => funext fun k => congrFun (hag c).2.1 (ix2 i k)
  have e2 : ∀ c, GateFwdReferenceIdeal.Step.aG m' c = GateFwdIdeal.Step.aG m c := fun c => funext fun k => congrFun (hag c).2.2.1 (ix2 _ _)
  have e3 : ∀ c, GateFwdReferenceIdeal.Step.aB m' c = GateFwdIdeal.Step.aB m c := fun c => funext fun k => congrFun (hag c).2.2.2.1 (ix2 _ _)
  have e4 : ∀ c, GateFwdReferenceIdeal.Step.aW m' c = GateFwdIdeal.Step.aW m c := fun c => funext fun g => funext fun i => funext fun k => congrFun (hag c).2.2.2.2.1 (ix3 g i k)
  have e5 : ∀ c, GateFwdReferenceIdeal.Step.aS m' c = GateFwdIdeal.Step.aS m c := fun c => funext fun i => funext fun k => congrFun (hag c).2.2.2.2.2 (ix2 i k)
  have e6 : ∀ c, GateFwdReferenceIdeal.Step.aO m' c = GateFwdIdeal.Step.aO m c := fun c => by
    unfold GateFwdReferenceIdeal.Step.aO GateFwdIdeal.Step.aO
    rw [e0, e1, e2, e3, e4, e5]
  have hr := GateFwdReferenceIdeal.Step.run_spec m' ρ'
  simp only [e6] at hr
  exact ⟨fun c => _, GateFwdIdeal.Step.run_spec m ρ, hr⟩

end Cert.GateFwd

end
-- ==== Proof.Gate.Bwd.lean ====
/- The four sums of the gate's gradient: what a block of rows adds to them, and the run's. -/
module

public import proofs.«01_k».proof.Proof.Gate.Fwd
public import proofs.«01_k».proof.Proof.Gate.Claim
public import Idealize.ShloMosaic.Lib.Pipeline.ValueKit
public import Idealize.ShloMosaic.Lib.Pipeline.ReadBack

@[expose] public section

set_option maxRecDepth 16384

noncomputable section

namespace Cert.GateSpec

open Idealize.ShloMosaic

/-- Lane `k` of group `g`. -/
def lane (g : Fin 4) (k : Fin 64) : Fin 256 := ⟨g.val * 64 + k.val, by omega⟩
/-- Row `a` of chunk `p`, of a block's eight chunks. -/
def pos (p : Fin 8) (a : Fin 128) : Fin 1024 := ⟨p.val * 128 + a.val, by omega⟩

theorem pos_zero (a : Fin 128) : pos 0 a = ⟨a.val, by omega⟩ := Fin.ext (by simp [pos])
theorem lane_zero (k : Fin 64) : lane 0 k = ⟨k.val, by omega⟩ := Fin.ext (by simp [lane])

/-- Group `b`'s value, for the four lanes that have one. -/
def four (f : Fin 4 → EReal) (b : Fin 128) : EReal := if h : b.val < 4 then f ⟨b.val, h⟩ else 0

/-- Row `a` of chunk `q`, of all 64 chunks. -/
def at128 (q : Fin 64) (a : Fin 128) : Fin 8192 := ⟨q.val * 128 + a.val, by omega⟩

/-- The gradient at the mix: what is given for the gated rows, times the gate. -/
def dmix (u ct : Fin 8192 → Fin 256 → EReal) (i : Fin 8192) (j : Fin 256) : EReal := ct i j * gelu (u i j)
/-- The gradient of the normalised rows: the causal weights turned over. -/
def dnorm (w : Fin 4 → Fin 128 → Fin 128 → EReal) (d : Fin 8192 → Fin 256 → EReal) (i : Fin 8192) (j : Fin 256) : EReal :=
  ∑ t : Fin 128, tri (w (grp j)) t (place i) * d (chunk i t) j
/-- The gradients of the norm's scale and shift. -/
def dscale (w : Fin 4 → Fin 128 → Fin 128 → EReal) (d z : Fin 8192 → Fin 256 → EReal) (j : Fin 256) : EReal :=
  ∑ i, dnorm w d i j * hat (fun l => gelu (z i l)) j
def dshift (w : Fin 4 → Fin 128 → Fin 128 → EReal) (d : Fin 8192 → Fin 256 → EReal) (j : Fin 256) : EReal := ∑ i, dnorm w d i j
/-- The gradient of the weights, on and below the diagonal. -/
def dweight (d n : Fin 8192 → Fin 256 → EReal) (g : Fin 4) : Fin 128 → Fin 128 → EReal :=
  tri fun a b => ∑ q : Fin 64, ∑ k : Fin 64, d (at128 q a) (lane g k) * n (at128 q b) (lane g k)
/-- The gradient of the bias. -/
def dbias (d : Fin 8192 → Fin 256 → EReal) (g : Fin 4) (a : Fin 128) : EReal := ∑ q : Fin 64, ∑ k : Fin 64, d (at128 q a) (lane g k)

end Cert.GateSpec

namespace Cert.KernelIdeal.Gate

open Cert.KernelIdeal Cert.KernelIdeal.Gen
open Idealize.ShloMosaic Idealize.ShloMosaic.TcCoe Idealize.SL.Sem
open Idealize.ShloMosaic.Pipeline (Dat)
open Cert.GateSpec

variable (m : (ℓ : Loc nD τ sig) → Buf (Elt Ideal) ℓ)

/-- The group of a lane. -/
theorem group_at (a : Fin 1024) (j : Fin 256) : k0_pay12 k0_pay9 k0_pay10 k0_pay11 (ix2 a j) = BitVec.ofNat 32 (j.val / 64) := by
  pointwise [k0_pay12, k0_pay9, k0_pay10, k0_pay11]
  revert j; decide +kernel

/-- The lower half of a register's lanes. -/
theorem low_at (a b : Fin 128) : k0_pay65 (k0_pay12 k0_pay9 k0_pay10 k0_pay11) (ix2 a b) = if b.val < 64 then 1#1 else 0#1 := by
  pointwise [k0_pay65]
  rw [group_at]
  exact low b

/-- The products of one group's lanes, of rows `a` and `b` of each of the block's chunks. -/
def pairs (X Y : Fin 1024 → Fin 256 → EReal) (g : Fin 4) (a b : Fin 128) : EReal :=
  ∑ p : Fin 8, ∑ k : Fin 64, X (pos p a) (lane g k) * Y (pos p b) (lane g k)

set_option maxHeartbeats 4000000 in
/-- What the block's stores into matrix 0 of the weights' gradient leave there. -/
theorem chain0 (X : FVec Ideal S1024x256 .f32) (Y : FVec Ideal S1024x256 .bf16) (v : FVec Ideal S1x128x128 .f32) (a b : Fin 128) :
    k0_pay167 (F := Ideal) (k0_pay65 (k0_pay12 k0_pay9 k0_pay10 k0_pay11)) (k0_pay161 (k0_pay64 X)) (k0_pay162 Y) k0_pay163 (k0_pay151 Y (k0_pay64 X) (k0_pay65 (k0_pay12 k0_pay9 k0_pay10 k0_pay11)) (k0_pay138 Y (k0_pay64 X) (k0_pay65 (k0_pay12 k0_pay9 k0_pay10 k0_pay11)) (k0_pay124 (k0_pay122 (k0_pay110 Y (k0_pay64 X) (k0_pay65 (k0_pay12 k0_pay9 k0_pay10 k0_pay11)) (k0_pay96 (k0_pay65 (k0_pay12 k0_pay9 k0_pay10 k0_pay11)) (k0_pay92 (k0_pay64 X)) (k0_pay93 Y) (FloatOps.ofBits FTy.bf16 0#16) (k0_pay84 Y (k0_pay64 X) (k0_pay65 (k0_pay12 k0_pay9 k0_pay10 k0_pay11)) (k0_pay70 (k0_pay12 k0_pay9 k0_pay10 k0_pay11) Y X v))))) (k0_pay123 Y (k0_pay64 X) (k0_pay65 (k0_pay12 k0_pay9 k0_pay10 k0_pay11)))))) (ix3 0 a b)
      = v (ix3 0 a b) + pairs (fun i j => X (ix2 i j)) (fun i j => Y (ix2 i j)) 0 a b := by
  pointwise [k0_pay64, k0_pay66, k0_pay67, k0_pay68, k0_pay70, k0_pay80, k0_pay81, k0_pay82, k0_pay84, k0_pay92, k0_pay93, k0_pay94, k0_pay96, k0_pay106, k0_pay107, k0_pay108, k0_pay110, k0_pay118, k0_pay119, k0_pay120, k0_pay122, k0_pay123, k0_pay124, k0_pay134, k0_pay135, k0_pay136, k0_pay138, k0_pay147, k0_pay148, k0_pay149, k0_pay151, k0_pay161, k0_pay162, k0_pay163, k0_pay167]
  simp only [low_at, sum_low]
  unfold pairs
  simp only [Fin.sum_univ_eight, ← add_assoc, Nat.reduceAdd, pos_zero, lane_zero]
  rfl

set_option maxHeartbeats 4000000 in
/-- What the block's stores into matrix 1 of the weights' gradient leave there. -/
theorem chain1 (X : FVec Ideal S1024x256 .f32) (Y : FVec Ideal S1024x256 .bf16) (v : FVec Ideal S1x128x128 .f32) (a b : Fin 128) :
    k0_pay168 (F := Ideal) (k0_pay65 (k0_pay12 k0_pay9 k0_pay10 k0_pay11)) (k0_pay161 (k0_pay64 X)) (k0_pay162 Y) k0_pay163 (k0_pay154 (k0_pay148 Y) (k0_pay152 (k0_pay139 Y (k0_pay64 X) (k0_pay65 (k0_pay12 k0_pay9 k0_pay10 k0_pay11)) (k0_pay125 (k0_pay65 (k0_pay12 k0_pay9 k0_pay10 k0_pay11)) (k0_pay118 (k0_pay64 X)) (k0_pay119 Y) k0_pay120 (k0_pay111 Y (k0_pay64 X) (k0_pay65 (k0_pay12 k0_pay9 k0_pay10 k0_pay11)) (k0_pay97 (k0_pay65 (k0_pay12 k0_pay9 k0_pay10 k0_pay11)) (k0_pay92 (k0_pay64 X)) (k0_pay93 Y) (FloatOps.ofBits FTy.bf16 0#16) (k0_pay85 (k0_pay65 (k0_pay12 k0_pay9 k0_pay10 k0_pay11)) (k0_pay80 (k0_pay64 X)) (k0_pay81 Y) k0_pay82 (k0_pay71 (k0_pay12 k0_pay9 k0_pay10 k0_pay11) Y X v))))))) (k0_pay153 (k0_pay64 X) (k0_pay65 (k0_pay12 k0_pay9 k0_pay10 k0_pay11)))) (ix3 0 a b)
      = v (ix3 0 a b) + pairs (fun i j => X (ix2 i j)) (fun i j => Y (ix2 i j)) 1 a b := by
  pointwise [k0_pay64, k0_pay66, k0_pay67, k0_pay68, k0_pay71, k0_pay80, k0_pay81, k0_pay82, k0_pay85, k0_pay92, k0_pay93, k0_pay94, k0_pay97, k0_pay106, k0_pay107, k0_pay108, k0_pay111, k0_pay118, k0_pay119, k0_pay120, k0_pay125, k0_pay134, k0_pay135, k0_pay136, k0_pay139, k0_pay147, k0_pay148, k0_pay149, k0_pay152, k0_pay153, k0_pay154, k0_pay161, k0_pay162, k0_pay163, k0_pay168]
  simp only [low_at, sum_high]
  unfold pairs
  simp only [Fin.sum_univ_eight, ← add_assoc, Nat.reduceAdd, pos_zero]
  rfl

set_option maxHeartbeats 4000000 in
/-- What the block's stores into matrix 2 of the weights' gradient leave there. -/
theorem chain2 (X : FVec Ideal S1024x256 .f32) (Y : FVec Ideal S1024x256 .bf16) (v : FVec Ideal S1x128x128 .f32) (a b : Fin 128) :
    k0_pay173 (F := Ideal) Y (k0_pay64 X) (k0_pay65 (k0_pay12 k0_pay9 k0_pay10 k0_pay11)) (k0_pay158 Y (k0_pay64 X) (k0_pay65 (k0_pay12 k0_pay9 k0_pay10 k0_pay11)) (k0_pay144 (k0_pay65 (k0_pay12 k0_pay9 k0_pay10 k0_pay11)) (k0_pay140 (k0_pay64 X)) (k0_pay141 Y) k0_pay142 (k0_pay130 Y (k0_pay64 X) (k0_pay65 (k0_pay12 k0_pay9 k0_pay10 k0_pay11)) (k0_pay115 Y (k0_pay64 X) (k0_pay65 (k0_pay12 k0_pay9 k0_pay10 k0_pay11)) (k0_pay103 (k0_pay102 Y (k0_pay64 X) (k0_pay65 (k0_pay12 k0_pay9 k0_pay10 k0_pay11)) (k0_pay89 Y (k0_pay64 X) (k0_pay65 (k0_pay12 k0_pay9 k0_pay10 k0_pay11)) (k0_pay77 (k0_pay65 (k0_pay12 k0_pay9 k0_pay10 k0_pay11)) (k0_pay72 X) (k0_pay73 Y) k0_pay74 v)))))))) (ix3 0 a b)
      = v (ix3 0 a b) + pairs (fun i j => X (ix2 i j)) (fun i j => Y (ix2 i j)) 2 a b := by
  pointwise [k0_pay64, k0_pay72, k0_pay73, k0_pay74, k0_pay77, k0_pay86, k0_pay87, k0_pay88, k0_pay89, k0_pay98, k0_pay99, k0_pay100, k0_pay102, k0_pay103, k0_pay112, k0_pay113, k0_pay114, k0_pay115, k0_pay126, k0_pay127, k0_pay128, k0_pay130, k0_pay140, k0_pay141, k0_pay142, k0_pay144, k0_pay155, k0_pay156, k0_pay157, k0_pay158, k0_pay169, k0_pay170, k0_pay171, k0_pay173]
  simp only [low_at, sum_low]
  unfold pairs
  simp only [Fin.sum_univ_eight, ← add_assoc, Nat.reduceAdd, pos_zero]
  rfl

set_option maxHeartbeats 4000000 in
/-- What the block's stores into matrix 3 of the weights' gradient leave there. -/
theorem chain3 (X : FVec Ideal S1024x256 .f32) (Y : FVec Ideal S1024x256 .bf16) (v : FVec Ideal S1x128x128 .f32) (a b : Fin 128) :
    k0_pay174 (F := Ideal) (k0_pay65 (k0_pay12 k0_pay9 k0_pay10 k0_pay11)) (k0_pay169 (k0_pay64 X)) (k0_pay170 Y) k0_pay171 (k0_pay159 Y (k0_pay64 X) (k0_pay65 (k0_pay12 k0_pay9 k0_pay10 k0_pay11)) (k0_pay145 (k0_pay65 (k0_pay12 k0_pay9 k0_pay10 k0_pay11)) (k0_pay140 (k0_pay64 X)) (k0_pay141 Y) k0_pay142 (k0_pay132 (k0_pay131 Y (k0_pay64 X) (k0_pay65 (k0_pay12 k0_pay9 k0_pay10 k0_pay11)) (k0_pay116 Y (k0_pay64 X) (k0_pay65 (k0_pay12 k0_pay9 k0_pay10 k0_pay11)) (k0_pay104 (k0_pay65 (k0_pay12 k0_pay9 k0_pay10 k0_pay11)) (k0_pay98 (k0_pay64 X)) (k0_pay99 Y) k0_pay100 (k0_pay90 Y (k0_pay64 X) (k0_pay65 (k0_pay12 k0_pay9 k0_pay10 k0_pay11)) (k0_pay78 (k0_pay65 (k0_pay12 k0_pay9 k0_pay10 k0_pay11)) (k0_pay72 X) (k0_pay73 Y) k0_pay74 v)))))))) (ix3 0 a b)
      = v (ix3 0 a b) + pairs (fun i j => X (ix2 i j)) (fun i j => Y (ix2 i j)) 3 a b := by
  pointwise [k0_pay64, k0_pay72, k0_pay73, k0_pay74, k0_pay78, k0_pay86, k0_pay87, k0_pay88, k0_pay90, k0_pay98, k0_pay99, k0_pay100, k0_pay104, k0_pay112, k0_pay113, k0_pay114, k0_pay116, k0_pay126, k0_pay127, k0_pay128, k0_pay131, k0_pay132, k0_pay140, k0_pay141, k0_pay142, k0_pay145, k0_pay155, k0_pay156, k0_pay157, k0_pay159, k0_pay169, k0_pay170, k0_pay171, k0_pay174]
  simp only [low_at, sum_high]
  unfold pairs
  simp only [Fin.sum_univ_eight, ← add_assoc, Nat.reduceAdd, pos_zero]
  rfl

/-- The block's `D` array: the given gradient times the gate. -/
def bD (x0 x2 : FVec Ideal S1024x256 .f32) : FVec Ideal S1024x256 .f32 := k0_pay61 x2 (k0_pay22 x0 (k0_pay20 x0))
/-- The block's rows normalised, before and after the norm's scale and shift. -/
def bH (x1 : FVec Ideal S1024x256 .f32) : FVec Ideal S1024x256 .f32 :=
  k0_pay35 (k0_pay28 (k0_pay24 x1) (k0_pay25 (k0_pay12 k0_pay9 k0_pay10 k0_pay11) x1) (k0_pay26 x1) (k0_pay27 (k0_pay12 k0_pay9 k0_pay10 k0_pay11)) 2#32)
    (k0_pay30 (k0_pay12 k0_pay9 k0_pay10 k0_pay11) (k0_pay24 x1) (k0_pay25 (k0_pay12 k0_pay9 k0_pay10 k0_pay11) x1) (k0_pay26 x1) (k0_pay27 (k0_pay12 k0_pay9 k0_pay10 k0_pay11)) 2#32)
    (k0_pay31 (k0_pay24 x1) (k0_pay25 (k0_pay12 k0_pay9 k0_pay10 k0_pay11) x1) (k0_pay26 x1) (k0_pay27 (k0_pay12 k0_pay9 k0_pay10 k0_pay11)) 2#32) (k0_pay32 (k0_pay12 k0_pay9 k0_pay10 k0_pay11))
    (k0_pay33 (k0_pay12 k0_pay9 k0_pay10 k0_pay11) (k0_pay24 x1) (k0_pay25 (k0_pay12 k0_pay9 k0_pay10 k0_pay11) x1) (k0_pay26 x1) (k0_pay27 (k0_pay12 k0_pay9 k0_pay10 k0_pay11)) 2#32)
def bZ (x1 : FVec Ideal S1024x256 .f32) (x3 x4 : FVec Ideal S1x256 .f32) : FVec Ideal S1024x256 .bf16 :=
  k0_pay36 (k0_pay18 x3) (k0_pay19 x4) (k0_pay28 (k0_pay24 x1) (k0_pay25 (k0_pay12 k0_pay9 k0_pay10 k0_pay11) x1) (k0_pay26 x1) (k0_pay27 (k0_pay12 k0_pay9 k0_pay10 k0_pay11)) 2#32)
    (k0_pay30 (k0_pay12 k0_pay9 k0_pay10 k0_pay11) (k0_pay24 x1) (k0_pay25 (k0_pay12 k0_pay9 k0_pay10 k0_pay11) x1) (k0_pay26 x1) (k0_pay27 (k0_pay12 k0_pay9 k0_pay10 k0_pay11)) 2#32)
    (k0_pay31 (k0_pay24 x1) (k0_pay25 (k0_pay12 k0_pay9 k0_pay10 k0_pay11) x1) (k0_pay26 x1) (k0_pay27 (k0_pay12 k0_pay9 k0_pay10 k0_pay11)) 2#32) (k0_pay32 (k0_pay12 k0_pay9 k0_pay10 k0_pay11))
    (k0_pay33 (k0_pay12 k0_pay9 k0_pay10 k0_pay11) (k0_pay24 x1) (k0_pay25 (k0_pay12 k0_pay9 k0_pay10 k0_pay11) x1) (k0_pay26 x1) (k0_pay27 (k0_pay12 k0_pay9 k0_pay10 k0_pay11)) 2#32)
/-- The gradient of the block's normalised rows, from the four groups' weights. -/
def bN (w0 w1 w2 w3 : FVec Ideal S128x128 .bf16) (D : FVec Ideal S1024x256 .f32) : FVec Ideal S1024x256 .f32 :=
  k0_pay175 (F := Ideal) (k0_pay79 (k0_pay65 (k0_pay12 k0_pay9 k0_pay10 k0_pay11)) (k0_pay69 (k0_pay12 k0_pay9 k0_pay10 k0_pay11) w0 w1 D) (k0_pay75 w2 D) (k0_pay76 w3 D)) (k0_pay91 w2 w3 (k0_pay64 D) (k0_pay65 (k0_pay12 k0_pay9 k0_pay10 k0_pay11)) (k0_pay83 w0 w1 (k0_pay64 D) (k0_pay65 (k0_pay12 k0_pay9 k0_pay10 k0_pay11)))) (k0_pay105 (k0_pay95 w0 w1 (k0_pay65 (k0_pay12 k0_pay9 k0_pay10 k0_pay11)) (k0_pay92 (k0_pay64 D))) (k0_pay101 w2 w3 (k0_pay64 D) (k0_pay65 (k0_pay12 k0_pay9 k0_pay10 k0_pay11)))) (k0_pay117 w2 w3 (k0_pay64 D) (k0_pay65 (k0_pay12 k0_pay9 k0_pay10 k0_pay11)) (k0_pay109 w0 w1 (k0_pay64 D) (k0_pay65 (k0_pay12 k0_pay9 k0_pay10 k0_pay11)))) (k0_pay133 (k0_pay121 w0 w1 (k0_pay64 D) (k0_pay65 (k0_pay12 k0_pay9 k0_pay10 k0_pay11))) (k0_pay129 w2 w3 (k0_pay64 D) (k0_pay65 (k0_pay12 k0_pay9 k0_pay10 k0_pay11)))) (k0_pay146 (k0_pay137 w0 w1 (k0_pay64 D) (k0_pay65 (k0_pay12 k0_pay9 k0_pay10 k0_pay11))) (k0_pay143 w2 w3 (k0_pay64 D) (k0_pay65 (k0_pay12 k0_pay9 k0_pay10 k0_pay11)))) (k0_pay160 w2 w3 (k0_pay64 D) (k0_pay65 (k0_pay12 k0_pay9 k0_pay10 k0_pay11)) (k0_pay150 w0 w1 (k0_pay64 D) (k0_pay65 (k0_pay12 k0_pay9 k0_pay10 k0_pay11)))) (k0_pay166 (k0_pay65 (k0_pay12 k0_pay9 k0_pay10 k0_pay11)) (k0_pay164 w0 (k0_pay64 D)) (k0_pay165 w1 (k0_pay64 D))) (k0_pay172 w2 w3 (k0_pay64 D) (k0_pay65 (k0_pay12 k0_pay9 k0_pay10 k0_pay11)))

theorem d_at (x0 x2 : FVec Ideal S1024x256 .f32) (a : Fin 1024) (j : Fin 256) : bD x0 x2 (ix2 a j) = x2 (ix2 a j) * gelu (x0 (ix2 a j)) := by
  unfold bD
  pointwise [k0_pay61, k0_pay22, k0_pay21, k0_pay20]
  rfl

theorem gelu_at (x : FVec Ideal S1024x256 .f32) (a : Fin 1024) (j : Fin 256) : k0_pay24 (F := Ideal) x (ix2 a j) = gelu (x (ix2 a j)) := by
  pointwise [k0_pay24, k0_pay23]
  rfl

/-- The rows less their groups' means. -/
theorem cen_at (x1 : FVec Ideal S1024x256 .f32) (a : Fin 1024) (j : Fin 256) :
    k0_pay28 (F := Ideal) (k0_pay24 x1) (k0_pay25 (k0_pay12 k0_pay9 k0_pay10 k0_pay11) x1) (k0_pay26 x1) (k0_pay27 (k0_pay12 k0_pay9 k0_pay10 k0_pay11)) 2#32 (ix2 a j) = cen (fun i => gelu (x1 (ix2 a i))) j := by
  pointwise [k0_pay23, k0_pay25, k0_pay26, k0_pay27, k0_pay28]
  simp only [group_at, gelu_at]
  exact congrArg (gelu (x1 (ix2 a j)) - ·) (mean_at (fun i => gelu (x1 (ix2 a i))) j)

theorem hat_at (x1 : FVec Ideal S1024x256 .f32) (a : Fin 1024) (j : Fin 256) : bH x1 (ix2 a j) = hat (fun i => gelu (x1 (ix2 a i))) j := by
  unfold bH
  pointwise [k0_pay29, k0_pay30, k0_pay31, k0_pay32, k0_pay33, k0_pay34, k0_pay35]
  simp only [group_at, cen_at]
  unfold hat rstd
  rw [mean_at (fun i => cen (fun i => gelu (x1 (ix2 a i))) i * cen (fun i => gelu (x1 (ix2 a i))) i) j]

theorem norm_at (x1 : FVec Ideal S1024x256 .f32) (x3 x4 : FVec Ideal S1x256 .f32) (a : Fin 1024) (j : Fin 256) :
    bZ x1 x3 x4 (ix2 a j) = lnorm (fun i => x3 (ix2 0 i)) (fun i => x4 (ix2 0 i)) (fun i => x1 (ix2 a i)) j := by
  have h := hat_at x1 a j
  unfold bH at h
  unfold bZ lnorm
  pointwise [k0_pay36, k0_pay18, k0_pay19]
  rw [h]

set_option maxHeartbeats 4000000 in
/-- The gradient of the normalised rows: each lane's group takes its own weights, turned over. -/
theorem dn_at (w0 w1 w2 w3 : FVec Ideal S128x128 .bf16) (D : FVec Ideal S1024x256 .f32) (p : Fin 8) (s : Fin 128) (j : Fin 256) (W : Fin 4 → Fin 128 → Fin 128 → EReal)
    (h0 : ∀ t s, w0 (ix2 t s) = W 0 t s) (h1 : ∀ t s, w1 (ix2 t s) = W 1 t s) (h2 : ∀ t s, w2 (ix2 t s) = W 2 t s) (h3 : ∀ t s, w3 (ix2 t s) = W 3 t s) :
    bN w0 w1 w2 w3 D (ix2 (pos p s) j) = ∑ t : Fin 128, W (grp j) t s * D (ix2 (pos p t) j) := by
  have e : ∀ h : 128 + (j.val - 128) < 256, ¬ j.val < 128 → (⟨128 + (j.val - 128), h⟩ : Fin 256) = j := fun h h' => Fin.ext (by show 128 + (j.val - 128) = j.val; omega)
  have g : ∀ n : Fin 4, j.val / 64 = n.val → grp j = n := fun n h => Fin.ext h
  unfold bN k0_pay175
  refine Cert.GateFwdIdeal.Step.stack_at _ _ _ _ _ _ _ _ _ p s j (fun p => ∑ t : Fin 128, W (grp j) t s * D (ix2 (pos p t) j)) ?_ ?_ ?_ ?_ ?_ ?_ ?_ ?_
  all_goals
    pointwise [k0_pay64, k0_pay66, k0_pay69, k0_pay72, k0_pay75, k0_pay76, k0_pay79, k0_pay80, k0_pay83, k0_pay86, k0_pay91, k0_pay92, k0_pay95, k0_pay98, k0_pay101, k0_pay105, k0_pay106, k0_pay109, k0_pay112, k0_pay117, k0_pay118, k0_pay121, k0_pay126, k0_pay129, k0_pay133, k0_pay134, k0_pay137, k0_pay140, k0_pay143, k0_pay146, k0_pay147, k0_pay150, k0_pay155, k0_pay160, k0_pay161, k0_pay164, k0_pay165, k0_pay166, k0_pay169, k0_pay172]
    simp only [low_at, h0, h1, h2, h3, pos_zero]
    by_cases h : j.val < 128
    · simp only [dif_pos h]
      by_cases h' : j.val < 64
      · simp only [if_pos h']
        rw [g 0 (by simp; omega)]
        rfl
      · simp only [if_neg h']
        rw [g 1 (by simp; omega)]
        rfl
    · simp only [dif_neg h, e _ h]
      by_cases h' : j.val - 128 < 64
      · simp only [if_pos h']
        rw [g 2 (by simp; omega)]
        rfl
      · simp only [if_neg h']
        rw [g 3 (by simp; omega)]
        rfl

theorem scale_at (h n : FVec Ideal S1024x256 .f32) (v : FVec Ideal S8x256 .f32) (r : Fin 8) (j : Fin 256) :
    k0_pay184 (F := Ideal) h n v (ix2 r j) = v (ix2 r j) + ∑ a : Fin 1024, n (ix2 a j) * h (ix2 a j) := by
  pointwise [k0_pay184]

theorem shift_at (n : FVec Ideal S1024x256 .f32) (v : FVec Ideal S8x256 .f32) (r : Fin 8) (j : Fin 256) :
    k0_pay185 (F := Ideal) n v (ix2 r j) = v (ix2 r j) + ∑ a : Fin 1024, n (ix2 a j) := by
  pointwise [k0_pay185]

/-- The sums of one group's lanes, of row `a` of each of the block's chunks. -/
def singles (X : Fin 1024 → Fin 256 → EReal) (g : Fin 4) (a : Fin 128) : EReal := ∑ p : Fin 8, ∑ k : Fin 64, X (pos p a) (lane g k)

/-- The masks of the second and the fourth group. -/
theorem second (x : Fin 128) (y : EReal) : Scalar.select (IntOp.cmpi .eq (BitVec.ofNat 32 (x.val / 64)) 1#32) y 0 = Scalar.select (if x.val < 64 then 1#1 else 0#1) 0 y := by
  rw [show ∀ x : Fin 128, IntOp.cmpi .eq (BitVec.ofNat 32 (x.val / 64)) 1#32 = if x.val < 64 then 0#1 else 1#1 by decide +kernel]
  split_ifs <;> rfl

theorem fourth (x : Fin 128) (y : EReal) : Scalar.select (IntOp.cmpi .eq (BitVec.ofNat 32 ((128 + x.val) / 64)) 3#32) y 0 = Scalar.select (if x.val < 64 then 1#1 else 0#1) 0 y := by
  rw [show ∀ x : Fin 128, IntOp.cmpi .eq (BitVec.ofNat 32 ((128 + x.val) / 64)) 3#32 = if x.val < 64 then 0#1 else 1#1 by decide +kernel]
  split_ifs <;> rfl

/-- A value by its lane's number. -/
theorem four_at (f : Fin 4 → EReal) (b : Fin 128) :
    Scalar.select (IntOp.cmpi .eq (BitVec.ofNat 32 b.val) 3#32) (f 3) (Scalar.select (IntOp.cmpi .eq (BitVec.ofNat 32 b.val) 2#32) (f 2)
      (Scalar.select (IntOp.cmpi .eq (BitVec.ofNat 32 b.val) 1#32) (f 1) (Scalar.select (IntOp.cmpi .eq (BitVec.ofNat 32 b.val) 0#32) (f 0) 0))) = four f b := by
  have e : ∀ (b : Fin 128) (n : Fin 4), IntOp.cmpi .eq (BitVec.ofNat 32 b.val) (BitVec.ofNat 32 n.val) = if b.val = n.val then 1#1 else 0#1 := by decide +kernel
  have e0 := e b 0; have e1 := e b 1; have e2 := e b 2; have e3 := e b 3
  rw [show IntOp.cmpi .eq (BitVec.ofNat 32 b.val) 0#32 = _ from e0, show IntOp.cmpi .eq (BitVec.ofNat 32 b.val) 1#32 = _ from e1,
    show IntOp.cmpi .eq (BitVec.ofNat 32 b.val) 2#32 = _ from e2, show IntOp.cmpi .eq (BitVec.ofNat 32 b.val) 3#32 = _ from e3]
  unfold four
  obtain ⟨b, hb⟩ := b
  by_cases h : b < 4
  · simp only [dif_pos h]
    interval_cases b <;> rfl
  · simp only [dif_neg h]
    rw [if_neg (by simp; omega), if_neg (by simp; omega), if_neg (by simp; omega), if_neg (by simp; omega)]
    rfl

set_option maxHeartbeats 4000000 in
/-- What the block adds to the bias's gradient. -/
theorem bias_at (D : FVec Ideal S1024x256 .f32) (v : FVec Ideal S128x128 .f32) (a b : Fin 128) :
    k0_pay183 (F := Ideal) (k0_pay12 k0_pay9 k0_pay10 k0_pay11) (iota Kind.tc S128x128 32 [1] iota_S128x128_d1_w32) D
      (k0_pay180 (iota Kind.tc S128x128 32 [1] iota_S128x128_d1_w32) (k0_pay176 (k0_pay12 k0_pay9 k0_pay10 k0_pay11) (iota Kind.tc S128x128 32 [1] iota_S128x128_d1_w32) D) (k0_pay177 (k0_pay12 k0_pay9 k0_pay10 k0_pay11)) (k0_pay178 D) k0_pay179)
      (k0_pay181 (k0_pay12 k0_pay9 k0_pay10 k0_pay11) D) (k0_pay182 (iota Kind.tc S128x128 32 [1] iota_S128x128_d1_w32)) v (ix2 a b)
      = v (ix2 a b) + four (fun g => singles (fun i j => D (ix2 i j)) g a) b := by
  pointwise [k0_pay176, k0_pay177, k0_pay178, k0_pay179, k0_pay180, k0_pay181, k0_pay182, k0_pay183]
  rw [← four_at]
  unfold singles
  simp only [group_at, low, second, low2, fourth, sum_low, sum_high, Fin.sum_univ_eight, ← add_assoc, Nat.reduceAdd, pos_zero, lane_zero]
  rfl

/-- Matrix `n` of four, loaded. -/
theorem ld_at (x : S4x128x128.Idx → Elt Ideal .f32) (n : ℕ) (inb : ∀ a, (![n, 0, 0] : Fin 3 → ℕ) a + S1x128x128.size a ≤ S4x128x128.size a)
    (g : Fin 4) (hg : g.val = n) (a b : Fin 128) :
    (View.ld (Val := Elt Ideal) (e' := .f32) x (Rect.unit (s := S4x128x128) ![n, 0, 0] S1x128x128.size inb) : S1x128x128.Idx → Elt Ideal .f32) (ix3 0 a b) = x (ix3 g a b) := by
  refine congrArg x (funext fun k => Fin.ext ?_)
  fin_cases k <;> simp [LoadRect.idx, ix3, hg]

theorem w0_at (x : FVec Ideal S4x128x128 .f32) (t s : Fin 128) :
    k0_pay14 (F := Ideal) (View.ld x (Rect.unit (s := S4x128x128) ![0, 0, 0] S1x128x128.size inb_S4x128x128_S1x128x128_0_0_0)) (ix2 t s) = tri (fun t s => x (ix3 0 t s)) t s := by
  rw [← tri_at]
  pointwise [k0_pay13, k0_pay14]

theorem mask0_at (v : FVec Ideal S1x128x128 .f32) (a b : Fin 128) :
    k0_pay1 (F := Ideal) k0_pay13 v (ix3 0 a b) = tri (fun a b => v (ix3 0 a b)) a b := by
  rw [← tri_at]
  pointwise [k0_pay1, k0_pay13]

theorem w1_at (x : FVec Ideal S4x128x128 .f32) (t s : Fin 128) :
    k0_pay15 (F := Ideal) (View.ld x (Rect.unit (s := S4x128x128) ![1, 0, 0] S1x128x128.size inb_S4x128x128_S1x128x128_1_0_0)) (ix2 t s) = tri (fun t s => x (ix3 1 t s)) t s := by
  rw [← tri_at]
  pointwise [k0_pay13, k0_pay15]

theorem mask1_at (v : FVec Ideal S1x128x128 .f32) (a b : Fin 128) :
    k0_pay2 (F := Ideal) k0_pay13 v (ix3 0 a b) = tri (fun a b => v (ix3 0 a b)) a b := by
  rw [← tri_at]
  pointwise [k0_pay2, k0_pay13]

theorem w2_at (x : FVec Ideal S4x128x128 .f32) (t s : Fin 128) :
    k0_pay16 (F := Ideal) (View.ld x (Rect.unit (s := S4x128x128) ![2, 0, 0] S1x128x128.size inb_S4x128x128_S1x128x128_2_0_0)) (ix2 t s) = tri (fun t s => x (ix3 2 t s)) t s := by
  rw [← tri_at]
  pointwise [k0_pay13, k0_pay16]

theorem mask2_at (v : FVec Ideal S1x128x128 .f32) (a b : Fin 128) :
    k0_pay3 (F := Ideal) k0_pay13 v (ix3 0 a b) = tri (fun a b => v (ix3 0 a b)) a b := by
  rw [← tri_at]
  pointwise [k0_pay3, k0_pay13]

theorem w3_at (x : FVec Ideal S4x128x128 .f32) (t s : Fin 128) :
    k0_pay17 (F := Ideal) (View.ld x (Rect.unit (s := S4x128x128) ![3, 0, 0] S1x128x128.size inb_S4x128x128_S1x128x128_3_0_0)) (ix2 t s) = tri (fun t s => x (ix3 3 t s)) t s := by
  rw [← tri_at]
  pointwise [k0_pay13, k0_pay17]

theorem mask3_at (v : FVec Ideal S1x128x128 .f32) (a b : Fin 128) :
    k0_pay4 (F := Ideal) k0_pay13 v (ix3 0 a b) = tri (fun a b => v (ix3 0 a b)) a b := by
  rw [← tri_at]
  pointwise [k0_pay4, k0_pay13]

/-- The arrays of block `t`. -/
def pD (c : Dev nD) (t : Fin cfg0.N) : FVec Ideal S1024x256 .f32 := bD (iblk m c 0 t) (iblk m c 2 t)
def pH (c : Dev nD) (t : Fin cfg0.N) : FVec Ideal S1024x256 .f32 := bH (iblk m c 1 t)
def pZ (c : Dev nD) (t : Fin cfg0.N) : FVec Ideal S1024x256 .bf16 := bZ (iblk m c 1 t) (iblk m c 3 t) (iblk m c 4 t)
def pN (c : Dev nD) (t : Fin cfg0.N) : FVec Ideal S1024x256 .f32 :=
  bN (k0_pay14 (View.ld (iblk m c 5 t) (Rect.unit (s := S4x128x128) ![0, 0, 0] S1x128x128.size inb_S4x128x128_S1x128x128_0_0_0))) (k0_pay15 (View.ld (iblk m c 5 t) (Rect.unit (s := S4x128x128) ![1, 0, 0] S1x128x128.size inb_S4x128x128_S1x128x128_1_0_0)))
    (k0_pay16 (View.ld (iblk m c 5 t) (Rect.unit (s := S4x128x128) ![2, 0, 0] S1x128x128.size inb_S4x128x128_S1x128x128_2_0_0))) (k0_pay17 (View.ld (iblk m c 5 t) (Rect.unit (s := S4x128x128) ![3, 0, 0] S1x128x128.size inb_S4x128x128_S1x128x128_3_0_0))) (pD m c t)

/-- The arguments on a device. -/
def aU (c : Dev nD) (i : Fin 8192) (j : Fin 256) : EReal := (m ((c.tc : Thread nD τ).loc main_arg0) : FVec Ideal S8192x256 .f32) (ix2 i j)
def aZ (c : Dev nD) (i : Fin 8192) (j : Fin 256) : EReal := (m ((c.tc : Thread nD τ).loc main_arg1) : FVec Ideal S8192x256 .f32) (ix2 i j)
def aC (c : Dev nD) (i : Fin 8192) (j : Fin 256) : EReal := (m ((c.tc : Thread nD τ).loc main_arg2) : FVec Ideal S8192x256 .f32) (ix2 i j)
def aG (c : Dev nD) (j : Fin 256) : EReal := (m ((c.tc : Thread nD τ).loc main_arg3) : FVec Ideal S4x64 .f32) (ix2 (grp j) (at64 j))
def aB (c : Dev nD) (j : Fin 256) : EReal := (m ((c.tc : Thread nD τ).loc main_arg4) : FVec Ideal S4x64 .f32) (ix2 (grp j) (at64 j))
def aW (c : Dev nD) (g : Fin 4) (t s : Fin 128) : EReal := (m ((c.tc : Thread nD τ).loc main_arg5) : FVec Ideal S4x128x128 .f32) (ix3 g t s)

/-- Where each point's blocks lie. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, 0, 0] ∧ t.val < 8 :=
  (by decide +kernel : ∀ t : Fin grid0.N, _)

/-- Row `a` of block `t`. -/
def row (t : Fin cfg0.N) (a : Fin 1024) : Fin 8192 := ⟨t.val * 1024 + a.val, by have := (idx t).2.2.2.2.2.2; omega⟩

theorem b0 (c : Dev nD) (t : Fin cfg0.N) (a : Fin 1024) (k : Fin 256) : (iblk m c 0 t : FVec Ideal S1024x256 .f32) (ix2 a k) = aU m c (row t a) k := by
  unfold aU
  blk_ext! [iblk, V, idx t, row]

theorem b1 (c : Dev nD) (t : Fin cfg0.N) (a : Fin 1024) (k : Fin 256) : (iblk m c 1 t : FVec Ideal S1024x256 .f32) (ix2 a k) = aZ m c (row t a) k := by
  unfold aZ
  blk_ext! [iblk, V, idx t, row]

theorem b2 (c : Dev nD) (t : Fin cfg0.N) (a : Fin 1024) (k : Fin 256) : (iblk m c 2 t : FVec Ideal S1024x256 .f32) (ix2 a k) = aC m c (row t a) k := by
  unfold aC
  blk_ext! [iblk, V, idx t, row]

theorem b3 (c : Dev nD) (t : Fin cfg0.N) (k : Fin 256) : (iblk m c 3 t : FVec Ideal S1x256 .f32) (ix2 0 k) = aG m c k := by
  unfold aG
  blk_ext! [iblk, V, idx t, row, grp, at64]

theorem b4 (c : Dev nD) (t : Fin cfg0.N) (k : Fin 256) : (iblk m c 4 t : FVec Ideal S1x256 .f32) (ix2 0 k) = aB m c k := by
  unfold aB
  blk_ext! [iblk, V, idx t, row, grp, at64]

theorem b5 (c : Dev nD) (t : Fin cfg0.N) (g : Fin 4) (a k : Fin 128) : (iblk m c 5 t : FVec Ideal S4x128x128 .f32) (ix3 g a k) = aW m c g a k := by
  unfold aW
  blk_ext! [iblk, V, idx t, row]

/-- The gradient at the mix, and the normalised rows, of all rows. -/
def aD (c : Dev nD) : Fin 8192 → Fin 256 → EReal := dmix (aU m c) (aC m c)
def aN (c : Dev nD) (i : Fin 8192) : Fin 256 → EReal := lnorm (aG m c) (aB m c) (aZ m c i)

theorem pD_at (c : Dev nD) (t : Fin cfg0.N) (a : Fin 1024) (j : Fin 256) : pD m c t (ix2 a j) = aD m c (row t a) j := by
  unfold pD aD dmix
  rw [d_at, b0, b2]

theorem pH_at (c : Dev nD) (t : Fin cfg0.N) (a : Fin 1024) (j : Fin 256) : pH m c t (ix2 a j) = hat (fun l => gelu (aZ m c (row t a) l)) j := by
  unfold pH
  rw [hat_at]
  simp only [b1]

theorem pZ_at (c : Dev nD) (t : Fin cfg0.N) (a : Fin 1024) (j : Fin 256) : pZ m c t (ix2 a j) = aN m c (row t a) j := by
  unfold pZ aN
  rw [norm_at]
  simp only [b1, b3, b4]

theorem pN_at (c : Dev nD) (t : Fin cfg0.N) (a : Fin 1024) (j : Fin 256) : pN m c t (ix2 a j) = dnorm (aW m c) (aD m c) (row t a) j := by
  obtain ⟨p, q, rfl⟩ : ∃ (p : Fin 8) (q : Fin 128), a = pos p q := ⟨⟨a.val / 128, by omega⟩, ⟨a.val % 128, by omega⟩, Fin.ext (by simp [pos]; omega)⟩
  unfold pN
  refine (dn_at _ _ _ _ _ p q j (fun g => tri (aW m c g)) (fun t' s => ?_) (fun t' s => ?_) (fun t' s => ?_) (fun t' s => ?_)).trans ?_
  · rw [w0_at]; simp only [b5]
  · rw [w1_at]; simp only [b5]
  · rw [w2_at]; simp only [b5]
  · rw [w3_at]; simp only [b5]
  · unfold dnorm
    have hp : place (row t (pos p q)) = q := Fin.ext (by simp [row, place, pos]; omega)
    have hc : ∀ s, chunk (row t (pos p q)) s = row t (pos p s) := fun s => Fin.ext (by simp [row, chunk, pos]; omega)
    simp only [hp, hc, pD_at]

/-- Matrix `n` of the array, read at an index, is a load of that matrix. -/
theorem at_group (L : List (View.Piece (Elt Ideal) S4x128x128 .f32)) (n : ℕ) (inb : ∀ a, (![n, 0, 0] : Fin 3 → ℕ) a + S1x128x128.size a ≤ S4x128x128.size a)
    (g : Fin 4) (hg : g.val = n) (a b : Fin 128) :
    View.read (Elt Ideal) VO0_9 (VO0_9.writes (Elt Ideal) VO0_9.junk L) (ix3 g a b)
      = (show S1x128x128.Idx → Ideal .f32 from VO0_9.readCov L (Rect.unit (s := S4x128x128) ![n, 0, 0] S1x128x128.size inb).toLoadRect) (ix3 0 a b) := by
  rw [View.read_writes_junk_eq_canon, View.readCov_eq_canon']
  refine congrArg (View.canon L) (funext fun k => Fin.ext ?_)
  fin_cases k <;> simp [LoadRect.idx, ix3, hg]

/-! What a point leaves in the four sums: the first point starts them at zero, the others add to what the point before left, the last masks the weights'. -/

theorem scale_first (c : Dev nD) (t : Fin cfg0.N) (h0 : t.val % 8 = 0) (r : Fin 8) (j : Fin 256) :
    (outsAt0 m c t.val t.isLt).1 (ix2 r j) = 0 + ∑ a : Fin 1024, pN m c t (ix2 a j) * pH m c t (ix2 a j) := by
  have h8 := (idx t).2.2.2.2.2.2
  rw [outsAt0_A m c t h0 (by omega) (by omega)]
  frame_out
  refine (scale_at (pH m c t) (pN m c t) _ r j).trans (congrArg (· + _) ?_)
  pointwise [k0_pay5]

theorem scale_next (c : Dev nD) (t : Fin cfg0.N) (h0 : ¬t.val % 8 = 0) (r : Fin 8) (j : Fin 256) :
    (outsAt0 m c t.val t.isLt).1 (ix2 r j) = (outsAt0 m c (t.val - 1) (Nat.lt_of_le_of_lt (Nat.sub_le _ _) t.isLt)).1 (ix2 r j) + ∑ a : Fin 1024, pN m c t (ix2 a j) * pH m c t (ix2 a j) := by
  have h8 := (idx t).2.2.2.2.2.2
  by_cases h1 : 2 ≤ t.val
  · by_cases h2 : t.val % 8 = 7
    · rw [outsAt0_D m c t h0 h1 h2]
      frame_out
      exact scale_at (pH m c t) (pN m c t) _ r j
    · rw [outsAt0_C m c t h0 h1 h2]
      frame_out
      exact scale_at (pH m c t) (pN m c t) _ r j
  · rw [outsAt0_B m c t h0 h1 (by omega)]
    frame_out
    exact scale_at (pH m c t) (pN m c t) _ r j

theorem shift_first (c : Dev nD) (t : Fin cfg0.N) (h0 : t.val % 8 = 0) (r : Fin 8) (j : Fin 256) :
    (outsAt0 m c t.val t.isLt).2.1 (ix2 r j) = 0 + ∑ a : Fin 1024, pN m c t (ix2 a j) := by
  have h8 := (idx t).2.2.2.2.2.2
  rw [outsAt0_A m c t h0 (by omega) (by omega)]
  frame_out
  refine (shift_at (pN m c t) _ r j).trans (congrArg (· + _) ?_)
  pointwise [k0_pay6]

theorem shift_next (c : Dev nD) (t : Fin cfg0.N) (h0 : ¬t.val % 8 = 0) (r : Fin 8) (j : Fin 256) :
    (outsAt0 m c t.val t.isLt).2.1 (ix2 r j) = (outsAt0 m c (t.val - 1) (Nat.lt_of_le_of_lt (Nat.sub_le _ _) t.isLt)).2.1 (ix2 r j) + ∑ a : Fin 1024, pN m c t (ix2 a j) := by
  have h8 := (idx t).2.2.2.2.2.2
  by_cases h1 : 2 ≤ t.val
  · by_cases h2 : t.val % 8 = 7
    · rw [outsAt0_D m c t h0 h1 h2]
      frame_out
      exact shift_at (pN m c t) _ r j
    · rw [outsAt0_C m c t h0 h1 h2]
      frame_out
      exact shift_at (pN m c t) _ r j
  · rw [outsAt0_B m c t h0 h1 (by omega)]
    frame_out
    exact shift_at (pN m c t) _ r j

theorem bias_first (c : Dev nD) (t : Fin cfg0.N) (h0 : t.val % 8 = 0) (a b : Fin 128) :
    (outsAt0 m c t.val t.isLt).2.2.2 (ix2 a b) = 0 + four (fun g => singles (fun i j => pD m c t (ix2 i j)) g a) b := by
  have h8 := (idx t).2.2.2.2.2.2
  rw [outsAt0_A m c t h0 (by omega) (by omega)]
  frame_out
  refine (bias_at (pD m c t) _ a b).trans (congrArg (· + _) ?_)
  pointwise [k0_pay8]

theorem bias_next (c : Dev nD) (t : Fin cfg0.N) (h0 : ¬t.val % 8 = 0) (a b : Fin 128) :
    (outsAt0 m c t.val t.isLt).2.2.2 (ix2 a b) = (outsAt0 m c (t.val - 1) (Nat.lt_of_le_of_lt (Nat.sub_le _ _) t.isLt)).2.2.2 (ix2 a b) + four (fun g => singles (fun i j => pD m c t (ix2 i j)) g a) b := by
  have h8 := (idx t).2.2.2.2.2.2
  by_cases h1 : 2 ≤ t.val
  · by_cases h2 : t.val % 8 = 7
    · rw [outsAt0_D m c t h0 h1 h2]
      frame_out
      exact bias_at (pD m c t) _ a b
    · rw [outsAt0_C m c t h0 h1 h2]
      frame_out
      exact bias_at (pD m c t) _ a b
  · rw [outsAt0_B m c t h0 h1 (by omega)]
    frame_out
    exact bias_at (pD m c t) _ a b

set_option maxHeartbeats 8000000 in
theorem weight_A (c : Dev nD) (t : Fin cfg0.N) (h0 : t.val % 8 = 0) (h1 : ¬2 ≤ t.val) (h2 : ¬t.val % 8 = 7) (g : Fin 4) (a b : Fin 128) :
    (outsAt0 m c t.val t.isLt).2.2.1 (ix3 g a b) = 0 + pairs (fun i j => pD m c t (ix2 i j)) (fun i j => pZ m c t (ix2 i j)) g a b := by
  rw [outsAt0_A m c t h0 h1 h2]
  match g with
  | 0 =>
    have e := fun L => at_group L 0 inb_S4x128x128_S1x128x128_0_0_0 0 rfl a b
    dsimp only
    unfold out0_A_9
    rw [e]
    frame_open
    simp (disch := decide) only [↓View.readCov_skip, ↓View.readCov_cons_toLoadRect, ↓View.readCov_fill, View.readAt_eq_ld, View.ld_unit_lit', Memref.IsWhole.read_unread]
    refine (chain0 (pD m c t) (pZ m c t) _ a b).trans (congrArg (· + _) ?_)
    refine (ld_at _ 0 inb_S4x128x128_S1x128x128_0_0_0 0 rfl a b).trans ?_
    pointwise [k0_pay7]
  | 1 =>
    have e := fun L => at_group L 1 inb_S4x128x128_S1x128x128_1_0_0 1 rfl a b
    dsimp only
    unfold out0_A_9
    rw [e]
    frame_open
    simp (disch := decide) only [↓View.readCov_skip, ↓View.readCov_cons_toLoadRect, ↓View.readCov_fill, View.readAt_eq_ld, View.ld_unit_lit', Memref.IsWhole.read_unread]
    refine (chain1 (pD m c t) (pZ m c t) _ a b).trans (congrArg (· + _) ?_)
    refine (ld_at _ 1 inb_S4x128x128_S1x128x128_1_0_0 1 rfl a b).trans ?_
    pointwise [k0_pay7]
  | 2 =>
    have e := fun L => at_group L 2 inb_S4x128x128_S1x128x128_2_0_0 2 rfl a b
    dsimp only
    unfold out0_A_9
    rw [e]
    frame_open
    simp (disch := decide) only [↓View.readCov_skip, ↓View.readCov_cons_toLoadRect, ↓View.readCov_fill, View.readAt_eq_ld, View.ld_unit_lit', Memref.IsWhole.read_unread]
    refine (chain2 (pD m c t) (pZ m c t) _ a b).trans (congrArg (· + _) ?_)
    refine (ld_at _ 2 inb_S4x128x128_S1x128x128_2_0_0 2 rfl a b).trans ?_
    pointwise [k0_pay7]
  | 3 =>
    have e := fun L => at_group L 3 inb_S4x128x128_S1x128x128_3_0_0 3 rfl a b
    dsimp only
    unfold out0_A_9
    rw [e]
    frame_open
    simp (disch := decide) only [↓View.readCov_skip, ↓View.readCov_cons_toLoadRect, ↓View.readCov_fill, View.readAt_eq_ld, View.ld_unit_lit', Memref.IsWhole.read_unread]
    refine (chain3 (pD m c t) (pZ m c t) _ a b).trans (congrArg (· + _) ?_)
    refine (ld_at _ 3 inb_S4x128x128_S1x128x128_3_0_0 3 rfl a b).trans ?_
    pointwise [k0_pay7]

set_option maxHeartbeats 8000000 in
theorem weight_B (c : Dev nD) (t : Fin cfg0.N) (h0 : ¬t.val % 8 = 0) (h1 : ¬2 ≤ t.val) (h2 : ¬t.val % 8 = 7) (g : Fin 4) (a b : Fin 128) :
    (outsAt0 m c t.val t.isLt).2.2.1 (ix3 g a b) = (outsAt0 m c (t.val - 1) (Nat.lt_of_le_of_lt (Nat.sub_le _ _) t.isLt)).2.2.1 (ix3 g a b) + pairs (fun i j => pD m c t (ix2 i j)) (fun i j => pZ m c t (ix2 i j)) g a b := by
  rw [outsAt0_B m c t h0 h1 h2]
  match g with
  | 0 =>
    have e := fun L => at_group L 0 inb_S4x128x128_S1x128x128_0_0_0 0 rfl a b
    dsimp only
    unfold out0_B_9
    rw [e]
    frame_open
    simp (disch := decide) only [↓View.readCov_skip, ↓View.readCov_cons_toLoadRect, ↓View.readCov_fill, View.readAt_eq_ld, View.ld_unit_lit', Memref.IsWhole.read_unread]
    exact (chain0 (pD m c t) (pZ m c t) _ a b).trans (congrArg (· + _) (ld_at _ 0 inb_S4x128x128_S1x128x128_0_0_0 0 rfl a b))
  | 1 =>
    have e := fun L => at_group L 1 inb_S4x128x128_S1x128x128_1_0_0 1 rfl a b
    dsimp only
    unfold out0_B_9
    rw [e]
    frame_open
    simp (disch := decide) only [↓View.readCov_skip, ↓View.readCov_cons_toLoadRect, ↓View.readCov_fill, View.readAt_eq_ld, View.ld_unit_lit', Memref.IsWhole.read_unread]
    exact (chain1 (pD m c t) (pZ m c t) _ a b).trans (congrArg (· + _) (ld_at _ 1 inb_S4x128x128_S1x128x128_1_0_0 1 rfl a b))
  | 2 =>
    have e := fun L => at_group L 2 inb_S4x128x128_S1x128x128_2_0_0 2 rfl a b
    dsimp only
    unfold out0_B_9
    rw [e]
    frame_open
    simp (disch := decide) only [↓View.readCov_skip, ↓View.readCov_cons_toLoadRect, ↓View.readCov_fill, View.readAt_eq_ld, View.ld_unit_lit', Memref.IsWhole.read_unread]
    exact (chain2 (pD m c t) (pZ m c t) _ a b).trans (congrArg (· + _) (ld_at _ 2 inb_S4x128x128_S1x128x128_2_0_0 2 rfl a b))
  | 3 =>
    have e := fun L => at_group L 3 inb_S4x128x128_S1x128x128_3_0_0 3 rfl a b
    dsimp only
    unfold out0_B_9
    rw [e]
    frame_open
    simp (disch := decide) only [↓View.readCov_skip, ↓View.readCov_cons_toLoadRect, ↓View.readCov_fill, View.readAt_eq_ld, View.ld_unit_lit', Memref.IsWhole.read_unread]
    exact (chain3 (pD m c t) (pZ m c t) _ a b).trans (congrArg (· + _) (ld_at _ 3 inb_S4x128x128_S1x128x128_3_0_0 3 rfl a b))

set_option maxHeartbeats 8000000 in
theorem weight_C (c : Dev nD) (t : Fin cfg0.N) (h0 : ¬t.val % 8 = 0) (h1 : 2 ≤ t.val) (h2 : ¬t.val % 8 = 7) (g : Fin 4) (a b : Fin 128) :
    (outsAt0 m c t.val t.isLt).2.2.1 (ix3 g a b) = (outsAt0 m c (t.val - 1) (Nat.lt_of_le_of_lt (Nat.sub_le _ _) t.isLt)).2.2.1 (ix3 g a b) + pairs (fun i j => pD m c t (ix2 i j)) (fun i j => pZ m c t (ix2 i j)) g a b := by
  rw [outsAt0_C m c t h0 h1 h2]
  match g with
  | 0 =>
    have e := fun L => at_group L 0 inb_S4x128x128_S1x128x128_0_0_0 0 rfl a b
    dsimp only
    unfold out0_C_9
    rw [e]
    frame_open
    simp (disch := decide) only [↓View.readCov_skip, ↓View.readCov_cons_toLoadRect, ↓View.readCov_fill, View.readAt_eq_ld, View.ld_unit_lit', Memref.IsWhole.read_unread]
    exact (chain0 (pD m c t) (pZ m c t) _ a b).trans (congrArg (· + _) (ld_at _ 0 inb_S4x128x128_S1x128x128_0_0_0 0 rfl a b))
  | 1 =>
    have e := fun L => at_group L 1 inb_S4x128x128_S1x128x128_1_0_0 1 rfl a b
    dsimp only
    unfold out0_C_9
    rw [e]
    frame_open
    simp (disch := decide) only [↓View.readCov_skip, ↓View.readCov_cons_toLoadRect, ↓View.readCov_fill, View.readAt_eq_ld, View.ld_unit_lit', Memref.IsWhole.read_unread]
    exact (chain1 (pD m c t) (pZ m c t) _ a b).trans (congrArg (· + _) (ld_at _ 1 inb_S4x128x128_S1x128x128_1_0_0 1 rfl a b))
  | 2 =>
    have e := fun L => at_group L 2 inb_S4x128x128_S1x128x128_2_0_0 2 rfl a b
    dsimp only
    unfold out0_C_9
    rw [e]
    frame_open
    simp (disch := decide) only [↓View.readCov_skip, ↓View.readCov_cons_toLoadRect, ↓View.readCov_fill, View.readAt_eq_ld, View.ld_unit_lit', Memref.IsWhole.read_unread]
    exact (chain2 (pD m c t) (pZ m c t) _ a b).trans (congrArg (· + _) (ld_at _ 2 inb_S4x128x128_S1x128x128_2_0_0 2 rfl a b))
  | 3 =>
    have e := fun L => at_group L 3 inb_S4x128x128_S1x128x128_3_0_0 3 rfl a b
    dsimp only
    unfold out0_C_9
    rw [e]
    frame_open
    simp (disch := decide) only [↓View.readCov_skip, ↓View.readCov_cons_toLoadRect, ↓View.readCov_fill, View.readAt_eq_ld, View.ld_unit_lit', Memref.IsWhole.read_unread]
    exact (chain3 (pD m c t) (pZ m c t) _ a b).trans (congrArg (· + _) (ld_at _ 3 inb_S4x128x128_S1x128x128_3_0_0 3 rfl a b))

set_option maxHeartbeats 8000000 in
theorem weight_D (c : Dev nD) (t : Fin cfg0.N) (h0 : ¬t.val % 8 = 0) (h1 : 2 ≤ t.val) (h2 : t.val % 8 = 7) (g : Fin 4) (a b : Fin 128) :
    (outsAt0 m c t.val t.isLt).2.2.1 (ix3 g a b) = tri (fun a b => (outsAt0 m c (t.val - 1) (Nat.lt_of_le_of_lt (Nat.sub_le _ _) t.isLt)).2.2.1 (ix3 g a b) + pairs (fun i j => pD m c t (ix2 i j)) (fun i j => pZ m c t (ix2 i j)) g a b) a b := by
  rw [outsAt0_D m c t h0 h1 h2]
  match g with
  | 0 =>
    have e := fun L => at_group L 0 inb_S4x128x128_S1x128x128_0_0_0 0 rfl a b
    dsimp only
    unfold out0_D_9
    rw [e]
    frame_open
    simp (disch := decide) only [↓View.readCov_skip, ↓View.readCov_cons_toLoadRect, ↓View.readCov_fill, View.readAt_eq_ld, View.ld_unit_lit', Memref.IsWhole.read_unread]
    refine (mask0_at _ a b).trans (congrArg (fun f => tri f a b) (funext fun a => funext fun b => ?_))
    exact (chain0 (pD m c t) (pZ m c t) _ a b).trans (congrArg (· + _) (ld_at _ 0 inb_S4x128x128_S1x128x128_0_0_0 0 rfl a b))
  | 1 =>
    have e := fun L => at_group L 1 inb_S4x128x128_S1x128x128_1_0_0 1 rfl a b
    dsimp only
    unfold out0_D_9
    rw [e]
    frame_open
    simp (disch := decide) only [↓View.readCov_skip, ↓View.readCov_cons_toLoadRect, ↓View.readCov_fill, View.readAt_eq_ld, View.ld_unit_lit', Memref.IsWhole.read_unread]
    refine (mask1_at _ a b).trans (congrArg (fun f => tri f a b) (funext fun a => funext fun b => ?_))
    exact (chain1 (pD m c t) (pZ m c t) _ a b).trans (congrArg (· + _) (ld_at _ 1 inb_S4x128x128_S1x128x128_1_0_0 1 rfl a b))
  | 2 =>
    have e := fun L => at_group L 2 inb_S4x128x128_S1x128x128_2_0_0 2 rfl a b
    dsimp only
    unfold out0_D_9
    rw [e]
    frame_open
    simp (disch := decide) only [↓View.readCov_skip, ↓View.readCov_cons_toLoadRect, ↓View.readCov_fill, View.readAt_eq_ld, View.ld_unit_lit', Memref.IsWhole.read_unread]
    refine (mask2_at _ a b).trans (congrArg (fun f => tri f a b) (funext fun a => funext fun b => ?_))
    exact (chain2 (pD m c t) (pZ m c t) _ a b).trans (congrArg (· + _) (ld_at _ 2 inb_S4x128x128_S1x128x128_2_0_0 2 rfl a b))
  | 3 =>
    have e := fun L => at_group L 3 inb_S4x128x128_S1x128x128_3_0_0 3 rfl a b
    dsimp only
    unfold out0_D_9
    rw [e]
    frame_open
    simp (disch := decide) only [↓View.readCov_skip, ↓View.readCov_cons_toLoadRect, ↓View.readCov_fill, View.readAt_eq_ld, View.ld_unit_lit', Memref.IsWhole.read_unread]
    refine (mask3_at _ a b).trans (congrArg (fun f => tri f a b) (funext fun a => funext fun b => ?_))
    exact (chain3 (pD m c t) (pZ m c t) _ a b).trans (congrArg (· + _) (ld_at _ 3 inb_S4x128x128_S1x128x128_3_0_0 3 rfl a b))

/-- A sum over the grid's points, added up one by one. -/
theorem upto {f : (n : ℕ) → n < cfg0.N → EReal} {g : Fin cfg0.N → EReal} (k : ℕ) (h0 : ∀ t : Fin cfg0.N, t.val % 8 = 0 → f t.val t.isLt = 0 + g t)
    (hs : ∀ t : Fin cfg0.N, ¬t.val % 8 = 0 → t.val ≤ k → f t.val t.isLt = f (t.val - 1) (Nat.lt_of_le_of_lt (Nat.sub_le _ _) t.isLt) + g t) :
    ∀ (n : ℕ) (h : n < cfg0.N), n ≤ k → f n h = ∑ s : Fin (n + 1), g ⟨s.val, by omega⟩ := by
  intro n
  induction n with
  | zero =>
    intro h _
    rw [h0 ⟨0, h⟩ rfl, zero_add, Fin.sum_univ_one]
    rfl
  | succ n ih =>
    intro h hk
    have h8 := (idx ⟨n + 1, h⟩).2.2.2.2.2.2
    refine (hs ⟨n + 1, h⟩ (by show ¬(n + 1) % 8 = 0; simp only at h8; omega) hk).trans ?_
    rw [Fin.sum_univ_castSucc (n := n + 1)]
    exact congrArg₂ (· + ·) (ih (by omega) (by omega)) rfl

/-- The chunks of eight blocks are the array's. -/
theorem chunks (F : Fin 64 → EReal) (G : (t : Fin cfg0.N) → Fin 8 → EReal)
    (h : ∀ (t : Fin cfg0.N) (p : Fin 8) (q : Fin 64), q.val = t.val * 8 + p.val → G t p = F q) :
    ∑ s : Fin 8, ∑ p : Fin 8, G ⟨s.val, by have := s.isLt; have := N_0; show _ < grid0.N; omega⟩ p = ∑ q : Fin 64, F q := by
  rw [← Fin.sum_mul_add_fin 8 8 F]
  exact Finset.sum_congr rfl fun s _ => Finset.sum_congr rfl fun p _ => h _ p _ rfl

theorem final7 (c : Dev nD) : (dats m 0 c).arrAt 7 (cfgs 0).N = (fun j => dscale (aW m c) (aD m c) (aZ m c) (j 1) : FVec Ideal S8x256 .f32) := by
  refine (dats m 0 c).arrAt_eq_of_after_last 7 t0_7 (by decide +kernel) _ fun j => ?_
  blk_simp
  rw [after0_7]
  idx_vars j
  refine (upto (f := fun n h => (outsAt0 m c n h).1 (ix2 j0 j1)) 7 (fun t h => scale_first m c t h j0 j1) (fun t h _ => scale_next m c t h j0 j1) 7 _ le_rfl).trans ?_
  simp only [pN_at, pH_at]
  unfold dscale
  rw [← Fin.sum_mul_add_fin 8 1024 (fun i : Fin 8192 => dnorm (aW m c) (aD m c) i j1 * hat (fun l => gelu (aZ m c i l)) j1)]
  rfl

theorem final8 (c : Dev nD) : (dats m 0 c).arrAt 8 (cfgs 0).N = (fun j => dshift (aW m c) (aD m c) (j 1) : FVec Ideal S8x256 .f32) := by
  refine (dats m 0 c).arrAt_eq_of_after_last 8 t0_7 (by decide +kernel) _ fun j => ?_
  blk_simp
  rw [after0_8]
  idx_vars j
  refine (upto (f := fun n h => (outsAt0 m c n h).2.1 (ix2 j0 j1)) 7 (fun t h => shift_first m c t h j0 j1) (fun t h _ => shift_next m c t h j0 j1) 7 _ le_rfl).trans ?_
  simp only [pN_at]
  unfold dshift
  rw [← Fin.sum_mul_add_fin 8 1024 (fun i : Fin 8192 => dnorm (aW m c) (aD m c) i j1)]
  rfl

theorem row_pos (t : Fin cfg0.N) (p : Fin 8) (q : Fin 64) (h : q.val = t.val * 8 + p.val) (a : Fin 128) : row t (pos p a) = at128 q a :=
  Fin.ext (by simp [row, pos, at128]; omega)

theorem final9 (c : Dev nD) : (dats m 0 c).arrAt 9 (cfgs 0).N = (fun j => dweight (aD m c) (aN m c) (j 0) (j 1) (j 2) : FVec Ideal S4x128x128 .f32) := by
  refine (dats m 0 c).arrAt_eq_of_after_last 9 t0_7 (by decide +kernel) _ fun j => ?_
  blk_simp
  rw [after0_9]
  idx_vars j
  refine (weight_D m c t0_7 (by decide) (by decide) (by decide) j0 j1 j2).trans (congrArg (fun f => tri f j1 j2) (funext fun a => funext fun b => ?_))
  have hu := upto (f := fun n h => (outsAt0 m c n h).2.2.1 (ix3 j0 a b)) (g := fun t => pairs (fun i j => pD m c t (ix2 i j)) (fun i j => pZ m c t (ix2 i j)) j0 a b) 6
    (fun t h => weight_A m c t h (by have := (idx t).2.2.2.2.2.2; omega) (by omega) j0 a b)
    (fun t h h6 => by
      by_cases h1 : 2 ≤ t.val
      · exact weight_C m c t h h1 (by omega) j0 a b
      · exact weight_B m c t h h1 (by omega) j0 a b) 6 (by decide) le_rfl
  refine (congrArg (· + _) hu).trans ?_
  refine (Fin.sum_univ_castSucc (n := 7) fun s : Fin 8 => pairs (fun i j => pD m c ⟨s.val, by have := N_0; show _ < grid0.N; omega⟩ (ix2 i j))
    (fun i j => pZ m c ⟨s.val, by have := N_0; show _ < grid0.N; omega⟩ (ix2 i j)) j0 a b).symm.trans ?_
  unfold pairs
  simp only [pD_at, pZ_at]
  refine chunks _ (fun t p => ∑ k : Fin 64, aD m c (row t (pos p a)) (lane j0 k) * aN m c (row t (pos p b)) (lane j0 k)) fun t p q h => ?_
  simp only [row_pos t p q h]

theorem final10 (c : Dev nD) : (dats m 0 c).arrAt 10 (cfgs 0).N = (fun j => four (fun g => dbias (aD m c) g (j 0)) (j 1) : FVec Ideal S128x128 .f32) := by
  refine (dats m 0 c).arrAt_eq_of_after_last 10 t0_7 (by decide +kernel) _ fun j => ?_
  blk_simp
  rw [after0_10]
  idx_vars j
  refine (upto (f := fun n h => (outsAt0 m c n h).2.2.2 (ix2 j0 j1)) 7 (fun t h => bias_first m c t h j0 j1) (fun t h _ => bias_next m c t h j0 j1) 7 _ le_rfl).trans ?_
  unfold four
  by_cases h4 : j1.val < 4
  · simp only [dif_pos h4]
    unfold singles dbias
    simp only [pD_at]
    refine chunks _ (fun t p => ∑ k : Fin 64, aD m c (row t (pos p j0)) (lane ⟨j1.val, h4⟩ k)) fun t p q h => ?_
    simp only [row_pos t p q h]
  · simp only [dif_neg h4]
    exact Finset.sum_const_zero

/-- Every execution of the kernel's program ends with the sums in its result arrays, its arguments as they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v3_1) = (fun j => dscale (aW m c) (aD m c) (aZ m c) (j 1) : FVec Ideal S8x256 .f32)
      ∧ r.2.mem ((c.tc : Thread nD τ).loc main_v3_2) = (fun j => dshift (aW m c) (aD m c) (j 1) : FVec Ideal S8x256 .f32)
      ∧ r.2.mem ((c.tc : Thread nD τ).loc main_v3_3) = (fun j => dweight (aD m c) (aN m c) (j 0) (j 1) (j 2) : FVec Ideal S4x128x128 .f32)
      ∧ r.2.mem ((c.tc : Thread nD τ).loc main_v3_4) = (fun j => four (fun g => dbias (aD m c) g (j 0)) (j 1) : FVec Ideal S128x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 7).trans (final7 m c), ((h c).1 8).trans (final8 m c), ((h c).1 9).trans (final9 m c), ((h c).1 10).trans (final10 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).1 5).trans (((dats m 0 c).arrAt_in 5 rfl _).trans ((A_eq m c 5).trans (V_main_arg5 m c))),
      ((h c).2 main_arg6 (Finset.mem_sdiff.mpr ⟨Pipeline.mem_restRefs_of main_arg6 (by decide) (by decide), by decide⟩)).trans (V_main_arg6 m c)⟩)
    (run_main m ρ)

end Cert.KernelIdeal.Gate

namespace Cert.ReferenceIdeal.Gate

open Cert.ReferenceIdeal Cert.ReferenceIdeal.Gen
open Idealize.ShloMosaic.StableHlo (launchContents)
open Idealize.ShloMosaic Idealize.ShloMosaic.TcCoe Idealize.SL.Sem
open Cert.GateSpec

variable (m : (ℓ : Loc nD τ sig) → Buf (Elt Ideal) ℓ)

/-- The arguments on a device. -/
def aU (c : Dev nD) (i : Fin 8192) (j : Fin 256) : EReal := (m ((c.tc : Thread nD τ).loc main_arg0) : FVec Ideal S8192x256 .f32) (ix2 i j)
def aZ (c : Dev nD) (i : Fin 8192) (j : Fin 256) : EReal := (m ((c.tc : Thread nD τ).loc main_arg1) : FVec Ideal S8192x256 .f32) (ix2 i j)
def aC (c : Dev nD) (i : Fin 8192) (j : Fin 256) : EReal := (m ((c.tc : Thread nD τ).loc main_arg2) : FVec Ideal S8192x256 .f32) (ix2 i j)
def aG (c : Dev nD) (j : Fin 256) : EReal := (m ((c.tc : Thread nD τ).loc main_arg3) : FVec Ideal S4x64 .f32) (ix2 (grp j) (at64 j))
def aB (c : Dev nD) (j : Fin 256) : EReal := (m ((c.tc : Thread nD τ).loc main_arg4) : FVec Ideal S4x64 .f32) (ix2 (grp j) (at64 j))
def aW (c : Dev nD) (g : Fin 4) (t s : Fin 128) : EReal := (m ((c.tc : Thread nD τ).loc main_arg5) : FVec Ideal S4x128x128 .f32) (ix3 g t s)

/-- The gradient at the mix, and the normalised rows, of all rows. -/
def aD (c : Dev nD) : Fin 8192 → Fin 256 → EReal := dmix (aU m c) (aC m c)
def aN (c : Dev nD) (i : Fin 8192) : Fin 256 → EReal := lnorm (aG m c) (aB m c) (aZ m c i)

theorem mate_lane (g : Fin 4) (k l : Fin 64) : mate (lane g k) l = lane g l := Fin.ext (by simp [mate, lane]; omega)
theorem grp_lane (g : Fin 4) (k : Fin 64) : grp (lane g k) = g := Fin.ext (by simp [grp, lane]; omega)
theorem at64_lane (g : Fin 4) (k : Fin 64) : at64 (lane g k) = k := Fin.ext (by simp [at64, lane])

theorem r22 (c : Dev nD) (i : Fin 8192) (g : Fin 4) (k : Fin 64) :
    (Value.res_main_v22 (F := Ideal) (launchContents m c) : FVec Ideal S8192x4x64 .f32) (ix3 i g k) = gelu (aU m c i (lane g k)) := by
  pointwise [Value.res_main_v22, Value.res_main_v21, Value.res_main_v12, Value.res_main_v0]
  rfl

theorem r43 (c : Dev nD) (i : Fin 8192) (g : Fin 4) (k : Fin 64) :
    (Value.res_main_v43 (F := Ideal) (launchContents m c) : FVec Ideal S8192x4x64 .f32) (ix3 i g k) = gelu (aZ m c i (lane g k)) := by
  pointwise [Value.res_main_v43, Value.res_main_v42, Value.res_main_v33, Value.res_main_v1]
  rfl

theorem r90 (c : Dev nD) (q : Fin 64) (a : Fin 128) (g : Fin 4) (k : Fin 64) :
    (Value.res_main_v90 (F := Ideal) (launchContents m c) : FVec Ideal S64x128x4x64 .f32) (ix4 q a g k) = aD m c (at128 q a) (lane g k) := by
  pointwise [Value.res_main_v90, Value.res_main_v87]
  rw [r22]
  exact mul_comm (G := EReal) _ _

theorem r66 (c : Dev nD) (i : Fin 8192) (g : Fin 4) (k : Fin 64) :
    (Value.res_main_v66 (F := Ideal) (launchContents m c) : FVec Ideal S8192x4x64 .f32) (ix3 i g k) = hat (fun l => gelu (aZ m c i l)) (lane g k) := by
  pointwise [Value.res_main_v66, Value.res_main_v58, Value.res_main_v60, Value.res_main_v61, Value.res_main_v49, Value.res_main_v47]
  simp only [r43]
  unfold hat rstd
  rw [mean_sq]
  unfold cen mean
  simp only [mate_lane]

theorem r73 (c : Dev nD) (q : Fin 64) (a : Fin 128) (g : Fin 4) (k : Fin 64) :
    (Value.res_main_v73 (F := Ideal) (launchContents m c) : FVec Ideal S64x128x4x64 .f32) (ix4 q a g k) = aN m c (at128 q a) (lane g k) := by
  pointwise [Value.res_main_v73, Value.res_main_v67]
  rw [r66]
  unfold aN lnorm aG aB
  rw [grp_lane, at64_lane]
  rfl

theorem r101 (c : Dev nD) (i : Fin 8192) (g : Fin 4) (k : Fin 64) :
    (Value.res_main_v101 (F := Ideal) (launchContents m c) : FVec Ideal S8192x4x64 .f32) (ix3 i g k) = dnorm (aW m c) (aD m c) i (lane g k) := by
  pointwise [Value.res_main_v101, Value.res_main_v95, Value.res_main_v78, Value.res_main_v76]
  simp only [r90]
  unfold dnorm
  rw [grp_lane]
  exact Finset.sum_congr (M := EReal) rfl fun x _ => tri_ge (aW m c g) x (place i) (aD m c (chunk i x) (lane g k))

/-- A sum along the first and the last of four axes. -/
theorem reduce_outer {n0 n1 n2 n3 : Nat} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ f : Fin n3, v (ix4 a (j 0) (j 1) f) := by
  refine congrArg (init + ·) ?_
  classical
  have key : _ := Finset.sum_filter_eq_sum_of_fiber (fun i => h.drop i = j) (fun k : Fin n0 × Fin n3 => ix4 k.1 (j 0) (j 1) k.2)
    (fun _ _ e => Prod.ext (congrFun e 0) (congrFun e 3)) (fun i => ⟨fun e => ⟨(i 0, i 3), ?_⟩, ?_⟩) v
  · rw [Fintype.sum_prod_type] at key
    convert key
  · funext a; apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, e⟩
    rw [← e]
    funext b; apply Fin.ext
    match b with
    | ⟨0, _⟩ => rfl
    | ⟨1, _⟩ => rfl

theorem lane_split (j : Fin 256) (h : j.val / 64 < 4) (h' : j.val % 64 < 64) : lane ⟨j.val / 64, h⟩ ⟨j.val % 64, h'⟩ = j :=
  Fin.ext (Nat.div_add_mod' j.val 64)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v160) = (fun j => dscale (aW m c) (aD m c) (aZ m c) (j 1) : FVec Ideal S8x256 .f32)
      ∧ r.2.mem ((c.tc : Thread nD τ).loc main_v162) = (fun j => dshift (aW m c) (aD m c) (j 1) : FVec Ideal S8x256 .f32)
      ∧ r.2.mem ((c.tc : Thread nD τ).loc main_v100) = (fun j => dweight (aD m c) (aN m c) (j 0) (j 1) (j 2) : FVec Ideal S4x128x128 .f32)
      ∧ r.2.mem ((c.tc : Thread nD τ).loc main_v164) = (fun j => four (fun g => dbias (aD m c) g (j 0)) (j 1) : FVec Ideal S128x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (Value.run m ρ)
  obtain ⟨h1, h2, h3, h4, h⟩ := h c
  refine ⟨h1.trans ?_, h2.trans ?_, h3.trans ?_, h4.trans ?_, h⟩
  · funext j; idx_vars j
    pointwise []
    simp only [Finset.univ_unique, Finset.sum_const, Finset.card_singleton, one_smul, r66, r101, lane_split]
    exact Finset.sum_congr (M := EReal) rfl fun x _ => mul_comm (G := EReal) _ _
  · funext j; idx_vars j
    pointwise []
    simp only [Finset.univ_unique, Finset.sum_const, Finset.card_singleton, one_smul, r101, lane_split]
    rfl
  · funext j; idx_vars j
    pointwise [Value.res_main_v95, Value.res_main_v76]
    simp only [r90, r73]
    exact (congrArg (fun e : EReal => @Scalar.select EReal _ e 0) (one_mul (M := EReal) _).symm).trans
      ((tri_ge (fun a b => ∑ q : Fin 64, ∑ k : Fin 64, aD m c (at128 q a) (lane j0 k) * aN m c (at128 q b) (lane j0 k)) j1 j2 1).trans (mul_one (M := EReal) _))
  · funext j; idx_vars j
    pointwise [reduce_outer]
    simp only [Finset.univ_unique, Finset.sum_const, Finset.card_singleton, one_smul, r90]
    unfold four
    split
    · rfl
    · show ((((0#32 : BitVec 32).toInt : ℝ)) : EReal) = 0
      simp

end Cert.ReferenceIdeal.Gate

namespace Cert.Gate

open Idealize.ShloMosaic Idealize.ShloMosaic.TcCoe Idealize.SL.Sem
open Cert.GateSpec

/-- The kernel's four sums are the reference's. -/
theorem algebraic : Cert.algebraic_KernelIdeal_ReferenceIdeal := by
  intro m ρ m' ρ' _ hag
  have e0 : ∀ c, ReferenceIdeal.Gate.aU m' c = KernelIdeal.Gate.aU m c := fun c => funext fun i => funext fun k => congrFun (hag c).1 (ix2 i k)
  have e1 : ∀ c, ReferenceIdeal.Gate.aZ m' c = KernelIdeal.Gate.aZ m c := fun c => funext fun i => funext fun k => congrFun (hag c).2.1 (ix2 i k)
  have e2 : ∀ c, ReferenceIdeal.Gate.aC m' c = KernelIdeal.Gate.aC m c := fun c => funext fun i => funext fun k => congrFun (hag c).2.2.1 (ix2 i k)
  have e3 : ∀ c, ReferenceIdeal.Gate.aG m' c = KernelIdeal.Gate.aG m c := fun c => funext fun k => congrFun (hag c).2.2.2.1 (ix2 _ _)
  have e4 : ∀ c, ReferenceIdeal.Gate.aB m' c = KernelIdeal.Gate.aB m c := fun c => funext fun k => congrFun (hag c).2.2.2.2.1 (ix2 _ _)
  have e5 : ∀ c, ReferenceIdeal.Gate.aW m' c = KernelIdeal.Gate.aW m c :=
    fun c => funext fun g => funext fun t => funext fun s => congrFun (hag c).2.2.2.2.2.1 (ix3 g t s)
  have e6 : ∀ c, ReferenceIdeal.Gate.aD m' c = KernelIdeal.Gate.aD m c := fun c => by
    unfold ReferenceIdeal.Gate.aD KernelIdeal.Gate.aD; rw [e0, e2]
  have e7 : ∀ c, ReferenceIdeal.Gate.aN m' c = KernelIdeal.Gate.aN m c := fun c => by
    unfold ReferenceIdeal.Gate.aN KernelIdeal.Gate.aN; rw [e1, e3, e4]
  have hr := ReferenceIdeal.Gate.run_spec m' ρ'
  simp only [e1, e5, e6, e7] at hr
  exact ⟨fun c => _, fun c => _, fun c => _, fun c => _, KernelIdeal.Gate.run_spec m ρ, hr⟩

end Cert.Gate

end
-- ==== Proof.Adam.Spec.lean ====
module

public import proofs.«01_k».proof.Defs
public import Idealize.ShloMosaic.Lib.Pipeline.ValueKit

@[expose] public section

set_option maxRecDepth 16384

noncomputable section

/-! One AdamW step on one number: `w` the weight, `b` and `v` its two moments, `g` its gradient. -/

namespace Cert.Adam

open Idealize.ShloMosaic

/-- The first moment after the step. -/
def mNew (b g : EReal) : EReal := Ideal.ofBits .f32 0x3F666666#32 * b + Ideal.ofBits .f32 0x3DCCCCCD#32 * g

/-- The second moment after the step. -/
def vNew (v g : EReal) : EReal := Ideal.ofBits .f32 0x3F7FBE77#32 * v + Ideal.ofBits .f32 0x3A83126F#32 * (g * g)

/-- What the step adds to the weight. -/
def delta (w b v g : EReal) : EReal :=
  Ideal.ofBits .f32 0xBA83126F#32
    * (Ideal.div (Ideal.div (mNew b g) (Ideal.ofBits .f32 0x3F26BD02#32))
        (Ideal.sqrt (Ideal.div (vNew v g) (Ideal.ofBits .f32 0x3C231ACC#32)) + Ideal.ofBits .f32 0x322BCC77#32)
      + Ideal.ofBits .f32 0x3C23D70A#32 * w)

/-- A sum over the eight devices, in order. -/
theorem sum8 (f : Fin 8 → EReal) : f 0 + f 1 + f 2 + f 3 + f 4 + f 5 + f 6 + f 7 = ∑ p, f p := (Fin.sum_univ_eight f).symm

end Cert.Adam

end
-- ==== Proof.Adam.In.lean ====
module

public import proofs.«01_k».proof.Defs
public import proofs.«01_k».proof.Proof.Gen.AdIn.Frame
public import proofs.«01_k».proof.Proof.Gen.AdInIdeal.Value
public import proofs.«01_k».proof.Proof.Gen.AdInReferenceIdeal.Run
public import Idealize.ShloMosaic.Lib.Pipeline.ValueKit
public import proofs.«01_k».proof.Proof.Adam.Spec

@[expose] public section

set_option maxRecDepth 16384

noncomputable section

/-! AdamW on the input projection's shard, whose partial gradients come transposed. -/

namespace Cert.AdInIdeal.Step

open Cert.AdInIdeal Cert.AdInIdeal.Gen
open Idealize.ShloMosaic Idealize.ShloMosaic.TcCoe Idealize.SL.Sem
open Idealize.ShloMosaic.Pipeline (Dat)
open Cert.Adam

variable (m : (ℓ : Loc nD τ sig) → Buf (Elt Ideal) ℓ)

/-- The arguments on a device: the weight, its moments, the devices' partial gradients. -/
def aW (c : Dev nD) (i : Fin 1024) (k : Fin 352) : EReal := (m ((c.tc : Thread nD τ).loc main_arg0) : FVec Ideal S1024x352 .f32) (ix2 i k)
def aM (c : Dev nD) (i : Fin 1024) (k : Fin 352) : EReal := (m ((c.tc : Thread nD τ).loc main_arg1) : FVec Ideal S1024x352 .f32) (ix2 i k)
def aV (c : Dev nD) (i : Fin 1024) (k : Fin 352) : EReal := (m ((c.tc : Thread nD τ).loc main_arg2) : FVec Ideal S1024x352 .f32) (ix2 i k)
def aP (c : Dev nD) (p : Fin 8) (i : Fin 1024) (k : Fin 352) : EReal := (m ((c.tc : Thread nD τ).loc main_arg3) : FVec Ideal S8x352x1024 .bf16) (ix3 p k i)
/-- The gradient, and what the step adds to the weight. -/
def aG (c : Dev nD) (i : Fin 1024) (k : Fin 352) : EReal := ∑ p, aP m c p i k
def aD (c : Dev nD) (i : Fin 1024) (k : Fin 352) : EReal := delta (aW m c i k) (aM m c i k) (aV m c i k) (aG m c i k)

/-- Where each point's blocks lie. -/
theorem idx : ∀ t : Fin cfg0.N, win0_0.index t = ![t.val, 0] ∧ win0_1.index t = ![t.val, 0] ∧ win0_2.index t = ![t.val, 0] ∧ win0_3.index t = ![0, 0, t.val]
    ∧ win0_4.index t = ![t.val, 0] ∧ win0_5.index t = ![t.val, 0] ∧ win0_6.index t = ![t.val, 0] ∧ win0_7.index t = ![t.val, 0] ∧ t.val < 8 :=
  (by decide +kernel : ∀ t : Fin grid0.N, _)

/-- Row `a` of block `t`. -/
def row (t : Fin cfg0.N) (a : Fin 128) : Fin 1024 := ⟨t.val * 128 + a.val, by have := (idx t).2.2.2.2.2.2.2.2; omega⟩

theorem b0 (c : Dev nD) (t : Fin cfg0.N) (a : Fin 128) (k : Fin 352) : (iblk m c 0 t : FVec Ideal S128x352 .f32) (ix2 a k) = aW m c (row t a) k := by
  unfold aW
  blk_ext! [iblk, V, idx t, row]

theorem b1 (c : Dev nD) (t : Fin cfg0.N) (a : Fin 128) (k : Fin 352) : (iblk m c 1 t : FVec Ideal S128x352 .f32) (ix2 a k) = aM m c (row t a) k := by
  unfold aM
  blk_ext! [iblk, V, idx t, row]

theorem b2 (c : Dev nD) (t : Fin cfg0.N) (a : Fin 128) (k : Fin 352) : (iblk m c 2 t : FVec Ideal S128x352 .f32) (ix2 a k) = aV m c (row t a) k := by
  unfold aV
  blk_ext! [iblk, V, idx t, row]

theorem b3 (c : Dev nD) (t : Fin cfg0.N) (p : Fin 8) (a : Fin 128) (k : Fin 352) : (iblk m c 3 t : FVec Ideal S8x352x128 .bf16) (ix3 p k a) = aP m c p (row t a) k := by
  unfold aP
  blk_ext! [iblk, V, idx t, row]

/-- The eight parts of a block, summed. -/
theorem g_at (x0 x1 x2 : FVec Ideal S128x352 .f32) (x3 : FVec Ideal S8x352x128 .bf16) (a : Fin 128) (k : Fin 352) :
    k0_pay5 (F := Ideal) x0 x1 x2 x3 (ix2 a k) = ∑ p, x3 (ix3 p k a) := by
  rw [← sum8]
  pointwise [k0_pay5, k0_pay4]

theorem m_at (g b : FVec Ideal S128x352 .f32) (a : Fin 128) (k : Fin 352) : k0_pay1 (F := Ideal) g b (ix2 a k) = mNew (b (ix2 a k)) (g (ix2 a k)) := by
  pointwise [k0_pay1]
  rfl

theorem v_at (g v : FVec Ideal S128x352 .f32) (a : Fin 128) (k : Fin 352) : k0_pay2 (F := Ideal) g v (ix2 a k) = vNew (v (ix2 a k)) (g (ix2 a k)) := by
  pointwise [k0_pay2]
  rfl

theorem d_at (g w b v : FVec Ideal S128x352 .f32) (a : Fin 128) (k : Fin 352) :
    k0_pay3 (F := Ideal) g w b v (ix2 a k) = delta (w (ix2 a k)) (b (ix2 a k)) (v (ix2 a k)) (g (ix2 a k)) := by
  pointwise [k0_pay3, k0_pay1, k0_pay2]
  rfl

/-- The gradient on one block. -/
theorem g_block (c : Dev nD) (t : Fin cfg0.N) (a : Fin 128) (k : Fin 352) :
    k0_pay5 (F := Ideal) (iblk m c 0 t) (iblk m c 1 t) (iblk m c 2 t) (iblk m c 3 t) (ix2 a k) = aG m c (row t a) k :=
  (g_at _ _ _ _ a k).trans (congrArg (fun f : Fin 8 → EReal => ∑ p, f p) (funext fun p => b3 m c t p a k))

theorem final4 (c : Dev nD) : (dats m 0 c).arrAt 4 (cfgs 0).N = (fun j => aG m c (j 0) (j 1) : FVec Ideal S1024x352 .f32) := by
  refine (dats m 0 c).arrAt_eq_of_covers 4 _ (by decide +kernel) fun t hf y => ?_
  blk_simp
  rw [after0_4]
  idx_vars y
  unfold out0_4
  frame_out
  refine (g_block m c t y0 y1).trans ?_
  exact congrArg₂ (fun i f => aG m c i f) (Fin.ext (by blk_simp [idx t, row])) (Fin.ext (by blk_simp [idx t]))

theorem final5 (c : Dev nD) : (dats m 0 c).arrAt 5 (cfgs 0).N = (fun j => aD m c (j 0) (j 1) : FVec Ideal S1024x352 .f32) := by
  refine (dats m 0 c).arrAt_eq_of_covers 5 _ (by decide +kernel) fun t hf y => ?_
  blk_simp
  rw [after0_5]
  idx_vars y
  unfold out0_5
  frame_out
  refine (d_at _ _ _ _ y0 y1).trans ?_
  rw [b0, b1, b2]
  refine (congrArg (delta _ _ _) (g_block m c t y0 y1)).trans ?_
  exact congrArg₂ (fun i f => aD m c i f) (Fin.ext (by blk_simp [idx t, row])) (Fin.ext (by blk_simp [idx t]))

theorem final6 (c : Dev nD) : (dats m 0 c).arrAt 6 (cfgs 0).N = (fun j => mNew (aM m c (j 0) (j 1)) (aG m c (j 0) (j 1)) : FVec Ideal S1024x352 .f32) := by
  refine (dats m 0 c).arrAt_eq_of_covers 6 _ (by decide +kernel) fun t hf y => ?_
  blk_simp
  rw [after0_6]
  idx_vars y
  unfold out0_6
  frame_out
  refine (m_at _ _ y0 y1).trans ?_
  rw [b1]
  refine (congrArg (mNew _) (g_block m c t y0 y1)).trans ?_
  exact congrArg₂ (fun i f => mNew (aM m c i f) (aG m c i f)) (Fin.ext (by blk_simp [idx t, row])) (Fin.ext (by blk_simp [idx t]))

theorem final7 (c : Dev nD) : (dats m 0 c).arrAt 7 (cfgs 0).N = (fun j => vNew (aV m c (j 0) (j 1)) (aG m c (j 0) (j 1)) : FVec Ideal S1024x352 .f32) := by
  refine (dats m 0 c).arrAt_eq_of_covers 7 _ (by decide +kernel) fun t hf y => ?_
  blk_simp
  rw [after0_7]
  idx_vars y
  unfold out0_7
  frame_out
  refine (v_at _ _ y0 y1).trans ?_
  rw [b2]
  refine (congrArg (vNew _) (g_block m c t y0 y1)).trans ?_
  exact congrArg₂ (fun i f => vNew (aV m c i f) (aG m c i f)) (Fin.ext (by blk_simp [idx t, row])) (Fin.ext (by blk_simp [idx t]))

/-- Every execution of the kernel's program ends with the gradient, the step and the new moments in its result arrays, its arguments as
    they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0_0) = (fun j => aG m c (j 0) (j 1) : FVec Ideal S1024x352 .f32)
      ∧ r.2.mem ((c.tc : Thread nD τ).loc main_v0_1) = (fun j => aD m c (j 0) (j 1) : FVec Ideal S1024x352 .f32)
      ∧ r.2.mem ((c.tc : Thread nD τ).loc main_v0_2) = (fun j => mNew (aM m c (j 0) (j 1)) (aG m c (j 0) (j 1)) : FVec Ideal S1024x352 .f32)
      ∧ r.2.mem ((c.tc : Thread nD τ).loc main_v0_3) = (fun j => vNew (aV m c (j 0) (j 1)) (aG m c (j 0) (j 1)) : FVec Ideal S1024x352 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final4, final5, final6, final7] at h
  exact h

end Cert.AdInIdeal.Step

namespace Cert.AdInReferenceIdeal.Step

open Cert.AdInReferenceIdeal Cert.AdInReferenceIdeal.Gen
open Idealize.ShloMosaic Idealize.ShloMosaic.TcCoe Idealize.SL.Sem
open Cert.Adam

variable (m : (ℓ : Loc nD τ sig) → Buf (Elt Ideal) ℓ)

/-- The arguments on a device: the weight, its moments, the devices' partial gradients. -/
def aW (c : Dev nD) (i : Fin 1024) (k : Fin 352) : EReal := (m ((c.tc : Thread nD τ).loc main_arg0) : FVec Ideal S1024x352 .f32) (ix2 i k)
def aM (c : Dev nD) (i : Fin 1024) (k : Fin 352) : EReal := (m ((c.tc : Thread nD τ).loc main_arg1) : FVec Ideal S1024x352 .f32) (ix2 i k)
def aV (c : Dev nD) (i : Fin 1024) (k : Fin 352) : EReal := (m ((c.tc : Thread nD τ).loc main_arg2) : FVec Ideal S1024x352 .f32) (ix2 i k)
def aP (c : Dev nD) (p : Fin 8) (i : Fin 1024) (k : Fin 352) : EReal := (m ((c.tc : Thread nD τ).loc main_arg3) : FVec Ideal S8x352x1024 .bf16) (ix3 p k i)
/-- The gradient, and what the step adds to the weight. -/
def aG (c : Dev nD) (i : Fin 1024) (k : Fin 352) : EReal := ∑ p, aP m c p i k
def aD (c : Dev nD) (i : Fin 1024) (k : Fin 352) : EReal := delta (aW m c i k) (aM m c i k) (aV m c i k) (aG m c i k)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v2) = (fun j => aG m c (j 0) (j 1) : FVec Ideal S1024x352 .f32)
      ∧ r.2.mem ((c.tc : Thread nD τ).loc main_v26) = (fun j => aD m c (j 0) (j 1) : FVec Ideal S1024x352 .f32)
      ∧ r.2.mem ((c.tc : Thread nD τ).loc main_v7) = (fun j => mNew (aM m c (j 0) (j 1)) (aG m c (j 0) (j 1)) : FVec Ideal S1024x352 .f32)
      ∧ r.2.mem ((c.tc : Thread nD τ).loc main_v13) = (fun j => vNew (aV m c (j 0) (j 1)) (aG m c (j 0) (j 1)) : FVec Ideal S1024x352 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, h⟩ := h c
  refine ⟨h0.trans ?_, h1.trans ?_, h2.trans ?_, h3.trans ?_, h⟩
  all_goals
    funext j; idx_vars j
    clear h0 h1 h2 h3 h
    pointwise []
    rfl

end Cert.AdInReferenceIdeal.Step

namespace Cert.AdIn

open Idealize.ShloMosaic Idealize.ShloMosaic.TcCoe Idealize.SL.Sem

theorem frame : Cert.quiescent_AdIn := fun m ρ _ => Cert.AdIn.Gen.frame m ρ
theorem frame_ideal : Cert.quiescent_AdInIdeal := fun m ρ _ => Cert.AdInIdeal.Gen.frame m ρ

/-- The reference declares no semaphore. -/
theorem frame_ref : Cert.quiescent_AdInReferenceIdeal := fun m ρ _ =>
  (θ_run Cert.AdInReferenceIdeal.defs _ _).mono (fun r h => ⟨fun c => (h c).2.2.2.2, sem_eq_zero_of_no_sems (by decide) r.2⟩)
    (Cert.AdInReferenceIdeal.Value.run m ρ)

/-- Kernel and reference end with the same arrays. -/
theorem algebraic : Cert.algebraic_AdInIdeal_AdInReferenceIdeal := by
  intro m ρ m' ρ' _ hag
  have e0 : ∀ c, AdInReferenceIdeal.Step.aW m' c = AdInIdeal.Step.aW m c := fun c => funext fun i => funext fun k => congrFun (hag c).1 (ix2 i k)
  have e1 : ∀ c, AdInReferenceIdeal.Step.aM m' c = AdInIdeal.Step.aM m c := fun c => funext fun i => funext fun k => congrFun (hag c).2.1 (ix2 i k)
  have e2 : ∀ c, AdInReferenceIdeal.Step.aV m' c = AdInIdeal.Step.aV m c := fun c => funext fun i => funext fun k => congrFun (hag c).2.2.1 (ix2 i k)
  have e3 : ∀ c, AdInReferenceIdeal.Step.aG m' c = AdInIdeal.Step.aG m c := fun c => funext fun i => funext fun k =>
    congrArg (fun f : Fin 8 → EReal => ∑ p, f p) (funext fun p => congrFun (hag c).2.2.2 (ix3 p k i))
  have e4 : ∀ c, AdInReferenceIdeal.Step.aD m' c = AdInIdeal.Step.aD m c := fun c => by
    unfold AdInReferenceIdeal.Step.aD AdInIdeal.Step.aD
    rw [e0, e1, e2, e3]
  have hr := AdInReferenceIdeal.Step.run_spec m' ρ'
  simp only [e1, e2, e3, e4] at hr
  exact ⟨fun c => _, fun c => _, fun c => _, fun c => _, AdInIdeal.Step.run_spec m ρ, hr⟩

end Cert.AdIn

end
-- ==== Proof.Adam.Out.lean ====
module

public import proofs.«01_k».proof.Defs
public import proofs.«01_k».proof.Proof.Gen.AdOut.Frame
public import proofs.«01_k».proof.Proof.Gen.AdOutIdeal.Value
public import proofs.«01_k».proof.Proof.Gen.AdOutReferenceIdeal.Run
public import Idealize.ShloMosaic.Lib.Pipeline.ValueKit
public import proofs.«01_k».proof.Proof.Adam.Spec

@[expose] public section

set_option maxRecDepth 16384

noncomputable section

/-! AdamW on the output projection's shard. -/

namespace Cert.AdOutIdeal.Step

open Cert.AdOutIdeal Cert.AdOutIdeal.Gen
open Idealize.ShloMosaic Idealize.ShloMosaic.TcCoe Idealize.SL.Sem
open Idealize.ShloMosaic.Pipeline (Dat)
open Cert.Adam

variable (m : (ℓ : Loc nD τ sig) → Buf (Elt Ideal) ℓ)

/-- The arguments on a device: the weight, its moments, the devices' partial gradients. -/
def aW (c : Dev nD) (i : Fin 128) (k : Fin 1024) : EReal := (m ((c.tc : Thread nD τ).loc main_arg0) : FVec Ideal S128x1024 .f32) (ix2 i k)
def aM (c : Dev nD) (i : Fin 128) (k : Fin 1024) : EReal := (m ((c.tc : Thread nD τ).loc main_arg1) : FVec Ideal S128x1024 .f32) (ix2 i k)
def aV (c : Dev nD) (i : Fin 128) (k : Fin 1024) : EReal := (m ((c.tc : Thread nD τ).loc main_arg2) : FVec Ideal S128x1024 .f32) (ix2 i k)
def aP (c : Dev nD) (p : Fin 8) (i : Fin 128) (k : Fin 1024) : EReal := (m ((c.tc : Thread nD τ).loc main_arg3) : FVec Ideal S8x128x1024 .bf16) (ix3 p i k)
/-- The gradient, and what the step adds to the weight. -/
def aG (c : Dev nD) (i : Fin 128) (k : Fin 1024) : EReal := ∑ p, aP m c p i k
def aD (c : Dev nD) (i : Fin 128) (k : Fin 1024) : EReal := delta (aW m c i k) (aM m c i k) (aV m c i k) (aG m c i k)

/-- Where each point's blocks lie. -/
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] ∧ t.val < 1 :=
  (by decide +kernel : ∀ t : Fin grid0.N, _)

/-- Row `a` of block `t`. -/
def row (t : Fin cfg0.N) (a : Fin 128) : Fin 128 := ⟨t.val * 128 + a.val, by have := (idx t).2.2.2.2.2.2.2.2; omega⟩

theorem b0 (c : Dev nD) (t : Fin cfg0.N) (a : Fin 128) (k : Fin 1024) : (iblk m c 0 t : FVec Ideal S128x1024 .f32) (ix2 a k) = aW m c (row t a) k := by
  unfold aW
  blk_ext! [iblk, V, idx t, row]

theorem b1 (c : Dev nD) (t : Fin cfg0.N) (a : Fin 128) (k : Fin 1024) : (iblk m c 1 t : FVec Ideal S128x1024 .f32) (ix2 a k) = aM m c (row t a) k := by
  unfold aM
  blk_ext! [iblk, V, idx t, row]

theorem b2 (c : Dev nD) (t : Fin cfg0.N) (a : Fin 128) (k : Fin 1024) : (iblk m c 2 t : FVec Ideal S128x1024 .f32) (ix2 a k) = aV m c (row t a) k := by
  unfold aV
  blk_ext! [iblk, V, idx t, row]

theorem b3 (c : Dev nD) (t : Fin cfg0.N) (p : Fin 8) (a : Fin 128) (k : Fin 1024) : (iblk m c 3 t : FVec Ideal S8x128x1024 .bf16) (ix3 p a k) = aP m c p (row t a) k := by
  unfold aP
  blk_ext! [iblk, V, idx t, row]

/-- The eight parts of a block, summed. -/
theorem g_at (x0 x1 x2 : FVec Ideal S128x1024 .f32) (x3 : FVec Ideal S8x128x1024 .bf16) (a : Fin 128) (k : Fin 1024) :
    k0_pay5 (F := Ideal) x0 x1 x2 x3 (ix2 a k) = ∑ p, x3 (ix3 p a k) := by
  rw [← sum8]
  pointwise [k0_pay5, k0_pay4]

theorem m_at (g b : FVec Ideal S128x1024 .f32) (a : Fin 128) (k : Fin 1024) : k0_pay1 (F := Ideal) g b (ix2 a k) = mNew (b (ix2 a k)) (g (ix2 a k)) := by
  pointwise [k0_pay1]
  rfl

theorem v_at (g v : FVec Ideal S128x1024 .f32) (a : Fin 128) (k : Fin 1024) : k0_pay2 (F := Ideal) g v (ix2 a k) = vNew (v (ix2 a k)) (g (ix2 a k)) := by
  pointwise [k0_pay2]
  rfl

theorem d_at (g w b v : FVec Ideal S128x1024 .f32) (a : Fin 128) (k : Fin 1024) :
    k0_pay3 (F := Ideal) g w b v (ix2 a k) = delta (w (ix2 a k)) (b (ix2 a k)) (v (ix2 a k)) (g (ix2 a k)) := by
  pointwise [k0_pay3, k0_pay1, k0_pay2]
  rfl

/-- The gradient on one block. -/
theorem g_block (c : Dev nD) (t : Fin cfg0.N) (a : Fin 128) (k : Fin 1024) :
    k0_pay5 (F := Ideal) (iblk m c 0 t) (iblk m c 1 t) (iblk m c 2 t) (iblk m c 3 t) (ix2 a k) = aG m c (row t a) k :=
  (g_at _ _ _ _ a k).trans (congrArg (fun f : Fin 8 → EReal => ∑ p, f p) (funext fun p => b3 m c t p a k))

theorem final4 (c : Dev nD) : (dats m 0 c).arrAt 4 (cfgs 0).N = (fun j => aG m c (j 0) (j 1) : FVec Ideal S128x1024 .f32) := by
  refine (dats m 0 c).arrAt_eq_of_covers 4 _ (by decide +kernel) fun t hf y => ?_
  blk_simp
  rw [after0_4]
  idx_vars y
  unfold out0_4
  frame_out
  refine (g_block m c t y0 y1).trans ?_
  exact congrArg₂ (fun i f => aG m c i f) (Fin.ext (by blk_simp [idx t, row])) (Fin.ext (by blk_simp [idx t]))

theorem final5 (c : Dev nD) : (dats m 0 c).arrAt 5 (cfgs 0).N = (fun j => aD m c (j 0) (j 1) : FVec Ideal S128x1024 .f32) := by
  refine (dats m 0 c).arrAt_eq_of_covers 5 _ (by decide +kernel) fun t hf y => ?_
  blk_simp
  rw [after0_5]
  idx_vars y
  unfold out0_5
  frame_out
  refine (d_at _ _ _ _ y0 y1).trans ?_
  rw [b0, b1, b2]
  refine (congrArg (delta _ _ _) (g_block m c t y0 y1)).trans ?_
  exact congrArg₂ (fun i f => aD m c i f) (Fin.ext (by blk_simp [idx t, row])) (Fin.ext (by blk_simp [idx t]))

theorem final6 (c : Dev nD) : (dats m 0 c).arrAt 6 (cfgs 0).N = (fun j => mNew (aM m c (j 0) (j 1)) (aG m c (j 0) (j 1)) : FVec Ideal S128x1024 .f32) := by
  refine (dats m 0 c).arrAt_eq_of_covers 6 _ (by decide +kernel) fun t hf y => ?_
  blk_simp
  rw [after0_6]
  idx_vars y
  unfold out0_6
  frame_out
  refine (m_at _ _ y0 y1).trans ?_
  rw [b1]
  refine (congrArg (mNew _) (g_block m c t y0 y1)).trans ?_
  exact congrArg₂ (fun i f => mNew (aM m c i f) (aG m c i f)) (Fin.ext (by blk_simp [idx t, row])) (Fin.ext (by blk_simp [idx t]))

theorem final7 (c : Dev nD) : (dats m 0 c).arrAt 7 (cfgs 0).N = (fun j => vNew (aV m c (j 0) (j 1)) (aG m c (j 0) (j 1)) : FVec Ideal S128x1024 .f32) := by
  refine (dats m 0 c).arrAt_eq_of_covers 7 _ (by decide +kernel) fun t hf y => ?_
  blk_simp
  rw [after0_7]
  idx_vars y
  unfold out0_7
  frame_out
  refine (v_at _ _ y0 y1).trans ?_
  rw [b2]
  refine (congrArg (vNew _) (g_block m c t y0 y1)).trans ?_
  exact congrArg₂ (fun i f => vNew (aV m c i f) (aG m c i f)) (Fin.ext (by blk_simp [idx t, row])) (Fin.ext (by blk_simp [idx t]))

/-- Every execution of the kernel's program ends with the gradient, the step and the new moments in its result arrays, its arguments as
    they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0_0) = (fun j => aG m c (j 0) (j 1) : FVec Ideal S128x1024 .f32)
      ∧ r.2.mem ((c.tc : Thread nD τ).loc main_v0_1) = (fun j => aD m c (j 0) (j 1) : FVec Ideal S128x1024 .f32)
      ∧ r.2.mem ((c.tc : Thread nD τ).loc main_v0_2) = (fun j => mNew (aM m c (j 0) (j 1)) (aG m c (j 0) (j 1)) : FVec Ideal S128x1024 .f32)
      ∧ r.2.mem ((c.tc : Thread nD τ).loc main_v0_3) = (fun j => vNew (aV m c (j 0) (j 1)) (aG m c (j 0) (j 1)) : FVec Ideal S128x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final4, final5, final6, final7] at h
  exact h

end Cert.AdOutIdeal.Step

namespace Cert.AdOutReferenceIdeal.Step

open Cert.AdOutReferenceIdeal Cert.AdOutReferenceIdeal.Gen
open Idealize.ShloMosaic Idealize.ShloMosaic.TcCoe Idealize.SL.Sem
open Cert.Adam

variable (m : (ℓ : Loc nD τ sig) → Buf (Elt Ideal) ℓ)

/-- The arguments on a device: the weight, its moments, the devices' partial gradients. -/
def aW (c : Dev nD) (i : Fin 128) (k : Fin 1024) : EReal := (m ((c.tc : Thread nD τ).loc main_arg0) : FVec Ideal S128x1024 .f32) (ix2 i k)
def aM (c : Dev nD) (i : Fin 128) (k : Fin 1024) : EReal := (m ((c.tc : Thread nD τ).loc main_arg1) : FVec Ideal S128x1024 .f32) (ix2 i k)
def aV (c : Dev nD) (i : Fin 128) (k : Fin 1024) : EReal := (m ((c.tc : Thread nD τ).loc main_arg2) : FVec Ideal S128x1024 .f32) (ix2 i k)
def aP (c : Dev nD) (p : Fin 8) (i : Fin 128) (k : Fin 1024) : EReal := (m ((c.tc : Thread nD τ).loc main_arg3) : FVec Ideal S8x128x1024 .bf16) (ix3 p i k)
/-- The gradient, and what the step adds to the weight. -/
def aG (c : Dev nD) (i : Fin 128) (k : Fin 1024) : EReal := ∑ p, aP m c p i k
def aD (c : Dev nD) (i : Fin 128) (k : Fin 1024) : EReal := delta (aW m c i k) (aM m c i k) (aV m c i k) (aG m c i k)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v1) = (fun j => aG m c (j 0) (j 1) : FVec Ideal S128x1024 .f32)
      ∧ r.2.mem ((c.tc : Thread nD τ).loc main_v25) = (fun j => aD m c (j 0) (j 1) : FVec Ideal S128x1024 .f32)
      ∧ r.2.mem ((c.tc : Thread nD τ).loc main_v6) = (fun j => mNew (aM m c (j 0) (j 1)) (aG m c (j 0) (j 1)) : FVec Ideal S128x1024 .f32)
      ∧ r.2.mem ((c.tc : Thread nD τ).loc main_v12) = (fun j => vNew (aV m c (j 0) (j 1)) (aG m c (j 0) (j 1)) : FVec Ideal S128x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, h⟩ := h c
  refine ⟨h0.trans ?_, h1.trans ?_, h2.trans ?_, h3.trans ?_, h⟩
  all_goals
    funext j; idx_vars j
    clear h0 h1 h2 h3 h
    pointwise []
    rfl

end Cert.AdOutReferenceIdeal.Step

namespace Cert.AdOut

open Idealize.ShloMosaic Idealize.ShloMosaic.TcCoe Idealize.SL.Sem

theorem frame : Cert.quiescent_AdOut := fun m ρ _ => Cert.AdOut.Gen.frame m ρ
theorem frame_ideal : Cert.quiescent_AdOutIdeal := fun m ρ _ => Cert.AdOutIdeal.Gen.frame m ρ

/-- The reference declares no semaphore. -/
theorem frame_ref : Cert.quiescent_AdOutReferenceIdeal := fun m ρ _ =>
  (θ_run Cert.AdOutReferenceIdeal.defs _ _).mono (fun r h => ⟨fun c => (h c).2.2.2.2, sem_eq_zero_of_no_sems (by decide) r.2⟩)
    (Cert.AdOutReferenceIdeal.Value.run m ρ)

/-- Kernel and reference end with the same arrays. -/
theorem algebraic : Cert.algebraic_AdOutIdeal_AdOutReferenceIdeal := by
  intro m ρ m' ρ' _ hag
  have e0 : ∀ c, AdOutReferenceIdeal.Step.aW m' c = AdOutIdeal.Step.aW m c := fun c => funext fun i => funext fun k => congrFun (hag c).1 (ix2 i k)
  have e1 : ∀ c, AdOutReferenceIdeal.Step.aM m' c = AdOutIdeal.Step.aM m c := fun c => funext fun i => funext fun k => congrFun (hag c).2.1 (ix2 i k)
  have e2 : ∀ c, AdOutReferenceIdeal.Step.aV m' c = AdOutIdeal.Step.aV m c := fun c => funext fun i => funext fun k => congrFun (hag c).2.2.1 (ix2 i k)
  have e3 : ∀ c, AdOutReferenceIdeal.Step.aG m' c = AdOutIdeal.Step.aG m c := fun c => funext fun i => funext fun k =>
    congrArg (fun f : Fin 8 → EReal => ∑ p, f p) (funext fun p => congrFun (hag c).2.2.2 (ix3 p i k))
  have e4 : ∀ c, AdOutReferenceIdeal.Step.aD m' c = AdOutIdeal.Step.aD m c := fun c => by
    unfold AdOutReferenceIdeal.Step.aD AdOutIdeal.Step.aD
    rw [e0, e1, e2, e3]
  have hr := AdOutReferenceIdeal.Step.run_spec m' ρ'
  simp only [e1, e2, e3, e4] at hr
  exact ⟨fun c => _, fun c => _, fun c => _, fun c => _, AdOutIdeal.Step.run_spec m ρ, hr⟩

end Cert.AdOut

end
-- ==== Proof.Adam.Ff1.lean ====
module

public import proofs.«01_k».proof.Defs
public import proofs.«01_k».proof.Proof.Gen.AdFf1.Frame
public import proofs.«01_k».proof.Proof.Gen.AdFf1Ideal.Value
public import proofs.«01_k».proof.Proof.Gen.AdFf1ReferenceIdeal.Run
public import Idealize.ShloMosaic.Lib.Pipeline.ValueKit
public import proofs.«01_k».proof.Proof.Adam.Spec

@[expose] public section

set_option maxRecDepth 16384

noncomputable section

/-! AdamW on the first feed-forward weight's shard, whose partial gradients come transposed. -/

namespace Cert.AdFf1Ideal.Step

open Cert.AdFf1Ideal Cert.AdFf1Ideal.Gen
open Idealize.ShloMosaic Idealize.ShloMosaic.TcCoe Idealize.SL.Sem
open Idealize.ShloMosaic.Pipeline (Dat)
open Cert.Adam

variable (m : (ℓ : Loc nD τ sig) → Buf (Elt Ideal) ℓ)

/-- The arguments on a device: the weight, its moments, the devices' partial gradients. -/
def aW (c : Dev nD) (i : Fin 1024) (k : Fin 512) : EReal := (m ((c.tc : Thread nD τ).loc main_arg0) : FVec Ideal S1024x512 .f32) (ix2 i k)
def aM (c : Dev nD) (i : Fin 1024) (k : Fin 512) : EReal := (m ((c.tc : Thread nD τ).loc main_arg1) : FVec Ideal S1024x512 .f32) (ix2 i k)
def aV (c : Dev nD) (i : Fin 1024) (k : Fin 512) : EReal := (m ((c.tc : Thread nD τ).loc main_arg2) : FVec Ideal S1024x512 .f32) (ix2 i k)
def aP (c : Dev nD) (p : Fin 8) (i : Fin 1024) (k : Fin 512) : EReal := (m ((c.tc : Thread nD τ).loc main_arg3) : FVec Ideal S8x512x1024 .bf16) (ix3 p k i)
/-- The gradient, and what the step adds to the weight. -/
def aG (c : Dev nD) (i : Fin 1024) (k : Fin 512) : EReal := ∑ p, aP m c p i k
def aD (c : Dev nD) (i : Fin 1024) (k : Fin 512) : EReal := delta (aW m c i k) (aM m c i k) (aV m c i k) (aG m c i k)

/-- Where each point's blocks lie. -/
theorem idx : ∀ t : Fin cfg0.N, win0_0.index t = ![t.val, 0] ∧ win0_1.index t = ![t.val, 0] ∧ win0_2.index t = ![t.val, 0] ∧ win0_3.index t = ![0, 0, t.val]
    ∧ win0_4.index t = ![t.val, 0] ∧ win0_5.index t = ![t.val, 0] ∧ win0_6.index t = ![t.val, 0] ∧ win0_7.index t = ![t.val, 0] ∧ t.val < 8 :=
  (by decide +kernel : ∀ t : Fin grid0.N, _)

/-- Row `a` of block `t`. -/
def row (t : Fin cfg0.N) (a : Fin 128) : Fin 1024 := ⟨t.val * 128 + a.val, by have := (idx t).2.2.2.2.2.2.2.2; omega⟩

theorem b0 (c : Dev nD) (t : Fin cfg0.N) (a : Fin 128) (k : Fin 512) : (iblk m c 0 t : FVec Ideal S128x512 .f32) (ix2 a k) = aW m c (row t a) k := by
  unfold aW
  blk_ext! [iblk, V, idx t, row]

theorem b1 (c : Dev nD) (t : Fin cfg0.N) (a : Fin 128) (k : Fin 512) : (iblk m c 1 t : FVec Ideal S128x512 .f32) (ix2 a k) = aM m c (row t a) k := by
  unfold aM
  blk_ext! [iblk, V, idx t, row]

theorem b2 (c : Dev nD) (t : Fin cfg0.N) (a : Fin 128) (k : Fin 512) : (iblk m c 2 t : FVec Ideal S128x512 .f32) (ix2 a k) = aV m c (row t a) k := by
  unfold aV
  blk_ext! [iblk, V, idx t, row]

theorem b3 (c : Dev nD) (t : Fin cfg0.N) (p : Fin 8) (a : Fin 128) (k : Fin 512) : (iblk m c 3 t : FVec Ideal S8x512x128 .bf16) (ix3 p k a) = aP m c p (row t a) k := by
  unfold aP
  blk_ext! [iblk, V, idx t, row]

/-- The eight parts of a block, summed. -/
theorem g_at (x0 x1 x2 : FVec Ideal S128x512 .f32) (x3 : FVec Ideal S8x512x128 .bf16) (a : Fin 128) (k : Fin 512) :
    k0_pay5 (F := Ideal) x0 x1 x2 x3 (ix2 a k) = ∑ p, x3 (ix3 p k a) := by
  rw [← sum8]
  pointwise [k0_pay5, k0_pay4]

theorem m_at (g b : FVec Ideal S128x512 .f32) (a : Fin 128) (k : Fin 512) : k0_pay1 (F := Ideal) g b (ix2 a k) = mNew (b (ix2 a k)) (g (ix2 a k)) := by
  pointwise [k0_pay1]
  rfl

theorem v_at (g v : FVec Ideal S128x512 .f32) (a : Fin 128) (k : Fin 512) : k0_pay2 (F := Ideal) g v (ix2 a k) = vNew (v (ix2 a k)) (g (ix2 a k)) := by
  pointwise [k0_pay2]
  rfl

theorem d_at (g w b v : FVec Ideal S128x512 .f32) (a : Fin 128) (k : Fin 512) :
    k0_pay3 (F := Ideal) g w b v (ix2 a k) = delta (w (ix2 a k)) (b (ix2 a k)) (v (ix2 a k)) (g (ix2 a k)) := by
  pointwise [k0_pay3, k0_pay1, k0_pay2]
  rfl

/-- The gradient on one block. -/
theorem g_block (c : Dev nD) (t : Fin cfg0.N) (a : Fin 128) (k : Fin 512) :
    k0_pay5 (F := Ideal) (iblk m c 0 t) (iblk m c 1 t) (iblk m c 2 t) (iblk m c 3 t) (ix2 a k) = aG m c (row t a) k :=
  (g_at _ _ _ _ a k).trans (congrArg (fun f : Fin 8 → EReal => ∑ p, f p) (funext fun p => b3 m c t p a k))

theorem final4 (c : Dev nD) : (dats m 0 c).arrAt 4 (cfgs 0).N = (fun j => aG m c (j 0) (j 1) : FVec Ideal S1024x512 .f32) := by
  refine (dats m 0 c).arrAt_eq_of_covers 4 _ (by decide +kernel) fun t hf y => ?_
  blk_simp
  rw [after0_4]
  idx_vars y
  unfold out0_4
  frame_out
  refine (g_block m c t y0 y1).trans ?_
  exact congrArg₂ (fun i f => aG m c i f) (Fin.ext (by blk_simp [idx t, row])) (Fin.ext (by blk_simp [idx t]))

theorem final5 (c : Dev nD) : (dats m 0 c).arrAt 5 (cfgs 0).N = (fun j => aD m c (j 0) (j 1) : FVec Ideal S1024x512 .f32) := by
  refine (dats m 0 c).arrAt_eq_of_covers 5 _ (by decide +kernel) fun t hf y => ?_
  blk_simp
  rw [after0_5]
  idx_vars y
  unfold out0_5
  frame_out
  refine (d_at _ _ _ _ y0 y1).trans ?_
  rw [b0, b1, b2]
  refine (congrArg (delta _ _ _) (g_block m c t y0 y1)).trans ?_
  exact congrArg₂ (fun i f => aD m c i f) (Fin.ext (by blk_simp [idx t, row])) (Fin.ext (by blk_simp [idx t]))

theorem final6 (c : Dev nD) : (dats m 0 c).arrAt 6 (cfgs 0).N = (fun j => mNew (aM m c (j 0) (j 1)) (aG m c (j 0) (j 1)) : FVec Ideal S1024x512 .f32) := by
  refine (dats m 0 c).arrAt_eq_of_covers 6 _ (by decide +kernel) fun t hf y => ?_
  blk_simp
  rw [after0_6]
  idx_vars y
  unfold out0_6
  frame_out
  refine (m_at _ _ y0 y1).trans ?_
  rw [b1]
  refine (congrArg (mNew _) (g_block m c t y0 y1)).trans ?_
  exact congrArg₂ (fun i f => mNew (aM m c i f) (aG m c i f)) (Fin.ext (by blk_simp [idx t, row])) (Fin.ext (by blk_simp [idx t]))

theorem final7 (c : Dev nD) : (dats m 0 c).arrAt 7 (cfgs 0).N = (fun j => vNew (aV m c (j 0) (j 1)) (aG m c (j 0) (j 1)) : FVec Ideal S1024x512 .f32) := by
  refine (dats m 0 c).arrAt_eq_of_covers 7 _ (by decide +kernel) fun t hf y => ?_
  blk_simp
  rw [after0_7]
  idx_vars y
  unfold out0_7
  frame_out
  refine (v_at _ _ y0 y1).trans ?_
  rw [b2]
  refine (congrArg (vNew _) (g_block m c t y0 y1)).trans ?_
  exact congrArg₂ (fun i f => vNew (aV m c i f) (aG m c i f)) (Fin.ext (by blk_simp [idx t, row])) (Fin.ext (by blk_simp [idx t]))

/-- Every execution of the kernel's program ends with the gradient, the step and the new moments in its result arrays, its arguments as
    they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0_0) = (fun j => aG m c (j 0) (j 1) : FVec Ideal S1024x512 .f32)
      ∧ r.2.mem ((c.tc : Thread nD τ).loc main_v0_1) = (fun j => aD m c (j 0) (j 1) : FVec Ideal S1024x512 .f32)
      ∧ r.2.mem ((c.tc : Thread nD τ).loc main_v0_2) = (fun j => mNew (aM m c (j 0) (j 1)) (aG m c (j 0) (j 1)) : FVec Ideal S1024x512 .f32)
      ∧ r.2.mem ((c.tc : Thread nD τ).loc main_v0_3) = (fun j => vNew (aV m c (j 0) (j 1)) (aG m c (j 0) (j 1)) : FVec Ideal S1024x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final4, final5, final6, final7] at h
  exact h

end Cert.AdFf1Ideal.Step

namespace Cert.AdFf1ReferenceIdeal.Step

open Cert.AdFf1ReferenceIdeal Cert.AdFf1ReferenceIdeal.Gen
open Idealize.ShloMosaic Idealize.ShloMosaic.TcCoe Idealize.SL.Sem
open Cert.Adam

variable (m : (ℓ : Loc nD τ sig) → Buf (Elt Ideal) ℓ)

/-- The arguments on a device: the weight, its moments, the devices' partial gradients. -/
def aW (c : Dev nD) (i : Fin 1024) (k : Fin 512) : EReal := (m ((c.tc : Thread nD τ).loc main_arg0) : FVec Ideal S1024x512 .f32) (ix2 i k)
def aM (c : Dev nD) (i : Fin 1024) (k : Fin 512) : EReal := (m ((c.tc : Thread nD τ).loc main_arg1) : FVec Ideal S1024x512 .f32) (ix2 i k)
def aV (c : Dev nD) (i : Fin 1024) (k : Fin 512) : EReal := (m ((c.tc : Thread nD τ).loc main_arg2) : FVec Ideal S1024x512 .f32) (ix2 i k)
def aP (c : Dev nD) (p : Fin 8) (i : Fin 1024) (k : Fin 512) : EReal := (m ((c.tc : Thread nD τ).loc main_arg3) : FVec Ideal S8x512x1024 .bf16) (ix3 p k i)
/-- The gradient, and what the step adds to the weight. -/
def aG (c : Dev nD) (i : Fin 1024) (k : Fin 512) : EReal := ∑ p, aP m c p i k
def aD (c : Dev nD) (i : Fin 1024) (k : Fin 512) : EReal := delta (aW m c i k) (aM m c i k) (aV m c i k) (aG m c i k)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v2) = (fun j => aG m c (j 0) (j 1) : FVec Ideal S1024x512 .f32)
      ∧ r.2.mem ((c.tc : Thread nD τ).loc main_v26) = (fun j => aD m c (j 0) (j 1) : FVec Ideal S1024x512 .f32)
      ∧ r.2.mem ((c.tc : Thread nD τ).loc main_v7) = (fun j => mNew (aM m c (j 0) (j 1)) (aG m c (j 0) (j 1)) : FVec Ideal S1024x512 .f32)
      ∧ r.2.mem ((c.tc : Thread nD τ).loc main_v13) = (fun j => vNew (aV m c (j 0) (j 1)) (aG m c (j 0) (j 1)) : FVec Ideal S1024x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, h⟩ := h c
  refine ⟨h0.trans ?_, h1.trans ?_, h2.trans ?_, h3.trans ?_, h⟩
  all_goals
    funext j; idx_vars j
    clear h0 h1 h2 h3 h
    pointwise []
    rfl

end Cert.AdFf1ReferenceIdeal.Step

namespace Cert.AdFf1

open Idealize.ShloMosaic Idealize.ShloMosaic.TcCoe Idealize.SL.Sem

theorem frame : Cert.quiescent_AdFf1 := fun m ρ _ => Cert.AdFf1.Gen.frame m ρ
theorem frame_ideal : Cert.quiescent_AdFf1Ideal := fun m ρ _ => Cert.AdFf1Ideal.Gen.frame m ρ

/-- The reference declares no semaphore. -/
theorem frame_ref : Cert.quiescent_AdFf1ReferenceIdeal := fun m ρ _ =>
  (θ_run Cert.AdFf1ReferenceIdeal.defs _ _).mono (fun r h => ⟨fun c => (h c).2.2.2.2, sem_eq_zero_of_no_sems (by decide) r.2⟩)
    (Cert.AdFf1ReferenceIdeal.Value.run m ρ)

/-- Kernel and reference end with the same arrays. -/
theorem algebraic : Cert.algebraic_AdFf1Ideal_AdFf1ReferenceIdeal := by
  intro m ρ m' ρ' _ hag
  have e0 : ∀ c, AdFf1ReferenceIdeal.Step.aW m' c = AdFf1Ideal.Step.aW m c := fun c => funext fun i => funext fun k => congrFun (hag c).1 (ix2 i k)
  have e1 : ∀ c, AdFf1ReferenceIdeal.Step.aM m' c = AdFf1Ideal.Step.aM m c := fun c => funext fun i => funext fun k => congrFun (hag c).2.1 (ix2 i k)
  have e2 : ∀ c, AdFf1ReferenceIdeal.Step.aV m' c = AdFf1Ideal.Step.aV m c := fun c => funext fun i => funext fun k => congrFun (hag c).2.2.1 (ix2 i k)
  have e3 : ∀ c, AdFf1ReferenceIdeal.Step.aG m' c = AdFf1Ideal.Step.aG m c := fun c => funext fun i => funext fun k =>
    congrArg (fun f : Fin 8 → EReal => ∑ p, f p) (funext fun p => congrFun (hag c).2.2.2 (ix3 p k i))
  have e4 : ∀ c, AdFf1ReferenceIdeal.Step.aD m' c = AdFf1Ideal.Step.aD m c := fun c => by
    unfold AdFf1ReferenceIdeal.Step.aD AdFf1Ideal.Step.aD
    rw [e0, e1, e2, e3]
  have hr := AdFf1ReferenceIdeal.Step.run_spec m' ρ'
  simp only [e1, e2, e3, e4] at hr
  exact ⟨fun c => _, fun c => _, fun c => _, fun c => _, AdFf1Ideal.Step.run_spec m ρ, hr⟩

end Cert.AdFf1

end
-- ==== Proof.Adam.Ff2.lean ====
module

public import proofs.«01_k».proof.Defs
public import proofs.«01_k».proof.Proof.Gen.AdFf2.Frame
public import proofs.«01_k».proof.Proof.Gen.AdFf2Ideal.Value
public import proofs.«01_k».proof.Proof.Gen.AdFf2ReferenceIdeal.Run
public import Idealize.ShloMosaic.Lib.Pipeline.ValueKit
public import proofs.«01_k».proof.Proof.Adam.Spec

@[expose] public section

set_option maxRecDepth 16384

noncomputable section

/-! AdamW on the second feed-forward weight's shard. -/

namespace Cert.AdFf2Ideal.Step

open Cert.AdFf2Ideal Cert.AdFf2Ideal.Gen
open Idealize.ShloMosaic Idealize.ShloMosaic.TcCoe Idealize.SL.Sem
open Idealize.ShloMosaic.Pipeline (Dat)
open Cert.Adam

variable (m : (ℓ : Loc nD τ sig) → Buf (Elt Ideal) ℓ)

/-- The arguments on a device: the weight, its moments, the devices' partial gradients. -/
def aW (c : Dev nD) (i : Fin 512) (k : Fin 1024) : EReal := (m ((c.tc : Thread nD τ).loc main_arg0) : FVec Ideal S512x1024 .f32) (ix2 i k)
def aM (c : Dev nD) (i : Fin 512) (k : Fin 1024) : EReal := (m ((c.tc : Thread nD τ).loc main_arg1) : FVec Ideal S512x1024 .f32) (ix2 i k)
def aV (c : Dev nD) (i : Fin 512) (k : Fin 1024) : EReal := (m ((c.tc : Thread nD τ).loc main_arg2) : FVec Ideal S512x1024 .f32) (ix2 i k)
def aP (c : Dev nD) (p : Fin 8) (i : Fin 512) (k : Fin 1024) : EReal := (m ((c.tc : Thread nD τ).loc main_arg3) : FVec Ideal S8x512x1024 .bf16) (ix3 p i k)
/-- The gradient, and what the step adds to the weight. -/
def aG (c : Dev nD) (i : Fin 512) (k : Fin 1024) : EReal := ∑ p, aP m c p i k
def aD (c : Dev nD) (i : Fin 512) (k : Fin 1024) : EReal := delta (aW m c i k) (aM m c i k) (aV m c i k) (aG m c i k)

/-- Where each point's blocks lie. -/
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] ∧ t.val < 2 :=
  (by decide +kernel : ∀ t : Fin grid0.N, _)

/-- Row `a` of block `t`. -/
def row (t : Fin cfg0.N) (a : Fin 256) : Fin 512 := ⟨t.val * 256 + a.val, by have := (idx t).2.2.2.2.2.2.2.2; omega⟩

theorem b0 (c : Dev nD) (t : Fin cfg0.N) (a : Fin 256) (k : Fin 1024) : (iblk m c 0 t : FVec Ideal S256x1024 .f32) (ix2 a k) = aW m c (row t a) k := by
  unfold aW
  blk_ext! [iblk, V, idx t, row]

theorem b1 (c : Dev nD) (t : Fin cfg0.N) (a : Fin 256) (k : Fin 1024) : (iblk m c 1 t : FVec Ideal S256x1024 .f32) (ix2 a k) = aM m c (row t a) k := by
  unfold aM
  blk_ext! [iblk, V, idx t, row]

theorem b2 (c : Dev nD) (t : Fin cfg0.N) (a : Fin 256) (k : Fin 1024) : (iblk m c 2 t : FVec Ideal S256x1024 .f32) (ix2 a k) = aV m c (row t a) k := by
  unfold aV
  blk_ext! [iblk, V, idx t, row]

theorem b3 (c : Dev nD) (t : Fin cfg0.N) (p : Fin 8) (a : Fin 256) (k : Fin 1024) : (iblk m c 3 t : FVec Ideal S8x256x1024 .bf16) (ix3 p a k) = aP m c p (row t a) k := by
  unfold aP
  blk_ext! [iblk, V, idx t, row]

/-- The eight parts of a block, summed. -/
theorem g_at (x0 x1 x2 : FVec Ideal S256x1024 .f32) (x3 : FVec Ideal S8x256x1024 .bf16) (a : Fin 256) (k : Fin 1024) :
    k0_pay5 (F := Ideal) x0 x1 x2 x3 (ix2 a k) = ∑ p, x3 (ix3 p a k) := by
  rw [← sum8]
  pointwise [k0_pay5, k0_pay4]

theorem m_at (g b : FVec Ideal S256x1024 .f32) (a : Fin 256) (k : Fin 1024) : k0_pay1 (F := Ideal) g b (ix2 a k) = mNew (b (ix2 a k)) (g (ix2 a k)) := by
  pointwise [k0_pay1]
  rfl

theorem v_at (g v : FVec Ideal S256x1024 .f32) (a : Fin 256) (k : Fin 1024) : k0_pay2 (F := Ideal) g v (ix2 a k) = vNew (v (ix2 a k)) (g (ix2 a k)) := by
  pointwise [k0_pay2]
  rfl

theorem d_at (g w b v : FVec Ideal S256x1024 .f32) (a : Fin 256) (k : Fin 1024) :
    k0_pay3 (F := Ideal) g w b v (ix2 a k) = delta (w (ix2 a k)) (b (ix2 a k)) (v (ix2 a k)) (g (ix2 a k)) := by
  pointwise [k0_pay3, k0_pay1, k0_pay2]
  rfl

/-- The gradient on one block. -/
theorem g_block (c : Dev nD) (t : Fin cfg0.N) (a : Fin 256) (k : Fin 1024) :
    k0_pay5 (F := Ideal) (iblk m c 0 t) (iblk m c 1 t) (iblk m c 2 t) (iblk m c 3 t) (ix2 a k) = aG m c (row t a) k :=
  (g_at _ _ _ _ a k).trans (congrArg (fun f : Fin 8 → EReal => ∑ p, f p) (funext fun p => b3 m c t p a k))

theorem final4 (c : Dev nD) : (dats m 0 c).arrAt 4 (cfgs 0).N = (fun j => aG m c (j 0) (j 1) : FVec Ideal S512x1024 .f32) := by
  refine (dats m 0 c).arrAt_eq_of_covers 4 _ (by decide +kernel) fun t hf y => ?_
  blk_simp
  rw [after0_4]
  idx_vars y
  unfold out0_4
  frame_out
  refine (g_block m c t y0 y1).trans ?_
  exact congrArg₂ (fun i f => aG m c i f) (Fin.ext (by blk_simp [idx t, row])) (Fin.ext (by blk_simp [idx t]))

theorem final5 (c : Dev nD) : (dats m 0 c).arrAt 5 (cfgs 0).N = (fun j => aD m c (j 0) (j 1) : FVec Ideal S512x1024 .f32) := by
  refine (dats m 0 c).arrAt_eq_of_covers 5 _ (by decide +kernel) fun t hf y => ?_
  blk_simp
  rw [after0_5]
  idx_vars y
  unfold out0_5
  frame_out
  refine (d_at _ _ _ _ y0 y1).trans ?_
  rw [b0, b1, b2]
  refine (congrArg (delta _ _ _) (g_block m c t y0 y1)).trans ?_
  exact congrArg₂ (fun i f => aD m c i f) (Fin.ext (by blk_simp [idx t, row])) (Fin.ext (by blk_simp [idx t]))

theorem final6 (c : Dev nD) : (dats m 0 c).arrAt 6 (cfgs 0).N = (fun j => mNew (aM m c (j 0) (j 1)) (aG m c (j 0) (j 1)) : FVec Ideal S512x1024 .f32) := by
  refine (dats m 0 c).arrAt_eq_of_covers 6 _ (by decide +kernel) fun t hf y => ?_
  blk_simp
  rw [after0_6]
  idx_vars y
  unfold out0_6
  frame_out
  refine (m_at _ _ y0 y1).trans ?_
  rw [b1]
  refine (congrArg (mNew _) (g_block m c t y0 y1)).trans ?_
  exact congrArg₂ (fun i f => mNew (aM m c i f) (aG m c i f)) (Fin.ext (by blk_simp [idx t, row])) (Fin.ext (by blk_simp [idx t]))

theorem final7 (c : Dev nD) : (dats m 0 c).arrAt 7 (cfgs 0).N = (fun j => vNew (aV m c (j 0) (j 1)) (aG m c (j 0) (j 1)) : FVec Ideal S512x1024 .f32) := by
  refine (dats m 0 c).arrAt_eq_of_covers 7 _ (by decide +kernel) fun t hf y => ?_
  blk_simp
  rw [after0_7]
  idx_vars y
  unfold out0_7
  frame_out
  refine (v_at _ _ y0 y1).trans ?_
  rw [b2]
  refine (congrArg (vNew _) (g_block m c t y0 y1)).trans ?_
  exact congrArg₂ (fun i f => vNew (aV m c i f) (aG m c i f)) (Fin.ext (by blk_simp [idx t, row])) (Fin.ext (by blk_simp [idx t]))

/-- Every execution of the kernel's program ends with the gradient, the step and the new moments in its result arrays, its arguments as
    they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0_0) = (fun j => aG m c (j 0) (j 1) : FVec Ideal S512x1024 .f32)
      ∧ r.2.mem ((c.tc : Thread nD τ).loc main_v0_1) = (fun j => aD m c (j 0) (j 1) : FVec Ideal S512x1024 .f32)
      ∧ r.2.mem ((c.tc : Thread nD τ).loc main_v0_2) = (fun j => mNew (aM m c (j 0) (j 1)) (aG m c (j 0) (j 1)) : FVec Ideal S512x1024 .f32)
      ∧ r.2.mem ((c.tc : Thread nD τ).loc main_v0_3) = (fun j => vNew (aV m c (j 0) (j 1)) (aG m c (j 0) (j 1)) : FVec Ideal S512x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final4, final5, final6, final7] at h
  exact h

end Cert.AdFf2Ideal.Step

namespace Cert.AdFf2ReferenceIdeal.Step

open Cert.AdFf2ReferenceIdeal Cert.AdFf2ReferenceIdeal.Gen
open Idealize.ShloMosaic Idealize.ShloMosaic.TcCoe Idealize.SL.Sem
open Cert.Adam

variable (m : (ℓ : Loc nD τ sig) → Buf (Elt Ideal) ℓ)

/-- The arguments on a device: the weight, its moments, the devices' partial gradients. -/
def aW (c : Dev nD) (i : Fin 512) (k : Fin 1024) : EReal := (m ((c.tc : Thread nD τ).loc main_arg0) : FVec Ideal S512x1024 .f32) (ix2 i k)
def aM (c : Dev nD) (i : Fin 512) (k : Fin 1024) : EReal := (m ((c.tc : Thread nD τ).loc main_arg1) : FVec Ideal S512x1024 .f32) (ix2 i k)
def aV (c : Dev nD) (i : Fin 512) (k : Fin 1024) : EReal := (m ((c.tc : Thread nD τ).loc main_arg2) : FVec Ideal S512x1024 .f32) (ix2 i k)
def aP (c : Dev nD) (p : Fin 8) (i : Fin 512) (k : Fin 1024) : EReal := (m ((c.tc : Thread nD τ).loc main_arg3) : FVec Ideal S8x512x1024 .bf16) (ix3 p i k)
/-- The gradient, and what the step adds to the weight. -/
def aG (c : Dev nD) (i : Fin 512) (k : Fin 1024) : EReal := ∑ p, aP m c p i k
def aD (c : Dev nD) (i : Fin 512) (k : Fin 1024) : EReal := delta (aW m c i k) (aM m c i k) (aV m c i k) (aG m c i k)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v1) = (fun j => aG m c (j 0) (j 1) : FVec Ideal S512x1024 .f32)
      ∧ r.2.mem ((c.tc : Thread nD τ).loc main_v25) = (fun j => aD m c (j 0) (j 1) : FVec Ideal S512x1024 .f32)
      ∧ r.2.mem ((c.tc : Thread nD τ).loc main_v6) = (fun j => mNew (aM m c (j 0) (j 1)) (aG m c (j 0) (j 1)) : FVec Ideal S512x1024 .f32)
      ∧ r.2.mem ((c.tc : Thread nD τ).loc main_v12) = (fun j => vNew (aV m c (j 0) (j 1)) (aG m c (j 0) (j 1)) : FVec Ideal S512x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, h⟩ := h c
  refine ⟨h0.trans ?_, h1.trans ?_, h2.trans ?_, h3.trans ?_, h⟩
  all_goals
    funext j; idx_vars j
    clear h0 h1 h2 h3 h
    pointwise []
    rfl

end Cert.AdFf2ReferenceIdeal.Step

namespace Cert.AdFf2

open Idealize.ShloMosaic Idealize.ShloMosaic.TcCoe Idealize.SL.Sem

theorem frame : Cert.quiescent_AdFf2 := fun m ρ _ => Cert.AdFf2.Gen.frame m ρ
theorem frame_ideal : Cert.quiescent_AdFf2Ideal := fun m ρ _ => Cert.AdFf2Ideal.Gen.frame m ρ

/-- The reference declares no semaphore. -/
theorem frame_ref : Cert.quiescent_AdFf2ReferenceIdeal := fun m ρ _ =>
  (θ_run Cert.AdFf2ReferenceIdeal.defs _ _).mono (fun r h => ⟨fun c => (h c).2.2.2.2, sem_eq_zero_of_no_sems (by decide) r.2⟩)
    (Cert.AdFf2ReferenceIdeal.Value.run m ρ)

/-- Kernel and reference end with the same arrays. -/
theorem algebraic : Cert.algebraic_AdFf2Ideal_AdFf2ReferenceIdeal := by
  intro m ρ m' ρ' _ hag
  have e0 : ∀ c, AdFf2ReferenceIdeal.Step.aW m' c = AdFf2Ideal.Step.aW m c := fun c => funext fun i => funext fun k => congrFun (hag c).1 (ix2 i k)
  have e1 : ∀ c, AdFf2ReferenceIdeal.Step.aM m' c = AdFf2Ideal.Step.aM m c := fun c => funext fun i => funext fun k => congrFun (hag c).2.1 (ix2 i k)
  have e2 : ∀ c, AdFf2ReferenceIdeal.Step.aV m' c = AdFf2Ideal.Step.aV m c := fun c => funext fun i => funext fun k => congrFun (hag c).2.2.1 (ix2 i k)
  have e3 : ∀ c, AdFf2ReferenceIdeal.Step.aG m' c = AdFf2Ideal.Step.aG m c := fun c => funext fun i => funext fun k =>
    congrArg (fun f : Fin 8 → EReal => ∑ p, f p) (funext fun p => congrFun (hag c).2.2.2 (ix3 p i k))
  have e4 : ∀ c, AdFf2ReferenceIdeal.Step.aD m' c = AdFf2Ideal.Step.aD m c := fun c => by
    unfold AdFf2ReferenceIdeal.Step.aD AdFf2Ideal.Step.aD
    rw [e0, e1, e2, e3]
  have hr := AdFf2ReferenceIdeal.Step.run_spec m' ρ'
  simp only [e1, e2, e3, e4] at hr
  exact ⟨fun c => _, fun c => _, fun c => _, fun c => _, AdFf2Ideal.Step.run_spec m ρ, hr⟩

end Cert.AdFf2

end
-- ==== Proof.Adam.Sgu.lean ====
module

public import proofs.«01_k».proof.Defs
public import proofs.«01_k».proof.Proof.Gen.AdSgu.Frame
public import proofs.«01_k».proof.Proof.Gen.AdSguIdeal.Value
public import proofs.«01_k».proof.Proof.Gen.AdSguReferenceIdeal.Run
public import Idealize.ShloMosaic.Lib.Pipeline.ValueKit
public import proofs.«01_k».proof.Proof.Adam.Spec

@[expose] public section

set_option maxRecDepth 16384

noncomputable section

/-! AdamW on the gate's weight. -/

namespace Cert.AdSguIdeal.Step

open Cert.AdSguIdeal Cert.AdSguIdeal.Gen
open Idealize.ShloMosaic Idealize.ShloMosaic.TcCoe Idealize.SL.Sem
open Idealize.ShloMosaic.Pipeline (Dat)
open Cert.Adam

variable (m : (ℓ : Loc nD τ sig) → Buf (Elt Ideal) ℓ)

/-- The arguments on a device: the weight, its moments, the devices' partial gradients. -/
def aW (c : Dev nD) (i : Fin 512) (k : Fin 128) : EReal := (m ((c.tc : Thread nD τ).loc main_arg0) : FVec Ideal S512x128 .f32) (ix2 i k)
def aM (c : Dev nD) (i : Fin 512) (k : Fin 128) : EReal := (m ((c.tc : Thread nD τ).loc main_arg1) : FVec Ideal S512x128 .f32) (ix2 i k)
def aV (c : Dev nD) (i : Fin 512) (k : Fin 128) : EReal := (m ((c.tc : Thread nD τ).loc main_arg2) : FVec Ideal S512x128 .f32) (ix2 i k)
def aP (c : Dev nD) (p : Fin 8) (i : Fin 512) (k : Fin 128) : EReal := (m ((c.tc : Thread nD τ).loc main_arg3) : FVec Ideal S8x512x128 .bf16) (ix3 p i k)
/-- The gradient, and what the step adds to the weight. -/
def aG (c : Dev nD) (i : Fin 512) (k : Fin 128) : EReal := ∑ p, aP m c p i k
def aD (c : Dev nD) (i : Fin 512) (k : Fin 128) : EReal := delta (aW m c i k) (aM m c i k) (aV m c i k) (aG m c i k)

/-- Where each point's blocks lie. -/
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] ∧ t.val < 1 :=
  (by decide +kernel : ∀ t : Fin grid0.N, _)

/-- Row `a` of block `t`. -/
def row (t : Fin cfg0.N) (a : Fin 512) : Fin 512 := ⟨t.val * 512 + a.val, by have := (idx t).2.2.2.2.2.2.2.2; omega⟩

theorem b0 (c : Dev nD) (t : Fin cfg0.N) (a : Fin 512) (k : Fin 128) : (iblk m c 0 t : FVec Ideal S512x128 .f32) (ix2 a k) = aW m c (row t a) k := by
  unfold aW
  blk_ext! [iblk, V, idx t, row]

theorem b1 (c : Dev nD) (t : Fin cfg0.N) (a : Fin 512) (k : Fin 128) : (iblk m c 1 t : FVec Ideal S512x128 .f32) (ix2 a k) = aM m c (row t a) k := by
  unfold aM
  blk_ext! [iblk, V, idx t, row]

theorem b2 (c : Dev nD) (t : Fin cfg0.N) (a : Fin 512) (k : Fin 128) : (iblk m c 2 t : FVec Ideal S512x128 .f32) (ix2 a k) = aV m c (row t a) k := by
  unfold aV
  blk_ext! [iblk, V, idx t, row]

theorem b3 (c : Dev nD) (t : Fin cfg0.N) (p : Fin 8) (a : Fin 512) (k : Fin 128) : (iblk m c 3 t : FVec Ideal S8x512x128 .bf16) (ix3 p a k) = aP m c p (row t a) k := by
  unfold aP
  blk_ext! [iblk, V, idx t, row]

/-- The eight parts of a block, summed. -/
theorem g_at (x0 x1 x2 : FVec Ideal S512x128 .f32) (x3 : FVec Ideal S8x512x128 .bf16) (a : Fin 512) (k : Fin 128) :
    k0_pay5 (F := Ideal) x0 x1 x2 x3 (ix2 a k) = ∑ p, x3 (ix3 p a k) := by
  rw [← sum8]
  pointwise [k0_pay5, k0_pay4]

theorem m_at (g b : FVec Ideal S512x128 .f32) (a : Fin 512) (k : Fin 128) : k0_pay1 (F := Ideal) g b (ix2 a k) = mNew (b (ix2 a k)) (g (ix2 a k)) := by
  pointwise [k0_pay1]
  rfl

theorem v_at (g v : FVec Ideal S512x128 .f32) (a : Fin 512) (k : Fin 128) : k0_pay2 (F := Ideal) g v (ix2 a k) = vNew (v (ix2 a k)) (g (ix2 a k)) := by
  pointwise [k0_pay2]
  rfl

theorem d_at (g w b v : FVec Ideal S512x128 .f32) (a : Fin 512) (k : Fin 128) :
    k0_pay3 (F := Ideal) g w b v (ix2 a k) = delta (w (ix2 a k)) (b (ix2 a k)) (v (ix2 a k)) (g (ix2 a k)) := by
  pointwise [k0_pay3, k0_pay1, k0_pay2]
  rfl

/-- The gradient on one block. -/
theorem g_block (c : Dev nD) (t : Fin cfg0.N) (a : Fin 512) (k : Fin 128) :
    k0_pay5 (F := Ideal) (iblk m c 0 t) (iblk m c 1 t) (iblk m c 2 t) (iblk m c 3 t) (ix2 a k) = aG m c (row t a) k :=
  (g_at _ _ _ _ a k).trans (congrArg (fun f : Fin 8 → EReal => ∑ p, f p) (funext fun p => b3 m c t p a k))

theorem final4 (c : Dev nD) : (dats m 0 c).arrAt 4 (cfgs 0).N = (fun j => aG m c (j 0) (j 1) : FVec Ideal S512x128 .f32) := by
  refine (dats m 0 c).arrAt_eq_of_covers 4 _ (by decide +kernel) fun t hf y => ?_
  blk_simp
  rw [after0_4]
  idx_vars y
  unfold out0_4
  frame_out
  refine (g_block m c t y0 y1).trans ?_
  exact congrArg₂ (fun i f => aG m c i f) (Fin.ext (by blk_simp [idx t, row])) (Fin.ext (by blk_simp [idx t]))

theorem final5 (c : Dev nD) : (dats m 0 c).arrAt 5 (cfgs 0).N = (fun j => aD m c (j 0) (j 1) : FVec Ideal S512x128 .f32) := by
  refine (dats m 0 c).arrAt_eq_of_covers 5 _ (by decide +kernel) fun t hf y => ?_
  blk_simp
  rw [after0_5]
  idx_vars y
  unfold out0_5
  frame_out
  refine (d_at _ _ _ _ y0 y1).trans ?_
  rw [b0, b1, b2]
  refine (congrArg (delta _ _ _) (g_block m c t y0 y1)).trans ?_
  exact congrArg₂ (fun i f => aD m c i f) (Fin.ext (by blk_simp [idx t, row])) (Fin.ext (by blk_simp [idx t]))

theorem final6 (c : Dev nD) : (dats m 0 c).arrAt 6 (cfgs 0).N = (fun j => mNew (aM m c (j 0) (j 1)) (aG m c (j 0) (j 1)) : FVec Ideal S512x128 .f32) := by
  refine (dats m 0 c).arrAt_eq_of_covers 6 _ (by decide +kernel) fun t hf y => ?_
  blk_simp
  rw [after0_6]
  idx_vars y
  unfold out0_6
  frame_out
  refine (m_at _ _ y0 y1).trans ?_
  rw [b1]
  refine (congrArg (mNew _) (g_block m c t y0 y1)).trans ?_
  exact congrArg₂ (fun i f => mNew (aM m c i f) (aG m c i f)) (Fin.ext (by blk_simp [idx t, row])) (Fin.ext (by blk_simp [idx t]))

theorem final7 (c : Dev nD) : (dats m 0 c).arrAt 7 (cfgs 0).N = (fun j => vNew (aV m c (j 0) (j 1)) (aG m c (j 0) (j 1)) : FVec Ideal S512x128 .f32) := by
  refine (dats m 0 c).arrAt_eq_of_covers 7 _ (by decide +kernel) fun t hf y => ?_
  blk_simp
  rw [after0_7]
  idx_vars y
  unfold out0_7
  frame_out
  refine (v_at _ _ y0 y1).trans ?_
  rw [b2]
  refine (congrArg (vNew _) (g_block m c t y0 y1)).trans ?_
  exact congrArg₂ (fun i f => vNew (aV m c i f) (aG m c i f)) (Fin.ext (by blk_simp [idx t, row])) (Fin.ext (by blk_simp [idx t]))

/-- Every execution of the kernel's program ends with the gradient, the step and the new moments in its result arrays, its arguments as
    they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0_0) = (fun j => aG m c (j 0) (j 1) : FVec Ideal S512x128 .f32)
      ∧ r.2.mem ((c.tc : Thread nD τ).loc main_v0_1) = (fun j => aD m c (j 0) (j 1) : FVec Ideal S512x128 .f32)
      ∧ r.2.mem ((c.tc : Thread nD τ).loc main_v0_2) = (fun j => mNew (aM m c (j 0) (j 1)) (aG m c (j 0) (j 1)) : FVec Ideal S512x128 .f32)
      ∧ r.2.mem ((c.tc : Thread nD τ).loc main_v0_3) = (fun j => vNew (aV m c (j 0) (j 1)) (aG m c (j 0) (j 1)) : FVec Ideal S512x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run_blocks m ρ)
  have h := h c
  rw [final4, final5, final6, final7] at h
  exact h

end Cert.AdSguIdeal.Step

namespace Cert.AdSguReferenceIdeal.Step

open Cert.AdSguReferenceIdeal Cert.AdSguReferenceIdeal.Gen
open Idealize.ShloMosaic Idealize.ShloMosaic.TcCoe Idealize.SL.Sem
open Cert.Adam

variable (m : (ℓ : Loc nD τ sig) → Buf (Elt Ideal) ℓ)

/-- The arguments on a device: the weight, its moments, the devices' partial gradients. -/
def aW (c : Dev nD) (i : Fin 512) (k : Fin 128) : EReal := (m ((c.tc : Thread nD τ).loc main_arg0) : FVec Ideal S512x128 .f32) (ix2 i k)
def aM (c : Dev nD) (i : Fin 512) (k : Fin 128) : EReal := (m ((c.tc : Thread nD τ).loc main_arg1) : FVec Ideal S512x128 .f32) (ix2 i k)
def aV (c : Dev nD) (i : Fin 512) (k : Fin 128) : EReal := (m ((c.tc : Thread nD τ).loc main_arg2) : FVec Ideal S512x128 .f32) (ix2 i k)
def aP (c : Dev nD) (p : Fin 8) (i : Fin 512) (k : Fin 128) : EReal := (m ((c.tc : Thread nD τ).loc main_arg3) : FVec Ideal S8x512x128 .bf16) (ix3 p i k)
/-- The gradient, and what the step adds to the weight. -/
def aG (c : Dev nD) (i : Fin 512) (k : Fin 128) : EReal := ∑ p, aP m c p i k
def aD (c : Dev nD) (i : Fin 512) (k : Fin 128) : EReal := delta (aW m c i k) (aM m c i k) (aV m c i k) (aG m c i k)

/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v1) = (fun j => aG m c (j 0) (j 1) : FVec Ideal S512x128 .f32)
      ∧ r.2.mem ((c.tc : Thread nD τ).loc main_v25) = (fun j => aD m c (j 0) (j 1) : FVec Ideal S512x128 .f32)
      ∧ r.2.mem ((c.tc : Thread nD τ).loc main_v6) = (fun j => mNew (aM m c (j 0) (j 1)) (aG m c (j 0) (j 1)) : FVec Ideal S512x128 .f32)
      ∧ r.2.mem ((c.tc : Thread nD τ).loc main_v12) = (fun j => vNew (aV m c (j 0) (j 1)) (aG m c (j 0) (j 1)) : FVec Ideal S512x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run m ρ)
  obtain ⟨h0, h1, h2, h3, h⟩ := h c
  refine ⟨h0.trans ?_, h1.trans ?_, h2.trans ?_, h3.trans ?_, h⟩
  all_goals
    funext j; idx_vars j
    clear h0 h1 h2 h3 h
    pointwise []
    rfl

end Cert.AdSguReferenceIdeal.Step

namespace Cert.AdSgu

open Idealize.ShloMosaic Idealize.ShloMosaic.TcCoe Idealize.SL.Sem

theorem frame : Cert.quiescent_AdSgu := fun m ρ _ => Cert.AdSgu.Gen.frame m ρ
theorem frame_ideal : Cert.quiescent_AdSguIdeal := fun m ρ _ => Cert.AdSguIdeal.Gen.frame m ρ

/-- The reference declares no semaphore. -/
theorem frame_ref : Cert.quiescent_AdSguReferenceIdeal := fun m ρ _ =>
  (θ_run Cert.AdSguReferenceIdeal.defs _ _).mono (fun r h => ⟨fun c => (h c).2.2.2.2, sem_eq_zero_of_no_sems (by decide) r.2⟩)
    (Cert.AdSguReferenceIdeal.Value.run m ρ)

/-- Kernel and reference end with the same arrays. -/
theorem algebraic : Cert.algebraic_AdSguIdeal_AdSguReferenceIdeal := by
  intro m ρ m' ρ' _ hag
  have e0 : ∀ c, AdSguReferenceIdeal.Step.aW m' c = AdSguIdeal.Step.aW m c := fun c => funext fun i => funext fun k => congrFun (hag c).1 (ix2 i k)
  have e1 : ∀ c, AdSguReferenceIdeal.Step.aM m' c = AdSguIdeal.Step.aM m c := fun c => funext fun i => funext fun k => congrFun (hag c).2.1 (ix2 i k)
  have e2 : ∀ c, AdSguReferenceIdeal.Step.aV m' c = AdSguIdeal.Step.aV m c := fun c => funext fun i => funext fun k => congrFun (hag c).2.2.1 (ix2 i k)
  have e3 : ∀ c, AdSguReferenceIdeal.Step.aG m' c = AdSguIdeal.Step.aG m c := fun c => funext fun i => funext fun k =>
    congrArg (fun f : Fin 8 → EReal => ∑ p, f p) (funext fun p => congrFun (hag c).2.2.2 (ix3 p i k))
  have e4 : ∀ c, AdSguReferenceIdeal.Step.aD m' c = AdSguIdeal.Step.aD m c := fun c => by
    unfold AdSguReferenceIdeal.Step.aD AdSguIdeal.Step.aD
    rw [e0, e1, e2, e3]
  have hr := AdSguReferenceIdeal.Step.run_spec m' ρ'
  simp only [e1, e2, e3, e4] at hr
  exact ⟨fun c => _, fun c => _, fun c => _, fun c => _, AdSguIdeal.Step.run_spec m ρ, hr⟩

end Cert.AdSgu

end
-- ==== Proof.Adam.TinyRun.lean ====
/- The optimiser's step on the eight small arrays: what a run of the call leaves. The body is run once, whole. -/
module

public import proofs.«01_k».proof.Proof.Gen.AdTinyIdeal.Launch
public import proofs.«01_k».proof.Proof.Gen.AdTinyIdeal.Skeleton
public import proofs.«01_k».proof.Proof.Gen.AdTinyIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdTinyIdeal.Tiny

open Cert.AdTinyIdeal Cert.AdTinyIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The arrays when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S8x72x128 := Rect.unit (s := S8x72x128) ![0, 0, 0] S1x8x128.size inb_S8x72x128_S1x8x128_0_0_0
abbrev r0_1 : Rect S8x72x128 := Rect.unit (s := S8x72x128) ![1, 0, 0] S1x8x128.size inb_S8x72x128_S1x8x128_1_0_0
abbrev r0_2 : Rect S8x72x128 := Rect.unit (s := S8x72x128) ![2, 0, 0] S1x8x128.size inb_S8x72x128_S1x8x128_2_0_0
abbrev r0_3 : Rect S8x72x128 := Rect.unit (s := S8x72x128) ![3, 0, 0] S1x8x128.size inb_S8x72x128_S1x8x128_3_0_0
abbrev r0_4 : Rect S8x72x128 := Rect.unit (s := S8x72x128) ![4, 0, 0] S1x8x128.size inb_S8x72x128_S1x8x128_4_0_0
abbrev r0_5 : Rect S8x72x128 := Rect.unit (s := S8x72x128) ![5, 0, 0] S1x8x128.size inb_S8x72x128_S1x8x128_5_0_0
abbrev r0_6 : Rect S8x72x128 := Rect.unit (s := S8x72x128) ![6, 0, 0] S1x8x128.size inb_S8x72x128_S1x8x128_6_0_0
abbrev r0_7 : Rect S8x72x128 := Rect.unit (s := S8x72x128) ![7, 0, 0] S1x8x128.size inb_S8x72x128_S1x8x128_7_0_0
abbrev r0_8 : Rect S8x128 := Rect.unit (s := S8x128) ![0, 0] S8x128.size inb_S8x128_S8x128_0_0
abbrev r0_9 : Rect S8x72x128 := Rect.unit (s := S8x72x128) ![0, 8, 0] S1x2x128.size inb_S8x72x128_S1x2x128_0_8_0
abbrev r0_10 : Rect S8x72x128 := Rect.unit (s := S8x72x128) ![1, 8, 0] S1x2x128.size inb_S8x72x128_S1x2x128_1_8_0
abbrev r0_11 : Rect S8x72x128 := Rect.unit (s := S8x72x128) ![2, 8, 0] S1x2x128.size inb_S8x72x128_S1x2x128_2_8_0
abbrev r0_12 : Rect S8x72x128 := Rect.unit (s := S8x72x128) ![3, 8, 0] S1x2x128.size inb_S8x72x128_S1x2x128_3_8_0
abbrev r0_13 : Rect S8x72x128 := Rect.unit (s := S8x72x128) ![4, 8, 0] S1x2x128.size inb_S8x72x128_S1x2x128_4_8_0
abbrev r0_14 : Rect S8x72x128 := Rect.unit (s := S8x72x128) ![5, 8, 0] S1x2x128.size inb_S8x72x128_S1x2x128_5_8_0
abbrev r0_15 : Rect S8x72x128 := Rect.unit (s := S8x72x128) ![6, 8, 0] S1x2x128.size inb_S8x72x128_S1x2x128_6_8_0
abbrev r0_16 : Rect S8x72x128 := Rect.unit (s := S8x72x128) ![7, 8, 0] S1x2x128.size inb_S8x72x128_S1x2x128_7_8_0
abbrev r0_17 : Rect S2x128 := Rect.unit (s := S2x128) ![0, 0] S2x128.size inb_S2x128_S2x128_0_0
abbrev r0_18 : Rect S8x72x128 := Rect.unit (s := S8x72x128) ![0, 16, 0] S1x2x128.size inb_S8x72x128_S1x2x128_0_16_0
abbrev r0_19 : Rect S8x72x128 := Rect.unit (s := S8x72x128) ![1, 16, 0] S1x2x128.size inb_S8x72x128_S1x2x128_1_16_0
abbrev r0_20 : Rect S8x72x128 := Rect.unit (s := S8x72x128) ![2, 16, 0] S1x2x128.size inb_S8x72x128_S1x2x128_2_16_0
abbrev r0_21 : Rect S8x72x128 := Rect.unit (s := S8x72x128) ![3, 16, 0] S1x2x128.size inb_S8x72x128_S1x2x128_3_16_0
abbrev r0_22 : Rect S8x72x128 := Rect.unit (s := S8x72x128) ![4, 16, 0] S1x2x128.size inb_S8x72x128_S1x2x128_4_16_0
abbrev r0_23 : Rect S8x72x128 := Rect.unit (s := S8x72x128) ![5, 16, 0] S1x2x128.size inb_S8x72x128_S1x2x128_5_16_0
abbrev r0_24 : Rect S8x72x128 := Rect.unit (s := S8x72x128) ![6, 16, 0] S1x2x128.size inb_S8x72x128_S1x2x128_6_16_0
abbrev r0_25 : Rect S8x72x128 := Rect.unit (s := S8x72x128) ![7, 16, 0] S1x2x128.size inb_S8x72x128_S1x2x128_7_16_0
abbrev r0_26 : Rect S8x72x128 := Rect.unit (s := S8x72x128) ![0, 24, 0] S1x4x128.size inb_S8x72x128_S1x4x128_0_24_0
abbrev r0_27 : Rect S8x72x128 := Rect.unit (s := S8x72x128) ![1, 24, 0] S1x4x128.size inb_S8x72x128_S1x4x128_1_24_0
abbrev r0_28 : Rect S8x72x128 := Rect.unit (s := S8x72x128) ![2, 24, 0] S1x4x128.size inb_S8x72x128_S1x4x128_2_24_0
abbrev r0_29 : Rect S8x72x128 := Rect.unit (s := S8x72x128) ![3, 24, 0] S1x4x128.size inb_S8x72x128_S1x4x128_3_24_0
abbrev r0_30 : Rect S8x72x128 := Rect.unit (s := S8x72x128) ![4, 24, 0] S1x4x128.size inb_S8x72x128_S1x4x128_4_24_0
abbrev r0_31 : Rect S8x72x128 := Rect.unit (s := S8x72x128) ![5, 24, 0] S1x4x128.size inb_S8x72x128_S1x4x128_5_24_0
abbrev r0_32 : Rect S8x72x128 := Rect.unit (s := S8x72x128) ![6, 24, 0] S1x4x128.size inb_S8x72x128_S1x4x128_6_24_0
abbrev r0_33 : Rect S8x72x128 := Rect.unit (s := S8x72x128) ![7, 24, 0] S1x4x128.size inb_S8x72x128_S1x4x128_7_24_0
abbrev r0_34 : Rect S4x128 := Rect.unit (s := S4x128) ![0, 0] S4x128.size inb_S4x128_S4x128_0_0
abbrev r0_35 : Rect S8x72x128 := Rect.unit (s := S8x72x128) ![0, 32, 0] S1x6x128.size inb_S8x72x128_S1x6x128_0_32_0
abbrev r0_36 : Rect S8x72x128 := Rect.unit (s := S8x72x128) ![1, 32, 0] S1x6x128.size inb_S8x72x128_S1x6x128_1_32_0
abbrev r0_37 : Rect S8x72x128 := Rect.unit (s := S8x72x128) ![2, 32, 0] S1x6x128.size inb_S8x72x128_S1x6x128_2_32_0
abbrev r0_38 : Rect S8x72x128 := Rect.unit (s := S8x72x128) ![3, 32, 0] S1x6x128.size inb_S8x72x128_S1x6x128_3_32_0
abbrev r0_39 : Rect S8x72x128 := Rect.unit (s := S8x72x128) ![4, 32, 0] S1x6x128.size inb_S8x72x128_S1x6x128_4_32_0
abbrev r0_40 : Rect S8x72x128 := Rect.unit (s := S8x72x128) ![5, 32, 0] S1x6x128.size inb_S8x72x128_S1x6x128_5_32_0
abbrev r0_41 : Rect S8x72x128 := Rect.unit (s := S8x72x128) ![6, 32, 0] S1x6x128.size inb_S8x72x128_S1x6x128_6_32_0
abbrev r0_42 : Rect S8x72x128 := Rect.unit (s := S8x72x128) ![7, 32, 0] S1x6x128.size inb_S8x72x128_S1x6x128_7_32_0
abbrev r0_43 : Rect S6x128 := Rect.unit (s := S6x128) ![0, 0] S6x128.size inb_S6x128_S6x128_0_0
abbrev r0_44 : Rect S8x72x128 := Rect.unit (s := S8x72x128) ![0, 40, 0] S1x2x128.size inb_S8x72x128_S1x2x128_0_40_0
abbrev r0_45 : Rect S8x72x128 := Rect.unit (s := S8x72x128) ![1, 40, 0] S1x2x128.size inb_S8x72x128_S1x2x128_1_40_0
abbrev r0_46 : Rect S8x72x128 := Rect.unit (s := S8x72x128) ![2, 40, 0] S1x2x128.size inb_S8x72x128_S1x2x128_2_40_0
abbrev r0_47 : Rect S8x72x128 := Rect.unit (s := S8x72x128) ![3, 40, 0] S1x2x128.size inb_S8x72x128_S1x2x128_3_40_0
abbrev r0_48 : Rect S8x72x128 := Rect.unit (s := S8x72x128) ![4, 40, 0] S1x2x128.size inb_S8x72x128_S1x2x128_4_40_0
abbrev r0_49 : Rect S8x72x128 := Rect.unit (s := S8x72x128) ![5, 40, 0] S1x2x128.size inb_S8x72x128_S1x2x128_5_40_0
abbrev r0_50 : Rect S8x72x128 := Rect.unit (s := S8x72x128) ![6, 40, 0] S1x2x128.size inb_S8x72x128_S1x2x128_6_40_0
abbrev r0_51 : Rect S8x72x128 := Rect.unit (s := S8x72x128) ![7, 40, 0] S1x2x128.size inb_S8x72x128_S1x2x128_7_40_0
abbrev r0_52 : Rect S8x72x128 := Rect.unit (s := S8x72x128) ![0, 48, 0] S1x8x128.size inb_S8x72x128_S1x8x128_0_48_0
abbrev r0_53 : Rect S8x72x128 := Rect.unit (s := S8x72x128) ![1, 48, 0] S1x8x128.size inb_S8x72x128_S1x8x128_1_48_0
abbrev r0_54 : Rect S8x72x128 := Rect.unit (s := S8x72x128) ![2, 48, 0] S1x8x128.size inb_S8x72x128_S1x8x128_2_48_0
abbrev r0_55 : Rect S8x72x128 := Rect.unit (s := S8x72x128) ![3, 48, 0] S1x8x128.size inb_S8x72x128_S1x8x128_3_48_0
abbrev r0_56 : Rect S8x72x128 := Rect.unit (s := S8x72x128) ![4, 48, 0] S1x8x128.size inb_S8x72x128_S1x8x128_4_48_0
abbrev r0_57 : Rect S8x72x128 := Rect.unit (s := S8x72x128) ![5, 48, 0] S1x8x128.size inb_S8x72x128_S1x8x128_5_48_0
abbrev r0_58 : Rect S8x72x128 := Rect.unit (s := S8x72x128) ![6, 48, 0] S1x8x128.size inb_S8x72x128_S1x8x128_6_48_0
abbrev r0_59 : Rect S8x72x128 := Rect.unit (s := S8x72x128) ![7, 48, 0] S1x8x128.size inb_S8x72x128_S1x8x128_7_48_0
abbrev r0_60 : Rect S8x72x128 := Rect.unit (s := S8x72x128) ![0, 56, 0] S1x8x128.size inb_S8x72x128_S1x8x128_0_56_0
abbrev r0_61 : Rect S8x72x128 := Rect.unit (s := S8x72x128) ![1, 56, 0] S1x8x128.size inb_S8x72x128_S1x8x128_1_56_0
abbrev r0_62 : Rect S8x72x128 := Rect.unit (s := S8x72x128) ![2, 56, 0] S1x8x128.size inb_S8x72x128_S1x8x128_2_56_0
abbrev r0_63 : Rect S8x72x128 := Rect.unit (s := S8x72x128) ![3, 56, 0] S1x8x128.size inb_S8x72x128_S1x8x128_3_56_0
abbrev r0_64 : Rect S8x72x128 := Rect.unit (s := S8x72x128) ![4, 56, 0] S1x8x128.size inb_S8x72x128_S1x8x128_4_56_0
abbrev r0_65 : Rect S8x72x128 := Rect.unit (s := S8x72x128) ![5, 56, 0] S1x8x128.size inb_S8x72x128_S1x8x128_5_56_0
abbrev r0_66 : Rect S8x72x128 := Rect.unit (s := S8x72x128) ![6, 56, 0] S1x8x128.size inb_S8x72x128_S1x8x128_6_56_0
abbrev r0_67 : Rect S8x72x128 := Rect.unit (s := S8x72x128) ![7, 56, 0] S1x8x128.size inb_S8x72x128_S1x8x128_7_56_0
abbrev r0_68 : Rect S8x72x128 := Rect.unit (s := S8x72x128) ![0, 64, 0] S1x8x128.size inb_S8x72x128_S1x8x128_0_64_0
abbrev r0_69 : Rect S8x72x128 := Rect.unit (s := S8x72x128) ![1, 64, 0] S1x8x128.size inb_S8x72x128_S1x8x128_1_64_0
abbrev r0_70 : Rect S8x72x128 := Rect.unit (s := S8x72x128) ![2, 64, 0] S1x8x128.size inb_S8x72x128_S1x8x128_2_64_0
abbrev r0_71 : Rect S8x72x128 := Rect.unit (s := S8x72x128) ![3, 64, 0] S1x8x128.size inb_S8x72x128_S1x8x128_3_64_0
abbrev r0_72 : Rect S8x72x128 := Rect.unit (s := S8x72x128) ![4, 64, 0] S1x8x128.size inb_S8x72x128_S1x8x128_4_64_0
abbrev r0_73 : Rect S8x72x128 := Rect.unit (s := S8x72x128) ![5, 64, 0] S1x8x128.size inb_S8x72x128_S1x8x128_5_64_0
abbrev r0_74 : Rect S8x72x128 := Rect.unit (s := S8x72x128) ![6, 64, 0] S1x8x128.size inb_S8x72x128_S1x8x128_6_64_0
abbrev r0_75 : Rect S8x72x128 := Rect.unit (s := S8x72x128) ![7, 64, 0] S1x8x128.size inb_S8x72x128_S1x8x128_7_64_0

def q44 (x24 : Vec F S8x72x128 .f32) : FVec F S8x128 .f32 :=
  k0_pay2 (View.ld x24 r0_0) (View.ld x24 r0_1) (View.ld x24 r0_2) (View.ld x24 r0_3) (View.ld x24 r0_4) (View.ld x24 r0_5) (View.ld x24 r0_6) (View.ld x24 r0_7)
def q45 (x24 : Vec F S8x72x128 .f32) : FVec F S2x128 .f32 :=
  k0_pay6 (View.ld x24 r0_9) (View.ld x24 r0_10)
def q46 (x9 : Vec F S2x128 .f32) (x24 : Vec F S8x72x128 .f32) : FVec F S2x128 .f32 :=
  k0_pay8 (q45 x24) (View.ld x24 r0_11) (View.ld x24 r0_12) (View.ld x24 r0_13) (View.ld x24 r0_14) (View.ld x24 r0_15) (View.ld x24 r0_16) (View.ld x9 r0_17)
def q47 (x17 : Vec F S2x128 .f32) (x24 : Vec F S8x72x128 .f32) : FVec F S2x128 .f32 :=
  k0_pay9 (q45 x24) (View.ld x24 r0_11) (View.ld x24 r0_12) (View.ld x24 r0_13) (View.ld x24 r0_14) (View.ld x24 r0_15) (View.ld x24 r0_16) (View.ld x17 r0_17)
def q48 (x24 : Vec F S8x72x128 .f32) : FVec F S2x128 .f32 :=
  k0_pay11 (View.ld x24 r0_18) (View.ld x24 r0_19) (View.ld x24 r0_20) (View.ld x24 r0_21) (View.ld x24 r0_22)
def q49 (x24 : Vec F S8x72x128 .f32) : FVec F S4x128 .f32 :=
  k0_pay17 (View.ld x24 r0_26) (View.ld x24 r0_27) (View.ld x24 r0_28) (View.ld x24 r0_29) (View.ld x24 r0_30) (View.ld x24 r0_31) (View.ld x24 r0_32)
def q50 (x24 : Vec F S8x72x128 .f32) : FVec F S6x128 .f32 :=
  k0_pay22 (View.ld x24 r0_35) (View.ld x24 r0_36) (View.ld x24 r0_37) (View.ld x24 r0_38) (View.ld x24 r0_39) (View.ld x24 r0_40) (View.ld x24 r0_41) (View.ld x24 r0_42)
def q51 (x24 : Vec F S8x72x128 .f32) : FVec F S2x128 .f32 :=
  k0_pay26 (View.ld x24 r0_44) (View.ld x24 r0_45)
def q52 (x13 : Vec F S2x128 .f32) (x24 : Vec F S8x72x128 .f32) : FVec F S2x128 .f32 :=
  k0_pay28 (q51 x24) (View.ld x24 r0_46) (View.ld x24 r0_47) (View.ld x24 r0_48) (View.ld x24 r0_49) (View.ld x24 r0_50) (View.ld x24 r0_51) (View.ld x13 r0_17)
def q53 (x21 : Vec F S2x128 .f32) (x24 : Vec F S8x72x128 .f32) : FVec F S2x128 .f32 :=
  k0_pay29 (q51 x24) (View.ld x24 r0_46) (View.ld x24 r0_47) (View.ld x24 r0_48) (View.ld x24 r0_49) (View.ld x24 r0_50) (View.ld x24 r0_51) (View.ld x21 r0_17)
def q54 (x24 : Vec F S8x72x128 .f32) : FVec F S8x128 .f32 :=
  k0_pay31 (View.ld x24 r0_52) (View.ld x24 r0_53) (View.ld x24 r0_54) (View.ld x24 r0_55) (View.ld x24 r0_56)
def q55 (x24 : Vec F S8x72x128 .f32) : FVec F S8x128 .f32 :=
  k0_pay37 (View.ld x24 r0_60) (View.ld x24 r0_61) (View.ld x24 r0_62) (View.ld x24 r0_63) (View.ld x24 r0_64) (View.ld x24 r0_65) (View.ld x24 r0_66)

def out25 (x24 : Vec F S8x72x128 .f32) : Vec F S8x128 .f32 := View.canon [⟨r0_8, k0_pay2 (View.ld x24 r0_0) (View.ld x24 r0_1) (View.ld x24 r0_2) (View.ld x24 r0_3) (View.ld x24 r0_4) (View.ld x24 r0_5) (View.ld x24 r0_6) (View.ld x24 r0_7)⟩]
def out26 (x0 : Vec F S8x128 .f32) (x8 : Vec F S8x128 .f32) (x16 : Vec F S8x128 .f32) (x24 : Vec F S8x72x128 .f32) : Vec F S8x128 .f32 := View.canon [⟨r0_8, k0_pay5 (q44 x24) (View.ld x0 r0_8) (View.ld x8 r0_8) (View.ld x16 r0_8)⟩]
def out27 (x8 : Vec F S8x128 .f32) (x24 : Vec F S8x72x128 .f32) : Vec F S8x128 .f32 := View.canon [⟨r0_8, k0_pay3 (q44 x24) (View.ld x8 r0_8)⟩]
def out28 (x16 : Vec F S8x128 .f32) (x24 : Vec F S8x72x128 .f32) : Vec F S8x128 .f32 := View.canon [⟨r0_8, k0_pay4 (q44 x24) (View.ld x16 r0_8)⟩]
def out29 (x24 : Vec F S8x72x128 .f32) : Vec F S2x128 .f32 := View.canon [⟨r0_17, k0_pay7 (q45 x24) (View.ld x24 r0_11) (View.ld x24 r0_12) (View.ld x24 r0_13) (View.ld x24 r0_14) (View.ld x24 r0_15) (View.ld x24 r0_16)⟩]
def out30 (x1 : Vec F S2x128 .f32) (x9 : Vec F S2x128 .f32) (x17 : Vec F S2x128 .f32) (x24 : Vec F S8x72x128 .f32) : Vec F S2x128 .f32 := View.canon [⟨r0_17, k0_pay10 (View.ld x1 r0_17) (q46 x9 x24) (q47 x17 x24)⟩]
def out31 (x9 : Vec F S2x128 .f32) (x24 : Vec F S8x72x128 .f32) : Vec F S2x128 .f32 := View.canon [⟨r0_17, q46 x9 x24⟩]
def out32 (x17 : Vec F S2x128 .f32) (x24 : Vec F S8x72x128 .f32) : Vec F S2x128 .f32 := View.canon [⟨r0_17, q47 x17 x24⟩]
def out33 (x24 : Vec F S8x72x128 .f32) : Vec F S2x128 .f32 := View.canon [⟨r0_17, k0_pay12 (q48 x24) (View.ld x24 r0_23) (View.ld x24 r0_24) (View.ld x24 r0_25)⟩]
def out34 (x2 : Vec F S2x128 .f32) (x10 : Vec F S2x128 .f32) (x18 : Vec F S2x128 .f32) (x24 : Vec F S8x72x128 .f32) : Vec F S2x128 .f32 := View.canon [⟨r0_17, k0_pay16 (k0_pay15 (q48 x24) (View.ld x24 r0_23) (View.ld x24 r0_24) (View.ld x24 r0_25) (View.ld x2 r0_17) (View.ld x10 r0_17) (View.ld x18 r0_17))⟩]
def out35 (x10 : Vec F S2x128 .f32) (x24 : Vec F S8x72x128 .f32) : Vec F S2x128 .f32 := View.canon [⟨r0_17, k0_pay13 (q48 x24) (View.ld x24 r0_23) (View.ld x24 r0_24) (View.ld x24 r0_25) (View.ld x10 r0_17)⟩]
def out36 (x18 : Vec F S2x128 .f32) (x24 : Vec F S8x72x128 .f32) : Vec F S2x128 .f32 := View.canon [⟨r0_17, k0_pay14 (q48 x24) (View.ld x24 r0_23) (View.ld x24 r0_24) (View.ld x24 r0_25) (View.ld x18 r0_17)⟩]
def out37 (x24 : Vec F S8x72x128 .f32) : Vec F S4x128 .f32 := View.canon [⟨r0_34, k0_pay18 (q49 x24) (View.ld x24 r0_33)⟩]
def out38 (x3 : Vec F S4x128 .f32) (x11 : Vec F S4x128 .f32) (x19 : Vec F S4x128 .f32) (x24 : Vec F S8x72x128 .f32) : Vec F S4x128 .f32 := View.canon [⟨r0_34, k0_pay21 (q49 x24) (View.ld x24 r0_33) (View.ld x3 r0_34) (View.ld x11 r0_34) (View.ld x19 r0_34)⟩]
def out39 (x11 : Vec F S4x128 .f32) (x24 : Vec F S8x72x128 .f32) : Vec F S4x128 .f32 := View.canon [⟨r0_34, k0_pay19 (q49 x24) (View.ld x24 r0_33) (View.ld x11 r0_34)⟩]
def out40 (x19 : Vec F S4x128 .f32) (x24 : Vec F S8x72x128 .f32) : Vec F S4x128 .f32 := View.canon [⟨r0_34, k0_pay20 (q49 x24) (View.ld x24 r0_33) (View.ld x19 r0_34)⟩]
def out41 (x24 : Vec F S8x72x128 .f32) : Vec F S6x128 .f32 := View.canon [⟨r0_43, k0_pay22 (View.ld x24 r0_35) (View.ld x24 r0_36) (View.ld x24 r0_37) (View.ld x24 r0_38) (View.ld x24 r0_39) (View.ld x24 r0_40) (View.ld x24 r0_41) (View.ld x24 r0_42)⟩]
def out42 (x4 : Vec F S6x128 .f32) (x12 : Vec F S6x128 .f32) (x20 : Vec F S6x128 .f32) (x24 : Vec F S8x72x128 .f32) : Vec F S6x128 .f32 := View.canon [⟨r0_43, k0_pay25 (q50 x24) (View.ld x4 r0_43) (View.ld x12 r0_43) (View.ld x20 r0_43)⟩]
def out43 (x12 : Vec F S6x128 .f32) (x24 : Vec F S8x72x128 .f32) : Vec F S6x128 .f32 := View.canon [⟨r0_43, k0_pay23 (q50 x24) (View.ld x12 r0_43)⟩]
def out44 (x20 : Vec F S6x128 .f32) (x24 : Vec F S8x72x128 .f32) : Vec F S6x128 .f32 := View.canon [⟨r0_43, k0_pay24 (q50 x24) (View.ld x20 r0_43)⟩]
def out45 (x24 : Vec F S8x72x128 .f32) : Vec F S2x128 .f32 := View.canon [⟨r0_17, k0_pay27 (q51 x24) (View.ld x24 r0_46) (View.ld x24 r0_47) (View.ld x24 r0_48) (View.ld x24 r0_49) (View.ld x24 r0_50) (View.ld x24 r0_51)⟩]
def out46 (x5 : Vec F S2x128 .f32) (x13 : Vec F S2x128 .f32) (x21 : Vec F S2x128 .f32) (x24 : Vec F S8x72x128 .f32) : Vec F S2x128 .f32 := View.canon [⟨r0_17, k0_pay30 (View.ld x5 r0_17) (q52 x13 x24) (q53 x21 x24)⟩]
def out47 (x13 : Vec F S2x128 .f32) (x24 : Vec F S8x72x128 .f32) : Vec F S2x128 .f32 := View.canon [⟨r0_17, q52 x13 x24⟩]
def out48 (x21 : Vec F S2x128 .f32) (x24 : Vec F S8x72x128 .f32) : Vec F S2x128 .f32 := View.canon [⟨r0_17, q53 x21 x24⟩]
def out49 (x24 : Vec F S8x72x128 .f32) : Vec F S8x128 .f32 := View.canon [⟨r0_8, k0_pay32 (q54 x24) (View.ld x24 r0_57) (View.ld x24 r0_58) (View.ld x24 r0_59)⟩]
def out50 (x6 : Vec F S8x128 .f32) (x14 : Vec F S8x128 .f32) (x22 : Vec F S8x128 .f32) (x24 : Vec F S8x72x128 .f32) : Vec F S8x128 .f32 := View.canon [⟨r0_8, k0_pay36 (k0_pay35 (q54 x24) (View.ld x24 r0_57) (View.ld x24 r0_58) (View.ld x24 r0_59) (View.ld x6 r0_8) (View.ld x14 r0_8) (View.ld x22 r0_8))⟩]
def out51 (x14 : Vec F S8x128 .f32) (x24 : Vec F S8x72x128 .f32) : Vec F S8x128 .f32 := View.canon [⟨r0_8, k0_pay33 (q54 x24) (View.ld x24 r0_57) (View.ld x24 r0_58) (View.ld x24 r0_59) (View.ld x14 r0_8)⟩]
def out52 (x22 : Vec F S8x128 .f32) (x24 : Vec F S8x72x128 .f32) : Vec F S8x128 .f32 := View.canon [⟨r0_8, k0_pay34 (q54 x24) (View.ld x24 r0_57) (View.ld x24 r0_58) (View.ld x24 r0_59) (View.ld x22 r0_8)⟩]
def out53 (x24 : Vec F S8x72x128 .f32) : Vec F S8x128 .f32 := View.canon [⟨r0_8, k0_pay38 (q55 x24) (View.ld x24 r0_67)⟩]
def out54 (x7 : Vec F S8x128 .f32) (x15 : Vec F S8x128 .f32) (x23 : Vec F S8x128 .f32) (x24 : Vec F S8x72x128 .f32) : Vec F S8x128 .f32 := View.canon [⟨r0_8, k0_pay41 (q55 x24) (View.ld x24 r0_67) (View.ld x7 r0_8) (View.ld x15 r0_8) (View.ld x23 r0_8)⟩]
def out55 (x15 : Vec F S8x128 .f32) (x24 : Vec F S8x72x128 .f32) : Vec F S8x128 .f32 := View.canon [⟨r0_8, k0_pay39 (q55 x24) (View.ld x24 r0_67) (View.ld x15 r0_8)⟩]
def out56 (x23 : Vec F S8x128 .f32) (x24 : Vec F S8x72x128 .f32) : Vec F S8x128 .f32 := View.canon [⟨r0_8, k0_pay40 (q55 x24) (View.ld x24 r0_67) (View.ld x23 r0_8)⟩]
def out57 (x24 : Vec F S8x72x128 .f32) : Vec F S8x128 .f32 := View.canon [⟨r0_8, k0_pay1 (k0_pay42 (View.ld x24 r0_68) (View.ld x24 r0_69) (View.ld x24 r0_70) (View.ld x24 r0_71) (View.ld x24 r0_72) (View.ld x24 r0_73) (View.ld x24 r0_74)) (k0_pay43 (View.ld x24 r0_75))⟩]

theorem cover_r0_17 (p : Vec F S2x128 .f32) (y : S2x128.Idx) : ∃ pc ∈ ([⟨r0_17, p⟩] : List (View.Piece (Elt F) S2x128 .f32)), y ∈ pc.1.set :=
  View.cover_of_tiled [⟨r0_17, p⟩] S2x128.size (by rfl) y
theorem cover_r0_34 (p : Vec F S4x128 .f32) (y : S4x128.Idx) : ∃ pc ∈ ([⟨r0_34, p⟩] : List (View.Piece (Elt F) S4x128 .f32)), y ∈ pc.1.set :=
  View.cover_of_tiled [⟨r0_34, p⟩] S4x128.size (by rfl) y
theorem cover_r0_43 (p : Vec F S6x128 .f32) (y : S6x128.Idx) : ∃ pc ∈ ([⟨r0_43, p⟩] : List (View.Piece (Elt F) S6x128 .f32)), y ∈ pc.1.set :=
  View.cover_of_tiled [⟨r0_43, p⟩] S6x128.size (by rfl) y
theorem cover_r0_8 (p : Vec F S8x128 .f32) (y : S8x128.Idx) : ∃ pc ∈ ([⟨r0_8, p⟩] : List (View.Piece (Elt F) S8x128 .f32)), y ∈ pc.1.set :=
  View.cover_of_tiled [⟨r0_8, p⟩] S8x128.size (by rfl) y

set_option maxHeartbeats 4000000 in
/-- The body, from whole buffers: the inputs stay, each output holds what its one store left. -/
theorem sound_kernel (c : Dev nD) (E : Set ℕ) (arg0 : Memref sig .tc .vmem S8x128 .f32) (harg0 : arg0.IsWhole) (arg1 : Memref sig .tc .vmem S2x128 .f32) (harg1 : arg1.IsWhole) (arg2 : Memref sig .tc .vmem S2x128 .f32) (harg2 : arg2.IsWhole) (arg3 : Memref sig .tc .vmem S4x128 .f32) (harg3 : arg3.IsWhole) (arg4 : Memref sig .tc .vmem S6x128 .f32) (harg4 : arg4.IsWhole) (arg5 : Memref sig .tc .vmem S2x128 .f32) (harg5 : arg5.IsWhole) (arg6 : Memref sig .tc .vmem S8x128 .f32) (harg6 : arg6.IsWhole) (arg7 : Memref sig .tc .vmem S8x128 .f32) (harg7 : arg7.IsWhole) (arg8 : Memref sig .tc .vmem S8x128 .f32) (harg8 : arg8.IsWhole) (arg9 : Memref sig .tc .vmem S2x128 .f32) (harg9 : arg9.IsWhole) (arg10 : Memref sig .tc .vmem S2x128 .f32) (harg10 : arg10.IsWhole) (arg11 : Memref sig .tc .vmem S4x128 .f32) (harg11 : arg11.IsWhole) (arg12 : Memref sig .tc .vmem S6x128 .f32) (harg12 : arg12.IsWhole) (arg13 : Memref sig .tc .vmem S2x128 .f32) (harg13 : arg13.IsWhole) (arg14 : Memref sig .tc .vmem S8x128 .f32) (harg14 : arg14.IsWhole) (arg15 : Memref sig .tc .vmem S8x128 .f32) (harg15 : arg15.IsWhole) (arg16 : Memref sig .tc .vmem S8x128 .f32) (harg16 : arg16.IsWhole) (arg17 : Memref sig .tc .vmem S2x128 .f32) (harg17 : arg17.IsWhole) (arg18 : Memref sig .tc .vmem S2x128 .f32) (harg18 : arg18.IsWhole) (arg19 : Memref sig .tc .vmem S4x128 .f32) (harg19 : arg19.IsWhole) (arg20 : Memref sig .tc .vmem S6x128 .f32) (harg20 : arg20.IsWhole) (arg21 : Memref sig .tc .vmem S2x128 .f32) (harg21 : arg21.IsWhole) (arg22 : Memref sig .tc .vmem S8x128 .f32) (harg22 : arg22.IsWhole) (arg23 : Memref sig .tc .vmem S8x128 .f32) (harg23 : arg23.IsWhole) (arg24 : Memref sig .tc .vmem S8x72x128 .f32) (harg24 : arg24.IsWhole) (arg25 : Memref sig .tc .vmem S8x128 .f32) (harg25 : arg25.IsWhole) (arg26 : Memref sig .tc .vmem S8x128 .f32) (harg26 : arg26.IsWhole) (arg27 : Memref sig .tc .vmem S8x128 .f32) (harg27 : arg27.IsWhole) (arg28 : Memref sig .tc .vmem S8x128 .f32) (harg28 : arg28.IsWhole) (arg29 : Memref sig .tc .vmem S2x128 .f32) (harg29 : arg29.IsWhole) (arg30 : Memref sig .tc .vmem S2x128 .f32) (harg30 : arg30.IsWhole) (arg31 : Memref sig .tc .vmem S2x128 .f32) (harg31 : arg31.IsWhole) (arg32 : Memref sig .tc .vmem S2x128 .f32) (harg32 : arg32.IsWhole) (arg33 : Memref sig .tc .vmem S2x128 .f32) (harg33 : arg33.IsWhole) (arg34 : Memref sig .tc .vmem S2x128 .f32) (harg34 : arg34.IsWhole) (arg35 : Memref sig .tc .vmem S2x128 .f32) (harg35 : arg35.IsWhole) (arg36 : Memref sig .tc .vmem S2x128 .f32) (harg36 : arg36.IsWhole) (arg37 : Memref sig .tc .vmem S4x128 .f32) (harg37 : arg37.IsWhole) (arg38 : Memref sig .tc .vmem S4x128 .f32) (harg38 : arg38.IsWhole) (arg39 : Memref sig .tc .vmem S4x128 .f32) (harg39 : arg39.IsWhole) (arg40 : Memref sig .tc .vmem S4x128 .f32) (harg40 : arg40.IsWhole) (arg41 : Memref sig .tc .vmem S6x128 .f32) (harg41 : arg41.IsWhole) (arg42 : Memref sig .tc .vmem S6x128 .f32) (harg42 : arg42.IsWhole) (arg43 : Memref sig .tc .vmem S6x128 .f32) (harg43 : arg43.IsWhole) (arg44 : Memref sig .tc .vmem S6x128 .f32) (harg44 : arg44.IsWhole) (arg45 : Memref sig .tc .vmem S2x128 .f32) (harg45 : arg45.IsWhole) (arg46 : Memref sig .tc .vmem S2x128 .f32) (harg46 : arg46.IsWhole) (arg47 : Memref sig .tc .vmem S2x128 .f32) (harg47 : arg47.IsWhole) (arg48 : Memref sig .tc .vmem S2x128 .f32) (harg48 : arg48.IsWhole) (arg49 : Memref sig .tc .vmem S8x128 .f32) (harg49 : arg49.IsWhole) (arg50 : Memref sig .tc .vmem S8x128 .f32) (harg50 : arg50.IsWhole) (arg51 : Memref sig .tc .vmem S8x128 .f32) (harg51 : arg51.IsWhole) (arg52 : Memref sig .tc .vmem S8x128 .f32) (harg52 : arg52.IsWhole) (arg53 : Memref sig .tc .vmem S8x128 .f32) (harg53 : arg53.IsWhole) (arg54 : Memref sig .tc .vmem S8x128 .f32) (harg54 : arg54.IsWhole) (arg55 : Memref sig .tc .vmem S8x128 .f32) (harg55 : arg55.IsWhole) (arg56 : Memref sig .tc .vmem S8x128 .f32) (harg56 : arg56.IsWhole) (arg57 : Memref sig .tc .vmem S8x128 .f32) (harg57 : arg57.IsWhole)
    (x0 : Vec F S8x128 .f32) (x1 : Vec F S2x128 .f32) (x2 : Vec F S2x128 .f32) (x3 : Vec F S4x128 .f32) (x4 : Vec F S6x128 .f32) (x5 : Vec F S2x128 .f32) (x6 : Vec F S8x128 .f32) (x7 : Vec F S8x128 .f32) (x8 : Vec F S8x128 .f32) (x9 : Vec F S2x128 .f32) (x10 : Vec F S2x128 .f32) (x11 : Vec F S4x128 .f32) (x12 : Vec F S6x128 .f32) (x13 : Vec F S2x128 .f32) (x14 : Vec F S8x128 .f32) (x15 : Vec F S8x128 .f32) (x16 : Vec F S8x128 .f32) (x17 : Vec F S2x128 .f32) (x18 : Vec F S2x128 .f32) (x19 : Vec F S4x128 .f32) (x20 : Vec F S6x128 .f32) (x21 : Vec F S2x128 .f32) (x22 : Vec F S8x128 .f32) (x23 : Vec F S8x128 .f32) (x24 : Vec F S8x72x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24
        ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24
          ∗ owns (c : Thread nD τ) arg25 fullShare (out25 x24) ∗ owns (c : Thread nD τ) arg26 fullShare (out26 x0 x8 x16 x24) ∗ owns (c : Thread nD τ) arg27 fullShare (out27 x8 x24) ∗ owns (c : Thread nD τ) arg28 fullShare (out28 x16 x24) ∗ owns (c : Thread nD τ) arg29 fullShare (out29 x24) ∗ owns (c : Thread nD τ) arg30 fullShare (out30 x1 x9 x17 x24) ∗ owns (c : Thread nD τ) arg31 fullShare (out31 x9 x24) ∗ owns (c : Thread nD τ) arg32 fullShare (out32 x17 x24) ∗ owns (c : Thread nD τ) arg33 fullShare (out33 x24) ∗ owns (c : Thread nD τ) arg34 fullShare (out34 x2 x10 x18 x24) ∗ owns (c : Thread nD τ) arg35 fullShare (out35 x10 x24) ∗ owns (c : Thread nD τ) arg36 fullShare (out36 x18 x24) ∗ owns (c : Thread nD τ) arg37 fullShare (out37 x24) ∗ owns (c : Thread nD τ) arg38 fullShare (out38 x3 x11 x19 x24) ∗ owns (c : Thread nD τ) arg39 fullShare (out39 x11 x24) ∗ owns (c : Thread nD τ) arg40 fullShare (out40 x19 x24) ∗ owns (c : Thread nD τ) arg41 fullShare (out41 x24) ∗ owns (c : Thread nD τ) arg42 fullShare (out42 x4 x12 x20 x24) ∗ owns (c : Thread nD τ) arg43 fullShare (out43 x12 x24) ∗ owns (c : Thread nD τ) arg44 fullShare (out44 x20 x24) ∗ owns (c : Thread nD τ) arg45 fullShare (out45 x24) ∗ owns (c : Thread nD τ) arg46 fullShare (out46 x5 x13 x21 x24) ∗ owns (c : Thread nD τ) arg47 fullShare (out47 x13 x24) ∗ owns (c : Thread nD τ) arg48 fullShare (out48 x21 x24) ∗ owns (c : Thread nD τ) arg49 fullShare (out49 x24) ∗ owns (c : Thread nD τ) arg50 fullShare (out50 x6 x14 x22 x24) ∗ owns (c : Thread nD τ) arg51 fullShare (out51 x14 x24) ∗ owns (c : Thread nD τ) arg52 fullShare (out52 x22 x24) ∗ owns (c : Thread nD τ) arg53 fullShare (out53 x24) ∗ owns (c : Thread nD τ) arg54 fullShare (out54 x7 x15 x23 x24) ∗ owns (c : Thread nD τ) arg55 fullShare (out55 x15 x24) ∗ owns (c : Thread nD τ) arg56 fullShare (out56 x23 x24) ∗ owns (c : Thread nD τ) arg57 fullShare (out57 x24)) -∗ K ⟨⟩))
      ⊢ wp frame (wpE (defs₀ (F := F)) Variants.none c none) E (cc0_adamw_tiny arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57) K := by
  simp only [cc0_adamw_tiny_eq_skeleton]; unfold cc0_adamw_tiny_skel
  simp only [k0_part15_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, Hk⟩
  subst hf0 hf1 hf2 hf3 hf4 hf5 hf6 hf7 hf8 hf9 hf10 hf11 hf12 hf13 hf14 hf15 hf16 hf17 hf18 hf19 hf20 hf21 hf22 hf23 hf24
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists _; isplitr
    swap; · iexact H25
    ipureintro; exact (View.read_writes_eq_canon _ _ _ (cover_r0_8 _)).trans rfl
  isplitl [H26]
  · iexists _; isplitr
    swap; · iexact H26
    ipureintro; exact (View.read_writes_eq_canon _ _ _ (cover_r0_8 _)).trans rfl
  isplitl [H27]
  · iexists _; isplitr
    swap; · iexact H27
    ipureintro; exact (View.read_writes_eq_canon _ _ _ (cover_r0_8 _)).trans rfl
  isplitl [H28]
  · iexists _; isplitr
    swap; · iexact H28
    ipureintro; exact (View.read_writes_eq_canon _ _ _ (cover_r0_8 _)).trans rfl
  isplitl [H29]
  · iexists _; isplitr
    swap; · iexact H29
    ipureintro; exact (View.read_writes_eq_canon _ _ _ (cover_r0_17 _)).trans rfl
  isplitl [H30]
  · iexists _; isplitr
    swap; · iexact H30
    ipureintro; exact (View.read_writes_eq_canon _ _ _ (cover_r0_17 _)).trans rfl
  isplitl [H31]
  · iexists _; isplitr
    swap; · iexact H31
    ipureintro; exact (View.read_writes_eq_canon _ _ _ (cover_r0_17 _)).trans rfl
  isplitl [H32]
  · iexists _; isplitr
    swap; · iexact H32
    ipureintro; exact (View.read_writes_eq_canon _ _ _ (cover_r0_17 _)).trans rfl
  isplitl [H33]
  · iexists _; isplitr
    swap; · iexact H33
    ipureintro; exact (View.read_writes_eq_canon _ _ _ (cover_r0_17 _)).trans rfl
  isplitl [H34]
  · iexists _; isplitr
    swap; · iexact H34
    ipureintro; exact (View.read_writes_eq_canon _ _ _ (cover_r0_17 _)).trans rfl
  isplitl [H35]
  · iexists _; isplitr
    swap; · iexact H35
    ipureintro; exact (View.read_writes_eq_canon _ _ _ (cover_r0_17 _)).trans rfl
  isplitl [H36]
  · iexists _; isplitr
    swap; · iexact H36
    ipureintro; exact (View.read_writes_eq_canon _ _ _ (cover_r0_17 _)).trans rfl
  isplitl [H37]
  · iexists _; isplitr
    swap; · iexact H37
    ipureintro; exact (View.read_writes_eq_canon _ _ _ (cover_r0_34 _)).trans rfl
  isplitl [H38]
  · iexists _; isplitr
    swap; · iexact H38
    ipureintro; exact (View.read_writes_eq_canon _ _ _ (cover_r0_34 _)).trans rfl
  isplitl [H39]
  · iexists _; isplitr
    swap; · iexact H39
    ipureintro; exact (View.read_writes_eq_canon _ _ _ (cover_r0_34 _)).trans rfl
  isplitl [H40]
  · iexists _; isplitr
    swap; · iexact H40
    ipureintro; exact (View.read_writes_eq_canon _ _ _ (cover_r0_34 _)).trans rfl
  isplitl [H41]
  · iexists _; isplitr
    swap; · iexact H41
    ipureintro; exact (View.read_writes_eq_canon _ _ _ (cover_r0_43 _)).trans rfl
  isplitl [H42]
  · iexists _; isplitr
    swap; · iexact H42
    ipureintro; exact (View.read_writes_eq_canon _ _ _ (cover_r0_43 _)).trans rfl
  isplitl [H43]
  · iexists _; isplitr
    swap; · iexact H43
    ipureintro; exact (View.read_writes_eq_canon _ _ _ (cover_r0_43 _)).trans rfl
  isplitl [H44]
  · iexists _; isplitr
    swap; · iexact H44
    ipureintro; exact (View.read_writes_eq_canon _ _ _ (cover_r0_43 _)).trans rfl
  isplitl [H45]
  · iexists _; isplitr
    swap; · iexact H45
    ipureintro; exact (View.read_writes_eq_canon _ _ _ (cover_r0_17 _)).trans rfl
  isplitl [H46]
  · iexists _; isplitr
    swap; · iexact H46
    ipureintro; exact (View.read_writes_eq_canon _ _ _ (cover_r0_17 _)).trans rfl
  isplitl [H47]
  · iexists _; isplitr
    swap; · iexact H47
    ipureintro; exact (View.read_writes_eq_canon _ _ _ (cover_r0_17 _)).trans rfl
  isplitl [H48]
  · iexists _; isplitr
    swap; · iexact H48
    ipureintro; exact (View.read_writes_eq_canon _ _ _ (cover_r0_17 _)).trans rfl
  isplitl [H49]
  · iexists _; isplitr
    swap; · iexact H49
    ipureintro; exact (View.read_writes_eq_canon _ _ _ (cover_r0_8 _)).trans rfl
  isplitl [H50]
  · iexists _; isplitr
    swap; · iexact H50
    ipureintro; exact (View.read_writes_eq_canon _ _ _ (cover_r0_8 _)).trans rfl
  isplitl [H51]
  · iexists _; isplitr
    swap; · iexact H51
    ipureintro; exact (View.read_writes_eq_canon _ _ _ (cover_r0_8 _)).trans rfl
  isplitl [H52]
  · iexists _; isplitr
    swap; · iexact H52
    ipureintro; exact (View.read_writes_eq_canon _ _ _ (cover_r0_8 _)).trans rfl
  isplitl [H53]
  · iexists _; isplitr
    swap; · iexact H53
    ipureintro; exact (View.read_writes_eq_canon _ _ _ (cover_r0_8 _)).trans rfl
  isplitl [H54]
  · iexists _; isplitr
    swap; · iexact H54
    ipureintro; exact (View.read_writes_eq_canon _ _ _ (cover_r0_8 _)).trans rfl
  isplitl [H55]
  · iexists _; isplitr
    swap; · iexact H55
    ipureintro; exact (View.read_writes_eq_canon _ _ _ (cover_r0_8 _)).trans rfl
  isplitl [H56]
  · iexists _; isplitr
    swap; · iexact H56
    ipureintro; exact (View.read_writes_eq_canon _ _ _ (cover_r0_8 _)).trans rfl
  iexists _; isplitr
  swap; · iexact H57
  ipureintro; exact (View.read_writes_eq_canon _ _ _ (cover_r0_8 _)).trans rfl

/-- The proof data: the arrays as found; after the body each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => out25 (iblk m c 24 t)
    | ⟨26, _⟩ => out26 (iblk m c 0 t) (iblk m c 8 t) (iblk m c 16 t) (iblk m c 24 t)
    | ⟨27, _⟩ => out27 (iblk m c 8 t) (iblk m c 24 t)
    | ⟨28, _⟩ => out28 (iblk m c 16 t) (iblk m c 24 t)
    | ⟨29, _⟩ => out29 (iblk m c 24 t)
    | ⟨30, _⟩ => out30 (iblk m c 1 t) (iblk m c 9 t) (iblk m c 17 t) (iblk m c 24 t)
    | ⟨31, _⟩ => out31 (iblk m c 9 t) (iblk m c 24 t)
    | ⟨32, _⟩ => out32 (iblk m c 17 t) (iblk m c 24 t)
    | ⟨33, _⟩ => out33 (iblk m c 24 t)
    | ⟨34, _⟩ => out34 (iblk m c 2 t) (iblk m c 10 t) (iblk m c 18 t) (iblk m c 24 t)
    | ⟨35, _⟩ => out35 (iblk m c 10 t) (iblk m c 24 t)
    | ⟨36, _⟩ => out36 (iblk m c 18 t) (iblk m c 24 t)
    | ⟨37, _⟩ => out37 (iblk m c 24 t)
    | ⟨38, _⟩ => out38 (iblk m c 3 t) (iblk m c 11 t) (iblk m c 19 t) (iblk m c 24 t)
    | ⟨39, _⟩ => out39 (iblk m c 11 t) (iblk m c 24 t)
    | ⟨40, _⟩ => out40 (iblk m c 19 t) (iblk m c 24 t)
    | ⟨41, _⟩ => out41 (iblk m c 24 t)
    | ⟨42, _⟩ => out42 (iblk m c 4 t) (iblk m c 12 t) (iblk m c 20 t) (iblk m c 24 t)
    | ⟨43, _⟩ => out43 (iblk m c 12 t) (iblk m c 24 t)
    | ⟨44, _⟩ => out44 (iblk m c 20 t) (iblk m c 24 t)
    | ⟨45, _⟩ => out45 (iblk m c 24 t)
    | ⟨46, _⟩ => out46 (iblk m c 5 t) (iblk m c 13 t) (iblk m c 21 t) (iblk m c 24 t)
    | ⟨47, _⟩ => out47 (iblk m c 13 t) (iblk m c 24 t)
    | ⟨48, _⟩ => out48 (iblk m c 21 t) (iblk m c 24 t)
    | ⟨49, _⟩ => out49 (iblk m c 24 t)
    | ⟨50, _⟩ => out50 (iblk m c 6 t) (iblk m c 14 t) (iblk m c 22 t) (iblk m c 24 t)
    | ⟨51, _⟩ => out51 (iblk m c 14 t) (iblk m c 24 t)
    | ⟨52, _⟩ => out52 (iblk m c 22 t) (iblk m c 24 t)
    | ⟨53, _⟩ => out53 (iblk m c 24 t)
    | ⟨54, _⟩ => out54 (iblk m c 7 t) (iblk m c 15 t) (iblk m c 23 t) (iblk m c 24 t)
    | ⟨55, _⟩ => out55 (iblk m c 15 t) (iblk m c 24 t)
    | ⟨56, _⟩ => out56 (iblk m c 23 t) (iblk m c 24 t)
    | ⟨57, _⟩ => out57 (iblk m c 24 t)
    | ⟨_ + 58, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = out25 (iblk m c 24 t) := by dsimp only [dats]
theorem after26 (c : Dev nD) (t : Fin cfg0.N) : (dats m 0 c).after 26 t = out26 (iblk m c 0 t) (iblk m c 8 t) (iblk m c 16 t) (iblk m c 24 t) := by dsimp only [dats]
theorem after27 (c : Dev nD) (t : Fin cfg0.N) : (dats m 0 c).after 27 t = out27 (iblk m c 8 t) (iblk m c 24 t) := by dsimp only [dats]
theorem after28 (c : Dev nD) (t : Fin cfg0.N) : (dats m 0 c).after 28 t = out28 (iblk m c 16 t) (iblk m c 24 t) := by dsimp only [dats]
theorem after29 (c : Dev nD) (t : Fin cfg0.N) : (dats m 0 c).after 29 t = out29 (iblk m c 24 t) := by dsimp only [dats]
theorem after30 (c : Dev nD) (t : Fin cfg0.N) : (dats m 0 c).after 30 t = out30 (iblk m c 1 t) (iblk m c 9 t) (iblk m c 17 t) (iblk m c 24 t) := by dsimp only [dats]
theorem after31 (c : Dev nD) (t : Fin cfg0.N) : (dats m 0 c).after 31 t = out31 (iblk m c 9 t) (iblk m c 24 t) := by dsimp only [dats]
theorem after32 (c : Dev nD) (t : Fin cfg0.N) : (dats m 0 c).after 32 t = out32 (iblk m c 17 t) (iblk m c 24 t) := by dsimp only [dats]
theorem after33 (c : Dev nD) (t : Fin cfg0.N) : (dats m 0 c).after 33 t = out33 (iblk m c 24 t) := by dsimp only [dats]
theorem after34 (c : Dev nD) (t : Fin cfg0.N) : (dats m 0 c).after 34 t = out34 (iblk m c 2 t) (iblk m c 10 t) (iblk m c 18 t) (iblk m c 24 t) := by dsimp only [dats]
theorem after35 (c : Dev nD) (t : Fin cfg0.N) : (dats m 0 c).after 35 t = out35 (iblk m c 10 t) (iblk m c 24 t) := by dsimp only [dats]
theorem after36 (c : Dev nD) (t : Fin cfg0.N) : (dats m 0 c).after 36 t = out36 (iblk m c 18 t) (iblk m c 24 t) := by dsimp only [dats]
theorem after37 (c : Dev nD) (t : Fin cfg0.N) : (dats m 0 c).after 37 t = out37 (iblk m c 24 t) := by dsimp only [dats]
theorem after38 (c : Dev nD) (t : Fin cfg0.N) : (dats m 0 c).after 38 t = out38 (iblk m c 3 t) (iblk m c 11 t) (iblk m c 19 t) (iblk m c 24 t) := by dsimp only [dats]
theorem after39 (c : Dev nD) (t : Fin cfg0.N) : (dats m 0 c).after 39 t = out39 (iblk m c 11 t) (iblk m c 24 t) := by dsimp only [dats]
theorem after40 (c : Dev nD) (t : Fin cfg0.N) : (dats m 0 c).after 40 t = out40 (iblk m c 19 t) (iblk m c 24 t) := by dsimp only [dats]
theorem after41 (c : Dev nD) (t : Fin cfg0.N) : (dats m 0 c).after 41 t = out41 (iblk m c 24 t) := by dsimp only [dats]
theorem after42 (c : Dev nD) (t : Fin cfg0.N) : (dats m 0 c).after 42 t = out42 (iblk m c 4 t) (iblk m c 12 t) (iblk m c 20 t) (iblk m c 24 t) := by dsimp only [dats]
theorem after43 (c : Dev nD) (t : Fin cfg0.N) : (dats m 0 c).after 43 t = out43 (iblk m c 12 t) (iblk m c 24 t) := by dsimp only [dats]
theorem after44 (c : Dev nD) (t : Fin cfg0.N) : (dats m 0 c).after 44 t = out44 (iblk m c 20 t) (iblk m c 24 t) := by dsimp only [dats]
theorem after45 (c : Dev nD) (t : Fin cfg0.N) : (dats m 0 c).after 45 t = out45 (iblk m c 24 t) := by dsimp only [dats]
theorem after46 (c : Dev nD) (t : Fin cfg0.N) : (dats m 0 c).after 46 t = out46 (iblk m c 5 t) (iblk m c 13 t) (iblk m c 21 t) (iblk m c 24 t) := by dsimp only [dats]
theorem after47 (c : Dev nD) (t : Fin cfg0.N) : (dats m 0 c).after 47 t = out47 (iblk m c 13 t) (iblk m c 24 t) := by dsimp only [dats]
theorem after48 (c : Dev nD) (t : Fin cfg0.N) : (dats m 0 c).after 48 t = out48 (iblk m c 21 t) (iblk m c 24 t) := by dsimp only [dats]
theorem after49 (c : Dev nD) (t : Fin cfg0.N) : (dats m 0 c).after 49 t = out49 (iblk m c 24 t) := by dsimp only [dats]
theorem after50 (c : Dev nD) (t : Fin cfg0.N) : (dats m 0 c).after 50 t = out50 (iblk m c 6 t) (iblk m c 14 t) (iblk m c 22 t) (iblk m c 24 t) := by dsimp only [dats]
theorem after51 (c : Dev nD) (t : Fin cfg0.N) : (dats m 0 c).after 51 t = out51 (iblk m c 14 t) (iblk m c 24 t) := by dsimp only [dats]
theorem after52 (c : Dev nD) (t : Fin cfg0.N) : (dats m 0 c).after 52 t = out52 (iblk m c 22 t) (iblk m c 24 t) := by dsimp only [dats]
theorem after53 (c : Dev nD) (t : Fin cfg0.N) : (dats m 0 c).after 53 t = out53 (iblk m c 24 t) := by dsimp only [dats]
theorem after54 (c : Dev nD) (t : Fin cfg0.N) : (dats m 0 c).after 54 t = out54 (iblk m c 7 t) (iblk m c 15 t) (iblk m c 23 t) (iblk m c 24 t) := by dsimp only [dats]
theorem after55 (c : Dev nD) (t : Fin cfg0.N) : (dats m 0 c).after 55 t = out55 (iblk m c 15 t) (iblk m c 24 t) := by dsimp only [dats]
theorem after56 (c : Dev nD) (t : Fin cfg0.N) : (dats m 0 c).after 56 t = out56 (iblk m c 23 t) (iblk m c 24 t) := by dsimp only [dats]
theorem after57 (c : Dev nD) (t : Fin cfg0.N) : (dats m 0 c).after 57 t = out57 (iblk m c 24 t) := by dsimp only [dats]

theorem before0 (c : Dev nD) (t : Fin cfg0.N) (d) : (dats m 0 c).before 0 t d = iblk m c 0 t :=
  ((dats m 0 c).before_in_eq_fetched 0 rfl (fun _ => rfl) (fun _ _ _ => rfl) (after0 m c) t d).trans rfl
theorem before1 (c : Dev nD) (t : Fin cfg0.N) (d) : (dats m 0 c).before 1 t d = iblk m c 1 t :=
  ((dats m 0 c).before_in_eq_fetched 1 rfl (fun _ => rfl) (fun _ _ _ => rfl) (after1 m c) t d).trans rfl
theorem before2 (c : Dev nD) (t : Fin cfg0.N) (d) : (dats m 0 c).before 2 t d = iblk m c 2 t :=
  ((dats m 0 c).before_in_eq_fetched 2 rfl (fun _ => rfl) (fun _ _ _ => rfl) (after2 m c) t d).trans rfl
theorem before3 (c : Dev nD) (t : Fin cfg0.N) (d) : (dats m 0 c).before 3 t d = iblk m c 3 t :=
  ((dats m 0 c).before_in_eq_fetched 3 rfl (fun _ => rfl) (fun _ _ _ => rfl) (after3 m c) t d).trans rfl
theorem before4 (c : Dev nD) (t : Fin cfg0.N) (d) : (dats m 0 c).before 4 t d = iblk m c 4 t :=
  ((dats m 0 c).before_in_eq_fetched 4 rfl (fun _ => rfl) (fun _ _ _ => rfl) (after4 m c) t d).trans rfl
theorem before5 (c : Dev nD) (t : Fin cfg0.N) (d) : (dats m 0 c).before 5 t d = iblk m c 5 t :=
  ((dats m 0 c).before_in_eq_fetched 5 rfl (fun _ => rfl) (fun _ _ _ => rfl) (after5 m c) t d).trans rfl
theorem before6 (c : Dev nD) (t : Fin cfg0.N) (d) : (dats m 0 c).before 6 t d = iblk m c 6 t :=
  ((dats m 0 c).before_in_eq_fetched 6 rfl (fun _ => rfl) (fun _ _ _ => rfl) (after6 m c) t d).trans rfl
theorem before7 (c : Dev nD) (t : Fin cfg0.N) (d) : (dats m 0 c).before 7 t d = iblk m c 7 t :=
  ((dats m 0 c).before_in_eq_fetched 7 rfl (fun _ => rfl) (fun _ _ _ => rfl) (after7 m c) t d).trans rfl
theorem before8 (c : Dev nD) (t : Fin cfg0.N) (d) : (dats m 0 c).before 8 t d = iblk m c 8 t :=
  ((dats m 0 c).before_in_eq_fetched 8 rfl (fun _ => rfl) (fun _ _ _ => rfl) (after8 m c) t d).trans rfl
theorem before9 (c : Dev nD) (t : Fin cfg0.N) (d) : (dats m 0 c).before 9 t d = iblk m c 9 t :=
  ((dats m 0 c).before_in_eq_fetched 9 rfl (fun _ => rfl) (fun _ _ _ => rfl) (after9 m c) t d).trans rfl
theorem before10 (c : Dev nD) (t : Fin cfg0.N) (d) : (dats m 0 c).before 10 t d = iblk m c 10 t :=
  ((dats m 0 c).before_in_eq_fetched 10 rfl (fun _ => rfl) (fun _ _ _ => rfl) (after10 m c) t d).trans rfl
theorem before11 (c : Dev nD) (t : Fin cfg0.N) (d) : (dats m 0 c).before 11 t d = iblk m c 11 t :=
  ((dats m 0 c).before_in_eq_fetched 11 rfl (fun _ => rfl) (fun _ _ _ => rfl) (after11 m c) t d).trans rfl
theorem before12 (c : Dev nD) (t : Fin cfg0.N) (d) : (dats m 0 c).before 12 t d = iblk m c 12 t :=
  ((dats m 0 c).before_in_eq_fetched 12 rfl (fun _ => rfl) (fun _ _ _ => rfl) (after12 m c) t d).trans rfl
theorem before13 (c : Dev nD) (t : Fin cfg0.N) (d) : (dats m 0 c).before 13 t d = iblk m c 13 t :=
  ((dats m 0 c).before_in_eq_fetched 13 rfl (fun _ => rfl) (fun _ _ _ => rfl) (after13 m c) t d).trans rfl
theorem before14 (c : Dev nD) (t : Fin cfg0.N) (d) : (dats m 0 c).before 14 t d = iblk m c 14 t :=
  ((dats m 0 c).before_in_eq_fetched 14 rfl (fun _ => rfl) (fun _ _ _ => rfl) (after14 m c) t d).trans rfl
theorem before15 (c : Dev nD) (t : Fin cfg0.N) (d) : (dats m 0 c).before 15 t d = iblk m c 15 t :=
  ((dats m 0 c).before_in_eq_fetched 15 rfl (fun _ => rfl) (fun _ _ _ => rfl) (after15 m c) t d).trans rfl
theorem before16 (c : Dev nD) (t : Fin cfg0.N) (d) : (dats m 0 c).before 16 t d = iblk m c 16 t :=
  ((dats m 0 c).before_in_eq_fetched 16 rfl (fun _ => rfl) (fun _ _ _ => rfl) (after16 m c) t d).trans rfl
theorem before17 (c : Dev nD) (t : Fin cfg0.N) (d) : (dats m 0 c).before 17 t d = iblk m c 17 t :=
  ((dats m 0 c).before_in_eq_fetched 17 rfl (fun _ => rfl) (fun _ _ _ => rfl) (after17 m c) t d).trans rfl
theorem before18 (c : Dev nD) (t : Fin cfg0.N) (d) : (dats m 0 c).before 18 t d = iblk m c 18 t :=
  ((dats m 0 c).before_in_eq_fetched 18 rfl (fun _ => rfl) (fun _ _ _ => rfl) (after18 m c) t d).trans rfl
theorem before19 (c : Dev nD) (t : Fin cfg0.N) (d) : (dats m 0 c).before 19 t d = iblk m c 19 t :=
  ((dats m 0 c).before_in_eq_fetched 19 rfl (fun _ => rfl) (fun _ _ _ => rfl) (after19 m c) t d).trans rfl
theorem before20 (c : Dev nD) (t : Fin cfg0.N) (d) : (dats m 0 c).before 20 t d = iblk m c 20 t :=
  ((dats m 0 c).before_in_eq_fetched 20 rfl (fun _ => rfl) (fun _ _ _ => rfl) (after20 m c) t d).trans rfl
theorem before21 (c : Dev nD) (t : Fin cfg0.N) (d) : (dats m 0 c).before 21 t d = iblk m c 21 t :=
  ((dats m 0 c).before_in_eq_fetched 21 rfl (fun _ => rfl) (fun _ _ _ => rfl) (after21 m c) t d).trans rfl
theorem before22 (c : Dev nD) (t : Fin cfg0.N) (d) : (dats m 0 c).before 22 t d = iblk m c 22 t :=
  ((dats m 0 c).before_in_eq_fetched 22 rfl (fun _ => rfl) (fun _ _ _ => rfl) (after22 m c) t d).trans rfl
theorem before23 (c : Dev nD) (t : Fin cfg0.N) (d) : (dats m 0 c).before 23 t d = iblk m c 23 t :=
  ((dats m 0 c).before_in_eq_fetched 23 rfl (fun _ => rfl) (fun _ _ _ => rfl) (after23 m c) t d).trans rfl
theorem before24 (c : Dev nD) (t : Fin cfg0.N) (d) : (dats m 0 c).before 24 t d = iblk m c 24 t :=
  ((dats m 0 c).before_in_eq_fetched 24 rfl (fun _ => rfl) (fun _ _ _ => rfl) (after24 m c) t d).trans rfl

/-- What the body finds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d)))

/-- What it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29, after30, after31, after32, after33, after34, after35, after36, after37, after38, after39, after40, after41, after42, after43, after44, after45, after46, after47, after48, after49, after50, after51, after52, after53, after54, after55, after56, after57]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) _)
  iframe H0 H1 H2 H3 H4 H5 H6 H7 H8 H9 H10 H11 H12 H13 H14 H15 H16 H17 H18 H19 H20 H21 H22 H23 H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57⟩
  iframe HΦ Ho H0 H1 H2 H3 H4 H5 H6 H7 H8 H9 H10 H11 H12 H13 H14 H15 H16 H17 H18 H19 H20 H21 H22 H23 H24 H25 H26 H27 H28 H29 H30 H31 H32 H33 H34 H35 H36 H37 H38 H39 H40 H41 H42 H43 H44 H45 H46 H47 H48 H49 H50 H51 H52 H53 H54 H55 H56 H57

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input's array is as found at the end. -/
theorem kept {r : PUnit × MemSt nD τ sig (Elt F)} (h : Pipeline.FramePost cfgs (dats m) 0 (V m) r) (c : Dev nD) (w : Fin cfg0.W) (hw : (cfg0.win w).isOut = false) :
    r.2.mem ((c : Thread nD τ).loc (Pipeline.arrRef spec0 w)) = V m c (Pipeline.arrRef spec0 w) :=
  ((h c).1 w).trans (((dats m 0 c).arrAt_in w hw _).trans (A_eq m c w))

/-- The arguments end unchanged, and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  (θ_run defs _ _).mono (fun _ h => ⟨fun c => ⟨kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl, kept m h.1 c 15 rfl, kept m h.1 c 16 rfl, kept m h.1 c 17 rfl, kept m h.1 c 18 rfl, kept m h.1 c 19 rfl, kept m h.1 c 20 rfl, kept m h.1 c 21 rfl, kept m h.1 c 22 rfl, kept m h.1 c 23 rfl, kept m h.1 c 24 rfl⟩, h.2⟩) (run_main_quiescent m ρ)

end Cert.AdTinyIdeal.Tiny

end
-- ==== Proof.Adam.Tiny.lean ====
module

public import proofs.«01_k».proof.Defs
public import proofs.«01_k».proof.Proof.Adam.TinyRun
public import proofs.«01_k».proof.Proof.Adam.Spec
public import proofs.«01_k».proof.Proof.Gen.AdTiny
public import proofs.«01_k».proof.Proof.Gen.AdTinyReferenceIdeal.Run
public import Idealize.ShloMosaic.Lib.Pipeline.Value
public import Idealize.ShloMosaic.Lib.Pipeline.ValueKit

@[expose] public section

set_option maxRecDepth 16384

noncomputable section

/-! AdamW on the eight small arrays: their partial gradients lie in one slab per device, one array under the other, the loss below them. -/

namespace Cert.Adam

open Idealize.ShloMosaic

/-- Rows `o …` of the slab, the eight devices' parts added up. -/
def slab (n o : ℕ) (h : o + n ≤ 72) (P : FVec Ideal ⟨3, ![8, 72, 128]⟩ .f32) : FVec Ideal ⟨2, ![n, 128]⟩ .f32 :=
  fun j => ∑ p : Fin 8, P (ix3 p ⟨o + (j 0).val, lt_of_lt_of_le (Nat.add_lt_add_left (j 0).isLt o) h⟩ (j 1))

/-- The step and the two moments, element by element. -/
def stepOf {n : ℕ} (w b v g : FVec Ideal ⟨2, ![n, 128]⟩ .f32) : FVec Ideal ⟨2, ![n, 128]⟩ .f32 := fun j => delta (w j) (b j) (v j) (g j)
def firstOf {n : ℕ} (b g : FVec Ideal ⟨2, ![n, 128]⟩ .f32) : FVec Ideal ⟨2, ![n, 128]⟩ .f32 := fun j => mNew (b j) (g j)
def secondOf {n : ℕ} (v g : FVec Ideal ⟨2, ![n, 128]⟩ .f32) : FVec Ideal ⟨2, ![n, 128]⟩ .f32 := fun j => vNew (v j) (g j)

end Cert.Adam

namespace Cert.AdTinyIdeal.Tiny

open Cert.AdTinyIdeal Cert.AdTinyIdeal.Gen
open Idealize.ShloMosaic Idealize.ShloMosaic.TcCoe Idealize.SL.Sem
open Idealize.ShloMosaic.Pipeline (Dat)
open Cert.Adam

set_option maxHeartbeats 4000000 in
/-- What each output buffer holds after the body, given what the inputs hold. -/
theorem outs (x0 x6 x7 x8 x14 x15 x16 x22 x23 : FVec Ideal S8x128 .f32) (x1 x2 x5 x9 x10 x13 x17 x18 x21 : FVec Ideal S2x128 .f32) (x3 x11 x19 : FVec Ideal S4x128 .f32) (x4 x12 x20 : FVec Ideal S6x128 .f32) (x24 : FVec Ideal S8x72x128 .f32) :
    out25 (F := Ideal) x24 = slab 8 0 (by decide) x24
      ∧ out26 (F := Ideal) x0 x8 x16 x24 = stepOf x0 x8 x16 (slab 8 0 (by decide) x24)
      ∧ out27 (F := Ideal) x8 x24 = firstOf x8 (slab 8 0 (by decide) x24)
      ∧ out28 (F := Ideal) x16 x24 = secondOf x16 (slab 8 0 (by decide) x24)
      ∧ out29 (F := Ideal) x24 = slab 2 8 (by decide) x24
      ∧ out30 (F := Ideal) x1 x9 x17 x24 = stepOf x1 x9 x17 (slab 2 8 (by decide) x24)
      ∧ out31 (F := Ideal) x9 x24 = firstOf x9 (slab 2 8 (by decide) x24)
      ∧ out32 (F := Ideal) x17 x24 = secondOf x17 (slab 2 8 (by decide) x24)
      ∧ out33 (F := Ideal) x24 = slab 2 16 (by decide) x24
      ∧ out34 (F := Ideal) x2 x10 x18 x24 = stepOf x2 x10 x18 (slab 2 16 (by decide) x24)
      ∧ out35 (F := Ideal) x10 x24 = firstOf x10 (slab 2 16 (by decide) x24)
      ∧ out36 (F := Ideal) x18 x24 = secondOf x18 (slab 2 16 (by decide) x24)
      ∧ out37 (F := Ideal) x24 = slab 4 24 (by decide) x24
      ∧ out38 (F := Ideal) x3 x11 x19 x24 = stepOf x3 x11 x19 (slab 4 24 (by decide) x24)
      ∧ out39 (F := Ideal) x11 x24 = firstOf x11 (slab 4 24 (by decide) x24)
      ∧ out40 (F := Ideal) x19 x24 = secondOf x19 (slab 4 24 (by decide) x24)
      ∧ out41 (F := Ideal) x24 = slab 6 32 (by decide) x24
      ∧ out42 (F := Ideal) x4 x12 x20 x24 = stepOf x4 x12 x20 (slab 6 32 (by decide) x24)
      ∧ out43 (F := Ideal) x12 x24 = firstOf x12 (slab 6 32 (by decide) x24)
      ∧ out44 (F := Ideal) x20 x24 = secondOf x20 (slab 6 32 (by decide) x24)
      ∧ out45 (F := Ideal) x24 = slab 2 40 (by decide) x24
      ∧ out46 (F := Ideal) x5 x13 x21 x24 = stepOf x5 x13 x21 (slab 2 40 (by decide) x24)
      ∧ out47 (F := Ideal) x13 x24 = firstOf x13 (slab 2 40 (by decide) x24)
      ∧ out48 (F := Ideal) x21 x24 = secondOf x21 (slab 2 40 (by decide) x24)
      ∧ out49 (F := Ideal) x24 = slab 8 48 (by decide) x24
      ∧ out50 (F := Ideal) x6 x14 x22 x24 = stepOf x6 x14 x22 (slab 8 48 (by decide) x24)
      ∧ out51 (F := Ideal) x14 x24 = firstOf x14 (slab 8 48 (by decide) x24)
      ∧ out52 (F := Ideal) x22 x24 = secondOf x22 (slab 8 48 (by decide) x24)
      ∧ out53 (F := Ideal) x24 = slab 8 56 (by decide) x24
      ∧ out54 (F := Ideal) x7 x15 x23 x24 = stepOf x7 x15 x23 (slab 8 56 (by decide) x24)
      ∧ out55 (F := Ideal) x15 x24 = firstOf x15 (slab 8 56 (by decide) x24)
      ∧ out56 (F := Ideal) x23 x24 = secondOf x23 (slab 8 56 (by decide) x24)
      ∧ out57 (F := Ideal) x24 = slab 8 64 (by decide) x24 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    funext j; idx_vars j
    simp only [out25, out26, out27, out28, out29, out30, out31, out32, out33, out34, out35, out36, out37, out38, out39, out40, out41, out42, out43, out44, out45, out46, out47, out48, out49, out50, out51, out52, out53, out54, out55, out56, out57]
    frame_out
    simp only [slab, stepOf, firstOf, secondOf, ← sum8]
    pointwise [q44, q45, q46, q47, q48, q49, q50, q51, q52, q53, q54, q55, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43]
    try rfl

variable (m : (ℓ : Loc nD τ sig) → Buf (Elt Ideal) ℓ)

/-- Every window's one block begins at the array's first element. -/
theorem idx : ∀ (w : Fin cfg0.W) (t : Fin cfg0.N) a, (cfg0.win w).index t a = 0 := by
  decide +kernel

set_option maxHeartbeats 4000000 in
/-- So an input's block is its whole array. -/
theorem whole (c : Dev nD) (t : Fin cfg0.N) :
    (iblk m c 0 t : FVec Ideal S8x128 .f32) = m ((c.tc : Thread nD τ).loc main_arg0)
      ∧ (iblk m c 1 t : FVec Ideal S2x128 .f32) = m ((c.tc : Thread nD τ).loc main_arg1)
      ∧ (iblk m c 2 t : FVec Ideal S2x128 .f32) = m ((c.tc : Thread nD τ).loc main_arg2)
      ∧ (iblk m c 3 t : FVec Ideal S4x128 .f32) = m ((c.tc : Thread nD τ).loc main_arg3)
      ∧ (iblk m c 4 t : FVec Ideal S6x128 .f32) = m ((c.tc : Thread nD τ).loc main_arg4)
      ∧ (iblk m c 5 t : FVec Ideal S2x128 .f32) = m ((c.tc : Thread nD τ).loc main_arg5)
      ∧ (iblk m c 6 t : FVec Ideal S8x128 .f32) = m ((c.tc : Thread nD τ).loc main_arg6)
      ∧ (iblk m c 7 t : FVec Ideal S8x128 .f32) = m ((c.tc : Thread nD τ).loc main_arg7)
      ∧ (iblk m c 8 t : FVec Ideal S8x128 .f32) = m ((c.tc : Thread nD τ).loc main_arg8)
      ∧ (iblk m c 9 t : FVec Ideal S2x128 .f32) = m ((c.tc : Thread nD τ).loc main_arg9)
      ∧ (iblk m c 10 t : FVec Ideal S2x128 .f32) = m ((c.tc : Thread nD τ).loc main_arg10)
      ∧ (iblk m c 11 t : FVec Ideal S4x128 .f32) = m ((c.tc : Thread nD τ).loc main_arg11)
      ∧ (iblk m c 12 t : FVec Ideal S6x128 .f32) = m ((c.tc : Thread nD τ).loc main_arg12)
      ∧ (iblk m c 13 t : FVec Ideal S2x128 .f32) = m ((c.tc : Thread nD τ).loc main_arg13)
      ∧ (iblk m c 14 t : FVec Ideal S8x128 .f32) = m ((c.tc : Thread nD τ).loc main_arg14)
      ∧ (iblk m c 15 t : FVec Ideal S8x128 .f32) = m ((c.tc : Thread nD τ).loc main_arg15)
      ∧ (iblk m c 16 t : FVec Ideal S8x128 .f32) = m ((c.tc : Thread nD τ).loc main_arg16)
      ∧ (iblk m c 17 t : FVec Ideal S2x128 .f32) = m ((c.tc : Thread nD τ).loc main_arg17)
      ∧ (iblk m c 18 t : FVec Ideal S2x128 .f32) = m ((c.tc : Thread nD τ).loc main_arg18)
      ∧ (iblk m c 19 t : FVec Ideal S4x128 .f32) = m ((c.tc : Thread nD τ).loc main_arg19)
      ∧ (iblk m c 20 t : FVec Ideal S6x128 .f32) = m ((c.tc : Thread nD τ).loc main_arg20)
      ∧ (iblk m c 21 t : FVec Ideal S2x128 .f32) = m ((c.tc : Thread nD τ).loc main_arg21)
      ∧ (iblk m c 22 t : FVec Ideal S8x128 .f32) = m ((c.tc : Thread nD τ).loc main_arg22)
      ∧ (iblk m c 23 t : FVec Ideal S8x128 .f32) = m ((c.tc : Thread nD τ).loc main_arg23)
      ∧ (iblk m c 24 t : FVec Ideal S8x72x128 .f32) = m ((c.tc : Thread nD τ).loc main_arg24) := by
  refine ⟨?_, ?_, ?_, ?_, ?_, ?_, ?_, ?_, ?_, ?_, ?_, ?_, ?_, ?_, ?_, ?_, ?_, ?_, ?_, ?_, ?_, ?_, ?_, ?_, ?_⟩
  all_goals
    funext j; idx_vars j
    blk_ext! [iblk, V]
  all_goals first | rw [show win0_0.index t 0 = 0 from idx 0 t 0]; omega | rw [show win0_0.index t 1 = 0 from idx 0 t 1]; omega | rw [show win0_1.index t 0 = 0 from idx 1 t 0]; omega | rw [show win0_1.index t 1 = 0 from idx 1 t 1]; omega | rw [show win0_2.index t 0 = 0 from idx 2 t 0]; omega | rw [show win0_2.index t 1 = 0 from idx 2 t 1]; omega | rw [show win0_3.index t 0 = 0 from idx 3 t 0]; omega | rw [show win0_3.index t 1 = 0 from idx 3 t 1]; omega | rw [show win0_4.index t 0 = 0 from idx 4 t 0]; omega | rw [show win0_4.index t 1 = 0 from idx 4 t 1]; omega | rw [show win0_5.index t 0 = 0 from idx 5 t 0]; omega | rw [show win0_5.index t 1 = 0 from idx 5 t 1]; omega | rw [show win0_6.index t 0 = 0 from idx 6 t 0]; omega | rw [show win0_6.index t 1 = 0 from idx 6 t 1]; omega | rw [show win0_7.index t 0 = 0 from idx 7 t 0]; omega | rw [show win0_7.index t 1 = 0 from idx 7 t 1]; omega | rw [show win0_8.index t 0 = 0 from idx 8 t 0]; omega | rw [show win0_8.index t 1 = 0 from idx 8 t 1]; omega | rw [show win0_9.index t 0 = 0 from idx 9 t 0]; omega | rw [show win0_9.index t 1 = 0 from idx 9 t 1]; omega | rw [show win0_10.index t 0 = 0 from idx 10 t 0]; omega | rw [show win0_10.index t 1 = 0 from idx 10 t 1]; omega | rw [show win0_11.index t 0 = 0 from idx 11 t 0]; omega | rw [show win0_11.index t 1 = 0 from idx 11 t 1]; omega | rw [show win0_12.index t 0 = 0 from idx 12 t 0]; omega | rw [show win0_12.index t 1 = 0 from idx 12 t 1]; omega | rw [show win0_13.index t 0 = 0 from idx 13 t 0]; omega | rw [show win0_13.index t 1 = 0 from idx 13 t 1]; omega | rw [show win0_14.index t 0 = 0 from idx 14 t 0]; omega | rw [show win0_14.index t 1 = 0 from idx 14 t 1]; omega | rw [show win0_15.index t 0 = 0 from idx 15 t 0]; omega | rw [show win0_15.index t 1 = 0 from idx 15 t 1]; omega | rw [show win0_16.index t 0 = 0 from idx 16 t 0]; omega | rw [show win0_16.index t 1 = 0 from idx 16 t 1]; omega | rw [show win0_17.index t 0 = 0 from idx 17 t 0]; omega | rw [show win0_17.index t 1 = 0 from idx 17 t 1]; omega | rw [show win0_18.index t 0 = 0 from idx 18 t 0]; omega | rw [show win0_18.index t 1 = 0 from idx 18 t 1]; omega | rw [show win0_19.index t 0 = 0 from idx 19 t 0]; omega | rw [show win0_19.index t 1 = 0 from idx 19 t 1]; omega | rw [show win0_20.index t 0 = 0 from idx 20 t 0]; omega | rw [show win0_20.index t 1 = 0 from idx 20 t 1]; omega | rw [show win0_21.index t 0 = 0 from idx 21 t 0]; omega | rw [show win0_21.index t 1 = 0 from idx 21 t 1]; omega | rw [show win0_22.index t 0 = 0 from idx 22 t 0]; omega | rw [show win0_22.index t 1 = 0 from idx 22 t 1]; omega | rw [show win0_23.index t 0 = 0 from idx 23 t 0]; omega | rw [show win0_23.index t 1 = 0 from idx 23 t 1]; omega | rw [show win0_24.index t 0 = 0 from idx 24 t 0]; omega | rw [show win0_24.index t 1 = 0 from idx 24 t 1]; omega | rw [show win0_24.index t 2 = 0 from idx 24 t 2]; omega

set_option maxHeartbeats 8000000 in
/-- The result arrays at the end. -/
theorem final (c : Dev nD) :
    (dats m 0 c).arrAt 25 (cfgs 0).N = (slab 8 0 (by decide) (V m c main_arg24) : FVec Ideal S8x128 .f32)
      ∧ (dats m 0 c).arrAt 26 (cfgs 0).N = (stepOf (V m c main_arg0) (V m c main_arg8) (V m c main_arg16) (slab 8 0 (by decide) (V m c main_arg24)) : FVec Ideal S8x128 .f32)
      ∧ (dats m 0 c).arrAt 27 (cfgs 0).N = (firstOf (V m c main_arg8) (slab 8 0 (by decide) (V m c main_arg24)) : FVec Ideal S8x128 .f32)
      ∧ (dats m 0 c).arrAt 28 (cfgs 0).N = (secondOf (V m c main_arg16) (slab 8 0 (by decide) (V m c main_arg24)) : FVec Ideal S8x128 .f32)
      ∧ (dats m 0 c).arrAt 29 (cfgs 0).N = (slab 2 8 (by decide) (V m c main_arg24) : FVec Ideal S2x128 .f32)
      ∧ (dats m 0 c).arrAt 30 (cfgs 0).N = (stepOf (V m c main_arg1) (V m c main_arg9) (V m c main_arg17) (slab 2 8 (by decide) (V m c main_arg24)) : FVec Ideal S2x128 .f32)
      ∧ (dats m 0 c).arrAt 31 (cfgs 0).N = (firstOf (V m c main_arg9) (slab 2 8 (by decide) (V m c main_arg24)) : FVec Ideal S2x128 .f32)
      ∧ (dats m 0 c).arrAt 32 (cfgs 0).N = (secondOf (V m c main_arg17) (slab 2 8 (by decide) (V m c main_arg24)) : FVec Ideal S2x128 .f32)
      ∧ (dats m 0 c).arrAt 33 (cfgs 0).N = (slab 2 16 (by decide) (V m c main_arg24) : FVec Ideal S2x128 .f32)
      ∧ (dats m 0 c).arrAt 34 (cfgs 0).N = (stepOf (V m c main_arg2) (V m c main_arg10) (V m c main_arg18) (slab 2 16 (by decide) (V m c main_arg24)) : FVec Ideal S2x128 .f32)
      ∧ (dats m 0 c).arrAt 35 (cfgs 0).N = (firstOf (V m c main_arg10) (slab 2 16 (by decide) (V m c main_arg24)) : FVec Ideal S2x128 .f32)
      ∧ (dats m 0 c).arrAt 36 (cfgs 0).N = (secondOf (V m c main_arg18) (slab 2 16 (by decide) (V m c main_arg24)) : FVec Ideal S2x128 .f32)
      ∧ (dats m 0 c).arrAt 37 (cfgs 0).N = (slab 4 24 (by decide) (V m c main_arg24) : FVec Ideal S4x128 .f32)
      ∧ (dats m 0 c).arrAt 38 (cfgs 0).N = (stepOf (V m c main_arg3) (V m c main_arg11) (V m c main_arg19) (slab 4 24 (by decide) (V m c main_arg24)) : FVec Ideal S4x128 .f32)
      ∧ (dats m 0 c).arrAt 39 (cfgs 0).N = (firstOf (V m c main_arg11) (slab 4 24 (by decide) (V m c main_arg24)) : FVec Ideal S4x128 .f32)
      ∧ (dats m 0 c).arrAt 40 (cfgs 0).N = (secondOf (V m c main_arg19) (slab 4 24 (by decide) (V m c main_arg24)) : FVec Ideal S4x128 .f32)
      ∧ (dats m 0 c).arrAt 41 (cfgs 0).N = (slab 6 32 (by decide) (V m c main_arg24) : FVec Ideal S6x128 .f32)
      ∧ (dats m 0 c).arrAt 42 (cfgs 0).N = (stepOf (V m c main_arg4) (V m c main_arg12) (V m c main_arg20) (slab 6 32 (by decide) (V m c main_arg24)) : FVec Ideal S6x128 .f32)
      ∧ (dats m 0 c).arrAt 43 (cfgs 0).N = (firstOf (V m c main_arg12) (slab 6 32 (by decide) (V m c main_arg24)) : FVec Ideal S6x128 .f32)
      ∧ (dats m 0 c).arrAt 44 (cfgs 0).N = (secondOf (V m c main_arg20) (slab 6 32 (by decide) (V m c main_arg24)) : FVec Ideal S6x128 .f32)
      ∧ (dats m 0 c).arrAt 45 (cfgs 0).N = (slab 2 40 (by decide) (V m c main_arg24) : FVec Ideal S2x128 .f32)
      ∧ (dats m 0 c).arrAt 46 (cfgs 0).N = (stepOf (V m c main_arg5) (V m c main_arg13) (V m c main_arg21) (slab 2 40 (by decide) (V m c main_arg24)) : FVec Ideal S2x128 .f32)
      ∧ (dats m 0 c).arrAt 47 (cfgs 0).N = (firstOf (V m c main_arg13) (slab 2 40 (by decide) (V m c main_arg24)) : FVec Ideal S2x128 .f32)
      ∧ (dats m 0 c).arrAt 48 (cfgs 0).N = (secondOf (V m c main_arg21) (slab 2 40 (by decide) (V m c main_arg24)) : FVec Ideal S2x128 .f32)
      ∧ (dats m 0 c).arrAt 49 (cfgs 0).N = (slab 8 48 (by decide) (V m c main_arg24) : FVec Ideal S8x128 .f32)
      ∧ (dats m 0 c).arrAt 50 (cfgs 0).N = (stepOf (V m c main_arg6) (V m c main_arg14) (V m c main_arg22) (slab 8 48 (by decide) (V m c main_arg24)) : FVec Ideal S8x128 .f32)
      ∧ (dats m 0 c).arrAt 51 (cfgs 0).N = (firstOf (V m c main_arg14) (slab 8 48 (by decide) (V m c main_arg24)) : FVec Ideal S8x128 .f32)
      ∧ (dats m 0 c).arrAt 52 (cfgs 0).N = (secondOf (V m c main_arg22) (slab 8 48 (by decide) (V m c main_arg24)) : FVec Ideal S8x128 .f32)
      ∧ (dats m 0 c).arrAt 53 (cfgs 0).N = (slab 8 56 (by decide) (V m c main_arg24) : FVec Ideal S8x128 .f32)
      ∧ (dats m 0 c).arrAt 54 (cfgs 0).N = (stepOf (V m c main_arg7) (V m c main_arg15) (V m c main_arg23) (slab 8 56 (by decide) (V m c main_arg24)) : FVec Ideal S8x128 .f32)
      ∧ (dats m 0 c).arrAt 55 (cfgs 0).N = (firstOf (V m c main_arg15) (slab 8 56 (by decide) (V m c main_arg24)) : FVec Ideal S8x128 .f32)
      ∧ (dats m 0 c).arrAt 56 (cfgs 0).N = (secondOf (V m c main_arg23) (slab 8 56 (by decide) (V m c main_arg24)) : FVec Ideal S8x128 .f32)
      ∧ (dats m 0 c).arrAt 57 (cfgs 0).N = (slab 8 64 (by decide) (V m c main_arg24) : FVec Ideal S8x128 .f32) := by
  obtain ⟨o25, o26, o27, o28, o29, o30, o31, o32, o33, o34, o35, o36, o37, o38, o39, o40, o41, o42, o43, o44, o45, o46, o47, o48, o49, o50, o51, o52, o53, o54, o55, o56, o57⟩ := outs (V m c main_arg0) (V m c main_arg6) (V m c main_arg7) (V m c main_arg8) (V m c main_arg14) (V m c main_arg15) (V m c main_arg16) (V m c main_arg22) (V m c main_arg23) (V m c main_arg1) (V m c main_arg2) (V m c main_arg5) (V m c main_arg9) (V m c main_arg10) (V m c main_arg13) (V m c main_arg17) (V m c main_arg18) (V m c main_arg21) (V m c main_arg3) (V m c main_arg11) (V m c main_arg19) (V m c main_arg4) (V m c main_arg12) (V m c main_arg20) (V m c main_arg24)
  refine ⟨(dats m 0 c).arrAt_eq_of_covers 25 _ (by decide +kernel) fun t hf y => ?_, (dats m 0 c).arrAt_eq_of_covers 26 _ (by decide +kernel) fun t hf y => ?_, (dats m 0 c).arrAt_eq_of_covers 27 _ (by decide +kernel) fun t hf y => ?_, (dats m 0 c).arrAt_eq_of_covers 28 _ (by decide +kernel) fun t hf y => ?_, (dats m 0 c).arrAt_eq_of_covers 29 _ (by decide +kernel) fun t hf y => ?_, (dats m 0 c).arrAt_eq_of_covers 30 _ (by decide +kernel) fun t hf y => ?_, (dats m 0 c).arrAt_eq_of_covers 31 _ (by decide +kernel) fun t hf y => ?_, (dats m 0 c).arrAt_eq_of_covers 32 _ (by decide +kernel) fun t hf y => ?_, (dats m 0 c).arrAt_eq_of_covers 33 _ (by decide +kernel) fun t hf y => ?_, (dats m 0 c).arrAt_eq_of_covers 34 _ (by decide +kernel) fun t hf y => ?_, (dats m 0 c).arrAt_eq_of_covers 35 _ (by decide +kernel) fun t hf y => ?_, (dats m 0 c).arrAt_eq_of_covers 36 _ (by decide +kernel) fun t hf y => ?_, (dats m 0 c).arrAt_eq_of_covers 37 _ (by decide +kernel) fun t hf y => ?_, (dats m 0 c).arrAt_eq_of_covers 38 _ (by decide +kernel) fun t hf y => ?_, (dats m 0 c).arrAt_eq_of_covers 39 _ (by decide +kernel) fun t hf y => ?_, (dats m 0 c).arrAt_eq_of_covers 40 _ (by decide +kernel) fun t hf y => ?_, (dats m 0 c).arrAt_eq_of_covers 41 _ (by decide +kernel) fun t hf y => ?_, (dats m 0 c).arrAt_eq_of_covers 42 _ (by decide +kernel) fun t hf y => ?_, (dats m 0 c).arrAt_eq_of_covers 43 _ (by decide +kernel) fun t hf y => ?_, (dats m 0 c).arrAt_eq_of_covers 44 _ (by decide +kernel) fun t hf y => ?_, (dats m 0 c).arrAt_eq_of_covers 45 _ (by decide +kernel) fun t hf y => ?_, (dats m 0 c).arrAt_eq_of_covers 46 _ (by decide +kernel) fun t hf y => ?_, (dats m 0 c).arrAt_eq_of_covers 47 _ (by decide +kernel) fun t hf y => ?_, (dats m 0 c).arrAt_eq_of_covers 48 _ (by decide +kernel) fun t hf y => ?_, (dats m 0 c).arrAt_eq_of_covers 49 _ (by decide +kernel) fun t hf y => ?_, (dats m 0 c).arrAt_eq_of_covers 50 _ (by decide +kernel) fun t hf y => ?_, (dats m 0 c).arrAt_eq_of_covers 51 _ (by decide +kernel) fun t hf y => ?_, (dats m 0 c).arrAt_eq_of_covers 52 _ (by decide +kernel) fun t hf y => ?_, (dats m 0 c).arrAt_eq_of_covers 53 _ (by decide +kernel) fun t hf y => ?_, (dats m 0 c).arrAt_eq_of_covers 54 _ (by decide +kernel) fun t hf y => ?_, (dats m 0 c).arrAt_eq_of_covers 55 _ (by decide +kernel) fun t hf y => ?_, (dats m 0 c).arrAt_eq_of_covers 56 _ (by decide +kernel) fun t hf y => ?_, (dats m 0 c).arrAt_eq_of_covers 57 _ (by decide +kernel) fun t hf y => ?_⟩
  all_goals
    blk_simp
    obtain ⟨e0, e1, e2, e3, e4, e5, e6, e7, e8, e9, e10, e11, e12, e13, e14, e15, e16, e17, e18, e19, e20, e21, e22, e23, e24⟩ := whole m c t
    first | rw [after25, e24, o25] | rw [after26, e0, e8, e16, e24, o26] | rw [after27, e8, e24, o27] | rw [after28, e16, e24, o28] | rw [after29, e24, o29] | rw [after30, e1, e9, e17, e24, o30] | rw [after31, e9, e24, o31] | rw [after32, e17, e24, o32] | rw [after33, e24, o33] | rw [after34, e2, e10, e18, e24, o34] | rw [after35, e10, e24, o35] | rw [after36, e18, e24, o36] | rw [after37, e24, o37] | rw [after38, e3, e11, e19, e24, o38] | rw [after39, e11, e24, o39] | rw [after40, e19, e24, o40] | rw [after41, e24, o41] | rw [after42, e4, e12, e20, e24, o42] | rw [after43, e12, e24, o43] | rw [after44, e20, e24, o44] | rw [after45, e24, o45] | rw [after46, e5, e13, e21, e24, o46] | rw [after47, e13, e24, o47] | rw [after48, e21, e24, o48] | rw [after49, e24, o49] | rw [after50, e6, e14, e22, e24, o50] | rw [after51, e14, e24, o51] | rw [after52, e22, e24, o52] | rw [after53, e24, o53] | rw [after54, e7, e15, e23, e24, o54] | rw [after55, e15, e24, o55] | rw [after56, e23, e24, o56] | rw [after57, e24, o57]
    idx_vars y
    refine congrArg _ ?_
    blk_ext!
  all_goals first | rw [show win0_25.index t 0 = 0 from idx 25 t 0]; omega | rw [show win0_25.index t 1 = 0 from idx 25 t 1]; omega | rw [show win0_26.index t 0 = 0 from idx 26 t 0]; omega | rw [show win0_26.index t 1 = 0 from idx 26 t 1]; omega | rw [show win0_27.index t 0 = 0 from idx 27 t 0]; omega | rw [show win0_27.index t 1 = 0 from idx 27 t 1]; omega | rw [show win0_28.index t 0 = 0 from idx 28 t 0]; omega | rw [show win0_28.index t 1 = 0 from idx 28 t 1]; omega | rw [show win0_29.index t 0 = 0 from idx 29 t 0]; omega | rw [show win0_29.index t 1 = 0 from idx 29 t 1]; omega | rw [show win0_30.index t 0 = 0 from idx 30 t 0]; omega | rw [show win0_30.index t 1 = 0 from idx 30 t 1]; omega | rw [show win0_31.index t 0 = 0 from idx 31 t 0]; omega | rw [show win0_31.index t 1 = 0 from idx 31 t 1]; omega | rw [show win0_32.index t 0 = 0 from idx 32 t 0]; omega | rw [show win0_32.index t 1 = 0 from idx 32 t 1]; omega | rw [show win0_33.index t 0 = 0 from idx 33 t 0]; omega | rw [show win0_33.index t 1 = 0 from idx 33 t 1]; omega | rw [show win0_34.index t 0 = 0 from idx 34 t 0]; omega | rw [show win0_34.index t 1 = 0 from idx 34 t 1]; omega | rw [show win0_35.index t 0 = 0 from idx 35 t 0]; omega | rw [show win0_35.index t 1 = 0 from idx 35 t 1]; omega | rw [show win0_36.index t 0 = 0 from idx 36 t 0]; omega | rw [show win0_36.index t 1 = 0 from idx 36 t 1]; omega | rw [show win0_37.index t 0 = 0 from idx 37 t 0]; omega | rw [show win0_37.index t 1 = 0 from idx 37 t 1]; omega | rw [show win0_38.index t 0 = 0 from idx 38 t 0]; omega | rw [show win0_38.index t 1 = 0 from idx 38 t 1]; omega | rw [show win0_39.index t 0 = 0 from idx 39 t 0]; omega | rw [show win0_39.index t 1 = 0 from idx 39 t 1]; omega | rw [show win0_40.index t 0 = 0 from idx 40 t 0]; omega | rw [show win0_40.index t 1 = 0 from idx 40 t 1]; omega | rw [show win0_41.index t 0 = 0 from idx 41 t 0]; omega | rw [show win0_41.index t 1 = 0 from idx 41 t 1]; omega | rw [show win0_42.index t 0 = 0 from idx 42 t 0]; omega | rw [show win0_42.index t 1 = 0 from idx 42 t 1]; omega | rw [show win0_43.index t 0 = 0 from idx 43 t 0]; omega | rw [show win0_43.index t 1 = 0 from idx 43 t 1]; omega | rw [show win0_44.index t 0 = 0 from idx 44 t 0]; omega | rw [show win0_44.index t 1 = 0 from idx 44 t 1]; omega | rw [show win0_45.index t 0 = 0 from idx 45 t 0]; omega | rw [show win0_45.index t 1 = 0 from idx 45 t 1]; omega | rw [show win0_46.index t 0 = 0 from idx 46 t 0]; omega | rw [show win0_46.index t 1 = 0 from idx 46 t 1]; omega | rw [show win0_47.index t 0 = 0 from idx 47 t 0]; omega | rw [show win0_47.index t 1 = 0 from idx 47 t 1]; omega | rw [show win0_48.index t 0 = 0 from idx 48 t 0]; omega | rw [show win0_48.index t 1 = 0 from idx 48 t 1]; omega | rw [show win0_49.index t 0 = 0 from idx 49 t 0]; omega | rw [show win0_49.index t 1 = 0 from idx 49 t 1]; omega | rw [show win0_50.index t 0 = 0 from idx 50 t 0]; omega | rw [show win0_50.index t 1 = 0 from idx 50 t 1]; omega | rw [show win0_51.index t 0 = 0 from idx 51 t 0]; omega | rw [show win0_51.index t 1 = 0 from idx 51 t 1]; omega | rw [show win0_52.index t 0 = 0 from idx 52 t 0]; omega | rw [show win0_52.index t 1 = 0 from idx 52 t 1]; omega | rw [show win0_53.index t 0 = 0 from idx 53 t 0]; omega | rw [show win0_53.index t 1 = 0 from idx 53 t 1]; omega | rw [show win0_54.index t 0 = 0 from idx 54 t 0]; omega | rw [show win0_54.index t 1 = 0 from idx 54 t 1]; omega | rw [show win0_55.index t 0 = 0 from idx 55 t 0]; omega | rw [show win0_55.index t 1 = 0 from idx 55 t 1]; omega | rw [show win0_56.index t 0 = 0 from idx 56 t 0]; omega | rw [show win0_56.index t 1 = 0 from idx 56 t 1]; omega | rw [show win0_57.index t 0 = 0 from idx 57 t 0]; omega | rw [show win0_57.index t 1 = 0 from idx 57 t 1]; omega

set_option maxHeartbeats 4000000 in
/-- Every execution of the kernel's program ends with the added gradients, the steps and the new moments, and the loss, its arguments as
    they were. -/
theorem run_spec (ρ : Dev nD → PrngReg) :
    θ_run defs (onTc (τ := τ) (main (F := Ideal))) ⟨m, fun _ => 0, ρ⟩ fun r => ∀ c : Dev nD,
      r.2.mem ((c.tc : Thread nD τ).loc main_v0_0) = (slab 8 0 (by decide) (V m c main_arg24) : FVec Ideal S8x128 .f32)
      ∧ r.2.mem ((c.tc : Thread nD τ).loc main_v0_1) = (stepOf (V m c main_arg0) (V m c main_arg8) (V m c main_arg16) (slab 8 0 (by decide) (V m c main_arg24)) : FVec Ideal S8x128 .f32)
      ∧ r.2.mem ((c.tc : Thread nD τ).loc main_v0_2) = (firstOf (V m c main_arg8) (slab 8 0 (by decide) (V m c main_arg24)) : FVec Ideal S8x128 .f32)
      ∧ r.2.mem ((c.tc : Thread nD τ).loc main_v0_3) = (secondOf (V m c main_arg16) (slab 8 0 (by decide) (V m c main_arg24)) : FVec Ideal S8x128 .f32)
      ∧ r.2.mem ((c.tc : Thread nD τ).loc main_v0_4) = (slab 2 8 (by decide) (V m c main_arg24) : FVec Ideal S2x128 .f32)
      ∧ r.2.mem ((c.tc : Thread nD τ).loc main_v0_5) = (stepOf (V m c main_arg1) (V m c main_arg9) (V m c main_arg17) (slab 2 8 (by decide) (V m c main_arg24)) : FVec Ideal S2x128 .f32)
      ∧ r.2.mem ((c.tc : Thread nD τ).loc main_v0_6) = (firstOf (V m c main_arg9) (slab 2 8 (by decide) (V m c main_arg24)) : FVec Ideal S2x128 .f32)
      ∧ r.2.mem ((c.tc : Thread nD τ).loc main_v0_7) = (secondOf (V m c main_arg17) (slab 2 8 (by decide) (V m c main_arg24)) : FVec Ideal S2x128 .f32)
      ∧ r.2.mem ((c.tc : Thread nD τ).loc main_v0_8) = (slab 2 16 (by decide) (V m c main_arg24) : FVec Ideal S2x128 .f32)
      ∧ r.2.mem ((c.tc : Thread nD τ).loc main_v0_9) = (stepOf (V m c main_arg2) (V m c main_arg10) (V m c main_arg18) (slab 2 16 (by decide) (V m c main_arg24)) : FVec Ideal S2x128 .f32)
      ∧ r.2.mem ((c.tc : Thread nD τ).loc main_v0_10) = (firstOf (V m c main_arg10) (slab 2 16 (by decide) (V m c main_arg24)) : FVec Ideal S2x128 .f32)
      ∧ r.2.mem ((c.tc : Thread nD τ).loc main_v0_11) = (secondOf (V m c main_arg18) (slab 2 16 (by decide) (V m c main_arg24)) : FVec Ideal S2x128 .f32)
      ∧ r.2.mem ((c.tc : Thread nD τ).loc main_v0_12) = (slab 4 24 (by decide) (V m c main_arg24) : FVec Ideal S4x128 .f32)
      ∧ r.2.mem ((c.tc : Thread nD τ).loc main_v0_13) = (stepOf (V m c main_arg3) (V m c main_arg11) (V m c main_arg19) (slab 4 24 (by decide) (V m c main_arg24)) : FVec Ideal S4x128 .f32)
      ∧ r.2.mem ((c.tc : Thread nD τ).loc main_v0_14) = (firstOf (V m c main_arg11) (slab 4 24 (by decide) (V m c main_arg24)) : FVec Ideal S4x128 .f32)
      ∧ r.2.mem ((c.tc : Thread nD τ).loc main_v0_15) = (secondOf (V m c main_arg19) (slab 4 24 (by decide) (V m c main_arg24)) : FVec Ideal S4x128 .f32)
      ∧ r.2.mem ((c.tc : Thread nD τ).loc main_v0_16) = (slab 6 32 (by decide) (V m c main_arg24) : FVec Ideal S6x128 .f32)
      ∧ r.2.mem ((c.tc : Thread nD τ).loc main_v0_17) = (stepOf (V m c main_arg4) (V m c main_arg12) (V m c main_arg20) (slab 6 32 (by decide) (V m c main_arg24)) : FVec Ideal S6x128 .f32)
      ∧ r.2.mem ((c.tc : Thread nD τ).loc main_v0_18) = (firstOf (V m c main_arg12) (slab 6 32 (by decide) (V m c main_arg24)) : FVec Ideal S6x128 .f32)
      ∧ r.2.mem ((c.tc : Thread nD τ).loc main_v0_19) = (secondOf (V m c main_arg20) (slab 6 32 (by decide) (V m c main_arg24)) : FVec Ideal S6x128 .f32)
      ∧ r.2.mem ((c.tc : Thread nD τ).loc main_v0_20) = (slab 2 40 (by decide) (V m c main_arg24) : FVec Ideal S2x128 .f32)
      ∧ r.2.mem ((c.tc : Thread nD τ).loc main_v0_21) = (stepOf (V m c main_arg5) (V m c main_arg13) (V m c main_arg21) (slab 2 40 (by decide) (V m c main_arg24)) : FVec Ideal S2x128 .f32)
      ∧ r.2.mem ((c.tc : Thread nD τ).loc main_v0_22) = (firstOf (V m c main_arg13) (slab 2 40 (by decide) (V m c main_arg24)) : FVec Ideal S2x128 .f32)
      ∧ r.2.mem ((c.tc : Thread nD τ).loc main_v0_23) = (secondOf (V m c main_arg21) (slab 2 40 (by decide) (V m c main_arg24)) : FVec Ideal S2x128 .f32)
      ∧ r.2.mem ((c.tc : Thread nD τ).loc main_v0_24) = (slab 8 48 (by decide) (V m c main_arg24) : FVec Ideal S8x128 .f32)
      ∧ r.2.mem ((c.tc : Thread nD τ).loc main_v0_25) = (stepOf (V m c main_arg6) (V m c main_arg14) (V m c main_arg22) (slab 8 48 (by decide) (V m c main_arg24)) : FVec Ideal S8x128 .f32)
      ∧ r.2.mem ((c.tc : Thread nD τ).loc main_v0_26) = (firstOf (V m c main_arg14) (slab 8 48 (by decide) (V m c main_arg24)) : FVec Ideal S8x128 .f32)
      ∧ r.2.mem ((c.tc : Thread nD τ).loc main_v0_27) = (secondOf (V m c main_arg22) (slab 8 48 (by decide) (V m c main_arg24)) : FVec Ideal S8x128 .f32)
      ∧ r.2.mem ((c.tc : Thread nD τ).loc main_v0_28) = (slab 8 56 (by decide) (V m c main_arg24) : FVec Ideal S8x128 .f32)
      ∧ r.2.mem ((c.tc : Thread nD τ).loc main_v0_29) = (stepOf (V m c main_arg7) (V m c main_arg15) (V m c main_arg23) (slab 8 56 (by decide) (V m c main_arg24)) : FVec Ideal S8x128 .f32)
      ∧ r.2.mem ((c.tc : Thread nD τ).loc main_v0_30) = (firstOf (V m c main_arg15) (slab 8 56 (by decide) (V m c main_arg24)) : FVec Ideal S8x128 .f32)
      ∧ r.2.mem ((c.tc : Thread nD τ).loc main_v0_31) = (secondOf (V m c main_arg23) (slab 8 56 (by decide) (V m c main_arg24)) : FVec Ideal S8x128 .f32)
      ∧ r.2.mem ((c.tc : Thread nD τ).loc main_v0_32) = (slab 8 64 (by decide) (V m c main_arg24) : FVec Ideal S8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) := by
  refine (θ_run defs _ _).mono (fun r h c => ?_) (run_main_quiescent m ρ)
  obtain ⟨f25, f26, f27, f28, f29, f30, f31, f32, f33, f34, f35, f36, f37, f38, f39, f40, f41, f42, f43, f44, f45, f46, f47, f48, f49, f50, f51, f52, f53, f54, f55, f56, f57⟩ := final m c
  exact ⟨((h.1 c).1 25).trans f25, ((h.1 c).1 26).trans f26, ((h.1 c).1 27).trans f27, ((h.1 c).1 28).trans f28, ((h.1 c).1 29).trans f29, ((h.1 c).1 30).trans f30, ((h.1 c).1 31).trans f31, ((h.1 c).1 32).trans f32, ((h.1 c).1 33).trans f33, ((h.1 c).1 34).trans f34, ((h.1 c).1 35).trans f35, ((h.1 c).1 36).trans f36, ((h.1 c).1 37).trans f37, ((h.1 c).1 38).trans f38, ((h.1 c).1 39).trans f39, ((h.1 c).1 40).trans f40, ((h.1 c).1 41).trans f41, ((h.1 c).1 42).trans f42, ((h.1 c).1 43).trans f43, ((h.1 c).1 44).trans f44, ((h.1 c).1 45).trans f45, ((h.1 c).1 46).trans f46, ((h.1 c).1 47).trans f47, ((h.1 c).1 48).trans f48, ((h.1 c).1 49).trans f49, ((h.1 c).1 50).trans f50, ((h.1 c).1 51).trans f51, ((h.1 c).1 52).trans f52, ((h.1 c).1 53).trans f53, ((h.1 c).1 54).trans f54, ((h.1 c).1 55).trans f55, ((h.1 c).1 56).trans f56, ((h.1 c).1 57).trans f57, kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl, kept m h.1 c 15 rfl, kept m h.1 c 16 rfl, kept m h.1 c 17 rfl, kept m h.1 c 18 rfl, kept m h.1 c 19 rfl, kept m h.1 c 20 rfl, kept m h.1 c 21 rfl, kept m h.1 c 22 rfl, kept m h.1 c 23 rfl, kept m h.1 c 24 rfl⟩

end Cert.AdTinyIdeal.Tiny

namespace Cert.AdTinyReferenceIdeal.Tiny

open Cert.AdTinyReferenceIdeal Cert.AdTinyReferenceIdeal.Gen
open Idealize.ShloMosaic Idealize.ShloMosaic.TcCoe Idealize.SL.Sem
open Cert.Adam

variable (m : (ℓ : Loc nD τ sig) → Buf (Elt Ideal) ℓ)

/-- The arrays as launched. -/
abbrev V (c : Dev nD) (b : Ref sig .tc) : Buf (Elt Ideal) ((c : Thread nD τ).loc b) := m ((c : Thread nD τ).loc b)

set_option maxHeartbeats 8000000 in
/-- Every execution of the reference ends with the same. -/
theorem run_spec (ρ : Dev nD → PrngReg) :
    θ_run defs (onTc (τ := τ) (main (F := Ideal))) ⟨m, fun _ => 0, ρ⟩ fun r => ∀ c : Dev nD,
      r.2.mem ((c.tc : Thread nD τ).loc main_v1) = (slab 8 0 (by decide) (V m c main_arg24) : FVec Ideal S8x128 .f32)
      ∧ r.2.mem ((c.tc : Thread nD τ).loc main_v25) = (stepOf (V m c main_arg0) (V m c main_arg8) (V m c main_arg16) (slab 8 0 (by decide) (V m c main_arg24)) : FVec Ideal S8x128 .f32)
      ∧ r.2.mem ((c.tc : Thread nD τ).loc main_v6) = (firstOf (V m c main_arg8) (slab 8 0 (by decide) (V m c main_arg24)) : FVec Ideal S8x128 .f32)
      ∧ r.2.mem ((c.tc : Thread nD τ).loc main_v12) = (secondOf (V m c main_arg16) (slab 8 0 (by decide) (V m c main_arg24)) : FVec Ideal S8x128 .f32)
      ∧ r.2.mem ((c.tc : Thread nD τ).loc main_v26) = (slab 2 8 (by decide) (V m c main_arg24) : FVec Ideal S2x128 .f32)
      ∧ r.2.mem ((c.tc : Thread nD τ).loc main_v50) = (stepOf (V m c main_arg1) (V m c main_arg9) (V m c main_arg17) (slab 2 8 (by decide) (V m c main_arg24)) : FVec Ideal S2x128 .f32)
      ∧ r.2.mem ((c.tc : Thread nD τ).loc main_v31) = (firstOf (V m c main_arg9) (slab 2 8 (by decide) (V m c main_arg24)) : FVec Ideal S2x128 .f32)
      ∧ r.2.mem ((c.tc : Thread nD τ).loc main_v37) = (secondOf (V m c main_arg17) (slab 2 8 (by decide) (V m c main_arg24)) : FVec Ideal S2x128 .f32)
      ∧ r.2.mem ((c.tc : Thread nD τ).loc main_v51) = (slab 2 16 (by decide) (V m c main_arg24) : FVec Ideal S2x128 .f32)
      ∧ r.2.mem ((c.tc : Thread nD τ).loc main_v75) = (stepOf (V m c main_arg2) (V m c main_arg10) (V m c main_arg18) (slab 2 16 (by decide) (V m c main_arg24)) : FVec Ideal S2x128 .f32)
      ∧ r.2.mem ((c.tc : Thread nD τ).loc main_v56) = (firstOf (V m c main_arg10) (slab 2 16 (by decide) (V m c main_arg24)) : FVec Ideal S2x128 .f32)
      ∧ r.2.mem ((c.tc : Thread nD τ).loc main_v62) = (secondOf (V m c main_arg18) (slab 2 16 (by decide) (V m c main_arg24)) : FVec Ideal S2x128 .f32)
      ∧ r.2.mem ((c.tc : Thread nD τ).loc main_v76) = (slab 4 24 (by decide) (V m c main_arg24) : FVec Ideal S4x128 .f32)
      ∧ r.2.mem ((c.tc : Thread nD τ).loc main_v100) = (stepOf (V m c main_arg3) (V m c main_arg11) (V m c main_arg19) (slab 4 24 (by decide) (V m c main_arg24)) : FVec Ideal S4x128 .f32)
      ∧ r.2.mem ((c.tc : Thread nD τ).loc main_v81) = (firstOf (V m c main_arg11) (slab 4 24 (by decide) (V m c main_arg24)) : FVec Ideal S4x128 .f32)
      ∧ r.2.mem ((c.tc : Thread nD τ).loc main_v87) = (secondOf (V m c main_arg19) (slab 4 24 (by decide) (V m c main_arg24)) : FVec Ideal S4x128 .f32)
      ∧ r.2.mem ((c.tc : Thread nD τ).loc main_v101) = (slab 6 32 (by decide) (V m c main_arg24) : FVec Ideal S6x128 .f32)
      ∧ r.2.mem ((c.tc : Thread nD τ).loc main_v125) = (stepOf (V m c main_arg4) (V m c main_arg12) (V m c main_arg20) (slab 6 32 (by decide) (V m c main_arg24)) : FVec Ideal S6x128 .f32)
      ∧ r.2.mem ((c.tc : Thread nD τ).loc main_v106) = (firstOf (V m c main_arg12) (slab 6 32 (by decide) (V m c main_arg24)) : FVec Ideal S6x128 .f32)
      ∧ r.2.mem ((c.tc : Thread nD τ).loc main_v112) = (secondOf (V m c main_arg20) (slab 6 32 (by decide) (V m c main_arg24)) : FVec Ideal S6x128 .f32)
      ∧ r.2.mem ((c.tc : Thread nD τ).loc main_v126) = (slab 2 40 (by decide) (V m c main_arg24) : FVec Ideal S2x128 .f32)
      ∧ r.2.mem ((c.tc : Thread nD τ).loc main_v150) = (stepOf (V m c main_arg5) (V m c main_arg13) (V m c main_arg21) (slab 2 40 (by decide) (V m c main_arg24)) : FVec Ideal S2x128 .f32)
      ∧ r.2.mem ((c.tc : Thread nD τ).loc main_v131) = (firstOf (V m c main_arg13) (slab 2 40 (by decide) (V m c main_arg24)) : FVec Ideal S2x128 .f32)
      ∧ r.2.mem ((c.tc : Thread nD τ).loc main_v137) = (secondOf (V m c main_arg21) (slab 2 40 (by decide) (V m c main_arg24)) : FVec Ideal S2x128 .f32)
      ∧ r.2.mem ((c.tc : Thread nD τ).loc main_v151) = (slab 8 48 (by decide) (V m c main_arg24) : FVec Ideal S8x128 .f32)
      ∧ r.2.mem ((c.tc : Thread nD τ).loc main_v175) = (stepOf (V m c main_arg6) (V m c main_arg14) (V m c main_arg22) (slab 8 48 (by decide) (V m c main_arg24)) : FVec Ideal S8x128 .f32)
      ∧ r.2.mem ((c.tc : Thread nD τ).loc main_v156) = (firstOf (V m c main_arg14) (slab 8 48 (by decide) (V m c main_arg24)) : FVec Ideal S8x128 .f32)
      ∧ r.2.mem ((c.tc : Thread nD τ).loc main_v162) = (secondOf (V m c main_arg22) (slab 8 48 (by decide) (V m c main_arg24)) : FVec Ideal S8x128 .f32)
      ∧ r.2.mem ((c.tc : Thread nD τ).loc main_v176) = (slab 8 56 (by decide) (V m c main_arg24) : FVec Ideal S8x128 .f32)
      ∧ r.2.mem ((c.tc : Thread nD τ).loc main_v200) = (stepOf (V m c main_arg7) (V m c main_arg15) (V m c main_arg23) (slab 8 56 (by decide) (V m c main_arg24)) : FVec Ideal S8x128 .f32)
      ∧ r.2.mem ((c.tc : Thread nD τ).loc main_v181) = (firstOf (V m c main_arg15) (slab 8 56 (by decide) (V m c main_arg24)) : FVec Ideal S8x128 .f32)
      ∧ r.2.mem ((c.tc : Thread nD τ).loc main_v187) = (secondOf (V m c main_arg23) (slab 8 56 (by decide) (V m c main_arg24)) : FVec Ideal S8x128 .f32)
      ∧ r.2.mem ((c.tc : Thread nD τ).loc main_v201) = (slab 8 64 (by decide) (V m c main_arg24) : FVec Ideal S8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) := by
  refine (θ_run defs _ _).mono (fun r h c => ?_) (Value.run m ρ)
  obtain ⟨h0, h1, h2, h3, h4, h5, h6, h7, h8, h9, h10, h11, h12, h13, h14, h15, h16, h17, h18, h19, h20, h21, h22, h23, h24, h25, h26, h27, h28, h29, h30, h31, h32, h⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, h30.trans ?_, h31.trans ?_, h32.trans ?_, h⟩
  all_goals
    clear h0 h1 h2 h3 h4 h5 h6 h7 h8 h9 h10 h11 h12 h13 h14 h15 h16 h17 h18 h19 h20 h21 h22 h23 h24 h25 h26 h27 h28 h29 h30 h31 h32 h
    funext j; idx_vars j
    pointwise [Value.res_main_v0, Value.res_main_v1, Value.res_main_v26, Value.res_main_v51, Value.res_main_v76, Value.res_main_v101, Value.res_main_v126, Value.res_main_v151, Value.res_main_v176, slab, stepOf, firstOf, secondOf]
    try rfl

end Cert.AdTinyReferenceIdeal.Tiny

end
-- ==== Proof.Adam.TinyClaim.lean ====
module

public import proofs.«01_k».proof.Defs
public import proofs.«01_k».proof.Proof.Adam.Tiny

@[expose] public section

set_option maxRecDepth 16384

noncomputable section

/-! What is claimed of the optimiser's step on the eight small arrays. -/

namespace Cert.AdTiny

open Idealize.ShloMosaic Idealize.ShloMosaic.TcCoe Idealize.SL.Sem

set_option maxHeartbeats 16000000 in
/-- The body of the call reads the same over machine floats as in the program of the extended reals. -/
theorem bodies : @Cert.AdTiny.defs₀ Bits _ Cert.AdTiny.Gen.facts = @Cert.AdTinyIdeal.defs₀ Bits _ Cert.AdTinyIdeal.Gen.facts := by
  unfold Cert.AdTiny.defs₀ Cert.AdTinyIdeal.defs₀
  refine congrArg Defs.onTc (funext fun l => funext fun a => ?_)
  match l, a with
  | ⟨0, _⟩, (t, s) => exact rfl
  | ⟨_ + 1, h⟩, _ => exact absurd h (Nat.not_lt.2 (Nat.le_add_left _ _))

set_option maxHeartbeats 16000000 in
theorem pipelines : @Cert.AdTiny.defs Bits _ Cert.AdTiny.Gen.facts = @Cert.AdTinyIdeal.defs Bits _ Cert.AdTinyIdeal.Gen.facts := by
  unfold Cert.AdTiny.defs Cert.AdTinyIdeal.defs
  exact congrArg (Pipeline.defs _) bodies

set_option maxHeartbeats 16000000 in
/-- The program over machine floats and the one over the extended reals are the same text: one run serves both. -/
theorem frame : Cert.quiescent_AdTiny := by
  intro m ρ _
  rw [pipelines]
  exact Cert.AdTinyIdeal.Tiny.frame (F := Bits) m ρ

theorem frame_ideal : Cert.quiescent_AdTinyIdeal := fun m ρ _ => Cert.AdTinyIdeal.Tiny.frame m ρ

/-- The reference declares no semaphore. -/
theorem frame_ref : Cert.quiescent_AdTinyReferenceIdeal := fun m ρ _ =>
  (θ_run Cert.AdTinyReferenceIdeal.defs _ _).mono (fun r h => ⟨fun c => (h c).2.2.2.2.2.2.2.2.2.2.2.2.2.2.2.2.2.2.2.2.2.2.2.2.2.2.2.2.2.2.2.2.2, sem_eq_zero_of_no_sems (by decide) r.2⟩)
    (Cert.AdTinyReferenceIdeal.Value.run m ρ)

set_option maxHeartbeats 16000000 in
/-- Kernel and reference end with the same arrays. -/
theorem algebraic : Cert.algebraic_AdTinyIdeal_AdTinyReferenceIdeal := by
  intro m ρ m' ρ' _ hag
  have hr := AdTinyReferenceIdeal.Tiny.run_spec m' ρ'
  refine ⟨fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, fun c => _, AdTinyIdeal.Tiny.run_spec m ρ, (θ_run _ _ _).mono (fun r h c => ?_) hr⟩
  obtain ⟨e0, e1, e2, e3, e4, e5, e6, e7, e8, e9, e10, e11, e12, e13, e14, e15, e16, e17, e18, e19, e20, e21, e22, e23, e24⟩ := hag c
  obtain ⟨h0, h1, h2, h3, h4, h5, h6, h7, h8, h9, h10, h11, h12, h13, h14, h15, h16, h17, h18, h19, h20, h21, h22, h23, h24, h25, h26, h27, h28, h29, h30, h31, h32, h⟩ := h c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, h21.trans ?_, h22.trans ?_, h23.trans ?_, h24.trans ?_, h25.trans ?_, h26.trans ?_, h27.trans ?_, h28.trans ?_, h29.trans ?_, h30.trans ?_, h31.trans ?_, h32.trans ?_, h⟩
  all_goals
    clear h0 h1 h2 h3 h4 h5 h6 h7 h8 h9 h10 h11 h12 h13 h14 h15 h16 h17 h18 h19 h20 h21 h22 h23 h24 h25 h26 h27 h28 h29 h30 h31 h32 h hr
    simp only [AdTinyReferenceIdeal.Tiny.V, AdTinyIdeal.Tiny.V, e0, e1, e2, e3, e4, e5, e6, e7, e8, e9, e10, e11, e12, e13, e14, e15, e16, e17, e18, e19, e20, e21, e22, e23, e24]

end Cert.AdTiny

end
-- ==== Proof.lean ====
/- The claims of the certificate, gathered. -/
module

public import proofs.«01_k».proof.Defs
public import proofs.«01_k».proof.Proof.Gate.Claim
public import proofs.«01_k».proof.Proof.Ffn.Claim
public import proofs.«01_k».proof.Proof.Weights.In
public import proofs.«01_k».proof.Proof.Weights.Out
public import proofs.«01_k».proof.Proof.Weights.Ff1
public import proofs.«01_k».proof.Proof.Weights.Ff2
public import proofs.«01_k».proof.Proof.Ffn.Fwd
public import proofs.«01_k».proof.Proof.Heads.Bwd
public import proofs.«01_k».proof.Proof.Heads.Fwd
public import proofs.«01_k».proof.Proof.Proj.Bwd
public import proofs.«01_k».proof.Proof.Proj.Fwd
public import proofs.«01_k».proof.Proof.Gate.Fwd
public import proofs.«01_k».proof.Proof.Gate.Bwd
public import proofs.«01_k».proof.Proof.Adam.In
public import proofs.«01_k».proof.Proof.Adam.Out
public import proofs.«01_k».proof.Proof.Adam.Ff1
public import proofs.«01_k».proof.Proof.Adam.Ff2
public import proofs.«01_k».proof.Proof.Adam.Sgu
public import proofs.«01_k».proof.Proof.Adam.TinyClaim
public import proofs.«01_k».proof.Proof.Gen.GateFwd.Frame
public import proofs.«01_k».proof.Proof.Gen.GateFwdIdeal
public import proofs.«01_k».proof.Proof.Gen.GateFwdReferenceIdeal
public import proofs.«01_k».proof.Proof.Gen.GateFwdIdeal.Value
public import proofs.«01_k».proof.Proof.Gen.GateFwdReferenceIdeal.Run
public import proofs.«01_k».proof.Proof.Gen.AdTinyIdeal
public import proofs.«01_k».proof.Proof.Gen.AdTiny
public import proofs.«01_k».proof.Proof.Gen.AdTinyReferenceIdeal
public import proofs.«01_k».proof.Proof.Gen.AdTinyReferenceIdeal.Run
public import proofs.«01_k».proof.Proof.Gen.Kernel
public import proofs.«01_k».proof.Proof.Gen.KernelIdeal
public import proofs.«01_k».proof.Proof.Gen.ReferenceIdeal
public import proofs.«01_k».proof.Proof.Gen.FfnKernel
public import proofs.«01_k».proof.Proof.Gen.FfnKernelIdeal
public import proofs.«01_k».proof.Proof.Gen.FfnReferenceIdeal
public import proofs.«01_k».proof.Proof.Gen.FfnKernelIdeal.Value
public import proofs.«01_k».proof.Proof.Gen.FfnReferenceIdeal.Run
public import proofs.«01_k».proof.Proof.Gen.ReferenceIdeal.Run
public import proofs.«01_k».proof.Proof.Gen.Pre_ffn_finite
public import proofs.«01_k».proof.Proof.Gen.DwFf2.Frame
public import proofs.«01_k».proof.Proof.Gen.DwFf2Ideal
public import proofs.«01_k».proof.Proof.Gen.DwFf2ReferenceIdeal
public import proofs.«01_k».proof.Proof.Gen.DwFf2Ideal.Value
public import proofs.«01_k».proof.Proof.Gen.DwFf2ReferenceIdeal.Run
public import proofs.«01_k».proof.Proof.Gen.DwFf1.Frame
public import proofs.«01_k».proof.Proof.Gen.DwFf1Ideal
public import proofs.«01_k».proof.Proof.Gen.DwFf1ReferenceIdeal
public import proofs.«01_k».proof.Proof.Gen.DwFf1Ideal.Value
public import proofs.«01_k».proof.Proof.Gen.DwFf1ReferenceIdeal.Run
public import proofs.«01_k».proof.Proof.Gen.DwOut.Frame
public import proofs.«01_k».proof.Proof.Gen.DwOutIdeal
public import proofs.«01_k».proof.Proof.Gen.DwOutReferenceIdeal
public import proofs.«01_k».proof.Proof.Gen.DwOutIdeal.Value
public import proofs.«01_k».proof.Proof.Gen.DwOutReferenceIdeal.Run
public import proofs.«01_k».proof.Proof.Gen.DwIn.Frame
public import proofs.«01_k».proof.Proof.Gen.DwInIdeal
public import proofs.«01_k».proof.Proof.Gen.DwInReferenceIdeal
public import proofs.«01_k».proof.Proof.Gen.DwInIdeal.Value
public import proofs.«01_k».proof.Proof.Gen.DwInReferenceIdeal.Run
public import proofs.«01_k».proof.Proof.Gen.ProjBwd.Frame
public import proofs.«01_k».proof.Proof.Gen.ProjBwdIdeal
public import proofs.«01_k».proof.Proof.Gen.ProjBwdReferenceIdeal
public import proofs.«01_k».proof.Proof.Gen.ProjBwdIdeal.Value
public import proofs.«01_k».proof.Proof.Gen.ProjBwdReferenceIdeal.Run
public import proofs.«01_k».proof.Proof.Gen.OutBwd.Frame
public import proofs.«01_k».proof.Proof.Gen.OutBwdIdeal
public import proofs.«01_k».proof.Proof.Gen.OutBwdReferenceIdeal
public import proofs.«01_k».proof.Proof.Gen.OutBwdIdeal.Value
public import proofs.«01_k».proof.Proof.Gen.OutBwdReferenceIdeal.Run
public import proofs.«01_k».proof.Proof.Gen.FfnFwd.Frame
public import proofs.«01_k».proof.Proof.Gen.FfnFwdIdeal
public import proofs.«01_k».proof.Proof.Gen.FfnFwdReferenceIdeal
public import proofs.«01_k».proof.Proof.Gen.FfnFwdIdeal.Value
public import proofs.«01_k».proof.Proof.Gen.FfnFwdReferenceIdeal.Run
public import proofs.«01_k».proof.Proof.Gen.ProjFwd.Frame
public import proofs.«01_k».proof.Proof.Gen.ProjFwdIdeal
public import proofs.«01_k».proof.Proof.Gen.ProjFwdReferenceIdeal
public import proofs.«01_k».proof.Proof.Gen.ProjFwdIdeal.Value
public import proofs.«01_k».proof.Proof.Gen.ProjFwdReferenceIdeal.Run
public import proofs.«01_k».proof.Proof.Gen.OutFwd.Frame
public import proofs.«01_k».proof.Proof.Gen.OutFwdIdeal
public import proofs.«01_k».proof.Proof.Gen.OutFwdReferenceIdeal
public import proofs.«01_k».proof.Proof.Gen.OutFwdIdeal.Value
public import proofs.«01_k».proof.Proof.Gen.OutFwdReferenceIdeal.Run
public import proofs.«01_k».proof.Proof.Gen.AdIn.Frame
public import proofs.«01_k».proof.Proof.Gen.AdInIdeal
public import proofs.«01_k».proof.Proof.Gen.AdInReferenceIdeal
public import proofs.«01_k».proof.Proof.Gen.AdInIdeal.Value
public import proofs.«01_k».proof.Proof.Gen.AdInReferenceIdeal.Run
public import proofs.«01_k».proof.Proof.Gen.AdOut.Frame
public import proofs.«01_k».proof.Proof.Gen.AdOutIdeal
public import proofs.«01_k».proof.Proof.Gen.AdOutReferenceIdeal
public import proofs.«01_k».proof.Proof.Gen.AdOutIdeal.Value
public import proofs.«01_k».proof.Proof.Gen.AdOutReferenceIdeal.Run
public import proofs.«01_k».proof.Proof.Gen.AdFf1.Frame
public import proofs.«01_k».proof.Proof.Gen.AdFf1Ideal
public import proofs.«01_k».proof.Proof.Gen.AdFf1ReferenceIdeal
public import proofs.«01_k».proof.Proof.Gen.AdFf1Ideal.Value
public import proofs.«01_k».proof.Proof.Gen.AdFf1ReferenceIdeal.Run
public import proofs.«01_k».proof.Proof.Gen.AdFf2.Frame
public import proofs.«01_k».proof.Proof.Gen.AdFf2Ideal
public import proofs.«01_k».proof.Proof.Gen.AdFf2ReferenceIdeal
public import proofs.«01_k».proof.Proof.Gen.AdFf2Ideal.Value
public import proofs.«01_k».proof.Proof.Gen.AdFf2ReferenceIdeal.Run
public import proofs.«01_k».proof.Proof.Gen.AdSgu.Frame
public import proofs.«01_k».proof.Proof.Gen.AdSguIdeal
public import proofs.«01_k».proof.Proof.Gen.AdSguReferenceIdeal
public import proofs.«01_k».proof.Proof.Gen.AdSguIdeal.Value
public import proofs.«01_k».proof.Proof.Gen.AdSguReferenceIdeal.Run
public import proofs.«01_k».proof.Proof.Gen.Pre_proj_finite
public import proofs.«01_k».proof.Proof.Gen.Pre_out_finite
public import proofs.«01_k».proof.Proof.Gen.Pre_fwd_finite

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts, Cert.FfnKernel.Gen.facts,
  Cert.FfnKernelIdeal.Gen.facts, Cert.FfnReferenceIdeal.Gen.facts, Cert.DwFf2.Gen.facts, Cert.DwFf2Ideal.Gen.facts,
  Cert.DwFf2ReferenceIdeal.Gen.facts, Cert.DwFf1.Gen.facts, Cert.DwFf1Ideal.Gen.facts,
  Cert.DwFf1ReferenceIdeal.Gen.facts, Cert.DwOut.Gen.facts, Cert.DwOutIdeal.Gen.facts,
  Cert.DwOutReferenceIdeal.Gen.facts, Cert.DwIn.Gen.facts, Cert.DwInIdeal.Gen.facts, Cert.DwInReferenceIdeal.Gen.facts,
  Cert.ProjBwd.Gen.facts, Cert.ProjBwdIdeal.Gen.facts, Cert.ProjBwdReferenceIdeal.Gen.facts, Cert.OutBwd.Gen.facts,
  Cert.OutBwdIdeal.Gen.facts, Cert.OutBwdReferenceIdeal.Gen.facts, Cert.FfnFwd.Gen.facts, Cert.FfnFwdIdeal.Gen.facts,
  Cert.FfnFwdReferenceIdeal.Gen.facts, Cert.ProjFwd.Gen.facts, Cert.ProjFwdIdeal.Gen.facts,
  Cert.ProjFwdReferenceIdeal.Gen.facts, Cert.OutFwd.Gen.facts, Cert.OutFwdIdeal.Gen.facts,
  Cert.OutFwdReferenceIdeal.Gen.facts, Cert.AdIn.Gen.facts, Cert.AdInIdeal.Gen.facts,
  Cert.AdInReferenceIdeal.Gen.facts, Cert.AdOut.Gen.facts, Cert.AdOutIdeal.Gen.facts,
  Cert.AdOutReferenceIdeal.Gen.facts, Cert.AdFf1.Gen.facts, Cert.AdFf1Ideal.Gen.facts,
  Cert.AdFf1ReferenceIdeal.Gen.facts, Cert.AdFf2.Gen.facts, Cert.AdFf2Ideal.Gen.facts,
  Cert.AdFf2ReferenceIdeal.Gen.facts, Cert.AdSgu.Gen.facts, Cert.AdSguIdeal.Gen.facts,
  Cert.AdSguReferenceIdeal.Gen.facts, Cert.GateFwd.Gen.facts, Cert.GateFwdIdeal.Gen.facts,
  Cert.GateFwdReferenceIdeal.Gen.facts, Cert.AdTiny.Gen.facts, Cert.AdTinyIdeal.Gen.facts,
  Cert.AdTinyReferenceIdeal.Gen.facts, Cert.Pre_ffn_finite.Gen.facts, Cert.Pre_proj_finite.Gen.facts,
  Cert.Pre_out_finite.Gen.facts, Cert.Pre_fwd_finite.Gen.facts, Gate.frame_kernel, Gate.frame_ideal, Gate.frame_ref,
  Ffn.frame_kernel, Ffn.frame_ideal, Ffn.frame_ideal_pre, Ffn.frame_ref, Ffn.frame_ref_pre, Weights.ff2_frame,
  Weights.ff2_frame_ideal, Weights.ff2_frame_ref, Weights.ff1_frame, Weights.ff1_frame_ideal, Weights.ff1_frame_ref,
  Weights.out_frame, Weights.out_frame_ideal, Weights.out_frame_ref, Weights.in_frame, Weights.in_frame_ideal,
  Weights.in_frame_ref, ProjBwd.frame, ProjBwd.frame_ideal, ProjBwd.frame_ideal_pre, ProjBwd.frame_ref,
  ProjBwd.frame_ref_pre, OutBwd.frame, OutBwd.frame_ideal, OutBwd.frame_ideal_pre, OutBwd.frame_ref,
  OutBwd.frame_ref_pre, FfnFwd.frame, FfnFwd.frame_ideal, FfnFwd.frame_ideal_pre, FfnFwd.frame_ref,
  FfnFwd.frame_ref_pre, ProjFwd.frame, ProjFwd.frame_ideal, ProjFwd.frame_ref, OutFwd.frame, OutFwd.frame_ideal,
  OutFwd.frame_ref, AdIn.frame, AdIn.frame_ideal, AdIn.frame_ref, AdOut.frame, AdOut.frame_ideal, AdOut.frame_ref,
  AdFf1.frame, AdFf1.frame_ideal, AdFf1.frame_ref, AdFf2.frame, AdFf2.frame_ideal, AdFf2.frame_ref, AdSgu.frame,
  AdSgu.frame_ideal, AdSgu.frame_ref, GateFwd.frame, GateFwd.frame_ideal, GateFwd.frame_ref, AdTiny.frame,
  AdTiny.frame_ideal, AdTiny.frame_ref, trivial, Gate.algebraic, trivial, Ffn.algebraic, trivial,
  Weights.ff2_algebraic, trivial, Weights.ff1_algebraic, trivial, Weights.out_algebraic, trivial, Weights.in_algebraic,
  trivial, ProjBwd.algebraic, trivial, OutBwd.algebraic, trivial, FfnFwd.algebraic, trivial, ProjFwd.algebraic,
  trivial, OutFwd.algebraic, trivial, AdIn.algebraic, trivial, AdOut.algebraic, trivial, AdFf1.algebraic, trivial,
  AdFf2.algebraic, trivial, AdSgu.algebraic, trivial, GateFwd.algebraic, trivial, AdTiny.algebraic⟩

end Cert.Proof

end
